-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "softmax_scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26)) (v1 : (c : Dev Cert.Kernel2Ideal.nD) → Buf (Elt Ideal) ((c.tc : Thread Cert.Kernel2Ideal.nD Cert.Kernel2Ideal.τ).loc Cert.Kernel2Ideal.main_v30)) (v2 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_v30) = v1 c
          ∧ r.2.mem ((c.tc : Thread Cert.Kernel2Ideal.nD Cert.Kernel2Ideal.τ).loc Cert.Kernel2Ideal.main_v34) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v6) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v14)) (v1 : (c : Dev Cert.Kernel8Ideal.nD) → Buf (Elt Ideal) ((c.tc : Thread Cert.Kernel8Ideal.nD Cert.Kernel8Ideal.τ).loc Cert.Kernel8Ideal.main_v22)) (v2 : (c : Dev Cert.Kernel8Ideal.nD) → Buf (Elt Ideal) ((c.tc : Thread Cert.Kernel8Ideal.nD Cert.Kernel8Ideal.τ).loc Cert.Kernel8Ideal.main_v17_3)) (v3 : (c : Dev Cert.Kernel8Ideal.nD) → Buf (Elt Ideal) ((c.tc : Thread Cert.Kernel8Ideal.nD Cert.Kernel8Ideal.τ).loc Cert.Kernel8Ideal.main_v23)) (v4 : (c : Dev Cert.Kernel8Ideal.nD) → Buf (Elt Ideal) ((c.tc : Thread Cert.Kernel8Ideal.nD Cert.Kernel8Ideal.τ).loc Cert.Kernel8Ideal.main_v24)) (v5 : (c : Dev Cert.Kernel8Ideal.nD) → Buf (Elt Ideal) ((c.tc : Thread Cert.Kernel8Ideal.nD Cert.Kernel8Ideal.τ).loc Cert.Kernel8Ideal.main_v29)) (v6 : (c : Dev Cert.Kernel8Ideal.nD) → Buf (Elt Ideal) ((c.tc : Thread Cert.Kernel8Ideal.nD Cert.Kernel8Ideal.τ).loc Cert.Kernel8Ideal.main_v30)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_v22) = v1 c
          ∧ r.2.mem ((c.tc : Thread Cert.Kernel8Ideal.nD Cert.Kernel8Ideal.τ).loc Cert.Kernel8Ideal.main_v17_3) = v2 c
          ∧ r.2.mem ((c.tc : Thread Cert.Kernel8Ideal.nD Cert.Kernel8Ideal.τ).loc Cert.Kernel8Ideal.main_v23) = v3 c
          ∧ r.2.mem ((c.tc : Thread Cert.Kernel8Ideal.nD Cert.Kernel8Ideal.τ).loc Cert.Kernel8Ideal.main_v24) = v4 c
          ∧ r.2.mem ((c.tc : Thread Cert.Kernel8Ideal.nD Cert.Kernel8Ideal.τ).loc Cert.Kernel8Ideal.main_v29) = v5 c
          ∧ r.2.mem ((c.tc : Thread Cert.Kernel8Ideal.nD Cert.Kernel8Ideal.τ).loc Cert.Kernel8Ideal.main_v30) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v34) = v2 c
          ∧ r.2.mem ((c.tc : Thread Cert.Reference8Ideal.nD Cert.Reference8Ideal.τ).loc Cert.Reference8Ideal.main_v40) = v3 c
          ∧ r.2.mem ((c.tc : Thread Cert.Reference8Ideal.nD Cert.Reference8Ideal.τ).loc Cert.Reference8Ideal.main_v42) = v4 c
          ∧ r.2.mem ((c.tc : Thread Cert.Reference8Ideal.nD Cert.Reference8Ideal.τ).loc Cert.Reference8Ideal.main_v38) = v5 c
          ∧ r.2.mem ((c.tc : Thread Cert.Reference8Ideal.nD Cert.Reference8Ideal.τ).loc Cert.Reference8Ideal.main_v24) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  IdealRules.named_const.Statement Cert.Kernel9Ideal.κ "scale_log2e" .f32 0x3DD53B95#32 (((Real.sqrt 192)⁻¹ * (Real.log 2)⁻¹ : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v35) = v1 c
          ∧ r.2.mem ((c.tc : Thread Cert.Reference22Ideal.nD Cert.Reference22Ideal.τ).loc Cert.Reference22Ideal.main_v17) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v71) = v0 c
          ∧ r.2.mem ((c.tc : Thread Cert.Reference23Ideal.nD Cert.Reference23Ideal.τ).loc Cert.Reference23Ideal.main_v72) = v1 c
          ∧ r.2.mem ((c.tc : Thread Cert.Reference23Ideal.nD Cert.Reference23Ideal.τ).loc Cert.Reference23Ideal.main_v73) = v2 c
          ∧ r.2.mem ((c.tc : Thread Cert.Reference23Ideal.nD Cert.Reference23Ideal.τ).loc Cert.Reference23Ideal.main_v63) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v49) = v0 c
          ∧ r.2.mem ((c.tc : Thread Cert.Reference24Ideal.nD Cert.Reference24Ideal.τ).loc Cert.Reference24Ideal.main_v48) = v1 c
          ∧ r.2.mem ((c.tc : Thread Cert.Reference24Ideal.nD Cert.Reference24Ideal.τ).loc Cert.Reference24Ideal.main_v50) = v2 c
          ∧ r.2.mem ((c.tc : Thread Cert.Reference24Ideal.nD Cert.Reference24Ideal.τ).loc Cert.Reference24Ideal.main_v32) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v5) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v5) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v5)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v5) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v5)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v5) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v8)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v8) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v8)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v8) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite2 : Cert.Pre_finite2.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S4096x16x128 : Shape := ⟨3, ![4096, 16, 128]⟩
abbrev S4096x16x64 : Shape := ⟨3, ![4096, 16, 64]⟩
abbrev S4096x64 : Shape := ⟨2, ![4096, 64]⟩
abbrev S4096x2048 : Shape := ⟨2, ![4096, 2048]⟩
abbrev S_ : Shape := ⟨0, ![]⟩

class Facts : Prop where
  bitsLt_bf16_f32 : FTy.bits .bf16 < FTy.bits .f32
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v16 : IVec S_ 1) (main_v17 : FVec F S4096x64 .f32) : IVec S_ 1 :=
  let main_v18 : FVec F S4096x64 .f32 := Host.absf main_v17
  let main_cst_4 : FVec F S_ .f32 := constant S_ .f32 0x7F800000#32
  let main_v19 : FVec F S4096x64 .f32 := broadcastInDim S4096x64 ![] bcast_S_S4096x64 main_cst_4
  let main_v20 : IVec S4096x64 1 := cmpf .olt main_v18 main_v19
  let main_c_5 : IVec S_ 1 := constantI S_ 1 1#1
  let main_v21 : IVec S_ 1 := (fun x v => Host.reduce IntOp.andi x v reducesTo_S4096x64_S_d0_1 h_S_) main_v20 main_c_5
  let main_v22 : IVec S_ 1 := andi main_v16 main_v21
  main_v22

def fn {F : FTy → Type} [FloatOps F] (main_arg0 : FVec F S4096x16x128 .bf16) (main_arg1 : FVec F S4096x16x64 .bf16) (main_arg2 : FVec F S4096x16x128 .bf16) (main_arg3 : FVec F S4096x64 .bf16) (main_arg4 : FVec F S4096x16x128 .bf16) (main_arg5 : FVec F S4096x2048 .bf16) : IVec S_ 1 :=
  let main_v0 : FVec F S4096x16x128 .f32 := (extf .f32 · bitsLt_bf16_f32) main_arg0
  let main_v1 : FVec F S4096x16x128 .f32 := Host.absf main_v0
  let main_cst : FVec F S_ .f32 := constant S_ .f32 0x7F800000#32
  let main_v2 : FVec F S4096x16x128 .f32 := broadcastInDim S4096x16x128 ![] bcast_S_S4096x16x128 main_cst
  let main_v3 : IVec S4096x16x128 1 := cmpf .olt main_v1 main_v2
  let main_c : IVec S_ 1 := constantI S_ 1 1#1
  let main_v4 : IVec S_ 1 := (fun x v => Host.reduce IntOp.andi x v reducesTo_S4096x16x128_S_d0_1_2 h_S_) main_v3 main_c
  let main_v5 : FVec F S4096x16x64 .f32 := (extf .f32 · bitsLt_bf16_f32) main_arg1
  let main_v6 : FVec F S4096x16x64 .f32 := Host.absf main_v5
  let main_cst_0 : FVec F S_ .f32 := constant S_ .f32 0x7F800000#32
  let main_v7 : FVec F S4096x16x64 .f32 := broadcastInDim S4096x16x64 ![] bcast_S_S4096x16x64 main_cst_0
  let main_v8 : IVec S4096x16x64 1 := cmpf .olt main_v6 main_v7
  let main_c_1 : IVec S_ 1 := constantI S_ 1 1#1
  let main_v9 : IVec S_ 1 := (fun x v => Host.reduce IntOp.andi x v reducesTo_S4096x16x64_S_d0_1_2 h_S_) main_v8 main_c_1
  let main_v10 : IVec S_ 1 := andi main_v4 main_v9
  let main_v11 : FVec F S4096x16x128 .f32 := (extf .f32 · bitsLt_bf16_f32) main_arg2
  let main_v12 : FVec F S4096x16x128 .f32 := Host.absf main_v11
  let main_cst_2 : FVec F S_ .f32 := constant S_ .f32 0x7F800000#32
  let main_v13 : FVec F S4096x16x128 .f32 := broadcastInDim S4096x16x128 ![] bcast_S_S4096x16x128 main_cst_2
  let main_v14 : IVec S4096x16x128 1 := cmpf .olt main_v12 main_v13
  let main_c_3 : IVec S_ 1 := constantI S_ 1 1#1
  let main_v15 : IVec S_ 1 := (fun x v => Host.reduce IntOp.andi x v reducesTo_S4096x16x128_S_d0_1_2 h_S_) main_v14 main_c_3
  let main_v16 : IVec S_ 1 := andi main_v10 main_v15
  let main_v17 : FVec F S4096x64 .f32 := (extf .f32 · bitsLt_bf16_f32) main_arg3
  fn_part1 (F := F) main_v16 main_v17
-- ==== Pre_finite2.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x11008 .f32) (main_arg2 : FVec F S4096x11008 .f32) (main_arg3 : FVec F S11008x4096 .f32) (main_arg4 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg2
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S11008x4096 .f32 := Host.absf main_arg3
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Pre_finite9.lean ====
abbrev S4096x16x128 : Shape := ⟨3, ![4096, 16, 128]⟩
abbrev S4096x16x64 : Shape := ⟨3, ![4096, 16, 64]⟩
abbrev S4096x64 : Shape := ⟨2, ![4096, 64]⟩
abbrev S_ : Shape := ⟨0, ![]⟩

class Facts : Prop where
  bitsLt_bf16_f32 : FTy.bits .bf16 < FTy.bits .f32
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v16 : IVec S_ 1) (main_v17 : FVec F S4096x64 .f32) : IVec S_ 1 :=
  let main_v18 : FVec F S4096x64 .f32 := Host.absf main_v17
  let main_cst_4 : FVec F S_ .f32 := constant S_ .f32 0x7F800000#32
  let main_v19 : FVec F S4096x64 .f32 := broadcastInDim S4096x64 ![] bcast_S_S4096x64 main_cst_4
  let main_v20 : IVec S4096x64 1 := cmpf .olt main_v18 main_v19
  let main_c_5 : IVec S_ 1 := constantI S_ 1 1#1
  let main_v21 : IVec S_ 1 := (fun x v => Host.reduce IntOp.andi x v reducesTo_S4096x64_S_d0_1 h_S_) main_v20 main_c_5
  let main_v22 : IVec S_ 1 := andi main_v16 main_v21
  main_v22

def fn {F : FTy → Type} [FloatOps F] (main_arg0 : FVec F S4096x16x128 .bf16) (main_arg1 : FVec F S4096x16x64 .bf16) (main_arg2 : FVec F S4096x16x128 .bf16) (main_arg3 : FVec F S4096x64 .bf16) (main_arg4 : FVec F S4096x16x128 .bf16) : IVec S_ 1 :=
  let main_v0 : FVec F S4096x16x128 .f32 := (extf .f32 · bitsLt_bf16_f32) main_arg0
  let main_v1 : FVec F S4096x16x128 .f32 := Host.absf main_v0
  let main_cst : FVec F S_ .f32 := constant S_ .f32 0x7F800000#32
  let main_v2 : FVec F S4096x16x128 .f32 := broadcastInDim S4096x16x128 ![] bcast_S_S4096x16x128 main_cst
  let main_v3 : IVec S4096x16x128 1 := cmpf .olt main_v1 main_v2
  let main_c : IVec S_ 1 := constantI S_ 1 1#1
  let main_v4 : IVec S_ 1 := (fun x v => Host.reduce IntOp.andi x v reducesTo_S4096x16x128_S_d0_1_2 h_S_) main_v3 main_c
  let main_v5 : FVec F S4096x16x64 .f32 := (extf .f32 · bitsLt_bf16_f32) main_arg1
  let main_v6 : FVec F S4096x16x64 .f32 := Host.absf main_v5
  let main_cst_0 : FVec F S_ .f32 := constant S_ .f32 0x7F800000#32
  let main_v7 : FVec F S4096x16x64 .f32 := broadcastInDim S4096x16x64 ![] bcast_S_S4096x16x64 main_cst_0
  let main_v8 : IVec S4096x16x64 1 := cmpf .olt main_v6 main_v7
  let main_c_1 : IVec S_ 1 := constantI S_ 1 1#1
  let main_v9 : IVec S_ 1 := (fun x v => Host.reduce IntOp.andi x v reducesTo_S4096x16x64_S_d0_1_2 h_S_) main_v8 main_c_1
  let main_v10 : IVec S_ 1 := andi main_v4 main_v9
  let main_v11 : FVec F S4096x16x128 .f32 := (extf .f32 · bitsLt_bf16_f32) main_arg2
  let main_v12 : FVec F S4096x16x128 .f32 := Host.absf main_v11
  let main_cst_2 : FVec F S_ .f32 := constant S_ .f32 0x7F800000#32
  let main_v13 : FVec F S4096x16x128 .f32 := broadcastInDim S4096x16x128 ![] bcast_S_S4096x16x128 main_cst_2
  let main_v14 : IVec S4096x16x128 1 := cmpf .olt main_v12 main_v13
  let main_c_3 : IVec S_ 1 := constantI S_ 1 1#1
  let main_v15 : IVec S_ 1 := (fun x v => Host.reduce IntOp.andi x v reducesTo_S4096x16x128_S_d0_1_2 h_S_) main_v14 main_c_3
  let main_v16 : IVec S_ 1 := andi main_v10 main_v15
  let main_v17 : FVec F S4096x64 .f32 := (extf .f32 · bitsLt_bf16_f32) main_arg3
  fn_part1 (F := F) main_v16 main_v17
-- ==== Kernel.lean ====
abbrev S4096x16x128 : Shape := ⟨3, ![4096, 16, 128]⟩
abbrev S4096x16x64 : Shape := ⟨3, ![4096, 16, 64]⟩
abbrev S4096x64 : Shape := ⟨2, ![4096, 64]⟩
abbrev S4096x2048 : Shape := ⟨2, ![4096, 2048]⟩
abbrev S_ : Shape := ⟨0, ![]⟩
abbrev S4096x1x64 : Shape := ⟨3, ![4096, 1, 64]⟩
abbrev S4096x16x256 : Shape := ⟨3, ![4096, 16, 256]⟩
abbrev S4096x4096 : Shape := ⟨2, ![4096, 4096]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4096x16x128, .bf16⟩
  | .hbm, ⟨1, _⟩ => ⟨S4096x16x64, .bf16⟩
  | .hbm, ⟨2, _⟩ => ⟨S4096x16x128, .bf16⟩
  | .hbm, ⟨3, _⟩ => ⟨S4096x64, .bf16⟩
  | .hbm, ⟨4, _⟩ => ⟨S4096x16x128, .bf16⟩
  | .hbm, ⟨5, _⟩ => ⟨S4096x2048, .bf16⟩
  | .hbm, ⟨6, _⟩ => ⟨S_, .bf16⟩
  | .hbm, ⟨7, _⟩ => ⟨S4096x16x64, .bf16⟩
  | .hbm, ⟨8, _⟩ => ⟨S4096x1x64, .bf16⟩
  | .hbm, ⟨9, _⟩ => ⟨S4096x16x64, .bf16⟩
  | .hbm, ⟨10, _⟩ => ⟨S4096x16x256, .bf16⟩
  | .hbm, ⟨11, _⟩ => ⟨S4096x4096, .bf16⟩
  | .hbm, ⟨12, _⟩ => ⟨S4096x16x256, .bf16⟩
  | .hbm, ⟨13, _⟩ => ⟨S4096x4096, .bf16⟩
  | .hbm, ⟨14, _⟩ => ⟨S4096x2048, .bf16⟩
  | .hbm, ⟨15, _⟩ => ⟨S4096x2048, .bf16⟩
  | .hbm, ⟨16, _⟩ => ⟨S4096x4096, .bf16⟩
  | .hbm, ⟨17, _⟩ => ⟨S4096x4096, .f32⟩
  | .hbm, ⟨18, _⟩ => ⟨S4096x4096, .f32⟩
  | .hbm, ⟨19, _⟩ => ⟨S4096x2048, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x256, .f32⟩
  | .local _ .vmem, ⟨9, _⟩ => ⟨S256x256, .f32⟩
  | .local _ .vmem, ⟨10, _⟩ => ⟨S4096x256, .f32⟩
  | .local _ .vmem, ⟨11, _⟩ => ⟨S4096x256, .f32⟩
  | .local _ .vmem, ⟨12, _⟩ => ⟨S4096x128, .f32⟩
  | .local _ .vmem, ⟨13, _⟩ => ⟨S4096x128, .f32⟩
  | _, _ => ⟨S4096x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "scale_log2e" => some (((Real.sqrt 192)⁻¹ * (Real.log 2)⁻¹ : ℝ) : EReal)
  | "softmax_scale" => some (((Real.sqrt 192)⁻¹ : ℝ) : EReal)
  | _ => none
-- ==== ReferenceIdeal.lean ====
abbrev S4096x16x128 : Shape := ⟨3, ![4096, 16, 128]⟩
abbrev S4096x16x64 : Shape := ⟨3, ![4096, 16, 64]⟩
abbrev S4096x64 : Shape := ⟨2, ![4096, 64]⟩
abbrev S4096x2048 : Shape := ⟨2, ![4096, 2048]⟩
abbrev S4096x1x64 : Shape := ⟨3, ![4096, 1, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S16x4096x64 : Shape := ⟨3, ![16, 4096, 64]⟩
abbrev S16x4096x128 : Shape := ⟨3, ![16, 4096, 128]⟩
abbrev S4096x16x256 : Shape := ⟨3, ![4096, 16, 256]⟩
abbrev S4096x4096 : Shape := ⟨2, ![4096, 4096]⟩

abbrev nBuf : Space → Nat
  | .hbm => 97
  | .vmem => 0
  | .smem => 0
  | _ => 0

abbrev bufTy : (tb : Table) → Fin (tcTables nBuf tb) → BufTy
  | .hbm, ⟨0, _⟩ => ⟨S4096x16x128, .bf16⟩
  | .hbm, ⟨1, _⟩ => ⟨S4096x16x64, .bf16⟩
  | .hbm, ⟨2, _⟩ => ⟨S4096x16x128, .bf16⟩
  | .hbm, ⟨3, _⟩ => ⟨S4096x64, .bf16⟩
  | .hbm, ⟨4, _⟩ => ⟨S4096x16x128, .bf16⟩
  | .hbm, ⟨5, _⟩ => ⟨S4096x2048, .bf16⟩
  | .hbm, ⟨6, _⟩ => ⟨S4096x64, .f32⟩
  | .hbm, ⟨7, _⟩ => ⟨S4096x1x64, .f32⟩
  | .hbm, ⟨8, _⟩ => ⟨S4096x16x64, .f32⟩
  | .hbm, ⟨9, _⟩ => ⟨S4096x16x128, .f32⟩
  | .hbm, ⟨10, _⟩ => ⟨S4096x16x64, .f32⟩
  | .hbm, ⟨11, _⟩ => ⟨S4096x16x128, .f32⟩
  | .hbm, ⟨12, _⟩ => ⟨S4096x16x128, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S16x4096x4096, .f32⟩
  | .hbm, ⟨24, _⟩ => ⟨S16x4096x4096, .i1⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .i1⟩
  | .hbm, ⟨34, _⟩ => ⟨S_, .f32⟩
  | .hbm, ⟨35, _⟩ => ⟨S16x4096, .f32⟩
  | .hbm, ⟨36, _⟩ => ⟨S16x4096, .i1⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x4096x1, .f32⟩
  | .hbm, ⟨55, _⟩ => ⟨S_, .f32⟩
  | .hbm, ⟨56, _⟩ => ⟨S16x4096x1, .f32⟩
  | .hbm, ⟨57, _⟩ => ⟨S16x4096x1, .f32⟩
  | .hbm, ⟨58, _⟩ => ⟨S16x128x4096, .f32⟩
  | .hbm, ⟨59, _⟩ => ⟨S4096x16x128, .f32⟩
  | .hbm, ⟨60, _⟩ => ⟨S4096x2048, .f32⟩
  | .hbm, ⟨61, _⟩ => ⟨S4096x16x128, .f32⟩
  | .hbm, ⟨62, _⟩ => ⟨S16x128x4096, .f32⟩
  | .hbm, ⟨63, _⟩ => ⟨S16x4096x4096, .f32⟩
  | .hbm, ⟨64, _⟩ => ⟨S16x128x4096, .f32⟩
  | .hbm, ⟨65, _⟩ => ⟨S4096x16x128, .f32⟩
  | .hbm, ⟨66, _⟩ => ⟨S16x4096x4096, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S16x4096x1, .f32⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S16x4096x4096, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S16x4096x64, .f32⟩
  | .hbm, ⟨83, _⟩ => ⟨S4096x16x64, .f32⟩
  | .hbm, ⟨84, _⟩ => ⟨S16x4096x64, .f32⟩
  | .hbm, ⟨85, _⟩ => ⟨S4096x16x64, .f32⟩
  | .hbm, ⟨86, _⟩ => ⟨S16x4096x128, .f32⟩
  | .hbm, ⟨87, _⟩ => ⟨S4096x16x128, .f32⟩
  | .hbm, ⟨88, _⟩ => ⟨S16x4096x128, .f32⟩
  | .hbm, ⟨89, _⟩ => ⟨S4096x16x128, .f32⟩
  | .hbm, ⟨90, _⟩ => ⟨S_, .f32⟩
  | .hbm, ⟨91, _⟩ => ⟨S4096x16x64, .f32⟩
  | .hbm, ⟨92, _⟩ => ⟨S4096x16x256, .f32⟩
  | .hbm, ⟨93, _⟩ => ⟨S4096x4096, .f32⟩
  | .hbm, ⟨94, _⟩ => ⟨S4096x16x256, .f32⟩
  | .hbm, ⟨95, _⟩ => ⟨S4096x4096, .f32⟩
  | .hbm, ⟨96, _⟩ => ⟨S4096x2048, .f32⟩
  | _, _ => ⟨S4096x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel2.lean ====
abbrev S4096x4096 : Shape := ⟨2, ![4096, 4096]⟩
abbrev S4096x11008 : Shape := ⟨2, ![4096, 11008]⟩
abbrev S11008x4096 : Shape := ⟨2, ![11008, 4096]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S8x1376x4096 : Shape := ⟨3, ![8, 1376, 4096]⟩
abbrev S8x1408x4096 : Shape := ⟨3, ![8, 1408, 4096]⟩
abbrev S11264x4096 : Shape := ⟨2, ![11264, 4096]⟩
abbrev S1024x4096 : Shape := ⟨2, ![1024, 4096]⟩
abbrev S4096x1024 : Shape := ⟨2, ![4096, 1024]⟩
abbrev S1024x1024 : Shape := ⟨2, ![1024, 1024]⟩
abbrev S8x128 : Shape := ⟨2, ![8, 128]⟩
abbrev S128x11264 : Shape := ⟨2, ![128, 11264]⟩

abbrev nBuf : Space → Nat
  | .hbm => 48
  | .vmem => 52
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .f32⟩
  | .hbm, ⟨5, _⟩ => ⟨S4096x11008, .bf16⟩
  | .hbm, ⟨6, _⟩ => ⟨S4096x8x1376, .bf16⟩
  | .hbm, ⟨7, _⟩ => ⟨S_, .i32⟩
  | .hbm, ⟨8, _⟩ => ⟨S_, .bf16⟩
  | .hbm, ⟨9, _⟩ => ⟨S4096x8x1408, .bf16⟩
  | .hbm, ⟨10, _⟩ => ⟨S4096x11264, .bf16⟩
  | .hbm, ⟨11, _⟩ => ⟨S4096x11008, .bf16⟩
  | .hbm, ⟨12, _⟩ => ⟨S4096x8x1376, .bf16⟩
  | .hbm, ⟨13, _⟩ => ⟨S_, .i32⟩
  | .hbm, ⟨14, _⟩ => ⟨S_, .bf16⟩
  | .hbm, ⟨15, _⟩ => ⟨S4096x8x1408, .bf16⟩
  | .hbm, ⟨16, _⟩ => ⟨S4096x11264, .bf16⟩
  | .hbm, ⟨17, _⟩ => ⟨S11008x4096, .bf16⟩
  | .hbm, ⟨18, _⟩ => ⟨S8x1376x4096, .bf16⟩
  | .hbm, ⟨19, _⟩ => ⟨S_, .i32⟩
  | .hbm, ⟨20, _⟩ => ⟨S_, .bf16⟩
  | .hbm, ⟨21, _⟩ => ⟨S8x1408x4096, .bf16⟩
  | .hbm, ⟨22, _⟩ => ⟨S11264x4096, .bf16⟩
  | .hbm, ⟨23, _⟩ => ⟨S4096x4096, .bf16⟩
  | .hbm, ⟨24, _⟩ => ⟨S4096x4096, .bf16⟩
  | .hbm, ⟨25, _⟩ => ⟨S4096x11264, .bf16⟩
  | .hbm, ⟨26, _⟩ => ⟨S4096x11264, .bf16⟩
  | .hbm, ⟨27, _⟩ => ⟨S_, .f32⟩
  | .hbm, ⟨28, _⟩ => ⟨S8x128, .f32⟩
  | .hbm, ⟨29, _⟩ => ⟨S4096x11264, .bf16⟩
  | .hbm, ⟨30, _⟩ => ⟨S4096x11264, .bf16⟩
  | .hbm, ⟨31, _⟩ => ⟨S11264x4096, .bf16⟩
  | .hbm, ⟨32, _⟩ => ⟨S4096x11264, .bf16⟩
  | .hbm, ⟨33, _⟩ => ⟨S4096x11264, .bf16⟩
  | .hbm, ⟨34, _⟩ => ⟨S4096x11264, .bf16⟩
  | .hbm, ⟨35, _⟩ => ⟨S4096x11264, .bf16⟩
  | .hbm, ⟨36, _⟩ => ⟨S4096x8x1408, .bf16⟩
  | .hbm, ⟨37, _⟩ => ⟨S4096x8x1376, .bf16⟩
  | .hbm, ⟨38, _⟩ => ⟨S4096x11008, .bf16⟩
  | .hbm, ⟨39, _⟩ => ⟨S4096x11008, .f32⟩
  | .hbm, ⟨40, _⟩ => ⟨S4096x8x1408, .bf16⟩
  | .hbm, ⟨41, _⟩ => ⟨S4096x8x1376, .bf16⟩
  | .hbm, ⟨42, _⟩ => ⟨S4096x11008, .bf16⟩
  | .hbm, ⟨43, _⟩ => ⟨S4096x11008, .f32⟩
  | .hbm, ⟨44, _⟩ => ⟨S8x1408x4096, .bf16⟩
  | .hbm, ⟨45, _⟩ => ⟨S8x1376x4096, .bf16⟩
  | .hbm, ⟨46, _⟩ => ⟨S11008x4096, .bf16⟩
  | .hbm, ⟨47, _⟩ => ⟨S11008x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S4096x1024, .bf16⟩
  | .local _ .vmem, ⟨10, _⟩ => ⟨S1024x1024, .bf16⟩
  | .local _ .vmem, ⟨11, _⟩ => ⟨S1024x1024, .bf16⟩
  | .local _ .vmem, ⟨12, _⟩ => ⟨S128x11264, .bf16⟩
  | .local _ .vmem, ⟨13, _⟩ => ⟨S128x11264, .bf16⟩
  | .local _ .vmem, ⟨14, _⟩ => ⟨S128x11264, .bf16⟩
  | .local _ .vmem, ⟨15, _⟩ => ⟨S128x11264, .bf16⟩
  | .local _ .vmem, ⟨16, _⟩ => ⟨S128x11264, .bf16⟩
  | .local _ .vmem, ⟨17, _⟩ => ⟨S128x11264, .bf16⟩
  | .local _ .vmem, ⟨18, _⟩ => ⟨S1024x4096, .bf16⟩
  | .local _ .vmem, ⟨19, _⟩ => ⟨S1024x4096, .bf16⟩
  | .local _ .vmem, ⟨20, _⟩ => ⟨S1024x4096, .bf16⟩
  | .local _ .vmem, ⟨21, _⟩ => ⟨S1024x4096, .bf16⟩
  | .local _ .vmem, ⟨22, _⟩ => ⟨S1024x1024, .bf16⟩
  | .local _ .vmem, ⟨23, _⟩ => ⟨S1024x1024, .bf16⟩
  | .local _ .vmem, ⟨24, _⟩ => ⟨S4096x1024, .bf16⟩
  | .local _ .vmem, ⟨25, _⟩ => ⟨S4096x1024, .bf16⟩
  | .local _ .vmem, ⟨26, _⟩ => ⟨S4096x1024, .bf16⟩
  | .local _ .vmem, ⟨27, _⟩ => ⟨S4096x1024, .bf16⟩
  | .local _ .vmem, ⟨28, _⟩ => ⟨S1024x1024, .bf16⟩
  | .local _ .vmem, ⟨29, _⟩ => ⟨S1024x1024, .bf16⟩
  | .local _ .vmem, ⟨30, _⟩ => ⟨S128x11264, .bf16⟩
  | .local _ .vmem, ⟨31, _⟩ => ⟨S128x11264, .bf16⟩
  | .local _ .vmem, ⟨32, _⟩ => ⟨S128x11264, .bf16⟩
  | .local _ .vmem, ⟨33, _⟩ => ⟨S128x11264, .bf16⟩
  | .local _ .vmem, ⟨34, _⟩ => ⟨S128x11264, .bf16⟩
  | .local _ .vmem, ⟨35, _⟩ => ⟨S128x11264, .bf16⟩
  | .local _ .vmem, ⟨36, _⟩ => ⟨S128x11264, .bf16⟩
  | .local _ .vmem, ⟨37, _⟩ => ⟨S128x11264, .bf16⟩
  | .local _ .vmem, ⟨38, _⟩ => ⟨S128x11264, .bf16⟩
  | .local _ .vmem, ⟨39, _⟩ => ⟨S128x11264, .bf16⟩
  | .local _ .vmem, ⟨40, _⟩ => ⟨S4096x1024, .bf16⟩
  | .local _ .vmem, ⟨41, _⟩ => ⟨S4096x1024, .bf16⟩
  | .local _ .vmem, ⟨42, _⟩ => ⟨S4096x1024, .bf16⟩
  | .local _ .vmem, ⟨43, _⟩ => ⟨S4096x1024, .bf16⟩
  | .local _ .vmem, ⟨44, _⟩ => ⟨S1024x1024, .bf16⟩
  | .local _ .vmem, ⟨45, _⟩ => ⟨S1024x1024, .bf16⟩
  | .local _ .vmem, ⟨46, _⟩ => ⟨S4096x1024, .bf16⟩
  | .local _ .vmem, ⟨47, _⟩ => ⟨S4096x1024, .bf16⟩
  | .local _ .vmem, ⟨48, _⟩ => ⟨S4096x1024, .bf16⟩
  | .local _ .vmem, ⟨49, _⟩ => ⟨S4096x1024, .bf16⟩
  | .local _ .vmem, ⟨50, _⟩ => ⟨S1024x1024, .bf16⟩
  | .local _ .vmem, ⟨51, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x11264 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x11264 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x11264 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![11, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x11264 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x11264 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S128x11264 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S128x11264 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128x11264 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨3, ![4, 11, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 11, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference2Ideal.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S_, .f32⟩
  | .hbm, ⟨9, _⟩ => ⟨S4096x11008, .f32⟩
  | .hbm, ⟨10, _⟩ => ⟨S4096x11008, .f32⟩
  | .hbm, ⟨11, _⟩ => ⟨S_, .f32⟩
  | .hbm, ⟨12, _⟩ => ⟨S4096x11008, .f32⟩
  | .hbm, ⟨13, _⟩ => ⟨S4096x11008, .f32⟩
  | .hbm, ⟨14, _⟩ => ⟨S_, .f32⟩
  | .hbm, ⟨15, _⟩ => ⟨S4096x11008, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S4096x4096, .f32⟩
  | .hbm, ⟨22, _⟩ => ⟨S4096x11008, .f32⟩
  | .hbm, ⟨23, _⟩ => ⟨S11008x4096, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S11008x4096, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | .hbm, ⟨32, _⟩ => ⟨S4096x11008, .f32⟩
  | .hbm, ⟨33, _⟩ => ⟨S11008x4096, .f32⟩
  | .hbm, ⟨34, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S4096x11008 : Shape := ⟨2, ![4096, 11008]⟩
abbrev S11008x4096 : Shape := ⟨2, ![11008, 4096]⟩
abbrev S4096x4096 : Shape := ⟨2, ![4096, 4096]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S8x1376x4096 : Shape := ⟨3, ![8, 1376, 4096]⟩
abbrev S8x1408x4096 : Shape := ⟨3, ![8, 1408, 4096]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x4096, .f32⟩
  | .hbm, ⟨3, _⟩ => ⟨S4096x11008, .bf16⟩
  | .hbm, ⟨4, _⟩ => ⟨S4096x8x1376, .bf16⟩
  | .hbm, ⟨5, _⟩ => ⟨S_, .i32⟩
  | .hbm, ⟨6, _⟩ => ⟨S_, .bf16⟩
  | .hbm, ⟨7, _⟩ => ⟨S4096x8x1408, .bf16⟩
  | .hbm, ⟨8, _⟩ => ⟨S4096x11264, .bf16⟩
  | .hbm, ⟨9, _⟩ => ⟨S11008x4096, .bf16⟩
  | .hbm, ⟨10, _⟩ => ⟨S8x1376x4096, .bf16⟩
  | .hbm, ⟨11, _⟩ => ⟨S_, .i32⟩
  | .hbm, ⟨12, _⟩ => ⟨S_, .bf16⟩
  | .hbm, ⟨13, _⟩ => ⟨S8x1408x4096, .bf16⟩
  | .hbm, ⟨14, _⟩ => ⟨S11264x4096, .bf16⟩
  | .hbm, ⟨15, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S11008x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S1024x2816 : Shape := ⟨2, ![1024, 2816]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .bf16⟩
  | .hbm, ⟨4, _⟩ => ⟨S4096x8x1376, .bf16⟩
  | .hbm, ⟨5, _⟩ => ⟨S_, .i32⟩
  | .hbm, ⟨6, _⟩ => ⟨S_, .bf16⟩
  | .hbm, ⟨7, _⟩ => ⟨S4096x8x1408, .bf16⟩
  | .hbm, ⟨8, _⟩ => ⟨S4096x11264, .bf16⟩
  | .hbm, ⟨9, _⟩ => ⟨S4096x11008, .bf16⟩
  | .hbm, ⟨10, _⟩ => ⟨S4096x8x1376, .bf16⟩
  | .hbm, ⟨11, _⟩ => ⟨S_, .i32⟩
  | .hbm, ⟨12, _⟩ => ⟨S_, .bf16⟩
  | .hbm, ⟨13, _⟩ => ⟨S4096x8x1408, .bf16⟩
  | .hbm, ⟨14, _⟩ => ⟨S4096x11264, .bf16⟩
  | .hbm, ⟨15, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x11008 : Shape := ⟨2, ![4096, 11008]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x11008, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S4096x4096 : Shape := ⟨2, ![4096, 4096]⟩
abbrev S4096x11008 : Shape := ⟨2, ![4096, 11008]⟩
abbrev S4096x8x1376 : Shape := ⟨3, ![4096, 8, 1376]⟩
abbrev S_ : Shape := ⟨0, ![]⟩
abbrev S4096x8x1408 : Shape := ⟨3, ![4096, 8, 1408]⟩
abbrev S4096x11264 : Shape := ⟨2, ![4096, 11264]⟩
abbrev S1024x2816 : Shape := ⟨2, ![1024, 2816]⟩
abbrev S1024x1024 : Shape := ⟨2, ![1024, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x4096, .f32⟩
  | .hbm, ⟨4, _⟩ => ⟨S4096x11008, .bf16⟩
  | .hbm, ⟨5, _⟩ => ⟨S4096x8x1376, .bf16⟩
  | .hbm, ⟨6, _⟩ => ⟨S_, .i32⟩
  | .hbm, ⟨7, _⟩ => ⟨S_, .bf16⟩
  | .hbm, ⟨8, _⟩ => ⟨S4096x8x1408, .bf16⟩
  | .hbm, ⟨9, _⟩ => ⟨S4096x11264, .bf16⟩
  | .hbm, ⟨10, _⟩ => ⟨S4096x11008, .bf16⟩
  | .hbm, ⟨11, _⟩ => ⟨S4096x8x1376, .bf16⟩
  | .hbm, ⟨12, _⟩ => ⟨S_, .i32⟩
  | .hbm, ⟨13, _⟩ => ⟨S_, .bf16⟩
  | .hbm, ⟨14, _⟩ => ⟨S4096x8x1408, .bf16⟩
  | .hbm, ⟨15, _⟩ => ⟨S4096x11264, .bf16⟩
  | .hbm, ⟨16, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x4096 : Shape := ⟨2, ![4096, 4096]⟩
abbrev S4096x11008 : Shape := ⟨2, ![4096, 11008]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S4096x4096, .f32⟩
  | .hbm, ⟨4, _⟩ => ⟨S4096x11008, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S4096x4096 : Shape := ⟨2, ![4096, 4096]⟩
abbrev S4096x15936 : Shape := ⟨2, ![4096, 15936]⟩
abbrev S4096x8x1992 : Shape := ⟨3, ![4096, 8, 1992]⟩
abbrev S8x4096x1992 : Shape := ⟨3, ![8, 4096, 1992]⟩
abbrev S2048x1024 : Shape := ⟨2, ![2048, 1024]⟩
abbrev S1x2048x1992 : Shape := ⟨3, ![1, 2048, 1992]⟩
abbrev S1x1024x1992 : Shape := ⟨3, ![1, 1024, 1992]⟩
abbrev S1024x1992 : Shape := ⟨2, ![1024, 1992]⟩
abbrev S2048x1992 : Shape := ⟨2, ![2048, 1992]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x15936, .f32⟩
  | .hbm, ⟨2, _⟩ => ⟨S4096x15936, .f32⟩
  | .hbm, ⟨3, _⟩ => ⟨S4096x4096, .bf16⟩
  | .hbm, ⟨4, _⟩ => ⟨S4096x15936, .bf16⟩
  | .hbm, ⟨5, _⟩ => ⟨S4096x8x1992, .bf16⟩
  | .hbm, ⟨6, _⟩ => ⟨S8x4096x1992, .bf16⟩
  | .hbm, ⟨7, _⟩ => ⟨S8x4096x1992, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1992, .bf16⟩
  | .local _ .vmem, ⟨3, _⟩ => ⟨S1x2048x1992, .bf16⟩
  | .local _ .vmem, ⟨4, _⟩ => ⟨S1x1024x1992, .bf16⟩
  | .local _ .vmem, ⟨5, _⟩ => ⟨S1x1024x1992, .bf16⟩
  | .local _ .vmem, ⟨6, _⟩ => ⟨S1024x1992, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1992 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1992 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x15936 : Shape := ⟨2, ![4096, 15936]⟩
abbrev S15936x4096 : Shape := ⟨2, ![15936, 4096]⟩
abbrev S4096x8x1992 : Shape := ⟨3, ![4096, 8, 1992]⟩
abbrev S8x4096x1992 : Shape := ⟨3, ![8, 4096, 1992]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x15936, .f32⟩
  | .hbm, ⟨2, _⟩ => ⟨S4096x15936, .f32⟩
  | .hbm, ⟨3, _⟩ => ⟨S4096x15936, .f32⟩
  | .hbm, ⟨4, _⟩ => ⟨S15936x4096, .f32⟩
  | .hbm, ⟨5, _⟩ => ⟨S4096x15936, .f32⟩
  | .hbm, ⟨6, _⟩ => ⟨S4096x8x1992, .f32⟩
  | .hbm, ⟨7, _⟩ => ⟨S8x4096x1992, .f32⟩
  | .hbm, ⟨8, _⟩ => ⟨S8x4096x1992, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x4096 : Shape := ⟨2, ![4096, 4096]⟩
abbrev S4096x15936 : Shape := ⟨2, ![4096, 15936]⟩
abbrev S4096x8x1992 : Shape := ⟨3, ![4096, 8, 1992]⟩
abbrev S8x4096x1992 : Shape := ⟨3, ![8, 4096, 1992]⟩
abbrev S_ : Shape := ⟨0, ![]⟩
abbrev S8x128 : Shape := ⟨2, ![8, 128]⟩
abbrev S1x1024x1992 : Shape := ⟨3, ![1, 1024, 1992]⟩
abbrev S1024x1024 : Shape := ⟨2, ![1024, 1024]⟩
abbrev S1024x1992 : Shape := ⟨2, ![1024, 1992]⟩

abbrev nBuf : Space → Nat
  | .hbm => 12
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x15936, .f32⟩
  | .hbm, ⟨2, _⟩ => ⟨S4096x15936, .f32⟩
  | .hbm, ⟨3, _⟩ => ⟨S4096x15936, .bf16⟩
  | .hbm, ⟨4, _⟩ => ⟨S4096x8x1992, .bf16⟩
  | .hbm, ⟨5, _⟩ => ⟨S8x4096x1992, .bf16⟩
  | .hbm, ⟨6, _⟩ => ⟨S4096x15936, .bf16⟩
  | .hbm, ⟨7, _⟩ => ⟨S4096x8x1992, .bf16⟩
  | .hbm, ⟨8, _⟩ => ⟨S8x4096x1992, .bf16⟩
  | .hbm, ⟨9, _⟩ => ⟨S_, .f32⟩
  | .hbm, ⟨10, _⟩ => ⟨S8x128, .f32⟩
  | .hbm, ⟨11, _⟩ => ⟨S4096x4096, .f32⟩
  | .local _ .vmem, ⟨0, _⟩ => ⟨S1x1024x1992, .bf16⟩
  | .local _ .vmem, ⟨1, _⟩ => ⟨S1x1024x1992, .bf16⟩
  | .local _ .vmem, ⟨2, _⟩ => ⟨S1x1024x1992, .bf16⟩
  | .local _ .vmem, ⟨3, _⟩ => ⟨S1x1024x1992, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1992 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x15936 : Shape := ⟨2, ![4096, 15936]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x15936, .f32⟩
  | .hbm, ⟨2, _⟩ => ⟨S4096x15936, .f32⟩
  | .hbm, ⟨3, _⟩ => ⟨S4096x15936, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x8192 : Shape := ⟨2, ![4096, 8192]⟩
abbrev S1x8192 : Shape := ⟨2, ![1, 8192]⟩
abbrev S4096x2048 : Shape := ⟨2, ![4096, 2048]⟩
abbrev S2x2048x4096 : Shape := ⟨3, ![2, 2048, 4096]⟩
abbrev S4096x4096 : Shape := ⟨2, ![4096, 4096]⟩
abbrev S1x2048x4096 : Shape := ⟨3, ![1, 2048, 4096]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩
abbrev S128x4096 : Shape := ⟨2, ![128, 4096]⟩
abbrev S1x4096 : Shape := ⟨2, ![1, 4096]⟩
abbrev S1024x4096 : Shape := ⟨2, ![1024, 4096]⟩
abbrev S4096x1024 : Shape := ⟨2, ![4096, 1024]⟩
abbrev S128x8192 : Shape := ⟨2, ![128, 8192]⟩
abbrev S4096 : Shape := ⟨1, ![4096]⟩

abbrev nBuf : Space → Nat
  | .hbm => 42
  | .vmem => 87
  | .smem => 0
  | _ => 0

abbrev bufTy : (tb : Table) → Fin (tcTables nBuf tb) → BufTy
  | .hbm, ⟨0, _⟩ => ⟨S4096x8192, .f32⟩
  | .hbm, ⟨1, _⟩ => ⟨S1x8192, .f32⟩
  | .hbm, ⟨2, _⟩ => ⟨S4096x2048, .f32⟩
  | .hbm, ⟨3, _⟩ => ⟨S4096x2048, .f32⟩
  | .hbm, ⟨4, _⟩ => ⟨S2x2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x8192, .bf16⟩
  | .hbm, ⟨9, _⟩ => ⟨S4096x2048, .bf16⟩
  | .hbm, ⟨10, _⟩ => ⟨S4096x2048, .bf16⟩
  | .hbm, ⟨11, _⟩ => ⟨S1x2048x4096, .f32⟩
  | .hbm, ⟨12, _⟩ => ⟨S2048x4096, .f32⟩
  | .hbm, ⟨13, _⟩ => ⟨S2048x4096, .bf16⟩
  | .hbm, ⟨14, _⟩ => ⟨S1x2048x4096, .f32⟩
  | .hbm, ⟨15, _⟩ => ⟨S2048x4096, .f32⟩
  | .hbm, ⟨16, _⟩ => ⟨S2048x4096, .bf16⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S4096x4096, .bf16⟩
  | .hbm, ⟨21, _⟩ => ⟨S4096x4096, .bf16⟩
  | .hbm, ⟨22, _⟩ => ⟨S4096x4096, .f32⟩
  | .hbm, ⟨23, _⟩ => ⟨S4096x4096, .bf16⟩
  | .hbm, ⟨24, _⟩ => ⟨S4096x4096, .bf16⟩
  | .hbm, ⟨25, _⟩ => ⟨S4096x4096, .bf16⟩
  | .hbm, ⟨26, _⟩ => ⟨S4096x4096, .bf16⟩
  | .hbm, ⟨27, _⟩ => ⟨S4096x8192, .bf16⟩
  | .hbm, ⟨28, _⟩ => ⟨S1x8192, .f32⟩
  | .hbm, ⟨29, _⟩ => ⟨S2048x4096, .bf16⟩
  | .hbm, ⟨30, _⟩ => ⟨S2048x4096, .bf16⟩
  | .hbm, ⟨31, _⟩ => ⟨S4096x2048, .bf16⟩
  | .hbm, ⟨32, _⟩ => ⟨S4096x2048, .bf16⟩
  | .hbm, ⟨33, _⟩ => ⟨S4096x8192, .f32⟩
  | .hbm, ⟨34, _⟩ => ⟨S4096x2048, .f32⟩
  | .hbm, ⟨35, _⟩ => ⟨S4096x2048, .f32⟩
  | .hbm, ⟨36, _⟩ => ⟨S2048x4096, .f32⟩
  | .hbm, ⟨37, _⟩ => ⟨S2048x4096, .f32⟩
  | .hbm, ⟨38, _⟩ => ⟨S1x2048x4096, .f32⟩
  | .hbm, ⟨39, _⟩ => ⟨S1x2048x4096, .f32⟩
  | .hbm, ⟨40, _⟩ => ⟨S2x2048x4096, .f32⟩
  | .hbm, ⟨41, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S128x4096, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S1x4096, .f32⟩
  | .local _ .vmem, ⟨17, _⟩ => ⟨S1x4096, .f32⟩
  | .local _ .vmem, ⟨18, _⟩ => ⟨S128x4096, .bf16⟩
  | .local _ .vmem, ⟨19, _⟩ => ⟨S128x4096, .bf16⟩
  | .local _ .vmem, ⟨20, _⟩ => ⟨S128x4096, .bf16⟩
  | .local _ .vmem, ⟨21, _⟩ => ⟨S128x4096, .bf16⟩
  | .local _ .vmem, ⟨22, _⟩ => ⟨S128x4096, .bf16⟩
  | .local _ .vmem, ⟨23, _⟩ => ⟨S128x4096, .bf16⟩
  | .local _ .vmem, ⟨24, _⟩ => ⟨S1024x4096, .bf16⟩
  | .local _ .vmem, ⟨25, _⟩ => ⟨S1024x4096, .bf16⟩
  | .local _ .vmem, ⟨26, _⟩ => ⟨S4096x1024, .bf16⟩
  | .local _ .vmem, ⟨27, _⟩ => ⟨S4096x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S4096x1024, .bf16⟩
  | .local _ .vmem, ⟨33, _⟩ => ⟨S4096x1024, .bf16⟩
  | .local _ .vmem, ⟨34, _⟩ => ⟨S4096x1024, .bf16⟩
  | .local _ .vmem, ⟨35, _⟩ => ⟨S4096x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x4096, .bf16⟩
  | .local _ .vmem, ⟨39, _⟩ => ⟨S1024x4096, .bf16⟩
  | .local _ .vmem, ⟨40, _⟩ => ⟨S1024x4096, .bf16⟩
  | .local _ .vmem, ⟨41, _⟩ => ⟨S1024x4096, .bf16⟩
  | .local _ .vmem, ⟨42, _⟩ => ⟨S1024x1024, .bf16⟩
  | .local _ .vmem, ⟨43, _⟩ => ⟨S1024x1024, .bf16⟩
  | .local _ .vmem, ⟨44, _⟩ => ⟨S128x4096, .bf16⟩
  | .local _ .vmem, ⟨45, _⟩ => ⟨S128x4096, .bf16⟩
  | .local _ .vmem, ⟨46, _⟩ => ⟨S128x4096, .bf16⟩
  | .local _ .vmem, ⟨47, _⟩ => ⟨S128x4096, .bf16⟩
  | .local _ .vmem, ⟨48, _⟩ => ⟨S128x4096, .bf16⟩
  | .local _ .vmem, ⟨49, _⟩ => ⟨S128x4096, .bf16⟩
  | .local _ .vmem, ⟨50, _⟩ => ⟨S1x4096, .f32⟩
  | .local _ .vmem, ⟨51, _⟩ => ⟨S1x4096, .f32⟩
  | .local _ .vmem, ⟨52, _⟩ => ⟨S128x4096, .bf16⟩
  | .local _ .vmem, ⟨53, _⟩ => ⟨S128x4096, .bf16⟩
  | .local _ .vmem, ⟨54, _⟩ => ⟨S128x4096, .bf16⟩
  | .local _ .vmem, ⟨55, _⟩ => ⟨S128x4096, .bf16⟩
  | .local _ .vmem, ⟨56, _⟩ => ⟨S128x4096, .bf16⟩
  | .local _ .vmem, ⟨57, _⟩ => ⟨S128x4096, .bf16⟩
  | .local _ .vmem, ⟨58, _⟩ => ⟨S128x4096, .bf16⟩
  | .local _ .vmem, ⟨59, _⟩ => ⟨S128x4096, .bf16⟩
  | .local _ .vmem, ⟨60, _⟩ => ⟨S128x8192, .bf16⟩
  | .local _ .vmem, ⟨61, _⟩ => ⟨S128x8192, .bf16⟩
  | .local _ .vmem, ⟨62, _⟩ => ⟨S1x8192, .f32⟩
  | .local _ .vmem, ⟨63, _⟩ => ⟨S4096x1024, .bf16⟩
  | .local _ .vmem, ⟨64, _⟩ => ⟨S4096x1024, .bf16⟩
  | .local _ .vmem, ⟨65, _⟩ => ⟨S4096x1024, .bf16⟩
  | .local _ .vmem, ⟨66, _⟩ => ⟨S4096x1024, .bf16⟩
  | .local _ .vmem, ⟨67, _⟩ => ⟨S1024x1024, .bf16⟩
  | .local _ .vmem, ⟨68, _⟩ => ⟨S1024x1024, .bf16⟩
  | .local _ .vmem, ⟨69, _⟩ => ⟨S4096x1024, .bf16⟩
  | .local _ .vmem, ⟨70, _⟩ => ⟨S4096x1024, .bf16⟩
  | .local _ .vmem, ⟨71, _⟩ => ⟨S4096x1024, .bf16⟩
  | .local _ .vmem, ⟨72, _⟩ => ⟨S4096x1024, .bf16⟩
  | .local _ .vmem, ⟨73, _⟩ => ⟨S1024x1024, .bf16⟩
  | .local _ .vmem, ⟨74, _⟩ => ⟨S1024x1024, .bf16⟩
  | .local _ .vmem, ⟨75, _⟩ => ⟨S1024x4096, .bf16⟩
  | .local _ .vmem, ⟨76, _⟩ => ⟨S1024x4096, .bf16⟩
  | .local _ .vmem, ⟨77, _⟩ => ⟨S1024x4096, .bf16⟩
  | .local _ .vmem, ⟨78, _⟩ => ⟨S1024x4096, .bf16⟩
  | .local _ .vmem, ⟨79, _⟩ => ⟨S1024x1024, .bf16⟩
  | .local _ .vmem, ⟨80, _⟩ => ⟨S1024x1024, .bf16⟩
  | .local _ .vmem, ⟨81, _⟩ => ⟨S1024x4096, .bf16⟩
  | .local _ .vmem, ⟨82, _⟩ => ⟨S1024x4096, .bf16⟩
  | .local _ .vmem, ⟨83, _⟩ => ⟨S1024x4096, .bf16⟩
  | .local _ .vmem, ⟨84, _⟩ => ⟨S1024x4096, .bf16⟩
  | .local _ .vmem, ⟨85, _⟩ => ⟨S1024x1024, .bf16⟩
  | .local _ .vmem, ⟨86, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc6_stg6_0 : Ref sig .tc := ⟨.vmem, 54, rfl⟩
abbrev cc6_stg6_1 : Ref sig .tc := ⟨.vmem, 55, rfl⟩
abbrev cc6_stg7_0 : Ref sig .tc := ⟨.vmem, 56, rfl⟩
abbrev cc6_stg7_1 : Ref sig .tc := ⟨.vmem, 57, rfl⟩
abbrev cc6_stg8_0 : Ref sig .tc := ⟨.vmem, 58, rfl⟩
abbrev cc6_stg8_1 : Ref sig .tc := ⟨.vmem, 59, rfl⟩
abbrev cc6_stg9_0 : Ref sig .tc := ⟨.vmem, 60, rfl⟩
abbrev cc6_stg9_1 : Ref sig .tc := ⟨.vmem, 61, rfl⟩
abbrev cc6_stg10_0 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg1_1 : Ref sig .tc := ⟨.vmem, 78, rfl⟩
abbrev cc9_stg2_0 : Ref sig .tc := ⟨.vmem, 79, rfl⟩
abbrev cc9_stg2_1 : Ref sig .tc := ⟨.vmem, 80, rfl⟩
abbrev cc10_stg0_0 : Ref sig .tc := ⟨.vmem, 81, rfl⟩
abbrev cc10_stg0_1 : Ref sig .tc := ⟨.vmem, 82, rfl⟩
abbrev cc10_stg1_0 : Ref sig .tc := ⟨.vmem, 83, rfl⟩
abbrev cc10_stg1_1 : Ref sig .tc := ⟨.vmem, 84, rfl⟩
abbrev cc10_stg2_0 : Ref sig .tc := ⟨.vmem, 85, rfl⟩
abbrev cc10_stg2_1 : Ref sig .tc := ⟨.vmem, 86, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem5_0 : DmaSem sig := 52
abbrev cc6_sem5_1 : DmaSem sig := 53
abbrev cc6_sem6_0 : DmaSem sig := 54
abbrev cc6_sem6_1 : DmaSem sig := 55
abbrev cc6_sem7_0 : DmaSem sig := 56
abbrev cc6_sem7_1 : DmaSem sig := 57
abbrev cc6_sem8_0 : DmaSem sig := 58
abbrev cc6_sem8_1 : DmaSem sig := 59
abbrev cc6_sem9_0 : DmaSem sig := 60
abbrev cc6_sem9_1 : DmaSem sig := 61
abbrev cc6_sem10_0 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc9_sem0_0 : DmaSem sig := 75
abbrev cc9_sem0_1 : DmaSem sig := 76
abbrev cc9_sem1_0 : DmaSem sig := 77
abbrev cc9_sem1_1 : DmaSem sig := 78
abbrev cc9_sem2_0 : DmaSem sig := 79
abbrev cc9_sem2_1 : DmaSem sig := 80
abbrev cc10_sem0_0 : DmaSem sig := 81
abbrev cc10_sem0_1 : DmaSem sig := 82
abbrev cc10_sem1_0 : DmaSem sig := 83
abbrev cc10_sem1_1 : DmaSem sig := 84
abbrev cc10_sem2_0 : DmaSem sig := 85
abbrev cc10_sem2_1 : DmaSem sig := 86

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S128x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x4096 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x4096 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x4096 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S128x4096 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S128x4096 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S128x4096 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S128x4096 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S128x8192 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 1 → Memref sig .tc .vmem S1x8192 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x4096 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x4096 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference8Ideal.lean ====
abbrev S4096x8192 : Shape := ⟨2, ![4096, 8192]⟩
abbrev S1x8192 : Shape := ⟨2, ![1, 8192]⟩
abbrev S4096x2048 : Shape := ⟨2, ![4096, 2048]⟩
abbrev S2x2048x4096 : Shape := ⟨3, ![2, 2048, 4096]⟩
abbrev S4096x4096 : Shape := ⟨2, ![4096, 4096]⟩
abbrev S1x4096x2048 : Shape := ⟨3, ![1, 4096, 2048]⟩
abbrev S2x4096x2048 : Shape := ⟨3, ![2, 4096, 2048]⟩
abbrev S2x4096x4096 : Shape := ⟨3, ![2, 4096, 4096]⟩
abbrev S4096x2x4096 : Shape := ⟨3, ![4096, 2, 4096]⟩
abbrev S8192 : Shape := ⟨1, ![8192]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1x8192, .f32⟩
  | .hbm, ⟨2, _⟩ => ⟨S4096x2048, .f32⟩
  | .hbm, ⟨3, _⟩ => ⟨S4096x2048, .f32⟩
  | .hbm, ⟨4, _⟩ => ⟨S2x2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1x4096x2048, .f32⟩
  | .hbm, ⟨9, _⟩ => ⟨S1x4096x2048, .f32⟩
  | .hbm, ⟨10, _⟩ => ⟨S2x4096x2048, .f32⟩
  | .hbm, ⟨11, _⟩ => ⟨S2x4096x4096, .f32⟩
  | .hbm, ⟨12, _⟩ => ⟨S4096x2x4096, .f32⟩
  | .hbm, ⟨13, _⟩ => ⟨S8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x2x4096, .f32⟩
  | .hbm, ⟨30, _⟩ => ⟨S4096x2x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x2x4096, .f32⟩
  | .hbm, ⟨39, _⟩ => ⟨S4096x2x4096, .f32⟩
  | .hbm, ⟨40, _⟩ => ⟨S4096x2x4096, .f32⟩
  | .hbm, ⟨41, _⟩ => ⟨S4096x8192, .f32⟩
  | .hbm, ⟨42, _⟩ => ⟨S4096x8192, .f32⟩
  | .hbm, ⟨43, _⟩ => ⟨S_, .f32⟩
  | .hbm, ⟨44, _⟩ => ⟨S8192, .f32⟩
  | .hbm, ⟨45, _⟩ => ⟨S1x8192, .f32⟩
  | .hbm, ⟨46, _⟩ => ⟨S_, .f32⟩
  | .hbm, ⟨47, _⟩ => ⟨S8192, .f32⟩
  | .hbm, ⟨48, _⟩ => ⟨S1x8192, .f32⟩
  | .hbm, ⟨49, _⟩ => ⟨S2x4096x4096, .f32⟩
  | .hbm, ⟨50, _⟩ => ⟨S2x4096x2048, .f32⟩
  | .hbm, ⟨51, _⟩ => ⟨S2x4096x2048, .f32⟩
  | .hbm, ⟨52, _⟩ => ⟨S2x2048x4096, .f32⟩
  | .hbm, ⟨53, _⟩ => ⟨S1x4096x2048, .f32⟩
  | .hbm, ⟨54, _⟩ => ⟨S4096x2048, .f32⟩
  | .hbm, ⟨55, _⟩ => ⟨S1x4096x2048, .f32⟩
  | .hbm, ⟨56, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel9.lean ====
abbrev S4096x16x128 : Shape := ⟨3, ![4096, 16, 128]⟩
abbrev S4096x16x64 : Shape := ⟨3, ![4096, 16, 64]⟩
abbrev S4096x64 : Shape := ⟨2, ![4096, 64]⟩
abbrev S_ : Shape := ⟨0, ![]⟩
abbrev S4096x1x64 : Shape := ⟨3, ![4096, 1, 64]⟩
abbrev S4096x16x256 : Shape := ⟨3, ![4096, 16, 256]⟩
abbrev S4096x4096 : Shape := ⟨2, ![4096, 4096]⟩
abbrev S4096x2048 : Shape := ⟨2, ![4096, 2048]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 8
  | .smem => 0
  | _ => 0

abbrev bufTy : (tb : Table) → Fin (tcTables nBuf tb) → BufTy
  | .hbm, ⟨0, _⟩ => ⟨S4096x16x128, .bf16⟩
  | .hbm, ⟨1, _⟩ => ⟨S4096x16x64, .bf16⟩
  | .hbm, ⟨2, _⟩ => ⟨S4096x16x128, .bf16⟩
  | .hbm, ⟨3, _⟩ => ⟨S4096x64, .bf16⟩
  | .hbm, ⟨4, _⟩ => ⟨S4096x16x128, .bf16⟩
  | .hbm, ⟨5, _⟩ => ⟨S_, .bf16⟩
  | .hbm, ⟨6, _⟩ => ⟨S4096x16x64, .bf16⟩
  | .hbm, ⟨7, _⟩ => ⟨S4096x1x64, .bf16⟩
  | .hbm, ⟨8, _⟩ => ⟨S4096x16x64, .bf16⟩
  | .hbm, ⟨9, _⟩ => ⟨S4096x16x256, .bf16⟩
  | .hbm, ⟨10, _⟩ => ⟨S4096x4096, .bf16⟩
  | .hbm, ⟨11, _⟩ => ⟨S4096x16x256, .bf16⟩
  | .hbm, ⟨12, _⟩ => ⟨S4096x4096, .bf16⟩
  | .hbm, ⟨13, _⟩ => ⟨S4096x2048, .bf16⟩
  | .hbm, ⟨14, _⟩ => ⟨S4096x2048, .bf16⟩
  | .hbm, ⟨15, _⟩ => ⟨S4096x4096, .bf16⟩
  | .hbm, ⟨16, _⟩ => ⟨S4096x2048, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | _, _ => ⟨S4096x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel9Ideal.lean ====
variable {F : FTy → Type} [FloatOps F] [Named F]
def κ : String → Option EReal := fun
  | "scale_log2e" => some (((Real.sqrt 192)⁻¹ * (Real.log 2)⁻¹ : ℝ) : EReal)
  | _ => none
-- ==== Reference9Ideal.lean ====
abbrev S4096x16x128 : Shape := ⟨3, ![4096, 16, 128]⟩
abbrev S4096x16x64 : Shape := ⟨3, ![4096, 16, 64]⟩
abbrev S4096x64 : Shape := ⟨2, ![4096, 64]⟩
abbrev S4096x1x64 : Shape := ⟨3, ![4096, 1, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x16x128, .bf16⟩
  | .hbm, ⟨1, _⟩ => ⟨S4096x16x64, .bf16⟩
  | .hbm, ⟨2, _⟩ => ⟨S4096x16x128, .bf16⟩
  | .hbm, ⟨3, _⟩ => ⟨S4096x64, .bf16⟩
  | .hbm, ⟨4, _⟩ => ⟨S4096x16x128, .bf16⟩
  | .hbm, ⟨5, _⟩ => ⟨S4096x64, .f32⟩
  | .hbm, ⟨6, _⟩ => ⟨S4096x1x64, .f32⟩
  | .hbm, ⟨7, _⟩ => ⟨S4096x16x64, .f32⟩
  | .hbm, ⟨8, _⟩ => ⟨S4096x16x128, .f32⟩
  | .hbm, ⟨9, _⟩ => ⟨S4096x16x64, .f32⟩
  | .hbm, ⟨10, _⟩ => ⟨S4096x16x128, .f32⟩
  | .hbm, ⟨11, _⟩ => ⟨S4096x16x128, .f32⟩
  | .hbm, ⟨12, _⟩ => ⟨S16x4096x4096, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096, .f32⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S16x4096x1, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .f32⟩
  | .hbm, ⟨33, _⟩ => ⟨S16x128x4096, .f32⟩
  | .hbm, ⟨34, _⟩ => ⟨S4096x16x128, .f32⟩
  | .hbm, ⟨35, _⟩ => ⟨S4096x2048, .f32⟩
  | .hbm, ⟨36, _⟩ => ⟨S4096x2048, .bf16⟩
  | _, _ => ⟨S4096x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel10.lean ====
abbrev S8x4096x1992 : Shape := ⟨3, ![8, 4096, 1992]⟩
abbrev S4096x1992 : Shape := ⟨2, ![4096, 1992]⟩
abbrev S8x128x1992 : Shape := ⟨3, ![8, 128, 1992]⟩
abbrev S128x1992 : Shape := ⟨2, ![128, 1992]⟩
abbrev S1x128x1992 : Shape := ⟨3, ![1, 128, 1992]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1992, .bf16⟩
  | .hbm, ⟨1, _⟩ => ⟨S4096x1992, .f32⟩
  | .hbm, ⟨2, _⟩ => ⟨S4096x1992, .f32⟩
  | .hbm, ⟨3, _⟩ => ⟨S4096x1992, .f32⟩
  | .hbm, ⟨4, _⟩ => ⟨S4096x1992, .f32⟩
  | .hbm, ⟨5, _⟩ => ⟨S4096x1992, .f32⟩
  | .hbm, ⟨6, _⟩ => ⟨S4096x1992, .f32⟩
  | .hbm, ⟨7, _⟩ => ⟨S4096x1992, .f32⟩
  | .local _ .vmem, ⟨0, _⟩ => ⟨S8x128x1992, .bf16⟩
  | .local _ .vmem, ⟨1, _⟩ => ⟨S8x128x1992, .bf16⟩
  | .local _ .vmem, ⟨2, _⟩ => ⟨S128x1992, .f32⟩
  | .local _ .vmem, ⟨3, _⟩ => ⟨S128x1992, .f32⟩
  | .local _ .vmem, ⟨4, _⟩ => ⟨S128x1992, .f32⟩
  | .local _ .vmem, ⟨5, _⟩ => ⟨S128x1992, .f32⟩
  | .local _ .vmem, ⟨6, _⟩ => ⟨S128x1992, .f32⟩
  | .local _ .vmem, ⟨7, _⟩ => ⟨S128x1992, .f32⟩
  | .local _ .vmem, ⟨8, _⟩ => ⟨S128x1992, .f32⟩
  | .local _ .vmem, ⟨9, _⟩ => ⟨S128x1992, .f32⟩
  | .local _ .vmem, ⟨10, _⟩ => ⟨S128x1992, .f32⟩
  | .local _ .vmem, ⟨11, _⟩ => ⟨S128x1992, .f32⟩
  | .local _ .vmem, ⟨12, _⟩ => ⟨S128x1992, .f32⟩
  | .local _ .vmem, ⟨13, _⟩ => ⟨S128x1992, .f32⟩
  | .local _ .vmem, ⟨14, _⟩ => ⟨S128x1992, .f32⟩
  | .local _ .vmem, ⟨15, _⟩ => ⟨S128x1992, .f32⟩
  | _, _ => ⟨S8x4096x1992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1992 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1992 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1992 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1992 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1992 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1992 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1992 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
abbrev S8x4096x1992 : Shape := ⟨3, ![8, 4096, 1992]⟩
abbrev S4096x1992 : Shape := ⟨2, ![4096, 1992]⟩
abbrev S8x128x1992 : Shape := ⟨3, ![8, 128, 1992]⟩
abbrev S128x1992 : Shape := ⟨2, ![128, 1992]⟩
abbrev S1x128x1992 : Shape := ⟨3, ![1, 128, 1992]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1992, .bf16⟩
  | .hbm, ⟨1, _⟩ => ⟨S4096x1992, .f32⟩
  | .hbm, ⟨2, _⟩ => ⟨S4096x1992, .f32⟩
  | .hbm, ⟨3, _⟩ => ⟨S4096x1992, .f32⟩
  | .hbm, ⟨4, _⟩ => ⟨S4096x1992, .f32⟩
  | .hbm, ⟨5, _⟩ => ⟨S4096x1992, .f32⟩
  | .hbm, ⟨6, _⟩ => ⟨S4096x1992, .f32⟩
  | .hbm, ⟨7, _⟩ => ⟨S4096x1992, .f32⟩
  | .local _ .vmem, ⟨0, _⟩ => ⟨S8x128x1992, .bf16⟩
  | .local _ .vmem, ⟨1, _⟩ => ⟨S8x128x1992, .bf16⟩
  | .local _ .vmem, ⟨2, _⟩ => ⟨S128x1992, .f32⟩
  | .local _ .vmem, ⟨3, _⟩ => ⟨S128x1992, .f32⟩
  | .local _ .vmem, ⟨4, _⟩ => ⟨S128x1992, .f32⟩
  | .local _ .vmem, ⟨5, _⟩ => ⟨S128x1992, .f32⟩
  | .local _ .vmem, ⟨6, _⟩ => ⟨S128x1992, .f32⟩
  | .local _ .vmem, ⟨7, _⟩ => ⟨S128x1992, .f32⟩
  | .local _ .vmem, ⟨8, _⟩ => ⟨S128x1992, .f32⟩
  | .local _ .vmem, ⟨9, _⟩ => ⟨S128x1992, .f32⟩
  | .local _ .vmem, ⟨10, _⟩ => ⟨S128x1992, .f32⟩
  | .local _ .vmem, ⟨11, _⟩ => ⟨S128x1992, .f32⟩
  | .local _ .vmem, ⟨12, _⟩ => ⟨S128x1992, .f32⟩
  | .local _ .vmem, ⟨13, _⟩ => ⟨S128x1992, .f32⟩
  | .local _ .vmem, ⟨14, _⟩ => ⟨S128x1992, .f32⟩
  | .local _ .vmem, ⟨15, _⟩ => ⟨S128x1992, .f32⟩
  | _, _ => ⟨S8x4096x1992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1992 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1992 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1992 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1992 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1992 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1992 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1992 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x4096x1992 : Shape := ⟨3, ![8, 4096, 1992]⟩
abbrev S4096x1992 : Shape := ⟨2, ![4096, 1992]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1992, .bf16⟩
  | .hbm, ⟨1, _⟩ => ⟨S4096x1992, .f32⟩
  | .hbm, ⟨2, _⟩ => ⟨S4096x1992, .f32⟩
  | .hbm, ⟨3, _⟩ => ⟨S4096x1992, .f32⟩
  | .hbm, ⟨4, _⟩ => ⟨S8x4096x1992, .f32⟩
  | .hbm, ⟨5, _⟩ => ⟨S_, .f32⟩
  | .hbm, ⟨6, _⟩ => ⟨S4096x1992, .f32⟩
  | .hbm, ⟨7, _⟩ => ⟨S_, .f32⟩
  | .hbm, ⟨8, _⟩ => ⟨S4096x1992, .f32⟩
  | .hbm, ⟨9, _⟩ => ⟨S4096x1992, .f32⟩
  | .hbm, ⟨10, _⟩ => ⟨S_, .f32⟩
  | .hbm, ⟨11, _⟩ => ⟨S4096x1992, .f32⟩
  | .hbm, ⟨12, _⟩ => ⟨S4096x1992, .f32⟩
  | .hbm, ⟨13, _⟩ => ⟨S4096x1992, .f32⟩
  | .hbm, ⟨14, _⟩ => ⟨S_, .f32⟩
  | .hbm, ⟨15, _⟩ => ⟨S4096x1992, .f32⟩
  | .hbm, ⟨16, _⟩ => ⟨S4096x1992, .f32⟩
  | .hbm, ⟨17, _⟩ => ⟨S4096x1992, .f32⟩
  | .hbm, ⟨18, _⟩ => ⟨S_, .f32⟩
  | .hbm, ⟨19, _⟩ => ⟨S4096x1992, .f32⟩
  | .hbm, ⟨20, _⟩ => ⟨S4096x1992, .f32⟩
  | .hbm, ⟨21, _⟩ => ⟨S4096x1992, .f32⟩
  | .hbm, ⟨22, _⟩ => ⟨S_, .f32⟩
  | .hbm, ⟨23, _⟩ => ⟨S4096x1992, .f32⟩
  | .hbm, ⟨24, _⟩ => ⟨S4096x1992, .f32⟩
  | .hbm, ⟨25, _⟩ => ⟨S_, .f32⟩
  | .hbm, ⟨26, _⟩ => ⟨S4096x1992, .f32⟩
  | .hbm, ⟨27, _⟩ => ⟨S4096x1992, .f32⟩
  | .hbm, ⟨28, _⟩ => ⟨S4096x1992, .f32⟩
  | .hbm, ⟨29, _⟩ => ⟨S_, .f32⟩
  | .hbm, ⟨30, _⟩ => ⟨S4096x1992, .f32⟩
  | .hbm, ⟨31, _⟩ => ⟨S4096x1992, .f32⟩
  | .hbm, ⟨32, _⟩ => ⟨S4096x1992, .f32⟩
  | .hbm, ⟨33, _⟩ => ⟨S_, .f32⟩
  | .hbm, ⟨34, _⟩ => ⟨S4096x1992, .f32⟩
  | .hbm, ⟨35, _⟩ => ⟨S4096x1992, .f32⟩
  | .hbm, ⟨36, _⟩ => ⟨S4096x1992, .f32⟩
  | .hbm, ⟨37, _⟩ => ⟨S_, .f32⟩
  | .hbm, ⟨38, _⟩ => ⟨S4096x1992, .f32⟩
  | .hbm, ⟨39, _⟩ => ⟨S4096x1992, .f32⟩
  | _, _ => ⟨S8x4096x1992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x1024x384 : Shape := ⟨3, ![8, 1024, 384]⟩
abbrev S1024x384 : Shape := ⟨2, ![1024, 384]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x512x384, .bf16⟩
  | .local _ .vmem, ⟨1, _⟩ => ⟨S8x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
abbrev S8x1024x384 : Shape := ⟨3, ![8, 1024, 384]⟩
abbrev S1024x384 : Shape := ⟨2, ![1024, 384]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x512x384, .bf16⟩
  | .local _ .vmem, ⟨1, _⟩ => ⟨S8x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x1024x384 : Shape := ⟨3, ![8, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x512x512, .bf16⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S8x512x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x512x512, .bf16⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S8x512x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x512x512 : Shape := ⟨3, ![8, 512, 512]⟩
abbrev S512x512 : Shape := ⟨2, ![512, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S8x512x512, .f32⟩
  | .hbm, ⟨5, _⟩ => ⟨S_, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x2048x512 : Shape := ⟨3, ![8, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x512x4096 : Shape := ⟨3, ![8, 512, 4096]⟩
abbrev S512x4096 : Shape := ⟨2, ![512, 4096]⟩
abbrev S8x64x4096 : Shape := ⟨3, ![8, 64, 4096]⟩
abbrev S64x4096 : Shape := ⟨2, ![64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S8x512x4096 : Shape := ⟨3, ![8, 512, 4096]⟩
abbrev S512x4096 : Shape := ⟨2, ![512, 4096]⟩
abbrev S8x64x4096 : Shape := ⟨3, ![8, 64, 4096]⟩
abbrev S64x4096 : Shape := ⟨2, ![64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x512x4096 : Shape := ⟨3, ![8, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x4096x1376 : Shape := ⟨3, ![8, 4096, 1376]⟩
abbrev S4096x1376 : Shape := ⟨2, ![4096, 1376]⟩
abbrev S_ : Shape := ⟨0, ![]⟩
abbrev S8x4096x1408 : Shape := ⟨3, ![8, 4096, 1408]⟩
abbrev S8x128x1408 : Shape := ⟨3, ![8, 128, 1408]⟩
abbrev S128x1376 : Shape := ⟨2, ![128, 1376]⟩
abbrev S1x128x1376 : Shape := ⟨3, ![1, 128, 1376]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1376, .bf16⟩
  | .hbm, ⟨1, _⟩ => ⟨S4096x1376, .f32⟩
  | .hbm, ⟨2, _⟩ => ⟨S4096x1376, .f32⟩
  | .hbm, ⟨3, _⟩ => ⟨S4096x1376, .f32⟩
  | .hbm, ⟨4, _⟩ => ⟨S_, .i32⟩
  | .hbm, ⟨5, _⟩ => ⟨S_, .bf16⟩
  | .hbm, ⟨6, _⟩ => ⟨S8x4096x1408, .bf16⟩
  | .hbm, ⟨7, _⟩ => ⟨S4096x1376, .f32⟩
  | .hbm, ⟨8, _⟩ => ⟨S4096x1376, .f32⟩
  | .hbm, ⟨9, _⟩ => ⟨S4096x1376, .f32⟩
  | .hbm, ⟨10, _⟩ => ⟨S4096x1376, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1376, .f32⟩
  | .local _ .vmem, ⟨3, _⟩ => ⟨S128x1376, .f32⟩
  | .local _ .vmem, ⟨4, _⟩ => ⟨S128x1376, .f32⟩
  | .local _ .vmem, ⟨5, _⟩ => ⟨S128x1376, .f32⟩
  | .local _ .vmem, ⟨6, _⟩ => ⟨S128x1376, .f32⟩
  | .local _ .vmem, ⟨7, _⟩ => ⟨S128x1376, .f32⟩
  | .local _ .vmem, ⟨8, _⟩ => ⟨S128x1376, .f32⟩
  | .local _ .vmem, ⟨9, _⟩ => ⟨S128x1376, .f32⟩
  | .local _ .vmem, ⟨10, _⟩ => ⟨S128x1376, .f32⟩
  | .local _ .vmem, ⟨11, _⟩ => ⟨S128x1376, .f32⟩
  | .local _ .vmem, ⟨12, _⟩ => ⟨S128x1376, .f32⟩
  | .local _ .vmem, ⟨13, _⟩ => ⟨S128x1376, .f32⟩
  | .local _ .vmem, ⟨14, _⟩ => ⟨S128x1376, .f32⟩
  | .local _ .vmem, ⟨15, _⟩ => ⟨S128x1376, .f32⟩
  | _, _ => ⟨S8x4096x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x4096x1376 : Shape := ⟨3, ![8, 4096, 1376]⟩
abbrev S4096x1376 : Shape := ⟨2, ![4096, 1376]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1376, .bf16⟩
  | .hbm, ⟨1, _⟩ => ⟨S4096x1376, .f32⟩
  | .hbm, ⟨2, _⟩ => ⟨S4096x1376, .f32⟩
  | .hbm, ⟨3, _⟩ => ⟨S4096x1376, .f32⟩
  | .hbm, ⟨4, _⟩ => ⟨S8x4096x1376, .f32⟩
  | .hbm, ⟨5, _⟩ => ⟨S_, .f32⟩
  | .hbm, ⟨6, _⟩ => ⟨S4096x1376, .f32⟩
  | .hbm, ⟨7, _⟩ => ⟨S_, .f32⟩
  | .hbm, ⟨8, _⟩ => ⟨S4096x1376, .f32⟩
  | .hbm, ⟨9, _⟩ => ⟨S4096x1376, .f32⟩
  | .hbm, ⟨10, _⟩ => ⟨S_, .f32⟩
  | .hbm, ⟨11, _⟩ => ⟨S4096x1376, .f32⟩
  | .hbm, ⟨12, _⟩ => ⟨S4096x1376, .f32⟩
  | .hbm, ⟨13, _⟩ => ⟨S4096x1376, .f32⟩
  | .hbm, ⟨14, _⟩ => ⟨S_, .f32⟩
  | .hbm, ⟨15, _⟩ => ⟨S4096x1376, .f32⟩
  | .hbm, ⟨16, _⟩ => ⟨S4096x1376, .f32⟩
  | .hbm, ⟨17, _⟩ => ⟨S4096x1376, .f32⟩
  | .hbm, ⟨18, _⟩ => ⟨S_, .f32⟩
  | .hbm, ⟨19, _⟩ => ⟨S4096x1376, .f32⟩
  | .hbm, ⟨20, _⟩ => ⟨S4096x1376, .f32⟩
  | .hbm, ⟨21, _⟩ => ⟨S4096x1376, .f32⟩
  | .hbm, ⟨22, _⟩ => ⟨S_, .f32⟩
  | .hbm, ⟨23, _⟩ => ⟨S4096x1376, .f32⟩
  | .hbm, ⟨24, _⟩ => ⟨S4096x1376, .f32⟩
  | .hbm, ⟨25, _⟩ => ⟨S_, .f32⟩
  | .hbm, ⟨26, _⟩ => ⟨S4096x1376, .f32⟩
  | .hbm, ⟨27, _⟩ => ⟨S4096x1376, .f32⟩
  | .hbm, ⟨28, _⟩ => ⟨S4096x1376, .f32⟩
  | .hbm, ⟨29, _⟩ => ⟨S_, .f32⟩
  | .hbm, ⟨30, _⟩ => ⟨S4096x1376, .f32⟩
  | .hbm, ⟨31, _⟩ => ⟨S4096x1376, .f32⟩
  | .hbm, ⟨32, _⟩ => ⟨S4096x1376, .f32⟩
  | .hbm, ⟨33, _⟩ => ⟨S_, .f32⟩
  | .hbm, ⟨34, _⟩ => ⟨S4096x1376, .f32⟩
  | .hbm, ⟨35, _⟩ => ⟨S4096x1376, .f32⟩
  | .hbm, ⟨36, _⟩ => ⟨S4096x1376, .f32⟩
  | .hbm, ⟨37, _⟩ => ⟨S_, .f32⟩
  | .hbm, ⟨38, _⟩ => ⟨S4096x1376, .f32⟩
  | .hbm, ⟨39, _⟩ => ⟨S4096x1376, .f32⟩
  | _, _ => ⟨S8x4096x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x1376x4096 : Shape := ⟨3, ![8, 1376, 4096]⟩
abbrev S1376x4096 : Shape := ⟨2, ![1376, 4096]⟩
abbrev S_ : Shape := ⟨0, ![]⟩
abbrev S8x1408x4096 : Shape := ⟨3, ![8, 1408, 4096]⟩
abbrev S8x32x4096 : Shape := ⟨3, ![8, 32, 4096]⟩
abbrev S32x4096 : Shape := ⟨2, ![32, 4096]⟩
abbrev S1x32x4096 : Shape := ⟨3, ![1, 32, 4096]⟩

abbrev nBuf : Space → Nat
  | .hbm => 11
  | .vmem => 16
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S_, .i32⟩
  | .hbm, ⟨5, _⟩ => ⟨S_, .bf16⟩
  | .hbm, ⟨6, _⟩ => ⟨S8x1408x4096, .bf16⟩
  | .hbm, ⟨7, _⟩ => ⟨S1376x4096, .f32⟩
  | .hbm, ⟨8, _⟩ => ⟨S1376x4096, .f32⟩
  | .hbm, ⟨9, _⟩ => ⟨S1376x4096, .f32⟩
  | .hbm, ⟨10, _⟩ => ⟨S1376x4096, .f32⟩
  | .local _ .vmem, ⟨0, _⟩ => ⟨S8x32x4096, .bf16⟩
  | .local _ .vmem, ⟨1, _⟩ => ⟨S8x32x4096, .bf16⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S8x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x1376x4096 : Shape := ⟨3, ![8, 1376, 4096]⟩
abbrev S1376x4096 : Shape := ⟨2, ![1376, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S8x1376x4096, .f32⟩
  | .hbm, ⟨5, _⟩ => ⟨S_, .f32⟩
  | .hbm, ⟨6, _⟩ => ⟨S1376x4096, .f32⟩
  | .hbm, ⟨7, _⟩ => ⟨S_, .f32⟩
  | .hbm, ⟨8, _⟩ => ⟨S1376x4096, .f32⟩
  | .hbm, ⟨9, _⟩ => ⟨S1376x4096, .f32⟩
  | .hbm, ⟨10, _⟩ => ⟨S_, .f32⟩
  | .hbm, ⟨11, _⟩ => ⟨S1376x4096, .f32⟩
  | .hbm, ⟨12, _⟩ => ⟨S1376x4096, .f32⟩
  | .hbm, ⟨13, _⟩ => ⟨S1376x4096, .f32⟩
  | .hbm, ⟨14, _⟩ => ⟨S_, .f32⟩
  | .hbm, ⟨15, _⟩ => ⟨S1376x4096, .f32⟩
  | .hbm, ⟨16, _⟩ => ⟨S1376x4096, .f32⟩
  | .hbm, ⟨17, _⟩ => ⟨S1376x4096, .f32⟩
  | .hbm, ⟨18, _⟩ => ⟨S_, .f32⟩
  | .hbm, ⟨19, _⟩ => ⟨S1376x4096, .f32⟩
  | .hbm, ⟨20, _⟩ => ⟨S1376x4096, .f32⟩
  | .hbm, ⟨21, _⟩ => ⟨S1376x4096, .f32⟩
  | .hbm, ⟨22, _⟩ => ⟨S_, .f32⟩
  | .hbm, ⟨23, _⟩ => ⟨S1376x4096, .f32⟩
  | .hbm, ⟨24, _⟩ => ⟨S1376x4096, .f32⟩
  | .hbm, ⟨25, _⟩ => ⟨S_, .f32⟩
  | .hbm, ⟨26, _⟩ => ⟨S1376x4096, .f32⟩
  | .hbm, ⟨27, _⟩ => ⟨S1376x4096, .f32⟩
  | .hbm, ⟨28, _⟩ => ⟨S1376x4096, .f32⟩
  | .hbm, ⟨29, _⟩ => ⟨S_, .f32⟩
  | .hbm, ⟨30, _⟩ => ⟨S1376x4096, .f32⟩
  | .hbm, ⟨31, _⟩ => ⟨S1376x4096, .f32⟩
  | .hbm, ⟨32, _⟩ => ⟨S1376x4096, .f32⟩
  | .hbm, ⟨33, _⟩ => ⟨S_, .f32⟩
  | .hbm, ⟨34, _⟩ => ⟨S1376x4096, .f32⟩
  | .hbm, ⟨35, _⟩ => ⟨S1376x4096, .f32⟩
  | .hbm, ⟨36, _⟩ => ⟨S1376x4096, .f32⟩
  | .hbm, ⟨37, _⟩ => ⟨S_, .f32⟩
  | .hbm, ⟨38, _⟩ => ⟨S1376x4096, .f32⟩
  | .hbm, ⟨39, _⟩ => ⟨S1376x4096, .f32⟩
  | _, _ => ⟨S8x1376x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x1x4096 : Shape := ⟨3, ![8, 1, 4096]⟩
abbrev S1x4096 : Shape := ⟨2, ![1, 4096]⟩
abbrev S1x1x4096 : Shape := ⟨3, ![1, 1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8x1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S8x1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel17Ideal.lean ====
abbrev S8x1x4096 : Shape := ⟨3, ![8, 1, 4096]⟩
abbrev S1x4096 : Shape := ⟨2, ![1, 4096]⟩
abbrev S1x1x4096 : Shape := ⟨3, ![1, 1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8x1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S8x1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x1x4096 : Shape := ⟨3, ![8, 1, 4096]⟩
abbrev S1x4096 : Shape := ⟨2, ![1, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S_, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S_, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S8x1x8192 : Shape := ⟨3, ![8, 1, 8192]⟩
abbrev S1x8192 : Shape := ⟨2, ![1, 8192]⟩
abbrev S1x1x8192 : Shape := ⟨3, ![1, 1, 8192]⟩

abbrev nBuf : Space → Nat
  | .hbm => 8
  | .vmem => 8
  | .smem => 0
  | _ => 0

abbrev bufTy : (tb : Table) → Fin (tcTables nBuf tb) → BufTy
  | .hbm, ⟨0, _⟩ => ⟨S8x1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .local _ .vmem, ⟨0, _⟩ => ⟨S8x1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | _, _ => ⟨S8x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel18Ideal.lean ====
abbrev S8x1x8192 : Shape := ⟨3, ![8, 1, 8192]⟩
abbrev S1x8192 : Shape := ⟨2, ![1, 8192]⟩
abbrev S1x1x8192 : Shape := ⟨3, ![1, 1, 8192]⟩

abbrev nBuf : Space → Nat
  | .hbm => 8
  | .vmem => 8
  | .smem => 0
  | _ => 0

abbrev bufTy : (tb : Table) → Fin (tcTables nBuf tb) → BufTy
  | .hbm, ⟨0, _⟩ => ⟨S8x1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .local _ .vmem, ⟨0, _⟩ => ⟨S8x1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | _, _ => ⟨S8x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x1x8192 : Shape := ⟨3, ![8, 1, 8192]⟩
abbrev S1x8192 : Shape := ⟨2, ![1, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S_, .f32⟩
  | .hbm, ⟨5, _⟩ => ⟨S1x8192, .f32⟩
  | .hbm, ⟨6, _⟩ => ⟨S_, .f32⟩
  | .hbm, ⟨7, _⟩ => ⟨S1x8192, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S1x8192, .f32⟩
  | .hbm, ⟨13, _⟩ => ⟨S_, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S_, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S1x8192, .f32⟩
  | .hbm, ⟨36, _⟩ => ⟨S_, .f32⟩
  | .hbm, ⟨37, _⟩ => ⟨S1x8192, .f32⟩
  | .hbm, ⟨38, _⟩ => ⟨S1x8192, .f32⟩
  | _, _ => ⟨S8x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8x3x256 : Shape := ⟨3, ![8, 3, 256]⟩
abbrev S3x256 : Shape := ⟨2, ![3, 256]⟩
abbrev S1x3x256 : Shape := ⟨3, ![1, 3, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S8x3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S8x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S8x3x256 : Shape := ⟨3, ![8, 3, 256]⟩
abbrev S3x256 : Shape := ⟨2, ![3, 256]⟩
abbrev S1x3x256 : Shape := ⟨3, ![1, 3, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S8x3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S8x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x3x256 : Shape := ⟨3, ![8, 3, 256]⟩
abbrev S3x256 : Shape := ⟨2, ![3, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S_, .f32⟩
  | .hbm, ⟨7, _⟩ => ⟨S3x256, .f32⟩
  | .hbm, ⟨8, _⟩ => ⟨S3x256, .f32⟩
  | .hbm, ⟨9, _⟩ => ⟨S_, .f32⟩
  | .hbm, ⟨10, _⟩ => ⟨S3x256, .f32⟩
  | .hbm, ⟨11, _⟩ => ⟨S3x256, .f32⟩
  | .hbm, ⟨12, _⟩ => ⟨S3x256, .f32⟩
  | .hbm, ⟨13, _⟩ => ⟨S_, .f32⟩
  | .hbm, ⟨14, _⟩ => ⟨S3x256, .f32⟩
  | .hbm, ⟨15, _⟩ => ⟨S3x256, .f32⟩
  | .hbm, ⟨16, _⟩ => ⟨S3x256, .f32⟩
  | .hbm, ⟨17, _⟩ => ⟨S_, .f32⟩
  | .hbm, ⟨18, _⟩ => ⟨S3x256, .f32⟩
  | .hbm, ⟨19, _⟩ => ⟨S3x256, .f32⟩
  | .hbm, ⟨20, _⟩ => ⟨S3x256, .f32⟩
  | .hbm, ⟨21, _⟩ => ⟨S_, .f32⟩
  | .hbm, ⟨22, _⟩ => ⟨S3x256, .f32⟩
  | .hbm, ⟨23, _⟩ => ⟨S3x256, .f32⟩
  | .hbm, ⟨24, _⟩ => ⟨S_, .f32⟩
  | .hbm, ⟨25, _⟩ => ⟨S3x256, .f32⟩
  | .hbm, ⟨26, _⟩ => ⟨S3x256, .f32⟩
  | .hbm, ⟨27, _⟩ => ⟨S3x256, .f32⟩
  | .hbm, ⟨28, _⟩ => ⟨S_, .f32⟩
  | .hbm, ⟨29, _⟩ => ⟨S3x256, .f32⟩
  | .hbm, ⟨30, _⟩ => ⟨S3x256, .f32⟩
  | .hbm, ⟨31, _⟩ => ⟨S3x256, .f32⟩
  | .hbm, ⟨32, _⟩ => ⟨S_, .f32⟩
  | .hbm, ⟨33, _⟩ => ⟨S3x256, .f32⟩
  | .hbm, ⟨34, _⟩ => ⟨S3x256, .f32⟩
  | .hbm, ⟨35, _⟩ => ⟨S3x256, .f32⟩
  | .hbm, ⟨36, _⟩ => ⟨S_, .f32⟩
  | .hbm, ⟨37, _⟩ => ⟨S3x256, .f32⟩
  | .hbm, ⟨38, _⟩ => ⟨S3x256, .f32⟩
  | _, _ => ⟨S8x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x1x512 : Shape := ⟨3, ![8, 1, 512]⟩
abbrev S1x512 : Shape := ⟨2, ![1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S8x1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x1x512 : Shape := ⟨3, ![8, 1, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel23.lean ====
abbrev S4096x2048 : Shape := ⟨2, ![4096, 2048]⟩
abbrev S4096x8192 : Shape := ⟨2, ![4096, 8192]⟩
abbrev S3x2048 : Shape := ⟨2, ![3, 2048]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S3x2048, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S3x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4096x2048 : Shape := ⟨2, ![4096, 2048]⟩
abbrev S4096x8192 : Shape := ⟨2, ![4096, 8192]⟩
abbrev S3x2048 : Shape := ⟨2, ![3, 2048]⟩
abbrev S_ : Shape := ⟨0, ![]⟩
abbrev S1x2048 : Shape := ⟨2, ![1, 2048]⟩
abbrev S4098x2048 : Shape := ⟨2, ![4098, 2048]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S3x2048, .f32⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S1x2048, .f32⟩
  | .hbm, ⟨12, _⟩ => ⟨S4098x2048, .f32⟩
  | .hbm, ⟨13, _⟩ => ⟨S_, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S4096x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S_, .f32⟩
  | .hbm, ⟨53, _⟩ => ⟨S4098x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S3x2048, .f32⟩
  | .hbm, ⟨65, _⟩ => ⟨S3x2048, .f32⟩
  | .hbm, ⟨66, _⟩ => ⟨S_, .f32⟩
  | .hbm, ⟨67, _⟩ => ⟨S4098x2048, .f32⟩
  | .hbm, ⟨68, _⟩ => ⟨S4098x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S3x2048, .f32⟩
  | .hbm, ⟨80, _⟩ => ⟨S3x2048, .f32⟩
  | .hbm, ⟨81, _⟩ => ⟨S_, .f32⟩
  | .hbm, ⟨82, _⟩ => ⟨S4098x2048, .f32⟩
  | .hbm, ⟨83, _⟩ => ⟨S4098x2048, .f32⟩
  | .hbm, ⟨84, _⟩ => ⟨S1x2048, .f32⟩
  | .hbm, ⟨85, _⟩ => ⟨S4096x2048, .f32⟩
  | .hbm, ⟨86, _⟩ => ⟨S1x2048, .f32⟩
  | .hbm, ⟨87, _⟩ => ⟨S4096x2048, .f32⟩
  | .hbm, ⟨88, _⟩ => ⟨S4096x2048, .f32⟩
  | .hbm, ⟨89, _⟩ => ⟨S4096x2048, .bf16⟩
  | .hbm, ⟨90, _⟩ => ⟨S4096x2048, .bf16⟩
  | .hbm, ⟨91, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel24.lean ====
abbrev S4096x4096 : Shape := ⟨2, ![4096, 4096]⟩
abbrev S1x4096 : Shape := ⟨2, ![1, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x1, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x1, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S1x1, .f32⟩
  | .hbm, ⟨69, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel25.lean ====
abbrev S4096x1024 : Shape := ⟨2, ![4096, 1024]⟩
abbrev S1024x3072 : Shape := ⟨2, ![1024, 3072]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S1024x16x192, .bf16⟩
  | .hbm, ⟨5, _⟩ => ⟨S_, .i32⟩
  | .hbm, ⟨6, _⟩ => ⟨S_, .bf16⟩
  | .hbm, ⟨7, _⟩ => ⟨S1024x16x256, .bf16⟩
  | .hbm, ⟨8, _⟩ => ⟨S1024x4096, .bf16⟩
  | .hbm, ⟨9, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩
abbrev S4096x16x64 : Shape := ⟨3, ![4096, 16, 64]⟩
abbrev S4096x16x192 : Shape := ⟨3, ![4096, 16, 192]⟩
abbrev S4096x16x256 : Shape := ⟨3, ![4096, 16, 256]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S_, .f32⟩
  | .hbm, ⟨4, _⟩ => ⟨S4096x16x64, .f32⟩
  | .hbm, ⟨5, _⟩ => ⟨S4096x16x192, .f32⟩
  | .hbm, ⟨6, _⟩ => ⟨S4096x16x256, .f32⟩
  | .hbm, ⟨7, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4096x512 : Shape := ⟨2, ![4096, 512]⟩
abbrev S512x4096 : Shape := ⟨2, ![512, 4096]⟩
abbrev S512x16x2x128 : Shape := ⟨4, ![512, 16, 2, 128]⟩
abbrev S512x2x16x128 : Shape := ⟨4, ![512, 2, 16, 128]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x512, .bf16⟩
  | .hbm, ⟨3, _⟩ => ⟨S512x4096, .bf16⟩
  | .hbm, ⟨4, _⟩ => ⟨S512x16x2x128, .bf16⟩
  | .hbm, ⟨5, _⟩ => ⟨S512x2x16x128, .bf16⟩
  | .hbm, ⟨6, _⟩ => ⟨S512x4096, .bf16⟩
  | .hbm, ⟨7, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x512 : Shape := ⟨2, ![4096, 512]⟩
abbrev S512x4096 : Shape := ⟨2, ![512, 4096]⟩
abbrev S4096x4096 : Shape := ⟨2, ![4096, 4096]⟩
abbrev S4096x16x2x128 : Shape := ⟨4, ![4096, 16, 2, 128]⟩
abbrev S4096x2x16x128 : Shape := ⟨4, ![4096, 2, 16, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x16x2x128, .f32⟩
  | .hbm, ⟨4, _⟩ => ⟨S4096x2x16x128, .f32⟩
  | .hbm, ⟨5, _⟩ => ⟨S4096x4096, .f32⟩
  | .hbm, ⟨6, _⟩ => ⟨S4096x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel27.lean ====
abbrev S4096x1024 : Shape := ⟨2, ![4096, 1024]⟩
abbrev S1024x3072 : Shape := ⟨2, ![1024, 3072]⟩
abbrev S4096x3072 : Shape := ⟨2, ![4096, 3072]⟩
abbrev S4096x16x192 : Shape := ⟨3, ![4096, 16, 192]⟩
abbrev S_ : Shape := ⟨0, ![]⟩
abbrev S4096x16x256 : Shape := ⟨3, ![4096, 16, 256]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S4096x16x192, .bf16⟩
  | .hbm, ⟨6, _⟩ => ⟨S_, .i32⟩
  | .hbm, ⟨7, _⟩ => ⟨S_, .bf16⟩
  | .hbm, ⟨8, _⟩ => ⟨S4096x16x256, .bf16⟩
  | .hbm, ⟨9, _⟩ => ⟨S4096x4096, .bf16⟩
  | .hbm, ⟨10, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S_ : Shape := ⟨0, ![]⟩
abbrev S1024x16x64 : Shape := ⟨3, ![1024, 16, 64]⟩
abbrev S1024x16x192 : Shape := ⟨3, ![1024, 16, 192]⟩
abbrev S1024x16x256 : Shape := ⟨3, ![1024, 16, 256]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S_, .f32⟩
  | .hbm, ⟨7, _⟩ => ⟨S1024x16x64, .f32⟩
  | .hbm, ⟨8, _⟩ => ⟨S1024x16x192, .f32⟩
  | .hbm, ⟨9, _⟩ => ⟨S1024x16x256, .f32⟩
  | .hbm, ⟨10, _⟩ => ⟨S1024x4096, .f32⟩
  | .hbm, ⟨11, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel28.lean ====
abbrev S4096x512 : Shape := ⟨2, ![4096, 512]⟩
abbrev S512x4096 : Shape := ⟨2, ![512, 4096]⟩
abbrev S4096x4096 : Shape := ⟨2, ![4096, 4096]⟩
abbrev S4096x16x2x128 : Shape := ⟨4, ![4096, 16, 2, 128]⟩
abbrev S4096x2x16x128 : Shape := ⟨4, ![4096, 2, 16, 128]⟩
abbrev S4096x1024 : Shape := ⟨2, ![4096, 1024]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x512, .bf16⟩
  | .hbm, ⟨4, _⟩ => ⟨S4096x4096, .bf16⟩
  | .hbm, ⟨5, _⟩ => ⟨S4096x16x2x128, .bf16⟩
  | .hbm, ⟨6, _⟩ => ⟨S4096x2x16x128, .bf16⟩
  | .hbm, ⟨7, _⟩ => ⟨S4096x4096, .bf16⟩
  | .hbm, ⟨8, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x512 : Shape := ⟨2, ![4096, 512]⟩
abbrev S512x4096 : Shape := ⟨2, ![512, 4096]⟩
abbrev S4096x4096 : Shape := ⟨2, ![4096, 4096]⟩
abbrev S512x16x2x128 : Shape := ⟨4, ![512, 16, 2, 128]⟩
abbrev S512x2x16x128 : Shape := ⟨4, ![512, 2, 16, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | .hbm, ⟨5, _⟩ => ⟨S512x4096, .f32⟩
  | .hbm, ⟨6, _⟩ => ⟨S512x16x2x128, .f32⟩
  | .hbm, ⟨7, _⟩ => ⟨S512x2x16x128, .f32⟩
  | .hbm, ⟨8, _⟩ => ⟨S512x4096, .f32⟩
  | .hbm, ⟨9, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x1024 : Shape := ⟨2, ![4096, 1024]⟩
abbrev S1024x3072 : Shape := ⟨2, ![1024, 3072]⟩
abbrev S4096x3072 : Shape := ⟨2, ![4096, 3072]⟩
abbrev S4096x16x192 : Shape := ⟨3, ![4096, 16, 192]⟩
abbrev S_ : Shape := ⟨0, ![]⟩
abbrev S4096x16x256 : Shape := ⟨3, ![4096, 16, 256]⟩
abbrev S4096x4096 : Shape := ⟨2, ![4096, 4096]⟩
abbrev S1024x16x192 : Shape := ⟨3, ![1024, 16, 192]⟩
abbrev S1024x16x256 : Shape := ⟨3, ![1024, 16, 256]⟩
abbrev S1024x4096 : Shape := ⟨2, ![1024, 4096]⟩
abbrev S1024x1024 : Shape := ⟨2, ![1024, 1024]⟩

abbrev nBuf : Space → Nat
  | .hbm => 16
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | .hbm, ⟨4, _⟩ => ⟨S4096x16x192, .bf16⟩
  | .hbm, ⟨5, _⟩ => ⟨S_, .i32⟩
  | .hbm, ⟨6, _⟩ => ⟨S_, .bf16⟩
  | .hbm, ⟨7, _⟩ => ⟨S4096x16x256, .bf16⟩
  | .hbm, ⟨8, _⟩ => ⟨S4096x4096, .bf16⟩
  | .hbm, ⟨9, _⟩ => ⟨S1024x3072, .bf16⟩
  | .hbm, ⟨10, _⟩ => ⟨S1024x16x192, .bf16⟩
  | .hbm, ⟨11, _⟩ => ⟨S_, .i32⟩
  | .hbm, ⟨12, _⟩ => ⟨S_, .bf16⟩
  | .hbm, ⟨13, _⟩ => ⟨S1024x16x256, .bf16⟩
  | .hbm, ⟨14, _⟩ => ⟨S1024x4096, .bf16⟩
  | .hbm, ⟨15, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel30.lean ====
abbrev S4096x512 : Shape := ⟨2, ![4096, 512]⟩
abbrev S512x4096 : Shape := ⟨2, ![512, 4096]⟩
abbrev S4096x4096 : Shape := ⟨2, ![4096, 4096]⟩
abbrev S4096x16x2x128 : Shape := ⟨4, ![4096, 16, 2, 128]⟩
abbrev S4096x2x16x128 : Shape := ⟨4, ![4096, 2, 16, 128]⟩
abbrev S512x16x2x128 : Shape := ⟨4, ![512, 16, 2, 128]⟩
abbrev S512x2x16x128 : Shape := ⟨4, ![512, 2, 16, 128]⟩
abbrev S1024x4096 : Shape := ⟨2, ![1024, 4096]⟩
abbrev S1024x512 : Shape := ⟨2, ![1024, 512]⟩

abbrev nBuf : Space → Nat
  | .hbm => 12
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .bf16⟩
  | .hbm, ⟨4, _⟩ => ⟨S4096x16x2x128, .bf16⟩
  | .hbm, ⟨5, _⟩ => ⟨S4096x2x16x128, .bf16⟩
  | .hbm, ⟨6, _⟩ => ⟨S4096x4096, .bf16⟩
  | .hbm, ⟨7, _⟩ => ⟨S512x4096, .bf16⟩
  | .hbm, ⟨8, _⟩ => ⟨S512x16x2x128, .bf16⟩
  | .hbm, ⟨9, _⟩ => ⟨S512x2x16x128, .bf16⟩
  | .hbm, ⟨10, _⟩ => ⟨S512x4096, .bf16⟩
  | .hbm, ⟨11, _⟩ => ⟨S4096x512, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | .hbm, ⟨5, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Softmax.lean ====
/-
  One row of the softmax and of its gradient on the extended reals: the kernel's spelling (the unscaled scores, `exp2`
  with the scale folded with `1 / ln 2`, the denominator's inverse factored out) and the reference's (scores divided by
  `√192`, `exp`, a quotient for each probability) are one function where the scores are real numbers. The gradient of the
  probabilities and the values may be any extended reals.
-/
module

public import Idealize.ShloMosaic.Lib.Pointwise
public import Idealize.ShloMosaic.Init

@[expose] public section

noncomputable section

namespace Cert.Softmax

open Idealize.ShloMosaic

/-! ## Sums of extended reals -/

/-- A sum of real numbers is their sum as extended reals. -/
theorem coe_sum {ι : Type} (u : Finset ι) (g : ι → ℝ) : ((∑ i ∈ u, g i : ℝ) : EReal) = ∑ i ∈ u, (g i : EReal) :=
  map_sum (⟨⟨Real.toEReal, EReal.coe_zero⟩, EReal.coe_add⟩ : ℝ →+ EReal) g u

/-- A sum of numbers each of which is real is a real number. -/
theorem sum_real {ι : Type} [Fintype ι] (f : ι → EReal) (h : ∀ i, ∃ x : ℝ, f i = x) : ∃ x : ℝ, ∑ i, f i = x := by
  choose g hg using h
  refine ⟨∑ i, g i, ?_⟩
  rw [coe_sum]
  exact Finset.sum_congr rfl fun i _ => hg i

/-- A real factor that is not negative goes into a sum of extended reals. -/
theorem mul_sum_of_nonneg {ι : Type} (u : Finset ι) (f : ι → EReal) {a : ℝ} (ha : 0 ≤ a) :
    (a : EReal) * ∑ i ∈ u, f i = ∑ i ∈ u, (a : EReal) * f i := by
  classical
  induction u using Finset.induction_on with
  | empty => simp
  | insert i u hi ih =>
    rw [Finset.sum_insert hi, Finset.sum_insert hi, ← ih]
    exact EReal.left_distrib_of_nonneg_of_ne_top (by exact_mod_cast ha) (EReal.coe_ne_top a) _ _

/-! ## The largest of finitely many real numbers -/

/-- The fold of `max` from `⊥` over real numbers is the one that no other exceeds. -/
theorem fold_max_eq {n : ℕ} (f : Fin n → EReal) (k₀ : Fin n) (h : ∀ k, f k ≤ f k₀) :
    Finset.univ.fold max ⊥ f = f k₀ := by
  apply le_antisymm
  · rw [Finset.fold_max_le]
    exact ⟨bot_le, fun k _ => h k⟩
  · rw [Finset.le_fold_max]
    exact Or.inr ⟨k₀, Finset.mem_univ _, le_rfl⟩

/-! ## The two spellings -/

/-- `1 / √192`, the scale of the scores. -/
def scale : ℝ := (Real.sqrt 192)⁻¹

theorem scale_pos : 0 < scale := inv_pos.mpr (Real.sqrt_pos.mpr (by norm_num))

/-- The kernel's exponential of one row's score: base two, the scale and `1 / ln 2` one factor. -/
def kE {n : ℕ} (s : Fin n → EReal) (k : Fin n) : EReal :=
  Ideal.exp2 ((s k - Finset.univ.fold max ⊥ s) * (((Real.sqrt 192)⁻¹ * (Real.log 2)⁻¹ : ℝ) : EReal))

/-- The kernel's inverse of the row's denominator. -/
def kInv {n : ℕ} (s : Fin n → EReal) : EReal := Ideal.div 1 (∑ k, kE s k)

/-- The kernel's gradient of one score from the row's scores and its gradients of the probabilities. -/
def kDs {n : ℕ} (s dp : Fin n → EReal) (k : Fin n) : EReal :=
  kE s k * ((dp k - kInv s * ∑ j, kE s j * dp j) * (((Real.sqrt 192)⁻¹ : ℝ) * kInv s))

/-- The reference's score: divided by `√192`. -/
def rS {n : ℕ} (s : Fin n → EReal) (k : Fin n) : EReal := Ideal.div (s k) ((Real.sqrt 192 : ℝ) : EReal)

/-- The reference's exponential of one score less the row's largest. -/
def rE {n : ℕ} (s : Fin n → EReal) (k : Fin n) : EReal := Ideal.exp (rS s k - Finset.univ.fold max ⊥ (rS s))

/-- The reference's probability. -/
def rP {n : ℕ} (s : Fin n → EReal) (k : Fin n) : EReal := Ideal.div (rE s k) (∑ j, rE s j)

/-- The reference's gradient of one score: what differentiating the quotient and the exponential gives. -/
def rDs {n : ℕ} (s dp : Fin n → EReal) (k : Fin n) : EReal :=
  Ideal.div ((Ideal.div (dp k) (∑ j, rE s j)
    + -(∑ j, dp j * Ideal.div 1 ((∑ i, rE s i) * (∑ i, rE s i)) * rE s j)) * rE s k) ((Real.sqrt 192 : ℝ) : EReal)

/-- What both spellings are in real numbers: positive exponentials and their positive sum. -/
theorem row_real {n : ℕ} [NeZero n] (s : Fin n → EReal) (hs : ∀ k, ∃ x : ℝ, s k = x) :
    ∃ e : Fin n → ℝ, (∀ k, 0 < e k) ∧ (∀ k, kE s k = e k) ∧ (∀ k, rE s k = e k) ∧ 0 < ∑ k, e k := by
  choose x hx using hs
  obtain rfl : s = fun k => ((x k : ℝ) : EReal) := funext hx
  obtain ⟨k₀, hk₀⟩ := Finite.exists_max x
  have hr : (0 : ℝ) < Real.sqrt 192 := Real.sqrt_pos.mpr (by norm_num)
  have h2 : (0 : ℝ) < Real.log 2 := Real.log_pos (by norm_num)
  have hrS : ∀ k, rS (fun k => ((x k : ℝ) : EReal)) k = ((x k * (1 / Real.sqrt 192) : ℝ) : EReal) := fun k => by
    rw [rS, Ideal.div_coe hr.ne', EReal.coe_mul]
  refine ⟨fun k => Real.exp ((x k - x k₀) / Real.sqrt 192), fun k => Real.exp_pos _, fun k => ?_, fun k => ?_,
    Finset.sum_pos (fun k _ => Real.exp_pos _) ⟨k₀, Finset.mem_univ _⟩⟩
  · rw [kE, fold_max_eq _ k₀ (fun k => by exact_mod_cast hk₀ k), ← EReal.coe_sub, ← EReal.coe_mul, Ideal.exp2_coe]
    congr 1
    show (2 : ℝ) ^ (_ : ℝ) = Real.exp ((x k - x k₀) / Real.sqrt 192)
    rw [Real.rpow_def_of_pos (by norm_num)]
    congr 1
    field_simp
  · rw [rE, fold_max_eq _ k₀ (fun k => by
      rw [hrS, hrS]
      exact_mod_cast mul_le_mul_of_nonneg_right (hk₀ k) (by positivity)), hrS, hrS, ← EReal.coe_sub, Ideal.exp_coe]
    congr 2
    ring

/-- The kernel's value factor is the reference's probability: `e · (o · (1/l)) = o · (e / l)`. -/
theorem dv_eq {n : ℕ} [NeZero n] (s : Fin n → EReal) (hs : ∀ k, ∃ x : ℝ, s k = x) (k : Fin n) (o : EReal) :
    kE s k * (o * kInv s) = o * rP s k := by
  obtain ⟨e, -, hk, hr, hl⟩ := row_real s hs
  simp only [kInv, rP, hk, hr, ← coe_sum]
  rw [Ideal.div_coe hl.ne', Ideal.div_coe hl.ne', one_mul, mul_left_comm]

/-- The kernel's gradient of a score is the reference's. -/
theorem ds_eq {n : ℕ} [NeZero n] (s dp : Fin n → EReal) (hs : ∀ k, ∃ x : ℝ, s k = x) (k : Fin n) :
    kDs s dp k = rDs s dp k := by
  obtain ⟨e, he, hk, hr, hl⟩ := row_real s hs
  have hq : (0 : ℝ) < Real.sqrt 192 := Real.sqrt_pos.mpr (by norm_num)
  have ha : (0 : ℝ) ≤ 1 / ∑ j, e j := by positivity
  simp only [kDs, rDs, kInv, hk, hr, ← coe_sum]
  rw [Ideal.div_coe hl.ne', Ideal.div_coe hl.ne', ← EReal.coe_mul, Ideal.div_coe (mul_pos hl hl).ne', Ideal.div_coe hq.ne', one_mul]
  have hT : ∑ j, dp j * (1 * ((1 / ((∑ i, e i) * ∑ i, e i) : ℝ) : EReal)) * (e j : EReal)
      = ((1 / ∑ j, e j : ℝ) : EReal) * (((1 / ∑ j, e j : ℝ) : EReal) * ∑ j, (e j : EReal) * dp j) := by
    rw [mul_sum_of_nonneg _ _ ha, mul_sum_of_nonneg _ _ ha]
    refine Finset.sum_congr rfl fun j _ => ?_
    rw [one_mul, show (1 / ((∑ i, e i) * ∑ i, e i) : ℝ) = (1 / ∑ i, e i) * (1 / ∑ i, e i) by rw [div_mul_div_comm, one_mul],
      EReal.coe_mul]
    ac_rfl
  rw [hT, ← mul_neg, mul_comm (dp k), ← EReal.left_distrib_of_nonneg_of_ne_top (by exact_mod_cast ha) (EReal.coe_ne_top _),
    ← sub_eq_add_neg, one_div (Real.sqrt 192)]
  generalize dp k - _ = d
  rw [mul_assoc, mul_comm _ (_ * _)]
  ac_rfl

end Cert.Softmax

end
-- ==== Proof.Block.lean ====
/-
  One block of the kernel's backward attention call, entry by entry at `Ideal`: the exponentials of 256 query rows against
  one head's 4096 keys, the rows' inverse denominators, the gradients of the scores, and the three products taken of them.
-/
module

public import proofs.«01_k».proof.Proof.Softmax
public import proofs.«01_k».proof.Proof.Gen.KernelIdeal.Skeleton
public import Idealize.ShloMosaic.Lib.Pipeline.ValueKit

@[expose] public section

set_option maxRecDepth 16384

noncomputable section

namespace Cert.KernelIdeal.Block

open Idealize.ShloMosaic Cert.KernelIdeal Cert.KernelIdeal.Gen Cert.Softmax

/-- The scores of one row of a query block against every key of a key block, not yet scaled. -/
def score (q : FVec Ideal S256x256 .bf16) (k : FVec Ideal S4096x256 .bf16) (r : Fin 256) (j : Fin 4096) : EReal :=
  ∑ l : Fin 256, q (ix2 r l) * k (ix2 j l)

/-- The gradients of one row's probabilities: the gradient of the output against every value row. -/
def dprob (o : FVec Ideal S256x128 .bf16) (v : FVec Ideal S4096x128 .bf16) (r : Fin 256) (j : Fin 4096) : EReal :=
  ∑ l : Fin 128, o (ix2 r l) * v (ix2 j l)

theorem named_scale_log2e :
    Named.named (F := Ideal) Cert.KernelIdeal.κ "scale_log2e" (φ := .f32) 0x3DD53B95#32
      = (((Real.sqrt 192)⁻¹ * (Real.log 2)⁻¹ : ℝ) : EReal) :=
  IdealRules.named_const.ideal_named_scalar _ _ _ _ rfl

theorem named_softmax_scale :
    Named.named (F := Ideal) Cert.KernelIdeal.κ "softmax_scale" (φ := .f32) 0x3D93CD3A#32
      = (((Real.sqrt 192)⁻¹ : ℝ) : EReal) :=
  IdealRules.named_const.ideal_named_scalar _ _ _ _ rfl

/-- The block of exponentials. -/
theorem pay7_apply (q : FVec Ideal S256x256 .bf16) (k : FVec Ideal S4096x256 .bf16) (r : Fin 256) (j : Fin 4096) :
    k0_pay7 (F := Ideal) q k (ix2 r j) = kE (score q k r) j := by
  pointwise [k0_pay7, k0_pay5, k0_pay6, named_scale_log2e, kE]
  rfl

/-- The rows' inverse denominators. -/
theorem pay8_apply (q : FVec Ideal S256x256 .bf16) (k : FVec Ideal S4096x256 .bf16) (r : Fin 256) (z : Fin 1) :
    k0_pay8 (F := Ideal) q k (ix2 r z) = kInv (score q k r) := by
  pointwise [k0_pay8, pay7_apply, kInv]

/-- The block of gradients of the scores. -/
theorem pay9_apply (q : FVec Ideal S256x256 .bf16) (k : FVec Ideal S4096x256 .bf16) (o : FVec Ideal S256x128 .bf16)
    (v : FVec Ideal S4096x128 .bf16) (r : Fin 256) (j : Fin 4096) :
    k0_pay9 (F := Ideal) q k o v (ix2 r j) = kDs (score q k r) (dprob o v r) j := by
  pointwise [k0_pay9, pay7_apply, pay8_apply, named_softmax_scale, kDs]
  rfl

/-- The block of the queries' gradient. -/
theorem pay10_apply (q : FVec Ideal S256x256 .bf16) (k : FVec Ideal S4096x256 .bf16) (o : FVec Ideal S256x128 .bf16)
    (v : FVec Ideal S4096x128 .bf16) (r l : Fin 256) :
    k0_pay10 (F := Ideal) q k o v (ix2 r l) = ∑ j : Fin 4096, kDs (score q k r) (dprob o v r) j * k (ix2 j l) := by
  pointwise [k0_pay10, pay9_apply, k0_pay6]

/-- The keys' gradient so far with one query block's share added. -/
theorem pay1_apply (q : FVec Ideal S256x256 .bf16) (k : FVec Ideal S4096x256 .bf16) (o : FVec Ideal S256x128 .bf16)
    (v : FVec Ideal S4096x128 .bf16) (acc : FVec Ideal S4096x256 .f32) (j : Fin 4096) (l : Fin 256) :
    k0_pay1 (F := Ideal) (k0_pay5 q) (k0_pay9 q k o v) acc (ix2 j l)
      = acc (ix2 j l) + ∑ r : Fin 256, kDs (score q k r) (dprob o v r) j * q (ix2 r l) := by
  pointwise [k0_pay1, pay9_apply, k0_pay5]

/-- The values' gradient so far with one query block's share added. -/
theorem pay2_apply (q : FVec Ideal S256x256 .bf16) (k : FVec Ideal S4096x256 .bf16) (o : FVec Ideal S256x128 .bf16)
    (acc : FVec Ideal S4096x128 .f32) (j : Fin 4096) (l : Fin 128) :
    k0_pay2 (F := Ideal) o (k0_pay7 q k) (k0_pay8 q k) acc (ix2 j l)
      = acc (ix2 j l) + ∑ r : Fin 256, kE (score q k r) j * (o (ix2 r l) * kInv (score q k r)) := by
  pointwise [k0_pay2, pay7_apply, pay8_apply]

end Cert.KernelIdeal.Block

end
-- ==== Proof.Arrays.lean ====
/-
  The gradients of attention as functions of the six arguments, and the kernel's operands read as the arguments' entries:
  each head's query and key columns are the argument's nope columns, its rope columns and zeros.
-/
module

public import proofs.«01_k».proof.Proof.Block
public import proofs.«01_k».proof.Proof.Gen.KernelIdeal.Value

@[expose] public section

set_option maxRecDepth 16384

noncomputable section

namespace Cert.KernelIdeal.Block

open Idealize.ShloMosaic Idealize.ShloMosaic.TcCoe Cert.KernelIdeal Cert.KernelIdeal.Gen Cert.Softmax

/-! ## Attention's gradients, entry by entry -/

/-- Entry `l` of head `h` of row `q` of the padded queries: the nope columns, the rope columns, zeros. -/
def qAt (qn : FVec Ideal S4096x16x128 .bf16) (qr : FVec Ideal S4096x16x64 .bf16) (h : Fin 16) (q : Fin 4096) (l : Fin 256) : EReal :=
  if h₁ : (l : ℕ) < 128 then qn (ix3 q h ⟨l, h₁⟩) else if h₂ : (l : ℕ) - 128 < 64 then qr (ix3 q h ⟨l - 128, h₂⟩) else 0

/-- The same of the padded keys; the rotary key is one for all heads. -/
def kAt (kn : FVec Ideal S4096x16x128 .bf16) (kr : FVec Ideal S4096x64 .bf16) (h : Fin 16) (k : Fin 4096) (l : Fin 256) : EReal :=
  if h₁ : (l : ℕ) < 128 then kn (ix3 k h ⟨l, h₁⟩) else if h₂ : (l : ℕ) - 128 < 64 then kr (ix2 k ⟨l - 128, h₂⟩) else 0

/-- Entry `l` of head `h` of row `q` of the output's gradient, whose columns are the heads side by side. -/
def oAt (o : FVec Ideal S4096x2048 .bf16) (h : Fin 16) (q : Fin 4096) (l : Fin 128) : EReal := o (ix2 q ⟨h * 128 + l, by omega⟩)

/-- The scores of query row `q` against every key, not scaled. -/
def sAt (qn : FVec Ideal S4096x16x128 .bf16) (qr : FVec Ideal S4096x16x64 .bf16) (kn : FVec Ideal S4096x16x128 .bf16)
    (kr : FVec Ideal S4096x64 .bf16) (h : Fin 16) (q k : Fin 4096) : EReal :=
  ∑ l : Fin 256, qAt qn qr h q l * kAt kn kr h k l

/-- The gradients of row `q`'s probabilities. -/
def dpAt (v : FVec Ideal S4096x16x128 .bf16) (o : FVec Ideal S4096x2048 .bf16) (h : Fin 16) (q k : Fin 4096) : EReal :=
  ∑ l : Fin 128, oAt o h q l * v (ix3 k h l)

/-! ## The operands -/

variable (m : (ℓ : Loc nD τ sig) → Buf (Elt Ideal) ℓ) (c : Dev nD)

theorem idx : ∀ t : Fin cfg0.N, win0_0.index t = ![t.val % 16, t.val / 16] ∧ win0_1.index t = ![0, t.val / 16]
    ∧ win0_2.index t = ![0, 16 + t.val / 16] ∧ win0_3.index t = ![t.val % 16, t.val / 16]
    ∧ win0_4.index t = ![t.val % 16, t.val / 16] ∧ win0_5.index t = ![0, t.val / 16] ∧ win0_6.index t = ![0, t.val / 16] :=
  (by decide +kernel : ∀ t : Fin grid0.N, _)

/-- What the host leaves as padded queries. -/
theorem host_q : V m c main_v4 = shapeCast _ (concatenate S4096x16x256 2
    [⟨S4096x16x128, (m (c.tc.loc main_arg0) : FVec Ideal S4096x16x128 .bf16)⟩, ⟨S4096x16x64, (m (c.tc.loc main_arg1) : FVec Ideal S4096x16x64 .bf16)⟩,
      ⟨S4096x16x64, broadcastInDim S4096x16x64 ![] bcast_S_S4096x16x64 (constant (F := Ideal) S_ .bf16 0x0000#16)⟩]
    concatenates_S4096x16x128_S4096x16x64_S4096x16x64_S4096x16x256_d2) shapeCasts_S4096x16x256_S4096x4096 := by
  unfold_abbrev_sides
  after_results_simp <;> (try dsimp only [Matrix.cons_val]) <;> (try after_results_simp) <;> rfl

/-- What the host leaves as padded keys. -/
theorem host_k : V m c main_v6 = shapeCast _ (concatenate S4096x16x256 2
    [⟨S4096x16x128, (m (c.tc.loc main_arg2) : FVec Ideal S4096x16x128 .bf16)⟩,
      ⟨S4096x16x64, broadcastInDim S4096x16x64 ![0, 1, 2] bcast_S4096x1x64_S4096x16x64_0_1_2
        (broadcastInDim S4096x1x64 ![0, 2] bcast_S4096x64_S4096x1x64_0_2 (m (c.tc.loc main_arg3) : FVec Ideal S4096x64 .bf16))⟩,
      ⟨S4096x16x64, broadcastInDim S4096x16x64 ![] bcast_S_S4096x16x64 (constant (F := Ideal) S_ .bf16 0x0000#16)⟩]
    concatenates_S4096x16x128_S4096x16x64_S4096x16x64_S4096x16x256_d2) shapeCasts_S4096x16x256_S4096x4096 := by
  unfold_abbrev_sides
  after_results_simp <;> (try dsimp only [Matrix.cons_val]) <;> (try after_results_simp) <;> rfl

/-- The padded queries the call is given, entry by entry. -/
theorem entry_q (q : Fin 4096) (h : Fin 16) (l : Fin 256) :
    (V m c main_v4 : FVec Ideal S4096x4096 .bf16) (ix2 q ⟨h * 256 + l, by omega⟩)
      = qAt (m (c.tc.loc main_arg0)) (m (c.tc.loc main_arg1)) h q l := by
  rw [host_q]
  generalize m (c.tc.loc main_arg0) = qn
  generalize m (c.tc.loc main_arg1) = qr
  pointwise
  rfl

/-- The padded keys. -/
theorem entry_k (k : Fin 4096) (h : Fin 16) (l : Fin 256) :
    (V m c main_v6 : FVec Ideal S4096x4096 .bf16) (ix2 k ⟨h * 256 + l, by omega⟩)
      = kAt (m (c.tc.loc main_arg2)) (m (c.tc.loc main_arg3)) h k l := by
  rw [host_k]
  generalize m (c.tc.loc main_arg2) = kn
  generalize m (c.tc.loc main_arg3) = kr
  pointwise
  rfl

/-- The values: the second half of the joined keys and values. -/
theorem entry_v (k : Fin 4096) (h : Fin 16) (l : Fin 128) :
    (V m c main_v9 : FVec Ideal S4096x4096 .bf16) (ix2 k ⟨(16 + h) * 128 + l, by omega⟩)
      = (m (c.tc.loc main_arg4) : FVec Ideal S4096x16x128 .bf16) (ix3 k h l) := by
  entry_read
  pointwise
  rw [dif_neg (by omega)]
  blk_ext

end Cert.KernelIdeal.Block

end
-- ==== Proof.Results.lean ====
/-
  What the kernel's three result arrays hold after the grid's 256 points: the queries' gradient block by block, the keys'
  and the values' gradients summed over each head's sixteen query blocks.
-/
module

public import proofs.«01_k».proof.Proof.Arrays

@[expose] public section

set_option maxRecDepth 16384

noncomputable section

namespace Cert.KernelIdeal.Block

open Idealize.ShloMosaic Idealize.ShloMosaic.TcCoe Cert.KernelIdeal Cert.KernelIdeal.Gen Cert.Softmax

/-! ## The three gradients -/

/-- The kernel's gradient of one score. -/
def dsAt (qn : FVec Ideal S4096x16x128 .bf16) (qr : FVec Ideal S4096x16x64 .bf16) (kn : FVec Ideal S4096x16x128 .bf16)
    (kr : FVec Ideal S4096x64 .bf16) (v : FVec Ideal S4096x16x128 .bf16) (o : FVec Ideal S4096x2048 .bf16)
    (h : Fin 16) (q k : Fin 4096) : EReal :=
  kDs (sAt qn qr kn kr h q) (dpAt v o h q) k

/-- The padded queries' gradient. -/
def gradQ (qn : FVec Ideal S4096x16x128 .bf16) (qr : FVec Ideal S4096x16x64 .bf16) (kn : FVec Ideal S4096x16x128 .bf16)
    (kr : FVec Ideal S4096x64 .bf16) (v : FVec Ideal S4096x16x128 .bf16) (o : FVec Ideal S4096x2048 .bf16) :
    FVec Ideal S4096x4096 .f32 := fun x =>
  ∑ k : Fin 4096, dsAt qn qr kn kr v o ⟨x 1 / 256, by have := (x 1).isLt; show (x 1).val / 256 < 16; simp at this; omega⟩ (x 0) k
    * kAt kn kr ⟨x 1 / 256, by have := (x 1).isLt; show (x 1).val / 256 < 16; simp at this; omega⟩ k ⟨x 1 % 256, Nat.mod_lt _ (by norm_num)⟩

/-- The padded keys' gradient. -/
def gradK (qn : FVec Ideal S4096x16x128 .bf16) (qr : FVec Ideal S4096x16x64 .bf16) (kn : FVec Ideal S4096x16x128 .bf16)
    (kr : FVec Ideal S4096x64 .bf16) (v : FVec Ideal S4096x16x128 .bf16) (o : FVec Ideal S4096x2048 .bf16) :
    FVec Ideal S4096x4096 .f32 := fun x =>
  ∑ q : Fin 4096, dsAt qn qr kn kr v o ⟨x 1 / 256, by have := (x 1).isLt; show (x 1).val / 256 < 16; simp at this; omega⟩ q (x 0)
    * qAt qn qr ⟨x 1 / 256, by have := (x 1).isLt; show (x 1).val / 256 < 16; simp at this; omega⟩ q ⟨x 1 % 256, Nat.mod_lt _ (by norm_num)⟩

/-- The values' gradient. -/
def gradV (qn : FVec Ideal S4096x16x128 .bf16) (qr : FVec Ideal S4096x16x64 .bf16) (kn : FVec Ideal S4096x16x128 .bf16)
    (kr : FVec Ideal S4096x64 .bf16) (o : FVec Ideal S4096x2048 .bf16) : FVec Ideal S4096x2048 .f32 := fun x =>
  ∑ q : Fin 4096, kE (sAt qn qr kn kr ⟨x 1 / 128, by have := (x 1).isLt; show (x 1).val / 128 < 16; simp at this; omega⟩ q) (x 0)
    * (o (ix2 q (x 1)) * kInv (sAt qn qr kn kr ⟨x 1 / 128, by have := (x 1).isLt; show (x 1).val / 128 < 16; simp at this; omega⟩ q))

/-- The queries' gradient at row `q`, column `l` of head `h`. -/
theorem gradQ_at (qn : FVec Ideal S4096x16x128 .bf16) (qr : FVec Ideal S4096x16x64 .bf16) (kn : FVec Ideal S4096x16x128 .bf16)
    (kr : FVec Ideal S4096x64 .bf16) (v : FVec Ideal S4096x16x128 .bf16) (o : FVec Ideal S4096x2048 .bf16)
    (x : S4096x4096.Idx) (h : Fin 16) (q : Fin 4096) (l : Fin 256) (h0 : (x 0 : ℕ) = q) (h1 : (x 1 : ℕ) = h * 256 + l) :
    gradQ qn qr kn kr v o x = ∑ k : Fin 4096, dsAt qn qr kn kr v o h q k * kAt kn kr h k l := by
  have e0 : x 0 = q := Fin.ext h0
  have e1 : (⟨x 1 / 256, by omega⟩ : Fin 16) = h := Fin.ext (by show (x 1 : ℕ) / 256 = h; omega)
  have e2 : (⟨x 1 % 256, Nat.mod_lt _ (by norm_num)⟩ : Fin 256) = l := Fin.ext (by show (x 1 : ℕ) % 256 = l; omega)
  simp only [gradQ, e0, e1, e2]

/-- The keys' gradient at row `k`, column `l` of head `h`. -/
theorem gradK_at (qn : FVec Ideal S4096x16x128 .bf16) (qr : FVec Ideal S4096x16x64 .bf16) (kn : FVec Ideal S4096x16x128 .bf16)
    (kr : FVec Ideal S4096x64 .bf16) (v : FVec Ideal S4096x16x128 .bf16) (o : FVec Ideal S4096x2048 .bf16)
    (x : S4096x4096.Idx) (h : Fin 16) (k : Fin 4096) (l : Fin 256) (h0 : (x 0 : ℕ) = k) (h1 : (x 1 : ℕ) = h * 256 + l) :
    gradK qn qr kn kr v o x = ∑ q : Fin 4096, dsAt qn qr kn kr v o h q k * qAt qn qr h q l := by
  have e0 : x 0 = k := Fin.ext h0
  have e1 : (⟨x 1 / 256, by omega⟩ : Fin 16) = h := Fin.ext (by show (x 1 : ℕ) / 256 = h; omega)
  have e2 : (⟨x 1 % 256, Nat.mod_lt _ (by norm_num)⟩ : Fin 256) = l := Fin.ext (by show (x 1 : ℕ) % 256 = l; omega)
  simp only [gradK, e0, e1, e2]

/-- The values' gradient at row `k`, column `l` of head `h`. -/
theorem gradV_at (qn : FVec Ideal S4096x16x128 .bf16) (qr : FVec Ideal S4096x16x64 .bf16) (kn : FVec Ideal S4096x16x128 .bf16)
    (kr : FVec Ideal S4096x64 .bf16) (o : FVec Ideal S4096x2048 .bf16)
    (x : S4096x2048.Idx) (h : Fin 16) (k : Fin 4096) (l : Fin 128) (h0 : (x 0 : ℕ) = k) (h1 : (x 1 : ℕ) = h * 128 + l) :
    gradV qn qr kn kr o x = ∑ q : Fin 4096, kE (sAt qn qr kn kr h q) k * (oAt o h q l * kInv (sAt qn qr kn kr h q)) := by
  have e0 : x 0 = k := Fin.ext h0
  have e1 : (⟨x 1 / 128, by omega⟩ : Fin 16) = h := Fin.ext (by show (x 1 : ℕ) / 128 = h; omega)
  have e2 : x 1 = (⟨h * 128 + l, by omega⟩ : Fin 2048) := Fin.ext h1
  simp only [gradV, oAt, e0, e1, ← e2]

/-! ## The blocks at a point: head `t / 16`, query rows `256 * (t % 16) + r` -/

variable (m : (ℓ : Loc nD τ sig) → Buf (Elt Ideal) ℓ) (c : Dev nD)

/-- A point's head. -/
def hd (t : Fin cfg0.N) : Fin 16 := ⟨t.val / 16, by have := lt_of_lt_of_eq t.isLt N_0; omega⟩
/-- A row of a point's query block, in the whole array. -/
def rowOf (t : Fin cfg0.N) (r : Fin 256) : Fin 4096 := ⟨t.val % 16 * 256 + r, by omega⟩

theorem blk_q (t : Fin cfg0.N) (r l : Fin 256) :
    (iblk m c 0 t : FVec Ideal S256x256 .bf16) (ix2 r l)
      = qAt (m (c.tc.loc main_arg0)) (m (c.tc.loc main_arg1)) (hd t) (rowOf t r) l := by
  rw [← entry_q]
  blk_ext [iblk, idx t, hd, rowOf]

theorem blk_k (t : Fin cfg0.N) (k : Fin 4096) (l : Fin 256) :
    (iblk m c 1 t : FVec Ideal S4096x256 .bf16) (ix2 k l)
      = kAt (m (c.tc.loc main_arg2)) (m (c.tc.loc main_arg3)) (hd t) k l := by
  rw [← entry_k]
  blk_ext [iblk, idx t, hd]

theorem blk_v (t : Fin cfg0.N) (k : Fin 4096) (l : Fin 128) :
    (iblk m c 2 t : FVec Ideal S4096x128 .bf16) (ix2 k l)
      = (m (c.tc.loc main_arg4) : FVec Ideal S4096x16x128 .bf16) (ix3 k (hd t) l) := by
  refine Eq.trans ?_ (entry_v m c k (hd t) l)
  blk_ext [iblk, idx t, hd]

theorem blk_o (t : Fin cfg0.N) (r : Fin 256) (l : Fin 128) :
    (iblk m c 3 t : FVec Ideal S256x128 .bf16) (ix2 r l) = oAt (m (c.tc.loc main_arg5)) (hd t) (rowOf t r) l := by
  refine Eq.trans ?_ (congrFun (V_main_arg5 m c) (ix2 (rowOf t r) ⟨hd t * 128 + l, by omega⟩))
  blk_ext [iblk, idx t, hd, rowOf]

/-- A point's scores are the arrays'. -/
theorem score_blk (t : Fin cfg0.N) (r : Fin 256) :
    score (iblk m c 0 t) (iblk m c 1 t) r
      = sAt (m (c.tc.loc main_arg0)) (m (c.tc.loc main_arg1)) (m (c.tc.loc main_arg2)) (m (c.tc.loc main_arg3)) (hd t) (rowOf t r) :=
  funext fun k => Finset.sum_congr rfl fun l _ => congrArg₂ (· * ·) (blk_q m c t r l) (blk_k m c t k l)

/-- A point's gradients of the probabilities are the arrays'. -/
theorem dprob_blk (t : Fin cfg0.N) (r : Fin 256) :
    dprob (iblk m c 3 t) (iblk m c 2 t) r = dpAt (m (c.tc.loc main_arg4)) (m (c.tc.loc main_arg5)) (hd t) (rowOf t r) :=
  funext fun k => Finset.sum_congr rfl fun l _ => congrArg₂ (· * ·) (blk_o m c t r l) (blk_v m c t k l)

/-! ## The result arrays -/

/-- One query block's share of the keys' gradient. -/
def partK (q : FVec Ideal S256x256 .bf16) (k : FVec Ideal S4096x256 .bf16) (o : FVec Ideal S256x128 .bf16)
    (v : FVec Ideal S4096x128 .bf16) (j : S4096x256.Idx) : EReal :=
  ∑ r : Fin 256, kDs (score q k r) (dprob o v r) (j 0) * q (ix2 r (j 1))

/-- One query block's share of the values' gradient. -/
def partV (q : FVec Ideal S256x256 .bf16) (k : FVec Ideal S4096x256 .bf16) (o : FVec Ideal S256x128 .bf16)
    (j : S4096x128.Idx) : EReal :=
  ∑ r : Fin 256, kE (score q k r) (j 0) * (o (ix2 r (j 1)) * kInv (score q k r))

theorem step_k (q : FVec Ideal S256x256 .bf16) (k : FVec Ideal S4096x256 .bf16) (o : FVec Ideal S256x128 .bf16)
    (v : FVec Ideal S4096x128 .bf16) (acc : FVec Ideal S4096x256 .f32) (j : S4096x256.Idx) :
    k0_pay1 (F := Ideal) (k0_pay5 q) (k0_pay9 q k o v) acc j = acc j + partK q k o v j := by
  obtain ⟨a, b, rfl⟩ : ∃ (a : Fin 4096) (b : Fin 256), j = ix2 a b := ⟨j 0, j 1, eq_ix2 j⟩
  exact pay1_apply q k o v acc a b

theorem step_v (q : FVec Ideal S256x256 .bf16) (k : FVec Ideal S4096x256 .bf16) (o : FVec Ideal S256x128 .bf16)
    (acc : FVec Ideal S4096x128 .f32) (j : S4096x128.Idx) :
    k0_pay2 (F := Ideal) o (k0_pay7 q k) (k0_pay8 q k) acc j = acc j + partV q k o j := by
  obtain ⟨a, b, rfl⟩ : ∃ (a : Fin 4096) (b : Fin 128), j = ix2 a b := ⟨j 0, j 1, eq_ix2 j⟩
  exact pay2_apply q k o acc a b

theorem zero_k (j : S4096x256.Idx) : k0_pay3 (F := Ideal) j = 0 := by pointwise [k0_pay3]
theorem zero_v (j : S4096x128.Idx) : k0_pay4 (F := Ideal) j = 0 := by pointwise [k0_pay4]

/-- A point's block of the queries' gradient is the array's. -/
theorem block_q (t : Fin cfg0.N) (y : S256x256.Idx) :
    k0_pay10 (F := Ideal) (iblk m c 0 t) (iblk m c 1 t) (iblk m c 3 t) (iblk m c 2 t) y
      = ∑ k : Fin 4096, dsAt (m (c.tc.loc main_arg0)) (m (c.tc.loc main_arg1)) (m (c.tc.loc main_arg2)) (m (c.tc.loc main_arg3))
          (m (c.tc.loc main_arg4)) (m (c.tc.loc main_arg5)) (hd t) (rowOf t (y 0)) k
          * kAt (m (c.tc.loc main_arg2)) (m (c.tc.loc main_arg3)) (hd t) k (y 1) := by
  obtain ⟨a, b, rfl⟩ : ∃ (a : Fin 256) (b : Fin 256), y = ix2 a b := ⟨y 0, y 1, eq_ix2 y⟩
  refine (pay10_apply _ _ _ _ a b).trans (Finset.sum_congr rfl fun k _ => ?_)
  rw [score_blk, dprob_blk]
  exact congrArg _ (blk_k m c t k b)

/-- The first result: the padded queries' gradient. -/
theorem final_q : (dats m 0 c).arrAt 4 cfg0.N
    = gradQ (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 4 _ (by decide +kernel) fun t hf y => ?_
  blk_simp
  rw [after0_4]
  have e : (outsAt0 m c t.val t.isLt).1 y = k0_pay10 (F := Ideal) (iblk m c 0 t) (iblk m c 1 t) (iblk m c 3 t) (iblk m c 2 t) y := by
    by_cases h : t.val % 16 = 0
    · rw [outsAt0_A m c t h]; frame_out
    · rw [outsAt0_B m c t h]; frame_out
  exact e.trans ((block_q m c t y).trans
    (gradQ_at _ _ _ _ _ _ _ (hd t) (rowOf t (y 0)) (y 1) (by blk_simp [idx t, rowOf]) (by blk_simp [idx t, hd])).symm)

/-- The sixteen query blocks of a head are the rows of the array. -/
theorem sum_blocks (f : Fin 4096 → EReal) (g : Fin 16 → Fin 256 → EReal)
    (hg : ∀ s r, g s r = f ⟨s * 256 + r, by omega⟩) : ∑ s : Fin 16, ∑ r : Fin 256, g s r = ∑ q : Fin 4096, f q :=
  Fin.sum_mul_add_congr fun s r _ => hg s r

theorem point_hd (t : Fin cfg0.N) (s : Fin 16) (h) : hd ⟨16 * (t.val / 16) + s.val, h⟩ = hd t :=
  Fin.ext (by show (16 * (t.val / 16) + s.val) / 16 = t.val / 16; omega)

theorem point_row (t : Fin cfg0.N) (s : Fin 16) (h) (r : Fin 256) (hq) :
    rowOf ⟨16 * (t.val / 16) + s.val, h⟩ r = ⟨s * 256 + r, hq⟩ :=
  Fin.ext (by show (16 * (t.val / 16) + s.val) % 16 * 256 + r.val = s * 256 + r; omega)

/-- The shares of a head's sixteen query blocks add up to the keys' gradient. -/
theorem sum_partK (t : Fin cfg0.N) (h : ∀ s : Fin 16, 16 * (t.val / 16) + s.val < cfg0.N) (y : S4096x256.Idx) :
    ∑ s : Fin 16, partK (iblk m c 0 ⟨16 * (t.val / 16) + s.val, h s⟩) (iblk m c 1 ⟨16 * (t.val / 16) + s.val, h s⟩)
        (iblk m c 3 ⟨16 * (t.val / 16) + s.val, h s⟩) (iblk m c 2 ⟨16 * (t.val / 16) + s.val, h s⟩) y
      = ∑ q : Fin 4096, dsAt (m (c.tc.loc main_arg0)) (m (c.tc.loc main_arg1)) (m (c.tc.loc main_arg2)) (m (c.tc.loc main_arg3))
          (m (c.tc.loc main_arg4)) (m (c.tc.loc main_arg5)) (hd t) q (y 0)
          * qAt (m (c.tc.loc main_arg0)) (m (c.tc.loc main_arg1)) (hd t) q (y 1) := by
  obtain ⟨a, b, rfl⟩ : ∃ (a : Fin 4096) (b : Fin 256), y = ix2 a b := ⟨y 0, y 1, eq_ix2 y⟩
  refine sum_blocks _ _ fun s r => ?_
  have e := blk_q m c ⟨16 * (t.val / 16) + s.val, h s⟩ r b
  rw [point_hd, point_row _ _ _ _ (by omega)] at e
  rw [score_blk, dprob_blk, point_hd, point_row _ _ _ _ (by omega)]
  exact congrArg _ e

/-- The shares of a head's sixteen query blocks add up to the values' gradient. -/
theorem sum_partV (t : Fin cfg0.N) (h : ∀ s : Fin 16, 16 * (t.val / 16) + s.val < cfg0.N) (y : S4096x128.Idx) :
    ∑ s : Fin 16, partV (iblk m c 0 ⟨16 * (t.val / 16) + s.val, h s⟩) (iblk m c 1 ⟨16 * (t.val / 16) + s.val, h s⟩)
        (iblk m c 3 ⟨16 * (t.val / 16) + s.val, h s⟩) y
      = ∑ q : Fin 4096, kE (sAt (m (c.tc.loc main_arg0)) (m (c.tc.loc main_arg1)) (m (c.tc.loc main_arg2)) (m (c.tc.loc main_arg3)) (hd t) q) (y 0)
          * (oAt (m (c.tc.loc main_arg5)) (hd t) q (y 1)
            * kInv (sAt (m (c.tc.loc main_arg0)) (m (c.tc.loc main_arg1)) (m (c.tc.loc main_arg2)) (m (c.tc.loc main_arg3)) (hd t) q)) := by
  obtain ⟨a, b, rfl⟩ : ∃ (a : Fin 4096) (b : Fin 128), y = ix2 a b := ⟨y 0, y 1, eq_ix2 y⟩
  refine sum_blocks _ _ fun s r => ?_
  have e := blk_o m c ⟨16 * (t.val / 16) + s.val, h s⟩ r b
  rw [point_hd, point_row _ _ _ _ (by omega)] at e
  rw [score_blk, point_hd, point_row _ _ _ _ (by omega)]
  exact congrArg (fun x : EReal => (_ : EReal) * (x * (_ : EReal))) e

/-- The second result: the padded keys' gradient. -/
theorem final_k : (dats m 0 c).arrAt 5 cfg0.N
    = gradK (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 5 _ (by decide +kernel) fun t hf y => ?_
  blk_simp
  rw [after0_5, Pipeline.eq_sum_fin_of_reset_step_apply_of_flush (fun n h => (outsAt0 m c n h).2.1) 16 (fun _ => 0)
    (fun t j => partK (iblk m c 0 t) (iblk m c 1 t) (iblk m c 3 t) (iblk m c 2 t) j)
    (fun t h j => by rw [outsAt0_A m c t h]; frame_out; exact (step_k _ _ _ _ _ j).trans (congrArg (· + _) (zero_k j)))
    (fun t h j => by rw [outsAt0_B m c t h]; frame_out; exact step_k _ _ _ _ _ j)
    t ((flush0_5 t).mp hf) _, zero_add]
  exact (sum_partK m c t _ y).trans
    (gradK_at _ _ _ _ _ _ _ (hd t) (y 0) (y 1) (by blk_simp [idx t]) (by blk_simp [idx t, hd])).symm

/-- The third result: the values' gradient. -/
theorem final_v : (dats m 0 c).arrAt 6 cfg0.N
    = gradV (m (c.tc.loc main_arg0)) (m (c.tc.loc main_arg1)) (m (c.tc.loc main_arg2)) (m (c.tc.loc main_arg3))
        (m (c.tc.loc main_arg5)) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0)
    (fun t j => partV (iblk m c 0 t) (iblk m c 1 t) (iblk m c 3 t) j)
    (fun t h j => by rw [outsAt0_A m c t h]; frame_out; exact (step_v _ _ _ _ j).trans (congrArg (· + _) (zero_v j)))
    (fun t h j => by rw [outsAt0_B m c t h]; frame_out; exact step_v _ _ _ _ j)
    t ((flush0_6 t).mp hf) _, zero_add]
  exact (sum_partV m c t _ y).trans
    (gradV_at _ _ _ _ _ _ (hd t) (y 0) (y 1) (by blk_simp [idx t]) (by blk_simp [idx t, hd])).symm

end Cert.KernelIdeal.Block

end
-- ==== Proof.RefValue.lean ====
/-
  The reference's arrays, entry by entry at `Ideal`: its scores, exponentials, probabilities and their gradients are the row
  functions of Softmax.lean, its three results the sums of products of them.
-/
module

public import proofs.«01_k».proof.Proof.Results
public import proofs.«01_k».proof.Proof.Gen.ReferenceIdeal.Run

@[expose] public section

set_option maxRecDepth 16384

noncomputable section

namespace Cert.ReferenceIdeal.RefValue

open Idealize.ShloMosaic Idealize.ShloMosaic.TcCoe Cert.ReferenceIdeal Cert.ReferenceIdeal.Gen Cert.Softmax
open Cert.KernelIdeal.Block (qAt kAt oAt sAt dpAt dsAt gradQ gradK gradV gradQ_at gradK_at gradV_at)

variable (qn : FVec Ideal S4096x16x128 .bf16) (qr : FVec Ideal S4096x16x64 .bf16) (kn : FVec Ideal S4096x16x128 .bf16)
  (kr : FVec Ideal S4096x64 .bf16) (v : FVec Ideal S4096x16x128 .bf16) (o : FVec Ideal S4096x2048 .bf16)

/-! ## Names for the reference's intermediate arrays -/

/-- The rotary key, one copy for each head. -/
def krope : FVec Ideal S4096x16x64 .f32 :=
  broadcastInDim S4096x16x64 ![0, 1, 2] bcast_S4096x1x64_S4096x16x64_0_1_2 (broadcastInDim S4096x1x64 ![0, 2] bcast_S4096x64_S4096x1x64_0_2 (extf .f32 kr bitsLt_bf16_f32))

/-- The root of 192 in every entry. -/
def root : FVec Ideal S16x4096x4096 .f32 := broadcastInDim S16x4096x4096 ![] bcast_S_S16x4096x4096 (Host.sqrt (constant S_ .f32 0x43400000#32))

/-- The scores. -/
def scores : FVec Ideal S16x4096x4096 .f32 :=
  addf (Host.dotGeneral (F := Ideal) dot_S4096x16x128_S4096x16x128_S16x4096x4096_2_2_0_0_1_1 none (extf .f32 qn bitsLt_bf16_f32 : FVec Ideal S4096x16x128 .f32) (extf .f32 kn bitsLt_bf16_f32 : FVec Ideal S4096x16x128 .f32) : FVec Ideal S16x4096x4096 .f32)
    (Host.dotGeneral (F := Ideal) dot_S4096x16x64_S4096x16x64_S16x4096x4096_2_2_0_0_1_1 none (extf .f32 qr bitsLt_bf16_f32 : FVec Ideal S4096x16x64 .f32) (krope kr) : FVec Ideal S16x4096x4096 .f32)

/-- The scores over the root. -/
def scaled : FVec Ideal S16x4096x4096 .f32 := Host.divf (scores qn qr kn kr) root

/-- Each row's largest entry. -/
def rowMax (x : FVec Ideal S16x4096x4096 .f32) : FVec Ideal S16x4096 .f32 :=
  Host.reduce FloatOps.maximumf x (constant (F := Ideal) S_ .f32 0xFF800000#32) reducesTo_S16x4096x4096_S16x4096_d2 h_S_

/-- The exponentials of an array's entries less a number for each row. -/
def rowExp (x : FVec Ideal S16x4096x4096 .f32) (y : FVec Ideal S16x4096 .f32) : FVec Ideal S16x4096x4096 .f32 :=
  Host.exp (subf x (broadcastInDim S16x4096x4096 ![0, 1, 2] bcast_S16x4096x1_S16x4096x4096_0_1_2
    (broadcastInDim S16x4096x1 ![0, 1] bcast_S16x4096_S16x4096x1_0_1
      (maximumf (broadcastInDim S16x4096 ![] bcast_S_S16x4096 (constant S_ .f32 0xFF800000#32)) y))))

/-- The exponentials of the scaled scores. -/
def exps : FVec Ideal S16x4096x4096 .f32 := rowExp (scaled qn qr kn kr) (rowMax (scaled qn qr kn kr))

/-- Each row's sum of exponentials. -/
def denom : FVec Ideal S16x4096x1 .f32 :=
  broadcastInDim S16x4096x1 ![0, 1] bcast_S16x4096_S16x4096x1_0_1 (Host.reduceAdd (exps qn qr kn kr) (constant (F := Ideal) S_ .f32 0x00000000#32) reducesTo_S16x4096x4096_S16x4096_d2 h_S_)

/-- The probabilities. -/
def probs : FVec Ideal S16x4096x4096 .f32 :=
  Host.divf (exps qn qr kn kr) (broadcastInDim S16x4096x4096 ![0, 1, 2] bcast_S16x4096x1_S16x4096x4096_0_1_2 (denom qn qr kn kr))

/-- The output's gradient by head, column and row. -/
def cot : FVec Ideal S16x128x4096 .f32 :=
  transpose S16x128x4096 [1, 2, 0] (shapeCast S4096x16x128 (extf .f32 o bitsLt_bf16_f32 : FVec Ideal S4096x2048 .f32) shapeCasts_S4096x2048_S4096x16x128) transposes_S4096x16x128_S16x128x4096_1_2_0

/-- The probabilities' gradients. -/
def dprobs : FVec Ideal S16x4096x4096 .f32 :=
  Host.dotGeneral (F := Ideal) dot_S16x128x4096_S4096x16x128_S16x4096x4096_1_2_2_0_0_1 none (cot o) (extf .f32 v bitsLt_bf16_f32 : FVec Ideal S4096x16x128 .f32)

/-- Less the row's sum that the quotient's derivative takes off, before the minus sign. -/
def taken : FVec Ideal S16x4096 .f32 :=
  Host.reduceAdd (mulf (mulf (dprobs v o) (broadcastInDim S16x4096x4096 ![0, 1, 2] bcast_S16x4096x1_S16x4096x4096_0_1_2
    (Host.divf (broadcastInDim S16x4096x1 ![] bcast_S_S16x4096x1 (constant S_ .f32 0x3F800000#32)) (mulf (denom qn qr kn kr) (denom qn qr kn kr)))))
    (exps qn qr kn kr)) (constant (F := Ideal) S_ .f32 0x00000000#32) reducesTo_S16x4096x4096_S16x4096_d2 h_S_

/-- The scores' gradients. -/
def dscores : FVec Ideal S16x4096x4096 .f32 :=
  Host.divf (mulf (addf (Host.divf (dprobs v o) (broadcastInDim S16x4096x4096 ![0, 1, 2] bcast_S16x4096x1_S16x4096x4096_0_1_2 (denom qn qr kn kr)))
    (broadcastInDim S16x4096x4096 ![0, 1] bcast_S16x4096_S16x4096x4096_0_1
      (Host.reduceAdd (Host.negf (shapeCast S16x4096x1 (taken qn qr kn kr v o) shapeCasts_S16x4096_S16x4096x1)) (constant (F := Ideal) S_ .f32 0x00000000#32) reducesTo_S16x4096x1_S16x4096_d2 h_S_)))
    (exps qn qr kn kr)) root

/-! ## Their entries -/

/-- A row of 256 padded products is the nope products and the rope products. -/
theorem sAt_eq (h : Fin 16) (q k : Fin 4096) :
    sAt qn qr kn kr h q k = ∑ l : Fin 128, qn (ix3 q h l) * kn (ix3 k h l) + ∑ l : Fin 64, qr (ix3 q h l) * kr (ix2 k l) := by
  refine (Fin.sum_univ_add (M := EReal) (a := 128) (b := 128) (fun l => qAt qn qr h q l * kAt kn kr h k l)).trans ?_
  refine congrArg₂ (fun a b : EReal => a + b) ?_ ?_
  · refine Finset.sum_congr rfl fun l _ => ?_
    have h₁ : ((Fin.castAdd 128 l : Fin (128 + 128)) : ℕ) < 128 := l.isLt
    rw [qAt, kAt, dif_pos h₁, dif_pos h₁]
    rfl
  · refine (Fin.sum_univ_add (M := EReal) (a := 64) (b := 64)
      (fun l => qAt qn qr h q (Fin.natAdd 128 l) * kAt kn kr h k (Fin.natAdd 128 l))).trans ?_
    refine (congrArg₂ (fun a b : EReal => a + b) ?_ ?_).trans (add_zero _)
    · refine Finset.sum_congr rfl fun l _ => ?_
      have e : ((Fin.natAdd 128 (Fin.castAdd 64 l : Fin (64 + 64)) : Fin (128 + 128)) : ℕ) = 128 + l := rfl
      have h₁ : ¬((Fin.natAdd 128 (Fin.castAdd 64 l : Fin (64 + 64)) : Fin (128 + 128)) : ℕ) < 128 := by omega
      have h₂ : ((Fin.natAdd 128 (Fin.castAdd 64 l : Fin (64 + 64)) : Fin (128 + 128)) : ℕ) - 128 < 64 := by omega
      have e' : (⟨((Fin.natAdd 128 (Fin.castAdd 64 l : Fin (64 + 64)) : Fin (128 + 128)) : ℕ) - 128, h₂⟩ : Fin 64) = l := Fin.ext (by show _ - 128 = _; omega)
      rw [qAt, kAt, dif_neg h₁, dif_neg h₁, dif_pos h₂, dif_pos h₂, e']
    · refine Finset.sum_eq_zero fun l _ => ?_
      have e : ((Fin.natAdd 128 (Fin.natAdd 64 l : Fin (64 + 64)) : Fin (128 + 128)) : ℕ) = 128 + (64 + l) := rfl
      have h₁ : ¬((Fin.natAdd 128 (Fin.natAdd 64 l : Fin (64 + 64)) : Fin (128 + 128)) : ℕ) < 128 := by omega
      have h₂ : ¬((Fin.natAdd 128 (Fin.natAdd 64 l : Fin (64 + 64)) : Fin (128 + 128)) : ℕ) - 128 < 64 := by omega
      rw [qAt, dif_neg h₁, dif_neg h₂, zero_mul]

theorem scores_at (h : Fin 16) (q k : Fin 4096) : scores qn qr kn kr (ix3 h q k) = sAt qn qr kn kr h q k := by
  rw [sAt_eq]
  pointwise [scores, krope]

theorem ofBits_192 : Ideal.ofBits .f32 0x43400000#32 = ((192 : ℝ) : EReal) := by
  simp [Ideal.ofBits, Ideal.ieee, -EReal.coe_mul]; norm_num

theorem root_at (h : Fin 16) (q k : Fin 4096) : root (ix3 h q k) = ((Real.sqrt 192 : ℝ) : EReal) := by
  pointwise [root]
  rw [ofBits_192, Ideal.sqrt_coe, if_neg (by norm_num)]

theorem scaled_at (h : Fin 16) (q k : Fin 4096) : scaled qn qr kn kr (ix3 h q k) = rS (sAt qn qr kn kr h q) k := by
  pointwise [scaled, scores_at, root_at, rS]

theorem rowMax_at (x : FVec Ideal S16x4096x4096 .f32) (h : Fin 16) (q : Fin 4096) :
    rowMax x (ix2 h q) = Finset.univ.fold max (Ideal.ofBits .f32 0xFF800000#32) fun k => x (ix3 h q k) := by
  pointwise [rowMax]

theorem rowExp_at (x : FVec Ideal S16x4096x4096 .f32) (y : FVec Ideal S16x4096 .f32) (h : Fin 16) (q k : Fin 4096) :
    rowExp x y (ix3 h q k) = Ideal.exp (x (ix3 h q k) - max (Ideal.ofBits .f32 0xFF800000#32) (y (ix2 h q))) := by
  pointwise [rowExp]

theorem ofBits_neg_inf : Ideal.ofBits .f32 0xFF800000#32 = ⊥ := rfl

theorem exps_at (h : Fin 16) (q k : Fin 4096) : exps qn qr kn kr (ix3 h q k) = rE (sAt qn qr kn kr h q) k := by
  rw [exps, rowExp_at, rowMax_at, ofBits_neg_inf, max_eq_right bot_le, scaled_at, rE]
  simp only [scaled_at]

theorem denom_at (h : Fin 16) (q : Fin 4096) (z : Fin 1) : denom qn qr kn kr (ix3 h q z) = ∑ k, rE (sAt qn qr kn kr h q) k := by
  pointwise [denom, exps_at]

theorem probs_at (h : Fin 16) (q k : Fin 4096) : probs qn qr kn kr (ix3 h q k) = rP (sAt qn qr kn kr h q) k := by
  pointwise [probs, exps_at, denom_at, rP]

theorem cot_at (h : Fin 16) (l : Fin 128) (q : Fin 4096) : cot o (ix3 h l q) = oAt o h q l := by
  pointwise [cot, oAt]

theorem dprobs_at (h : Fin 16) (q k : Fin 4096) : dprobs v o (ix3 h q k) = dpAt v o h q k := by
  pointwise [dprobs, cot_at, dpAt]

theorem taken_at (h : Fin 16) (q : Fin 4096) : taken qn qr kn kr v o (ix2 h q)
    = ∑ k, dpAt v o h q k * Ideal.div 1 ((∑ i, rE (sAt qn qr kn kr h q) i) * (∑ i, rE (sAt qn qr kn kr h q) i)) * rE (sAt qn qr kn kr h q) k := by
  pointwise [taken, exps_at, denom_at, dprobs_at]

theorem dscores_at (h : Fin 16) (q k : Fin 4096) :
    dscores qn qr kn kr v o (ix3 h q k) = rDs (sAt qn qr kn kr h q) (dpAt v o h q) k := by
  pointwise [dscores, exps_at, denom_at, dprobs_at, taken_at, root_at, rDs]
  rw [Finset.sum_const, Finset.card_univ, Fintype.card_fin, one_smul]

end Cert.ReferenceIdeal.RefValue

end
-- ==== Proof.Equation.lean ====
/-
  The reference's three results are the kernel's gradients where the scores are real numbers.
-/
module

public import proofs.«01_k».proof.Proof.RefValue

@[expose] public section

set_option maxRecDepth 16384

noncomputable section

namespace Cert.ReferenceIdeal.RefValue

open Idealize.ShloMosaic Idealize.ShloMosaic.TcCoe Cert.ReferenceIdeal Cert.ReferenceIdeal.Gen Cert.Softmax
open Cert.KernelIdeal.Block (qAt kAt oAt sAt dpAt dsAt gradQ gradK gradV gradQ_at gradK_at gradV_at)

variable (qn : FVec Ideal S4096x16x128 .bf16) (qr : FVec Ideal S4096x16x64 .bf16) (kn : FVec Ideal S4096x16x128 .bf16)
  (kr : FVec Ideal S4096x64 .bf16) (v : FVec Ideal S4096x16x128 .bf16) (o : FVec Ideal S4096x2048 .bf16)

/-! ## The products with the scores' gradients -/

/-- Rows' gradient against an operand of 128 columns. -/
def rows128 (d : FVec Ideal S16x4096x4096 .f32) (x : FVec Ideal S4096x16x128 .f32) : FVec Ideal S4096x16x128 .f32 :=
  transpose S4096x16x128 [1, 0, 2] (Host.dotGeneral (F := Ideal) dot_S16x4096x4096_S4096x16x128_S16x4096x128_2_0_1_2_0_1 none d x : FVec Ideal S16x4096x128 .f32) transposes_S16x4096x128_S4096x16x128_1_0_2

/-- Rows' gradient against an operand of 64 columns. -/
def rows64 (d : FVec Ideal S16x4096x4096 .f32) (x : FVec Ideal S4096x16x64 .f32) : FVec Ideal S4096x16x64 .f32 :=
  transpose S4096x16x64 [1, 0, 2] (Host.dotGeneral (F := Ideal) dot_S16x4096x4096_S4096x16x64_S16x4096x64_2_0_1_2_0_1 none d x : FVec Ideal S16x4096x64 .f32) transposes_S16x4096x64_S4096x16x64_1_0_2

/-- Columns' gradient against an operand of 128 columns. -/
def cols128 (d : FVec Ideal S16x4096x4096 .f32) (x : FVec Ideal S4096x16x128 .f32) : FVec Ideal S4096x16x128 .f32 :=
  transpose S4096x16x128 [1, 0, 2] (Host.dotGeneral (F := Ideal) dot_S16x4096x4096_S4096x16x128_S16x4096x128_1_0_2_2_0_1 none d x : FVec Ideal S16x4096x128 .f32) transposes_S16x4096x128_S4096x16x128_1_0_2

/-- Columns' gradient against an operand of 64 columns. -/
def cols64 (d : FVec Ideal S16x4096x4096 .f32) (x : FVec Ideal S4096x16x64 .f32) : FVec Ideal S4096x16x64 .f32 :=
  transpose S4096x16x64 [1, 0, 2] (Host.dotGeneral (F := Ideal) dot_S16x4096x4096_S4096x16x64_S16x4096x64_1_0_2_2_0_1 none d x : FVec Ideal S16x4096x64 .f32) transposes_S16x4096x64_S4096x16x64_1_0_2

/-- Two parts and zeros, one head's 256 columns after another's. -/
def packed (a : FVec Ideal S4096x16x128 .f32) (b : FVec Ideal S4096x16x64 .f32) : FVec Ideal S4096x4096 .f32 :=
  shapeCast S4096x4096 (concatenate S4096x16x256 2 [⟨S4096x16x128, a⟩, ⟨S4096x16x64, b⟩,
    ⟨S4096x16x64, broadcastInDim S4096x16x64 ![] bcast_S_S4096x16x64 (constant (F := Ideal) S_ .f32 0x00000000#32)⟩]
    concatenates_S4096x16x128_S4096x16x64_S4096x16x64_S4096x16x256_d2) shapeCasts_S4096x16x256_S4096x4096

/-- The values' gradient. -/
def values (p : FVec Ideal S16x4096x4096 .f32) (d : FVec Ideal S16x128x4096 .f32) : FVec Ideal S4096x2048 .f32 :=
  shapeCast S4096x2048 (transpose S4096x16x128 [2, 0, 1]
    (Host.dotGeneral (F := Ideal) dot_S16x128x4096_S16x4096x4096_S16x128x4096_2_1_1_2_0_0 none d p : FVec Ideal S16x128x4096 .f32)
    transposes_S16x128x4096_S4096x16x128_2_0_1) shapeCasts_S4096x16x128_S4096x2048

theorem rows128_at (d x) (q : Fin 4096) (h : Fin 16) (l : Fin 128) :
    rows128 d x (ix3 q h l) = ∑ k : Fin 4096, d (ix3 h q k) * x (ix3 k h l) := by pointwise [rows128]

theorem rows64_at (d x) (q : Fin 4096) (h : Fin 16) (l : Fin 64) :
    rows64 d x (ix3 q h l) = ∑ k : Fin 4096, d (ix3 h q k) * x (ix3 k h l) := by pointwise [rows64]

theorem cols128_at (d x) (k : Fin 4096) (h : Fin 16) (l : Fin 128) :
    cols128 d x (ix3 k h l) = ∑ q : Fin 4096, d (ix3 h q k) * x (ix3 q h l) := by pointwise [cols128]

theorem cols64_at (d x) (k : Fin 4096) (h : Fin 16) (l : Fin 64) :
    cols64 d x (ix3 k h l) = ∑ q : Fin 4096, d (ix3 h q k) * x (ix3 q h l) := by pointwise [cols64]

theorem packed_at (a b) (q : Fin 4096) (h : Fin 16) (l : Fin 256) :
    packed a b (ix2 q ⟨h * 256 + l, by omega⟩)
      = if h₁ : (l : ℕ) < 128 then a (ix3 q h ⟨l, h₁⟩) else if h₂ : (l : ℕ) - 128 < 64 then b (ix3 q h ⟨l - 128, h₂⟩) else 0 := by
  pointwise [packed]

theorem values_at (p d) (k : Fin 4096) (h : Fin 16) (l : Fin 128) :
    values p d (ix2 k ⟨h * 128 + l, by omega⟩) = ∑ q : Fin 4096, d (ix3 h l q) * p (ix3 h q k) := by
  pointwise [values]

theorem krope_at (k : Fin 4096) (h : Fin 16) (l : Fin 64) : krope kr (ix3 k h l) = kr (ix2 k l) := by pointwise [krope]

/-! ## The equations -/

variable {qn qr kn kr v o} (hs : ∀ h q k, ∃ x : ℝ, sAt qn qr kn kr h q k = x)

include hs

theorem dscores_eq (h : Fin 16) (q k : Fin 4096) : dscores qn qr kn kr v o (ix3 h q k) = dsAt qn qr kn kr v o h q k :=
  (dscores_at ..).trans (ds_eq _ _ (hs h q) k).symm

/-- The queries' gradient. -/
theorem packed_q : packed (rows128 (dscores qn qr kn kr v o) (extf .f32 kn bitsLt_bf16_f32)) (rows64 (dscores qn qr kn kr v o) (krope kr))
    = gradQ qn qr kn kr v o := by
  funext x
  obtain ⟨q, j, rfl⟩ : ∃ (q : Fin 4096) (j : Fin 4096), x = ix2 q j := ⟨x 0, x 1, eq_ix2 x⟩
  obtain ⟨h, l, rfl⟩ : ∃ (h : Fin 16) (l : Fin 256), j = ⟨h * 256 + l, by omega⟩ :=
    ⟨⟨j / 256, by omega⟩, ⟨j % 256, by omega⟩, Fin.ext (by show j.val = j.val / 256 * 256 + j.val % 256; omega)⟩
  rw [packed_at, gradQ_at _ _ _ _ _ _ _ h q l rfl rfl]
  simp only [rows128_at, rows64_at, krope_at, dscores_eq hs, kAt]
  split_ifs with h₁ h₂
  · rfl
  · rfl
  · simp

/-- The keys' gradient. -/
theorem packed_k : packed (cols128 (dscores qn qr kn kr v o) (extf .f32 qn bitsLt_bf16_f32)) (cols64 (dscores qn qr kn kr v o) (extf .f32 qr bitsLt_bf16_f32))
    = gradK qn qr kn kr v o := by
  funext x
  obtain ⟨k, j, rfl⟩ : ∃ (q : Fin 4096) (j : Fin 4096), x = ix2 q j := ⟨x 0, x 1, eq_ix2 x⟩
  obtain ⟨h, l, rfl⟩ : ∃ (h : Fin 16) (l : Fin 256), j = ⟨h * 256 + l, by omega⟩ :=
    ⟨⟨j / 256, by omega⟩, ⟨j % 256, by omega⟩, Fin.ext (by show j.val = j.val / 256 * 256 + j.val % 256; omega)⟩
  rw [packed_at, gradK_at _ _ _ _ _ _ _ h k l rfl rfl]
  simp only [cols128_at, cols64_at, dscores_eq hs, qAt]
  split_ifs with h₁ h₂
  · rfl
  · rfl
  · simp

/-- The values' gradient. -/
theorem values_eq : values (probs qn qr kn kr) (cot o) = gradV qn qr kn kr o := by
  funext x
  obtain ⟨k, j, rfl⟩ : ∃ (q : Fin 4096) (j : Fin 2048), x = ix2 q j := ⟨x 0, x 1, eq_ix2 x⟩
  obtain ⟨h, l, rfl⟩ : ∃ (h : Fin 16) (l : Fin 128), j = ⟨h * 128 + l, by omega⟩ :=
    ⟨⟨j / 128, by omega⟩, ⟨j % 128, by omega⟩, Fin.ext (by show j.val = j.val / 128 * 128 + j.val % 128; omega)⟩
  rw [values_at, gradV_at _ _ _ _ _ _ h k l rfl rfl]
  exact Finset.sum_congr rfl fun q _ => by rw [cot_at, probs_at, dv_eq _ (hs h q)]

end Cert.ReferenceIdeal.RefValue

end
-- ==== Proof.Finite.lean ====
/-
  What the precondition gives: every entry of the queries and the keys is a real number, and so is every score.
-/
module

public import proofs.«01_k».proof.Proof.RefValue
public import proofs.«01_k».proof.Proof.Gen.Pre_finite
public import Idealize.ShloMosaic.Lib.ReduceAll

@[expose] public section

set_option maxRecDepth 16384

noncomputable section

namespace Cert.Pre_finite.Reals

open Idealize.ShloMosaic Idealize.ShloMosaic.TcCoe Cert.Pre_finite Cert.Pre_finite.Gen
open Cert.KernelIdeal.Block (sAt)

/-- An extended real whose absolute value compares below infinity is a real number. -/
theorem real_of_lt (x : EReal) (h : FloatOps.cmpf (F := Ideal) (φ := .f32) .olt (max x (-x)) (Ideal.ofBits .f32 0x7F800000#32) = 1#1) :
    ∃ r : ℝ, x = r := by
  rw [Ideal.cmpf_def, show Ideal.ofBits .f32 0x7F800000#32 = ⊤ from rfl] at h
  induction x using EReal.rec with
  | bot => exact absurd h (by simp [Ideal.cmp])
  | coe r => exact ⟨r, rfl⟩
  | top => exact absurd h (by simp [Ideal.cmp])

/-- An `and` of two bits that is 1 has two bits that are. -/
theorem and_one {a b : BitVec 1} (h : IntOp.andi a b = 1#1) : a = 1#1 ∧ b = 1#1 := by
  revert a b
  decide

variable {a0 : FVec Ideal S4096x16x128 .bf16} {a1 : FVec Ideal S4096x16x64 .bf16} {a2 : FVec Ideal S4096x16x128 .bf16}
  {a3 : FVec Ideal S4096x64 .bf16} {a4 : FVec Ideal S4096x16x128 .bf16} {a5 : FVec Ideal S4096x2048 .bf16}

instance : Subsingleton S_.Idx := ⟨fun a b => funext fun d => d.elim0⟩

/-- The precondition, entry by entry. -/
theorem entries (h : fn (F := Ideal) a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have e := congrFun h (fun d => d.elim0)
  obtain ⟨e, h3⟩ := and_one e
  obtain ⟨e, h2⟩ := and_one e
  obtain ⟨h0, h1⟩ := and_one e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

/-- The product of two real numbers, as a real number. -/
theorem mul_real {x y : EReal} (hx : ∃ r : ℝ, x = r) (hy : ∃ r : ℝ, y = r) : ∃ r : ℝ, x * y = r := by
  obtain ⟨r, rfl⟩ := hx
  obtain ⟨s, rfl⟩ := hy
  exact ⟨r * s, rfl⟩

/-- Under the precondition every score is a real number. -/
theorem scores_real (h : fn (F := Ideal) a0 a1 a2 a3 a4 a5 = fun _ => 1#1) (n : Fin 16) (q k : Fin 4096) :
    ∃ x : ℝ, sAt a0 a1 a2 a3 n q k = x := by
  obtain ⟨h0, h1, h2, h3⟩ := entries h
  obtain ⟨x, hx⟩ := Cert.Softmax.sum_real _ fun l : Fin 128 => mul_real (h0 (ix3 q n l)) (h2 (ix3 k n l))
  obtain ⟨y, hy⟩ := Cert.Softmax.sum_real _ fun l : Fin 64 => mul_real (h1 (ix3 q n l)) (h3 (ix2 k l))
  exact ⟨x + y, by rw [Cert.ReferenceIdeal.RefValue.sAt_eq, hx, hy]; rfl⟩

end Cert.Pre_finite.Reals
-- ==== Proof.Claims.lean ====
/-
  The claims about the attention's backward call: what the reference leaves is what the kernel leaves, and the frames.
-/
module

public import proofs.«01_k».proof.Defs
public import proofs.«01_k».proof.Proof.Equation
public import proofs.«01_k».proof.Proof.Finite
public import proofs.«01_k».proof.Proof.Gen.Kernel.Frame
public import proofs.«01_k».proof.Proof.Gen.KernelIdeal.Frame
public import Idealize.ShloMosaic.Lib.Quiescent
public import Idealize.ShloMosaic.Adequacy

@[expose] public section

set_option maxRecDepth 16384

noncomputable section

namespace Cert.Attention

open Idealize.ShloMosaic Idealize.ShloMosaic.TcCoe Idealize.SL.Sem Cert.ReferenceIdeal Cert.ReferenceIdeal.Gen Cert.ReferenceIdeal.Value
open Cert.KernelIdeal.Block (sAt gradQ gradK gradV)

section Results
variable (m : (ℓ : Loc nD τ sig) → Buf (Elt Ideal) ℓ) (c : Dev nD)
  (hs : ∀ h q k, ∃ x : ℝ, sAt (m (c.tc.loc main_arg0)) (m (c.tc.loc main_arg1)) (m (c.tc.loc main_arg2)) (m (c.tc.loc main_arg3)) h q k = x)
include hs

/-- The reference's first result. -/
theorem res_q : res_main_v73 m c = gradQ (m (c.tc.loc main_arg0)) (m (c.tc.loc main_arg1)) (m (c.tc.loc main_arg2))
    (m (c.tc.loc main_arg3)) (m (c.tc.loc main_arg4)) (m (c.tc.loc main_arg5)) :=
  Eq.trans rfl (RefValue.packed_q hs)

/-- The reference's second result. -/
theorem res_k : res_main_v75 m c = gradK (m (c.tc.loc main_arg0)) (m (c.tc.loc main_arg1)) (m (c.tc.loc main_arg2))
    (m (c.tc.loc main_arg3)) (m (c.tc.loc main_arg4)) (m (c.tc.loc main_arg5)) :=
  Eq.trans rfl (RefValue.packed_k hs)

/-- The reference's third result. -/
theorem res_v : res_main_v76 m c = gradV (m (c.tc.loc main_arg0)) (m (c.tc.loc main_arg1)) (m (c.tc.loc main_arg2))
    (m (c.tc.loc main_arg3)) (m (c.tc.loc main_arg5)) :=
  Eq.trans rfl (RefValue.values_eq hs)

end Results

/-- The reference's frame: it changes no argument and leaves no semaphore raised. -/
theorem reference_frame : Cert.quiescent_ReferenceIdeal :=
  fun m ρ _ => (θ_run Cert.ReferenceIdeal.defs _ _).mono (fun r h => ⟨fun c => (h c).2.2.2, sem_eq_zero_of_no_sems (by decide) r.2⟩)
    (Value.run (F := Ideal) m ρ)

/-- The kernel's rewrites each keep what the program's number stands for. -/
theorem preserves : Cert.preserves_Kernel_KernelIdeal :=
  ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "softmax_scale" .f32 0x3D93CD3A#32 (((Real.sqrt 192)⁻¹ : ℝ) : EReal) rfl⟩

/-- From finite queries and keys the kernel and the reference leave the same three gradients. -/
theorem algebraic : Cert.algebraic_KernelIdeal_ReferenceIdeal_pre_finite := by
  intro m ρ m' ρ' hpre hagree
  refine ⟨_, _, _, Cert.KernelIdeal.Value.run_blocks (F := Ideal) m ρ,
    (θ_run Cert.ReferenceIdeal.defs _ _).mono (fun r h c => ?_) (Value.run (F := Ideal) m' ρ')⟩
  · obtain ⟨h₀, h₁, h₂, h⟩ := h c
    obtain ⟨e0, e1, e2, e3, e4, e5⟩ := hagree c
    have hs : ∀ n q k, ∃ x : ℝ, sAt (m' (c.tc.loc main_arg0)) (m' (c.tc.loc main_arg1)) (m' (c.tc.loc main_arg2)) (m' (c.tc.loc main_arg3)) n q k = x := by
      rw [e0, e1, e2, e3]
      exact Cert.Pre_finite.Reals.scores_real (hpre c)
    have hq := h₀.trans (res_q m' c hs)
    have hk := h₁.trans (res_k m' c hs)
    have hv := h₂.trans (res_v m' c hs)
    rw [e0, e1, e2, e3, e4, e5] at hq hk
    rw [e0, e1, e2, e3, e5] at hv
    exact ⟨hq.trans (Cert.KernelIdeal.Block.final_q m c).symm, hk.trans (Cert.KernelIdeal.Block.final_k m c).symm,
      hv.trans (Cert.KernelIdeal.Block.final_v m c).symm, h⟩

end Cert.Attention
-- ==== Proof.Heads.lean ====
/-
  The columns of the queries' and of the keys' and values' weights as the products take them: each of 16 heads' 192 query columns
  widened to 256 with zeros, and the heads' 128 key and 128 value columns put keys first. Read entry by entry, and the sums over
  such columns brought back to the sums over the columns as they were.
-/
module

public import Idealize.ShloMosaic.Lib.Pipeline.ValueKit

@[expose] public section

set_option maxRecDepth 16384

noncomputable section

namespace Cert.Heads

open Idealize.ShloMosaic

/-! ## The padded heads -/

/-- The value at padded column `l`: the head's own column's where it has one, zero past its end. -/
def padAt (f : Fin 3072 → EReal) (l : Fin 4096) : EReal :=
  if h : (l : ℕ) % 256 < 192 then f ⟨l / 256 * 192 + l % 256, by omega⟩ else 0

/-- The padded column that holds column `j`. -/
def col (j : Fin 3072) : Fin 4096 := ⟨j / 192 * 256 + j % 192, by omega⟩

theorem padAt_col (f : Fin 3072 → EReal) (j : Fin 3072) : padAt f (col j) = f j := by
  have h : ((col j : Fin 4096) : ℕ) % 256 < 192 := by show (j.val / 192 * 256 + j % 192) % 256 < 192; omega
  rw [padAt, dif_pos h]
  congr 1
  refine Fin.ext ?_
  show (j.val / 192 * 256 + j % 192) / 256 * 192 + (j.val / 192 * 256 + j % 192) % 256 = j
  omega

/-- A padded sum is the sum of what was padded. -/
theorem sum_padAt (f : Fin 3072 → EReal) : ∑ l : Fin 4096, padAt f l = ∑ j : Fin 3072, f j := by
  symm
  have inj : Function.Injective col := by
    intro a b h
    have h' : a.val / 192 * 256 + a % 192 = b.val / 192 * 256 + b % 192 := congrArg Fin.val h
    exact Fin.ext (by omega)
  calc ∑ j : Fin 3072, f j = ∑ j : Fin 3072, padAt f (col j) := Finset.sum_congr rfl fun j _ => (padAt_col f j).symm
    _ = ∑ l ∈ Finset.univ.image col, padAt f l := (Finset.sum_image fun a _ b _ h => inj h).symm
    _ = ∑ l : Fin 4096, padAt f l := Finset.sum_subset (Finset.subset_univ _) fun l _ hl => by
      refine dif_neg fun h => hl (Finset.mem_image.mpr ⟨⟨l / 256 * 192 + l % 256, by omega⟩, Finset.mem_univ _, Fin.ext ?_⟩)
      show (l.val / 256 * 192 + l % 256) / 192 * 256 + (l.val / 256 * 192 + l % 256) % 192 = l
      omega

/-- A sum of products over the padded columns is the sum over the columns. -/
theorem sum_mul (f g : Fin 3072 → EReal) : ∑ l : Fin 4096, padAt f l * padAt g l = ∑ j : Fin 3072, f j * g j := by
  refine Eq.trans (Finset.sum_congr rfl fun l _ => ?_) (sum_padAt fun j => f j * g j)
  unfold padAt
  split
  · rfl
  · exact zero_mul 0

/-- A product whose right factor's columns are padded has its own columns padded. -/
theorem mul_padAt {n : ℕ} (x : Fin n → EReal) (w : Fin n → Fin 3072 → EReal) (C : Fin 4096) :
    ∑ l : Fin n, x l * padAt (w l) C = padAt (fun j => ∑ l : Fin n, x l * w l j) C := by
  unfold padAt
  split
  · rfl
  · exact Finset.sum_eq_zero fun l _ => mul_zero _

theorem pad_value (i : (⟨0, ![]⟩ : Shape).Idx) : sitofp (F := Ideal) (φ := .bf16) (constantI ⟨0, ![]⟩ 32 0#32) i = 0 := by
  show ((((0#32 : BitVec 32).toInt : ℤ) : ℝ) : EReal) = 0
  simp

theorem zero_value (i : (⟨0, ![]⟩ : Shape).Idx) : constant (F := Ideal) ⟨0, ![]⟩ .f32 0x00000000#32 i = 0 := by
  show Ideal.ofBits .f32 0x00000000#32 = 0
  exact Ideal.ofBits_zero_f32

/-- The rows of 1024 padded by the kernel's host code. -/
theorem pad_apply_1024 (a : FVec Ideal ⟨2, ![1024, 3072]⟩ .f32) (hb : FTy.bits .bf16 < FTy.bits .f32)
    (h₁ : (⟨2, ![1024, 3072]⟩ : Shape).ShapeCasts ⟨3, ![1024, 16, 192]⟩)
    (hp : (⟨3, ![1024, 16, 192]⟩ : Shape).Pads (![0, 0, 0] : Fin 3 → Nat) ![0, 0, 64] ![0, 0, 0] ⟨3, ![1024, 16, 256]⟩)
    (hu : 0 < (⟨0, ![]⟩ : Shape).numel)
    (h₂ : (⟨3, ![1024, 16, 256]⟩ : Shape).ShapeCasts ⟨2, ![1024, 4096]⟩) (r : Fin 1024) (l : Fin 4096) :
    shapeCast ⟨2, ![1024, 4096]⟩ (pad ⟨3, ![1024, 16, 256]⟩ ![0, 0, 0] ![0, 0, 64] ![0, 0, 0]
      (shapeCast ⟨3, ![1024, 16, 192]⟩ (truncf (F := Ideal) .bf16 a hb) h₁) (sitofp (F := Ideal) .bf16 (constantI ⟨0, ![]⟩ 32 0#32)) hp hu) h₂ (ix2 r l)
      = padAt (fun j => a (ix2 r j)) l := by
  pointwise [padAt, pad_value]
  by_cases h : (l : ℕ) % 256 < 192
  · rw [dif_pos ⟨by omega, h⟩, dif_pos h]
  · rw [dif_neg fun h' => h h'.2, dif_neg h]

/-- The rows of 4096 padded by the kernel's host code. -/
theorem pad_apply_4096 (a : FVec Ideal ⟨2, ![4096, 3072]⟩ .f32) (hb : FTy.bits .bf16 < FTy.bits .f32)
    (h₁ : (⟨2, ![4096, 3072]⟩ : Shape).ShapeCasts ⟨3, ![4096, 16, 192]⟩)
    (hp : (⟨3, ![4096, 16, 192]⟩ : Shape).Pads (![0, 0, 0] : Fin 3 → Nat) ![0, 0, 64] ![0, 0, 0] ⟨3, ![4096, 16, 256]⟩)
    (hu : 0 < (⟨0, ![]⟩ : Shape).numel)
    (h₂ : (⟨3, ![4096, 16, 256]⟩ : Shape).ShapeCasts ⟨2, ![4096, 4096]⟩) (r : Fin 4096) (l : Fin 4096) :
    shapeCast ⟨2, ![4096, 4096]⟩ (pad ⟨3, ![4096, 16, 256]⟩ ![0, 0, 0] ![0, 0, 64] ![0, 0, 0]
      (shapeCast ⟨3, ![4096, 16, 192]⟩ (truncf (F := Ideal) .bf16 a hb) h₁) (sitofp (F := Ideal) .bf16 (constantI ⟨0, ![]⟩ 32 0#32)) hp hu) h₂ (ix2 r l)
      = padAt (fun j => a (ix2 r j)) l := by
  pointwise [padAt, pad_value]
  by_cases h : (l : ℕ) % 256 < 192
  · rw [dif_pos ⟨by omega, h⟩, dif_pos h]
  · rw [dif_neg fun h' => h h'.2, dif_neg h]

/-- The rows of 1024 with zeros joined to each head, as the reference forms them. -/
theorem join_apply_1024 (a : FVec Ideal ⟨2, ![1024, 3072]⟩ .f32)
    (h₁ : (⟨2, ![1024, 3072]⟩ : Shape).ShapeCasts ⟨3, ![1024, 16, 192]⟩)
    (hz : (⟨0, ![]⟩ : Shape).BroadcastsInDim ⟨3, ![1024, 16, 64]⟩ (![] : Fin 0 → Fin 3))
    (hc : Shape.Concatenates [⟨3, ![1024, 16, 192]⟩, ⟨3, ![1024, 16, 64]⟩] ⟨3, ![1024, 16, 256]⟩ 2)
    (h₂ : (⟨3, ![1024, 16, 256]⟩ : Shape).ShapeCasts ⟨2, ![1024, 4096]⟩) (r : Fin 1024) (l : Fin 4096) :
    shapeCast ⟨2, ![1024, 4096]⟩ (concatenate ⟨3, ![1024, 16, 256]⟩ 2 [⟨⟨3, ![1024, 16, 192]⟩, shapeCast ⟨3, ![1024, 16, 192]⟩ a h₁⟩,
      ⟨⟨3, ![1024, 16, 64]⟩, broadcastInDim ⟨3, ![1024, 16, 64]⟩ ![] hz (constant (F := Ideal) ⟨0, ![]⟩ .f32 0x00000000#32)⟩] hc) h₂ (ix2 r l)
      = padAt (fun j => a (ix2 r j)) l := by
  pointwise [padAt, zero_value]

/-- The rows of 4096 with zeros joined to each head. -/
theorem join_apply_4096 (a : FVec Ideal ⟨2, ![4096, 3072]⟩ .f32)
    (h₁ : (⟨2, ![4096, 3072]⟩ : Shape).ShapeCasts ⟨3, ![4096, 16, 192]⟩)
    (hz : (⟨0, ![]⟩ : Shape).BroadcastsInDim ⟨3, ![4096, 16, 64]⟩ (![] : Fin 0 → Fin 3))
    (hc : Shape.Concatenates [⟨3, ![4096, 16, 192]⟩, ⟨3, ![4096, 16, 64]⟩] ⟨3, ![4096, 16, 256]⟩ 2)
    (h₂ : (⟨3, ![4096, 16, 256]⟩ : Shape).ShapeCasts ⟨2, ![4096, 4096]⟩) (r : Fin 4096) (l : Fin 4096) :
    shapeCast ⟨2, ![4096, 4096]⟩ (concatenate ⟨3, ![4096, 16, 256]⟩ 2 [⟨⟨3, ![4096, 16, 192]⟩, shapeCast ⟨3, ![4096, 16, 192]⟩ a h₁⟩,
      ⟨⟨3, ![4096, 16, 64]⟩, broadcastInDim ⟨3, ![4096, 16, 64]⟩ ![] hz (constant (F := Ideal) ⟨0, ![]⟩ .f32 0x00000000#32)⟩] hc) h₂ (ix2 r l)
      = padAt (fun j => a (ix2 r j)) l := by
  pointwise [padAt, zero_value]

/-! ## The keys first -/

/-- The column that the keys-first order puts in place `l`. -/
def src (l : Fin 4096) : Fin 4096 := ⟨l / 128 % 16 * 256 + l / 2048 * 128 + l % 128, by omega⟩

/-- The place of column `j` in the keys-first order. -/
def dst (j : Fin 4096) : Fin 4096 := ⟨j % 256 / 128 * 2048 + j / 256 * 128 + j % 128, by omega⟩

theorem src_dst (j : Fin 4096) : src (dst j) = j := by
  refine Fin.ext ?_
  obtain ⟨j, hj⟩ := j
  show (j % 256 / 128 * 2048 + j / 256 * 128 + j % 128) / 128 % 16 * 256 + (j % 256 / 128 * 2048 + j / 256 * 128 + j % 128) / 2048 * 128
    + (j % 256 / 128 * 2048 + j / 256 * 128 + j % 128) % 128 = j
  obtain ⟨p, q, c, hp, hq, hc, rfl⟩ : ∃ p q c, p < 2 ∧ q < 16 ∧ c < 128 ∧ j = q * 256 + p * 128 + c :=
    ⟨j % 256 / 128, j / 256, j % 128, by omega, by omega, by omega, by omega⟩
  rw [show (q * 256 + p * 128 + c) % 256 / 128 = p by omega, show (q * 256 + p * 128 + c) / 256 = q by omega,
    show (q * 256 + p * 128 + c) % 128 = c by omega, show (p * 2048 + q * 128 + c) / 128 % 16 = q by omega,
    show (p * 2048 + q * 128 + c) / 2048 = p by omega, show (p * 2048 + q * 128 + c) % 128 = c by omega]

theorem dst_src (l : Fin 4096) : dst (src l) = l := by
  refine Fin.ext ?_
  obtain ⟨l, hl⟩ := l
  show (l / 128 % 16 * 256 + l / 2048 * 128 + l % 128) % 256 / 128 * 2048 + (l / 128 % 16 * 256 + l / 2048 * 128 + l % 128) / 256 * 128
    + (l / 128 % 16 * 256 + l / 2048 * 128 + l % 128) % 128 = l
  obtain ⟨p, q, c, hp, hq, hc, rfl⟩ : ∃ p q c, p < 2 ∧ q < 16 ∧ c < 128 ∧ l = p * 2048 + q * 128 + c :=
    ⟨l / 2048, l / 128 % 16, l % 128, by omega, by omega, by omega, by omega⟩
  rw [show (p * 2048 + q * 128 + c) / 128 % 16 = q by omega, show (p * 2048 + q * 128 + c) / 2048 = p by omega,
    show (p * 2048 + q * 128 + c) % 128 = c by omega, show (q * 256 + p * 128 + c) % 256 / 128 = p by omega,
    show (q * 256 + p * 128 + c) / 256 = q by omega, show (q * 256 + p * 128 + c) % 128 = c by omega]

/-- A sum over the columns in the keys-first order is the sum over the columns. -/
theorem sum_src (f : Fin 4096 → EReal) : ∑ l : Fin 4096, f (src l) = ∑ j : Fin 4096, f j :=
  Fintype.sum_equiv ⟨src, dst, dst_src, src_dst⟩ _ _ fun _ => rfl

/-- The rows of 512 put keys first. -/
theorem order_apply_512 {φ : FTy} (a : FVec Ideal ⟨2, ![512, 4096]⟩ φ) (h₁ : (⟨2, ![512, 4096]⟩ : Shape).ShapeCasts ⟨4, ![512, 16, 2, 128]⟩)
    (ht : (⟨4, ![512, 16, 2, 128]⟩ : Shape).Transposes [0, 2, 1, 3] ⟨4, ![512, 2, 16, 128]⟩)
    (h₂ : (⟨4, ![512, 2, 16, 128]⟩ : Shape).ShapeCasts ⟨2, ![512, 4096]⟩) (r : Fin 512) (l : Fin 4096) :
    shapeCast ⟨2, ![512, 4096]⟩ (transpose ⟨4, ![512, 2, 16, 128]⟩ [0, 2, 1, 3] (shapeCast ⟨4, ![512, 16, 2, 128]⟩ a h₁) ht) h₂ (ix2 r l)
      = a (ix2 r (src l)) := by
  pointwise [src]

/-- The rows of 4096 put keys first. -/
theorem order_apply_4096 {φ : FTy} (a : FVec Ideal ⟨2, ![4096, 4096]⟩ φ) (h₁ : (⟨2, ![4096, 4096]⟩ : Shape).ShapeCasts ⟨4, ![4096, 16, 2, 128]⟩)
    (ht : (⟨4, ![4096, 16, 2, 128]⟩ : Shape).Transposes [0, 2, 1, 3] ⟨4, ![4096, 2, 16, 128]⟩)
    (h₂ : (⟨4, ![4096, 2, 16, 128]⟩ : Shape).ShapeCasts ⟨2, ![4096, 4096]⟩) (r : Fin 4096) (l : Fin 4096) :
    shapeCast ⟨2, ![4096, 4096]⟩ (transpose ⟨4, ![4096, 2, 16, 128]⟩ [0, 2, 1, 3] (shapeCast ⟨4, ![4096, 16, 2, 128]⟩ a h₁) ht) h₂ (ix2 r l)
      = a (ix2 r (src l)) := by
  pointwise [src]

end Cert.Heads

end
-- ==== Proof.KeyProducts.lean ====
/-
  The three products with the keys' and values' weights, forward and backward: one block, the operands the host leaves, the result
  array, and the equation with the reference's result.
-/
module

public import proofs.«01_k».proof.Defs
public import proofs.«01_k».proof.Proof.Heads
public import proofs.«01_k».proof.Proof.Gen.Kernel26Ideal.Value
public import proofs.«01_k».proof.Proof.Gen.Reference26Ideal.Run
public import proofs.«01_k».proof.Proof.Gen.Kernel28Ideal.Value
public import proofs.«01_k».proof.Proof.Gen.Reference28Ideal.Run
public import proofs.«01_k».proof.Proof.Gen.Kernel30Ideal.Value
public import proofs.«01_k».proof.Proof.Gen.Reference30Ideal.Run
public import Idealize.ShloMosaic.Lib.Quiescent
public import Idealize.ShloMosaic.Adequacy

@[expose] public section

set_option maxRecDepth 16384

noncomputable section

namespace Cert.Kernel26Ideal.KeyForward

open Idealize.ShloMosaic Idealize.ShloMosaic.TcCoe Cert.Kernel26Ideal Cert.Kernel26Ideal.Gen Cert.Heads

/-- One block of the product. -/
theorem pay1_apply (a : FVec Ideal S1024x512 .bf16) (b : FVec Ideal S512x1024 .bf16) (r : Fin 1024) (s : Fin 1024) :
    k0_pay1 (F := Ideal) a b (ix2 r s) = ∑ l : Fin 512, a (ix2 r l) * b (ix2 l s) := by
  pointwise [k0_pay1]

variable (m : (ℓ : Loc nD τ sig) → Buf (Elt Ideal) ℓ) (c : Dev nD)

/-- What the host leaves as the cast operand. -/
theorem host_a : V m c main_v0 = truncf (F := Ideal) .bf16 (m (c.tc.loc main_arg0) : FVec Ideal S4096x512 .f32) bitsLt_bf16_f32 := by
  unfold V
  after_results_simp

/-- The host's cast leaves the operand's entries. -/
theorem entry_a (r : Fin 4096) (l : Fin 512) : (V m c main_v0 : FVec Ideal S4096x512 .bf16) (ix2 r l)
    = (m (c.tc.loc main_arg0) : FVec Ideal S4096x512 .f32) (ix2 r l) := by
  rw [host_a]
  rfl

/-- What the host leaves as the keys-first operand. -/
theorem host_b : V m c main_v4 = shapeCast S512x4096 (transpose S512x2x16x128 [0, 2, 1, 3]
    (shapeCast S512x16x2x128 (truncf (F := Ideal) .bf16 (m (c.tc.loc main_arg1) : FVec Ideal S512x4096 .f32) bitsLt_bf16_f32) shapeCasts_S512x4096_S512x16x2x128)
    transposes_S512x16x2x128_S512x2x16x128_0_2_1_3) shapeCasts_S512x2x16x128_S512x4096 := by
  unfold V
  simp only [List.flatten_cons, List.flatten_nil, List.append_nil, List.cons_append, List.nil_append]
  after_results_simp
  rfl

/-- The keys-first operand, entry by entry. -/
theorem entry_b (r : Fin 512) (l : Fin 4096) : (V m c main_v4 : FVec Ideal S512x4096 .bf16) (ix2 r l)
    = (m (c.tc.loc main_arg1) : FVec Ideal S512x4096 .f32) (ix2 r (src l)) := by
  rw [host_b]
  exact order_apply_512 _ _ _ _ r l

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The product of the two operands that the call is given. -/
def whole (a : FVec Ideal S4096x512 .bf16) (b : FVec Ideal S512x4096 .bf16) : FVec Ideal S4096x4096 .bf16 :=
  fun i => ∑ l : Fin 512, a (ix2 (i 0) l) * b (ix2 l (i 1))

/-- The result array: the operands' product. -/
theorem final_whole : (dats m 0 c).arrAt 2 cfg0.N = whole (V m c main_v0) (V m c main_v4) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 1024) (s : Fin 1024), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product of the rows and the weights, keys first. -/
def prod (x : FVec Ideal S4096x512 .f32) (w : FVec Ideal S512x4096 .f32) : FVec Ideal S4096x4096 .bf16 :=
  fun i => ∑ l : Fin 512, x (ix2 (i 0) l) * w (ix2 l (src (i 1)))

/-- The result, from the arguments. -/
theorem final : (dats m 0 c).arrAt 2 cfg0.N = prod (m (c.tc.loc main_arg0)) (m (c.tc.loc main_arg1)) := by
  rw [final_whole]
  funext i
  obtain ⟨R, C, rfl⟩ : ∃ (R : Fin 4096) (C : Fin 4096), i = ix2 R C := ⟨i 0, i 1, eq_ix2 i⟩
  refine (Finset.sum_congr rfl fun l _ => congrArg₂ (fun u v : EReal => u * v) (entry_a m c R l) (entry_b m c l C)).trans ?_
  rfl

end Cert.Kernel26Ideal.KeyForward

namespace Cert.KeyForward

open Idealize.ShloMosaic Idealize.ShloMosaic.TcCoe Idealize.SL.Sem Cert.Reference26Ideal Cert.Reference26Ideal.Gen Cert.Reference26Ideal.Value

/-- The reference's product, entry by entry. -/
theorem product_apply (x : FVec Ideal S4096x512 .f32) (w : FVec Ideal S512x4096 .f32) (R j : Fin 4096) :
    Host.dotGeneral (F := Ideal) (φ₁ := .f32) (φ₂ := .f32) dot_S4096x512_S512x4096_S4096x4096_1_0_0_1_n_n none x w (ix2 R j)
      = ∑ l : Fin 512, x (ix2 R l) * w (ix2 l j) := by
  pointwise

/-- The reference's result, entry by entry. -/
theorem host (x : FVec Ideal S4096x512 .f32) (w : FVec Ideal S512x4096 .f32) :
    truncf (F := Ideal) .bf16 (shapeCast S4096x4096 (transpose S4096x2x16x128 [0, 2, 1, 3] (shapeCast S4096x16x2x128
      (Host.dotGeneral (F := Ideal) (φ₁ := .f32) (φ₂ := .f32) dot_S4096x512_S512x4096_S4096x4096_1_0_0_1_n_n none x w) shapeCasts_S4096x4096_S4096x16x2x128)
      transposes_S4096x16x2x128_S4096x2x16x128_0_2_1_3) shapeCasts_S4096x2x16x128_S4096x4096) bitsLt_bf16_f32 = Kernel26Ideal.KeyForward.prod x w := by
  funext i
  obtain ⟨R, C, rfl⟩ : ∃ R C : Fin 4096, i = ix2 R C := ⟨i 0, i 1, eq_ix2 i⟩
  refine Eq.trans ?_ (product_apply x w R (Heads.src C))
  exact Heads.order_apply_4096 (φ := .f32) (Host.dotGeneral (F := Ideal) (φ₁ := .f32) (φ₂ := .f32)
    dot_S4096x512_S512x4096_S4096x4096_1_0_0_1_n_n none x w) shapeCasts_S4096x4096_S4096x16x2x128
    transposes_S4096x16x2x128_S4096x2x16x128_0_2_1_3 shapeCasts_S4096x2x16x128_S4096x4096 R C

/-- Every run of the reference ends, with every counter at zero and the arguments as launched. -/
theorem reference_frame : Cert.quiescent_Reference26Ideal :=
  fun m ρ _ => (θ_run Cert.Reference26Ideal.defs _ _).mono (fun r h => ⟨fun c => (h c).2, sem_eq_zero_of_no_sems (by decide) r.2⟩)
    (Value.run (F := Ideal) m ρ)

/-- The keys' and values' product is the reference's. -/
theorem algebraic : Cert.algebraic_Kernel26Ideal_Reference26Ideal := by
  intro m ρ m' ρ' _ hagree
  refine ⟨_, Cert.Kernel26Ideal.Value.run_blocks (F := Ideal) m ρ,
    (θ_run Cert.Reference26Ideal.defs _ _).mono (fun r h c => ?_) (Value.run (F := Ideal) m' ρ')⟩
  obtain ⟨h₀, h⟩ := h c
  obtain ⟨e0, e1⟩ := hagree c
  refine ⟨h₀.trans ?_, h⟩
  rw [e0, e1]
  exact (host _ _).trans (Kernel26Ideal.KeyForward.final m c).symm

end Cert.KeyForward

namespace Cert.Kernel28Ideal.KeyWeights

open Idealize.ShloMosaic Idealize.ShloMosaic.TcCoe Cert.Kernel28Ideal Cert.Kernel28Ideal.Gen Cert.Heads

/-- One block of the product. -/
theorem pay1_apply (a : FVec Ideal S4096x512 .bf16) (b : FVec Ideal S4096x1024 .bf16) (r : Fin 512) (s : Fin 1024) :
    k0_pay1 (F := Ideal) a b (ix2 r s) = ∑ l : Fin 4096, a (ix2 l r) * b (ix2 l s) := by
  pointwise [k0_pay1]

variable (m : (ℓ : Loc nD τ sig) → Buf (Elt Ideal) ℓ) (c : Dev nD)

/-- What the host leaves as the cast operand. -/
theorem host_a : V m c main_v0 = truncf (F := Ideal) .bf16 (m (c.tc.loc main_arg0) : FVec Ideal S4096x512 .f32) bitsLt_bf16_f32 := by
  unfold V
  after_results_simp

/-- The host's cast leaves the operand's entries. -/
theorem entry_a (r : Fin 4096) (l : Fin 512) : (V m c main_v0 : FVec Ideal S4096x512 .bf16) (ix2 r l)
    = (m (c.tc.loc main_arg0) : FVec Ideal S4096x512 .f32) (ix2 r l) := by
  rw [host_a]
  rfl

/-- What the host leaves as the keys-first operand. -/
theorem host_b : V m c main_v4 = shapeCast S4096x4096 (transpose S4096x2x16x128 [0, 2, 1, 3]
    (shapeCast S4096x16x2x128 (truncf (F := Ideal) .bf16 (m (c.tc.loc main_arg2) : FVec Ideal S4096x4096 .f32) bitsLt_bf16_f32) shapeCasts_S4096x4096_S4096x16x2x128)
    transposes_S4096x16x2x128_S4096x2x16x128_0_2_1_3) shapeCasts_S4096x2x16x128_S4096x4096 := by
  unfold V
  simp only [List.flatten_cons, List.flatten_nil, List.append_nil, List.cons_append, List.nil_append]
  after_results_simp
  rfl

/-- The keys-first operand, entry by entry. -/
theorem entry_b (r : Fin 4096) (l : Fin 4096) : (V m c main_v4 : FVec Ideal S4096x4096 .bf16) (ix2 r l)
    = (m (c.tc.loc main_arg2) : FVec Ideal S4096x4096 .f32) (ix2 r (src l)) := by
  rw [host_b]
  exact order_apply_4096 _ _ _ _ r l

theorem idx : ∀ t : Fin cfg0.N, win0_0.index t = ![0, 0] ∧ win0_1.index t = ![0, t.val]
    ∧ win0_2.index t = ![0, t.val] :=
  (by decide +kernel : ∀ t : Fin grid0.N, _)

/-- The product of the two operands that the call is given. -/
def whole (a : FVec Ideal S4096x512 .bf16) (b : FVec Ideal S4096x4096 .bf16) : FVec Ideal S512x4096 .bf16 :=
  fun i => ∑ l : Fin 4096, a (ix2 l (i 0)) * b (ix2 l (i 1))

/-- The result array: the operands' product. -/
theorem final_whole : (dats m 0 c).arrAt 2 cfg0.N = whole (V m c main_v0) (V m c main_v4) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 512) (s : Fin 1024), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product over the rows, keys first. -/
def prod (x : FVec Ideal S4096x512 .f32) (d : FVec Ideal S4096x4096 .f32) : FVec Ideal S512x4096 .bf16 :=
  fun i => ∑ l : Fin 4096, x (ix2 l (i 0)) * d (ix2 l (src (i 1)))

/-- The result, from the arguments. -/
theorem final : (dats m 0 c).arrAt 2 cfg0.N = prod (m (c.tc.loc main_arg0)) (m (c.tc.loc main_arg2)) := by
  rw [final_whole]
  funext i
  obtain ⟨R, C, rfl⟩ : ∃ (R : Fin 512) (C : Fin 4096), i = ix2 R C := ⟨i 0, i 1, eq_ix2 i⟩
  refine (Finset.sum_congr rfl fun l _ => congrArg₂ (fun u v : EReal => u * v) (entry_a m c l R) (entry_b m c l C)).trans ?_
  rfl

end Cert.Kernel28Ideal.KeyWeights

namespace Cert.KeyWeights

open Idealize.ShloMosaic Idealize.ShloMosaic.TcCoe Idealize.SL.Sem Cert.Reference28Ideal Cert.Reference28Ideal.Gen Cert.Reference28Ideal.Value

/-- The reference's gradient, turned. -/
theorem turned_apply (x : FVec Ideal S4096x512 .f32) (d : FVec Ideal S4096x4096 .f32) (R : Fin 512) (j : Fin 4096) :
    transpose S512x4096 [1, 0] (Host.dotGeneral (F := Ideal) (φ₁ := .f32) (φ₂ := .f32) dot_S4096x4096_S4096x512_S4096x512_0_0_1_1_n_n none d x)
      transposes_S4096x512_S512x4096_1_0 (ix2 R j) = ∑ l : Fin 4096, x (ix2 l R) * d (ix2 l j) := by
  refine Eq.trans ?_ (Finset.sum_congr rfl fun l _ => mul_comm (G := EReal) (d (ix2 l j)) (x (ix2 l R)))
  pointwise

/-- The reference's result, entry by entry. -/
theorem host (x : FVec Ideal S4096x512 .f32) (d : FVec Ideal S4096x4096 .f32) :
    truncf (F := Ideal) .bf16 (shapeCast S512x4096 (transpose S512x2x16x128 [0, 2, 1, 3] (shapeCast S512x16x2x128 (transpose S512x4096 [1, 0]
      (Host.dotGeneral (F := Ideal) (φ₁ := .f32) (φ₂ := .f32) dot_S4096x4096_S4096x512_S4096x512_0_0_1_1_n_n none d x)
      transposes_S4096x512_S512x4096_1_0) shapeCasts_S512x4096_S512x16x2x128) transposes_S512x16x2x128_S512x2x16x128_0_2_1_3)
      shapeCasts_S512x2x16x128_S512x4096) bitsLt_bf16_f32 = Kernel28Ideal.KeyWeights.prod x d := by
  funext i
  obtain ⟨R, C, rfl⟩ : ∃ (R : Fin 512) (C : Fin 4096), i = ix2 R C := ⟨i 0, i 1, eq_ix2 i⟩
  refine Eq.trans ?_ (turned_apply x d R (Heads.src C))
  exact Heads.order_apply_512 (φ := .f32) (transpose S512x4096 [1, 0] (Host.dotGeneral (F := Ideal) (φ₁ := .f32) (φ₂ := .f32)
    dot_S4096x4096_S4096x512_S4096x512_0_0_1_1_n_n none d x) transposes_S4096x512_S512x4096_1_0) shapeCasts_S512x4096_S512x16x2x128
    transposes_S512x16x2x128_S512x2x16x128_0_2_1_3 shapeCasts_S512x2x16x128_S512x4096 R C

/-- Every run of the reference ends, with every counter at zero and the arguments as launched. -/
theorem reference_frame : Cert.quiescent_Reference28Ideal :=
  fun m ρ _ => (θ_run Cert.Reference28Ideal.defs _ _).mono (fun r h => ⟨fun c => (h c).2, sem_eq_zero_of_no_sems (by decide) r.2⟩)
    (Value.run (F := Ideal) m ρ)

/-- The key and value weights' gradient is the reference's. -/
theorem algebraic : Cert.algebraic_Kernel28Ideal_Reference28Ideal := by
  intro m ρ m' ρ' _ hagree
  refine ⟨_, Cert.Kernel28Ideal.Value.run_blocks (F := Ideal) m ρ,
    (θ_run Cert.Reference28Ideal.defs _ _).mono (fun r h c => ?_) (Value.run (F := Ideal) m' ρ')⟩
  obtain ⟨h₀, h⟩ := h c
  obtain ⟨e0, e1, e2⟩ := hagree c
  refine ⟨h₀.trans ?_, h⟩
  rw [e0, e2]
  exact (host _ _).trans (Kernel28Ideal.KeyWeights.final m c).symm

end Cert.KeyWeights

namespace Cert.Kernel30Ideal.KeyRows

open Idealize.ShloMosaic Idealize.ShloMosaic.TcCoe Cert.Kernel30Ideal Cert.Kernel30Ideal.Gen Cert.Heads

/-- One block of the product. -/
theorem pay1_apply (a : FVec Ideal S1024x4096 .bf16) (b : FVec Ideal S512x4096 .bf16) (r : Fin 1024) (s : Fin 512) :
    k0_pay1 (F := Ideal) a b (ix2 r s) = ∑ l : Fin 4096, a (ix2 r l) * b (ix2 s l) := by
  pointwise [k0_pay1]

variable (m : (ℓ : Loc nD τ sig) → Buf (Elt Ideal) ℓ) (c : Dev nD)

/-- What the host leaves as the keys-first operand. -/
theorem host_a : V m c main_v3 = shapeCast S4096x4096 (transpose S4096x2x16x128 [0, 2, 1, 3]
    (shapeCast S4096x16x2x128 (truncf (F := Ideal) .bf16 (m (c.tc.loc main_arg2) : FVec Ideal S4096x4096 .f32) bitsLt_bf16_f32) shapeCasts_S4096x4096_S4096x16x2x128)
    transposes_S4096x16x2x128_S4096x2x16x128_0_2_1_3) shapeCasts_S4096x2x16x128_S4096x4096 := by
  unfold V
  simp only [List.flatten_cons, List.flatten_nil, List.append_nil, List.cons_append, List.nil_append]
  after_results_simp
  rfl

/-- The keys-first operand, entry by entry. -/
theorem entry_a (r : Fin 4096) (l : Fin 4096) : (V m c main_v3 : FVec Ideal S4096x4096 .bf16) (ix2 r l)
    = (m (c.tc.loc main_arg2) : FVec Ideal S4096x4096 .f32) (ix2 r (src l)) := by
  rw [host_a]
  exact order_apply_4096 _ _ _ _ r l

/-- What the host leaves as the keys-first operand. -/
theorem host_b : V m c main_v7 = shapeCast S512x4096 (transpose S512x2x16x128 [0, 2, 1, 3]
    (shapeCast S512x16x2x128 (truncf (F := Ideal) .bf16 (m (c.tc.loc main_arg1) : FVec Ideal S512x4096 .f32) bitsLt_bf16_f32) shapeCasts_S512x4096_S512x16x2x128)
    transposes_S512x16x2x128_S512x2x16x128_0_2_1_3) shapeCasts_S512x2x16x128_S512x4096 := by
  unfold V
  simp only [List.flatten_cons, List.flatten_nil, List.append_nil, List.cons_append, List.nil_append]
  after_results_simp
  rfl

/-- The keys-first operand, entry by entry. -/
theorem entry_b (r : Fin 512) (l : Fin 4096) : (V m c main_v7 : FVec Ideal S512x4096 .bf16) (ix2 r l)
    = (m (c.tc.loc main_arg1) : FVec Ideal S512x4096 .f32) (ix2 r (src l)) := by
  rw [host_b]
  exact order_apply_512 _ _ _ _ r l

theorem idx : ∀ t : Fin cfg0.N, win0_0.index t = ![t.val, 0] ∧ win0_1.index t = ![0, 0]
    ∧ win0_2.index t = ![t.val, 0] :=
  (by decide +kernel : ∀ t : Fin grid0.N, _)

/-- The product of the two operands that the call is given. -/
def whole (a : FVec Ideal S4096x4096 .bf16) (b : FVec Ideal S512x4096 .bf16) : FVec Ideal S4096x512 .bf16 :=
  fun i => ∑ l : Fin 4096, a (ix2 (i 0) l) * b (ix2 (i 1) l)

/-- The result array: the operands' product. -/
theorem final_whole : (dats m 0 c).arrAt 2 cfg0.N = whole (V m c main_v3) (V m c main_v7) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 1024) (s : Fin 512), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product over the weights' columns. -/
def prod (d : FVec Ideal S4096x4096 .f32) (w : FVec Ideal S512x4096 .f32) : FVec Ideal S4096x512 .bf16 :=
  fun i => ∑ j : Fin 4096, d (ix2 (i 0) j) * w (ix2 (i 1) j)

/-- The result, from the arguments. -/
theorem final : (dats m 0 c).arrAt 2 cfg0.N = prod (m (c.tc.loc main_arg2)) (m (c.tc.loc main_arg1)) := by
  rw [final_whole]
  funext i
  obtain ⟨R, C, rfl⟩ : ∃ (R : Fin 4096) (C : Fin 512), i = ix2 R C := ⟨i 0, i 1, eq_ix2 i⟩
  refine (Finset.sum_congr rfl fun l _ => congrArg₂ (fun u v : EReal => u * v) (entry_a m c R l) (entry_b m c C l)).trans ?_
  exact sum_src fun j => HMul.hMul (α := EReal) (β := EReal) (γ := EReal) ((m (c.tc.loc main_arg2) : FVec Ideal S4096x4096 .f32) (ix2 R j))
    ((m (c.tc.loc main_arg1) : FVec Ideal S512x4096 .f32) (ix2 C j))

end Cert.Kernel30Ideal.KeyRows

namespace Cert.KeyRows

open Idealize.ShloMosaic Idealize.ShloMosaic.TcCoe Idealize.SL.Sem Cert.Reference30Ideal Cert.Reference30Ideal.Gen Cert.Reference30Ideal.Value

/-- The reference's result, entry by entry. -/
theorem host (d : FVec Ideal S4096x4096 .f32) (w : FVec Ideal S512x4096 .f32) :
    truncf (F := Ideal) .bf16 (Host.dotGeneral (F := Ideal) (φ₁ := .f32) (φ₂ := .f32) dot_S4096x4096_S512x4096_S4096x512_1_1_0_0_n_n none d w)
      bitsLt_bf16_f32 = Kernel30Ideal.KeyRows.prod d w := by
  funext i
  obtain ⟨R, C, rfl⟩ : ∃ (R : Fin 4096) (C : Fin 512), i = ix2 R C := ⟨i 0, i 1, eq_ix2 i⟩
  pointwise [Kernel30Ideal.KeyRows.prod]

/-- Every run of the reference ends, with every counter at zero and the arguments as launched. -/
theorem reference_frame : Cert.quiescent_Reference30Ideal :=
  fun m ρ _ => (θ_run Cert.Reference30Ideal.defs _ _).mono (fun r h => ⟨fun c => (h c).2, sem_eq_zero_of_no_sems (by decide) r.2⟩)
    (Value.run (F := Ideal) m ρ)

/-- The normalised keys' and values' gradient is the reference's. -/
theorem algebraic : Cert.algebraic_Kernel30Ideal_Reference30Ideal := by
  intro m ρ m' ρ' _ hagree
  refine ⟨_, Cert.Kernel30Ideal.Value.run_blocks (F := Ideal) m ρ,
    (θ_run Cert.Reference30Ideal.defs _ _).mono (fun r h c => ?_) (Value.run (F := Ideal) m' ρ')⟩
  obtain ⟨h₀, h⟩ := h c
  obtain ⟨e0, e1, e2⟩ := hagree c
  refine ⟨h₀.trans ?_, h⟩
  rw [e1, e2]
  exact (host _ _).trans (Kernel30Ideal.KeyRows.final m c).symm

end Cert.KeyRows

end
-- ==== Proof.QueryProducts.lean ====
/-
  The three products with the queries' weights, forward and backward: one block, the operands the host leaves, the result array, and
  the equation with the reference's result.
-/
module

public import proofs.«01_k».proof.Defs
public import proofs.«01_k».proof.Proof.Heads
public import proofs.«01_k».proof.Proof.Gen.Kernel25Ideal.Value
public import proofs.«01_k».proof.Proof.Gen.Reference25Ideal.Run
public import proofs.«01_k».proof.Proof.Gen.Kernel27Ideal.Value
public import proofs.«01_k».proof.Proof.Gen.Reference27Ideal.Run
public import proofs.«01_k».proof.Proof.Gen.Kernel29Ideal.Value
public import proofs.«01_k».proof.Proof.Gen.Reference29Ideal.Run
public import Idealize.ShloMosaic.Lib.Quiescent
public import Idealize.ShloMosaic.Adequacy

@[expose] public section

set_option maxRecDepth 16384

noncomputable section

namespace Cert.Kernel25Ideal.QueryForward

open Idealize.ShloMosaic Idealize.ShloMosaic.TcCoe Cert.Kernel25Ideal Cert.Kernel25Ideal.Gen Cert.Heads

/-- One block of the product. -/
theorem pay1_apply (a : FVec Ideal S1024x1024 .bf16) (b : FVec Ideal S1024x1024 .bf16) (r : Fin 1024) (s : Fin 1024) :
    k0_pay1 (F := Ideal) a b (ix2 r s) = ∑ l : Fin 1024, a (ix2 r l) * b (ix2 l s) := by
  pointwise [k0_pay1]

variable (m : (ℓ : Loc nD τ sig) → Buf (Elt Ideal) ℓ) (c : Dev nD)

/-- What the host leaves as the cast operand. -/
theorem host_a : V m c main_v0 = truncf (F := Ideal) .bf16 (m (c.tc.loc main_arg0) : FVec Ideal S4096x1024 .f32) bitsLt_bf16_f32 := by
  unfold V
  simp only [List.flatten_cons, List.flatten_nil, List.append_nil, List.cons_append, List.nil_append]
  after_results_simp

/-- The host's cast leaves the operand's entries. -/
theorem entry_a (r : Fin 4096) (l : Fin 1024) : (V m c main_v0 : FVec Ideal S4096x1024 .bf16) (ix2 r l)
    = (m (c.tc.loc main_arg0) : FVec Ideal S4096x1024 .f32) (ix2 r l) := by
  rw [host_a]
  rfl

/-- What the host leaves as the padded operand. -/
theorem host_b : V m c main_v4 = shapeCast S1024x4096 (pad S1024x16x256 ![0, 0, 0] ![0, 0, 64] ![0, 0, 0]
    (shapeCast S1024x16x192 (truncf (F := Ideal) .bf16 (m (c.tc.loc main_arg1) : FVec Ideal S1024x3072 .f32) bitsLt_bf16_f32) shapeCasts_S1024x3072_S1024x16x192)
    (sitofp (F := Ideal) .bf16 (constantI S_ 32 0#32)) pads_S1024x16x192_S1024x16x256_000_000_0640 h_S_) shapeCasts_S1024x16x256_S1024x4096 := by
  unfold V
  simp only [List.flatten_cons, List.flatten_nil, List.append_nil, List.cons_append, List.nil_append]
  after_results_simp
  rfl

/-- The padded operand, entry by entry. -/
theorem entry_b (r : Fin 1024) (l : Fin 4096) : (V m c main_v4 : FVec Ideal S1024x4096 .bf16) (ix2 r l)
    = padAt (fun j => (m (c.tc.loc main_arg1) : FVec Ideal S1024x3072 .f32) (ix2 r j)) l := by
  rw [host_b]
  exact pad_apply_1024 _ _ _ _ _ _ r l

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The product of the two operands that the call is given. -/
def whole (a : FVec Ideal S4096x1024 .bf16) (b : FVec Ideal S1024x4096 .bf16) : FVec Ideal S4096x4096 .f32 :=
  fun i => ∑ l : Fin 1024, a (ix2 (i 0) l) * b (ix2 l (i 1))

/-- The result array: the operands' product. -/
theorem final_whole : (dats m 0 c).arrAt 2 cfg0.N = whole (V m c main_v0) (V m c main_v4) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 1024) (s : Fin 1024), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product of the rows and the weights, each head's columns padded. -/
def prod (x : FVec Ideal S4096x1024 .f32) (w : FVec Ideal S1024x3072 .f32) : FVec Ideal S4096x4096 .f32 :=
  fun i => padAt (fun j => ∑ l : Fin 1024, x (ix2 (i 0) l) * w (ix2 l j)) (i 1)

/-- The result, from the arguments. -/
theorem final : (dats m 0 c).arrAt 2 cfg0.N = prod (m (c.tc.loc main_arg0)) (m (c.tc.loc main_arg1)) := by
  rw [final_whole]
  funext i
  obtain ⟨R, C, rfl⟩ : ∃ (R : Fin 4096) (C : Fin 4096), i = ix2 R C := ⟨i 0, i 1, eq_ix2 i⟩
  refine (Finset.sum_congr rfl fun l _ => congrArg₂ (fun u v : EReal => u * v) (entry_a m c R l) (entry_b m c l C)).trans ?_
  exact mul_padAt _ _ C

end Cert.Kernel25Ideal.QueryForward

namespace Cert.QueryForward

open Idealize.ShloMosaic Idealize.ShloMosaic.TcCoe Idealize.SL.Sem Cert.Reference25Ideal Cert.Reference25Ideal.Gen Cert.Reference25Ideal.Value

/-- The reference's result, entry by entry. -/
theorem host (x : FVec Ideal S4096x1024 .f32) (w : FVec Ideal S1024x3072 .f32) :
    shapeCast S4096x4096 (concatenate S4096x16x256 2 [⟨S4096x16x192, (shapeCast S4096x16x192
      (Host.dotGeneral (F := Ideal) (φ₁ := .f32) (φ₂ := .f32) dot_S4096x1024_S1024x3072_S4096x3072_1_0_0_1_n_n none x w) shapeCasts_S4096x3072_S4096x16x192)⟩,
      ⟨S4096x16x64, (broadcastInDim S4096x16x64 ![] bcast_S_S4096x16x64 (constant (F := Ideal) S_ .f32 0x00000000#32))⟩]
      concatenates_S4096x16x192_S4096x16x64_S4096x16x256_d2) shapeCasts_S4096x16x256_S4096x4096 = Kernel25Ideal.QueryForward.prod x w := by
  funext i
  obtain ⟨R, C, rfl⟩ : ∃ R C : Fin 4096, i = ix2 R C := ⟨i 0, i 1, eq_ix2 i⟩
  refine (Heads.join_apply_4096 _ _ _ _ _ R C).trans (congrArg (fun f => Heads.padAt f C) (funext fun j => ?_))
  pointwise

/-- Every run of the reference ends, with every counter at zero and the arguments as launched. -/
theorem reference_frame : Cert.quiescent_Reference25Ideal :=
  fun m ρ _ => (θ_run Cert.Reference25Ideal.defs _ _).mono (fun r h => ⟨fun c => (h c).2, sem_eq_zero_of_no_sems (by decide) r.2⟩)
    (Value.run (F := Ideal) m ρ)

/-- The queries' product is the reference's. -/
theorem algebraic : Cert.algebraic_Kernel25Ideal_Reference25Ideal := by
  intro m ρ m' ρ' _ hagree
  refine ⟨_, Cert.Kernel25Ideal.Value.run_blocks (F := Ideal) m ρ,
    (θ_run Cert.Reference25Ideal.defs _ _).mono (fun r h c => ?_) (Value.run (F := Ideal) m' ρ')⟩
  obtain ⟨h₀, h⟩ := h c
  obtain ⟨e0, e1⟩ := hagree c
  refine ⟨h₀.trans ?_, h⟩
  rw [e0, e1]
  exact (host _ _).trans (Kernel25Ideal.QueryForward.final m c).symm

end Cert.QueryForward

namespace Cert.Kernel27Ideal.QueryWeights

open Idealize.ShloMosaic Idealize.ShloMosaic.TcCoe Cert.Kernel27Ideal Cert.Kernel27Ideal.Gen Cert.Heads

/-- One block of the product. -/
theorem pay1_apply (a : FVec Ideal S4096x1024 .bf16) (b : FVec Ideal S4096x1024 .bf16) (r : Fin 1024) (s : Fin 1024) :
    k0_pay1 (F := Ideal) a b (ix2 r s) = ∑ l : Fin 4096, a (ix2 l r) * b (ix2 l s) := by
  pointwise [k0_pay1]

variable (m : (ℓ : Loc nD τ sig) → Buf (Elt Ideal) ℓ) (c : Dev nD)

/-- What the host leaves as the cast operand. -/
theorem host_a : V m c main_v0 = truncf (F := Ideal) .bf16 (m (c.tc.loc main_arg0) : FVec Ideal S4096x1024 .f32) bitsLt_bf16_f32 := by
  unfold V
  simp only [List.flatten_cons, List.flatten_nil, List.append_nil, List.cons_append, List.nil_append]
  after_results_simp

/-- The host's cast leaves the operand's entries. -/
theorem entry_a (r : Fin 4096) (l : Fin 1024) : (V m c main_v0 : FVec Ideal S4096x1024 .bf16) (ix2 r l)
    = (m (c.tc.loc main_arg0) : FVec Ideal S4096x1024 .f32) (ix2 r l) := by
  rw [host_a]
  rfl

/-- What the host leaves as the padded operand. -/
theorem host_b : V m c main_v4 = shapeCast S4096x4096 (pad S4096x16x256 ![0, 0, 0] ![0, 0, 64] ![0, 0, 0]
    (shapeCast S4096x16x192 (truncf (F := Ideal) .bf16 (m (c.tc.loc main_arg2) : FVec Ideal S4096x3072 .f32) bitsLt_bf16_f32) shapeCasts_S4096x3072_S4096x16x192)
    (sitofp (F := Ideal) .bf16 (constantI S_ 32 0#32)) pads_S4096x16x192_S4096x16x256_000_000_0640 h_S_) shapeCasts_S4096x16x256_S4096x4096 := by
  unfold V
  simp only [List.flatten_cons, List.flatten_nil, List.append_nil, List.cons_append, List.nil_append]
  after_results_simp
  rfl

/-- The padded operand, entry by entry. -/
theorem entry_b (r : Fin 4096) (l : Fin 4096) : (V m c main_v4 : FVec Ideal S4096x4096 .bf16) (ix2 r l)
    = padAt (fun j => (m (c.tc.loc main_arg2) : FVec Ideal S4096x3072 .f32) (ix2 r j)) l := by
  rw [host_b]
  exact pad_apply_4096 _ _ _ _ _ _ r l

theorem idx : ∀ t : Fin cfg0.N, win0_0.index t = ![0, 0] ∧ win0_1.index t = ![0, t.val]
    ∧ win0_2.index t = ![0, t.val] :=
  (by decide +kernel : ∀ t : Fin grid0.N, _)

/-- The product of the two operands that the call is given. -/
def whole (a : FVec Ideal S4096x1024 .bf16) (b : FVec Ideal S4096x4096 .bf16) : FVec Ideal S1024x4096 .bf16 :=
  fun i => ∑ l : Fin 4096, a (ix2 l (i 0)) * b (ix2 l (i 1))

/-- The result array: the operands' product. -/
theorem final_whole : (dats m 0 c).arrAt 2 cfg0.N = whole (V m c main_v0) (V m c main_v4) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 1024) (s : Fin 1024), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product over the rows, each head's columns padded. -/
def prod (x : FVec Ideal S4096x1024 .f32) (d : FVec Ideal S4096x3072 .f32) : FVec Ideal S1024x4096 .bf16 :=
  fun i => padAt (fun j => ∑ l : Fin 4096, x (ix2 l (i 0)) * d (ix2 l j)) (i 1)

/-- The result, from the arguments. -/
theorem final : (dats m 0 c).arrAt 2 cfg0.N = prod (m (c.tc.loc main_arg0)) (m (c.tc.loc main_arg2)) := by
  rw [final_whole]
  funext i
  obtain ⟨R, C, rfl⟩ : ∃ (R : Fin 1024) (C : Fin 4096), i = ix2 R C := ⟨i 0, i 1, eq_ix2 i⟩
  refine (Finset.sum_congr rfl fun l _ => congrArg₂ (fun u v : EReal => u * v) (entry_a m c l R) (entry_b m c l C)).trans ?_
  exact mul_padAt _ _ C

end Cert.Kernel27Ideal.QueryWeights

namespace Cert.QueryWeights

open Idealize.ShloMosaic Idealize.ShloMosaic.TcCoe Idealize.SL.Sem Cert.Reference27Ideal Cert.Reference27Ideal.Gen Cert.Reference27Ideal.Value

/-- The reference's gradient, turned. -/
theorem turned_apply (x : FVec Ideal S4096x1024 .f32) (d : FVec Ideal S4096x3072 .f32) (R : Fin 1024) (j : Fin 3072) :
    transpose S1024x3072 [1, 0] (Host.dotGeneral (F := Ideal) (φ₁ := .f32) (φ₂ := .f32) dot_S4096x3072_S4096x1024_S3072x1024_0_0_1_1_n_n none d x)
      transposes_S3072x1024_S1024x3072_1_0 (ix2 R j) = ∑ l : Fin 4096, x (ix2 l R) * d (ix2 l j) := by
  refine Eq.trans ?_ (Finset.sum_congr rfl fun l _ => mul_comm (G := EReal) (d (ix2 l j)) (x (ix2 l R)))
  pointwise

/-- The reference's result, entry by entry. -/
theorem host (x : FVec Ideal S4096x1024 .f32) (d : FVec Ideal S4096x3072 .f32) :
    truncf (F := Ideal) .bf16 (shapeCast S1024x4096 (concatenate S1024x16x256 2 [⟨S1024x16x192, (shapeCast S1024x16x192 (transpose S1024x3072 [1, 0]
      (Host.dotGeneral (F := Ideal) (φ₁ := .f32) (φ₂ := .f32) dot_S4096x3072_S4096x1024_S3072x1024_0_0_1_1_n_n none d x)
      transposes_S3072x1024_S1024x3072_1_0) shapeCasts_S1024x3072_S1024x16x192)⟩,
      ⟨S1024x16x64, (broadcastInDim S1024x16x64 ![] bcast_S_S1024x16x64 (constant (F := Ideal) S_ .f32 0x00000000#32))⟩]
      concatenates_S1024x16x192_S1024x16x64_S1024x16x256_d2) shapeCasts_S1024x16x256_S1024x4096) bitsLt_bf16_f32 = Kernel27Ideal.QueryWeights.prod x d := by
  funext i
  obtain ⟨R, C, rfl⟩ : ∃ (R : Fin 1024) (C : Fin 4096), i = ix2 R C := ⟨i 0, i 1, eq_ix2 i⟩
  refine Eq.trans ?_ (congrArg (fun f => Heads.padAt f C) (funext fun j => turned_apply x d R j))
  exact Heads.join_apply_1024 (transpose S1024x3072 [1, 0] (Host.dotGeneral (F := Ideal) (φ₁ := .f32) (φ₂ := .f32)
    dot_S4096x3072_S4096x1024_S3072x1024_0_0_1_1_n_n none d x) transposes_S3072x1024_S1024x3072_1_0) shapeCasts_S1024x3072_S1024x16x192
    bcast_S_S1024x16x64 concatenates_S1024x16x192_S1024x16x64_S1024x16x256_d2 shapeCasts_S1024x16x256_S1024x4096 R C

/-- Every run of the reference ends, with every counter at zero and the arguments as launched. -/
theorem reference_frame : Cert.quiescent_Reference27Ideal :=
  fun m ρ _ => (θ_run Cert.Reference27Ideal.defs _ _).mono (fun r h => ⟨fun c => (h c).2, sem_eq_zero_of_no_sems (by decide) r.2⟩)
    (Value.run (F := Ideal) m ρ)

/-- The query weights' gradient is the reference's. -/
theorem algebraic : Cert.algebraic_Kernel27Ideal_Reference27Ideal := by
  intro m ρ m' ρ' _ hagree
  refine ⟨_, Cert.Kernel27Ideal.Value.run_blocks (F := Ideal) m ρ,
    (θ_run Cert.Reference27Ideal.defs _ _).mono (fun r h c => ?_) (Value.run (F := Ideal) m' ρ')⟩
  obtain ⟨h₀, h⟩ := h c
  obtain ⟨e0, e1, e2⟩ := hagree c
  refine ⟨h₀.trans ?_, h⟩
  rw [e0, e2]
  exact (host _ _).trans (Kernel27Ideal.QueryWeights.final m c).symm

end Cert.QueryWeights

namespace Cert.Kernel29Ideal.QueryRows

open Idealize.ShloMosaic Idealize.ShloMosaic.TcCoe Cert.Kernel29Ideal Cert.Kernel29Ideal.Gen Cert.Heads

/-- One block of the product. -/
theorem pay1_apply (a : FVec Ideal S1024x4096 .bf16) (b : FVec Ideal S1024x4096 .bf16) (r : Fin 1024) (s : Fin 1024) :
    k0_pay1 (F := Ideal) a b (ix2 r s) = ∑ l : Fin 4096, a (ix2 r l) * b (ix2 s l) := by
  pointwise [k0_pay1]

variable (m : (ℓ : Loc nD τ sig) → Buf (Elt Ideal) ℓ) (c : Dev nD)

/-- What the host leaves as the padded operand. -/
theorem host_a : V m c main_v3 = shapeCast S4096x4096 (pad S4096x16x256 ![0, 0, 0] ![0, 0, 64] ![0, 0, 0]
    (shapeCast S4096x16x192 (truncf (F := Ideal) .bf16 (m (c.tc.loc main_arg2) : FVec Ideal S4096x3072 .f32) bitsLt_bf16_f32) shapeCasts_S4096x3072_S4096x16x192)
    (sitofp (F := Ideal) .bf16 (constantI S_ 32 0#32)) pads_S4096x16x192_S4096x16x256_000_000_0640 h_S_) shapeCasts_S4096x16x256_S4096x4096 := by
  unfold V
  simp only [List.flatten_cons, List.flatten_nil, List.append_nil, List.cons_append, List.nil_append]
  after_results_simp
  rfl

/-- The padded operand, entry by entry. -/
theorem entry_a (r : Fin 4096) (l : Fin 4096) : (V m c main_v3 : FVec Ideal S4096x4096 .bf16) (ix2 r l)
    = padAt (fun j => (m (c.tc.loc main_arg2) : FVec Ideal S4096x3072 .f32) (ix2 r j)) l := by
  rw [host_a]
  exact pad_apply_4096 _ _ _ _ _ _ r l

/-- What the host leaves as the padded operand. -/
theorem host_b : V m c main_v7 = shapeCast S1024x4096 (pad S1024x16x256 ![0, 0, 0] ![0, 0, 64] ![0, 0, 0]
    (shapeCast S1024x16x192 (truncf (F := Ideal) .bf16 (m (c.tc.loc main_arg1) : FVec Ideal S1024x3072 .f32) bitsLt_bf16_f32) shapeCasts_S1024x3072_S1024x16x192)
    (sitofp (F := Ideal) .bf16 (constantI S_ 32 0#32)) pads_S1024x16x192_S1024x16x256_000_000_0640 h_S_) shapeCasts_S1024x16x256_S1024x4096 := by
  unfold V
  simp only [List.flatten_cons, List.flatten_nil, List.append_nil, List.cons_append, List.nil_append]
  after_results_simp
  rfl

/-- The padded operand, entry by entry. -/
theorem entry_b (r : Fin 1024) (l : Fin 4096) : (V m c main_v7 : FVec Ideal S1024x4096 .bf16) (ix2 r l)
    = padAt (fun j => (m (c.tc.loc main_arg1) : FVec Ideal S1024x3072 .f32) (ix2 r j)) l := by
  rw [host_b]
  exact pad_apply_1024 _ _ _ _ _ _ r l

theorem idx : ∀ t : Fin cfg0.N, win0_0.index t = ![t.val, 0] ∧ win0_1.index t = ![0, 0]
    ∧ win0_2.index t = ![t.val, 0] :=
  (by decide +kernel : ∀ t : Fin grid0.N, _)

/-- The product of the two operands that the call is given. -/
def whole (a : FVec Ideal S4096x4096 .bf16) (b : FVec Ideal S1024x4096 .bf16) : FVec Ideal S4096x1024 .bf16 :=
  fun i => ∑ l : Fin 4096, a (ix2 (i 0) l) * b (ix2 (i 1) l)

/-- The result array: the operands' product. -/
theorem final_whole : (dats m 0 c).arrAt 2 cfg0.N = whole (V m c main_v3) (V m c main_v7) := by
  refine (dats m 0 c).arrAt_eq_of_covers 2 _ (by decide +kernel) fun t hf y => ?_
  blk_simp
  rw [after0_2]
  have e : out0_2 (iblk m c 0 t) (iblk m c 1 t) y = k0_pay1 (F := Ideal) (iblk m c 0 t) (iblk m c 1 t) y := by
    unfold out0_2; frame_out
  refine e.trans ?_
  obtain ⟨r, s, rfl⟩ : ∃ (r : Fin 1024) (s : Fin 1024), y = ix2 r s := ⟨y 0, y 1, eq_ix2 y⟩
  refine (pay1_apply _ _ r s).trans (Finset.sum_congr rfl fun l _ => congrArg₂ (fun u v : EReal => u * v) ?_ ?_)
  · blk_ext [iblk, idx t]
  · blk_ext [iblk, idx t]

/-- The product over the weights' columns. -/
def prod (d : FVec Ideal S4096x3072 .f32) (w : FVec Ideal S1024x3072 .f32) : FVec Ideal S4096x1024 .bf16 :=
  fun i => ∑ j : Fin 3072, d (ix2 (i 0) j) * w (ix2 (i 1) j)

/-- The result, from the arguments. -/
theorem final : (dats m 0 c).arrAt 2 cfg0.N = prod (m (c.tc.loc main_arg2)) (m (c.tc.loc main_arg1)) := by
  rw [final_whole]
  funext i
  obtain ⟨R, C, rfl⟩ : ∃ (R : Fin 4096) (C : Fin 1024), i = ix2 R C := ⟨i 0, i 1, eq_ix2 i⟩
  refine (Finset.sum_congr rfl fun l _ => congrArg₂ (fun u v : EReal => u * v) (entry_a m c R l) (entry_b m c C l)).trans ?_
  exact sum_mul _ _

end Cert.Kernel29Ideal.QueryRows

namespace Cert.QueryRows

open Idealize.ShloMosaic Idealize.ShloMosaic.TcCoe Idealize.SL.Sem Cert.Reference29Ideal Cert.Reference29Ideal.Gen Cert.Reference29Ideal.Value

/-- The reference's result, entry by entry. -/
theorem host (d : FVec Ideal S4096x3072 .f32) (w : FVec Ideal S1024x3072 .f32) :
    truncf (F := Ideal) .bf16 (Host.dotGeneral (F := Ideal) (φ₁ := .f32) (φ₂ := .f32) dot_S4096x3072_S1024x3072_S4096x1024_1_1_0_0_n_n none d w)
      bitsLt_bf16_f32 = Kernel29Ideal.QueryRows.prod d w := by
  funext i
  obtain ⟨R, C, rfl⟩ : ∃ (R : Fin 4096) (C : Fin 1024), i = ix2 R C := ⟨i 0, i 1, eq_ix2 i⟩
  pointwise [Kernel29Ideal.QueryRows.prod]

/-- Every run of the reference ends, with every counter at zero and the arguments as launched. -/
theorem reference_frame : Cert.quiescent_Reference29Ideal :=
  fun m ρ _ => (θ_run Cert.Reference29Ideal.defs _ _).mono (fun r h => ⟨fun c => (h c).2, sem_eq_zero_of_no_sems (by decide) r.2⟩)
    (Value.run (F := Ideal) m ρ)

/-- The normalised queries' gradient is the reference's. -/
theorem algebraic : Cert.algebraic_Kernel29Ideal_Reference29Ideal := by
  intro m ρ m' ρ' _ hagree
  refine ⟨_, Cert.Kernel29Ideal.Value.run_blocks (F := Ideal) m ρ,
    (θ_run Cert.Reference29Ideal.defs _ _).mono (fun r h c => ?_) (Value.run (F := Ideal) m' ρ')⟩
  obtain ⟨h₀, h⟩ := h c
  obtain ⟨e0, e1, e2⟩ := hagree c
  refine ⟨h₀.trans ?_, h⟩
  rw [e1, e2]
  exact (host _ _).trans (Kernel29Ideal.QueryRows.final m c).symm

end Cert.QueryRows

end
-- ==== Proof.RmsRow.lean ====
/-
  The gradient of a root-mean-square norm along one row: the form with the normalised row, and the form that follows the
  chain rule through the mean of squares and its root, are the same number, for any row.
-/
module

public import Idealize.ShloMosaic.Lib.Pipeline.ValueKit

@[expose] public section

noncomputable section

namespace Cert.RmsRow

open Idealize.ShloMosaic

/-- A product with the sum, for a factor that is a number of no sign but plus. -/
theorem sum_scale {n : ℕ} (a : Fin n → EReal) (s : ℝ) (hs : 0 ≤ s) : ∑ k, a k * (s : EReal) = (∑ k, a k) * (s : EReal) := by
  classical
  refine Finset.induction_on (Finset.univ : Finset (Fin n)) (by simp) fun k t hk ih => ?_
  rw [Finset.sum_insert hk, Finset.sum_insert hk, ih, mul_comm (a k + _), mul_comm (a k), mul_comm (∑ i ∈ t, a i),
    EReal.left_distrib_of_nonneg_of_ne_top (EReal.coe_nonneg.mpr hs) (EReal.coe_ne_top s)]

/-- A number's multiple added to itself. -/
theorem twice (D : EReal) (c : ℝ) : D * ((c : ℝ) : EReal) + D * ((c : ℝ) : EReal) = D * ((2 * c : ℝ) : EReal) := by
  induction D with
  | coe D => rw [← EReal.coe_mul, ← EReal.coe_mul, ← EReal.coe_add]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A square is not negative. -/
theorem sq_nonneg (x : EReal) : 0 ≤ x * x := by
  induction x with
  | coe x => rw [← EReal.coe_mul]; exact EReal.coe_nonneg.mpr (mul_self_nonneg x)
  | top => simp
  | bot => simp

/-- Where the squares' sum isn't infinite, the row holds numbers. -/
theorem row_real {n : ℕ} (x : Fin n → EReal) (h : ∑ k, x k * x k ≠ ⊤) (k : Fin n) : ∃ y : ℝ, x k = y := by
  have hk : x k * x k ≠ ⊤ := fun e => h (top_le_iff.mp (e ▸ Finset.single_le_sum (f := fun k => x k * x k) (fun i _ => sq_nonneg _) (Finset.mem_univ k)))
  induction hx : x k with
  | coe y => exact ⟨y, rfl⟩
  | top => rw [hx] at hk; simp at hk
  | bot => rw [hx] at hk; simp at hk

section

variable {n : ℕ} (N e : ℝ) (x d : Fin n → EReal)

/-- The mean of squares, kept off zero. -/
def ms : EReal := Ideal.div (∑ k, x k * x k) N + e

/-- One over the root. -/
def inv : EReal := Ideal.rsqrt (ms N e x)

/-- The gradient with the normalised row. -/
def direct (j : Fin n) : EReal :=
  inv N e x * (d j - x j * inv N e x * Ideal.div (∑ k, d k * (x k * inv N e x)) N)

/-- What the chain rule hands the mean of squares, for each entry. -/
def through : EReal :=
  Ideal.div ((∑ k, x k * d k) * (((-(1 / 2) : ℝ) : EReal) * Ideal.div (inv N e x) (ms N e x))) N

/-- The two forms agree. -/
theorem direct_eq (hN : 0 < N) (he : 0 < e) (j : Fin n) :
    direct N e x d j = d j * inv N e x + (through N e x d * x j + x j * through N e x d) := by
  have hdiv : ∀ a : EReal, Ideal.div a N = a * ((1 / N : ℝ) : EReal) := fun a => Ideal.div_coe hN.ne' a
  have hsum : (0 : EReal) ≤ ∑ k, x k * x k := Finset.sum_nonneg fun k _ => sq_nonneg _
  by_cases htop : ∑ k, x k * x k = ⊤
  · have hm : ms N e x = ⊤ := by
      rw [ms, hdiv, htop, EReal.top_mul_coe_of_pos (by positivity)]; rfl
    have hi : inv N e x = 0 := by rw [inv, hm]; rfl
    have ht : through N e x d = 0 := by
      rw [through, hi, hm, hdiv]
      simp [Ideal.div]
    rw [direct, hi, ht]
    simp
  · choose y hy using row_real x htop
    have hx : x = fun k => (y k : EReal) := funext hy
    obtain ⟨q, hq, hq0⟩ : ∃ q : ℝ, (∑ k, x k * x k) = (q : EReal) ∧ 0 ≤ q := by
      refine ⟨(∑ k, x k * x k).toReal, (EReal.coe_toReal htop ?_).symm, EReal.toReal_nonneg hsum⟩
      intro hb; rw [hb] at hsum; simp at hsum
    have hr : 0 < q * (1 / N) + e := by positivity
    obtain ⟨r, hr', hms⟩ : ∃ r : ℝ, 0 < r ∧ ms N e x = (r : EReal) :=
      ⟨q * (1 / N) + e, hr, by rw [ms, hdiv, hq, ← EReal.coe_mul, ← EReal.coe_add]⟩
    obtain ⟨s, hs, hs2, hinv⟩ : ∃ s : ℝ, 0 < s ∧ s * s = 1 / r ∧ inv N e x = (s : EReal) := by
      refine ⟨(Real.sqrt r)⁻¹, inv_pos.mpr (Real.sqrt_pos.mpr hr'), ?_, ?_⟩
      · rw [← mul_inv, Real.mul_self_sqrt hr'.le, one_div]
      · rw [inv, hms, Ideal.rsqrt_coe, if_neg hr'.le.not_gt, if_neg hr'.ne']
    have hD : ∑ k, d k * (x k * (s : EReal)) = (∑ k, x k * d k) * (s : EReal) := by
      rw [← sum_scale _ s hs.le]
      exact Finset.sum_congr rfl fun k _ => by rw [← mul_assoc, mul_comm (d k)]
    have hquo : Ideal.div (s : EReal) (r : EReal) = ((s * (1 / r) : ℝ) : EReal) := by
      rw [Ideal.div_coe hr'.ne', ← EReal.coe_mul]
    rw [direct, through, hinv, hms, hD, hquo, hdiv, hdiv]
    generalize ∑ k, x k * d k = D
    rw [hy j, sub_eq_add_neg, EReal.left_distrib_of_nonneg_of_ne_top (EReal.coe_nonneg.mpr hs.le) (EReal.coe_ne_top s), mul_comm (s : EReal) (d j)]
    congr 1
    have h1 : (s : EReal) * -(((y j : ℝ) : EReal) * (s : EReal) * (D * (s : EReal) * ((1 / N : ℝ) : EReal)))
        = D * ((2 * (-(1 / 2) * (s * (1 / r)) * (1 / N) * y j) : ℝ) : EReal) := by
      have : (2 * (-(1 / 2) * (s * (1 / r)) * (1 / N) * y j) : ℝ) = s * (-y j * s) * (s * (1 / N)) := by
        rw [← hs2]; ring
      rw [this, ← EReal.neg_mul, ← EReal.neg_mul]
      push_cast
      ac_rfl
    rw [h1, ← twice]
    push_cast
    congr 1 <;> ac_rfl

end

end Cert.RmsRow

end
-- ==== Proof.NormRow.lean ====
/-
  The gradient of the norm at one entry of a row, in the two forms that the call and the reference print, with the printed
  constants; the two are the same number.
-/
module

public import proofs.«01_k».proof.Proof.RmsRow

@[expose] public section

noncomputable section

namespace Cert.NormRow

open Idealize.ShloMosaic

/-- The row's length, as it is printed. -/
def len : EReal := (Scalar.ofBits .f32 0x45800000#32 : Ideal .f32)
/-- What keeps the mean of squares off zero, as it is printed. -/
def eps : EReal := (Scalar.ofBits .f32 0x358637BD#32 : Ideal .f32)
/-- Minus one half, as it is printed. -/
def minusHalf : EReal := (Scalar.ofBits .f32 0xBF000000#32 : Ideal .f32)

theorem len_eq : len = ((4096 : ℝ) : EReal) := by
  show Ideal.ofBits .f32 0x45800000#32 = _
  simp [Ideal.ofBits, Ideal.ieee, -EReal.coe_mul]; norm_num

theorem eps_eq : eps = (((8796093 : ℝ) / 8796093022208 : ℝ) : EReal) := by
  show Ideal.ofBits .f32 0x358637BD#32 = _
  simp [Ideal.ofBits, Ideal.ieee, -EReal.coe_mul]; norm_num

theorem minusHalf_eq : minusHalf = ((-(1 / 2) : ℝ) : EReal) := by
  show Ideal.ofBits .f32 0xBF000000#32 = _
  simp [Ideal.ofBits, Ideal.ieee, -EReal.coe_mul]; norm_num

/-- The mean of squares of a row, kept off zero. -/
def ms (x : Fin 4096 → EReal) : EReal := Ideal.div (∑ k : Fin 4096, x k * x k) len + eps

/-- One over the root of the mean of squares. -/
def rinv (x : Fin 4096 → EReal) : EReal := Ideal.rsqrt (ms x)

/-- The gradient at one entry with the normalised row. -/
def direct (x d : Fin 4096 → EReal) (j : Fin 4096) : EReal :=
  rinv x * (d j - x j * rinv x * Ideal.div (∑ k : Fin 4096, d k * (x k * rinv x)) len)

/-- What the chain rule hands the mean of squares, for each entry. -/
def through (x d : Fin 4096 → EReal) : EReal :=
  Ideal.div ((∑ k : Fin 4096, x k * d k) * (minusHalf * Ideal.div (rinv x) (ms x))) len

/-- The gradient at one entry by the chain rule. -/
def chain (x d : Fin 4096 → EReal) (j : Fin 4096) : EReal := d j * rinv x + x j * through x d + through x d * x j

/-- The two forms are the same number, for any row. -/
theorem direct_eq_chain (x d : Fin 4096 → EReal) (j : Fin 4096) : direct x d j = chain x d j := by
  have hm : ms x = RmsRow.ms 4096 (8796093 / 8796093022208) x := by rw [ms, len_eq, eps_eq]; rfl
  have hi : rinv x = RmsRow.inv 4096 (8796093 / 8796093022208) x := by rw [rinv, hm]; rfl
  have ht : through x d = RmsRow.through 4096 (8796093 / 8796093022208) x d := by
    rw [through, hi, hm, minusHalf_eq, len_eq]; rfl
  have hd : direct x d j = RmsRow.direct 4096 (8796093 / 8796093022208) x d j := by rw [direct, hi, len_eq]; rfl
  rw [hd, RmsRow.direct_eq _ _ x d (by norm_num) (by norm_num) j, chain, ht, hi, add_assoc, add_comm (_ * x j) (x j * _)]

end Cert.NormRow

end
-- ==== Proof.LossHeadArrays.lean ====
/-
  What the loss head leaves in its four result arrays: the loss summed over the row blocks, the rows' gradient twice,
  and the gain's gradient summed over the row blocks.
-/
module

public import proofs.«01_k».proof.Proof.NormRow
public import proofs.«01_k».proof.Proof.Gen.Kernel24Ideal.Value
public import Idealize.ShloMosaic.Lib.Pipeline.ValueKit
public import Idealize.ShloMosaic.Lib.Pipeline.ReadBack

@[expose] public section

set_option maxRecDepth 16384

noncomputable section

namespace Cert.Kernel24Ideal.Loss

open Idealize.ShloMosaic Idealize.ShloMosaic.TcCoe Cert.Kernel24Ideal Cert.Kernel24Ideal.Gen Cert.NormRow

/-! ## One row -/

/-- One over the row's length, as it is printed. -/
def perEntry : EReal := (Scalar.ofBits .f32 0x39800000#32 : Ideal .f32)
/-- Half of it, as it is printed. -/
def halfPerEntry : EReal := (Scalar.ofBits .f32 0x39000000#32 : Ideal .f32)

/-- How far a normalised row is from its target at one entry. -/
def err (x g t : Fin 4096 → EReal) (j : Fin 4096) : EReal := x j * rinv x * g j - t j

/-- The gradient handed to the norm at one entry. -/
def ct (x g t : Fin 4096 → EReal) (j : Fin 4096) : EReal := err x g t j * perEntry

/-- The row's gradient at one entry. -/
def rowGrad (x g t : Fin 4096 → EReal) (j : Fin 4096) : EReal := direct x (fun k => ct x g t k * g k) j

/-- What the row gives the gain's gradient. -/
def gainPart (x g t : Fin 4096 → EReal) (j : Fin 4096) : EReal := ct x g t j * (x j * rinv x)

/-- The row's sum of squared distances. -/
def sqSum (x g t : Fin 4096 → EReal) : EReal := ∑ k : Fin 4096, err x g t k * err x g t k

/-! ## The arrays -/

/-- A row of an array. -/
abbrev row {n : ℕ} (a : FVec Ideal ⟨2, ![n, 4096]⟩ .f32) (R : Fin n) : Fin 4096 → EReal := fun k => a (ix2 R k)

/-- The loss. -/
def loss (x t : FVec Ideal S4096x4096 .f32) (g : FVec Ideal S1x4096 .f32) : FVec Ideal S1x1 .f32 :=
  fun _ => halfPerEntry * ∑ R : Fin 4096, sqSum (row x R) (row g 0) (row t R)

/-- The rows' gradient. -/
def rowsGrad (x t : FVec Ideal S4096x4096 .f32) (g : FVec Ideal S1x4096 .f32) : FVec Ideal S4096x4096 .f32 :=
  fun i => rowGrad (row x (i 0)) (row g 0) (row t (i 0)) (i 1)

/-- The rows' gradient once more, for the next call. -/
def rowsGrad₁₆ (x t : FVec Ideal S4096x4096 .f32) (g : FVec Ideal S1x4096 .f32) : FVec Ideal S4096x4096 .bf16 :=
  fun i => rowGrad (row x (i 0)) (row g 0) (row t (i 0)) (i 1)

/-- The gain's gradient. -/
def gainGrad (x t : FVec Ideal S4096x4096 .f32) (g : FVec Ideal S1x4096 .f32) : FVec Ideal S1x4096 .f32 :=
  fun i => ∑ R : Fin 4096, gainPart (row x R) (row g 0) (row t R) (i 1)

/-! ## One block -/

theorem pay10_apply (x t : FVec Ideal S128x4096 .f32) (g : FVec Ideal S1x4096 .f32) (r : Fin 128) (s : Fin 4096) :
    k0_pay10 (F := Ideal) x g t (ix2 r s) = rowGrad (row x r) (row g 0) (row t r) s := by
  pointwise [k0_pay10, k0_pay9, k0_pay8, k0_pay7, k0_pay6, rowGrad, row, ct, err, perEntry, direct, rinv, ms, len, eps]

theorem pay1_apply (x t : FVec Ideal S128x4096 .f32) (g : FVec Ideal S1x4096 .f32) (y : S128x4096.Idx) :
    k0_pay1 (F := Ideal) (k0_pay10 x g t) y = k0_pay10 (F := Ideal) x g t y := rfl

theorem pay6_apply (x t : FVec Ideal S128x4096 .f32) (g : FVec Ideal S1x4096 .f32) (r : Fin 128) (s : Fin 4096) :
    k0_pay6 (F := Ideal) x g t (ix2 r s) = err (row x r) (row g 0) (row t r) s := by
  pointwise [k0_pay6, row, err, rinv, ms, len, eps]

theorem pay11_apply (x t : FVec Ideal S128x4096 .f32) (g : FVec Ideal S1x4096 .f32) (r : Fin 128) (s : Fin 4096) :
    k0_pay11 (F := Ideal) x g t (ix2 r s) = gainPart (row x r) (row g 0) (row t r) s := by
  pointwise [k0_pay11, k0_pay9, k0_pay8, k0_pay7, k0_pay6, gainPart, row, ct, err, perEntry, rinv, ms, len, eps]

theorem pay5_apply (v : FVec Ideal S128x4096 .f32) (a : FVec Ideal S1x4096 .f32) (s : Fin 4096) :
    k0_pay5 (F := Ideal) v a (ix2 0 s) = a (ix2 0 s) + ∑ r : Fin 128, v (ix2 r s) := by
  pointwise [k0_pay5]

theorem pay4_apply (v : FVec Ideal S128x4096 .f32) (a : FVec Ideal S1x1 .f32) :
    k0_pay4 (F := Ideal) v a (ix2 0 0) = a (ix2 0 0) + halfPerEntry * ∑ r : Fin 128, ∑ k : Fin 4096, v (ix2 r k) * v (ix2 r k) := by
  pointwise [k0_pay4, halfPerEntry]

theorem pay2_apply (y : S1x1.Idx) : k0_pay2 (F := Ideal) y = 0 := by
  pointwise [k0_pay2]

theorem pay3_apply (y : S1x4096.Idx) : k0_pay3 (F := Ideal) y = 0 := by
  pointwise [k0_pay3]

/-! ## The blocks at a point -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

/-- A block's row in the whole array: row `128 * t + r`. -/
def rowOf (t : Fin cfg0.N) (r : Fin 128) : Fin 4096 := ⟨t.val * 128 + r, by have := lt_of_lt_of_eq t.isLt N_0; omega⟩

theorem blk_x (t : Fin cfg0.N) (r : Fin 128) :
    row (n := 128) (iblk m c 0 t) r = row (n := 4096) (m (c.tc.loc main_arg0)) (rowOf t r) := by
  funext s
  show (iblk m c 0 t : FVec Ideal S128x4096 .f32) (ix2 r s) = (m (c.tc.loc main_arg0) : FVec Ideal S4096x4096 .f32) (ix2 (rowOf t r) s)
  refine Eq.trans ?_ (congrFun (V_main_arg0 m c) _)
  blk_ext [iblk, idx t, rowOf]

theorem blk_t (t : Fin cfg0.N) (r : Fin 128) :
    row (n := 128) (iblk m c 1 t) r = row (n := 4096) (m (c.tc.loc main_arg1)) (rowOf t r) := by
  funext s
  show (iblk m c 1 t : FVec Ideal S128x4096 .f32) (ix2 r s) = (m (c.tc.loc main_arg1) : FVec Ideal S4096x4096 .f32) (ix2 (rowOf t r) s)
  refine Eq.trans ?_ (congrFun (V_main_arg1 m c) _)
  blk_ext [iblk, idx t, rowOf]

theorem blk_g (t : Fin cfg0.N) : row (n := 1) (iblk m c 2 t) 0 = row (n := 1) (m (c.tc.loc main_arg2)) 0 := by
  funext s
  show (iblk m c 2 t : FVec Ideal S1x4096 .f32) (ix2 0 s) = (m (c.tc.loc main_arg2) : FVec Ideal S1x4096 .f32) (ix2 0 s)
  refine Eq.trans ?_ (congrFun (V_main_arg2 m c) _)
  blk_ext [iblk, idx t]

/-- A block's row's gradient is the array's row's. -/
theorem grad_blk (t : Fin cfg0.N) (r : Fin 128) (s : Fin 4096) :
    k0_pay10 (F := Ideal) (iblk m c 0 t) (iblk m c 2 t) (iblk m c 1 t) (ix2 r s)
      = rowGrad (row (n := 4096) (m (c.tc.loc main_arg0)) (rowOf t r)) (row (n := 1) (m (c.tc.loc main_arg2)) 0)
          (row (n := 4096) (m (c.tc.loc main_arg1)) (rowOf t r)) s :=
  (pay10_apply _ _ _ r s).trans (congrFun (congr (congrArg₂ rowGrad (blk_x m c t r) (blk_g m c t)) (blk_t m c t r)) s)

/-! ## The rows' gradient -/

/-- What a point leaves of the rows' gradient. -/
theorem grad_at (t : Fin cfg0.N) (y : S128x4096.Idx) : (outsAt0 m c t.val t.isLt).2.1 y
    = k0_pay10 (F := Ideal) (iblk m c 0 t) (iblk m c 2 t) (iblk m c 1 t) y := by
  by_cases h : t.val % 32 = 0
  · rw [outsAt0_A m c t h]; frame_out
  · rw [outsAt0_B m c t h]; frame_out

/-- What a point leaves of the second copy. -/
theorem copy_at (t : Fin cfg0.N) (y : S128x4096.Idx) : (outsAt0 m c t.val t.isLt).2.2.1 y
    = k0_pay1 (F := Ideal) (k0_pay10 (iblk m c 0 t) (iblk m c 2 t) (iblk m c 1 t)) y := by
  by_cases h : t.val % 32 = 0
  · rw [outsAt0_A m c t h]; frame_out
  · rw [outsAt0_B m c t h]; frame_out

/-- The rows' gradient. -/
theorem final_grad : (dats m 0 c).arrAt 4 cfg0.N
    = rowsGrad (m (c.tc.loc main_arg0)) (m (c.tc.loc main_arg1)) (m (c.tc.loc main_arg2)) := by
  refine (dats m 0 c).arrAt_eq_of_covers 4 _ (by decide +kernel) fun t hf y => ?_
  blk_simp
  rw [after0_4]
  refine (grad_at m c t y).trans ?_
  obtain ⟨r, s, rfl⟩ : ∃ (r : Fin 128) (s : Fin 4096), y = ix2 r s := ⟨y 0, y 1, eq_ix2 y⟩
  refine (grad_blk m c t r s).trans ?_
  refine congrArg₂ (fun R C => rowGrad (row (n := 4096) (m (c.tc.loc main_arg0)) R) (row (n := 1) (m (c.tc.loc main_arg2)) 0)
          (row (n := 4096) (m (c.tc.loc main_arg1)) R) C) (Fin.ext ?_) (Fin.ext ?_)
  · blk_simp [idx t, rowOf]
  · blk_simp [idx t]

/-- The second copy. -/
theorem final_copy : (dats m 0 c).arrAt 5 cfg0.N
    = rowsGrad₁₆ (m (c.tc.loc main_arg0)) (m (c.tc.loc main_arg1)) (m (c.tc.loc main_arg2)) := by
  refine (dats m 0 c).arrAt_eq_of_covers 5 _ (by decide +kernel) fun t hf y => ?_
  blk_simp
  rw [after0_5]
  refine ((copy_at m c t y).trans (pay1_apply _ _ _ y)).trans ?_
  obtain ⟨r, s, rfl⟩ : ∃ (r : Fin 128) (s : Fin 4096), y = ix2 r s := ⟨y 0, y 1, eq_ix2 y⟩
  refine (grad_blk m c t r s).trans ?_
  refine congrArg₂ (fun R C => rowGrad (row (n := 4096) (m (c.tc.loc main_arg0)) R) (row (n := 1) (m (c.tc.loc main_arg2)) 0)
          (row (n := 4096) (m (c.tc.loc main_arg1)) R) C) (Fin.ext ?_) (Fin.ext ?_)
  · blk_simp [idx t, rowOf]
  · blk_simp [idx t]

/-! ## The gain's gradient -/

/-- What one row of the array gives the gain's gradient. -/
def gainRow (R C : Fin 4096) : EReal :=
  gainPart (row (n := 4096) (m (c.tc.loc main_arg0)) R) (row (n := 1) (m (c.tc.loc main_arg2)) 0) (row (n := 4096) (m (c.tc.loc main_arg1)) R) C

/-- What one block of rows gives the gain's gradient. -/
def gainRows (t : Fin cfg0.N) (C : Fin 4096) : EReal := ∑ r : Fin 128, gainRow m c (rowOf t r) C

/-- A block's sum is the array's. -/
theorem gain_piece (t : Fin cfg0.N) (a : FVec Ideal S1x4096 .f32) (y : S1x4096.Idx) :
    k0_pay5 (F := Ideal) (k0_pay11 (iblk m c 0 t) (iblk m c 2 t) (iblk m c 1 t)) a y = a y + gainRows m c t (y 1) := by
  obtain ⟨u, s, rfl⟩ : ∃ (u : Fin 1) (s : Fin 4096), y = ix2 u s := ⟨y 0, y 1, eq_ix2 y⟩
  obtain rfl : u = 0 := Subsingleton.elim _ _
  refine (pay5_apply _ a s).trans (congrArg (fun b : EReal => a (ix2 0 s) + b) ?_)
  exact Finset.sum_congr rfl fun r _ => (pay11_apply _ _ _ r s).trans
    (congrFun (congr (congrArg₂ gainPart (blk_x m c t r) (blk_g m c t)) (blk_t m c t r)) s)

/-- What the first point leaves of the gain's gradient. -/
theorem gain_first (t : Fin cfg0.N) (hA : t.val % 32 = 0) (y : S1x4096.Idx) :
    (outsAt0 m c t.val t.isLt).2.2.2 y = 0 + gainRows m c t (y 1) := by
  rw [outsAt0_A m c t hA]; frame_out
  refine (gain_piece m c t _ y).trans (congrArg (fun b : EReal => b + _) ?_)
  exact pay3_apply y

/-- What every later point leaves of the gain's gradient. -/
theorem gain_next (t : Fin cfg0.N) (hB : ¬ t.val % 32 = 0) (y : S1x4096.Idx) :
    (outsAt0 m c t.val t.isLt).2.2.2 y
      = (outsAt0 m c (t.val - 1) (lt_of_le_of_lt (Nat.sub_le _ _) t.isLt)).2.2.2 y + gainRows m c t (y 1) := by
  rw [outsAt0_B m c t hB]; frame_out
  exact gain_piece m c t _ y

/-- The gain's gradient. -/
theorem final_gain : (dats m 0 c).arrAt 6 cfg0.N
    = gainGrad (m (c.tc.loc main_arg0)) (m (c.tc.loc main_arg1)) (m (c.tc.loc main_arg2)) := by
  refine (dats m 0 c).arrAt_eq_of_covers 6 _ (by decide +kernel) fun t hf y => ?_
  blk_simp
  rw [after0_6]
  have ht : t.val % 32 = 31 := (flush0_6 t).mp hf
  have hN := lt_of_lt_of_eq t.isLt N_0
  rw [Pipeline.eq_sum_fin_of_reset_step_apply_of_flush (fun n h => (outsAt0 m c n h).2.2.2) 32 (fun _ => 0)
    (fun t j => gainRows m c t (j 1)) (fun t h j => gain_first m c t h j) (fun t h j => gain_next m c t h j)
    t ht y, zero_add]
  rw [gainGrad]
  refine Fin.sum_mul_add_congr fun k l => ?_
  intro _
  refine congrArg₂ (gainRow m c) (Fin.ext ?_) (Fin.ext ?_)
  · show (32 * (t.val / 32) + k.val) * 128 + l.val = k.val * 128 + l.val; omega
  · blk_simp [idx t]

/-! ## The loss -/

/-- What one row of the array gives the loss. -/
def lossRow (R : Fin 4096) : EReal :=
  sqSum (row (n := 4096) (m (c.tc.loc main_arg0)) R) (row (n := 1) (m (c.tc.loc main_arg2)) 0) (row (n := 4096) (m (c.tc.loc main_arg1)) R)

/-- What one block of rows gives the loss. -/
def lossRows (t : Fin cfg0.N) : EReal := halfPerEntry * ∑ r : Fin 128, lossRow m c (rowOf t r)

theorem halfPerEntry_eq : halfPerEntry = ((1 / 8192 : ℝ) : EReal) := by
  show Ideal.ofBits .f32 0x39000000#32 = _
  simp [Ideal.ofBits, Ideal.ieee, -EReal.coe_mul]; norm_num

/-- The half of one over the row's length, taken out of a sum. -/
theorem half_sum {n : ℕ} (a : Fin n → EReal) : ∑ k, halfPerEntry * a k = halfPerEntry * ∑ k, a k := by
  rw [halfPerEntry_eq, mul_comm, ← RmsRow.sum_scale a (1 / 8192) (by norm_num)]
  exact Finset.sum_congr rfl fun k _ => mul_comm _ _

/-- A block's sum is the array's. -/
theorem loss_piece (t : Fin cfg0.N) (a : FVec Ideal S1x1 .f32) (y : S1x1.Idx) :
    k0_pay4 (F := Ideal) (k0_pay6 (iblk m c 0 t) (iblk m c 2 t) (iblk m c 1 t)) a y = a y + lossRows m c t := by
  obtain ⟨u, s, rfl⟩ : ∃ (u s : Fin 1), y = ix2 u s := ⟨y 0, y 1, eq_ix2 y⟩
  obtain rfl : u = 0 := Subsingleton.elim _ _
  obtain rfl : s = 0 := Subsingleton.elim _ _
  refine (pay4_apply _ a).trans (congrArg (fun b : EReal => a (ix2 0 0) + halfPerEntry * b) ?_)
  refine Finset.sum_congr (M := EReal) rfl fun r _ => ?_
  rw [lossRow, sqSum]
  refine Finset.sum_congr (M := EReal) rfl fun k _ => ?_
  have h := (pay6_apply (iblk m c 0 t) (iblk m c 1 t) (iblk m c 2 t) r k).trans
    (congrFun (congr (congrArg₂ err (blk_x m c t r) (blk_g m c t)) (blk_t m c t r)) k)
  exact congrArg₂ (fun a b : EReal => a * b) h h

/-- What the first point leaves of the loss. -/
theorem loss_first (t : Fin cfg0.N) (hA : t.val % 32 = 0) (y : S1x1.Idx) :
    (outsAt0 m c t.val t.isLt).1 y = 0 + lossRows m c t := by
  rw [outsAt0_A m c t hA]; frame_out
  refine (loss_piece m c t _ y).trans (congrArg (fun b : EReal => b + _) ?_)
  exact pay2_apply y

/-- What every later point leaves of the loss. -/
theorem loss_next (t : Fin cfg0.N) (hB : ¬ t.val % 32 = 0) (y : S1x1.Idx) :
    (outsAt0 m c t.val t.isLt).1 y
      = (outsAt0 m c (t.val - 1) (lt_of_le_of_lt (Nat.sub_le _ _) t.isLt)).1 y + lossRows m c t := by
  rw [outsAt0_B m c t hB]; frame_out
  exact loss_piece m c t _ y

/-- The loss. -/
theorem final_loss : (dats m 0 c).arrAt 3 cfg0.N
    = loss (m (c.tc.loc main_arg0)) (m (c.tc.loc main_arg1)) (m (c.tc.loc main_arg2)) := by
  refine (dats m 0 c).arrAt_eq_of_covers 3 _ (by decide +kernel) fun t hf y => ?_
  blk_simp
  rw [after0_3]
  have ht : t.val % 32 = 31 := (flush0_3 t).mp hf
  have hN := lt_of_lt_of_eq t.isLt N_0
  rw [Pipeline.eq_sum_fin_of_reset_step_apply_of_flush (fun n h => (outsAt0 m c n h).1) 32 (fun _ => 0)
    (fun t _ => lossRows m c t) (fun t h j => loss_first m c t h j) (fun t h j => loss_next m c t h j)
    t ht y, zero_add]
  rw [loss]
  refine (half_sum _).trans (congrArg (fun b : EReal => halfPerEntry * b) ?_)
  refine Fin.sum_mul_add_congr fun k l => ?_
  intro _
  refine congrArg (lossRow m c) (Fin.ext ?_)
  show (32 * (t.val / 32) + k.val) * 128 + l.val = k.val * 128 + l.val; omega

end Cert.Kernel24Ideal.Loss

end
-- ==== Proof.LossHead.lean ====
/-
  What the reference's loss and its gradients leave, and the claims about the loss head.
-/
module

public import proofs.«01_k».proof.Defs
public import proofs.«01_k».proof.Proof.LossHeadArrays
public import proofs.«01_k».proof.Proof.Gen.Reference24Ideal.Run
public import Idealize.ShloMosaic.Lib.Quiescent
public import Idealize.ShloMosaic.Adequacy

@[expose] public section

set_option maxRecDepth 16384

noncomputable section

namespace Cert.Reference24Ideal.Loss

open Idealize.ShloMosaic Idealize.ShloMosaic.TcCoe Cert.Reference24Ideal Cert.Reference24Ideal.Gen Cert.NormRow
open Cert.Kernel24Ideal.Loss (row err ct sqSum gainPart rowGrad perEntry halfPerEntry halfPerEntry_eq)

/-! ## The reference's terms -/

/-- The mean of squares of every row, kept off zero. -/
def msT (x : FVec Ideal S4096x4096 .f32) : FVec Ideal S4096x1 .f32 :=
  addf (Host.divf (broadcastInDim S4096x1 ![0] bcast_S4096_S4096x1_0 (Host.reduceAdd (mulf x x) (constant (F := Ideal) S_ .f32 0x00000000#32) reducesTo_S4096x4096_S4096_d1 h_S_)) (broadcastInDim S4096x1 ![] bcast_S_S4096x1 (constant (F := Ideal) S_ .f32 0x45800000#32))) (broadcastInDim S4096x1 ![] bcast_S_S4096x1 (constant (F := Ideal) S_ .f32 0x358637BD#32))

/-- One over its root. -/
def invT (x : FVec Ideal S4096x4096 .f32) : FVec Ideal S4096x1 .f32 := Host.rsqrt (msT x)

/-- The normalised rows. -/
def normT (x : FVec Ideal S4096x4096 .f32) : FVec Ideal S4096x4096 .f32 :=
  mulf x (broadcastInDim S4096x4096 ![0, 1] bcast_S4096x1_S4096x4096_0_1 (invT x))

/-- An array with every row multiplied by the gain. -/
def scaledT (a : FVec Ideal S4096x4096 .f32) (g : FVec Ideal S1x4096 .f32) : FVec Ideal S4096x4096 .f32 :=
  mulf a (broadcastInDim S4096x4096 ![0, 1] bcast_S1x4096_S4096x4096_0_1 g)

/-- How far the rows are from their targets. -/
def errT (x t : FVec Ideal S4096x4096 .f32) (g : FVec Ideal S1x4096 .f32) : FVec Ideal S4096x4096 .f32 := subf (scaledT (normT x) g) t

/-- The gradient handed to the norm. -/
def ctT (x t : FVec Ideal S4096x4096 .f32) (g : FVec Ideal S1x4096 .f32) : FVec Ideal S4096x4096 .f32 :=
  mulf (broadcastInDim S4096x4096 ![0] bcast_S4096_S4096x4096_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x45800000#32))))
    (mulf (broadcastInDim S4096x4096 ![] bcast_S_S4096x4096 (constant (F := Ideal) S_ .f32 0x40000000#32)) (errT x t g))

/-- What the chain rule hands the mean of squares. -/
def throughT (d x : FVec Ideal S4096x4096 .f32) : FVec Ideal S4096x4096 .f32 :=
  broadcastInDim S4096x4096 ![0] bcast_S4096_S4096x4096_0 (Host.reduceAdd (Host.divf (mulf (shapeCast _ (Host.reduceAdd (mulf x d) (constant (F := Ideal) S_ .f32 0x00000000#32) reducesTo_S4096x4096_S4096_d1 h_S_) shapeCasts_S4096_S4096x1) (mulf (broadcastInDim S4096x1 ![] bcast_S_S4096x1 (constant (F := Ideal) S_ .f32 0xBF000000#32)) (Host.divf (invT x) (msT x)))) (broadcastInDim S4096x1 ![] bcast_S_S4096x1 (constant (F := Ideal) S_ .f32 0x45800000#32))) (constant (F := Ideal) S_ .f32 0x00000000#32) reducesTo_S4096x1_S4096_d1 h_S_)

/-- The gradient of the norm's input, from that of its result times the gain. -/
def gradT (d x : FVec Ideal S4096x4096 .f32) : FVec Ideal S4096x4096 .f32 :=
  addf (addf (mulf d (broadcastInDim S4096x4096 ![0, 1] bcast_S4096x1_S4096x4096_0_1 (invT x))) (mulf x (throughT d x))) (mulf (throughT d x) x)

/-- The gain's gradient. -/
def gainT (x t : FVec Ideal S4096x4096 .f32) (g : FVec Ideal S1x4096 .f32) : FVec Ideal S1x4096 .f32 :=
  shapeCast _ (Host.reduceAdd (mulf (normT x) (ctT x t g)) (constant (F := Ideal) S_ .f32 0x00000000#32) reducesTo_S4096x4096_S4096_d0 h_S_) shapeCasts_S4096_S1x4096

/-- The loss. -/
def lossT (x t : FVec Ideal S4096x4096 .f32) (g : FVec Ideal S1x4096 .f32) : FVec Ideal S1x1 .f32 :=
  shapeCast _ (mulf (constant (F := Ideal) S_ .f32 0x3F000000#32) (Host.reduceAdd (Host.divf (Host.reduceAdd (mulf (errT x t g) (errT x t g)) (constant (F := Ideal) S_ .f32 0x00000000#32) reducesTo_S4096x4096_S4096_d1 h_S_) (broadcastInDim S4096 ![] bcast_S_S4096 (constant (F := Ideal) S_ .f32 0x45800000#32))) (constant (F := Ideal) S_ .f32 0x00000000#32) reducesTo_S4096_S_d0 h_S_)) shapeCasts_S_S1x1

/-! ## Their entries -/

theorem msT_apply (x : FVec Ideal S4096x4096 .f32) (R : Fin 4096) : msT x (ix2 R 0) = ms (row x R) := by
  pointwise [msT, ms, len, eps, row]

theorem invT_apply (x : FVec Ideal S4096x4096 .f32) (R : Fin 4096) : invT x (ix2 R 0) = rinv (row x R) :=
  congrArg Ideal.rsqrt (msT_apply x R)

theorem normT_apply (x : FVec Ideal S4096x4096 .f32) (R C : Fin 4096) : normT x (ix2 R C) = row x R C * rinv (row x R) := by
  rw [← invT_apply]
  unfold normT
  generalize invT x = a
  pointwise [row]

theorem scaledT_apply (a : FVec Ideal S4096x4096 .f32) (g : FVec Ideal S1x4096 .f32) (R C : Fin 4096) :
    scaledT a g (ix2 R C) = a (ix2 R C) * row g 0 C := by
  pointwise [scaledT, row]

theorem errT_apply (x t : FVec Ideal S4096x4096 .f32) (g : FVec Ideal S1x4096 .f32) (R C : Fin 4096) :
    errT x t g (ix2 R C) = err (row x R) (row g 0) (row t R) C := by
  rw [err, ← normT_apply, ← scaledT_apply]
  rfl

/-- The printed factors of the gradient handed to the norm make one over the row's length. -/
theorem factors (e : EReal) :
    Ideal.div ((Scalar.ofBits .f32 0x3F000000#32 : Ideal .f32) * (Scalar.ofBits .f32 0x3F800000#32 : Ideal .f32)) len
        * ((Scalar.ofBits .f32 0x40000000#32 : Ideal .f32) * e) = e * perEntry := by
  have h1 : (Scalar.ofBits .f32 0x3F000000#32 : Ideal .f32) = ((1 / 2 : ℝ) : EReal) := by
    show Ideal.ofBits .f32 0x3F000000#32 = _
    simp [Ideal.ofBits, Ideal.ieee, -EReal.coe_mul]; norm_num
  have h2 : (Scalar.ofBits .f32 0x3F800000#32 : Ideal .f32) = ((1 : ℝ) : EReal) := by
    show Ideal.ofBits .f32 0x3F800000#32 = _
    simp [Ideal.ofBits, Ideal.ieee, -EReal.coe_mul]; norm_num
  have h3 : (Scalar.ofBits .f32 0x40000000#32 : Ideal .f32) = ((2 : ℝ) : EReal) := by
    show Ideal.ofBits .f32 0x40000000#32 = _
    simp [Ideal.ofBits, Ideal.ieee, -EReal.coe_mul]; norm_num
  have h4 : perEntry = ((1 / 4096 : ℝ) : EReal) := by
    show Ideal.ofBits .f32 0x39800000#32 = _
    simp [Ideal.ofBits, Ideal.ieee, -EReal.coe_mul]; norm_num
  rw [h1, h2, h3, h4, len_eq, Ideal.div_coe (by norm_num), ← mul_assoc, mul_comm e, ← EReal.coe_mul, ← EReal.coe_mul, ← EReal.coe_mul]
  congr 2
  norm_num

theorem ctT_apply (x t : FVec Ideal S4096x4096 .f32) (g : FVec Ideal S1x4096 .f32) (R C : Fin 4096) :
    ctT x t g (ix2 R C) = ct (row x R) (row g 0) (row t R) C := by
  rw [ct, ← errT_apply, ← factors]
  unfold ctT
  generalize errT x t g = e
  pointwise [len]

theorem throughT_apply (d x : FVec Ideal S4096x4096 .f32) (R C : Fin 4096) :
    throughT d x (ix2 R C) = through (row x R) (row d R) := by
  rw [through, ← msT_apply, ← invT_apply]
  unfold throughT
  generalize invT x = a
  generalize msT x = b
  pointwise [len, minusHalf, row]
  exact Fin.sum_univ_one _

theorem gradT_apply (d x : FVec Ideal S4096x4096 .f32) (R C : Fin 4096) : gradT d x (ix2 R C) = chain (row x R) (row d R) C := by
  rw [chain, ← throughT_apply _ _ R C, ← invT_apply]
  unfold gradT
  generalize throughT d x = t
  generalize invT x = a
  pointwise [row]

/-- The reference's gradient of the rows is the call's. -/
theorem grad_eq (x t : FVec Ideal S4096x4096 .f32) (g : FVec Ideal S1x4096 .f32) :
    gradT (scaledT (ctT x t g) g) x = Cert.Kernel24Ideal.Loss.rowsGrad x t g := by
  funext i
  obtain ⟨R, C, rfl⟩ : ∃ (R C : Fin 4096), i = ix2 R C := ⟨i 0, i 1, eq_ix2 i⟩
  rw [gradT_apply, ← direct_eq_chain]
  exact congrFun (congrArg (direct (row x R)) (funext fun k =>
    (scaledT_apply _ g R k).trans (congrArg (fun b : EReal => b * row g 0 k) (ctT_apply x t g R k)))) C

/-- So is its second copy. -/
theorem copy_eq (x t : FVec Ideal S4096x4096 .f32) (g : FVec Ideal S1x4096 .f32) :
    truncf (F := Ideal) .bf16 (gradT (scaledT (ctT x t g) g) x) bitsLt_bf16_f32 = Cert.Kernel24Ideal.Loss.rowsGrad₁₆ x t g := by
  rw [grad_eq]
  rfl

/-- The reference's gradient of the gain is the call's. -/
theorem gain_eq (x t : FVec Ideal S4096x4096 .f32) (g : FVec Ideal S1x4096 .f32) :
    gainT x t g = Cert.Kernel24Ideal.Loss.gainGrad x t g := by
  funext i
  obtain ⟨u, C, rfl⟩ : ∃ (u : Fin 1) (C : Fin 4096), i = ix2 u C := ⟨i 0, i 1, eq_ix2 i⟩
  obtain rfl : u = 0 := Subsingleton.elim _ _
  have h : gainT x t g (ix2 0 C) = ∑ R : Fin 4096, normT x (ix2 R C) * ctT x t g (ix2 R C) := by
    unfold gainT
    generalize normT x = a
    generalize ctT x t g = b
    pointwise
  rw [h]
  refine Finset.sum_congr rfl fun R _ => ?_
  rw [normT_apply, ctT_apply, mul_comm]
  rfl

/-- The reference's loss is the call's. -/
theorem loss_eq (x t : FVec Ideal S4096x4096 .f32) (g : FVec Ideal S1x4096 .f32) :
    lossT x t g = Cert.Kernel24Ideal.Loss.loss x t g := by
  funext i
  obtain ⟨u, s, rfl⟩ : ∃ (u s : Fin 1), i = ix2 u s := ⟨i 0, i 1, eq_ix2 i⟩
  obtain rfl : u = 0 := Subsingleton.elim _ _
  obtain rfl : s = 0 := Subsingleton.elim _ _
  have h : lossT x t g (ix2 0 0) = (Scalar.ofBits .f32 0x3F000000#32 : Ideal .f32)
      * ∑ R : Fin 4096, Ideal.div (∑ k : Fin 4096, errT x t g (ix2 R k) * errT x t g (ix2 R k)) len := by
    unfold lossT
    generalize errT x t g = e
    pointwise [len]
  have h1 : (Scalar.ofBits .f32 0x3F000000#32 : Ideal .f32) = ((1 / 2 : ℝ) : EReal) := by
    show Ideal.ofBits .f32 0x3F000000#32 = _
    simp [Ideal.ofBits, Ideal.ieee, -EReal.coe_mul]; norm_num
  have hs : ∀ R : Fin 4096, Ideal.div (∑ k : Fin 4096, errT x t g (ix2 R k) * errT x t g (ix2 R k)) len
      = sqSum (row x R) (row g 0) (row t R) * ((1 / 4096 : ℝ) : EReal) := fun R => by
    rw [len_eq, Ideal.div_coe (by norm_num), sqSum]
    refine congrArg (fun b : EReal => b * ((1 / 4096 : ℝ) : EReal)) (Finset.sum_congr rfl fun k _ => ?_)
    rw [errT_apply]
  rw [h, h1, Finset.sum_congr rfl fun R _ => hs R, RmsRow.sum_scale _ _ (by norm_num), Cert.Kernel24Ideal.Loss.loss, halfPerEntry_eq,
    mul_comm _ ((1 / 4096 : ℝ) : EReal), ← mul_assoc, ← EReal.coe_mul]
  congr 2
  norm_num

end Cert.Reference24Ideal.Loss

namespace Cert.LossHead

open Idealize.ShloMosaic Idealize.ShloMosaic.TcCoe Idealize.SL.Sem Cert.Reference24Ideal Cert.Reference24Ideal.Gen Cert.Reference24Ideal.Value Cert.Reference24Ideal.Loss

/-- The reference's frame: it changes no argument and leaves no semaphore raised. -/
theorem reference_frame : Cert.quiescent_Reference24Ideal :=
  fun m ρ _ => (θ_run Cert.Reference24Ideal.defs _ _).mono (fun r h => ⟨fun c => (h c).2.2.2.2, sem_eq_zero_of_no_sems (by decide) r.2⟩)
    (Value.run (F := Ideal) m ρ)

/-- The call and the reference leave the same loss and the same gradients. -/
theorem algebraic : Cert.algebraic_Kernel24Ideal_Reference24Ideal := by
  intro m ρ m' ρ' _ hagree
  refine ⟨_, _, _, _, Cert.Kernel24Ideal.Value.run_blocks (F := Ideal) m ρ,
    (θ_run Cert.Reference24Ideal.defs _ _).mono (fun r h c => ?_) (Value.run (F := Ideal) m' ρ')⟩
  obtain ⟨h₀, h₁, h₂, h₃, h⟩ := h c
  obtain ⟨e0, e1, e2⟩ := hagree c
  have k₀ := h₀.trans (loss_eq (m' (c.tc.loc main_arg0)) (m' (c.tc.loc main_arg1)) (m' (c.tc.loc main_arg2)))
  have k₁ := h₁.trans (grad_eq (m' (c.tc.loc main_arg0)) (m' (c.tc.loc main_arg1)) (m' (c.tc.loc main_arg2)))
  have k₂ := h₂.trans (copy_eq (m' (c.tc.loc main_arg0)) (m' (c.tc.loc main_arg1)) (m' (c.tc.loc main_arg2)))
  have k₃ := h₃.trans (gain_eq (m' (c.tc.loc main_arg0)) (m' (c.tc.loc main_arg1)) (m' (c.tc.loc main_arg2)))
  rw [e0, e1, e2] at k₀ k₁ k₂ k₃
  exact ⟨k₀.trans (Cert.Kernel24Ideal.Loss.final_loss m c).symm, k₁.trans (Cert.Kernel24Ideal.Loss.final_grad m c).symm,
    k₂.trans (Cert.Kernel24Ideal.Loss.final_copy m c).symm, k₃.trans (Cert.Kernel24Ideal.Loss.final_gain m c).symm, h⟩

end Cert.LossHead

end
-- ==== Proof.ConvRow.lean ====
/-
  The gradients of a short convolution over one column: three weights on a row, the row before it and the row after it,
  with zeros beyond both ends, and a gate on the result.
-/
module

public import proofs.«01_k».proof.Proof.Gen.Kernel23Ideal.Value
public import Idealize.ShloMosaic.Lib.Pipeline.ValueKit
public import Idealize.ShloMosaic.Lib.KernelVsHost

@[expose] public section

set_option maxRecDepth 16384

noncomputable section

namespace Cert.ConvRow

open Idealize.ShloMosaic Idealize.ShloMosaic.TcCoe Cert.Kernel23Ideal Cert.Kernel23Ideal.Gen

/-- A column moved one row down, with a zero on its first row. -/
def before (f : Fin 4096 → EReal) (r : Fin 4096) : EReal := if r.val = 0 then 0 else f ⟨r.val - 1, by omega⟩

/-- A column moved one row up, with a zero on its last row. -/
def next (f : Fin 4096 → EReal) (r : Fin 4096) : EReal := if h : r.val = 4095 then 0 else f ⟨r.val + 1, by omega⟩

/-- The convolution of a column. -/
def conv (u : Fin 4096 → EReal) (w : Fin 3 → EReal) (r : Fin 4096) : EReal := before u r * w 0 + u r * w 1 + next u r * w 2

/-- The gradient of the convolution's input, from that of its result. -/
def convBack (q : Fin 4096 → EReal) (w : Fin 3 → EReal) (r : Fin 4096) : EReal := next q r * w 0 + q r * w 1 + before q r * w 2

/-- The rows that a weight multiplies. -/
def tap (u : Fin 4096 → EReal) (i : Fin 3) : Fin 4096 → EReal :=
  match i with
  | 0 => before u
  | 1 => u
  | 2 => next u

/-- The gradient of a weight. -/
def weightGrad (q u : Fin 4096 → EReal) (i : Fin 3) : EReal := ∑ r : Fin 4096, q r * tap u i r

/-! ## The call's two moves of a block's rows -/

/-- A block moved one row down. -/
def down (v : FVec Ideal S4096x128 .f32) : FVec Ideal S4096x128 .f32 :=
  select (cmpi .eq (iota .tc S4096x128 32 [0] iota_S4096x128_d0_w32) (broadcast S4096x128 0#32)) (broadcast S4096x128 (Scalar.ofBits .f32 0x00000000#32 : Ideal .f32))
    (dynamicRotate 0 1#32 none v rotates_S4096x128_d0)

/-- A block moved one row up. -/
def up (v : FVec Ideal S4096x128 .f32) : FVec Ideal S4096x128 .f32 :=
  select (cmpi .eq (iota .tc S4096x128 32 [0] iota_S4096x128_d0_w32) (broadcast S4096x128 4095#32)) (broadcast S4096x128 (Scalar.ofBits .f32 0x00000000#32 : Ideal .f32))
    (dynamicRotate 0 4095#32 none v rotates_S4096x128_d0)

/-- A rotation of a block's rows, entry by entry. -/
theorem rotate_apply (v : FVec Ideal S4096x128 .f32) (n : BitVec 32) (k : ℕ) (hn : n.toNat = k) (hk : k < 4096) (r : Fin 4096) (s : Fin 128) :
    dynamicRotate 0 n none v rotates_S4096x128_d0 (ix2 r s) = v (ix2 ⟨(r.val + 4096 - k) % 4096, Nat.mod_lt _ (by omega)⟩ s) :=
  dynamicRotate_apply _ _ _ _ _ _ (by
    intro b
    match b with
    | ⟨0, _⟩ =>
      show (r.val + 4096 - k) % 4096 = (r.val + 4096 - n.toNat % 4096) % 4096
      rw [hn, Nat.mod_eq_of_lt hk]
    | ⟨1, _⟩ => rfl)

theorem down_apply (v : FVec Ideal S4096x128 .f32) (r : Fin 4096) (s : Fin 128) : down v (ix2 r s) = before (fun k => v (ix2 k s)) r := by
  have h : dynamicRotate 0 1#32 none v rotates_S4096x128_d0 (ix2 r s) = v (ix2 ⟨(r.val + 4096 - 1) % 4096, Nat.mod_lt _ (by omega)⟩ s) :=
    rotate_apply v 1#32 1 (by decide) (by omega) r s
  unfold down before
  generalize dynamicRotate 0 1#32 none v rotates_S4096x128_d0 = a at h
  pointwise
  by_cases h0 : r.val = 0
  · rw [if_pos h0, h0]
    rfl
  · have hn : ¬ BitVec.ofNat 32 r.val = 0#32 := fun e => h0 (by
      have := congrArg BitVec.toNat e
      simp only [BitVec.toNat_ofNat] at this
      omega)
    have hc : IntOp.cmpi .eq (BitVec.ofNat 32 r.val) 0#32 = 0#1 := by
      show BitVec.ofBool (BitVec.ofNat 32 r.val == 0#32) = 0#1
      rw [beq_eq_false_iff_ne.mpr hn]
      rfl
    rw [if_neg h0, hc, ValueIdx.select_zero, h]
    exact congrArg (fun k => v (ix2 k s)) (Fin.ext (show (r.val + 4096 - 1) % 4096 = r.val - 1 by omega))

theorem up_apply (v : FVec Ideal S4096x128 .f32) (r : Fin 4096) (s : Fin 128) : up v (ix2 r s) = next (fun k => v (ix2 k s)) r := by
  have h : dynamicRotate 0 4095#32 none v rotates_S4096x128_d0 (ix2 r s) = v (ix2 ⟨(r.val + 4096 - 4095) % 4096, Nat.mod_lt _ (by omega)⟩ s) :=
    rotate_apply v 4095#32 4095 (by decide) (by omega) r s
  unfold up next
  generalize dynamicRotate 0 4095#32 none v rotates_S4096x128_d0 = a at h
  pointwise
  by_cases h0 : r.val = 4095
  · rw [dif_pos h0, h0]
    rfl
  · have hn : ¬ BitVec.ofNat 32 r.val = 4095#32 := fun e => h0 (by
      have := congrArg BitVec.toNat e
      simp only [BitVec.toNat_ofNat] at this
      omega)
    have hc : IntOp.cmpi .eq (BitVec.ofNat 32 r.val) 4095#32 = 0#1 := by
      show BitVec.ofBool (BitVec.ofNat 32 r.val == 4095#32) = 0#1
      rw [beq_eq_false_iff_ne.mpr hn]
      rfl
    rw [dif_neg h0, hc, ValueIdx.select_zero, h]
    exact congrArg (fun k => v (ix2 k s)) (Fin.ext (show (r.val + 4096 - 4095) % 4096 = r.val + 1 by omega))

end Cert.ConvRow

end
-- ==== Proof.ConvGradArrays.lean ====
/-
  What the backward call of the short convolution leaves in its four result arrays: the gradients of the gate and of the
  two factors of the convolution's input, and the gradient of the three weights.
-/
module

public import proofs.«01_k».proof.Proof.ConvRow
public import Idealize.ShloMosaic.Lib.Pipeline.ReadBack

@[expose] public section

set_option maxRecDepth 16384

noncomputable section

namespace Cert.Kernel23Ideal.Conv

open Idealize.ShloMosaic Idealize.ShloMosaic.TcCoe Cert.Kernel23Ideal Cert.Kernel23Ideal.Gen Cert.ConvRow

/-! ## The arrays -/

/-- The gate's column, among the projection's columns. -/
def gateCol (C : Fin 2048) : Fin 8192 := ⟨C.val, by omega⟩
/-- The first factor's column. -/
def leftCol (C : Fin 2048) : Fin 8192 := ⟨2048 + C.val, by omega⟩
/-- The second factor's column. -/
def rightCol (C : Fin 2048) : Fin 8192 := ⟨4096 + C.val, by omega⟩

/-- A column of the convolution's input. -/
def input (z : FVec Ideal S4096x8192 .bf16) (C : Fin 2048) (R : Fin 4096) : EReal := z (ix2 R (leftCol C)) * z (ix2 R (rightCol C))

/-- A column of the gradient of the convolution's result. -/
def inner (dy : FVec Ideal S4096x2048 .bf16) (z : FVec Ideal S4096x8192 .bf16) (C : Fin 2048) (R : Fin 4096) : EReal :=
  dy (ix2 R C) * z (ix2 R (gateCol C))

/-- A column of the weights. -/
def weights (w : FVec Ideal S3x2048 .f32) (C : Fin 2048) (i : Fin 3) : EReal := w (ix2 i C)

/-- The gate's gradient. -/
def gateEntry (dy : FVec Ideal S4096x2048 .bf16) (z : FVec Ideal S4096x8192 .bf16) (w : FVec Ideal S3x2048 .f32) (R : Fin 4096) (C : Fin 2048) : EReal :=
  dy (ix2 R C) * conv (input z C) (weights w C) R

/-- The first factor's gradient. -/
def leftEntry (dy : FVec Ideal S4096x2048 .bf16) (z : FVec Ideal S4096x8192 .bf16) (w : FVec Ideal S3x2048 .f32) (R : Fin 4096) (C : Fin 2048) : EReal :=
  convBack (inner dy z C) (weights w C) R * z (ix2 R (rightCol C))

/-- The second factor's gradient. -/
def rightEntry (dy : FVec Ideal S4096x2048 .bf16) (z : FVec Ideal S4096x8192 .bf16) (w : FVec Ideal S3x2048 .f32) (R : Fin 4096) (C : Fin 2048) : EReal :=
  convBack (inner dy z C) (weights w C) R * z (ix2 R (leftCol C))

/-- A weight's gradient. -/
def weightEntry (dy : FVec Ideal S4096x2048 .bf16) (z : FVec Ideal S4096x8192 .bf16) (i : Fin 3) (C : Fin 2048) : EReal :=
  weightGrad (inner dy z C) (input z C) i

/-- The gate's gradient, as an array. -/
def gateGrad (dy : FVec Ideal S4096x2048 .bf16) (z : FVec Ideal S4096x8192 .bf16) (w : FVec Ideal S3x2048 .f32) : FVec Ideal S4096x2048 .bf16 :=
  fun i => gateEntry dy z w (i 0) (i 1)

/-- The first factor's gradient, as an array. -/
def leftGrad (dy : FVec Ideal S4096x2048 .bf16) (z : FVec Ideal S4096x8192 .bf16) (w : FVec Ideal S3x2048 .f32) : FVec Ideal S4096x2048 .bf16 :=
  fun i => leftEntry dy z w (i 0) (i 1)

/-- The second factor's gradient, as an array. -/
def rightGrad (dy : FVec Ideal S4096x2048 .bf16) (z : FVec Ideal S4096x8192 .bf16) (w : FVec Ideal S3x2048 .f32) : FVec Ideal S4096x2048 .bf16 :=
  fun i => rightEntry dy z w (i 0) (i 1)

/-- The weights' gradients, as an array. -/
def weightsGrad (dy : FVec Ideal S4096x2048 .bf16) (z : FVec Ideal S4096x8192 .bf16) : FVec Ideal S3x2048 .f32 :=
  fun i => weightEntry dy z (i 0) (i 1)

/-! ## One block of columns -/

/-- A column of a block's convolution input. -/
def inputBlk (a b : FVec Ideal S4096x128 .bf16) (s : Fin 128) (r : Fin 4096) : EReal := a (ix2 r s) * b (ix2 r s)

theorem moved_down (a b : FVec Ideal S4096x128 .bf16) (r : Fin 4096) (s : Fin 128) : k0_pay4 (F := Ideal) a b (ix2 r s) = before (inputBlk a b s) r :=
  down_apply (k0_pay3 (F := Ideal) a b) r s

theorem moved_up (a b : FVec Ideal S4096x128 .bf16) (r : Fin 4096) (s : Fin 128) : k0_pay5 (F := Ideal) a b (ix2 r s) = next (inputBlk a b s) r :=
  up_apply (k0_pay3 (F := Ideal) a b) r s

theorem pay3_apply (a b : FVec Ideal S4096x128 .bf16) (r : Fin 4096) (s : Fin 128) : k0_pay3 (F := Ideal) a b (ix2 r s) = inputBlk a b s r := rfl

theorem pay8_apply (a b : FVec Ideal S4096x128 .bf16) (r : Fin 4096) (s : Fin 128) : k0_pay8 (F := Ideal) a b (ix2 r s) = inputBlk a b s r := rfl

theorem pay7_apply (a b : FVec Ideal S4096x128 .bf16) (w : FVec Ideal S3x128 .f32) (d : FVec Ideal S4096x128 .bf16) (r : Fin 4096) (s : Fin 128) :
    k0_pay7 (F := Ideal) a b w d (ix2 r s) = d (ix2 r s) * conv (inputBlk a b s) (fun i => w (ix2 i s)) r := by
  rw [conv, ← moved_down, ← moved_up, ← pay3_apply]
  unfold k0_pay7
  generalize k0_pay4 (F := Ideal) a b = x
  generalize k0_pay5 (F := Ideal) a b = y
  generalize k0_pay3 (F := Ideal) a b = u
  pointwise [k0_pay6]

theorem pay12_apply (w : FVec Ideal S3x128 .f32) (q : FVec Ideal S4096x128 .f32) (r : Fin 4096) (s : Fin 128) :
    k0_pay12 (F := Ideal) w q (ix2 r s) = convBack (fun k => q (ix2 k s)) (fun i => w (ix2 i s)) r := by
  rw [convBack, ← down_apply, ← up_apply]
  show addf (addf (mulf (up q) _) (mulf q _)) (mulf (down q) _) (ix2 r s) = _
  generalize up q = x
  generalize down q = y
  pointwise

theorem pay13_apply (b : FVec Ideal S4096x128 .bf16) (w : FVec Ideal S3x128 .f32) (q : FVec Ideal S4096x128 .f32) (r : Fin 4096) (s : Fin 128) :
    k0_pay13 (F := Ideal) (k0_pay2 b) w q (ix2 r s) = convBack (fun k => q (ix2 k s)) (fun i => w (ix2 i s)) r * b (ix2 r s) := by
  rw [← pay12_apply]
  rfl

theorem pay14_apply (a : FVec Ideal S4096x128 .bf16) (w : FVec Ideal S3x128 .f32) (q : FVec Ideal S4096x128 .f32) (r : Fin 4096) (s : Fin 128) :
    k0_pay14 (F := Ideal) (k0_pay1 a) w q (ix2 r s) = convBack (fun k => q (ix2 k s)) (fun i => w (ix2 i s)) r * a (ix2 r s) := by
  rw [← pay12_apply]
  rfl

theorem pay9_apply (a b d g : FVec Ideal S4096x128 .bf16) (s : Fin 128) :
    k0_pay9 (F := Ideal) a b d g (ix2 0 s) = weightGrad (inputBlk d g s) (inputBlk a b s) 0 := by
  have h : k0_pay9 (F := Ideal) a b d g (ix2 0 s) = ∑ r : Fin 4096, k0_pay8 (F := Ideal) d g (ix2 r s) * k0_pay4 (F := Ideal) a b (ix2 r s) := by
    unfold k0_pay9
    generalize k0_pay4 (F := Ideal) a b = x
    generalize k0_pay8 (F := Ideal) d g = q
    pointwise
  rw [h, weightGrad]
  exact Finset.sum_congr rfl fun r _ => congrArg (fun v : EReal => inputBlk d g s r * v) (moved_down a b r s)

theorem pay10_apply (a b d g : FVec Ideal S4096x128 .bf16) (s : Fin 128) :
    k0_pay10 (F := Ideal) (k0_pay3 a b) (k0_pay8 d g) (ix2 0 s) = weightGrad (inputBlk d g s) (inputBlk a b s) 1 := by
  have h : k0_pay10 (F := Ideal) (k0_pay3 a b) (k0_pay8 d g) (ix2 0 s) = ∑ r : Fin 4096, k0_pay8 (F := Ideal) d g (ix2 r s) * k0_pay3 (F := Ideal) a b (ix2 r s) := by
    generalize k0_pay3 (F := Ideal) a b = x
    generalize k0_pay8 (F := Ideal) d g = q
    pointwise [k0_pay10]
  exact h

theorem pay11_apply (a b d g : FVec Ideal S4096x128 .bf16) (s : Fin 128) :
    k0_pay11 (F := Ideal) (k0_pay5 a b) (k0_pay8 d g) (ix2 0 s) = weightGrad (inputBlk d g s) (inputBlk a b s) 2 := by
  have h : k0_pay11 (F := Ideal) (k0_pay5 a b) (k0_pay8 d g) (ix2 0 s) = ∑ r : Fin 4096, k0_pay8 (F := Ideal) d g (ix2 r s) * k0_pay5 (F := Ideal) a b (ix2 r s) := by
    generalize k0_pay5 (F := Ideal) a b = x
    generalize k0_pay8 (F := Ideal) d g = q
    pointwise [k0_pay11]
  rw [h, weightGrad]
  exact Finset.sum_congr rfl fun r _ => congrArg (fun v : EReal => inputBlk d g s r * v) (moved_up a b r s)

/-! ## The blocks at a point -/

variable (m : (ℓ : Loc nD τ sig) → Buf (Elt Ideal) ℓ) (c : Dev nD)

theorem idx : ∀ t : Fin cfg0.N, win0_0.index t = ![0, t.val] ∧ win0_1.index t = ![0, t.val] ∧ win0_2.index t = ![0, 16 + t.val]
    ∧ win0_3.index t = ![0, 32 + t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- A block's column in the whole array: column `128 * t + s`. -/
def colOf (t : Fin cfg0.N) (s : Fin 128) : Fin 2048 := ⟨t.val * 128 + s, by have := lt_of_lt_of_eq t.isLt N_0; omega⟩

theorem blk_d (t : Fin cfg0.N) (r : Fin 4096) (s : Fin 128) :
    (iblk m c 0 t : FVec Ideal S4096x128 .bf16) (ix2 r s) = (m (c.tc.loc main_arg0) : FVec Ideal S4096x2048 .bf16) (ix2 r (colOf t s)) := by
  refine Eq.trans ?_ (congrFun (V_main_arg0 m c) _)
  blk_ext [iblk, idx t, colOf]

theorem blk_gate (t : Fin cfg0.N) (r : Fin 4096) (s : Fin 128) :
    (iblk m c 1 t : FVec Ideal S4096x128 .bf16) (ix2 r s) = (m (c.tc.loc main_arg1) : FVec Ideal S4096x8192 .bf16) (ix2 r (gateCol (colOf t s))) := by
  refine Eq.trans ?_ (congrFun (V_main_arg1 m c) _)
  blk_ext [iblk, idx t, colOf, gateCol]

theorem blk_left (t : Fin cfg0.N) (r : Fin 4096) (s : Fin 128) :
    (iblk m c 2 t : FVec Ideal S4096x128 .bf16) (ix2 r s) = (m (c.tc.loc main_arg1) : FVec Ideal S4096x8192 .bf16) (ix2 r (leftCol (colOf t s))) := by
  refine Eq.trans ?_ (congrFun (V_main_arg1 m c) _)
  blk_ext [iblk, idx t, colOf, leftCol]

theorem blk_right (t : Fin cfg0.N) (r : Fin 4096) (s : Fin 128) :
    (iblk m c 3 t : FVec Ideal S4096x128 .bf16) (ix2 r s) = (m (c.tc.loc main_arg1) : FVec Ideal S4096x8192 .bf16) (ix2 r (rightCol (colOf t s))) := by
  refine Eq.trans ?_ (congrFun (V_main_arg1 m c) _)
  blk_ext [iblk, idx t, colOf, rightCol]

theorem blk_w (t : Fin cfg0.N) (i : Fin 3) (s : Fin 128) :
    (iblk m c 4 t : FVec Ideal S3x128 .f32) (ix2 i s) = (m (c.tc.loc main_arg2) : FVec Ideal S3x2048 .f32) (ix2 i (colOf t s)) := by
  refine Eq.trans ?_ (congrFun (V_main_arg2 m c) _)
  blk_ext [iblk, idx t, colOf]

theorem col_input (t : Fin cfg0.N) (s : Fin 128) : inputBlk (iblk m c 2 t) (iblk m c 3 t) s = input (m (c.tc.loc main_arg1)) (colOf t s) :=
  funext fun r => congrArg₂ (fun a b : EReal => a * b) (blk_left m c t r s) (blk_right m c t r s)

theorem col_inner (t : Fin cfg0.N) (s : Fin 128) :
    inputBlk (iblk m c 0 t) (iblk m c 1 t) s = inner (m (c.tc.loc main_arg0)) (m (c.tc.loc main_arg1)) (colOf t s) :=
  funext fun r => congrArg₂ (fun a b : EReal => a * b) (blk_d m c t r s) (blk_gate m c t r s)

theorem col_w (t : Fin cfg0.N) (s : Fin 128) :
    (fun i => (iblk m c 4 t : FVec Ideal S3x128 .f32) (ix2 i s)) = weights (m (c.tc.loc main_arg2)) (colOf t s) :=
  funext fun i => blk_w m c t i s

/-! ## What a point leaves -/

theorem gate_at (t : Fin cfg0.N) (r : Fin 4096) (s : Fin 128) :
    out0_5 (F := Ideal) (iblk m c 0 t) (iblk m c 1 t) (iblk m c 2 t) (iblk m c 3 t) (iblk m c 4 t) (ix2 r s)
      = gateEntry (m (c.tc.loc main_arg0)) (m (c.tc.loc main_arg1)) (m (c.tc.loc main_arg2)) r (colOf t s) := by
  frame_out
  refine (pay7_apply _ _ _ _ r s).trans ?_
  exact congrArg₂ (fun a b : EReal => a * b) (blk_d m c t r s)
    (congrFun (congrArg₂ conv (col_input m c t s) (col_w m c t s)) r)

theorem back_at (t : Fin cfg0.N) (r : Fin 4096) (s : Fin 128) :
    convBack (fun k => k0_pay8 (F := Ideal) (iblk m c 0 t) (iblk m c 1 t) (ix2 k s)) (fun i => (iblk m c 4 t : FVec Ideal S3x128 .f32) (ix2 i s)) r
      = convBack (inner (m (c.tc.loc main_arg0)) (m (c.tc.loc main_arg1)) (colOf t s)) (weights (m (c.tc.loc main_arg2)) (colOf t s)) r :=
  congrFun (congrArg₂ convBack (col_inner m c t s) (col_w m c t s)) r

/-- The gradient of the convolution's result, as the later stores name it. -/
theorem pay15_eq (x0 x1 x2 x3 : FVec Ideal S4096x128 .bf16) (x4 : FVec Ideal S3x128 .f32) :
    k0_pay15 (F := Ideal) x0 x1 x2 x3 x4 = k0_pay8 (F := Ideal) x0 x1 := by
  unfold k0_pay15
  rw [View.ld_unit_zero (by decide), View.ld_unit_zero (by decide)]

theorem left_at (t : Fin cfg0.N) (r : Fin 4096) (s : Fin 128) :
    out0_6 (F := Ideal) (iblk m c 0 t) (iblk m c 1 t) (iblk m c 2 t) (iblk m c 3 t) (iblk m c 4 t) (ix2 r s)
      = leftEntry (m (c.tc.loc main_arg0)) (m (c.tc.loc main_arg1)) (m (c.tc.loc main_arg2)) r (colOf t s) := by
  frame_out
  rw [pay15_eq]
  refine (pay13_apply _ _ _ r s).trans ?_
  exact congrArg₂ (fun a b : EReal => a * b) (back_at m c t r s) (blk_right m c t r s)

theorem right_at (t : Fin cfg0.N) (r : Fin 4096) (s : Fin 128) :
    out0_7 (F := Ideal) (iblk m c 0 t) (iblk m c 1 t) (iblk m c 2 t) (iblk m c 3 t) (iblk m c 4 t) (ix2 r s)
      = rightEntry (m (c.tc.loc main_arg0)) (m (c.tc.loc main_arg1)) (m (c.tc.loc main_arg2)) r (colOf t s) := by
  frame_out
  rw [pay15_eq]
  refine (pay14_apply _ _ _ r s).trans ?_
  exact congrArg₂ (fun a b : EReal => a * b) (back_at m c t r s) (blk_left m c t r s)

theorem weight_at (t : Fin cfg0.N) (i : Fin 3) (s : Fin 128) :
    out0_8 (F := Ideal) (iblk m c 0 t) (iblk m c 1 t) (iblk m c 2 t) (iblk m c 3 t) (iblk m c 4 t) (ix2 i s)
      = weightEntry (m (c.tc.loc main_arg0)) (m (c.tc.loc main_arg1)) i (colOf t s) := by
  have e : ∀ j : Fin 3, weightGrad (inputBlk (iblk m c 0 t) (iblk m c 1 t) s) (inputBlk (iblk m c 2 t) (iblk m c 3 t) s) j
      = weightEntry (m (c.tc.loc main_arg0)) (m (c.tc.loc main_arg1)) j (colOf t s) := fun j => by
    rw [col_inner, col_input]
    rfl
  frame_out
  rw [pay15_eq]
  canon_tiles x h
  all_goals obtain ⟨u, v, rfl⟩ : ∃ (u : Fin 1) (v : Fin 128), x = ix2 u v := ⟨x 0, x 1, eq_ix2 x⟩
  all_goals obtain rfl : u = 0 := Subsingleton.elim _ _
  all_goals obtain rfl : v = s := Fin.ext (by simpa using h1.symm)
  · obtain rfl : i = 2 := Fin.ext (by simpa using h0)
    exact (pay11_apply (iblk m c 2 t) (iblk m c 3 t) (iblk m c 0 t) (iblk m c 1 t) v).trans (e 2)
  · obtain rfl : i = 1 := Fin.ext (by simpa using h0)
    exact (pay10_apply (iblk m c 2 t) (iblk m c 3 t) (iblk m c 0 t) (iblk m c 1 t) v).trans (e 1)
  · obtain rfl : i = 0 := Fin.ext (by simpa using h0)
    exact (pay9_apply (iblk m c 2 t) (iblk m c 3 t) (iblk m c 0 t) (iblk m c 1 t) v).trans (e 0)

/-! ## The arrays left -/

/-- The gate's gradient. -/
theorem final_gate : (dats m 0 c).arrAt 5 cfg0.N = gateGrad (m (c.tc.loc main_arg0)) (m (c.tc.loc main_arg1)) (m (c.tc.loc main_arg2)) := by
  refine (dats m 0 c).arrAt_eq_of_covers 5 _ (by decide +kernel) fun t hf y => ?_
  blk_simp
  rw [after0_5]
  obtain ⟨r, s, rfl⟩ : ∃ (r : Fin 4096) (s : Fin 128), y = ix2 r s := ⟨y 0, y 1, eq_ix2 y⟩
  refine (gate_at m c t r s).trans ?_
  refine congrArg₂ (gateEntry _ _ _) (Fin.ext ?_) (Fin.ext ?_)
  · blk_simp [idx t]
  · blk_simp [idx t, colOf]

/-- The first factor's gradient. -/
theorem final_left : (dats m 0 c).arrAt 6 cfg0.N = leftGrad (m (c.tc.loc main_arg0)) (m (c.tc.loc main_arg1)) (m (c.tc.loc main_arg2)) := by
  refine (dats m 0 c).arrAt_eq_of_covers 6 _ (by decide +kernel) fun t hf y => ?_
  blk_simp
  rw [after0_6]
  obtain ⟨r, s, rfl⟩ : ∃ (r : Fin 4096) (s : Fin 128), y = ix2 r s := ⟨y 0, y 1, eq_ix2 y⟩
  refine (left_at m c t r s).trans ?_
  refine congrArg₂ (leftEntry _ _ _) (Fin.ext ?_) (Fin.ext ?_)
  · blk_simp [idx t]
  · blk_simp [idx t, colOf]

/-- The second factor's gradient. -/
theorem final_right : (dats m 0 c).arrAt 7 cfg0.N = rightGrad (m (c.tc.loc main_arg0)) (m (c.tc.loc main_arg1)) (m (c.tc.loc main_arg2)) := by
  refine (dats m 0 c).arrAt_eq_of_covers 7 _ (by decide +kernel) fun t hf y => ?_
  blk_simp
  rw [after0_7]
  obtain ⟨r, s, rfl⟩ : ∃ (r : Fin 4096) (s : Fin 128), y = ix2 r s := ⟨y 0, y 1, eq_ix2 y⟩
  refine (right_at m c t r s).trans ?_
  refine congrArg₂ (rightEntry _ _ _) (Fin.ext ?_) (Fin.ext ?_)
  · blk_simp [idx t]
  · blk_simp [idx t, colOf]

/-- The weights' gradients. -/
theorem final_weights : (dats m 0 c).arrAt 8 cfg0.N = weightsGrad (m (c.tc.loc main_arg0)) (m (c.tc.loc main_arg1)) := by
  refine (dats m 0 c).arrAt_eq_of_covers 8 _ (by decide +kernel) fun t hf y => ?_
  blk_simp
  rw [after0_8]
  obtain ⟨i, s, rfl⟩ : ∃ (i : Fin 3) (s : Fin 128), y = ix2 i s := ⟨y 0, y 1, eq_ix2 y⟩
  refine (weight_at m c t i s).trans ?_
  refine congrArg₂ (weightEntry _ _) (Fin.ext ?_) (Fin.ext ?_)
  · blk_simp [idx t]
  · blk_simp [idx t, colOf]

end Cert.Kernel23Ideal.Conv

end
-- ==== Proof.ConvGrad.lean ====
/-
  What the reference's gradient of the short convolution leaves, and the claims about the convolution's backward call.
-/
module

public import proofs.«01_k».proof.Defs
public import proofs.«01_k».proof.Proof.ConvGradArrays
public import proofs.«01_k».proof.Proof.Gen.Reference23Ideal.Run
public import Idealize.ShloMosaic.Lib.Quiescent
public import Idealize.ShloMosaic.Adequacy

@[expose] public section

set_option maxRecDepth 16384

noncomputable section

namespace Cert.Reference23Ideal.Conv

open Idealize.ShloMosaic Idealize.ShloMosaic.TcCoe Cert.Reference23Ideal Cert.Reference23Ideal.Gen Cert.ConvRow
open Cert.Kernel23Ideal.Conv (gateCol leftCol rightCol input inner weights gateEntry leftEntry rightEntry weightEntry)

/-! ## The reference's terms -/

/-- The gate's columns. -/
def gateT (z : FVec Ideal S4096x8192 .bf16) : FVec Ideal S4096x2048 .f32 :=
  extf .f32 (extractStridedSlice S4096x2048 ![0, 0] z slices_S4096x8192_S4096x2048_0_0) bitsLt_bf16_f32

/-- The first factor's columns. -/
def leftT (z : FVec Ideal S4096x8192 .bf16) : FVec Ideal S4096x2048 .f32 :=
  extf .f32 (extractStridedSlice S4096x2048 ![0, 2048] z slices_S4096x8192_S4096x2048_0_2048) bitsLt_bf16_f32

/-- The second factor's columns. -/
def rightT (z : FVec Ideal S4096x8192 .bf16) : FVec Ideal S4096x2048 .f32 :=
  extf .f32 (extractStridedSlice S4096x2048 ![0, 4096] z slices_S4096x8192_S4096x2048_0_4096) bitsLt_bf16_f32

/-- A row of zeros. -/
def zeroT : FVec Ideal S1x2048 .f32 := broadcastInDim S1x2048 ![] bcast_S_S1x2048 (constant (F := Ideal) S_ .f32 0x00000000#32)

/-- Rows between two rows of zeros. -/
def paddedT (u : FVec Ideal S4096x2048 .f32) : FVec Ideal S4098x2048 .f32 :=
  concatenate S4098x2048 0 [⟨S1x2048, zeroT⟩, ⟨S4096x2048, u⟩, ⟨S1x2048, zeroT⟩] concatenates_S1x2048_S4096x2048_S1x2048_S4098x2048_d0

/-- The rows before. -/
def tap0T (u : FVec Ideal S4096x2048 .f32) : FVec Ideal S4096x2048 .f32 := extractStridedSlice S4096x2048 ![0, 0] (paddedT u) slices_S4098x2048_S4096x2048_0_0
/-- The rows themselves. -/
def tap1T (u : FVec Ideal S4096x2048 .f32) : FVec Ideal S4096x2048 .f32 := extractStridedSlice S4096x2048 ![1, 0] (paddedT u) slices_S4098x2048_S4096x2048_1_0
/-- The rows after. -/
def tap2T (u : FVec Ideal S4096x2048 .f32) : FVec Ideal S4096x2048 .f32 := extractStridedSlice S4096x2048 ![2, 0] (paddedT u) slices_S4098x2048_S4096x2048_2_0

/-- The first weights, on every row. -/
def w0T (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast _ (extractStridedSlice S1x2048 ![0, 0] w slices_S3x2048_S1x2048_0_0) shapeCasts_S1x2048_S2048))
/-- The second weights, on every row. -/
def w1T (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast _ (extractStridedSlice S1x2048 ![1, 0] w slices_S3x2048_S1x2048_1_0) shapeCasts_S1x2048_S2048))
/-- The third weights, on every row. -/
def w2T (w : FVec Ideal S3x2048 .f32) : FVec Ideal S4096x2048 .f32 :=
  broadcastInDim S4096x2048 ![0, 1] bcast_S1x2048_S4096x2048_0_1 (broadcastInDim S1x2048 ![1] bcast_S2048_S1x2048_1 (shapeCast _ (extractStridedSlice S1x2048 ![2, 0] w slices_S3x2048_S1x2048_2_0) shapeCasts_S1x2048_S2048))

/-- The gate's gradient. -/
def gateGradT (dy : FVec Ideal S4096x2048 .bf16) (u : FVec Ideal S4096x2048 .f32) (w : FVec Ideal S3x2048 .f32) : FVec Ideal S4096x2048 .bf16 :=
  truncf .bf16 (mulf (extf .f32 dy bitsLt_bf16_f32) (addf (addf (mulf (tap0T u) (w0T w)) (mulf (tap1T u) (w1T w))) (mulf (tap2T u) (w2T w)))) bitsLt_bf16_f32

/-- The gradient of the convolution's result. -/
def innerT (dy : FVec Ideal S4096x2048 .bf16) (z : FVec Ideal S4096x8192 .bf16) : FVec Ideal S4096x2048 .f32 := mulf (gateT z) (extf .f32 dy bitsLt_bf16_f32)

/-- What the third weights send back. -/
def back2T (p : FVec Ideal S4096x2048 .f32) : FVec Ideal S4098x2048 .f32 :=
  pad S4098x2048 ![2, 0] ![0, 0] ![0, 0] p (constant (F := Ideal) S_ .f32 0x00000000#32) pads_S4096x2048_S4098x2048_200_000 h_S_
/-- What the second weights send back. -/
def back1T (p : FVec Ideal S4096x2048 .f32) : FVec Ideal S4098x2048 .f32 :=
  pad S4098x2048 ![1, 0] ![1, 0] ![0, 0] p (constant (F := Ideal) S_ .f32 0x00000000#32) pads_S4096x2048_S4098x2048_110_000 h_S_
/-- What the first weights send back. -/
def back0T (p : FVec Ideal S4096x2048 .f32) : FVec Ideal S4098x2048 .f32 :=
  pad S4098x2048 ![0, 0] ![2, 0] ![0, 0] p (constant (F := Ideal) S_ .f32 0x00000000#32) pads_S4096x2048_S4098x2048_020_000 h_S_

/-- The gradient of the convolution's input. -/
def backT (q : FVec Ideal S4096x2048 .f32) (w : FVec Ideal S3x2048 .f32) : FVec Ideal S4096x2048 .f32 :=
  extractStridedSlice S4096x2048 ![1, 0] (addf (addf (back2T (mulf q (w2T w))) (back1T (mulf q (w1T w)))) (back0T (mulf q (w0T w)))) slices_S4098x2048_S4096x2048_1_0

/-- A sum down the rows, as one row. -/
def sumT (p : FVec Ideal S4096x2048 .f32) : FVec Ideal S1x2048 .f32 :=
  broadcastInDim S1x2048 ![1] bcast_S2048_S1x2048_1 (Host.reduceAdd (shapeCast _ (Host.reduceAdd p (constant (F := Ideal) S_ .f32 0x00000000#32) reducesTo_S4096x2048_S2048_d0 h_S_) shapeCasts_S2048_S1x2048) (constant (F := Ideal) S_ .f32 0x00000000#32) reducesTo_S1x2048_S2048_d0 h_S_)

/-- The weights' gradients: three rows, each set among rows of zeros. -/
def weightsT (q u : FVec Ideal S4096x2048 .f32) : FVec Ideal S3x2048 .f32 :=
  addf (addf (pad S3x2048 ![2, 0] ![0, 0] ![0, 0] (sumT (mulf (tap2T u) q)) (constant (F := Ideal) S_ .f32 0x00000000#32) pads_S1x2048_S3x2048_200_000 h_S_)
    (pad S3x2048 ![1, 0] ![1, 0] ![0, 0] (sumT (mulf (tap1T u) q)) (constant (F := Ideal) S_ .f32 0x00000000#32) pads_S1x2048_S3x2048_110_000 h_S_))
    (pad S3x2048 ![0, 0] ![2, 0] ![0, 0] (sumT (mulf (tap0T u) q)) (constant (F := Ideal) S_ .f32 0x00000000#32) pads_S1x2048_S3x2048_020_000 h_S_)

/-! ## Their entries -/

theorem gateT_apply (z : FVec Ideal S4096x8192 .bf16) (R : Fin 4096) (C : Fin 2048) : gateT z (ix2 R C) = z (ix2 R (gateCol C)) := by
  pointwise [gateT, gateCol]

theorem leftT_apply (z : FVec Ideal S4096x8192 .bf16) (R : Fin 4096) (C : Fin 2048) : leftT z (ix2 R C) = z (ix2 R (leftCol C)) := by
  pointwise [leftT, leftCol]

theorem rightT_apply (z : FVec Ideal S4096x8192 .bf16) (R : Fin 4096) (C : Fin 2048) : rightT z (ix2 R C) = z (ix2 R (rightCol C)) := by
  pointwise [rightT, rightCol]

theorem w0T_apply (w : FVec Ideal S3x2048 .f32) (R : Fin 4096) (C : Fin 2048) : w0T w (ix2 R C) = weights w C 0 := by
  pointwise [w0T, weights]

theorem w1T_apply (w : FVec Ideal S3x2048 .f32) (R : Fin 4096) (C : Fin 2048) : w1T w (ix2 R C) = weights w C 1 := by
  pointwise [w1T, weights]

theorem w2T_apply (w : FVec Ideal S3x2048 .f32) (R : Fin 4096) (C : Fin 2048) : w2T w (ix2 R C) = weights w C 2 := by
  pointwise [w2T, weights]

theorem tap0T_apply (u : FVec Ideal S4096x2048 .f32) (R : Fin 4096) (C : Fin 2048) : tap0T u (ix2 R C) = before (fun k => u (ix2 k C)) R := by
  pointwise [tap0T, paddedT, zeroT, before]
  by_cases h : R.val = 0
  · rw [dif_pos (by omega), if_pos h]
  · rw [dif_neg (by omega), dif_pos (by omega), if_neg h]

theorem tap1T_apply (u : FVec Ideal S4096x2048 .f32) (R : Fin 4096) (C : Fin 2048) : tap1T u (ix2 R C) = u (ix2 R C) := by
  pointwise [tap1T, paddedT, zeroT]

theorem tap2T_apply (u : FVec Ideal S4096x2048 .f32) (R : Fin 4096) (C : Fin 2048) : tap2T u (ix2 R C) = next (fun k => u (ix2 k C)) R := by
  pointwise [tap2T, paddedT, zeroT, next]
  by_cases h : R.val = 4095
  · rw [dif_neg (by omega), dif_neg (by omega), dif_pos h]
  · rw [dif_neg (by omega), dif_pos (by omega), dif_neg h]
    exact congrArg (fun k => u (ix2 k C)) (Fin.ext (show 2 + R.val - 1 = R.val + 1 by omega))

/-- A row's place among the padded rows. -/
def inside (R : Fin 4096) : Fin 4098 := ⟨1 + R.val, by omega⟩

theorem back2_apply (q : FVec Ideal S4096x2048 .f32) (w : FVec Ideal S3x2048 .f32) (R : Fin 4096) (C : Fin 2048) :
    back2T (mulf q (w2T w)) (ix2 (inside R) C) = before (fun k => q (ix2 k C)) R * weights w C 2 := by
  have h : back2T (mulf q (w2T w)) (ix2 (inside R) C) = if R.val = 0 then 0 else q (ix2 ⟨R.val - 1, by omega⟩ C) * w2T w (ix2 ⟨R.val - 1, by omega⟩ C) := by
    generalize w2T w = v
    pointwise [back2T, inside]
    by_cases h : R.val = 0
    · rw [dif_neg (by omega), if_pos h]
    · rw [dif_pos (by omega), if_neg h]
      exact congrArg (fun k : Fin 4096 => (q (ix2 k C) * v (ix2 k C) : EReal)) (Fin.ext (show 1 + R.val - 2 = R.val - 1 by omega))
  rw [h, before]
  by_cases h : R.val = 0
  · rw [if_pos h, if_pos h, zero_mul]
  · rw [if_neg h, if_neg h, w2T_apply]

theorem back1_apply (q : FVec Ideal S4096x2048 .f32) (w : FVec Ideal S3x2048 .f32) (R : Fin 4096) (C : Fin 2048) :
    back1T (mulf q (w1T w)) (ix2 (inside R) C) = q (ix2 R C) * weights w C 1 := by
  rw [← w1T_apply w R C]
  generalize w1T w = v
  pointwise [back1T, inside]

theorem back0_apply (q : FVec Ideal S4096x2048 .f32) (w : FVec Ideal S3x2048 .f32) (R : Fin 4096) (C : Fin 2048) :
    back0T (mulf q (w0T w)) (ix2 (inside R) C) = next (fun k => q (ix2 k C)) R * weights w C 0 := by
  have h : back0T (mulf q (w0T w)) (ix2 (inside R) C) = if h : R.val = 4095 then 0 else q (ix2 ⟨R.val + 1, by omega⟩ C) * w0T w (ix2 ⟨R.val + 1, by omega⟩ C) := by
    generalize w0T w = v
    pointwise [back0T, inside]
    by_cases h : R.val = 4095
    · rw [dif_neg (by omega), dif_pos h]
    · rw [dif_pos (by omega), dif_neg h]
      exact congrArg (fun k : Fin 4096 => (q (ix2 k C) * v (ix2 k C) : EReal)) (Fin.ext (show 1 + R.val = R.val + 1 by omega))
  rw [h, next]
  by_cases h : R.val = 4095
  · rw [dif_pos h, dif_pos h, zero_mul]
  · rw [dif_neg h, dif_neg h, w0T_apply]

theorem backT_apply (q : FVec Ideal S4096x2048 .f32) (w : FVec Ideal S3x2048 .f32) (R : Fin 4096) (C : Fin 2048) :
    backT q w (ix2 R C) = convBack (fun k => q (ix2 k C)) (weights w C) R := by
  have h : backT q w (ix2 R C) = back2T (mulf q (w2T w)) (ix2 (inside R) C) + back1T (mulf q (w1T w)) (ix2 (inside R) C) + back0T (mulf q (w0T w)) (ix2 (inside R) C) := by
    unfold backT
    generalize back2T (mulf q (w2T w)) = x
    generalize back1T (mulf q (w1T w)) = y
    generalize back0T (mulf q (w0T w)) = v
    pointwise [inside]
  rw [h, back2_apply, back1_apply, back0_apply, convBack]
  exact (add_comm _ _).trans ((congrArg (fun a : EReal => _ + a) (add_comm _ _)).trans (add_assoc _ _ _).symm)

theorem sumT_apply (p : FVec Ideal S4096x2048 .f32) (C : Fin 2048) : sumT p (ix2 0 C) = ∑ R : Fin 4096, p (ix2 R C) := by
  pointwise [sumT]
  exact Fin.sum_univ_one _

/-- A column of the reference's convolution input is the call's. -/
theorem input_col (z : FVec Ideal S4096x8192 .bf16) (C : Fin 2048) : (fun k => mulf (leftT z) (rightT z) (ix2 k C)) = input z C := by
  funext R
  rw [input, ← leftT_apply z R C, ← rightT_apply z R C]
  rfl

/-- So is a column of the gradient of the convolution's result. -/
theorem inner_col (dy : FVec Ideal S4096x2048 .bf16) (z : FVec Ideal S4096x8192 .bf16) (C : Fin 2048) : (fun k => innerT dy z (ix2 k C)) = inner dy z C := by
  funext R
  rw [Cert.Kernel23Ideal.Conv.inner, ← gateT_apply z R C]
  unfold innerT
  generalize gateT z = a
  pointwise
  exact mul_comm _ _

/-! ## The reference's arrays are the call's -/

theorem gate_eq (dy : FVec Ideal S4096x2048 .bf16) (z : FVec Ideal S4096x8192 .bf16) (w : FVec Ideal S3x2048 .f32) :
    gateGradT dy (mulf (leftT z) (rightT z)) w = Cert.Kernel23Ideal.Conv.gateGrad dy z w := by
  funext i
  obtain ⟨R, C, rfl⟩ : ∃ (R : Fin 4096) (C : Fin 2048), i = ix2 R C := ⟨i 0, i 1, eq_ix2 i⟩
  show _ = gateEntry dy z w R C
  rw [gateEntry, conv, ← input_col, ← tap0T_apply, ← tap2T_apply, ← w0T_apply w R, ← w1T_apply w R, ← w2T_apply w R]
  show dy (ix2 R C) * (_ * _ + tap1T (mulf (leftT z) (rightT z)) (ix2 R C) * _ + _ * _) = _
  rw [tap1T_apply]

theorem left_eq (dy : FVec Ideal S4096x2048 .bf16) (z : FVec Ideal S4096x8192 .bf16) (w : FVec Ideal S3x2048 .f32) :
    truncf (F := Ideal) .bf16 (mulf (backT (innerT dy z) w) (rightT z)) bitsLt_bf16_f32 = Cert.Kernel23Ideal.Conv.leftGrad dy z w := by
  funext i
  obtain ⟨R, C, rfl⟩ : ∃ (R : Fin 4096) (C : Fin 2048), i = ix2 R C := ⟨i 0, i 1, eq_ix2 i⟩
  refine congrArg₂ (fun a b : EReal => a * b) ((backT_apply _ w R C).trans ?_) (rightT_apply z R C)
  rw [inner_col]
  rfl

theorem right_eq (dy : FVec Ideal S4096x2048 .bf16) (z : FVec Ideal S4096x8192 .bf16) (w : FVec Ideal S3x2048 .f32) :
    truncf (F := Ideal) .bf16 (mulf (leftT z) (backT (innerT dy z) w)) bitsLt_bf16_f32 = Cert.Kernel23Ideal.Conv.rightGrad dy z w := by
  funext i
  obtain ⟨R, C, rfl⟩ : ∃ (R : Fin 4096) (C : Fin 2048), i = ix2 R C := ⟨i 0, i 1, eq_ix2 i⟩
  refine (mul_comm (leftT z (ix2 R C) : EReal) _).trans ?_
  refine congrArg₂ (fun a b : EReal => a * b) ((backT_apply _ w R C).trans ?_) (leftT_apply z R C)
  rw [inner_col]
  rfl

/-- A sum down the rows of a tap and the gradient of the convolution's result. -/
theorem sum_tap (q a : FVec Ideal S4096x2048 .f32) (f g : Fin 4096 → EReal) (C : Fin 2048) (hq : ∀ R, q (ix2 R C) = g R) (ha : ∀ R, a (ix2 R C) = f R) :
    sumT (mulf a q) (ix2 0 C) = ∑ R : Fin 4096, g R * f R := by
  rw [sumT_apply]
  refine Finset.sum_congr rfl fun R _ => ?_
  rw [← hq, ← ha]
  exact mul_comm _ _

theorem weights_apply (q u : FVec Ideal S4096x2048 .f32) (i : Fin 3) (C : Fin 2048) :
    weightsT q u (ix2 i C) = weightGrad (fun k => q (ix2 k C)) (fun k => u (ix2 k C)) i := by
  have e0 := sum_tap q (tap0T u) _ _ C (fun R => rfl) (fun R => tap0T_apply u R C)
  have e1 := sum_tap q (tap1T u) _ _ C (fun R => rfl) (fun R => tap1T_apply u R C)
  have e2 := sum_tap q (tap2T u) _ _ C (fun R => rfl) (fun R => tap2T_apply u R C)
  unfold weightsT
  generalize sumT (mulf (tap0T u) q) = x at e0
  generalize sumT (mulf (tap1T u) q) = y at e1
  generalize sumT (mulf (tap2T u) q) = v at e2
  match i with
  | 0 =>
    refine Eq.trans ?_ e0
    pointwise
  | 1 =>
    refine Eq.trans ?_ e1
    pointwise
  | 2 =>
    refine Eq.trans ?_ e2
    pointwise

theorem weights_eq (dy : FVec Ideal S4096x2048 .bf16) (z : FVec Ideal S4096x8192 .bf16) :
    weightsT (innerT dy z) (mulf (leftT z) (rightT z)) = Cert.Kernel23Ideal.Conv.weightsGrad dy z := by
  funext i
  obtain ⟨j, C, rfl⟩ : ∃ (j : Fin 3) (C : Fin 2048), i = ix2 j C := ⟨i 0, i 1, eq_ix2 i⟩
  rw [weights_apply, input_col, inner_col]
  rfl

end Cert.Reference23Ideal.Conv

namespace Cert.ConvGrad

open Idealize.ShloMosaic Idealize.ShloMosaic.TcCoe Idealize.SL.Sem Cert.Reference23Ideal Cert.Reference23Ideal.Gen Cert.Reference23Ideal.Value Cert.Reference23Ideal.Conv

/-- The reference's frame: it changes no argument and leaves no semaphore raised. -/
theorem reference_frame : Cert.quiescent_Reference23Ideal :=
  fun m ρ _ => (θ_run Cert.Reference23Ideal.defs _ _).mono (fun r h => ⟨fun c => (h c).2.2.2.2, sem_eq_zero_of_no_sems (by decide) r.2⟩)
    (Value.run (F := Ideal) m ρ)

/-- The call and the reference leave the same four gradients. -/
theorem algebraic : Cert.algebraic_Kernel23Ideal_Reference23Ideal := by
  intro m ρ m' ρ' _ hagree
  refine ⟨_, _, _, _, Cert.Kernel23Ideal.Value.run_blocks (F := Ideal) m ρ,
    (θ_run Cert.Reference23Ideal.defs _ _).mono (fun r h c => ?_) (Value.run (F := Ideal) m' ρ')⟩
  obtain ⟨h₀, h₁, h₂, h₃, h⟩ := h c
  obtain ⟨e0, e1, e2⟩ := hagree c
  have k₀ := h₀.trans (gate_eq (m' (c.tc.loc main_arg0)) (m' (c.tc.loc main_arg1)) (m' (c.tc.loc main_arg2)))
  have k₁ := h₁.trans (left_eq (m' (c.tc.loc main_arg0)) (m' (c.tc.loc main_arg1)) (m' (c.tc.loc main_arg2)))
  have k₂ := h₂.trans (right_eq (m' (c.tc.loc main_arg0)) (m' (c.tc.loc main_arg1)) (m' (c.tc.loc main_arg2)))
  have k₃ := h₃.trans (weights_eq (m' (c.tc.loc main_arg0)) (m' (c.tc.loc main_arg1)))
  rw [e0, e1, e2] at k₀ k₁ k₂
  rw [e0, e1] at k₃
  exact ⟨k₀.trans (Cert.Kernel23Ideal.Conv.final_gate m c).symm, k₁.trans (Cert.Kernel23Ideal.Conv.final_left m c).symm,
    k₂.trans (Cert.Kernel23Ideal.Conv.final_right m c).symm, k₃.trans (Cert.Kernel23Ideal.Conv.final_weights m c).symm, h⟩

end Cert.ConvGrad

end
-- ==== Proof.NormGradArrays.lean ====
/-
  What the backward call of the norm leaves in its three result arrays: the gradient of the input with the residual's
  added, the same once more, and the gradient of the gain summed over the row blocks.
-/
module

public import proofs.«01_k».proof.Proof.NormRow
public import proofs.«01_k».proof.Proof.Gen.Kernel22Ideal.Value
public import Idealize.ShloMosaic.Lib.Pipeline.ValueKit
public import Idealize.ShloMosaic.Lib.Pipeline.ReadBack

@[expose] public section

set_option maxRecDepth 16384

noncomputable section

namespace Cert.Kernel22Ideal.Norm

open Idealize.ShloMosaic Idealize.ShloMosaic.TcCoe Cert.Kernel22Ideal Cert.Kernel22Ideal.Gen Cert.NormRow

/-! ## The arrays -/

/-- The input's gradient at one entry, the residual's gradient added. -/
def entry (dy x : FVec Ideal S4096x4096 .f32) (g : FVec Ideal S1x4096 .f32) (res : FVec Ideal S4096x4096 .f32) (R C : Fin 4096) : EReal :=
  res (ix2 R C) + direct (fun k => x (ix2 R k)) (fun k => dy (ix2 R k) * g (ix2 0 k)) C

/-- The input's gradient. -/
def inputGrad (dy x : FVec Ideal S4096x4096 .f32) (g : FVec Ideal S1x4096 .f32) (res : FVec Ideal S4096x4096 .f32) :
    FVec Ideal S4096x4096 .f32 := fun i => entry dy x g res (i 0) (i 1)

/-- The input's gradient once more, for the next call. -/
def inputGrad₁₆ (dy x : FVec Ideal S4096x4096 .f32) (g : FVec Ideal S1x4096 .f32) (res : FVec Ideal S4096x4096 .f32) :
    FVec Ideal S4096x4096 .bf16 := fun i => entry dy x g res (i 0) (i 1)

/-- What one row gives the gain's gradient. -/
def part (dy x : FVec Ideal S4096x4096 .f32) (R C : Fin 4096) : EReal := dy (ix2 R C) * (x (ix2 R C) * rinv fun k => x (ix2 R k))

/-- The gain's gradient. -/
def gainGrad (dy x : FVec Ideal S4096x4096 .f32) : FVec Ideal S1x4096 .f32 := fun i => ∑ R : Fin 4096, part dy x R (i 1)

/-! ## One block -/

/-- The input's gradient at one entry of a block. -/
def entryBlk (d x : FVec Ideal S128x4096 .f32) (g : FVec Ideal S1x4096 .f32) (res : FVec Ideal S128x4096 .f32) (r : Fin 128) (s : Fin 4096) : EReal :=
  res (ix2 r s) + direct (fun k => x (ix2 r k)) (fun k => d (ix2 r k) * g (ix2 0 k)) s

theorem pay5_apply (d x : FVec Ideal S128x4096 .f32) (g : FVec Ideal S1x4096 .f32) (res : FVec Ideal S128x4096 .f32) (r : Fin 128) (s : Fin 4096) :
    k0_pay5 (F := Ideal) d x g res (ix2 r s)
      = entryBlk d x g res r s := by
  pointwise [k0_pay5, k0_pay3, k0_pay2, entryBlk, direct, rinv, ms, len, eps]

theorem pay6_apply (d x : FVec Ideal S128x4096 .f32) (g : FVec Ideal S1x4096 .f32) (res : FVec Ideal S128x4096 .f32) (r : Fin 128) (s : Fin 4096) :
    k0_pay6 (F := Ideal) d x g res (ix2 r s)
      = entryBlk d x g res r s := by
  pointwise [k0_pay6, k0_pay5, k0_pay3, k0_pay2, entryBlk, direct, rinv, ms, len, eps]

theorem pay1_apply (d x : FVec Ideal S128x4096 .f32) (a : FVec Ideal S1x4096 .f32) (s : Fin 4096) :
    k0_pay1 (F := Ideal) (k0_pay4 d x) a (ix2 0 s)
      = a (ix2 0 s) + ∑ r : Fin 128, d (ix2 r s) * (x (ix2 r s) * rinv fun k => x (ix2 r k)) := by
  pointwise [k0_pay1, k0_pay4, k0_pay3, k0_pay2, rinv, ms, len, eps]

theorem pay7_apply (y : S1x4096.Idx) : k0_pay7 (F := Ideal) y = 0 := by
  pointwise [k0_pay7]

/-! ## The blocks at a point -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- A block's row in the whole array: row `128 * t + r`. -/
def rowOf (t : Fin cfg0.N) (r : Fin 128) : Fin 4096 := ⟨t.val * 128 + r, by have := lt_of_lt_of_eq t.isLt N_0; omega⟩

theorem blk_d (t : Fin cfg0.N) (r : Fin 128) (s : Fin 4096) :
    (iblk m c 0 t : FVec Ideal S128x4096 .f32) (ix2 r s) = (m (c.tc.loc main_arg0) : FVec Ideal S4096x4096 .f32) (ix2 (rowOf t r) s) := by
  refine Eq.trans ?_ (congrFun (V_main_arg0 m c) _)
  blk_ext [iblk, idx t, rowOf]

theorem blk_x (t : Fin cfg0.N) (r : Fin 128) (s : Fin 4096) :
    (iblk m c 1 t : FVec Ideal S128x4096 .f32) (ix2 r s) = (m (c.tc.loc main_arg1) : FVec Ideal S4096x4096 .f32) (ix2 (rowOf t r) s) := by
  refine Eq.trans ?_ (congrFun (V_main_arg1 m c) _)
  blk_ext [iblk, idx t, rowOf]

theorem blk_g (t : Fin cfg0.N) (s : Fin 4096) :
    (iblk m c 2 t : FVec Ideal S1x4096 .f32) (ix2 0 s) = (m (c.tc.loc main_arg2) : FVec Ideal S1x4096 .f32) (ix2 0 s) := by
  refine Eq.trans ?_ (congrFun (V_main_arg2 m c) _)
  blk_ext [iblk, idx t]

theorem blk_res (t : Fin cfg0.N) (r : Fin 128) (s : Fin 4096) :
    (iblk m c 3 t : FVec Ideal S128x4096 .f32) (ix2 r s) = (m (c.tc.loc main_arg3) : FVec Ideal S4096x4096 .f32) (ix2 (rowOf t r) s) := by
  refine Eq.trans ?_ (congrFun (V_main_arg3 m c) _)
  blk_ext [iblk, idx t, rowOf]

/-- A block's entry is the array's. -/
theorem entry_blk (t : Fin cfg0.N) (r : Fin 128) (s : Fin 4096) :
    entryBlk (iblk m c 0 t) (iblk m c 1 t) (iblk m c 2 t) (iblk m c 3 t) r s
      = entry (m (c.tc.loc main_arg0)) (m (c.tc.loc main_arg1)) (m (c.tc.loc main_arg2)) (m (c.tc.loc main_arg3)) (rowOf t r) s :=
  congrArg₂ (fun a b : EReal => a + b) (blk_res m c t r s)
    (congrFun (congrArg₂ direct (funext fun k => blk_x m c t r k)
      (funext fun k => congrArg₂ (fun a b : EReal => a * b) (blk_d m c t r k) (blk_g m c t k))) s)

/-! ## The input's gradient -/

/-- What a point leaves of the input's gradient. -/
theorem grad_at (t : Fin cfg0.N) (y : S128x4096.Idx) : (outsAt0 m c t.val t.isLt).1 y
    = k0_pay5 (F := Ideal) (iblk m c 0 t) (iblk m c 1 t) (iblk m c 2 t) (iblk m c 3 t) y := by
  by_cases h : t.val % 32 = 0
  · rw [outsAt0_A m c t h]; frame_out
  · rw [outsAt0_B m c t h]; frame_out

/-- What a point leaves of the input's gradient's second copy. -/
theorem copy_at (t : Fin cfg0.N) (y : S128x4096.Idx) : (outsAt0 m c t.val t.isLt).2.1 y
    = k0_pay6 (F := Ideal) (iblk m c 0 t) (iblk m c 1 t) (iblk m c 2 t) (iblk m c 3 t) y := by
  by_cases h : t.val % 32 = 0
  · rw [outsAt0_A m c t h]; frame_out
  · rw [outsAt0_B m c t h]; frame_out

/-- The input's gradient. -/
theorem final_grad : (dats m 0 c).arrAt 4 cfg0.N
    = inputGrad (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  refine (grad_at m c t y).trans ?_
  obtain ⟨r, s, rfl⟩ : ∃ (r : Fin 128) (s : Fin 4096), y = ix2 r s := ⟨y 0, y 1, eq_ix2 y⟩
  refine (pay5_apply _ _ _ _ r s).trans ((entry_blk m c t r s).trans ?_)
  refine congrArg₂ (entry _ _ _ _) (Fin.ext ?_) (Fin.ext ?_)
  · blk_simp [idx t, rowOf]
  · blk_simp [idx t]

/-- The input's gradient's second copy. -/
theorem final_copy : (dats m 0 c).arrAt 5 cfg0.N
    = inputGrad₁₆ (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  refine (copy_at m c t y).trans ?_
  obtain ⟨r, s, rfl⟩ : ∃ (r : Fin 128) (s : Fin 4096), y = ix2 r s := ⟨y 0, y 1, eq_ix2 y⟩
  refine (pay6_apply _ _ _ _ r s).trans ((entry_blk m c t r s).trans ?_)
  refine congrArg₂ (entry _ _ _ _) (Fin.ext ?_) (Fin.ext ?_)
  · blk_simp [idx t, rowOf]
  · blk_simp [idx t]

/-! ## The gain's gradient -/

/-- What one block of rows gives the gain's gradient. -/
def rowsPart (t : Fin cfg0.N) (C : Fin 4096) : EReal :=
  ∑ r : Fin 128, part (m (c.tc.loc main_arg0)) (m (c.tc.loc main_arg1)) (rowOf t r) C

/-- A block's sum is the array's. -/
theorem piece (t : Fin cfg0.N) (a : FVec Ideal S1x4096 .f32) (y : S1x4096.Idx) :
    k0_pay1 (F := Ideal) (k0_pay4 (iblk m c 0 t) (iblk m c 1 t)) a y = a y + rowsPart m c t (y 1) := by
  obtain ⟨u, s, rfl⟩ : ∃ (u : Fin 1) (s : Fin 4096), y = ix2 u s := ⟨y 0, y 1, eq_ix2 y⟩
  obtain rfl : u = 0 := Subsingleton.elim _ _
  refine (pay1_apply _ _ a s).trans (congrArg (fun b : EReal => a (ix2 0 s) + b) ?_)
  exact Finset.sum_congr rfl fun r _ => congrArg₂ (fun a b : EReal => a * b) (blk_d m c t r s)
    (congrArg₂ (fun a b : EReal => a * b) (blk_x m c t r s) (congrArg rinv (funext fun k => blk_x m c t r k)))

/-- What the first point leaves of the gain's gradient. -/
theorem gain_first (t : Fin cfg0.N) (hA : t.val % 32 = 0) (y : S1x4096.Idx) :
    (outsAt0 m c t.val t.isLt).2.2 y = 0 + rowsPart m c t (y 1) := by
  rw [outsAt0_A m c t hA]; frame_out
  refine (piece m c t _ y).trans (congrArg (fun b : EReal => b + _) ?_)
  exact pay7_apply y

/-- What every later point leaves of the gain's gradient. -/
theorem gain_next (t : Fin cfg0.N) (hB : ¬ t.val % 32 = 0) (y : S1x4096.Idx) :
    (outsAt0 m c t.val t.isLt).2.2 y
      = (outsAt0 m c (t.val - 1) (lt_of_le_of_lt (Nat.sub_le _ _) t.isLt)).2.2 y + rowsPart m c t (y 1) := by
  rw [outsAt0_B m c t hB]; frame_out
  exact piece m c t _ y

/-- The gain's gradient. -/
theorem final_gain : (dats m 0 c).arrAt 6 cfg0.N = gainGrad (m (c.tc.loc main_arg0)) (m (c.tc.loc main_arg1)) := by
  refine (dats m 0 c).arrAt_eq_of_covers 6 _ (by decide +kernel) fun t hf y => ?_
  blk_simp
  rw [after0_6]
  have ht : t.val % 32 = 31 := (flush0_6 t).mp hf
  have hN := lt_of_lt_of_eq t.isLt N_0
  rw [Pipeline.eq_sum_fin_of_reset_step_apply_of_flush (fun n h => (outsAt0 m c n h).2.2) 32 (fun _ => 0)
    (fun t j => rowsPart m c t (j 1)) (fun t h j => gain_first m c t h j) (fun t h j => gain_next m c t h j)
    t ht y, zero_add]
  rw [gainGrad]
  refine Fin.sum_mul_add_congr fun k l => ?_
  intro _
  refine congrArg₂ (part _ _) (Fin.ext ?_) (Fin.ext ?_)
  · show (32 * (t.val / 32) + k.val) * 128 + l.val = k.val * 128 + l.val; omega
  · blk_simp [idx t]

end Cert.Kernel22Ideal.Norm

end
-- ==== Proof.NormGrad.lean ====
/-
  What the reference's gradient of the norm leaves, and the claims about the norm's backward call.
-/
module

public import proofs.«01_k».proof.Defs
public import proofs.«01_k».proof.Proof.NormGradArrays
public import proofs.«01_k».proof.Proof.Gen.Reference22Ideal.Run
public import Idealize.ShloMosaic.Lib.Quiescent
public import Idealize.ShloMosaic.Adequacy

@[expose] public section

set_option maxRecDepth 16384

noncomputable section

namespace Cert.Reference22Ideal.Norm

open Idealize.ShloMosaic Idealize.ShloMosaic.TcCoe Cert.Reference22Ideal Cert.Reference22Ideal.Gen Cert.NormRow

/-! ## The reference's terms -/

/-- The mean of squares of every row, kept off zero. -/
def msT (x : FVec Ideal S4096x4096 .f32) : FVec Ideal S4096x1 .f32 :=
  addf (Host.divf (broadcastInDim S4096x1 ![0] bcast_S4096_S4096x1_0 (Host.reduceAdd (mulf x x) (constant (F := Ideal) S_ .f32 0x00000000#32) reducesTo_S4096x4096_S4096_d1 h_S_)) (broadcastInDim S4096x1 ![] bcast_S_S4096x1 (constant (F := Ideal) S_ .f32 0x45800000#32))) (broadcastInDim S4096x1 ![] bcast_S_S4096x1 (constant (F := Ideal) S_ .f32 0x358637BD#32))

/-- One over its root. -/
def invT (x : FVec Ideal S4096x4096 .f32) : FVec Ideal S4096x1 .f32 := Host.rsqrt (msT x)

/-- The result's gradient times the gain. -/
def scaledT (dy : FVec Ideal S4096x4096 .f32) (g : FVec Ideal S1x4096 .f32) : FVec Ideal S4096x4096 .f32 :=
  mulf dy (broadcastInDim S4096x4096 ![0, 1] bcast_S1x4096_S4096x4096_0_1 g)

/-- What the chain rule hands the mean of squares. -/
def throughT (d x : FVec Ideal S4096x4096 .f32) : FVec Ideal S4096x4096 .f32 :=
  broadcastInDim S4096x4096 ![0] bcast_S4096_S4096x4096_0 (Host.reduceAdd (Host.divf (mulf (shapeCast _ (Host.reduceAdd (mulf x d) (constant (F := Ideal) S_ .f32 0x00000000#32) reducesTo_S4096x4096_S4096_d1 h_S_) shapeCasts_S4096_S4096x1) (mulf (broadcastInDim S4096x1 ![] bcast_S_S4096x1 (constant (F := Ideal) S_ .f32 0xBF000000#32)) (Host.divf (invT x) (msT x)))) (broadcastInDim S4096x1 ![] bcast_S_S4096x1 (constant (F := Ideal) S_ .f32 0x45800000#32))) (constant (F := Ideal) S_ .f32 0x00000000#32) reducesTo_S4096x1_S4096_d1 h_S_)

/-- The input's gradient, the residual's added. -/
def gradT (dy x : FVec Ideal S4096x4096 .f32) (g : FVec Ideal S1x4096 .f32) (res : FVec Ideal S4096x4096 .f32) : FVec Ideal S4096x4096 .f32 :=
  addf res (addf (addf (mulf (scaledT dy g) (broadcastInDim S4096x4096 ![0, 1] bcast_S4096x1_S4096x4096_0_1 (invT x))) (mulf x (throughT (scaledT dy g) x))) (mulf (throughT (scaledT dy g) x) x))

/-- The gain's gradient. -/
def gainT (dy x : FVec Ideal S4096x4096 .f32) : FVec Ideal S1x4096 .f32 :=
  shapeCast _ (Host.reduceAdd (mulf (mulf x (broadcastInDim S4096x4096 ![0, 1] bcast_S4096x1_S4096x4096_0_1 (invT x))) dy) (constant (F := Ideal) S_ .f32 0x00000000#32) reducesTo_S4096x4096_S4096_d0 h_S_) shapeCasts_S4096_S1x4096

/-! ## Their entries -/

theorem msT_apply (x : FVec Ideal S4096x4096 .f32) (R : Fin 4096) : msT x (ix2 R 0) = ms fun k => x (ix2 R k) := by
  pointwise [msT, ms, len, eps]

theorem invT_apply (x : FVec Ideal S4096x4096 .f32) (R : Fin 4096) : invT x (ix2 R 0) = rinv fun k => x (ix2 R k) :=
  congrArg Ideal.rsqrt (msT_apply x R)

theorem scaledT_apply (dy : FVec Ideal S4096x4096 .f32) (g : FVec Ideal S1x4096 .f32) (R C : Fin 4096) :
    scaledT dy g (ix2 R C) = dy (ix2 R C) * g (ix2 0 C) := by
  pointwise [scaledT]

theorem throughT_apply (d x : FVec Ideal S4096x4096 .f32) (R C : Fin 4096) :
    throughT d x (ix2 R C) = through (fun k => x (ix2 R k)) (fun k => d (ix2 R k)) := by
  rw [through, ← msT_apply, ← invT_apply]
  unfold throughT
  generalize invT x = a
  generalize msT x = b
  pointwise [len, minusHalf]
  exact Fin.sum_univ_one _

theorem gradT_apply (dy x : FVec Ideal S4096x4096 .f32) (g : FVec Ideal S1x4096 .f32) (res : FVec Ideal S4096x4096 .f32) (R C : Fin 4096) :
    gradT dy x g res (ix2 R C) = res (ix2 R C) + chain (fun k => x (ix2 R k)) (fun k => dy (ix2 R k) * g (ix2 0 k)) C := by
  have hd : (fun k => dy (ix2 R k) * g (ix2 0 k)) = fun k => scaledT dy g (ix2 R k) := funext fun k => (scaledT_apply dy g R k).symm
  rw [hd, chain, ← throughT_apply _ _ R C, ← invT_apply]
  unfold gradT
  generalize throughT (scaledT dy g) x = t
  generalize scaledT dy g = d
  generalize invT x = a
  pointwise

/-- The reference's gradient of the input is the call's. -/
theorem gradT_eq (dy x : FVec Ideal S4096x4096 .f32) (g : FVec Ideal S1x4096 .f32) (res : FVec Ideal S4096x4096 .f32) :
    gradT dy x g res = Cert.Kernel22Ideal.Norm.inputGrad dy x g res := by
  funext i
  obtain ⟨R, C, rfl⟩ : ∃ (R C : Fin 4096), i = ix2 R C := ⟨i 0, i 1, eq_ix2 i⟩
  rw [gradT_apply, ← direct_eq_chain]
  rfl

/-- So is its second copy. -/
theorem copy_eq (dy x : FVec Ideal S4096x4096 .f32) (g : FVec Ideal S1x4096 .f32) (res : FVec Ideal S4096x4096 .f32) :
    truncf (F := Ideal) .bf16 (gradT dy x g res) bitsLt_bf16_f32 = Cert.Kernel22Ideal.Norm.inputGrad₁₆ dy x g res := by
  rw [gradT_eq]
  rfl

/-- The reference's gradient of the gain is the call's. -/
theorem gainT_eq (dy x : FVec Ideal S4096x4096 .f32) : gainT dy x = Cert.Kernel22Ideal.Norm.gainGrad dy x := by
  funext i
  obtain ⟨u, C, rfl⟩ : ∃ (u : Fin 1) (C : Fin 4096), i = ix2 u C := ⟨i 0, i 1, eq_ix2 i⟩
  obtain rfl : u = 0 := Subsingleton.elim _ _
  have h : gainT dy x (ix2 0 C) = ∑ R : Fin 4096, x (ix2 R C) * invT x (ix2 R 0) * dy (ix2 R C) := by
    unfold gainT
    generalize invT x = a
    pointwise
  rw [h]
  refine Finset.sum_congr rfl fun R _ => ?_
  rw [invT_apply, mul_comm]
  rfl

end Cert.Reference22Ideal.Norm

namespace Cert.NormGrad

open Idealize.ShloMosaic Idealize.ShloMosaic.TcCoe Idealize.SL.Sem Cert.Reference22Ideal Cert.Reference22Ideal.Gen Cert.Reference22Ideal.Value Cert.Reference22Ideal.Norm

/-- The reference's frame: it changes no argument and leaves no semaphore raised. -/
theorem reference_frame : Cert.quiescent_Reference22Ideal :=
  fun m ρ _ => (θ_run Cert.Reference22Ideal.defs _ _).mono (fun r h => ⟨fun c => (h c).2.2.2, sem_eq_zero_of_no_sems (by decide) r.2⟩)
    (Value.run (F := Ideal) m ρ)

/-- The call and the reference leave the same gradients of the input and of the gain. -/
theorem algebraic : Cert.algebraic_Kernel22Ideal_Reference22Ideal := by
  intro m ρ m' ρ' _ hagree
  refine ⟨_, _, _, Cert.Kernel22Ideal.Value.run_blocks (F := Ideal) m ρ,
    (θ_run Cert.Reference22Ideal.defs _ _).mono (fun r h c => ?_) (Value.run (F := Ideal) m' ρ')⟩
  obtain ⟨h₀, h₁, h₂, h⟩ := h c
  obtain ⟨e0, e1, e2, e3⟩ := hagree c
  have k₀ := h₀.trans (gradT_eq (m' (c.tc.loc main_arg0)) (m' (c.tc.loc main_arg1)) (m' (c.tc.loc main_arg2)) (m' (c.tc.loc main_arg3)))
  have k₁ := h₁.trans (copy_eq (m' (c.tc.loc main_arg0)) (m' (c.tc.loc main_arg1)) (m' (c.tc.loc main_arg2)) (m' (c.tc.loc main_arg3)))
  have k₂ := h₂.trans (gainT_eq (m' (c.tc.loc main_arg0)) (m' (c.tc.loc main_arg1)))
  rw [e0, e1, e2, e3] at k₀ k₁
  rw [e0, e1] at k₂
  exact ⟨k₀.trans (Cert.Kernel22Ideal.Norm.final_grad m c).symm, k₁.trans (Cert.Kernel22Ideal.Norm.final_copy m c).symm,
    k₂.trans (Cert.Kernel22Ideal.Norm.final_gain m c).symm, h⟩

end Cert.NormGrad

end
-- ==== Proof.Optimiser.lean ====
/-
  The optimiser's step on one entry of a weight: the gradient summed over the eight devices' parts, the two moments and the
  change of the weight, as functions of the entry's numbers.
-/
module

public import Idealize.ShloMosaic.Lib.Pipeline.ValueKit

@[expose] public section

noncomputable section

namespace Cert.Optimiser

open Idealize.ShloMosaic

/-- The gradient: the sum of the eight devices' parts. -/
def grad (p : Fin 8 → EReal) : EReal := ∑ s : Fin 8, p s

/-- The first moment from the old one and the gradient. -/
def first (m g : EReal) : EReal :=
  (Scalar.ofBits .f32 0x3F666666#32 : Ideal .f32) * m + (Scalar.ofBits .f32 0x3DCCCCCD#32 : Ideal .f32) * g

/-- The second moment from the old one and the gradient. -/
def second (v g : EReal) : EReal :=
  (Scalar.ofBits .f32 0x3F7FBE77#32 : Ideal .f32) * v + (Scalar.ofBits .f32 0x3A83126F#32 : Ideal .f32) * (g * g)

/-- The weight's change from the weight and the two new moments. -/
def delta (w m v : EReal) : EReal :=
  (Scalar.ofBits .f32 0xBA83126F#32 : Ideal .f32)
    * (Ideal.div (Ideal.div m (Scalar.ofBits .f32 0x3F26BD02#32 : Ideal .f32))
          (Ideal.sqrt (Ideal.div v (Scalar.ofBits .f32 0x3C231ACC#32 : Ideal .f32)) + (Scalar.ofBits .f32 0x322BCC77#32 : Ideal .f32))
        + (Scalar.ofBits .f32 0x3C23D70A#32 : Ideal .f32) * w)

/-- The sum taken from the first part on. -/
theorem grad_eq (p : Fin 8 → EReal) : p 0 + p 1 + p 2 + p 3 + p 4 + p 5 + p 6 + p 7 = grad p := (Fin.sum_univ_eight p).symm

/-! ## The four results, as arrays of the weight's shape -/

variable {R C : ℕ} {φ : FTy}

/-- The gradient of every entry. -/
def gradient (p : FVec Ideal ⟨3, ![8, R, C]⟩ φ) : FVec Ideal ⟨2, ![R, C]⟩ .f32 := fun i => grad fun s => p (ix3 s (i 0) (i 1))

/-- The first moment of every entry. -/
def moment₁ (p : FVec Ideal ⟨3, ![8, R, C]⟩ φ) (m : FVec Ideal ⟨2, ![R, C]⟩ .f32) : FVec Ideal ⟨2, ![R, C]⟩ .f32 :=
  fun i => first (m i) (gradient p i)

/-- The second moment of every entry. -/
def moment₂ (p : FVec Ideal ⟨3, ![8, R, C]⟩ φ) (v : FVec Ideal ⟨2, ![R, C]⟩ .f32) : FVec Ideal ⟨2, ![R, C]⟩ .f32 :=
  fun i => second (v i) (gradient p i)

/-- The change of every entry of the weight. -/
def change (p : FVec Ideal ⟨3, ![8, R, C]⟩ φ) (w m v : FVec Ideal ⟨2, ![R, C]⟩ .f32) : FVec Ideal ⟨2, ![R, C]⟩ .f32 :=
  fun i => delta (w i) (moment₁ p m i) (moment₂ p v i)

end Cert.Optimiser

end
-- ==== Proof.OptGKva.lean ====
/-
  The optimiser's call for g_kv_a: what the call leaves in its four results, what the reference leaves, and the claims.
-/
module

public import proofs.«01_k».proof.Defs
public import proofs.«01_k».proof.Proof.Optimiser
public import proofs.«01_k».proof.Proof.Gen.Kernel21Ideal.Value
public import proofs.«01_k».proof.Proof.Gen.Reference21Ideal.Run
public import Idealize.ShloMosaic.Lib.Quiescent
public import Idealize.ShloMosaic.Adequacy

@[expose] public section

set_option maxRecDepth 16384

noncomputable section

namespace Cert.Kernel21Ideal.Step

open Idealize.ShloMosaic Idealize.ShloMosaic.TcCoe Cert.Kernel21Ideal Cert.Kernel21Ideal.Gen Cert.Optimiser

/-! ## One block -/

/-- A block's gradient. -/
theorem grad_apply (x0 : Vec Ideal S8x1x512 .f32) (x1 x2 x3 : Vec Ideal S1x512 .f32) (r : Fin 1) (l : Fin 512) :
    k0_pay5 (F := Ideal) x0 x1 x2 x3 (ix2 r l) = grad fun s => x0 (ix3 s r l) := by
  obtain rfl : r = 0 := Subsingleton.elim _ _
  rw [← grad_eq]
  unfold k0_pay5
  pointwise [k0_pay3]

/-- A block's first moment. -/
theorem first_apply (x0 : Vec Ideal S8x1x512 .f32) (x1 x2 x3 : Vec Ideal S1x512 .f32) (r : Fin 1) (l : Fin 512) :
    k0_pay6 (F := Ideal) x0 x1 x2 x3 (ix2 r l) = first (x2 (ix2 r l)) (k0_pay5 (F := Ideal) x0 x1 x2 x3 (ix2 r l)) := by
  obtain rfl : r = 0 := Subsingleton.elim _ _
  unfold k0_pay6 k0_pay5
  pointwise [k0_pay4, k0_pay3, first]

/-- A block's second moment. -/
theorem second_apply (g x : FVec Ideal S1x512 .f32) (r : Fin 1) (l : Fin 512) :
    k0_pay1 (F := Ideal) g x (ix2 r l) = second (x (ix2 r l)) (g (ix2 r l)) := by
  pointwise [k0_pay1, second]

/-- A block's change of the weight. -/
theorem delta_of (g h y w : FVec Ideal S1x512 .f32) (r : Fin 1) (l : Fin 512) :
    k0_pay2 (F := Ideal) g h y w (ix2 r l) = delta (w (ix2 r l)) (h (ix2 r l)) (second (y (ix2 r l)) (g (ix2 r l))) := by
  pointwise [k0_pay2, k0_pay1, delta, second]

/-- A block's change of the weight, from the call's operands. -/
theorem delta_apply (x0 : Vec Ideal S8x1x512 .f32) (x1 x2 x3 : Vec Ideal S1x512 .f32) (r : Fin 1) (l : Fin 512) :
    k0_pay2 (F := Ideal) (k0_pay5 (F := Ideal) x0 x1 x2 x3) (k0_pay6 (F := Ideal) x0 x1 x2 x3) x3 x1 (ix2 r l)
      = delta (x1 (ix2 r l)) (first (x2 (ix2 r l)) (k0_pay5 (F := Ideal) x0 x1 x2 x3 (ix2 r l)))
          (second (x3 (ix2 r l)) (k0_pay5 (F := Ideal) x0 x1 x2 x3 (ix2 r l))) := by
  rw [delta_of, first_apply]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 1) : Fin 1 := r

theorem blk_p (t : Fin cfg0.N) (s : Fin 8) (r : Fin 1) (l : Fin 512) :
    (iblk m c 0 t : FVec Ideal S8x1x512 .f32) (ix3 s r l) = (m (c.tc.loc main_arg0) : FVec Ideal S8x1x512 .f32) (ix3 s (rowOf t r) l) := by
  refine Eq.trans ?_ (congrFun (V_main_arg0 m c) _)
  blk_ext [iblk, idx t, rowOf]

theorem blk_w (t : Fin cfg0.N) (r : Fin 1) (l : Fin 512) :
    (iblk m c 1 t : FVec Ideal S1x512 .f32) (ix2 r l) = (m (c.tc.loc main_arg1) : FVec Ideal S1x512 .f32) (ix2 (rowOf t r) l) := by
  refine Eq.trans ?_ (congrFun (V_main_arg1 m c) _)
  blk_ext [iblk, idx t, rowOf]

theorem blk_m (t : Fin cfg0.N) (r : Fin 1) (l : Fin 512) :
    (iblk m c 2 t : FVec Ideal S1x512 .f32) (ix2 r l) = (m (c.tc.loc main_arg2) : FVec Ideal S1x512 .f32) (ix2 (rowOf t r) l) := by
  refine Eq.trans ?_ (congrFun (V_main_arg2 m c) _)
  blk_ext [iblk, idx t, rowOf]

theorem blk_v (t : Fin cfg0.N) (r : Fin 1) (l : Fin 512) :
    (iblk m c 3 t : FVec Ideal S1x512 .f32) (ix2 r l) = (m (c.tc.loc main_arg3) : FVec Ideal S1x512 .f32) (ix2 (rowOf t r) l) := by
  refine Eq.trans ?_ (congrFun (V_main_arg3 m c) _)
  blk_ext [iblk, idx t, rowOf]

/-- A block's gradient is the array's. -/
theorem grad_blk (t : Fin cfg0.N) (r : Fin 1) (l : Fin 512) :
    k0_pay5 (F := Ideal) (iblk m c 0 t) (iblk m c 1 t) (iblk m c 2 t) (iblk m c 3 t) (ix2 r l) = gradient (R := 1) (C := 512) (φ := .f32) (m (c.tc.loc main_arg0) : FVec Ideal S8x1x512 .f32) (ix2 (rowOf t r) l) :=
  (grad_apply _ _ _ _ r l).trans (congrArg grad (funext fun s => blk_p m c t s r l))

/-- A point's block of the gradient is the array's. -/
theorem out_grad (t : Fin cfg0.N) (y : S1x512.Idx) (i : S1x512.Idx) (h0 : (i 0 : ℕ) = (y 0).val) (h1 : (i 1 : ℕ) = (y 1).val) :
    out0_4 (F := Ideal) (iblk m c 0 t) (iblk m c 1 t) (iblk m c 2 t) (iblk m c 3 t) y = gradient (R := 1) (C := 512) (φ := .f32) (m (c.tc.loc main_arg0) : FVec Ideal S8x1x512 .f32) i := by
  obtain ⟨r, l, rfl⟩ : ∃ (r : Fin 1) (l : Fin 512), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S1x512.Idx) (i : S1x512.Idx) (h0 : (i 0 : ℕ) = (y 0).val) (h1 : (i 1 : ℕ) = (y 1).val) :
    out0_5 (F := Ideal) (iblk m c 0 t) (iblk m c 1 t) (iblk m c 2 t) (iblk m c 3 t) y = change (R := 1) (C := 512) (φ := .f32) (m (c.tc.loc main_arg0) : FVec Ideal S8x1x512 .f32) (m (c.tc.loc main_arg1)) (m (c.tc.loc main_arg2)) (m (c.tc.loc main_arg3)) i := by
  obtain ⟨r, l, rfl⟩ : ∃ (r : Fin 1) (l : Fin 512), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S1x512.Idx) (i : S1x512.Idx) (h0 : (i 0 : ℕ) = (y 0).val) (h1 : (i 1 : ℕ) = (y 1).val) :
    out0_6 (F := Ideal) (iblk m c 0 t) (iblk m c 1 t) (iblk m c 2 t) (iblk m c 3 t) y = moment₁ (R := 1) (C := 512) (φ := .f32) (m (c.tc.loc main_arg0) : FVec Ideal S8x1x512 .f32) (m (c.tc.loc main_arg2)) i := by
  obtain ⟨r, l, rfl⟩ : ∃ (r : Fin 1) (l : Fin 512), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ _ _ r l).trans (congrArg₂ first (blk_m m c t r l) (grad_blk m c t r l))

/-- A point's block of the second moment is the array's. -/
theorem out_second (t : Fin cfg0.N) (y : S1x512.Idx) (i : S1x512.Idx) (h0 : (i 0 : ℕ) = (y 0).val) (h1 : (i 1 : ℕ) = (y 1).val) :
    out0_7 (F := Ideal) (iblk m c 0 t) (iblk m c 1 t) (iblk m c 2 t) (iblk m c 3 t) y = moment₂ (R := 1) (C := 512) (φ := .f32) (m (c.tc.loc main_arg0) : FVec Ideal S8x1x512 .f32) (m (c.tc.loc main_arg3)) i := by
  obtain ⟨r, l, rfl⟩ : ∃ (r : Fin 1) (l : Fin 512), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1) (C := 512) (φ := .f32) (m (c.tc.loc main_arg0) : FVec Ideal S8x1x512 .f32) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1) (C := 512) (φ := .f32) (m (c.tc.loc main_arg0) : FVec Ideal S8x1x512 .f32) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1) (C := 512) (φ := .f32) (m (c.tc.loc main_arg0) : FVec Ideal S8x1x512 .f32) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1) (C := 512) (φ := .f32) (m (c.tc.loc main_arg0) : FVec Ideal S8x1x512 .f32) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel21Ideal.Step

namespace Cert.Reference21Ideal.Step

open Idealize.ShloMosaic Idealize.ShloMosaic.TcCoe Cert.Reference21Ideal Cert.Reference21Ideal.Gen Cert.Optimiser

/-! ## The reference -/

/-- The reference's gradient. -/
def g (p : FVec Ideal S8x1x512 .f32) : FVec Ideal S1x512 .f32 :=
  Host.reduceAdd p (constant (F := Ideal) S_ .f32 0x00000000#32) reducesTo_S8x1x512_S1x512_d0 h_S_
/-- The reference's first moment. -/
def m₁ (p : FVec Ideal S8x1x512 .f32) (m : FVec Ideal S1x512 .f32) : FVec Ideal S1x512 .f32 :=
  addf (mulf (broadcastInDim S1x512 ![] bcast_S_S1x512 (constant (F := Ideal) S_ .f32 0x3F666666#32)) m) (mulf (broadcastInDim S1x512 ![] bcast_S_S1x512 (constant (F := Ideal) S_ .f32 0x3DCCCCCD#32)) (g p))
/-- The reference's second moment. -/
def m₂ (p : FVec Ideal S8x1x512 .f32) (v : FVec Ideal S1x512 .f32) : FVec Ideal S1x512 .f32 :=
  addf (mulf (broadcastInDim S1x512 ![] bcast_S_S1x512 (constant (F := Ideal) S_ .f32 0x3F7FBE77#32)) v) (mulf (broadcastInDim S1x512 ![] bcast_S_S1x512 (constant (F := Ideal) S_ .f32 0x3A83126F#32)) (mulf (g p) (g p)))
/-- The reference's change of the weight. -/
def d (w a b : FVec Ideal S1x512 .f32) : FVec Ideal S1x512 .f32 :=
  mulf (broadcastInDim S1x512 ![] bcast_S_S1x512 (constant (F := Ideal) S_ .f32 0xBA83126F#32))
    (addf (Host.divf (Host.divf a (broadcastInDim S1x512 ![] bcast_S_S1x512 (constant (F := Ideal) S_ .f32 0x3F26BD02#32)))
        (addf (Host.sqrt (Host.divf b (broadcastInDim S1x512 ![] bcast_S_S1x512 (constant (F := Ideal) S_ .f32 0x3C231ACC#32)))) (broadcastInDim S1x512 ![] bcast_S_S1x512 (constant (F := Ideal) S_ .f32 0x322BCC77#32))))
      (mulf (broadcastInDim S1x512 ![] bcast_S_S1x512 (constant (F := Ideal) S_ .f32 0x3C23D70A#32)) w))

theorem g_eq (p : FVec Ideal S8x1x512 .f32) : g p = gradient p := by
  funext i
  obtain ⟨r, l, rfl⟩ : ∃ (r : Fin 1) (l : Fin 512), i = ix2 r l := ⟨i 0, i 1, eq_ix2 i⟩
  obtain rfl : r = 0 := Subsingleton.elim _ _
  pointwise [g, gradient, grad]

theorem m₁_eq (p : FVec Ideal S8x1x512 .f32) (m : FVec Ideal S1x512 .f32) : m₁ p m = moment₁ p m := by
  funext i
  rw [m₁, g_eq, moment₁]
  generalize gradient p = q
  obtain ⟨r, l, rfl⟩ : ∃ (r : Fin 1) (l : Fin 512), i = ix2 r l := ⟨i 0, i 1, eq_ix2 i⟩
  pointwise [first]

theorem m₂_eq (p : FVec Ideal S8x1x512 .f32) (v : FVec Ideal S1x512 .f32) : m₂ p v = moment₂ p v := by
  funext i
  rw [m₂, g_eq, moment₂]
  generalize gradient p = q
  obtain ⟨r, l, rfl⟩ : ∃ (r : Fin 1) (l : Fin 512), i = ix2 r l := ⟨i 0, i 1, eq_ix2 i⟩
  pointwise [second]

theorem d_eq (w a b : FVec Ideal S1x512 .f32) (i : S1x512.Idx) : d w a b i = delta (w i) (a i) (b i) := by
  obtain ⟨r, l, rfl⟩ : ∃ (r : Fin 1) (l : Fin 512), i = ix2 r l := ⟨i 0, i 1, eq_ix2 i⟩
  pointwise [d, delta]

theorem change_eq (p : FVec Ideal S8x1x512 .f32) (w m v : FVec Ideal S1x512 .f32) : d w (m₁ p m) (m₂ p v) = change p w m v := by
  funext i
  rw [d_eq, m₁_eq, m₂_eq]
  rfl

end Cert.Reference21Ideal.Step

namespace Cert.OptimiserGKva

open Idealize.ShloMosaic Idealize.ShloMosaic.TcCoe Idealize.SL.Sem Cert.Reference21Ideal Cert.Reference21Ideal.Gen Cert.Reference21Ideal.Value Cert.Reference21Ideal.Step

/-- The reference's frame: it changes no argument and leaves no semaphore raised. -/
theorem reference_frame : Cert.quiescent_Reference21Ideal :=
  fun m ρ _ => (θ_run Cert.Reference21Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel21Ideal_Reference21Ideal := by
  intro m ρ m' ρ' _ hagree
  refine ⟨_, _, _, _, Cert.Kernel21Ideal.Value.run_blocks (F := Ideal) m ρ,
    (θ_run Cert.Reference21Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel21Ideal.Step.final_gradient m c).symm, k₁.trans (Cert.Kernel21Ideal.Step.final_change m c).symm,
    k₂.trans (Cert.Kernel21Ideal.Step.final_moment1 m c).symm, k₃.trans (Cert.Kernel21Ideal.Step.final_moment2 m c).symm, h⟩

end Cert.OptimiserGKva

end
-- ==== Proof.OptGQa.lean ====
/-
  The optimiser's call for g_q_a: what the call leaves in its four results, what the reference leaves, and the claims.
-/
module

public import proofs.«01_k».proof.Defs
public import proofs.«01_k».proof.Proof.Optimiser
public import proofs.«01_k».proof.Proof.Gen.Kernel20Ideal.Value
public import proofs.«01_k».proof.Proof.Gen.Reference20Ideal.Run
public import Idealize.ShloMosaic.Lib.Quiescent
public import Idealize.ShloMosaic.Adequacy

@[expose] public section

set_option maxRecDepth 16384

noncomputable section

namespace Cert.Kernel20Ideal.Step

open Idealize.ShloMosaic Idealize.ShloMosaic.TcCoe Cert.Kernel20Ideal Cert.Kernel20Ideal.Gen Cert.Optimiser

/-! ## One block -/

/-- A block's gradient. -/
theorem grad_apply (x0 : Vec Ideal S8x1x1024 .f32) (x1 x2 x3 : Vec Ideal S1x1024 .f32) (r : Fin 1) (l : Fin 1024) :
    k0_pay5 (F := Ideal) x0 x1 x2 x3 (ix2 r l) = grad fun s => x0 (ix3 s r l) := by
  obtain rfl : r = 0 := Subsingleton.elim _ _
  rw [← grad_eq]
  unfold k0_pay5
  pointwise [k0_pay3]

/-- A block's first moment. -/
theorem first_apply (x0 : Vec Ideal S8x1x1024 .f32) (x1 x2 x3 : Vec Ideal S1x1024 .f32) (r : Fin 1) (l : Fin 1024) :
    k0_pay6 (F := Ideal) x0 x1 x2 x3 (ix2 r l) = first (x2 (ix2 r l)) (k0_pay5 (F := Ideal) x0 x1 x2 x3 (ix2 r l)) := by
  obtain rfl : r = 0 := Subsingleton.elim _ _
  unfold k0_pay6 k0_pay5
  pointwise [k0_pay4, k0_pay3, first]

/-- A block's second moment. -/
theorem second_apply (g x : FVec Ideal S1x1024 .f32) (r : Fin 1) (l : Fin 1024) :
    k0_pay1 (F := Ideal) g x (ix2 r l) = second (x (ix2 r l)) (g (ix2 r l)) := by
  pointwise [k0_pay1, second]

/-- A block's change of the weight. -/
theorem delta_of (g h y w : FVec Ideal S1x1024 .f32) (r : Fin 1) (l : Fin 1024) :
    k0_pay2 (F := Ideal) g h y w (ix2 r l) = delta (w (ix2 r l)) (h (ix2 r l)) (second (y (ix2 r l)) (g (ix2 r l))) := by
  pointwise [k0_pay2, k0_pay1, delta, second]

/-- A block's change of the weight, from the call's operands. -/
theorem delta_apply (x0 : Vec Ideal S8x1x1024 .f32) (x1 x2 x3 : Vec Ideal S1x1024 .f32) (r : Fin 1) (l : Fin 1024) :
    k0_pay2 (F := Ideal) (k0_pay5 (F := Ideal) x0 x1 x2 x3) (k0_pay6 (F := Ideal) x0 x1 x2 x3) x3 x1 (ix2 r l)
      = delta (x1 (ix2 r l)) (first (x2 (ix2 r l)) (k0_pay5 (F := Ideal) x0 x1 x2 x3 (ix2 r l)))
          (second (x3 (ix2 r l)) (k0_pay5 (F := Ideal) x0 x1 x2 x3 (ix2 r l))) := by
  rw [delta_of, first_apply]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 1) : Fin 1 := r

theorem blk_p (t : Fin cfg0.N) (s : Fin 8) (r : Fin 1) (l : Fin 1024) :
    (iblk m c 0 t : FVec Ideal S8x1x1024 .f32) (ix3 s r l) = (m (c.tc.loc main_arg0) : FVec Ideal S8x1x1024 .f32) (ix3 s (rowOf t r) l) := by
  refine Eq.trans ?_ (congrFun (V_main_arg0 m c) _)
  blk_ext [iblk, idx t, rowOf]

theorem blk_w (t : Fin cfg0.N) (r : Fin 1) (l : Fin 1024) :
    (iblk m c 1 t : FVec Ideal S1x1024 .f32) (ix2 r l) = (m (c.tc.loc main_arg1) : FVec Ideal S1x1024 .f32) (ix2 (rowOf t r) l) := by
  refine Eq.trans ?_ (congrFun (V_main_arg1 m c) _)
  blk_ext [iblk, idx t, rowOf]

theorem blk_m (t : Fin cfg0.N) (r : Fin 1) (l : Fin 1024) :
    (iblk m c 2 t : FVec Ideal S1x1024 .f32) (ix2 r l) = (m (c.tc.loc main_arg2) : FVec Ideal S1x1024 .f32) (ix2 (rowOf t r) l) := by
  refine Eq.trans ?_ (congrFun (V_main_arg2 m c) _)
  blk_ext [iblk, idx t, rowOf]

theorem blk_v (t : Fin cfg0.N) (r : Fin 1) (l : Fin 1024) :
    (iblk m c 3 t : FVec Ideal S1x1024 .f32) (ix2 r l) = (m (c.tc.loc main_arg3) : FVec Ideal S1x1024 .f32) (ix2 (rowOf t r) l) := by
  refine Eq.trans ?_ (congrFun (V_main_arg3 m c) _)
  blk_ext [iblk, idx t, rowOf]

/-- A block's gradient is the array's. -/
theorem grad_blk (t : Fin cfg0.N) (r : Fin 1) (l : Fin 1024) :
    k0_pay5 (F := Ideal) (iblk m c 0 t) (iblk m c 1 t) (iblk m c 2 t) (iblk m c 3 t) (ix2 r l) = gradient (R := 1) (C := 1024) (φ := .f32) (m (c.tc.loc main_arg0) : FVec Ideal S8x1x1024 .f32) (ix2 (rowOf t r) l) :=
  (grad_apply _ _ _ _ r l).trans (congrArg grad (funext fun s => blk_p m c t s r l))

/-- A point's block of the gradient is the array's. -/
theorem out_grad (t : Fin cfg0.N) (y : S1x1024.Idx) (i : S1x1024.Idx) (h0 : (i 0 : ℕ) = (y 0).val) (h1 : (i 1 : ℕ) = (y 1).val) :
    out0_4 (F := Ideal) (iblk m c 0 t) (iblk m c 1 t) (iblk m c 2 t) (iblk m c 3 t) y = gradient (R := 1) (C := 1024) (φ := .f32) (m (c.tc.loc main_arg0) : FVec Ideal S8x1x1024 .f32) i := by
  obtain ⟨r, l, rfl⟩ : ∃ (r : Fin 1) (l : Fin 1024), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S1x1024.Idx) (i : S1x1024.Idx) (h0 : (i 0 : ℕ) = (y 0).val) (h1 : (i 1 : ℕ) = (y 1).val) :
    out0_5 (F := Ideal) (iblk m c 0 t) (iblk m c 1 t) (iblk m c 2 t) (iblk m c 3 t) y = change (R := 1) (C := 1024) (φ := .f32) (m (c.tc.loc main_arg0) : FVec Ideal S8x1x1024 .f32) (m (c.tc.loc main_arg1)) (m (c.tc.loc main_arg2)) (m (c.tc.loc main_arg3)) i := by
  obtain ⟨r, l, rfl⟩ : ∃ (r : Fin 1) (l : Fin 1024), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S1x1024.Idx) (i : S1x1024.Idx) (h0 : (i 0 : ℕ) = (y 0).val) (h1 : (i 1 : ℕ) = (y 1).val) :
    out0_6 (F := Ideal) (iblk m c 0 t) (iblk m c 1 t) (iblk m c 2 t) (iblk m c 3 t) y = moment₁ (R := 1) (C := 1024) (φ := .f32) (m (c.tc.loc main_arg0) : FVec Ideal S8x1x1024 .f32) (m (c.tc.loc main_arg2)) i := by
  obtain ⟨r, l, rfl⟩ : ∃ (r : Fin 1) (l : Fin 1024), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ _ _ r l).trans (congrArg₂ first (blk_m m c t r l) (grad_blk m c t r l))

/-- A point's block of the second moment is the array's. -/
theorem out_second (t : Fin cfg0.N) (y : S1x1024.Idx) (i : S1x1024.Idx) (h0 : (i 0 : ℕ) = (y 0).val) (h1 : (i 1 : ℕ) = (y 1).val) :
    out0_7 (F := Ideal) (iblk m c 0 t) (iblk m c 1 t) (iblk m c 2 t) (iblk m c 3 t) y = moment₂ (R := 1) (C := 1024) (φ := .f32) (m (c.tc.loc main_arg0) : FVec Ideal S8x1x1024 .f32) (m (c.tc.loc main_arg3)) i := by
  obtain ⟨r, l, rfl⟩ : ∃ (r : Fin 1) (l : Fin 1024), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1) (C := 1024) (φ := .f32) (m (c.tc.loc main_arg0) : FVec Ideal S8x1x1024 .f32) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1) (C := 1024) (φ := .f32) (m (c.tc.loc main_arg0) : FVec Ideal S8x1x1024 .f32) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1) (C := 1024) (φ := .f32) (m (c.tc.loc main_arg0) : FVec Ideal S8x1x1024 .f32) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1) (C := 1024) (φ := .f32) (m (c.tc.loc main_arg0) : FVec Ideal S8x1x1024 .f32) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel20Ideal.Step

namespace Cert.Reference20Ideal.Step

open Idealize.ShloMosaic Idealize.ShloMosaic.TcCoe Cert.Reference20Ideal Cert.Reference20Ideal.Gen Cert.Optimiser

/-! ## The reference -/

/-- The reference's gradient. -/
def g (p : FVec Ideal S8x1x1024 .f32) : FVec Ideal S1x1024 .f32 :=
  Host.reduceAdd p (constant (F := Ideal) S_ .f32 0x00000000#32) reducesTo_S8x1x1024_S1x1024_d0 h_S_
/-- The reference's first moment. -/
def m₁ (p : FVec Ideal S8x1x1024 .f32) (m : FVec Ideal S1x1024 .f32) : FVec Ideal S1x1024 .f32 :=
  addf (mulf (broadcastInDim S1x1024 ![] bcast_S_S1x1024 (constant (F := Ideal) S_ .f32 0x3F666666#32)) m) (mulf (broadcastInDim S1x1024 ![] bcast_S_S1x1024 (constant (F := Ideal) S_ .f32 0x3DCCCCCD#32)) (g p))
/-- The reference's second moment. -/
def m₂ (p : FVec Ideal S8x1x1024 .f32) (v : FVec Ideal S1x1024 .f32) : FVec Ideal S1x1024 .f32 :=
  addf (mulf (broadcastInDim S1x1024 ![] bcast_S_S1x1024 (constant (F := Ideal) S_ .f32 0x3F7FBE77#32)) v) (mulf (broadcastInDim S1x1024 ![] bcast_S_S1x1024 (constant (F := Ideal) S_ .f32 0x3A83126F#32)) (mulf (g p) (g p)))
/-- The reference's change of the weight. -/
def d (w a b : FVec Ideal S1x1024 .f32) : FVec Ideal S1x1024 .f32 :=
  mulf (broadcastInDim S1x1024 ![] bcast_S_S1x1024 (constant (F := Ideal) S_ .f32 0xBA83126F#32))
    (addf (Host.divf (Host.divf a (broadcastInDim S1x1024 ![] bcast_S_S1x1024 (constant (F := Ideal) S_ .f32 0x3F26BD02#32)))
        (addf (Host.sqrt (Host.divf b (broadcastInDim S1x1024 ![] bcast_S_S1x1024 (constant (F := Ideal) S_ .f32 0x3C231ACC#32)))) (broadcastInDim S1x1024 ![] bcast_S_S1x1024 (constant (F := Ideal) S_ .f32 0x322BCC77#32))))
      (mulf (broadcastInDim S1x1024 ![] bcast_S_S1x1024 (constant (F := Ideal) S_ .f32 0x3C23D70A#32)) w))

theorem g_eq (p : FVec Ideal S8x1x1024 .f32) : g p = gradient p := by
  funext i
  obtain ⟨r, l, rfl⟩ : ∃ (r : Fin 1) (l : Fin 1024), i = ix2 r l := ⟨i 0, i 1, eq_ix2 i⟩
  obtain rfl : r = 0 := Subsingleton.elim _ _
  pointwise [g, gradient, grad]

theorem m₁_eq (p : FVec Ideal S8x1x1024 .f32) (m : FVec Ideal S1x1024 .f32) : m₁ p m = moment₁ p m := by
  funext i
  rw [m₁, g_eq, moment₁]
  generalize gradient p = q
  obtain ⟨r, l, rfl⟩ : ∃ (r : Fin 1) (l : Fin 1024), i = ix2 r l := ⟨i 0, i 1, eq_ix2 i⟩
  pointwise [first]

theorem m₂_eq (p : FVec Ideal S8x1x1024 .f32) (v : FVec Ideal S1x1024 .f32) : m₂ p v = moment₂ p v := by
  funext i
  rw [m₂, g_eq, moment₂]
  generalize gradient p = q
  obtain ⟨r, l, rfl⟩ : ∃ (r : Fin 1) (l : Fin 1024), i = ix2 r l := ⟨i 0, i 1, eq_ix2 i⟩
  pointwise [second]

theorem d_eq (w a b : FVec Ideal S1x1024 .f32) (i : S1x1024.Idx) : d w a b i = delta (w i) (a i) (b i) := by
  obtain ⟨r, l, rfl⟩ : ∃ (r : Fin 1) (l : Fin 1024), i = ix2 r l := ⟨i 0, i 1, eq_ix2 i⟩
  pointwise [d, delta]

theorem change_eq (p : FVec Ideal S8x1x1024 .f32) (w m v : FVec Ideal S1x1024 .f32) : d w (m₁ p m) (m₂ p v) = change p w m v := by
  funext i
  rw [d_eq, m₁_eq, m₂_eq]
  rfl

end Cert.Reference20Ideal.Step

namespace Cert.OptimiserGQa

open Idealize.ShloMosaic Idealize.ShloMosaic.TcCoe Idealize.SL.Sem Cert.Reference20Ideal Cert.Reference20Ideal.Gen Cert.Reference20Ideal.Value Cert.Reference20Ideal.Step

/-- The reference's frame: it changes no argument and leaves no semaphore raised. -/
theorem reference_frame : Cert.quiescent_Reference20Ideal :=
  fun m ρ _ => (θ_run Cert.Reference20Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel20Ideal_Reference20Ideal := by
  intro m ρ m' ρ' _ hagree
  refine ⟨_, _, _, _, Cert.Kernel20Ideal.Value.run_blocks (F := Ideal) m ρ,
    (θ_run Cert.Reference20Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel20Ideal.Step.final_gradient m c).symm, k₁.trans (Cert.Kernel20Ideal.Step.final_change m c).symm,
    k₂.trans (Cert.Kernel20Ideal.Step.final_moment1 m c).symm, k₃.trans (Cert.Kernel20Ideal.Step.final_moment2 m c).symm, h⟩

end Cert.OptimiserGQa

end
-- ==== Proof.OptConvW.lean ====
/-
  The optimiser's call for conv_w: what the call leaves in its four results, what the reference leaves, and the claims.
-/
module

public import proofs.«01_k».proof.Defs
public import proofs.«01_k».proof.Proof.Optimiser
public import proofs.«01_k».proof.Proof.Gen.Kernel19Ideal.Value
public import proofs.«01_k».proof.Proof.Gen.Reference19Ideal.Run
public import Idealize.ShloMosaic.Lib.Quiescent
public import Idealize.ShloMosaic.Adequacy

@[expose] public section

set_option maxRecDepth 16384

noncomputable section

namespace Cert.Kernel19Ideal.Step

open Idealize.ShloMosaic Idealize.ShloMosaic.TcCoe Cert.Kernel19Ideal Cert.Kernel19Ideal.Gen Cert.Optimiser

/-! ## One block -/

/-- A block's gradient. -/
theorem grad_apply (x0 : Vec Ideal S8x3x256 .f32) (x1 x2 x3 : Vec Ideal S3x256 .f32) (r : Fin 3) (l : Fin 256) :
    k0_pay5 (F := Ideal) x0 x1 x2 x3 (ix2 r l) = grad fun s => x0 (ix3 s r l) := by
  rw [← grad_eq]
  unfold k0_pay5
  pointwise [k0_pay3]

/-- A block's first moment. -/
theorem first_apply (x0 : Vec Ideal S8x3x256 .f32) (x1 x2 x3 : Vec Ideal S3x256 .f32) (r : Fin 3) (l : Fin 256) :
    k0_pay6 (F := Ideal) x0 x1 x2 x3 (ix2 r l) = first (x2 (ix2 r l)) (k0_pay5 (F := Ideal) x0 x1 x2 x3 (ix2 r l)) := by
  unfold k0_pay6 k0_pay5
  pointwise [k0_pay4, k0_pay3, first]

/-- A block's second moment. -/
theorem second_apply (g x : FVec Ideal S3x256 .f32) (r : Fin 3) (l : Fin 256) :
    k0_pay1 (F := Ideal) g x (ix2 r l) = second (x (ix2 r l)) (g (ix2 r l)) := by
  pointwise [k0_pay1, second]

/-- A block's change of the weight. -/
theorem delta_of (g h y w : FVec Ideal S3x256 .f32) (r : Fin 3) (l : Fin 256) :
    k0_pay2 (F := Ideal) g h y w (ix2 r l) = delta (w (ix2 r l)) (h (ix2 r l)) (second (y (ix2 r l)) (g (ix2 r l))) := by
  pointwise [k0_pay2, k0_pay1, delta, second]

/-- A block's change of the weight, from the call's operands. -/
theorem delta_apply (x0 : Vec Ideal S8x3x256 .f32) (x1 x2 x3 : Vec Ideal S3x256 .f32) (r : Fin 3) (l : Fin 256) :
    k0_pay2 (F := Ideal) (k0_pay5 (F := Ideal) x0 x1 x2 x3) (k0_pay6 (F := Ideal) x0 x1 x2 x3) x3 x1 (ix2 r l)
      = delta (x1 (ix2 r l)) (first (x2 (ix2 r l)) (k0_pay5 (F := Ideal) x0 x1 x2 x3 (ix2 r l)))
          (second (x3 (ix2 r l)) (k0_pay5 (F := Ideal) x0 x1 x2 x3 (ix2 r l))) := by
  rw [delta_of, first_apply]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 3) : Fin 3 := r

theorem blk_p (t : Fin cfg0.N) (s : Fin 8) (r : Fin 3) (l : Fin 256) :
    (iblk m c 0 t : FVec Ideal S8x3x256 .f32) (ix3 s r l) = (m (c.tc.loc main_arg0) : FVec Ideal S8x3x256 .f32) (ix3 s (rowOf t r) l) := by
  refine Eq.trans ?_ (congrFun (V_main_arg0 m c) _)
  blk_ext [iblk, idx t, rowOf]

theorem blk_w (t : Fin cfg0.N) (r : Fin 3) (l : Fin 256) :
    (iblk m c 1 t : FVec Ideal S3x256 .f32) (ix2 r l) = (m (c.tc.loc main_arg1) : FVec Ideal S3x256 .f32) (ix2 (rowOf t r) l) := by
  refine Eq.trans ?_ (congrFun (V_main_arg1 m c) _)
  blk_ext [iblk, idx t, rowOf]

theorem blk_m (t : Fin cfg0.N) (r : Fin 3) (l : Fin 256) :
    (iblk m c 2 t : FVec Ideal S3x256 .f32) (ix2 r l) = (m (c.tc.loc main_arg2) : FVec Ideal S3x256 .f32) (ix2 (rowOf t r) l) := by
  refine Eq.trans ?_ (congrFun (V_main_arg2 m c) _)
  blk_ext [iblk, idx t, rowOf]

theorem blk_v (t : Fin cfg0.N) (r : Fin 3) (l : Fin 256) :
    (iblk m c 3 t : FVec Ideal S3x256 .f32) (ix2 r l) = (m (c.tc.loc main_arg3) : FVec Ideal S3x256 .f32) (ix2 (rowOf t r) l) := by
  refine Eq.trans ?_ (congrFun (V_main_arg3 m c) _)
  blk_ext [iblk, idx t, rowOf]

/-- A block's gradient is the array's. -/
theorem grad_blk (t : Fin cfg0.N) (r : Fin 3) (l : Fin 256) :
    k0_pay5 (F := Ideal) (iblk m c 0 t) (iblk m c 1 t) (iblk m c 2 t) (iblk m c 3 t) (ix2 r l) = gradient (R := 3) (C := 256) (φ := .f32) (m (c.tc.loc main_arg0) : FVec Ideal S8x3x256 .f32) (ix2 (rowOf t r) l) :=
  (grad_apply _ _ _ _ r l).trans (congrArg grad (funext fun s => blk_p m c t s r l))

/-- A point's block of the gradient is the array's. -/
theorem out_grad (t : Fin cfg0.N) (y : S3x256.Idx) (i : S3x256.Idx) (h0 : (i 0 : ℕ) = (y 0).val) (h1 : (i 1 : ℕ) = (y 1).val) :
    out0_4 (F := Ideal) (iblk m c 0 t) (iblk m c 1 t) (iblk m c 2 t) (iblk m c 3 t) y = gradient (R := 3) (C := 256) (φ := .f32) (m (c.tc.loc main_arg0) : FVec Ideal S8x3x256 .f32) i := by
  obtain ⟨r, l, rfl⟩ : ∃ (r : Fin 3) (l : Fin 256), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S3x256.Idx) (i : S3x256.Idx) (h0 : (i 0 : ℕ) = (y 0).val) (h1 : (i 1 : ℕ) = (y 1).val) :
    out0_5 (F := Ideal) (iblk m c 0 t) (iblk m c 1 t) (iblk m c 2 t) (iblk m c 3 t) y = change (R := 3) (C := 256) (φ := .f32) (m (c.tc.loc main_arg0) : FVec Ideal S8x3x256 .f32) (m (c.tc.loc main_arg1)) (m (c.tc.loc main_arg2)) (m (c.tc.loc main_arg3)) i := by
  obtain ⟨r, l, rfl⟩ : ∃ (r : Fin 3) (l : Fin 256), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S3x256.Idx) (i : S3x256.Idx) (h0 : (i 0 : ℕ) = (y 0).val) (h1 : (i 1 : ℕ) = (y 1).val) :
    out0_6 (F := Ideal) (iblk m c 0 t) (iblk m c 1 t) (iblk m c 2 t) (iblk m c 3 t) y = moment₁ (R := 3) (C := 256) (φ := .f32) (m (c.tc.loc main_arg0) : FVec Ideal S8x3x256 .f32) (m (c.tc.loc main_arg2)) i := by
  obtain ⟨r, l, rfl⟩ : ∃ (r : Fin 3) (l : Fin 256), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ _ _ r l).trans (congrArg₂ first (blk_m m c t r l) (grad_blk m c t r l))

/-- A point's block of the second moment is the array's. -/
theorem out_second (t : Fin cfg0.N) (y : S3x256.Idx) (i : S3x256.Idx) (h0 : (i 0 : ℕ) = (y 0).val) (h1 : (i 1 : ℕ) = (y 1).val) :
    out0_7 (F := Ideal) (iblk m c 0 t) (iblk m c 1 t) (iblk m c 2 t) (iblk m c 3 t) y = moment₂ (R := 3) (C := 256) (φ := .f32) (m (c.tc.loc main_arg0) : FVec Ideal S8x3x256 .f32) (m (c.tc.loc main_arg3)) i := by
  obtain ⟨r, l, rfl⟩ : ∃ (r : Fin 3) (l : Fin 256), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 3) (C := 256) (φ := .f32) (m (c.tc.loc main_arg0) : FVec Ideal S8x3x256 .f32) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 3) (C := 256) (φ := .f32) (m (c.tc.loc main_arg0) : FVec Ideal S8x3x256 .f32) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 3) (C := 256) (φ := .f32) (m (c.tc.loc main_arg0) : FVec Ideal S8x3x256 .f32) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 3) (C := 256) (φ := .f32) (m (c.tc.loc main_arg0) : FVec Ideal S8x3x256 .f32) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel19Ideal.Step

namespace Cert.Reference19Ideal.Step

open Idealize.ShloMosaic Idealize.ShloMosaic.TcCoe Cert.Reference19Ideal Cert.Reference19Ideal.Gen Cert.Optimiser

/-! ## The reference -/

/-- The reference's gradient. -/
def g (p : FVec Ideal S8x3x256 .f32) : FVec Ideal S3x256 .f32 :=
  Host.reduceAdd p (constant (F := Ideal) S_ .f32 0x00000000#32) reducesTo_S8x3x256_S3x256_d0 h_S_
/-- The reference's first moment. -/
def m₁ (p : FVec Ideal S8x3x256 .f32) (m : FVec Ideal S3x256 .f32) : FVec Ideal S3x256 .f32 :=
  addf (mulf (broadcastInDim S3x256 ![] bcast_S_S3x256 (constant (F := Ideal) S_ .f32 0x3F666666#32)) m) (mulf (broadcastInDim S3x256 ![] bcast_S_S3x256 (constant (F := Ideal) S_ .f32 0x3DCCCCCD#32)) (g p))
/-- The reference's second moment. -/
def m₂ (p : FVec Ideal S8x3x256 .f32) (v : FVec Ideal S3x256 .f32) : FVec Ideal S3x256 .f32 :=
  addf (mulf (broadcastInDim S3x256 ![] bcast_S_S3x256 (constant (F := Ideal) S_ .f32 0x3F7FBE77#32)) v) (mulf (broadcastInDim S3x256 ![] bcast_S_S3x256 (constant (F := Ideal) S_ .f32 0x3A83126F#32)) (mulf (g p) (g p)))
/-- The reference's change of the weight. -/
def d (w a b : FVec Ideal S3x256 .f32) : FVec Ideal S3x256 .f32 :=
  mulf (broadcastInDim S3x256 ![] bcast_S_S3x256 (constant (F := Ideal) S_ .f32 0xBA83126F#32))
    (addf (Host.divf (Host.divf a (broadcastInDim S3x256 ![] bcast_S_S3x256 (constant (F := Ideal) S_ .f32 0x3F26BD02#32)))
        (addf (Host.sqrt (Host.divf b (broadcastInDim S3x256 ![] bcast_S_S3x256 (constant (F := Ideal) S_ .f32 0x3C231ACC#32)))) (broadcastInDim S3x256 ![] bcast_S_S3x256 (constant (F := Ideal) S_ .f32 0x322BCC77#32))))
      (mulf (broadcastInDim S3x256 ![] bcast_S_S3x256 (constant (F := Ideal) S_ .f32 0x3C23D70A#32)) w))

theorem g_eq (p : FVec Ideal S8x3x256 .f32) : g p = gradient p := by
  funext i
  obtain ⟨r, l, rfl⟩ : ∃ (r : Fin 3) (l : Fin 256), i = ix2 r l := ⟨i 0, i 1, eq_ix2 i⟩
  pointwise [g, gradient, grad]

theorem m₁_eq (p : FVec Ideal S8x3x256 .f32) (m : FVec Ideal S3x256 .f32) : m₁ p m = moment₁ p m := by
  funext i
  rw [m₁, g_eq, moment₁]
  generalize gradient p = q
  obtain ⟨r, l, rfl⟩ : ∃ (r : Fin 3) (l : Fin 256), i = ix2 r l := ⟨i 0, i 1, eq_ix2 i⟩
  pointwise [first]

theorem m₂_eq (p : FVec Ideal S8x3x256 .f32) (v : FVec Ideal S3x256 .f32) : m₂ p v = moment₂ p v := by
  funext i
  rw [m₂, g_eq, moment₂]
  generalize gradient p = q
  obtain ⟨r, l, rfl⟩ : ∃ (r : Fin 3) (l : Fin 256), i = ix2 r l := ⟨i 0, i 1, eq_ix2 i⟩
  pointwise [second]

theorem d_eq (w a b : FVec Ideal S3x256 .f32) (i : S3x256.Idx) : d w a b i = delta (w i) (a i) (b i) := by
  obtain ⟨r, l, rfl⟩ : ∃ (r : Fin 3) (l : Fin 256), i = ix2 r l := ⟨i 0, i 1, eq_ix2 i⟩
  pointwise [d, delta]

theorem change_eq (p : FVec Ideal S8x3x256 .f32) (w m v : FVec Ideal S3x256 .f32) : d w (m₁ p m) (m₂ p v) = change p w m v := by
  funext i
  rw [d_eq, m₁_eq, m₂_eq]
  rfl

end Cert.Reference19Ideal.Step

namespace Cert.OptimiserConvW

open Idealize.ShloMosaic Idealize.ShloMosaic.TcCoe Idealize.SL.Sem Cert.Reference19Ideal Cert.Reference19Ideal.Gen Cert.Reference19Ideal.Value Cert.Reference19Ideal.Step

/-- The reference's frame: it changes no argument and leaves no semaphore raised. -/
theorem reference_frame : Cert.quiescent_Reference19Ideal :=
  fun m ρ _ => (θ_run Cert.Reference19Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel19Ideal_Reference19Ideal := by
  intro m ρ m' ρ' _ hagree
  refine ⟨_, _, _, _, Cert.Kernel19Ideal.Value.run_blocks (F := Ideal) m ρ,
    (θ_run Cert.Reference19Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel19Ideal.Step.final_gradient m c).symm, k₁.trans (Cert.Kernel19Ideal.Step.final_change m c).symm,
    k₂.trans (Cert.Kernel19Ideal.Step.final_moment1 m c).symm, k₃.trans (Cert.Kernel19Ideal.Step.final_moment2 m c).symm, h⟩

end Cert.OptimiserConvW

end
-- ==== Proof.OptBGate.lean ====
/-
  The optimiser's call for b_gate: what the call leaves in its four results, what the reference leaves, and the claims.
-/
module

public import proofs.«01_k».proof.Defs
public import proofs.«01_k».proof.Proof.Optimiser
public import proofs.«01_k».proof.Proof.Gen.Kernel18Ideal.Value
public import proofs.«01_k».proof.Proof.Gen.Reference18Ideal.Run
public import Idealize.ShloMosaic.Lib.Quiescent
public import Idealize.ShloMosaic.Adequacy

@[expose] public section

set_option maxRecDepth 16384

noncomputable section

namespace Cert.Kernel18Ideal.Step

open Idealize.ShloMosaic Idealize.ShloMosaic.TcCoe Cert.Kernel18Ideal Cert.Kernel18Ideal.Gen Cert.Optimiser

/-! ## One block -/

/-- A block's gradient. -/
theorem grad_apply (x0 : Vec Ideal S8x1x8192 .f32) (x1 x2 x3 : Vec Ideal S1x8192 .f32) (r : Fin 1) (l : Fin 8192) :
    k0_pay5 (F := Ideal) x0 x1 x2 x3 (ix2 r l) = grad fun s => x0 (ix3 s r l) := by
  obtain rfl : r = 0 := Subsingleton.elim _ _
  rw [← grad_eq]
  unfold k0_pay5
  pointwise [k0_pay3]

/-- A block's first moment. -/
theorem first_apply (x0 : Vec Ideal S8x1x8192 .f32) (x1 x2 x3 : Vec Ideal S1x8192 .f32) (r : Fin 1) (l : Fin 8192) :
    k0_pay6 (F := Ideal) x0 x1 x2 x3 (ix2 r l) = first (x2 (ix2 r l)) (k0_pay5 (F := Ideal) x0 x1 x2 x3 (ix2 r l)) := by
  obtain rfl : r = 0 := Subsingleton.elim _ _
  unfold k0_pay6 k0_pay5
  pointwise [k0_pay4, k0_pay3, first]

/-- A block's second moment. -/
theorem second_apply (g x : FVec Ideal S1x8192 .f32) (r : Fin 1) (l : Fin 8192) :
    k0_pay1 (F := Ideal) g x (ix2 r l) = second (x (ix2 r l)) (g (ix2 r l)) := by
  pointwise [k0_pay1, second]

/-- A block's change of the weight. -/
theorem delta_of (g h y w : FVec Ideal S1x8192 .f32) (r : Fin 1) (l : Fin 8192) :
    k0_pay2 (F := Ideal) g h y w (ix2 r l) = delta (w (ix2 r l)) (h (ix2 r l)) (second (y (ix2 r l)) (g (ix2 r l))) := by
  pointwise [k0_pay2, k0_pay1, delta, second]

/-- A block's change of the weight, from the call's operands. -/
theorem delta_apply (x0 : Vec Ideal S8x1x8192 .f32) (x1 x2 x3 : Vec Ideal S1x8192 .f32) (r : Fin 1) (l : Fin 8192) :
    k0_pay2 (F := Ideal) (k0_pay5 (F := Ideal) x0 x1 x2 x3) (k0_pay6 (F := Ideal) x0 x1 x2 x3) x3 x1 (ix2 r l)
      = delta (x1 (ix2 r l)) (first (x2 (ix2 r l)) (k0_pay5 (F := Ideal) x0 x1 x2 x3 (ix2 r l)))
          (second (x3 (ix2 r l)) (k0_pay5 (F := Ideal) x0 x1 x2 x3 (ix2 r l))) := by
  rw [delta_of, first_apply]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 1) : Fin 1 := r

theorem blk_p (t : Fin cfg0.N) (s : Fin 8) (r : Fin 1) (l : Fin 8192) :
    (iblk m c 0 t : FVec Ideal S8x1x8192 .f32) (ix3 s r l) = (m (c.tc.loc main_arg0) : FVec Ideal S8x1x8192 .f32) (ix3 s (rowOf t r) l) := by
  refine Eq.trans ?_ (congrFun (V_main_arg0 m c) _)
  blk_ext [iblk, idx t, rowOf]

theorem blk_w (t : Fin cfg0.N) (r : Fin 1) (l : Fin 8192) :
    (iblk m c 1 t : FVec Ideal S1x8192 .f32) (ix2 r l) = (m (c.tc.loc main_arg1) : FVec Ideal S1x8192 .f32) (ix2 (rowOf t r) l) := by
  refine Eq.trans ?_ (congrFun (V_main_arg1 m c) _)
  blk_ext [iblk, idx t, rowOf]

theorem blk_m (t : Fin cfg0.N) (r : Fin 1) (l : Fin 8192) :
    (iblk m c 2 t : FVec Ideal S1x8192 .f32) (ix2 r l) = (m (c.tc.loc main_arg2) : FVec Ideal S1x8192 .f32) (ix2 (rowOf t r) l) := by
  refine Eq.trans ?_ (congrFun (V_main_arg2 m c) _)
  blk_ext [iblk, idx t, rowOf]

theorem blk_v (t : Fin cfg0.N) (r : Fin 1) (l : Fin 8192) :
    (iblk m c 3 t : FVec Ideal S1x8192 .f32) (ix2 r l) = (m (c.tc.loc main_arg3) : FVec Ideal S1x8192 .f32) (ix2 (rowOf t r) l) := by
  refine Eq.trans ?_ (congrFun (V_main_arg3 m c) _)
  blk_ext [iblk, idx t, rowOf]

/-- A block's gradient is the array's. -/
theorem grad_blk (t : Fin cfg0.N) (r : Fin 1) (l : Fin 8192) :
    k0_pay5 (F := Ideal) (iblk m c 0 t) (iblk m c 1 t) (iblk m c 2 t) (iblk m c 3 t) (ix2 r l) = gradient (R := 1) (C := 8192) (φ := .f32) (m (c.tc.loc main_arg0) : FVec Ideal S8x1x8192 .f32) (ix2 (rowOf t r) l) :=
  (grad_apply _ _ _ _ r l).trans (congrArg grad (funext fun s => blk_p m c t s r l))

/-- A point's block of the gradient is the array's. -/
theorem out_grad (t : Fin cfg0.N) (y : S1x8192.Idx) (i : S1x8192.Idx) (h0 : (i 0 : ℕ) = (y 0).val) (h1 : (i 1 : ℕ) = (y 1).val) :
    out0_4 (F := Ideal) (iblk m c 0 t) (iblk m c 1 t) (iblk m c 2 t) (iblk m c 3 t) y = gradient (R := 1) (C := 8192) (φ := .f32) (m (c.tc.loc main_arg0) : FVec Ideal S8x1x8192 .f32) i := by
  obtain ⟨r, l, rfl⟩ : ∃ (r : Fin 1) (l : Fin 8192), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S1x8192.Idx) (i : S1x8192.Idx) (h0 : (i 0 : ℕ) = (y 0).val) (h1 : (i 1 : ℕ) = (y 1).val) :
    out0_5 (F := Ideal) (iblk m c 0 t) (iblk m c 1 t) (iblk m c 2 t) (iblk m c 3 t) y = change (R := 1) (C := 8192) (φ := .f32) (m (c.tc.loc main_arg0) : FVec Ideal S8x1x8192 .f32) (m (c.tc.loc main_arg1)) (m (c.tc.loc main_arg2)) (m (c.tc.loc main_arg3)) i := by
  obtain ⟨r, l, rfl⟩ : ∃ (r : Fin 1) (l : Fin 8192), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S1x8192.Idx) (i : S1x8192.Idx) (h0 : (i 0 : ℕ) = (y 0).val) (h1 : (i 1 : ℕ) = (y 1).val) :
    out0_6 (F := Ideal) (iblk m c 0 t) (iblk m c 1 t) (iblk m c 2 t) (iblk m c 3 t) y = moment₁ (R := 1) (C := 8192) (φ := .f32) (m (c.tc.loc main_arg0) : FVec Ideal S8x1x8192 .f32) (m (c.tc.loc main_arg2)) i := by
  obtain ⟨r, l, rfl⟩ : ∃ (r : Fin 1) (l : Fin 8192), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ _ _ r l).trans (congrArg₂ first (blk_m m c t r l) (grad_blk m c t r l))

/-- A point's block of the second moment is the array's. -/
theorem out_second (t : Fin cfg0.N) (y : S1x8192.Idx) (i : S1x8192.Idx) (h0 : (i 0 : ℕ) = (y 0).val) (h1 : (i 1 : ℕ) = (y 1).val) :
    out0_7 (F := Ideal) (iblk m c 0 t) (iblk m c 1 t) (iblk m c 2 t) (iblk m c 3 t) y = moment₂ (R := 1) (C := 8192) (φ := .f32) (m (c.tc.loc main_arg0) : FVec Ideal S8x1x8192 .f32) (m (c.tc.loc main_arg3)) i := by
  obtain ⟨r, l, rfl⟩ : ∃ (r : Fin 1) (l : Fin 8192), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1) (C := 8192) (φ := .f32) (m (c.tc.loc main_arg0) : FVec Ideal S8x1x8192 .f32) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1) (C := 8192) (φ := .f32) (m (c.tc.loc main_arg0) : FVec Ideal S8x1x8192 .f32) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1) (C := 8192) (φ := .f32) (m (c.tc.loc main_arg0) : FVec Ideal S8x1x8192 .f32) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1) (C := 8192) (φ := .f32) (m (c.tc.loc main_arg0) : FVec Ideal S8x1x8192 .f32) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel18Ideal.Step

namespace Cert.Reference18Ideal.Step

open Idealize.ShloMosaic Idealize.ShloMosaic.TcCoe Cert.Reference18Ideal Cert.Reference18Ideal.Gen Cert.Optimiser

/-! ## The reference -/

/-- The reference's gradient. -/
def g (p : FVec Ideal S8x1x8192 .f32) : FVec Ideal S1x8192 .f32 :=
  Host.reduceAdd p (constant (F := Ideal) S_ .f32 0x00000000#32) reducesTo_S8x1x8192_S1x8192_d0 h_S_
/-- The reference's first moment. -/
def m₁ (p : FVec Ideal S8x1x8192 .f32) (m : FVec Ideal S1x8192 .f32) : FVec Ideal S1x8192 .f32 :=
  addf (mulf (broadcastInDim S1x8192 ![] bcast_S_S1x8192 (constant (F := Ideal) S_ .f32 0x3F666666#32)) m) (mulf (broadcastInDim S1x8192 ![] bcast_S_S1x8192 (constant (F := Ideal) S_ .f32 0x3DCCCCCD#32)) (g p))
/-- The reference's second moment. -/
def m₂ (p : FVec Ideal S8x1x8192 .f32) (v : FVec Ideal S1x8192 .f32) : FVec Ideal S1x8192 .f32 :=
  addf (mulf (broadcastInDim S1x8192 ![] bcast_S_S1x8192 (constant (F := Ideal) S_ .f32 0x3F7FBE77#32)) v) (mulf (broadcastInDim S1x8192 ![] bcast_S_S1x8192 (constant (F := Ideal) S_ .f32 0x3A83126F#32)) (mulf (g p) (g p)))
/-- The reference's change of the weight. -/
def d (w a b : FVec Ideal S1x8192 .f32) : FVec Ideal S1x8192 .f32 :=
  mulf (broadcastInDim S1x8192 ![] bcast_S_S1x8192 (constant (F := Ideal) S_ .f32 0xBA83126F#32))
    (addf (Host.divf (Host.divf a (broadcastInDim S1x8192 ![] bcast_S_S1x8192 (constant (F := Ideal) S_ .f32 0x3F26BD02#32)))
        (addf (Host.sqrt (Host.divf b (broadcastInDim S1x8192 ![] bcast_S_S1x8192 (constant (F := Ideal) S_ .f32 0x3C231ACC#32)))) (broadcastInDim S1x8192 ![] bcast_S_S1x8192 (constant (F := Ideal) S_ .f32 0x322BCC77#32))))
      (mulf (broadcastInDim S1x8192 ![] bcast_S_S1x8192 (constant (F := Ideal) S_ .f32 0x3C23D70A#32)) w))

theorem g_eq (p : FVec Ideal S8x1x8192 .f32) : g p = gradient p := by
  funext i
  obtain ⟨r, l, rfl⟩ : ∃ (r : Fin 1) (l : Fin 8192), i = ix2 r l := ⟨i 0, i 1, eq_ix2 i⟩
  obtain rfl : r = 0 := Subsingleton.elim _ _
  pointwise [g, gradient, grad]

theorem m₁_eq (p : FVec Ideal S8x1x8192 .f32) (m : FVec Ideal S1x8192 .f32) : m₁ p m = moment₁ p m := by
  funext i
  rw [m₁, g_eq, moment₁]
  generalize gradient p = q
  obtain ⟨r, l, rfl⟩ : ∃ (r : Fin 1) (l : Fin 8192), i = ix2 r l := ⟨i 0, i 1, eq_ix2 i⟩
  pointwise [first]

theorem m₂_eq (p : FVec Ideal S8x1x8192 .f32) (v : FVec Ideal S1x8192 .f32) : m₂ p v = moment₂ p v := by
  funext i
  rw [m₂, g_eq, moment₂]
  generalize gradient p = q
  obtain ⟨r, l, rfl⟩ : ∃ (r : Fin 1) (l : Fin 8192), i = ix2 r l := ⟨i 0, i 1, eq_ix2 i⟩
  pointwise [second]

theorem d_eq (w a b : FVec Ideal S1x8192 .f32) (i : S1x8192.Idx) : d w a b i = delta (w i) (a i) (b i) := by
  obtain ⟨r, l, rfl⟩ : ∃ (r : Fin 1) (l : Fin 8192), i = ix2 r l := ⟨i 0, i 1, eq_ix2 i⟩
  pointwise [d, delta]

theorem change_eq (p : FVec Ideal S8x1x8192 .f32) (w m v : FVec Ideal S1x8192 .f32) : d w (m₁ p m) (m₂ p v) = change p w m v := by
  funext i
  rw [d_eq, m₁_eq, m₂_eq]
  rfl

end Cert.Reference18Ideal.Step

namespace Cert.OptimiserBGate

open Idealize.ShloMosaic Idealize.ShloMosaic.TcCoe Idealize.SL.Sem Cert.Reference18Ideal Cert.Reference18Ideal.Gen Cert.Reference18Ideal.Value Cert.Reference18Ideal.Step

/-- The reference's frame: it changes no argument and leaves no semaphore raised. -/
theorem reference_frame : Cert.quiescent_Reference18Ideal :=
  fun m ρ _ => (θ_run Cert.Reference18Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel18Ideal_Reference18Ideal := by
  intro m ρ m' ρ' _ hagree
  refine ⟨_, _, _, _, Cert.Kernel18Ideal.Value.run_blocks (F := Ideal) m ρ,
    (θ_run Cert.Reference18Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel18Ideal.Step.final_gradient m c).symm, k₁.trans (Cert.Kernel18Ideal.Step.final_change m c).symm,
    k₂.trans (Cert.Kernel18Ideal.Step.final_moment1 m c).symm, k₃.trans (Cert.Kernel18Ideal.Step.final_moment2 m c).symm, h⟩

end Cert.OptimiserBGate

end
-- ==== Proof.OptGRow.lean ====
/-
  The optimiser's call for g_mix, g_ffn and g_final: what the call leaves in its four results, what the reference leaves, and the claims.
-/
module

public import proofs.«01_k».proof.Defs
public import proofs.«01_k».proof.Proof.Optimiser
public import proofs.«01_k».proof.Proof.Gen.Kernel17Ideal.Value
public import proofs.«01_k».proof.Proof.Gen.Reference17Ideal.Run
public import Idealize.ShloMosaic.Lib.Quiescent
public import Idealize.ShloMosaic.Adequacy

@[expose] public section

set_option maxRecDepth 16384

noncomputable section

namespace Cert.Kernel17Ideal.Step

open Idealize.ShloMosaic Idealize.ShloMosaic.TcCoe Cert.Kernel17Ideal Cert.Kernel17Ideal.Gen Cert.Optimiser

/-! ## One block -/

/-- A block's gradient. -/
theorem grad_apply (x0 : Vec Ideal S8x1x4096 .f32) (x1 x2 x3 : Vec Ideal S1x4096 .f32) (r : Fin 1) (l : Fin 4096) :
    k0_pay5 (F := Ideal) x0 x1 x2 x3 (ix2 r l) = grad fun s => x0 (ix3 s r l) := by
  obtain rfl : r = 0 := Subsingleton.elim _ _
  rw [← grad_eq]
  unfold k0_pay5
  pointwise [k0_pay3]

/-- A block's first moment. -/
theorem first_apply (x0 : Vec Ideal S8x1x4096 .f32) (x1 x2 x3 : Vec Ideal S1x4096 .f32) (r : Fin 1) (l : Fin 4096) :
    k0_pay6 (F := Ideal) x0 x1 x2 x3 (ix2 r l) = first (x2 (ix2 r l)) (k0_pay5 (F := Ideal) x0 x1 x2 x3 (ix2 r l)) := by
  obtain rfl : r = 0 := Subsingleton.elim _ _
  unfold k0_pay6 k0_pay5
  pointwise [k0_pay4, k0_pay3, first]

/-- A block's second moment. -/
theorem second_apply (g x : FVec Ideal S1x4096 .f32) (r : Fin 1) (l : Fin 4096) :
    k0_pay1 (F := Ideal) g x (ix2 r l) = second (x (ix2 r l)) (g (ix2 r l)) := by
  pointwise [k0_pay1, second]

/-- A block's change of the weight. -/
theorem delta_of (g h y w : FVec Ideal S1x4096 .f32) (r : Fin 1) (l : Fin 4096) :
    k0_pay2 (F := Ideal) g h y w (ix2 r l) = delta (w (ix2 r l)) (h (ix2 r l)) (second (y (ix2 r l)) (g (ix2 r l))) := by
  pointwise [k0_pay2, k0_pay1, delta, second]

/-- A block's change of the weight, from the call's operands. -/
theorem delta_apply (x0 : Vec Ideal S8x1x4096 .f32) (x1 x2 x3 : Vec Ideal S1x4096 .f32) (r : Fin 1) (l : Fin 4096) :
    k0_pay2 (F := Ideal) (k0_pay5 (F := Ideal) x0 x1 x2 x3) (k0_pay6 (F := Ideal) x0 x1 x2 x3) x3 x1 (ix2 r l)
      = delta (x1 (ix2 r l)) (first (x2 (ix2 r l)) (k0_pay5 (F := Ideal) x0 x1 x2 x3 (ix2 r l)))
          (second (x3 (ix2 r l)) (k0_pay5 (F := Ideal) x0 x1 x2 x3 (ix2 r l))) := by
  rw [delta_of, first_apply]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 1) : Fin 1 := r

theorem blk_p (t : Fin cfg0.N) (s : Fin 8) (r : Fin 1) (l : Fin 4096) :
    (iblk m c 0 t : FVec Ideal S8x1x4096 .f32) (ix3 s r l) = (m (c.tc.loc main_arg0) : FVec Ideal S8x1x4096 .f32) (ix3 s (rowOf t r) l) := by
  refine Eq.trans ?_ (congrFun (V_main_arg0 m c) _)
  blk_ext [iblk, idx t, rowOf]

theorem blk_w (t : Fin cfg0.N) (r : Fin 1) (l : Fin 4096) :
    (iblk m c 1 t : FVec Ideal S1x4096 .f32) (ix2 r l) = (m (c.tc.loc main_arg1) : FVec Ideal S1x4096 .f32) (ix2 (rowOf t r) l) := by
  refine Eq.trans ?_ (congrFun (V_main_arg1 m c) _)
  blk_ext [iblk, idx t, rowOf]

theorem blk_m (t : Fin cfg0.N) (r : Fin 1) (l : Fin 4096) :
    (iblk m c 2 t : FVec Ideal S1x4096 .f32) (ix2 r l) = (m (c.tc.loc main_arg2) : FVec Ideal S1x4096 .f32) (ix2 (rowOf t r) l) := by
  refine Eq.trans ?_ (congrFun (V_main_arg2 m c) _)
  blk_ext [iblk, idx t, rowOf]

theorem blk_v (t : Fin cfg0.N) (r : Fin 1) (l : Fin 4096) :
    (iblk m c 3 t : FVec Ideal S1x4096 .f32) (ix2 r l) = (m (c.tc.loc main_arg3) : FVec Ideal S1x4096 .f32) (ix2 (rowOf t r) l) := by
  refine Eq.trans ?_ (congrFun (V_main_arg3 m c) _)
  blk_ext [iblk, idx t, rowOf]

/-- A block's gradient is the array's. -/
theorem grad_blk (t : Fin cfg0.N) (r : Fin 1) (l : Fin 4096) :
    k0_pay5 (F := Ideal) (iblk m c 0 t) (iblk m c 1 t) (iblk m c 2 t) (iblk m c 3 t) (ix2 r l) = gradient (R := 1) (C := 4096) (φ := .f32) (m (c.tc.loc main_arg0) : FVec Ideal S8x1x4096 .f32) (ix2 (rowOf t r) l) :=
  (grad_apply _ _ _ _ r l).trans (congrArg grad (funext fun s => blk_p m c t s r l))

/-- A point's block of the gradient is the array's. -/
theorem out_grad (t : Fin cfg0.N) (y : S1x4096.Idx) (i : S1x4096.Idx) (h0 : (i 0 : ℕ) = (y 0).val) (h1 : (i 1 : ℕ) = (y 1).val) :
    out0_4 (F := Ideal) (iblk m c 0 t) (iblk m c 1 t) (iblk m c 2 t) (iblk m c 3 t) y = gradient (R := 1) (C := 4096) (φ := .f32) (m (c.tc.loc main_arg0) : FVec Ideal S8x1x4096 .f32) i := by
  obtain ⟨r, l, rfl⟩ : ∃ (r : Fin 1) (l : Fin 4096), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S1x4096.Idx) (i : S1x4096.Idx) (h0 : (i 0 : ℕ) = (y 0).val) (h1 : (i 1 : ℕ) = (y 1).val) :
    out0_5 (F := Ideal) (iblk m c 0 t) (iblk m c 1 t) (iblk m c 2 t) (iblk m c 3 t) y = change (R := 1) (C := 4096) (φ := .f32) (m (c.tc.loc main_arg0) : FVec Ideal S8x1x4096 .f32) (m (c.tc.loc main_arg1)) (m (c.tc.loc main_arg2)) (m (c.tc.loc main_arg3)) i := by
  obtain ⟨r, l, rfl⟩ : ∃ (r : Fin 1) (l : Fin 4096), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S1x4096.Idx) (i : S1x4096.Idx) (h0 : (i 0 : ℕ) = (y 0).val) (h1 : (i 1 : ℕ) = (y 1).val) :
    out0_6 (F := Ideal) (iblk m c 0 t) (iblk m c 1 t) (iblk m c 2 t) (iblk m c 3 t) y = moment₁ (R := 1) (C := 4096) (φ := .f32) (m (c.tc.loc main_arg0) : FVec Ideal S8x1x4096 .f32) (m (c.tc.loc main_arg2)) i := by
  obtain ⟨r, l, rfl⟩ : ∃ (r : Fin 1) (l : Fin 4096), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ _ _ r l).trans (congrArg₂ first (blk_m m c t r l) (grad_blk m c t r l))

/-- A point's block of the second moment is the array's. -/
theorem out_second (t : Fin cfg0.N) (y : S1x4096.Idx) (i : S1x4096.Idx) (h0 : (i 0 : ℕ) = (y 0).val) (h1 : (i 1 : ℕ) = (y 1).val) :
    out0_7 (F := Ideal) (iblk m c 0 t) (iblk m c 1 t) (iblk m c 2 t) (iblk m c 3 t) y = moment₂ (R := 1) (C := 4096) (φ := .f32) (m (c.tc.loc main_arg0) : FVec Ideal S8x1x4096 .f32) (m (c.tc.loc main_arg3)) i := by
  obtain ⟨r, l, rfl⟩ : ∃ (r : Fin 1) (l : Fin 4096), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1) (C := 4096) (φ := .f32) (m (c.tc.loc main_arg0) : FVec Ideal S8x1x4096 .f32) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1) (C := 4096) (φ := .f32) (m (c.tc.loc main_arg0) : FVec Ideal S8x1x4096 .f32) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1) (C := 4096) (φ := .f32) (m (c.tc.loc main_arg0) : FVec Ideal S8x1x4096 .f32) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1) (C := 4096) (φ := .f32) (m (c.tc.loc main_arg0) : FVec Ideal S8x1x4096 .f32) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel17Ideal.Step

namespace Cert.Reference17Ideal.Step

open Idealize.ShloMosaic Idealize.ShloMosaic.TcCoe Cert.Reference17Ideal Cert.Reference17Ideal.Gen Cert.Optimiser

/-! ## The reference -/

/-- The reference's gradient. -/
def g (p : FVec Ideal S8x1x4096 .f32) : FVec Ideal S1x4096 .f32 :=
  Host.reduceAdd p (constant (F := Ideal) S_ .f32 0x00000000#32) reducesTo_S8x1x4096_S1x4096_d0 h_S_
/-- The reference's first moment. -/
def m₁ (p : FVec Ideal S8x1x4096 .f32) (m : FVec Ideal S1x4096 .f32) : FVec Ideal S1x4096 .f32 :=
  addf (mulf (broadcastInDim S1x4096 ![] bcast_S_S1x4096 (constant (F := Ideal) S_ .f32 0x3F666666#32)) m) (mulf (broadcastInDim S1x4096 ![] bcast_S_S1x4096 (constant (F := Ideal) S_ .f32 0x3DCCCCCD#32)) (g p))
/-- The reference's second moment. -/
def m₂ (p : FVec Ideal S8x1x4096 .f32) (v : FVec Ideal S1x4096 .f32) : FVec Ideal S1x4096 .f32 :=
  addf (mulf (broadcastInDim S1x4096 ![] bcast_S_S1x4096 (constant (F := Ideal) S_ .f32 0x3F7FBE77#32)) v) (mulf (broadcastInDim S1x4096 ![] bcast_S_S1x4096 (constant (F := Ideal) S_ .f32 0x3A83126F#32)) (mulf (g p) (g p)))
/-- The reference's change of the weight. -/
def d (w a b : FVec Ideal S1x4096 .f32) : FVec Ideal S1x4096 .f32 :=
  mulf (broadcastInDim S1x4096 ![] bcast_S_S1x4096 (constant (F := Ideal) S_ .f32 0xBA83126F#32))
    (addf (Host.divf (Host.divf a (broadcastInDim S1x4096 ![] bcast_S_S1x4096 (constant (F := Ideal) S_ .f32 0x3F26BD02#32)))
        (addf (Host.sqrt (Host.divf b (broadcastInDim S1x4096 ![] bcast_S_S1x4096 (constant (F := Ideal) S_ .f32 0x3C231ACC#32)))) (broadcastInDim S1x4096 ![] bcast_S_S1x4096 (constant (F := Ideal) S_ .f32 0x322BCC77#32))))
      (mulf (broadcastInDim S1x4096 ![] bcast_S_S1x4096 (constant (F := Ideal) S_ .f32 0x3C23D70A#32)) w))

theorem g_eq (p : FVec Ideal S8x1x4096 .f32) : g p = gradient p := by
  funext i
  obtain ⟨r, l, rfl⟩ : ∃ (r : Fin 1) (l : Fin 4096), i = ix2 r l := ⟨i 0, i 1, eq_ix2 i⟩
  obtain rfl : r = 0 := Subsingleton.elim _ _
  pointwise [g, gradient, grad]

theorem m₁_eq (p : FVec Ideal S8x1x4096 .f32) (m : FVec Ideal S1x4096 .f32) : m₁ p m = moment₁ p m := by
  funext i
  rw [m₁, g_eq, moment₁]
  generalize gradient p = q
  obtain ⟨r, l, rfl⟩ : ∃ (r : Fin 1) (l : Fin 4096), i = ix2 r l := ⟨i 0, i 1, eq_ix2 i⟩
  pointwise [first]

theorem m₂_eq (p : FVec Ideal S8x1x4096 .f32) (v : FVec Ideal S1x4096 .f32) : m₂ p v = moment₂ p v := by
  funext i
  rw [m₂, g_eq, moment₂]
  generalize gradient p = q
  obtain ⟨r, l, rfl⟩ : ∃ (r : Fin 1) (l : Fin 4096), i = ix2 r l := ⟨i 0, i 1, eq_ix2 i⟩
  pointwise [second]

theorem d_eq (w a b : FVec Ideal S1x4096 .f32) (i : S1x4096.Idx) : d w a b i = delta (w i) (a i) (b i) := by
  obtain ⟨r, l, rfl⟩ : ∃ (r : Fin 1) (l : Fin 4096), i = ix2 r l := ⟨i 0, i 1, eq_ix2 i⟩
  pointwise [d, delta]

theorem change_eq (p : FVec Ideal S8x1x4096 .f32) (w m v : FVec Ideal S1x4096 .f32) : d w (m₁ p m) (m₂ p v) = change p w m v := by
  funext i
  rw [d_eq, m₁_eq, m₂_eq]
  rfl

end Cert.Reference17Ideal.Step

namespace Cert.OptimiserGRow

open Idealize.ShloMosaic Idealize.ShloMosaic.TcCoe Idealize.SL.Sem Cert.Reference17Ideal Cert.Reference17Ideal.Gen Cert.Reference17Ideal.Value Cert.Reference17Ideal.Step

/-- The reference's frame: it changes no argument and leaves no semaphore raised. -/
theorem reference_frame : Cert.quiescent_Reference17Ideal :=
  fun m ρ _ => (θ_run Cert.Reference17Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel17Ideal_Reference17Ideal := by
  intro m ρ m' ρ' _ hagree
  refine ⟨_, _, _, _, Cert.Kernel17Ideal.Value.run_blocks (F := Ideal) m ρ,
    (θ_run Cert.Reference17Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel17Ideal.Step.final_gradient m c).symm, k₁.trans (Cert.Kernel17Ideal.Step.final_change m c).symm,
    k₂.trans (Cert.Kernel17Ideal.Step.final_moment1 m c).symm, k₃.trans (Cert.Kernel17Ideal.Step.final_moment2 m c).symm, h⟩

end Cert.OptimiserGRow

end
-- ==== Proof.OptWDown.lean ====
/-
  The optimiser's call for w_ffn_down: what the call leaves in its four results, what the reference leaves, and the claims.
-/
module

public import proofs.«01_k».proof.Defs
public import proofs.«01_k».proof.Proof.Optimiser
public import proofs.«01_k».proof.Proof.Gen.Kernel16Ideal.Value
public import proofs.«01_k».proof.Proof.Gen.Reference16Ideal.Run
public import Idealize.ShloMosaic.Lib.Quiescent
public import Idealize.ShloMosaic.Adequacy

@[expose] public section

set_option maxRecDepth 16384

noncomputable section

namespace Cert.Kernel16Ideal.Step

open Idealize.ShloMosaic Idealize.ShloMosaic.TcCoe Cert.Kernel16Ideal Cert.Kernel16Ideal.Gen Cert.Optimiser

/-! ## One block -/

/-- A block's gradient. -/
theorem grad_apply (x0 : Vec Ideal S8x32x4096 .bf16) (x1 x2 x3 : Vec Ideal S32x4096 .f32) (r : Fin 32) (l : Fin 4096) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S32x4096 .f32) (r : Fin 32) (l : Fin 4096) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S32x4096 .f32) (r : Fin 32) (l : Fin 4096) :
    k0_pay2 (F := Ideal) g x (ix2 r l) = second (x (ix2 r l)) (g (ix2 r l)) := by
  pointwise [k0_pay2, second]

/-- A block's change of the weight. -/
theorem delta_apply (g x y w : FVec Ideal S32x4096 .f32) (r : Fin 32) (l : Fin 4096) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `32 * t + r`. -/
def rowOf (t : Fin cfg0.N) (r : Fin 32) : Fin 1376 := ⟨t.val * 32 + r, by have := lt_of_lt_of_eq t.isLt N_0; omega⟩

/-- The padding's own rows aside, a padded array is the array. -/
theorem pad_p (x : FVec Ideal S8x1376x4096 .bf16) (s : Fin 8) (r : Fin 1376) (l : Fin 4096) :
    pad S8x1408x4096 ![0, 0, 0] ![0, 32, 0] ![0, 0, 0] x (sitofp (F := Ideal) .bf16 (constantI S_ 32 0#32)) pads_S8x1376x4096_S8x1408x4096_000_0320_000 h_S_ (ix3 s ⟨r, by omega⟩ l) = x (ix3 s r l) := by
  pointwise

/-- The padded parts the call is given. -/
theorem host_p : V m c main_v0 = pad S8x1408x4096 ![0, 0, 0] ![0, 32, 0] ![0, 0, 0] (m (c.tc.loc main_arg0) : FVec Ideal S8x1376x4096 .bf16)
    (sitofp (F := Ideal) .bf16 (constantI S_ 32 0#32)) pads_S8x1376x4096_S8x1408x4096_000_0320_000 h_S_ := by
  unfold V
  simp only [List.flatten_cons, List.flatten_nil, List.append_nil, List.cons_append, List.nil_append]
  after_results_simp
  rfl

/-- Inside the weight's own shape the padded parts are the parts. -/
theorem entry_p (s : Fin 8) (r : Fin 1376) (l : Fin 4096) :
    (V m c main_v0 : FVec Ideal S8x1408x4096 .bf16) (ix3 s ⟨r, by omega⟩ l) = (m (c.tc.loc main_arg0) : FVec Ideal S8x1376x4096 .bf16) (ix3 s r l) := by
  rw [host_p]
  exact pad_p _ s r l

theorem blk_p (t : Fin cfg0.N) (s : Fin 8) (r : Fin 32) (l : Fin 4096) :
    (iblk m c 0 t : FVec Ideal S8x32x4096 .bf16) (ix3 s r l) = (m (c.tc.loc main_arg0) : FVec Ideal S8x1376x4096 .bf16) (ix3 s (rowOf t r) l) := by
  refine Eq.trans ?_ (entry_p m c s (rowOf t r) l)
  blk_ext [iblk, idx t, rowOf]

theorem blk_w (t : Fin cfg0.N) (r : Fin 32) (l : Fin 4096) :
    (iblk m c 1 t : FVec Ideal S32x4096 .f32) (ix2 r l) = (m (c.tc.loc main_arg1) : FVec Ideal S1376x4096 .f32) (ix2 (rowOf t r) l) := by
  refine Eq.trans ?_ (congrFun (V_main_arg1 m c) _)
  blk_ext [iblk, idx t, rowOf]

theorem blk_m (t : Fin cfg0.N) (r : Fin 32) (l : Fin 4096) :
    (iblk m c 2 t : FVec Ideal S32x4096 .f32) (ix2 r l) = (m (c.tc.loc main_arg2) : FVec Ideal S1376x4096 .f32) (ix2 (rowOf t r) l) := by
  refine Eq.trans ?_ (congrFun (V_main_arg2 m c) _)
  blk_ext [iblk, idx t, rowOf]

theorem blk_v (t : Fin cfg0.N) (r : Fin 32) (l : Fin 4096) :
    (iblk m c 3 t : FVec Ideal S32x4096 .f32) (ix2 r l) = (m (c.tc.loc main_arg3) : FVec Ideal S1376x4096 .f32) (ix2 (rowOf t r) l) := by
  refine Eq.trans ?_ (congrFun (V_main_arg3 m c) _)
  blk_ext [iblk, idx t, rowOf]

/-- A block's gradient is the array's. -/
theorem grad_blk (t : Fin cfg0.N) (r : Fin 32) (l : Fin 4096) :
    k0_pay5 (F := Ideal) (iblk m c 0 t) (iblk m c 1 t) (iblk m c 2 t) (iblk m c 3 t) (ix2 r l) = gradient (R := 1376) (C := 4096) (φ := .bf16) (m (c.tc.loc main_arg0) : FVec Ideal S8x1376x4096 .bf16) (ix2 (rowOf t r) l) :=
  (grad_apply _ _ _ _ r l).trans (congrArg grad (funext fun s => blk_p m c t s r l))

/-- A point's block of the gradient is the array's. -/
theorem out_grad (t : Fin cfg0.N) (y : S32x4096.Idx) (i : S1376x4096.Idx) (h0 : (i 0 : ℕ) = t.val * 32 + (y 0).val) (h1 : (i 1 : ℕ) = (y 1).val) :
    out0_4 (F := Ideal) (iblk m c 0 t) (iblk m c 1 t) (iblk m c 2 t) (iblk m c 3 t) y = gradient (R := 1376) (C := 4096) (φ := .bf16) (m (c.tc.loc main_arg0) : FVec Ideal S8x1376x4096 .bf16) i := by
  obtain ⟨r, l, rfl⟩ : ∃ (r : Fin 32) (l : Fin 4096), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S32x4096.Idx) (i : S1376x4096.Idx) (h0 : (i 0 : ℕ) = t.val * 32 + (y 0).val) (h1 : (i 1 : ℕ) = (y 1).val) :
    out0_5 (F := Ideal) (iblk m c 0 t) (iblk m c 1 t) (iblk m c 2 t) (iblk m c 3 t) y = change (R := 1376) (C := 4096) (φ := .bf16) (m (c.tc.loc main_arg0) : FVec Ideal S8x1376x4096 .bf16) (m (c.tc.loc main_arg1)) (m (c.tc.loc main_arg2)) (m (c.tc.loc main_arg3)) i := by
  obtain ⟨r, l, rfl⟩ : ∃ (r : Fin 32) (l : Fin 4096), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S32x4096.Idx) (i : S1376x4096.Idx) (h0 : (i 0 : ℕ) = t.val * 32 + (y 0).val) (h1 : (i 1 : ℕ) = (y 1).val) :
    out0_6 (F := Ideal) (iblk m c 0 t) (iblk m c 1 t) (iblk m c 2 t) (iblk m c 3 t) y = moment₁ (R := 1376) (C := 4096) (φ := .bf16) (m (c.tc.loc main_arg0) : FVec Ideal S8x1376x4096 .bf16) (m (c.tc.loc main_arg2)) i := by
  obtain ⟨r, l, rfl⟩ : ∃ (r : Fin 32) (l : Fin 4096), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S32x4096.Idx) (i : S1376x4096.Idx) (h0 : (i 0 : ℕ) = t.val * 32 + (y 0).val) (h1 : (i 1 : ℕ) = (y 1).val) :
    out0_7 (F := Ideal) (iblk m c 0 t) (iblk m c 1 t) (iblk m c 2 t) (iblk m c 3 t) y = moment₂ (R := 1376) (C := 4096) (φ := .bf16) (m (c.tc.loc main_arg0) : FVec Ideal S8x1376x4096 .bf16) (m (c.tc.loc main_arg3)) i := by
  obtain ⟨r, l, rfl⟩ : ∃ (r : Fin 32) (l : Fin 4096), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1376) (C := 4096) (φ := .bf16) (m (c.tc.loc main_arg0) : FVec Ideal S8x1376x4096 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1376) (C := 4096) (φ := .bf16) (m (c.tc.loc main_arg0) : FVec Ideal S8x1376x4096 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1376) (C := 4096) (φ := .bf16) (m (c.tc.loc main_arg0) : FVec Ideal S8x1376x4096 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1376) (C := 4096) (φ := .bf16) (m (c.tc.loc main_arg0) : FVec Ideal S8x1376x4096 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel16Ideal.Step

namespace Cert.Reference16Ideal.Step

open Idealize.ShloMosaic Idealize.ShloMosaic.TcCoe Cert.Reference16Ideal Cert.Reference16Ideal.Gen Cert.Optimiser

/-! ## The reference -/

/-- The reference's gradient. -/
def g (p : FVec Ideal S8x1376x4096 .bf16) : FVec Ideal S1376x4096 .f32 :=
  Host.reduceAdd (extf (F := Ideal) .f32 p bitsLt_bf16_f32) (constant (F := Ideal) S_ .f32 0x00000000#32) reducesTo_S8x1376x4096_S1376x4096_d0 h_S_
/-- The reference's first moment. -/
def m₁ (p : FVec Ideal S8x1376x4096 .bf16) (m : FVec Ideal S1376x4096 .f32) : FVec Ideal S1376x4096 .f32 :=
  addf (mulf (broadcastInDim S1376x4096 ![] bcast_S_S1376x4096 (constant (F := Ideal) S_ .f32 0x3F666666#32)) m) (mulf (broadcastInDim S1376x4096 ![] bcast_S_S1376x4096 (constant (F := Ideal) S_ .f32 0x3DCCCCCD#32)) (g p))
/-- The reference's second moment. -/
def m₂ (p : FVec Ideal S8x1376x4096 .bf16) (v : FVec Ideal S1376x4096 .f32) : FVec Ideal S1376x4096 .f32 :=
  addf (mulf (broadcastInDim S1376x4096 ![] bcast_S_S1376x4096 (constant (F := Ideal) S_ .f32 0x3F7FBE77#32)) v) (mulf (broadcastInDim S1376x4096 ![] bcast_S_S1376x4096 (constant (F := Ideal) S_ .f32 0x3A83126F#32)) (mulf (g p) (g p)))
/-- The reference's change of the weight. -/
def d (w a b : FVec Ideal S1376x4096 .f32) : FVec Ideal S1376x4096 .f32 :=
  mulf (broadcastInDim S1376x4096 ![] bcast_S_S1376x4096 (constant (F := Ideal) S_ .f32 0xBA83126F#32))
    (addf (Host.divf (Host.divf a (broadcastInDim S1376x4096 ![] bcast_S_S1376x4096 (constant (F := Ideal) S_ .f32 0x3F26BD02#32)))
        (addf (Host.sqrt (Host.divf b (broadcastInDim S1376x4096 ![] bcast_S_S1376x4096 (constant (F := Ideal) S_ .f32 0x3C231ACC#32)))) (broadcastInDim S1376x4096 ![] bcast_S_S1376x4096 (constant (F := Ideal) S_ .f32 0x322BCC77#32))))
      (mulf (broadcastInDim S1376x4096 ![] bcast_S_S1376x4096 (constant (F := Ideal) S_ .f32 0x3C23D70A#32)) w))

theorem g_eq (p : FVec Ideal S8x1376x4096 .bf16) : g p = gradient p := by
  funext i
  obtain ⟨r, l, rfl⟩ : ∃ (r : Fin 1376) (l : Fin 4096), i = ix2 r l := ⟨i 0, i 1, eq_ix2 i⟩
  pointwise [g, gradient, grad]

theorem m₁_eq (p : FVec Ideal S8x1376x4096 .bf16) (m : FVec Ideal S1376x4096 .f32) : m₁ p m = moment₁ p m := by
  funext i
  rw [m₁, g_eq, moment₁]
  generalize gradient p = q
  obtain ⟨r, l, rfl⟩ : ∃ (r : Fin 1376) (l : Fin 4096), i = ix2 r l := ⟨i 0, i 1, eq_ix2 i⟩
  pointwise [first]

theorem m₂_eq (p : FVec Ideal S8x1376x4096 .bf16) (v : FVec Ideal S1376x4096 .f32) : m₂ p v = moment₂ p v := by
  funext i
  rw [m₂, g_eq, moment₂]
  generalize gradient p = q
  obtain ⟨r, l, rfl⟩ : ∃ (r : Fin 1376) (l : Fin 4096), i = ix2 r l := ⟨i 0, i 1, eq_ix2 i⟩
  pointwise [second]

theorem d_eq (w a b : FVec Ideal S1376x4096 .f32) (i : S1376x4096.Idx) : d w a b i = delta (w i) (a i) (b i) := by
  obtain ⟨r, l, rfl⟩ : ∃ (r : Fin 1376) (l : Fin 4096), i = ix2 r l := ⟨i 0, i 1, eq_ix2 i⟩
  pointwise [d, delta]

theorem change_eq (p : FVec Ideal S8x1376x4096 .bf16) (w m v : FVec Ideal S1376x4096 .f32) : d w (m₁ p m) (m₂ p v) = change p w m v := by
  funext i
  rw [d_eq, m₁_eq, m₂_eq]
  rfl

end Cert.Reference16Ideal.Step

namespace Cert.OptimiserWDown

open Idealize.ShloMosaic Idealize.ShloMosaic.TcCoe Idealize.SL.Sem Cert.Reference16Ideal Cert.Reference16Ideal.Gen Cert.Reference16Ideal.Value Cert.Reference16Ideal.Step

/-- The reference's frame: it changes no argument and leaves no semaphore raised. -/
theorem reference_frame : Cert.quiescent_Reference16Ideal :=
  fun m ρ _ => (θ_run Cert.Reference16Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel16Ideal_Reference16Ideal := by
  intro m ρ m' ρ' _ hagree
  refine ⟨_, _, _, _, Cert.Kernel16Ideal.Value.run_blocks (F := Ideal) m ρ,
    (θ_run Cert.Reference16Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel16Ideal.Step.final_gradient m c).symm, k₁.trans (Cert.Kernel16Ideal.Step.final_change m c).symm,
    k₂.trans (Cert.Kernel16Ideal.Step.final_moment1 m c).symm, k₃.trans (Cert.Kernel16Ideal.Step.final_moment2 m c).symm, h⟩

end Cert.OptimiserWDown

end
-- ==== Proof.OptWGate.lean ====
/-
  The optimiser's call for w_ffn_gate, and of w_ffn_up: what the call leaves in its four results, what the reference leaves, and the claims.
-/
module

public import proofs.«01_k».proof.Defs
public import proofs.«01_k».proof.Proof.Optimiser
public import proofs.«01_k».proof.Proof.Gen.Kernel15Ideal.Value
public import proofs.«01_k».proof.Proof.Gen.Reference15Ideal.Run
public import Idealize.ShloMosaic.Lib.Quiescent
public import Idealize.ShloMosaic.Adequacy

@[expose] public section

set_option maxRecDepth 16384

noncomputable section

namespace Cert.Kernel15Ideal.Step

open Idealize.ShloMosaic Idealize.ShloMosaic.TcCoe Cert.Kernel15Ideal Cert.Kernel15Ideal.Gen Cert.Optimiser

/-! ## One block -/

/-- A block's gradient. -/
theorem grad_apply (x0 : Vec Ideal S8x128x1408 .bf16) (x1 x2 x3 : Vec Ideal S128x1376 .f32) (r : Fin 128) (l : Fin 1376) :
    k0_pay5 (F := Ideal) x0 x1 x2 x3 (ix2 r l) = grad fun s => x0 (ix3 s r ⟨l, by omega⟩) := by
  rw [← grad_eq]
  unfold k0_pay5
  pointwise [k0_pay4]

/-- A block's first moment. -/
theorem first_apply (g x : FVec Ideal S128x1376 .f32) (r : Fin 128) (l : Fin 1376) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S128x1376 .f32) (r : Fin 128) (l : Fin 1376) :
    k0_pay2 (F := Ideal) g x (ix2 r l) = second (x (ix2 r l)) (g (ix2 r l)) := by
  pointwise [k0_pay2, second]

/-- A block's change of the weight. -/
theorem delta_apply (g x y w : FVec Ideal S128x1376 .f32) (r : Fin 128) (l : Fin 1376) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `128 * t + r`. -/
def rowOf (t : Fin cfg0.N) (r : Fin 128) : Fin 4096 := ⟨t.val * 128 + r, by have := lt_of_lt_of_eq t.isLt N_0; omega⟩

/-- The padding's own columns aside, a padded array is the array. -/
theorem pad_p (x : FVec Ideal S8x4096x1376 .bf16) (s : Fin 8) (r : Fin 4096) (l : Fin 1376) :
    pad S8x4096x1408 ![0, 0, 0] ![0, 0, 32] ![0, 0, 0] x (sitofp (F := Ideal) .bf16 (constantI S_ 32 0#32)) pads_S8x4096x1376_S8x4096x1408_000_000_0320 h_S_ (ix3 s r ⟨l, by omega⟩) = x (ix3 s r l) := by
  pointwise

/-- The padded parts the call is given. -/
theorem host_p : V m c main_v0 = pad S8x4096x1408 ![0, 0, 0] ![0, 0, 32] ![0, 0, 0] (m (c.tc.loc main_arg0) : FVec Ideal S8x4096x1376 .bf16)
    (sitofp (F := Ideal) .bf16 (constantI S_ 32 0#32)) pads_S8x4096x1376_S8x4096x1408_000_000_0320 h_S_ := by
  unfold V
  simp only [List.flatten_cons, List.flatten_nil, List.append_nil, List.cons_append, List.nil_append]
  after_results_simp
  rfl

/-- Inside the weight's own shape the padded parts are the parts. -/
theorem entry_p (s : Fin 8) (r : Fin 4096) (l : Fin 1376) :
    (V m c main_v0 : FVec Ideal S8x4096x1408 .bf16) (ix3 s r ⟨l, by omega⟩) = (m (c.tc.loc main_arg0) : FVec Ideal S8x4096x1376 .bf16) (ix3 s r l) := by
  rw [host_p]
  exact pad_p _ s r l

theorem blk_p (t : Fin cfg0.N) (s : Fin 8) (r : Fin 128) (l : Fin 1376) :
    (iblk m c 0 t : FVec Ideal S8x128x1408 .bf16) (ix3 s r ⟨l, by omega⟩) = (m (c.tc.loc main_arg0) : FVec Ideal S8x4096x1376 .bf16) (ix3 s (rowOf t r) l) := by
  refine Eq.trans ?_ (entry_p m c s (rowOf t r) l)
  blk_ext [iblk, idx t, rowOf]

theorem blk_w (t : Fin cfg0.N) (r : Fin 128) (l : Fin 1376) :
    (iblk m c 1 t : FVec Ideal S128x1376 .f32) (ix2 r l) = (m (c.tc.loc main_arg1) : FVec Ideal S4096x1376 .f32) (ix2 (rowOf t r) l) := by
  refine Eq.trans ?_ (congrFun (V_main_arg1 m c) _)
  blk_ext [iblk, idx t, rowOf]

theorem blk_m (t : Fin cfg0.N) (r : Fin 128) (l : Fin 1376) :
    (iblk m c 2 t : FVec Ideal S128x1376 .f32) (ix2 r l) = (m (c.tc.loc main_arg2) : FVec Ideal S4096x1376 .f32) (ix2 (rowOf t r) l) := by
  refine Eq.trans ?_ (congrFun (V_main_arg2 m c) _)
  blk_ext [iblk, idx t, rowOf]

theorem blk_v (t : Fin cfg0.N) (r : Fin 128) (l : Fin 1376) :
    (iblk m c 3 t : FVec Ideal S128x1376 .f32) (ix2 r l) = (m (c.tc.loc main_arg3) : FVec Ideal S4096x1376 .f32) (ix2 (rowOf t r) l) := by
  refine Eq.trans ?_ (congrFun (V_main_arg3 m c) _)
  blk_ext [iblk, idx t, rowOf]

/-- A block's gradient is the array's. -/
theorem grad_blk (t : Fin cfg0.N) (r : Fin 128) (l : Fin 1376) :
    k0_pay5 (F := Ideal) (iblk m c 0 t) (iblk m c 1 t) (iblk m c 2 t) (iblk m c 3 t) (ix2 r l) = gradient (R := 4096) (C := 1376) (φ := .bf16) (m (c.tc.loc main_arg0) : FVec Ideal S8x4096x1376 .bf16) (ix2 (rowOf t r) l) :=
  (grad_apply _ _ _ _ r l).trans (congrArg grad (funext fun s => blk_p m c t s r l))

/-- A point's block of the gradient is the array's. -/
theorem out_grad (t : Fin cfg0.N) (y : S128x1376.Idx) (i : S4096x1376.Idx) (h0 : (i 0 : ℕ) = t.val * 128 + (y 0).val) (h1 : (i 1 : ℕ) = (y 1).val) :
    out0_4 (F := Ideal) (iblk m c 0 t) (iblk m c 1 t) (iblk m c 2 t) (iblk m c 3 t) y = gradient (R := 4096) (C := 1376) (φ := .bf16) (m (c.tc.loc main_arg0) : FVec Ideal S8x4096x1376 .bf16) i := by
  obtain ⟨r, l, rfl⟩ : ∃ (r : Fin 128) (l : Fin 1376), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S128x1376.Idx) (i : S4096x1376.Idx) (h0 : (i 0 : ℕ) = t.val * 128 + (y 0).val) (h1 : (i 1 : ℕ) = (y 1).val) :
    out0_5 (F := Ideal) (iblk m c 0 t) (iblk m c 1 t) (iblk m c 2 t) (iblk m c 3 t) y = change (R := 4096) (C := 1376) (φ := .bf16) (m (c.tc.loc main_arg0) : FVec Ideal S8x4096x1376 .bf16) (m (c.tc.loc main_arg1)) (m (c.tc.loc main_arg2)) (m (c.tc.loc main_arg3)) i := by
  obtain ⟨r, l, rfl⟩ : ∃ (r : Fin 128) (l : Fin 1376), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S128x1376.Idx) (i : S4096x1376.Idx) (h0 : (i 0 : ℕ) = t.val * 128 + (y 0).val) (h1 : (i 1 : ℕ) = (y 1).val) :
    out0_6 (F := Ideal) (iblk m c 0 t) (iblk m c 1 t) (iblk m c 2 t) (iblk m c 3 t) y = moment₁ (R := 4096) (C := 1376) (φ := .bf16) (m (c.tc.loc main_arg0) : FVec Ideal S8x4096x1376 .bf16) (m (c.tc.loc main_arg2)) i := by
  obtain ⟨r, l, rfl⟩ : ∃ (r : Fin 128) (l : Fin 1376), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S128x1376.Idx) (i : S4096x1376.Idx) (h0 : (i 0 : ℕ) = t.val * 128 + (y 0).val) (h1 : (i 1 : ℕ) = (y 1).val) :
    out0_7 (F := Ideal) (iblk m c 0 t) (iblk m c 1 t) (iblk m c 2 t) (iblk m c 3 t) y = moment₂ (R := 4096) (C := 1376) (φ := .bf16) (m (c.tc.loc main_arg0) : FVec Ideal S8x4096x1376 .bf16) (m (c.tc.loc main_arg3)) i := by
  obtain ⟨r, l, rfl⟩ : ∃ (r : Fin 128) (l : Fin 1376), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 4096) (C := 1376) (φ := .bf16) (m (c.tc.loc main_arg0) : FVec Ideal S8x4096x1376 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 4096) (C := 1376) (φ := .bf16) (m (c.tc.loc main_arg0) : FVec Ideal S8x4096x1376 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 4096) (C := 1376) (φ := .bf16) (m (c.tc.loc main_arg0) : FVec Ideal S8x4096x1376 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 4096) (C := 1376) (φ := .bf16) (m (c.tc.loc main_arg0) : FVec Ideal S8x4096x1376 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel15Ideal.Step

namespace Cert.Reference15Ideal.Step

open Idealize.ShloMosaic Idealize.ShloMosaic.TcCoe Cert.Reference15Ideal Cert.Reference15Ideal.Gen Cert.Optimiser

/-! ## The reference -/

/-- The reference's gradient. -/
def g (p : FVec Ideal S8x4096x1376 .bf16) : FVec Ideal S4096x1376 .f32 :=
  Host.reduceAdd (extf (F := Ideal) .f32 p bitsLt_bf16_f32) (constant (F := Ideal) S_ .f32 0x00000000#32) reducesTo_S8x4096x1376_S4096x1376_d0 h_S_
/-- The reference's first moment. -/
def m₁ (p : FVec Ideal S8x4096x1376 .bf16) (m : FVec Ideal S4096x1376 .f32) : FVec Ideal S4096x1376 .f32 :=
  addf (mulf (broadcastInDim S4096x1376 ![] bcast_S_S4096x1376 (constant (F := Ideal) S_ .f32 0x3F666666#32)) m) (mulf (broadcastInDim S4096x1376 ![] bcast_S_S4096x1376 (constant (F := Ideal) S_ .f32 0x3DCCCCCD#32)) (g p))
/-- The reference's second moment. -/
def m₂ (p : FVec Ideal S8x4096x1376 .bf16) (v : FVec Ideal S4096x1376 .f32) : FVec Ideal S4096x1376 .f32 :=
  addf (mulf (broadcastInDim S4096x1376 ![] bcast_S_S4096x1376 (constant (F := Ideal) S_ .f32 0x3F7FBE77#32)) v) (mulf (broadcastInDim S4096x1376 ![] bcast_S_S4096x1376 (constant (F := Ideal) S_ .f32 0x3A83126F#32)) (mulf (g p) (g p)))
/-- The reference's change of the weight. -/
def d (w a b : FVec Ideal S4096x1376 .f32) : FVec Ideal S4096x1376 .f32 :=
  mulf (broadcastInDim S4096x1376 ![] bcast_S_S4096x1376 (constant (F := Ideal) S_ .f32 0xBA83126F#32))
    (addf (Host.divf (Host.divf a (broadcastInDim S4096x1376 ![] bcast_S_S4096x1376 (constant (F := Ideal) S_ .f32 0x3F26BD02#32)))
        (addf (Host.sqrt (Host.divf b (broadcastInDim S4096x1376 ![] bcast_S_S4096x1376 (constant (F := Ideal) S_ .f32 0x3C231ACC#32)))) (broadcastInDim S4096x1376 ![] bcast_S_S4096x1376 (constant (F := Ideal) S_ .f32 0x322BCC77#32))))
      (mulf (broadcastInDim S4096x1376 ![] bcast_S_S4096x1376 (constant (F := Ideal) S_ .f32 0x3C23D70A#32)) w))

theorem g_eq (p : FVec Ideal S8x4096x1376 .bf16) : g p = gradient p := by
  funext i
  obtain ⟨r, l, rfl⟩ : ∃ (r : Fin 4096) (l : Fin 1376), i = ix2 r l := ⟨i 0, i 1, eq_ix2 i⟩
  pointwise [g, gradient, grad]

theorem m₁_eq (p : FVec Ideal S8x4096x1376 .bf16) (m : FVec Ideal S4096x1376 .f32) : m₁ p m = moment₁ p m := by
  funext i
  rw [m₁, g_eq, moment₁]
  generalize gradient p = q
  obtain ⟨r, l, rfl⟩ : ∃ (r : Fin 4096) (l : Fin 1376), i = ix2 r l := ⟨i 0, i 1, eq_ix2 i⟩
  pointwise [first]

theorem m₂_eq (p : FVec Ideal S8x4096x1376 .bf16) (v : FVec Ideal S4096x1376 .f32) : m₂ p v = moment₂ p v := by
  funext i
  rw [m₂, g_eq, moment₂]
  generalize gradient p = q
  obtain ⟨r, l, rfl⟩ : ∃ (r : Fin 4096) (l : Fin 1376), i = ix2 r l := ⟨i 0, i 1, eq_ix2 i⟩
  pointwise [second]

theorem d_eq (w a b : FVec Ideal S4096x1376 .f32) (i : S4096x1376.Idx) : d w a b i = delta (w i) (a i) (b i) := by
  obtain ⟨r, l, rfl⟩ : ∃ (r : Fin 4096) (l : Fin 1376), i = ix2 r l := ⟨i 0, i 1, eq_ix2 i⟩
  pointwise [d, delta]

theorem change_eq (p : FVec Ideal S8x4096x1376 .bf16) (w m v : FVec Ideal S4096x1376 .f32) : d w (m₁ p m) (m₂ p v) = change p w m v := by
  funext i
  rw [d_eq, m₁_eq, m₂_eq]
  rfl

end Cert.Reference15Ideal.Step

namespace Cert.OptimiserWGate

open Idealize.ShloMosaic Idealize.ShloMosaic.TcCoe Idealize.SL.Sem Cert.Reference15Ideal Cert.Reference15Ideal.Gen Cert.Reference15Ideal.Value Cert.Reference15Ideal.Step

/-- The reference's frame: it changes no argument and leaves no semaphore raised. -/
theorem reference_frame : Cert.quiescent_Reference15Ideal :=
  fun m ρ _ => (θ_run Cert.Reference15Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel15Ideal_Reference15Ideal := by
  intro m ρ m' ρ' _ hagree
  refine ⟨_, _, _, _, Cert.Kernel15Ideal.Value.run_blocks (F := Ideal) m ρ,
    (θ_run Cert.Reference15Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel15Ideal.Step.final_gradient m c).symm, k₁.trans (Cert.Kernel15Ideal.Step.final_change m c).symm,
    k₂.trans (Cert.Kernel15Ideal.Step.final_moment1 m c).symm, k₃.trans (Cert.Kernel15Ideal.Step.final_moment2 m c).symm, h⟩

end Cert.OptimiserWGate

end
-- ==== Proof.OptWOut.lean ====
/-
  The optimiser's call for w_out: what the call leaves in its four results, what the reference leaves, and the claims.
-/
module

public import proofs.«01_k».proof.Defs
public import proofs.«01_k».proof.Proof.Optimiser
public import proofs.«01_k».proof.Proof.Gen.Kernel14Ideal.Value
public import proofs.«01_k».proof.Proof.Gen.Reference14Ideal.Run
public import Idealize.ShloMosaic.Lib.Quiescent
public import Idealize.ShloMosaic.Adequacy

@[expose] public section

set_option maxRecDepth 16384

noncomputable section

namespace Cert.Kernel14Ideal.Step

open Idealize.ShloMosaic Idealize.ShloMosaic.TcCoe Cert.Kernel14Ideal Cert.Kernel14Ideal.Gen Cert.Optimiser

/-! ## One block -/

/-- A block's gradient. -/
theorem grad_apply (x0 : Vec Ideal S8x64x4096 .bf16) (x1 x2 x3 : Vec Ideal S64x4096 .f32) (r : Fin 64) (l : Fin 4096) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S64x4096 .f32) (r : Fin 64) (l : Fin 4096) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S64x4096 .f32) (r : Fin 64) (l : Fin 4096) :
    k0_pay2 (F := Ideal) g x (ix2 r l) = second (x (ix2 r l)) (g (ix2 r l)) := by
  pointwise [k0_pay2, second]

/-- A block's change of the weight. -/
theorem delta_apply (g x y w : FVec Ideal S64x4096 .f32) (r : Fin 64) (l : Fin 4096) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `64 * t + r`. -/
def rowOf (t : Fin cfg0.N) (r : Fin 64) : Fin 512 := ⟨t.val * 64 + r, by have := lt_of_lt_of_eq t.isLt N_0; omega⟩

theorem blk_p (t : Fin cfg0.N) (s : Fin 8) (r : Fin 64) (l : Fin 4096) :
    (iblk m c 0 t : FVec Ideal S8x64x4096 .bf16) (ix3 s r l) = (m (c.tc.loc main_arg0) : FVec Ideal S8x512x4096 .bf16) (ix3 s (rowOf t r) l) := by
  refine Eq.trans ?_ (congrFun (V_main_arg0 m c) _)
  blk_ext [iblk, idx t, rowOf]

theorem blk_w (t : Fin cfg0.N) (r : Fin 64) (l : Fin 4096) :
    (iblk m c 1 t : FVec Ideal S64x4096 .f32) (ix2 r l) = (m (c.tc.loc main_arg1) : FVec Ideal S512x4096 .f32) (ix2 (rowOf t r) l) := by
  refine Eq.trans ?_ (congrFun (V_main_arg1 m c) _)
  blk_ext [iblk, idx t, rowOf]

theorem blk_m (t : Fin cfg0.N) (r : Fin 64) (l : Fin 4096) :
    (iblk m c 2 t : FVec Ideal S64x4096 .f32) (ix2 r l) = (m (c.tc.loc main_arg2) : FVec Ideal S512x4096 .f32) (ix2 (rowOf t r) l) := by
  refine Eq.trans ?_ (congrFun (V_main_arg2 m c) _)
  blk_ext [iblk, idx t, rowOf]

theorem blk_v (t : Fin cfg0.N) (r : Fin 64) (l : Fin 4096) :
    (iblk m c 3 t : FVec Ideal S64x4096 .f32) (ix2 r l) = (m (c.tc.loc main_arg3) : FVec Ideal S512x4096 .f32) (ix2 (rowOf t r) l) := by
  refine Eq.trans ?_ (congrFun (V_main_arg3 m c) _)
  blk_ext [iblk, idx t, rowOf]

/-- A block's gradient is the array's. -/
theorem grad_blk (t : Fin cfg0.N) (r : Fin 64) (l : Fin 4096) :
    k0_pay5 (F := Ideal) (iblk m c 0 t) (iblk m c 1 t) (iblk m c 2 t) (iblk m c 3 t) (ix2 r l) = gradient (R := 512) (C := 4096) (φ := .bf16) (m (c.tc.loc main_arg0) : FVec Ideal S8x512x4096 .bf16) (ix2 (rowOf t r) l) :=
  (grad_apply _ _ _ _ r l).trans (congrArg grad (funext fun s => blk_p m c t s r l))

/-- A point's block of the gradient is the array's. -/
theorem out_grad (t : Fin cfg0.N) (y : S64x4096.Idx) (i : S512x4096.Idx) (h0 : (i 0 : ℕ) = t.val * 64 + (y 0).val) (h1 : (i 1 : ℕ) = (y 1).val) :
    out0_4 (F := Ideal) (iblk m c 0 t) (iblk m c 1 t) (iblk m c 2 t) (iblk m c 3 t) y = gradient (R := 512) (C := 4096) (φ := .bf16) (m (c.tc.loc main_arg0) : FVec Ideal S8x512x4096 .bf16) i := by
  obtain ⟨r, l, rfl⟩ : ∃ (r : Fin 64) (l : Fin 4096), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S64x4096.Idx) (i : S512x4096.Idx) (h0 : (i 0 : ℕ) = t.val * 64 + (y 0).val) (h1 : (i 1 : ℕ) = (y 1).val) :
    out0_5 (F := Ideal) (iblk m c 0 t) (iblk m c 1 t) (iblk m c 2 t) (iblk m c 3 t) y = change (R := 512) (C := 4096) (φ := .bf16) (m (c.tc.loc main_arg0) : FVec Ideal S8x512x4096 .bf16) (m (c.tc.loc main_arg1)) (m (c.tc.loc main_arg2)) (m (c.tc.loc main_arg3)) i := by
  obtain ⟨r, l, rfl⟩ : ∃ (r : Fin 64) (l : Fin 4096), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S64x4096.Idx) (i : S512x4096.Idx) (h0 : (i 0 : ℕ) = t.val * 64 + (y 0).val) (h1 : (i 1 : ℕ) = (y 1).val) :
    out0_6 (F := Ideal) (iblk m c 0 t) (iblk m c 1 t) (iblk m c 2 t) (iblk m c 3 t) y = moment₁ (R := 512) (C := 4096) (φ := .bf16) (m (c.tc.loc main_arg0) : FVec Ideal S8x512x4096 .bf16) (m (c.tc.loc main_arg2)) i := by
  obtain ⟨r, l, rfl⟩ : ∃ (r : Fin 64) (l : Fin 4096), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S64x4096.Idx) (i : S512x4096.Idx) (h0 : (i 0 : ℕ) = t.val * 64 + (y 0).val) (h1 : (i 1 : ℕ) = (y 1).val) :
    out0_7 (F := Ideal) (iblk m c 0 t) (iblk m c 1 t) (iblk m c 2 t) (iblk m c 3 t) y = moment₂ (R := 512) (C := 4096) (φ := .bf16) (m (c.tc.loc main_arg0) : FVec Ideal S8x512x4096 .bf16) (m (c.tc.loc main_arg3)) i := by
  obtain ⟨r, l, rfl⟩ : ∃ (r : Fin 64) (l : Fin 4096), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 512) (C := 4096) (φ := .bf16) (m (c.tc.loc main_arg0) : FVec Ideal S8x512x4096 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 512) (C := 4096) (φ := .bf16) (m (c.tc.loc main_arg0) : FVec Ideal S8x512x4096 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 512) (C := 4096) (φ := .bf16) (m (c.tc.loc main_arg0) : FVec Ideal S8x512x4096 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 512) (C := 4096) (φ := .bf16) (m (c.tc.loc main_arg0) : FVec Ideal S8x512x4096 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel14Ideal.Step

namespace Cert.Reference14Ideal.Step

open Idealize.ShloMosaic Idealize.ShloMosaic.TcCoe Cert.Reference14Ideal Cert.Reference14Ideal.Gen Cert.Optimiser

/-! ## The reference -/

/-- The reference's gradient. -/
def g (p : FVec Ideal S8x512x4096 .bf16) : FVec Ideal S512x4096 .f32 :=
  Host.reduceAdd (extf (F := Ideal) .f32 p bitsLt_bf16_f32) (constant (F := Ideal) S_ .f32 0x00000000#32) reducesTo_S8x512x4096_S512x4096_d0 h_S_
/-- The reference's first moment. -/
def m₁ (p : FVec Ideal S8x512x4096 .bf16) (m : FVec Ideal S512x4096 .f32) : FVec Ideal S512x4096 .f32 :=
  addf (mulf (broadcastInDim S512x4096 ![] bcast_S_S512x4096 (constant (F := Ideal) S_ .f32 0x3F666666#32)) m) (mulf (broadcastInDim S512x4096 ![] bcast_S_S512x4096 (constant (F := Ideal) S_ .f32 0x3DCCCCCD#32)) (g p))
/-- The reference's second moment. -/
def m₂ (p : FVec Ideal S8x512x4096 .bf16) (v : FVec Ideal S512x4096 .f32) : FVec Ideal S512x4096 .f32 :=
  addf (mulf (broadcastInDim S512x4096 ![] bcast_S_S512x4096 (constant (F := Ideal) S_ .f32 0x3F7FBE77#32)) v) (mulf (broadcastInDim S512x4096 ![] bcast_S_S512x4096 (constant (F := Ideal) S_ .f32 0x3A83126F#32)) (mulf (g p) (g p)))
/-- The reference's change of the weight. -/
def d (w a b : FVec Ideal S512x4096 .f32) : FVec Ideal S512x4096 .f32 :=
  mulf (broadcastInDim S512x4096 ![] bcast_S_S512x4096 (constant (F := Ideal) S_ .f32 0xBA83126F#32))
    (addf (Host.divf (Host.divf a (broadcastInDim S512x4096 ![] bcast_S_S512x4096 (constant (F := Ideal) S_ .f32 0x3F26BD02#32)))
        (addf (Host.sqrt (Host.divf b (broadcastInDim S512x4096 ![] bcast_S_S512x4096 (constant (F := Ideal) S_ .f32 0x3C231ACC#32)))) (broadcastInDim S512x4096 ![] bcast_S_S512x4096 (constant (F := Ideal) S_ .f32 0x322BCC77#32))))
      (mulf (broadcastInDim S512x4096 ![] bcast_S_S512x4096 (constant (F := Ideal) S_ .f32 0x3C23D70A#32)) w))

theorem g_eq (p : FVec Ideal S8x512x4096 .bf16) : g p = gradient p := by
  funext i
  obtain ⟨r, l, rfl⟩ : ∃ (r : Fin 512) (l : Fin 4096), i = ix2 r l := ⟨i 0, i 1, eq_ix2 i⟩
  pointwise [g, gradient, grad]

theorem m₁_eq (p : FVec Ideal S8x512x4096 .bf16) (m : FVec Ideal S512x4096 .f32) : m₁ p m = moment₁ p m := by
  funext i
  rw [m₁, g_eq, moment₁]
  generalize gradient p = q
  obtain ⟨r, l, rfl⟩ : ∃ (r : Fin 512) (l : Fin 4096), i = ix2 r l := ⟨i 0, i 1, eq_ix2 i⟩
  pointwise [first]

theorem m₂_eq (p : FVec Ideal S8x512x4096 .bf16) (v : FVec Ideal S512x4096 .f32) : m₂ p v = moment₂ p v := by
  funext i
  rw [m₂, g_eq, moment₂]
  generalize gradient p = q
  obtain ⟨r, l, rfl⟩ : ∃ (r : Fin 512) (l : Fin 4096), i = ix2 r l := ⟨i 0, i 1, eq_ix2 i⟩
  pointwise [second]

theorem d_eq (w a b : FVec Ideal S512x4096 .f32) (i : S512x4096.Idx) : d w a b i = delta (w i) (a i) (b i) := by
  obtain ⟨r, l, rfl⟩ : ∃ (r : Fin 512) (l : Fin 4096), i = ix2 r l := ⟨i 0, i 1, eq_ix2 i⟩
  pointwise [d, delta]

theorem change_eq (p : FVec Ideal S8x512x4096 .bf16) (w m v : FVec Ideal S512x4096 .f32) : d w (m₁ p m) (m₂ p v) = change p w m v := by
  funext i
  rw [d_eq, m₁_eq, m₂_eq]
  rfl

end Cert.Reference14Ideal.Step

namespace Cert.OptimiserWOut

open Idealize.ShloMosaic Idealize.ShloMosaic.TcCoe Idealize.SL.Sem Cert.Reference14Ideal Cert.Reference14Ideal.Gen Cert.Reference14Ideal.Value Cert.Reference14Ideal.Step

/-- The reference's frame: it changes no argument and leaves no semaphore raised. -/
theorem reference_frame : Cert.quiescent_Reference14Ideal :=
  fun m ρ _ => (θ_run Cert.Reference14Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel14Ideal_Reference14Ideal := by
  intro m ρ m' ρ' _ hagree
  refine ⟨_, _, _, _, Cert.Kernel14Ideal.Value.run_blocks (F := Ideal) m ρ,
    (θ_run Cert.Reference14Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel14Ideal.Step.final_gradient m c).symm, k₁.trans (Cert.Kernel14Ideal.Step.final_change m c).symm,
    k₂.trans (Cert.Kernel14Ideal.Step.final_moment1 m c).symm, k₃.trans (Cert.Kernel14Ideal.Step.final_moment2 m c).symm, h⟩

end Cert.OptimiserWOut

end
-- ==== Proof.OptWBranch.lean ====
/-
  The optimiser's call for a half of w_branch: what the call leaves in its four results, what the reference leaves, and the claims.
-/
module

public import proofs.«01_k».proof.Defs
public import proofs.«01_k».proof.Proof.Optimiser
public import proofs.«01_k».proof.Proof.Gen.Kernel13Ideal.Value
public import proofs.«01_k».proof.Proof.Gen.Reference13Ideal.Run
public import Idealize.ShloMosaic.Lib.Quiescent
public import Idealize.ShloMosaic.Adequacy

@[expose] public section

set_option maxRecDepth 16384

noncomputable section

namespace Cert.Kernel13Ideal.Step

open Idealize.ShloMosaic Idealize.ShloMosaic.TcCoe Cert.Kernel13Ideal Cert.Kernel13Ideal.Gen Cert.Optimiser

/-! ## One block -/

/-- A block's gradient. -/
theorem grad_apply (x0 : Vec Ideal S8x512x512 .bf16) (x1 x2 x3 : Vec Ideal S512x512 .f32) (r : Fin 512) (l : Fin 512) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S512x512 .f32) (r : Fin 512) (l : Fin 512) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S512x512 .f32) (r : Fin 512) (l : Fin 512) :
    k0_pay2 (F := Ideal) g x (ix2 r l) = second (x (ix2 r l)) (g (ix2 r l)) := by
  pointwise [k0_pay2, second]

/-- A block's change of the weight. -/
theorem delta_apply (g x y w : FVec Ideal S512x512 .f32) (r : Fin 512) (l : Fin 512) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `512 * t + r`. -/
def rowOf (t : Fin cfg0.N) (r : Fin 512) : Fin 2048 := ⟨t.val * 512 + r, by have := lt_of_lt_of_eq t.isLt N_0; omega⟩

theorem blk_p (t : Fin cfg0.N) (s : Fin 8) (r : Fin 512) (l : Fin 512) :
    (iblk m c 0 t : FVec Ideal S8x512x512 .bf16) (ix3 s r l) = (m (c.tc.loc main_arg0) : FVec Ideal S8x2048x512 .bf16) (ix3 s (rowOf t r) l) := by
  refine Eq.trans ?_ (congrFun (V_main_arg0 m c) _)
  blk_ext [iblk, idx t, rowOf]

theorem blk_w (t : Fin cfg0.N) (r : Fin 512) (l : Fin 512) :
    (iblk m c 1 t : FVec Ideal S512x512 .f32) (ix2 r l) = (m (c.tc.loc main_arg1) : FVec Ideal S2048x512 .f32) (ix2 (rowOf t r) l) := by
  refine Eq.trans ?_ (congrFun (V_main_arg1 m c) _)
  blk_ext [iblk, idx t, rowOf]

theorem blk_m (t : Fin cfg0.N) (r : Fin 512) (l : Fin 512) :
    (iblk m c 2 t : FVec Ideal S512x512 .f32) (ix2 r l) = (m (c.tc.loc main_arg2) : FVec Ideal S2048x512 .f32) (ix2 (rowOf t r) l) := by
  refine Eq.trans ?_ (congrFun (V_main_arg2 m c) _)
  blk_ext [iblk, idx t, rowOf]

theorem blk_v (t : Fin cfg0.N) (r : Fin 512) (l : Fin 512) :
    (iblk m c 3 t : FVec Ideal S512x512 .f32) (ix2 r l) = (m (c.tc.loc main_arg3) : FVec Ideal S2048x512 .f32) (ix2 (rowOf t r) l) := by
  refine Eq.trans ?_ (congrFun (V_main_arg3 m c) _)
  blk_ext [iblk, idx t, rowOf]

/-- A block's gradient is the array's. -/
theorem grad_blk (t : Fin cfg0.N) (r : Fin 512) (l : Fin 512) :
    k0_pay5 (F := Ideal) (iblk m c 0 t) (iblk m c 1 t) (iblk m c 2 t) (iblk m c 3 t) (ix2 r l) = gradient (R := 2048) (C := 512) (φ := .bf16) (m (c.tc.loc main_arg0) : FVec Ideal S8x2048x512 .bf16) (ix2 (rowOf t r) l) :=
  (grad_apply _ _ _ _ r l).trans (congrArg grad (funext fun s => blk_p m c t s r l))

/-- A point's block of the gradient is the array's. -/
theorem out_grad (t : Fin cfg0.N) (y : S512x512.Idx) (i : S2048x512.Idx) (h0 : (i 0 : ℕ) = t.val * 512 + (y 0).val) (h1 : (i 1 : ℕ) = (y 1).val) :
    out0_4 (F := Ideal) (iblk m c 0 t) (iblk m c 1 t) (iblk m c 2 t) (iblk m c 3 t) y = gradient (R := 2048) (C := 512) (φ := .bf16) (m (c.tc.loc main_arg0) : FVec Ideal S8x2048x512 .bf16) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S512x512.Idx) (i : S2048x512.Idx) (h0 : (i 0 : ℕ) = t.val * 512 + (y 0).val) (h1 : (i 1 : ℕ) = (y 1).val) :
    out0_5 (F := Ideal) (iblk m c 0 t) (iblk m c 1 t) (iblk m c 2 t) (iblk m c 3 t) y = change (R := 2048) (C := 512) (φ := .bf16) (m (c.tc.loc main_arg0) : FVec Ideal S8x2048x512 .bf16) (m (c.tc.loc main_arg1)) (m (c.tc.loc main_arg2)) (m (c.tc.loc main_arg3)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S512x512.Idx) (i : S2048x512.Idx) (h0 : (i 0 : ℕ) = t.val * 512 + (y 0).val) (h1 : (i 1 : ℕ) = (y 1).val) :
    out0_6 (F := Ideal) (iblk m c 0 t) (iblk m c 1 t) (iblk m c 2 t) (iblk m c 3 t) y = moment₁ (R := 2048) (C := 512) (φ := .bf16) (m (c.tc.loc main_arg0) : FVec Ideal S8x2048x512 .bf16) (m (c.tc.loc main_arg2)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S512x512.Idx) (i : S2048x512.Idx) (h0 : (i 0 : ℕ) = t.val * 512 + (y 0).val) (h1 : (i 1 : ℕ) = (y 1).val) :
    out0_7 (F := Ideal) (iblk m c 0 t) (iblk m c 1 t) (iblk m c 2 t) (iblk m c 3 t) y = moment₂ (R := 2048) (C := 512) (φ := .bf16) (m (c.tc.loc main_arg0) : FVec Ideal S8x2048x512 .bf16) (m (c.tc.loc main_arg3)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 2048) (C := 512) (φ := .bf16) (m (c.tc.loc main_arg0) : FVec Ideal S8x2048x512 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 2048) (C := 512) (φ := .bf16) (m (c.tc.loc main_arg0) : FVec Ideal S8x2048x512 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 2048) (C := 512) (φ := .bf16) (m (c.tc.loc main_arg0) : FVec Ideal S8x2048x512 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 2048) (C := 512) (φ := .bf16) (m (c.tc.loc main_arg0) : FVec Ideal S8x2048x512 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel13Ideal.Step

namespace Cert.Reference13Ideal.Step

open Idealize.ShloMosaic Idealize.ShloMosaic.TcCoe Cert.Reference13Ideal Cert.Reference13Ideal.Gen Cert.Optimiser

/-! ## The reference -/

/-- The reference's gradient. -/
def g (p : FVec Ideal S8x2048x512 .bf16) : FVec Ideal S2048x512 .f32 :=
  Host.reduceAdd (extf (F := Ideal) .f32 p bitsLt_bf16_f32) (constant (F := Ideal) S_ .f32 0x00000000#32) reducesTo_S8x2048x512_S2048x512_d0 h_S_
/-- The reference's first moment. -/
def m₁ (p : FVec Ideal S8x2048x512 .bf16) (m : FVec Ideal S2048x512 .f32) : FVec Ideal S2048x512 .f32 :=
  addf (mulf (broadcastInDim S2048x512 ![] bcast_S_S2048x512 (constant (F := Ideal) S_ .f32 0x3F666666#32)) m) (mulf (broadcastInDim S2048x512 ![] bcast_S_S2048x512 (constant (F := Ideal) S_ .f32 0x3DCCCCCD#32)) (g p))
/-- The reference's second moment. -/
def m₂ (p : FVec Ideal S8x2048x512 .bf16) (v : FVec Ideal S2048x512 .f32) : FVec Ideal S2048x512 .f32 :=
  addf (mulf (broadcastInDim S2048x512 ![] bcast_S_S2048x512 (constant (F := Ideal) S_ .f32 0x3F7FBE77#32)) v) (mulf (broadcastInDim S2048x512 ![] bcast_S_S2048x512 (constant (F := Ideal) S_ .f32 0x3A83126F#32)) (mulf (g p) (g p)))
/-- The reference's change of the weight. -/
def d (w a b : FVec Ideal S2048x512 .f32) : FVec Ideal S2048x512 .f32 :=
  mulf (broadcastInDim S2048x512 ![] bcast_S_S2048x512 (constant (F := Ideal) S_ .f32 0xBA83126F#32))
    (addf (Host.divf (Host.divf a (broadcastInDim S2048x512 ![] bcast_S_S2048x512 (constant (F := Ideal) S_ .f32 0x3F26BD02#32)))
        (addf (Host.sqrt (Host.divf b (broadcastInDim S2048x512 ![] bcast_S_S2048x512 (constant (F := Ideal) S_ .f32 0x3C231ACC#32)))) (broadcastInDim S2048x512 ![] bcast_S_S2048x512 (constant (F := Ideal) S_ .f32 0x322BCC77#32))))
      (mulf (broadcastInDim S2048x512 ![] bcast_S_S2048x512 (constant (F := Ideal) S_ .f32 0x3C23D70A#32)) w))

theorem g_eq (p : FVec Ideal S8x2048x512 .bf16) : g p = gradient p := by
  funext i
  obtain ⟨r, l, rfl⟩ : ∃ (r : Fin 2048) (l : Fin 512), i = ix2 r l := ⟨i 0, i 1, eq_ix2 i⟩
  pointwise [g, gradient, grad]

theorem m₁_eq (p : FVec Ideal S8x2048x512 .bf16) (m : FVec Ideal S2048x512 .f32) : m₁ p m = moment₁ p m := by
  funext i
  rw [m₁, g_eq, moment₁]
  generalize gradient p = q
  obtain ⟨r, l, rfl⟩ : ∃ (r : Fin 2048) (l : Fin 512), i = ix2 r l := ⟨i 0, i 1, eq_ix2 i⟩
  pointwise [first]

theorem m₂_eq (p : FVec Ideal S8x2048x512 .bf16) (v : FVec Ideal S2048x512 .f32) : m₂ p v = moment₂ p v := by
  funext i
  rw [m₂, g_eq, moment₂]
  generalize gradient p = q
  obtain ⟨r, l, rfl⟩ : ∃ (r : Fin 2048) (l : Fin 512), i = ix2 r l := ⟨i 0, i 1, eq_ix2 i⟩
  pointwise [second]

theorem d_eq (w a b : FVec Ideal S2048x512 .f32) (i : S2048x512.Idx) : d w a b i = delta (w i) (a i) (b i) := by
  obtain ⟨r, l, rfl⟩ : ∃ (r : Fin 2048) (l : Fin 512), i = ix2 r l := ⟨i 0, i 1, eq_ix2 i⟩
  pointwise [d, delta]

theorem change_eq (p : FVec Ideal S8x2048x512 .bf16) (w m v : FVec Ideal S2048x512 .f32) : d w (m₁ p m) (m₂ p v) = change p w m v := by
  funext i
  rw [d_eq, m₁_eq, m₂_eq]
  rfl

end Cert.Reference13Ideal.Step

namespace Cert.OptimiserWBranch

open Idealize.ShloMosaic Idealize.ShloMosaic.TcCoe Idealize.SL.Sem Cert.Reference13Ideal Cert.Reference13Ideal.Gen Cert.Reference13Ideal.Value Cert.Reference13Ideal.Step

/-- The reference's frame: it changes no argument and leaves no semaphore raised. -/
theorem reference_frame : Cert.quiescent_Reference13Ideal :=
  fun m ρ _ => (θ_run Cert.Reference13Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel13Ideal_Reference13Ideal := by
  intro m ρ m' ρ' _ hagree
  refine ⟨_, _, _, _, Cert.Kernel13Ideal.Value.run_blocks (F := Ideal) m ρ,
    (θ_run Cert.Reference13Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel13Ideal.Step.final_gradient m c).symm, k₁.trans (Cert.Kernel13Ideal.Step.final_change m c).symm,
    k₂.trans (Cert.Kernel13Ideal.Step.final_moment1 m c).symm, k₃.trans (Cert.Kernel13Ideal.Step.final_moment2 m c).symm, h⟩

end Cert.OptimiserWBranch

end
-- ==== Proof.OptWKvb.lean ====
/-
  The optimiser's call for w_kv_b: what the call leaves in its four results, what the reference leaves, and the claims.
-/
module

public import proofs.«01_k».proof.Defs
public import proofs.«01_k».proof.Proof.Optimiser
public import proofs.«01_k».proof.Proof.Gen.Kernel12Ideal.Value
public import proofs.«01_k».proof.Proof.Gen.Reference12Ideal.Run
public import Idealize.ShloMosaic.Lib.Quiescent
public import Idealize.ShloMosaic.Adequacy

@[expose] public section

set_option maxRecDepth 16384

noncomputable section

namespace Cert.Kernel12Ideal.Step

open Idealize.ShloMosaic Idealize.ShloMosaic.TcCoe Cert.Kernel12Ideal Cert.Kernel12Ideal.Gen Cert.Optimiser

/-! ## One block -/

/-- A block's gradient. -/
theorem grad_apply (x0 : Vec Ideal S8x512x512 .bf16) (x1 x2 x3 : Vec Ideal S512x512 .f32) (r : Fin 512) (l : Fin 512) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S512x512 .f32) (r : Fin 512) (l : Fin 512) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S512x512 .f32) (r : Fin 512) (l : Fin 512) :
    k0_pay2 (F := Ideal) g x (ix2 r l) = second (x (ix2 r l)) (g (ix2 r l)) := by
  pointwise [k0_pay2, second]

/-- A block's change of the weight. -/
theorem delta_apply (g x y w : FVec Ideal S512x512 .f32) (r : Fin 512) (l : Fin 512) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A block's row in the whole array: row `r` (there is one block). -/
def rowOf (t : Fin cfg0.N) (r : Fin 512) : Fin 512 := r

theorem blk_p (t : Fin cfg0.N) (s : Fin 8) (r : Fin 512) (l : Fin 512) :
    (iblk m c 0 t : FVec Ideal S8x512x512 .bf16) (ix3 s r l) = (m (c.tc.loc main_arg0) : FVec Ideal S8x512x512 .bf16) (ix3 s (rowOf t r) l) := by
  refine Eq.trans ?_ (congrFun (V_main_arg0 m c) _)
  blk_ext [iblk, idx t, rowOf]

theorem blk_w (t : Fin cfg0.N) (r : Fin 512) (l : Fin 512) :
    (iblk m c 1 t : FVec Ideal S512x512 .f32) (ix2 r l) = (m (c.tc.loc main_arg1) : FVec Ideal S512x512 .f32) (ix2 (rowOf t r) l) := by
  refine Eq.trans ?_ (congrFun (V_main_arg1 m c) _)
  blk_ext [iblk, idx t, rowOf]

theorem blk_m (t : Fin cfg0.N) (r : Fin 512) (l : Fin 512) :
    (iblk m c 2 t : FVec Ideal S512x512 .f32) (ix2 r l) = (m (c.tc.loc main_arg2) : FVec Ideal S512x512 .f32) (ix2 (rowOf t r) l) := by
  refine Eq.trans ?_ (congrFun (V_main_arg2 m c) _)
  blk_ext [iblk, idx t, rowOf]

theorem blk_v (t : Fin cfg0.N) (r : Fin 512) (l : Fin 512) :
    (iblk m c 3 t : FVec Ideal S512x512 .f32) (ix2 r l) = (m (c.tc.loc main_arg3) : FVec Ideal S512x512 .f32) (ix2 (rowOf t r) l) := by
  refine Eq.trans ?_ (congrFun (V_main_arg3 m c) _)
  blk_ext [iblk, idx t, rowOf]

/-- A block's gradient is the array's. -/
theorem grad_blk (t : Fin cfg0.N) (r : Fin 512) (l : Fin 512) :
    k0_pay5 (F := Ideal) (iblk m c 0 t) (iblk m c 1 t) (iblk m c 2 t) (iblk m c 3 t) (ix2 r l) = gradient (R := 512) (C := 512) (φ := .bf16) (m (c.tc.loc main_arg0) : FVec Ideal S8x512x512 .bf16) (ix2 (rowOf t r) l) :=
  (grad_apply _ _ _ _ r l).trans (congrArg grad (funext fun s => blk_p m c t s r l))

/-- A point's block of the gradient is the array's. -/
theorem out_grad (t : Fin cfg0.N) (y : S512x512.Idx) (i : S512x512.Idx) (h0 : (i 0 : ℕ) = (y 0).val) (h1 : (i 1 : ℕ) = (y 1).val) :
    out0_4 (F := Ideal) (iblk m c 0 t) (iblk m c 1 t) (iblk m c 2 t) (iblk m c 3 t) y = gradient (R := 512) (C := 512) (φ := .bf16) (m (c.tc.loc main_arg0) : FVec Ideal S8x512x512 .bf16) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S512x512.Idx) (i : S512x512.Idx) (h0 : (i 0 : ℕ) = (y 0).val) (h1 : (i 1 : ℕ) = (y 1).val) :
    out0_5 (F := Ideal) (iblk m c 0 t) (iblk m c 1 t) (iblk m c 2 t) (iblk m c 3 t) y = change (R := 512) (C := 512) (φ := .bf16) (m (c.tc.loc main_arg0) : FVec Ideal S8x512x512 .bf16) (m (c.tc.loc main_arg1)) (m (c.tc.loc main_arg2)) (m (c.tc.loc main_arg3)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S512x512.Idx) (i : S512x512.Idx) (h0 : (i 0 : ℕ) = (y 0).val) (h1 : (i 1 : ℕ) = (y 1).val) :
    out0_6 (F := Ideal) (iblk m c 0 t) (iblk m c 1 t) (iblk m c 2 t) (iblk m c 3 t) y = moment₁ (R := 512) (C := 512) (φ := .bf16) (m (c.tc.loc main_arg0) : FVec Ideal S8x512x512 .bf16) (m (c.tc.loc main_arg2)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S512x512.Idx) (i : S512x512.Idx) (h0 : (i 0 : ℕ) = (y 0).val) (h1 : (i 1 : ℕ) = (y 1).val) :
    out0_7 (F := Ideal) (iblk m c 0 t) (iblk m c 1 t) (iblk m c 2 t) (iblk m c 3 t) y = moment₂ (R := 512) (C := 512) (φ := .bf16) (m (c.tc.loc main_arg0) : FVec Ideal S8x512x512 .bf16) (m (c.tc.loc main_arg3)) i := by
  obtain ⟨r, l, rfl⟩ : ∃ (r : Fin 512) (l : Fin 512), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 512) (C := 512) (φ := .bf16) (m (c.tc.loc main_arg0) : FVec Ideal S8x512x512 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 512) (C := 512) (φ := .bf16) (m (c.tc.loc main_arg0) : FVec Ideal S8x512x512 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 512) (C := 512) (φ := .bf16) (m (c.tc.loc main_arg0) : FVec Ideal S8x512x512 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 512) (C := 512) (φ := .bf16) (m (c.tc.loc main_arg0) : FVec Ideal S8x512x512 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel12Ideal.Step

namespace Cert.Reference12Ideal.Step

open Idealize.ShloMosaic Idealize.ShloMosaic.TcCoe Cert.Reference12Ideal Cert.Reference12Ideal.Gen Cert.Optimiser

/-! ## The reference -/

/-- The reference's gradient. -/
def g (p : FVec Ideal S8x512x512 .bf16) : FVec Ideal S512x512 .f32 :=
  Host.reduceAdd (extf (F := Ideal) .f32 p bitsLt_bf16_f32) (constant (F := Ideal) S_ .f32 0x00000000#32) reducesTo_S8x512x512_S512x512_d0 h_S_
/-- The reference's first moment. -/
def m₁ (p : FVec Ideal S8x512x512 .bf16) (m : FVec Ideal S512x512 .f32) : FVec Ideal S512x512 .f32 :=
  addf (mulf (broadcastInDim S512x512 ![] bcast_S_S512x512 (constant (F := Ideal) S_ .f32 0x3F666666#32)) m) (mulf (broadcastInDim S512x512 ![] bcast_S_S512x512 (constant (F := Ideal) S_ .f32 0x3DCCCCCD#32)) (g p))
/-- The reference's second moment. -/
def m₂ (p : FVec Ideal S8x512x512 .bf16) (v : FVec Ideal S512x512 .f32) : FVec Ideal S512x512 .f32 :=
  addf (mulf (broadcastInDim S512x512 ![] bcast_S_S512x512 (constant (F := Ideal) S_ .f32 0x3F7FBE77#32)) v) (mulf (broadcastInDim S512x512 ![] bcast_S_S512x512 (constant (F := Ideal) S_ .f32 0x3A83126F#32)) (mulf (g p) (g p)))
/-- The reference's change of the weight. -/
def d (w a b : FVec Ideal S512x512 .f32) : FVec Ideal S512x512 .f32 :=
  mulf (broadcastInDim S512x512 ![] bcast_S_S512x512 (constant (F := Ideal) S_ .f32 0xBA83126F#32))
    (addf (Host.divf (Host.divf a (broadcastInDim S512x512 ![] bcast_S_S512x512 (constant (F := Ideal) S_ .f32 0x3F26BD02#32)))
        (addf (Host.sqrt (Host.divf b (broadcastInDim S512x512 ![] bcast_S_S512x512 (constant (F := Ideal) S_ .f32 0x3C231ACC#32)))) (broadcastInDim S512x512 ![] bcast_S_S512x512 (constant (F := Ideal) S_ .f32 0x322BCC77#32))))
      (mulf (broadcastInDim S512x512 ![] bcast_S_S512x512 (constant (F := Ideal) S_ .f32 0x3C23D70A#32)) w))

theorem g_eq (p : FVec Ideal S8x512x512 .bf16) : g p = gradient p := by
  funext i
  obtain ⟨r, l, rfl⟩ : ∃ (r : Fin 512) (l : Fin 512), i = ix2 r l := ⟨i 0, i 1, eq_ix2 i⟩
  pointwise [g, gradient, grad]

theorem m₁_eq (p : FVec Ideal S8x512x512 .bf16) (m : FVec Ideal S512x512 .f32) : m₁ p m = moment₁ p m := by
  funext i
  rw [m₁, g_eq, moment₁]
  generalize gradient p = q
  obtain ⟨r, l, rfl⟩ : ∃ (r : Fin 512) (l : Fin 512), i = ix2 r l := ⟨i 0, i 1, eq_ix2 i⟩
  pointwise [first]

theorem m₂_eq (p : FVec Ideal S8x512x512 .bf16) (v : FVec Ideal S512x512 .f32) : m₂ p v = moment₂ p v := by
  funext i
  rw [m₂, g_eq, moment₂]
  generalize gradient p = q
  obtain ⟨r, l, rfl⟩ : ∃ (r : Fin 512) (l : Fin 512), i = ix2 r l := ⟨i 0, i 1, eq_ix2 i⟩
  pointwise [second]

theorem d_eq (w a b : FVec Ideal S512x512 .f32) (i : S512x512.Idx) : d w a b i = delta (w i) (a i) (b i) := by
  obtain ⟨r, l, rfl⟩ : ∃ (r : Fin 512) (l : Fin 512), i = ix2 r l := ⟨i 0, i 1, eq_ix2 i⟩
  pointwise [d, delta]

theorem change_eq (p : FVec Ideal S8x512x512 .bf16) (w m v : FVec Ideal S512x512 .f32) : d w (m₁ p m) (m₂ p v) = change p w m v := by
  funext i
  rw [d_eq, m₁_eq, m₂_eq]
  rfl

end Cert.Reference12Ideal.Step

namespace Cert.OptimiserWKvb

open Idealize.ShloMosaic Idealize.ShloMosaic.TcCoe Idealize.SL.Sem Cert.Reference12Ideal Cert.Reference12Ideal.Gen Cert.Reference12Ideal.Value Cert.Reference12Ideal.Step

/-- The reference's frame: it changes no argument and leaves no semaphore raised. -/
theorem reference_frame : Cert.quiescent_Reference12Ideal :=
  fun m ρ _ => (θ_run Cert.Reference12Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel12Ideal_Reference12Ideal := by
  intro m ρ m' ρ' _ hagree
  refine ⟨_, _, _, _, Cert.Kernel12Ideal.Value.run_blocks (F := Ideal) m ρ,
    (θ_run Cert.Reference12Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel12Ideal.Step.final_gradient m c).symm, k₁.trans (Cert.Kernel12Ideal.Step.final_change m c).symm,
    k₂.trans (Cert.Kernel12Ideal.Step.final_moment1 m c).symm, k₃.trans (Cert.Kernel12Ideal.Step.final_moment2 m c).symm, h⟩

end Cert.OptimiserWKvb

end
-- ==== Proof.OptWQb.lean ====
/-
  The optimiser's call for w_q_b: what the call leaves in its four results, what the reference leaves, and the claims.
-/
module

public import proofs.«01_k».proof.Defs
public import proofs.«01_k».proof.Proof.Optimiser
public import proofs.«01_k».proof.Proof.Gen.Kernel11Ideal.Value
public import proofs.«01_k».proof.Proof.Gen.Reference11Ideal.Run
public import Idealize.ShloMosaic.Lib.Quiescent
public import Idealize.ShloMosaic.Adequacy

@[expose] public section

set_option maxRecDepth 16384

noncomputable section

namespace Cert.Kernel11Ideal.Step

open Idealize.ShloMosaic Idealize.ShloMosaic.TcCoe Cert.Kernel11Ideal Cert.Kernel11Ideal.Gen Cert.Optimiser

/-! ## One block -/

/-- A block's gradient. -/
theorem grad_apply (x0 : Vec Ideal S8x512x384 .bf16) (x1 x2 x3 : Vec Ideal S512x384 .f32) (r : Fin 512) (l : Fin 384) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S512x384 .f32) (r : Fin 512) (l : Fin 384) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S512x384 .f32) (r : Fin 512) (l : Fin 384) :
    k0_pay2 (F := Ideal) g x (ix2 r l) = second (x (ix2 r l)) (g (ix2 r l)) := by
  pointwise [k0_pay2, second]

/-- A block's change of the weight. -/
theorem delta_apply (g x y w : FVec Ideal S512x384 .f32) (r : Fin 512) (l : Fin 384) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `512 * t + r`. -/
def rowOf (t : Fin cfg0.N) (r : Fin 512) : Fin 1024 := ⟨t.val * 512 + r, by have := lt_of_lt_of_eq t.isLt N_0; omega⟩

theorem blk_p (t : Fin cfg0.N) (s : Fin 8) (r : Fin 512) (l : Fin 384) :
    (iblk m c 0 t : FVec Ideal S8x512x384 .bf16) (ix3 s r l) = (m (c.tc.loc main_arg0) : FVec Ideal S8x1024x384 .bf16) (ix3 s (rowOf t r) l) := by
  refine Eq.trans ?_ (congrFun (V_main_arg0 m c) _)
  blk_ext [iblk, idx t, rowOf]

theorem blk_w (t : Fin cfg0.N) (r : Fin 512) (l : Fin 384) :
    (iblk m c 1 t : FVec Ideal S512x384 .f32) (ix2 r l) = (m (c.tc.loc main_arg1) : FVec Ideal S1024x384 .f32) (ix2 (rowOf t r) l) := by
  refine Eq.trans ?_ (congrFun (V_main_arg1 m c) _)
  blk_ext [iblk, idx t, rowOf]

theorem blk_m (t : Fin cfg0.N) (r : Fin 512) (l : Fin 384) :
    (iblk m c 2 t : FVec Ideal S512x384 .f32) (ix2 r l) = (m (c.tc.loc main_arg2) : FVec Ideal S1024x384 .f32) (ix2 (rowOf t r) l) := by
  refine Eq.trans ?_ (congrFun (V_main_arg2 m c) _)
  blk_ext [iblk, idx t, rowOf]

theorem blk_v (t : Fin cfg0.N) (r : Fin 512) (l : Fin 384) :
    (iblk m c 3 t : FVec Ideal S512x384 .f32) (ix2 r l) = (m (c.tc.loc main_arg3) : FVec Ideal S1024x384 .f32) (ix2 (rowOf t r) l) := by
  refine Eq.trans ?_ (congrFun (V_main_arg3 m c) _)
  blk_ext [iblk, idx t, rowOf]

/-- A block's gradient is the array's. -/
theorem grad_blk (t : Fin cfg0.N) (r : Fin 512) (l : Fin 384) :
    k0_pay5 (F := Ideal) (iblk m c 0 t) (iblk m c 1 t) (iblk m c 2 t) (iblk m c 3 t) (ix2 r l) = gradient (R := 1024) (C := 384) (φ := .bf16) (m (c.tc.loc main_arg0) : FVec Ideal S8x1024x384 .bf16) (ix2 (rowOf t r) l) :=
  (grad_apply _ _ _ _ r l).trans (congrArg grad (funext fun s => blk_p m c t s r l))

/-- A point's block of the gradient is the array's. -/
theorem out_grad (t : Fin cfg0.N) (y : S512x384.Idx) (i : S1024x384.Idx) (h0 : (i 0 : ℕ) = t.val * 512 + (y 0).val) (h1 : (i 1 : ℕ) = (y 1).val) :
    out0_4 (F := Ideal) (iblk m c 0 t) (iblk m c 1 t) (iblk m c 2 t) (iblk m c 3 t) y = gradient (R := 1024) (C := 384) (φ := .bf16) (m (c.tc.loc main_arg0) : FVec Ideal S8x1024x384 .bf16) i := by
  obtain ⟨r, l, rfl⟩ : ∃ (r : Fin 512) (l : Fin 384), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S512x384.Idx) (i : S1024x384.Idx) (h0 : (i 0 : ℕ) = t.val * 512 + (y 0).val) (h1 : (i 1 : ℕ) = (y 1).val) :
    out0_5 (F := Ideal) (iblk m c 0 t) (iblk m c 1 t) (iblk m c 2 t) (iblk m c 3 t) y = change (R := 1024) (C := 384) (φ := .bf16) (m (c.tc.loc main_arg0) : FVec Ideal S8x1024x384 .bf16) (m (c.tc.loc main_arg1)) (m (c.tc.loc main_arg2)) (m (c.tc.loc main_arg3)) i := by
  obtain ⟨r, l, rfl⟩ : ∃ (r : Fin 512) (l : Fin 384), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S512x384.Idx) (i : S1024x384.Idx) (h0 : (i 0 : ℕ) = t.val * 512 + (y 0).val) (h1 : (i 1 : ℕ) = (y 1).val) :
    out0_6 (F := Ideal) (iblk m c 0 t) (iblk m c 1 t) (iblk m c 2 t) (iblk m c 3 t) y = moment₁ (R := 1024) (C := 384) (φ := .bf16) (m (c.tc.loc main_arg0) : FVec Ideal S8x1024x384 .bf16) (m (c.tc.loc main_arg2)) i := by
  obtain ⟨r, l, rfl⟩ : ∃ (r : Fin 512) (l : Fin 384), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S512x384.Idx) (i : S1024x384.Idx) (h0 : (i 0 : ℕ) = t.val * 512 + (y 0).val) (h1 : (i 1 : ℕ) = (y 1).val) :
    out0_7 (F := Ideal) (iblk m c 0 t) (iblk m c 1 t) (iblk m c 2 t) (iblk m c 3 t) y = moment₂ (R := 1024) (C := 384) (φ := .bf16) (m (c.tc.loc main_arg0) : FVec Ideal S8x1024x384 .bf16) (m (c.tc.loc main_arg3)) i := by
  obtain ⟨r, l, rfl⟩ : ∃ (r : Fin 512) (l : Fin 384), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 1024) (C := 384) (φ := .bf16) (m (c.tc.loc main_arg0) : FVec Ideal S8x1024x384 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 1024) (C := 384) (φ := .bf16) (m (c.tc.loc main_arg0) : FVec Ideal S8x1024x384 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 1024) (C := 384) (φ := .bf16) (m (c.tc.loc main_arg0) : FVec Ideal S8x1024x384 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 1024) (C := 384) (φ := .bf16) (m (c.tc.loc main_arg0) : FVec Ideal S8x1024x384 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel11Ideal.Step

namespace Cert.Reference11Ideal.Step

open Idealize.ShloMosaic Idealize.ShloMosaic.TcCoe Cert.Reference11Ideal Cert.Reference11Ideal.Gen Cert.Optimiser

/-! ## The reference -/

/-- The reference's gradient. -/
def g (p : FVec Ideal S8x1024x384 .bf16) : FVec Ideal S1024x384 .f32 :=
  Host.reduceAdd (extf (F := Ideal) .f32 p bitsLt_bf16_f32) (constant (F := Ideal) S_ .f32 0x00000000#32) reducesTo_S8x1024x384_S1024x384_d0 h_S_
/-- The reference's first moment. -/
def m₁ (p : FVec Ideal S8x1024x384 .bf16) (m : FVec Ideal S1024x384 .f32) : FVec Ideal S1024x384 .f32 :=
  addf (mulf (broadcastInDim S1024x384 ![] bcast_S_S1024x384 (constant (F := Ideal) S_ .f32 0x3F666666#32)) m) (mulf (broadcastInDim S1024x384 ![] bcast_S_S1024x384 (constant (F := Ideal) S_ .f32 0x3DCCCCCD#32)) (g p))
/-- The reference's second moment. -/
def m₂ (p : FVec Ideal S8x1024x384 .bf16) (v : FVec Ideal S1024x384 .f32) : FVec Ideal S1024x384 .f32 :=
  addf (mulf (broadcastInDim S1024x384 ![] bcast_S_S1024x384 (constant (F := Ideal) S_ .f32 0x3F7FBE77#32)) v) (mulf (broadcastInDim S1024x384 ![] bcast_S_S1024x384 (constant (F := Ideal) S_ .f32 0x3A83126F#32)) (mulf (g p) (g p)))
/-- The reference's change of the weight. -/
def d (w a b : FVec Ideal S1024x384 .f32) : FVec Ideal S1024x384 .f32 :=
  mulf (broadcastInDim S1024x384 ![] bcast_S_S1024x384 (constant (F := Ideal) S_ .f32 0xBA83126F#32))
    (addf (Host.divf (Host.divf a (broadcastInDim S1024x384 ![] bcast_S_S1024x384 (constant (F := Ideal) S_ .f32 0x3F26BD02#32)))
        (addf (Host.sqrt (Host.divf b (broadcastInDim S1024x384 ![] bcast_S_S1024x384 (constant (F := Ideal) S_ .f32 0x3C231ACC#32)))) (broadcastInDim S1024x384 ![] bcast_S_S1024x384 (constant (F := Ideal) S_ .f32 0x322BCC77#32))))
      (mulf (broadcastInDim S1024x384 ![] bcast_S_S1024x384 (constant (F := Ideal) S_ .f32 0x3C23D70A#32)) w))

theorem g_eq (p : FVec Ideal S8x1024x384 .bf16) : g p = gradient p := by
  funext i
  obtain ⟨r, l, rfl⟩ : ∃ (r : Fin 1024) (l : Fin 384), i = ix2 r l := ⟨i 0, i 1, eq_ix2 i⟩
  pointwise [g, gradient, grad]

theorem m₁_eq (p : FVec Ideal S8x1024x384 .bf16) (m : FVec Ideal S1024x384 .f32) : m₁ p m = moment₁ p m := by
  funext i
  rw [m₁, g_eq, moment₁]
  generalize gradient p = q
  obtain ⟨r, l, rfl⟩ : ∃ (r : Fin 1024) (l : Fin 384), i = ix2 r l := ⟨i 0, i 1, eq_ix2 i⟩
  pointwise [first]

theorem m₂_eq (p : FVec Ideal S8x1024x384 .bf16) (v : FVec Ideal S1024x384 .f32) : m₂ p v = moment₂ p v := by
  funext i
  rw [m₂, g_eq, moment₂]
  generalize gradient p = q
  obtain ⟨r, l, rfl⟩ : ∃ (r : Fin 1024) (l : Fin 384), i = ix2 r l := ⟨i 0, i 1, eq_ix2 i⟩
  pointwise [second]

theorem d_eq (w a b : FVec Ideal S1024x384 .f32) (i : S1024x384.Idx) : d w a b i = delta (w i) (a i) (b i) := by
  obtain ⟨r, l, rfl⟩ : ∃ (r : Fin 1024) (l : Fin 384), i = ix2 r l := ⟨i 0, i 1, eq_ix2 i⟩
  pointwise [d, delta]

theorem change_eq (p : FVec Ideal S8x1024x384 .bf16) (w m v : FVec Ideal S1024x384 .f32) : d w (m₁ p m) (m₂ p v) = change p w m v := by
  funext i
  rw [d_eq, m₁_eq, m₂_eq]
  rfl

end Cert.Reference11Ideal.Step

namespace Cert.OptimiserWQb

open Idealize.ShloMosaic Idealize.ShloMosaic.TcCoe Idealize.SL.Sem Cert.Reference11Ideal Cert.Reference11Ideal.Gen Cert.Reference11Ideal.Value Cert.Reference11Ideal.Step

/-- The reference's frame: it changes no argument and leaves no semaphore raised. -/
theorem reference_frame : Cert.quiescent_Reference11Ideal :=
  fun m ρ _ => (θ_run Cert.Reference11Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel11Ideal_Reference11Ideal := by
  intro m ρ m' ρ' _ hagree
  refine ⟨_, _, _, _, Cert.Kernel11Ideal.Value.run_blocks (F := Ideal) m ρ,
    (θ_run Cert.Reference11Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel11Ideal.Step.final_gradient m c).symm, k₁.trans (Cert.Kernel11Ideal.Step.final_change m c).symm,
    k₂.trans (Cert.Kernel11Ideal.Step.final_moment1 m c).symm, k₃.trans (Cert.Kernel11Ideal.Step.final_moment2 m c).symm, h⟩

end Cert.OptimiserWQb

end
-- ==== Proof.OptWIn.lean ====
/-
  The optimiser's call for w_in: what the call leaves in its four results, what the reference leaves, and the claims.
-/
module

public import proofs.«01_k».proof.Defs
public import proofs.«01_k».proof.Proof.Optimiser
public import proofs.«01_k».proof.Proof.Gen.Kernel10Ideal.Value
public import proofs.«01_k».proof.Proof.Gen.Reference10Ideal.Run
public import Idealize.ShloMosaic.Lib.Quiescent
public import Idealize.ShloMosaic.Adequacy

@[expose] public section

set_option maxRecDepth 16384

noncomputable section

namespace Cert.Kernel10Ideal.Step

open Idealize.ShloMosaic Idealize.ShloMosaic.TcCoe Cert.Kernel10Ideal Cert.Kernel10Ideal.Gen Cert.Optimiser

/-! ## One block -/

/-- A block's gradient. -/
theorem grad_apply (x0 : Vec Ideal S8x128x1992 .bf16) (x1 x2 x3 : Vec Ideal S128x1992 .f32) (r : Fin 128) (l : Fin 1992) :
    k0_pay5 (F := Ideal) x0 x1 x2 x3 (ix2 r l) = grad fun s => x0 (ix3 s r l) := by
  rw [← grad_eq]
  unfold k0_pay5
  pointwise [k0_pay4]

/-- A block's first moment. -/
theorem first_apply (g x : FVec Ideal S128x1992 .f32) (r : Fin 128) (l : Fin 1992) :
    k0_pay1 (F := Ideal) g x (Scalar.ofBits .f32 0x3F666666#32) (ix2 r l) = first (x (ix2 r l)) (g (ix2 r l)) := by
  pointwise [k0_pay1, first]

/-- A block's second moment. -/
theorem second_apply (g x : FVec Ideal S128x1992 .f32) (r : Fin 128) (l : Fin 1992) :
    k0_pay2 (F := Ideal) g x (ix2 r l) = second (x (ix2 r l)) (g (ix2 r l)) := by
  pointwise [k0_pay2, second]

/-- A block's change of the weight. -/
theorem delta_apply (g x y w : FVec Ideal S128x1992 .f32) (r : Fin 128) (l : Fin 1992) :
    k0_pay3 (F := Ideal) g x (Scalar.ofBits .f32 0x3F666666#32) y w (ix2 r l)
      = delta (w (ix2 r l)) (first (x (ix2 r l)) (g (ix2 r l))) (second (y (ix2 r l)) (g (ix2 r l))) := by
  pointwise [k0_pay3, k0_pay1, k0_pay2, delta, first, second]

/-! ## The blocks at a point -/

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A block's row in the whole array: row `128 * t + r`. -/
def rowOf (t : Fin cfg0.N) (r : Fin 128) : Fin 4096 := ⟨t.val * 128 + r, by have := lt_of_lt_of_eq t.isLt N_0; omega⟩

theorem blk_p (t : Fin cfg0.N) (s : Fin 8) (r : Fin 128) (l : Fin 1992) :
    (iblk m c 0 t : FVec Ideal S8x128x1992 .bf16) (ix3 s r l) = (m (c.tc.loc main_arg0) : FVec Ideal S8x4096x1992 .bf16) (ix3 s (rowOf t r) l) := by
  refine Eq.trans ?_ (congrFun (V_main_arg0 m c) _)
  blk_ext [iblk, idx t, rowOf]

theorem blk_w (t : Fin cfg0.N) (r : Fin 128) (l : Fin 1992) :
    (iblk m c 1 t : FVec Ideal S128x1992 .f32) (ix2 r l) = (m (c.tc.loc main_arg1) : FVec Ideal S4096x1992 .f32) (ix2 (rowOf t r) l) := by
  refine Eq.trans ?_ (congrFun (V_main_arg1 m c) _)
  blk_ext [iblk, idx t, rowOf]

theorem blk_m (t : Fin cfg0.N) (r : Fin 128) (l : Fin 1992) :
    (iblk m c 2 t : FVec Ideal S128x1992 .f32) (ix2 r l) = (m (c.tc.loc main_arg2) : FVec Ideal S4096x1992 .f32) (ix2 (rowOf t r) l) := by
  refine Eq.trans ?_ (congrFun (V_main_arg2 m c) _)
  blk_ext [iblk, idx t, rowOf]

theorem blk_v (t : Fin cfg0.N) (r : Fin 128) (l : Fin 1992) :
    (iblk m c 3 t : FVec Ideal S128x1992 .f32) (ix2 r l) = (m (c.tc.loc main_arg3) : FVec Ideal S4096x1992 .f32) (ix2 (rowOf t r) l) := by
  refine Eq.trans ?_ (congrFun (V_main_arg3 m c) _)
  blk_ext [iblk, idx t, rowOf]

/-- A block's gradient is the array's. -/
theorem grad_blk (t : Fin cfg0.N) (r : Fin 128) (l : Fin 1992) :
    k0_pay5 (F := Ideal) (iblk m c 0 t) (iblk m c 1 t) (iblk m c 2 t) (iblk m c 3 t) (ix2 r l) = gradient (R := 4096) (C := 1992) (φ := .bf16) (m (c.tc.loc main_arg0) : FVec Ideal S8x4096x1992 .bf16) (ix2 (rowOf t r) l) :=
  (grad_apply _ _ _ _ r l).trans (congrArg grad (funext fun s => blk_p m c t s r l))

/-- A point's block of the gradient is the array's. -/
theorem out_grad (t : Fin cfg0.N) (y : S128x1992.Idx) (i : S4096x1992.Idx) (h0 : (i 0 : ℕ) = t.val * 128 + (y 0).val) (h1 : (i 1 : ℕ) = (y 1).val) :
    out0_4 (F := Ideal) (iblk m c 0 t) (iblk m c 1 t) (iblk m c 2 t) (iblk m c 3 t) y = gradient (R := 4096) (C := 1992) (φ := .bf16) (m (c.tc.loc main_arg0) : FVec Ideal S8x4096x1992 .bf16) i := by
  obtain ⟨r, l, rfl⟩ : ∃ (r : Fin 128) (l : Fin 1992), y = ix2 r l := ⟨y 0, y 1, eq_ix2 y⟩
  obtain rfl : i = ix2 (rowOf t r) l := (eq_ix2 i).trans (congrArg₂ ix2 (Fin.ext h0) (Fin.ext h1))
  unfold out0_4
  frame_out
  exact grad_blk m c t r l

/-- A point's block of the weight's change is the array's. -/
theorem out_delta (t : Fin cfg0.N) (y : S128x1992.Idx) (i : S4096x1992.Idx) (h0 : (i 0 : ℕ) = t.val * 128 + (y 0).val) (h1 : (i 1 : ℕ) = (y 1).val) :
    out0_5 (F := Ideal) (iblk m c 0 t) (iblk m c 1 t) (iblk m c 2 t) (iblk m c 3 t) y = change (R := 4096) (C := 1992) (φ := .bf16) (m (c.tc.loc main_arg0) : FVec Ideal S8x4096x1992 .bf16) (m (c.tc.loc main_arg1)) (m (c.tc.loc main_arg2)) (m (c.tc.loc main_arg3)) i := by
  obtain ⟨r, l, rfl⟩ : ∃ (r : Fin 128) (l : Fin 1992), y = ix2 r l := ⟨y 0, y 1, eq_ix2 y⟩
  obtain rfl : i = ix2 (rowOf t r) l := (eq_ix2 i).trans (congrArg₂ ix2 (Fin.ext h0) (Fin.ext h1))
  unfold out0_5
  frame_out
  refine (delta_apply _ _ _ _ r l).trans ?_
  exact congr (congrArg₂ delta (blk_w m c t r l) (congrArg₂ first (blk_m m c t r l) (grad_blk m c t r l)))
    (congrArg₂ second (blk_v m c t r l) (grad_blk m c t r l))

/-- A point's block of the first moment is the array's. -/
theorem out_first (t : Fin cfg0.N) (y : S128x1992.Idx) (i : S4096x1992.Idx) (h0 : (i 0 : ℕ) = t.val * 128 + (y 0).val) (h1 : (i 1 : ℕ) = (y 1).val) :
    out0_6 (F := Ideal) (iblk m c 0 t) (iblk m c 1 t) (iblk m c 2 t) (iblk m c 3 t) y = moment₁ (R := 4096) (C := 1992) (φ := .bf16) (m (c.tc.loc main_arg0) : FVec Ideal S8x4096x1992 .bf16) (m (c.tc.loc main_arg2)) i := by
  obtain ⟨r, l, rfl⟩ : ∃ (r : Fin 128) (l : Fin 1992), y = ix2 r l := ⟨y 0, y 1, eq_ix2 y⟩
  obtain rfl : i = ix2 (rowOf t r) l := (eq_ix2 i).trans (congrArg₂ ix2 (Fin.ext h0) (Fin.ext h1))
  unfold out0_6
  frame_out
  exact (first_apply _ _ r l).trans (congrArg₂ first (blk_m m c t r l) (grad_blk m c t r l))

/-- A point's block of the second moment is the array's. -/
theorem out_second (t : Fin cfg0.N) (y : S128x1992.Idx) (i : S4096x1992.Idx) (h0 : (i 0 : ℕ) = t.val * 128 + (y 0).val) (h1 : (i 1 : ℕ) = (y 1).val) :
    out0_7 (F := Ideal) (iblk m c 0 t) (iblk m c 1 t) (iblk m c 2 t) (iblk m c 3 t) y = moment₂ (R := 4096) (C := 1992) (φ := .bf16) (m (c.tc.loc main_arg0) : FVec Ideal S8x4096x1992 .bf16) (m (c.tc.loc main_arg3)) i := by
  obtain ⟨r, l, rfl⟩ : ∃ (r : Fin 128) (l : Fin 1992), y = ix2 r l := ⟨y 0, y 1, eq_ix2 y⟩
  obtain rfl : i = ix2 (rowOf t r) l := (eq_ix2 i).trans (congrArg₂ ix2 (Fin.ext h0) (Fin.ext h1))
  unfold out0_7
  frame_out
  exact (second_apply _ _ r l).trans (congrArg₂ second (blk_v m c t r l) (grad_blk m c t r l))

/-! ## The four results -/

/-- The gradient. -/
theorem final_gradient : (dats m 0 c).arrAt 4 cfg0.N = gradient (R := 4096) (C := 1992) (φ := .bf16) (m (c.tc.loc main_arg0) : FVec Ideal S8x4096x1992 .bf16) := by
  refine (dats m 0 c).arrAt_eq_of_covers 4 _ (by decide +kernel) fun t hf y => ?_
  blk_simp
  rw [after0_4]
  exact out_grad m c t y _ (by blk_simp [idx t]) (by blk_simp [idx t])

/-- The weight's change. -/
theorem final_change : (dats m 0 c).arrAt 5 cfg0.N = change (R := 4096) (C := 1992) (φ := .bf16) (m (c.tc.loc main_arg0) : FVec Ideal S8x4096x1992 .bf16) (m (c.tc.loc main_arg1)) (m (c.tc.loc main_arg2)) (m (c.tc.loc main_arg3)) := by
  refine (dats m 0 c).arrAt_eq_of_covers 5 _ (by decide +kernel) fun t hf y => ?_
  blk_simp
  rw [after0_5]
  exact out_delta m c t y _ (by blk_simp [idx t]) (by blk_simp [idx t])

/-- The first moment. -/
theorem final_moment1 : (dats m 0 c).arrAt 6 cfg0.N = moment₁ (R := 4096) (C := 1992) (φ := .bf16) (m (c.tc.loc main_arg0) : FVec Ideal S8x4096x1992 .bf16) (m (c.tc.loc main_arg2)) := by
  refine (dats m 0 c).arrAt_eq_of_covers 6 _ (by decide +kernel) fun t hf y => ?_
  blk_simp
  rw [after0_6]
  exact out_first m c t y _ (by blk_simp [idx t]) (by blk_simp [idx t])

/-- The second moment. -/
theorem final_moment2 : (dats m 0 c).arrAt 7 cfg0.N = moment₂ (R := 4096) (C := 1992) (φ := .bf16) (m (c.tc.loc main_arg0) : FVec Ideal S8x4096x1992 .bf16) (m (c.tc.loc main_arg3)) := by
  refine (dats m 0 c).arrAt_eq_of_covers 7 _ (by decide +kernel) fun t hf y => ?_
  blk_simp
  rw [after0_7]
  exact out_second m c t y _ (by blk_simp [idx t]) (by blk_simp [idx t])

end Cert.Kernel10Ideal.Step

namespace Cert.Reference10Ideal.Step

open Idealize.ShloMosaic Idealize.ShloMosaic.TcCoe Cert.Reference10Ideal Cert.Reference10Ideal.Gen Cert.Optimiser

/-! ## The reference -/

/-- The reference's gradient. -/
def g (p : FVec Ideal S8x4096x1992 .bf16) : FVec Ideal S4096x1992 .f32 :=
  Host.reduceAdd (extf (F := Ideal) .f32 p bitsLt_bf16_f32) (constant (F := Ideal) S_ .f32 0x00000000#32) reducesTo_S8x4096x1992_S4096x1992_d0 h_S_
/-- The reference's first moment. -/
def m₁ (p : FVec Ideal S8x4096x1992 .bf16) (m : FVec Ideal S4096x1992 .f32) : FVec Ideal S4096x1992 .f32 :=
  addf (mulf (broadcastInDim S4096x1992 ![] bcast_S_S4096x1992 (constant (F := Ideal) S_ .f32 0x3F666666#32)) m) (mulf (broadcastInDim S4096x1992 ![] bcast_S_S4096x1992 (constant (F := Ideal) S_ .f32 0x3DCCCCCD#32)) (g p))
/-- The reference's second moment. -/
def m₂ (p : FVec Ideal S8x4096x1992 .bf16) (v : FVec Ideal S4096x1992 .f32) : FVec Ideal S4096x1992 .f32 :=
  addf (mulf (broadcastInDim S4096x1992 ![] bcast_S_S4096x1992 (constant (F := Ideal) S_ .f32 0x3F7FBE77#32)) v) (mulf (broadcastInDim S4096x1992 ![] bcast_S_S4096x1992 (constant (F := Ideal) S_ .f32 0x3A83126F#32)) (mulf (g p) (g p)))
/-- The reference's change of the weight. -/
def d (w a b : FVec Ideal S4096x1992 .f32) : FVec Ideal S4096x1992 .f32 :=
  mulf (broadcastInDim S4096x1992 ![] bcast_S_S4096x1992 (constant (F := Ideal) S_ .f32 0xBA83126F#32))
    (addf (Host.divf (Host.divf a (broadcastInDim S4096x1992 ![] bcast_S_S4096x1992 (constant (F := Ideal) S_ .f32 0x3F26BD02#32)))
        (addf (Host.sqrt (Host.divf b (broadcastInDim S4096x1992 ![] bcast_S_S4096x1992 (constant (F := Ideal) S_ .f32 0x3C231ACC#32)))) (broadcastInDim S4096x1992 ![] bcast_S_S4096x1992 (constant (F := Ideal) S_ .f32 0x322BCC77#32))))
      (mulf (broadcastInDim S4096x1992 ![] bcast_S_S4096x1992 (constant (F := Ideal) S_ .f32 0x3C23D70A#32)) w))

theorem g_eq (p : FVec Ideal S8x4096x1992 .bf16) : g p = gradient p := by
  funext i
  obtain ⟨r, l, rfl⟩ : ∃ (r : Fin 4096) (l : Fin 1992), i = ix2 r l := ⟨i 0, i 1, eq_ix2 i⟩
  pointwise [g, gradient, grad]

theorem m₁_eq (p : FVec Ideal S8x4096x1992 .bf16) (m : FVec Ideal S4096x1992 .f32) : m₁ p m = moment₁ p m := by
  funext i
  rw [m₁, g_eq, moment₁]
  generalize gradient p = q
  obtain ⟨r, l, rfl⟩ : ∃ (r : Fin 4096) (l : Fin 1992), i = ix2 r l := ⟨i 0, i 1, eq_ix2 i⟩
  pointwise [first]

theorem m₂_eq (p : FVec Ideal S8x4096x1992 .bf16) (v : FVec Ideal S4096x1992 .f32) : m₂ p v = moment₂ p v := by
  funext i
  rw [m₂, g_eq, moment₂]
  generalize gradient p = q
  obtain ⟨r, l, rfl⟩ : ∃ (r : Fin 4096) (l : Fin 1992), i = ix2 r l := ⟨i 0, i 1, eq_ix2 i⟩
  pointwise [second]

theorem d_eq (w a b : FVec Ideal S4096x1992 .f32) (i : S4096x1992.Idx) : d w a b i = delta (w i) (a i) (b i) := by
  obtain ⟨r, l, rfl⟩ : ∃ (r : Fin 4096) (l : Fin 1992), i = ix2 r l := ⟨i 0, i 1, eq_ix2 i⟩
  pointwise [d, delta]

theorem change_eq (p : FVec Ideal S8x4096x1992 .bf16) (w m v : FVec Ideal S4096x1992 .f32) : d w (m₁ p m) (m₂ p v) = change p w m v := by
  funext i
  rw [d_eq, m₁_eq, m₂_eq]
  rfl

end Cert.Reference10Ideal.Step

namespace Cert.OptimiserWIn

open Idealize.ShloMosaic Idealize.ShloMosaic.TcCoe Idealize.SL.Sem Cert.Reference10Ideal Cert.Reference10Ideal.Gen Cert.Reference10Ideal.Value Cert.Reference10Ideal.Step

/-- The reference's frame: it changes no argument and leaves no semaphore raised. -/
theorem reference_frame : Cert.quiescent_Reference10Ideal :=
  fun m ρ _ => (θ_run Cert.Reference10Ideal.defs _ _).mono (fun r h => ⟨fun c => (h c).2.2.2.2, sem_eq_zero_of_no_sems (by decide) r.2⟩)
    (Value.run (F := Ideal) m ρ)

/-- The call and the reference leave the same gradient, change of the weight and moments. -/
theorem algebraic : Cert.algebraic_Kernel10Ideal_Reference10Ideal := by
  intro m ρ m' ρ' _ hagree
  refine ⟨_, _, _, _, Cert.Kernel10Ideal.Value.run_blocks (F := Ideal) m ρ,
    (θ_run Cert.Reference10Ideal.defs _ _).mono (fun r h c => ?_) (Value.run (F := Ideal) m' ρ')⟩
  obtain ⟨h₀, h₁, h₂, h₃, h⟩ := h c
  obtain ⟨e0, e1, e2, e3⟩ := hagree c
  have k₀ := h₀.trans (g_eq (m' (c.tc.loc main_arg0)))
  have k₁ := h₁.trans (change_eq (m' (c.tc.loc main_arg0)) (m' (c.tc.loc main_arg1)) (m' (c.tc.loc main_arg2)) (m' (c.tc.loc main_arg3)))
  have k₂ := h₂.trans (m₁_eq (m' (c.tc.loc main_arg0)) (m' (c.tc.loc main_arg2)))
  have k₃ := h₃.trans (m₂_eq (m' (c.tc.loc main_arg0)) (m' (c.tc.loc main_arg3)))
  rw [e0] at k₀
  rw [e0, e1, e2, e3] at k₁
  rw [e0, e2] at k₂
  rw [e0, e3] at k₃
  exact ⟨k₀.trans (Cert.Kernel10Ideal.Step.final_gradient m c).symm, k₁.trans (Cert.Kernel10Ideal.Step.final_change m c).symm,
    k₂.trans (Cert.Kernel10Ideal.Step.final_moment1 m c).symm, k₃.trans (Cert.Kernel10Ideal.Step.final_moment2 m c).symm, h⟩

end Cert.OptimiserWIn

end
-- ==== Proof.AttnForward.lean ====
/-
  The attention's forward call: one block of 256 query rows against one head's 4096 keys and values, entry by entry at
  `Ideal`, and what the result array holds after the grid's 256 points.
-/
module

public import proofs.«01_k».proof.Proof.Arrays
public import proofs.«01_k».proof.Proof.Gen.Kernel9Ideal.Value

@[expose] public section

set_option maxRecDepth 16384

noncomputable section

namespace Cert.Kernel9Ideal.Forward

open Idealize.ShloMosaic Idealize.ShloMosaic.TcCoe Cert.Kernel9Ideal Cert.Kernel9Ideal.Gen Cert.Softmax
open Cert.KernelIdeal.Block (qAt kAt sAt score)

/-! ## One block -/

theorem named_scale_log2e :
    Named.named (F := Ideal) Cert.Kernel9Ideal.κ "scale_log2e" (φ := .f32) 0x3DD53B95#32
      = (((Real.sqrt 192)⁻¹ * (Real.log 2)⁻¹ : ℝ) : EReal) :=
  IdealRules.named_const.ideal_named_scalar _ _ _ _ rfl

/-- What one point stores: the values weighed by the row's exponentials, times the row's inverse denominator. -/
theorem block_apply (q : FVec Ideal S256x256 .bf16) (k : FVec Ideal S4096x256 .bf16) (v : FVec Ideal S4096x128 .bf16)
    (r : Fin 256) (l : Fin 128) :
    k0_pay1 (F := Ideal) q k v (ix2 r l) = (∑ j : Fin 4096, kE (score q k r) j * v (ix2 j l)) * kInv (score q k r) := by
  pointwise [k0_pay1, named_scale_log2e, kE, kInv]
  rfl

/-! ## The result as a function of the five arguments -/

/-- The attention's output at row `q`, column `l` of head `h`. -/
def outAt (qn : FVec Ideal S4096x16x128 .bf16) (qr : FVec Ideal S4096x16x64 .bf16) (kn : FVec Ideal S4096x16x128 .bf16)
    (kr : FVec Ideal S4096x64 .bf16) (v : FVec Ideal S4096x16x128 .bf16) (h : Fin 16) (q : Fin 4096) (l : Fin 128) : EReal :=
  (∑ k : Fin 4096, kE (sAt qn qr kn kr h q) k * v (ix3 k h l)) * kInv (sAt qn qr kn kr h q)

/-- The attention's output, the heads' columns side by side. -/
def output (qn : FVec Ideal S4096x16x128 .bf16) (qr : FVec Ideal S4096x16x64 .bf16) (kn : FVec Ideal S4096x16x128 .bf16)
    (kr : FVec Ideal S4096x64 .bf16) (v : FVec Ideal S4096x16x128 .bf16) : FVec Ideal S4096x2048 .bf16 := fun x =>
  outAt qn qr kn kr v ⟨x 1 / 128, by have := (x 1).isLt; show (x 1).val / 128 < 16; simp at this; omega⟩ (x 0)
    ⟨x 1 % 128, Nat.mod_lt _ (by norm_num)⟩

/-- The output array read at a head's column. -/
theorem output_at (qn : FVec Ideal S4096x16x128 .bf16) (qr : FVec Ideal S4096x16x64 .bf16) (kn : FVec Ideal S4096x16x128 .bf16)
    (kr : FVec Ideal S4096x64 .bf16) (v : FVec Ideal S4096x16x128 .bf16) (x : S4096x2048.Idx) (h : Fin 16) (q : Fin 4096)
    (l : Fin 128) (h0 : (x 0 : ℕ) = q) (h1 : (x 1 : ℕ) = h * 128 + l) : output qn qr kn kr v x = outAt qn qr kn kr v h q l := by
  have e0 : x 0 = q := Fin.ext h0
  have e1 : (⟨x 1 / 128, by omega⟩ : Fin 16) = h := Fin.ext (by show (x 1 : ℕ) / 128 = h; omega)
  have e2 : (⟨x 1 % 128, Nat.mod_lt _ (by norm_num)⟩ : Fin 128) = l := Fin.ext (by show (x 1 : ℕ) % 128 = l; omega)
  simp only [output, e0, e1, e2]

/-! ## The operands -/

variable (m : (ℓ : Loc nD τ sig) → Buf (Elt Ideal) ℓ) (c : Dev nD)

theorem idx : ∀ t : Fin cfg0.N, win0_0.index t = ![t.val % 16, t.val / 16] ∧ win0_1.index t = ![0, t.val / 16]
    ∧ win0_2.index t = ![0, 16 + t.val / 16] ∧ win0_3.index t = ![t.val % 16, t.val / 16] :=
  (by decide +kernel : ∀ t : Fin grid0.N, _)

/-- What the host leaves as padded queries. -/
theorem host_q : V m c main_v4 = shapeCast _ (concatenate S4096x16x256 2
    [⟨S4096x16x128, (m (c.tc.loc main_arg0) : FVec Ideal S4096x16x128 .bf16)⟩, ⟨S4096x16x64, (m (c.tc.loc main_arg1) : FVec Ideal S4096x16x64 .bf16)⟩,
      ⟨S4096x16x64, broadcastInDim S4096x16x64 ![] bcast_S_S4096x16x64 (constant (F := Ideal) S_ .bf16 0x0000#16)⟩]
    concatenates_S4096x16x128_S4096x16x64_S4096x16x64_S4096x16x256_d2) shapeCasts_S4096x16x256_S4096x4096 := by
  unfold_abbrev_sides
  after_results_simp <;> (try dsimp only [Matrix.cons_val]) <;> (try after_results_simp) <;> rfl

/-- What the host leaves as padded keys. -/
theorem host_k : V m c main_v6 = shapeCast _ (concatenate S4096x16x256 2
    [⟨S4096x16x128, (m (c.tc.loc main_arg2) : FVec Ideal S4096x16x128 .bf16)⟩,
      ⟨S4096x16x64, broadcastInDim S4096x16x64 ![0, 1, 2] bcast_S4096x1x64_S4096x16x64_0_1_2
        (broadcastInDim S4096x1x64 ![0, 2] bcast_S4096x64_S4096x1x64_0_2 (m (c.tc.loc main_arg3) : FVec Ideal S4096x64 .bf16))⟩,
      ⟨S4096x16x64, broadcastInDim S4096x16x64 ![] bcast_S_S4096x16x64 (constant (F := Ideal) S_ .bf16 0x0000#16)⟩]
    concatenates_S4096x16x128_S4096x16x64_S4096x16x64_S4096x16x256_d2) shapeCasts_S4096x16x256_S4096x4096 := by
  unfold_abbrev_sides
  after_results_simp <;> (try dsimp only [Matrix.cons_val]) <;> (try after_results_simp) <;> rfl

/-- The padded queries the call is given, entry by entry. -/
theorem entry_q (q : Fin 4096) (h : Fin 16) (l : Fin 256) :
    (V m c main_v4 : FVec Ideal S4096x4096 .bf16) (ix2 q ⟨h * 256 + l, by omega⟩)
      = qAt (m (c.tc.loc main_arg0)) (m (c.tc.loc main_arg1)) h q l := by
  rw [host_q]
  generalize m (c.tc.loc main_arg0) = qn
  generalize m (c.tc.loc main_arg1) = qr
  pointwise
  rfl

/-- The padded keys. -/
theorem entry_k (k : Fin 4096) (h : Fin 16) (l : Fin 256) :
    (V m c main_v6 : FVec Ideal S4096x4096 .bf16) (ix2 k ⟨h * 256 + l, by omega⟩)
      = kAt (m (c.tc.loc main_arg2)) (m (c.tc.loc main_arg3)) h k l := by
  rw [host_k]
  generalize m (c.tc.loc main_arg2) = kn
  generalize m (c.tc.loc main_arg3) = kr
  pointwise
  rfl

/-- The values: the second half of the joined keys and values. -/
theorem entry_v (k : Fin 4096) (h : Fin 16) (l : Fin 128) :
    (V m c main_v9 : FVec Ideal S4096x4096 .bf16) (ix2 k ⟨(16 + h) * 128 + l, by omega⟩)
      = (m (c.tc.loc main_arg4) : FVec Ideal S4096x16x128 .bf16) (ix3 k h l) := by
  entry_read
  pointwise
  rw [dif_neg (by omega)]
  blk_ext

/-! ## The blocks at a point: head `t / 16`, query rows `256 * (t % 16) + r` -/

/-- A point's head. -/
def hd (t : Fin cfg0.N) : Fin 16 := ⟨t.val / 16, by have := lt_of_lt_of_eq t.isLt N_0; omega⟩
/-- A row of a point's query block, in the whole array. -/
def rowOf (t : Fin cfg0.N) (r : Fin 256) : Fin 4096 := ⟨t.val % 16 * 256 + r, by omega⟩

theorem blk_q (t : Fin cfg0.N) (r l : Fin 256) :
    (iblk m c 0 t : FVec Ideal S256x256 .bf16) (ix2 r l)
      = qAt (m (c.tc.loc main_arg0)) (m (c.tc.loc main_arg1)) (hd t) (rowOf t r) l := by
  rw [← entry_q]
  blk_ext [iblk, idx t, hd, rowOf]

theorem blk_k (t : Fin cfg0.N) (k : Fin 4096) (l : Fin 256) :
    (iblk m c 1 t : FVec Ideal S4096x256 .bf16) (ix2 k l)
      = kAt (m (c.tc.loc main_arg2)) (m (c.tc.loc main_arg3)) (hd t) k l := by
  rw [← entry_k]
  blk_ext [iblk, idx t, hd]

theorem blk_v (t : Fin cfg0.N) (k : Fin 4096) (l : Fin 128) :
    (iblk m c 2 t : FVec Ideal S4096x128 .bf16) (ix2 k l)
      = (m (c.tc.loc main_arg4) : FVec Ideal S4096x16x128 .bf16) (ix3 k (hd t) l) := by
  refine Eq.trans ?_ (entry_v m c k (hd t) l)
  blk_ext [iblk, idx t, hd]

/-- A point's scores are the arrays'. -/
theorem score_blk (t : Fin cfg0.N) (r : Fin 256) :
    score (iblk m c 0 t) (iblk m c 1 t) r
      = sAt (m (c.tc.loc main_arg0)) (m (c.tc.loc main_arg1)) (m (c.tc.loc main_arg2)) (m (c.tc.loc main_arg3)) (hd t) (rowOf t r) :=
  funext fun k => Finset.sum_congr rfl fun l _ => congrArg₂ (· * ·) (blk_q m c t r l) (blk_k m c t k l)

/-- A point's block of the output is the array's. -/
theorem block_out (t : Fin cfg0.N) (y : S256x128.Idx) :
    k0_pay1 (F := Ideal) (iblk m c 0 t) (iblk m c 1 t) (iblk m c 2 t) y
      = outAt (m (c.tc.loc main_arg0)) (m (c.tc.loc main_arg1)) (m (c.tc.loc main_arg2)) (m (c.tc.loc main_arg3))
          (m (c.tc.loc main_arg4)) (hd t) (rowOf t (y 0)) (y 1) := by
  obtain ⟨a, b, rfl⟩ : ∃ (a : Fin 256) (b : Fin 128), y = ix2 a b := ⟨y 0, y 1, eq_ix2 y⟩
  refine (block_apply _ _ _ a b).trans ?_
  rw [score_blk]
  exact congrArg (fun x : EReal => x * (_ : EReal)) (Finset.sum_congr rfl fun k _ => congrArg _ (blk_v m c t k b))

/-- The call's result: the attention's output. -/
theorem final : (dats m 0 c).arrAt 3 cfg0.N
    = output (m (c.tc.loc main_arg0)) (m (c.tc.loc main_arg1)) (m (c.tc.loc main_arg2)) (m (c.tc.loc main_arg3))
        (m (c.tc.loc main_arg4)) := by
  refine (dats m 0 c).arrAt_eq_of_covers 3 _ (by decide +kernel) fun t hf y => ?_
  blk_simp
  rw [after0_3]
  have e : out0_3 (iblk m c 0 t) (iblk m c 1 t) (iblk m c 2 t) y
      = k0_pay1 (F := Ideal) (iblk m c 0 t) (iblk m c 1 t) (iblk m c 2 t) y := by
    unfold out0_3
    frame_out
  exact e.trans ((block_out m c t y).trans
    (output_at _ _ _ _ _ _ (hd t) (rowOf t (y 0)) (y 1) (by blk_simp [idx t, rowOf]) (by blk_simp [idx t, hd])).symm)

end Cert.Kernel9Ideal.Forward

end
-- ==== Proof.AttnReference.lean ====
/-
  The reference of the attention's forward call, entry by entry at `Ideal`, and its equation with the kernel's output where
  the scores are real numbers.
-/
module

public import proofs.«01_k».proof.Proof.AttnForward
public import proofs.«01_k».proof.Proof.Equation
public import proofs.«01_k».proof.Proof.Gen.Reference9Ideal.Run

@[expose] public section

set_option maxRecDepth 16384

noncomputable section

namespace Cert.Softmax

open Idealize.ShloMosaic

/-- A row's output: the inverse denominator taken out of the sum, or in each probability. -/
theorem out_eq {n : ℕ} [NeZero n] (s : Fin n → EReal) (hs : ∀ k, ∃ x : ℝ, s k = x) (v : Fin n → EReal) :
    (∑ k, kE s k * v k) * kInv s = ∑ k, v k * rP s k := by
  obtain ⟨e, -, hk, hr, hl⟩ := row_real s hs
  simp only [kInv, rP, hk, hr, ← coe_sum]
  rw [Ideal.div_coe hl.ne', one_mul, mul_comm, mul_sum_of_nonneg _ _ (by positivity)]
  refine Finset.sum_congr rfl fun k _ => ?_
  rw [Ideal.div_coe hl.ne']
  ac_rfl

end Cert.Softmax

namespace Cert.Reference9Ideal.Forward

open Idealize.ShloMosaic Idealize.ShloMosaic.TcCoe Cert.Reference9Ideal Cert.Reference9Ideal.Gen Cert.Softmax
open Cert.KernelIdeal.Block (sAt)
open Cert.Kernel9Ideal.Forward (outAt output output_at)
open Cert.ReferenceIdeal.RefValue (probs probs_at)

/-- The values weighed by the probabilities, the heads' columns side by side. -/
def weighed (v : FVec Ideal S4096x16x128 .bf16) (p : FVec Ideal S16x4096x4096 .f32) : FVec Ideal S4096x2048 .bf16 :=
  truncf .bf16 (shapeCast S4096x2048 (transpose S4096x16x128 [2, 0, 1]
    (Host.dotGeneral (F := Ideal) dot_S4096x16x128_S16x4096x4096_S16x128x4096_0_2_2_1_1_0 none (extf .f32 v bitsLt_bf16_f32 : FVec Ideal S4096x16x128 .f32) p : FVec Ideal S16x128x4096 .f32)
    transposes_S16x128x4096_S4096x16x128_2_0_1) shapeCasts_S4096x16x128_S4096x2048 : FVec Ideal S4096x2048 .f32) bitsLt_bf16_f32

theorem weighed_at (v p) (q : Fin 4096) (h : Fin 16) (l : Fin 128) :
    weighed v p (ix2 q ⟨h * 128 + l, by omega⟩) = ∑ k : Fin 4096, v (ix3 k h l) * p (ix3 h q k) := by
  pointwise [weighed]

variable {qn : FVec Ideal S4096x16x128 .bf16} {qr : FVec Ideal S4096x16x64 .bf16} {kn : FVec Ideal S4096x16x128 .bf16}
  {kr : FVec Ideal S4096x64 .bf16} {v : FVec Ideal S4096x16x128 .bf16}

/-- The reference's output is the kernel's. -/
theorem weighed_eq (hs : ∀ h q k, ∃ x : ℝ, sAt qn qr kn kr h q k = x) : weighed v (probs qn qr kn kr) = output qn qr kn kr v := by
  funext x
  obtain ⟨q, j, rfl⟩ : ∃ (q : Fin 4096) (j : Fin 2048), x = ix2 q j := ⟨x 0, x 1, eq_ix2 x⟩
  obtain ⟨h, l, rfl⟩ : ∃ (h : Fin 16) (l : Fin 128), j = ⟨h * 128 + l, by omega⟩ :=
    ⟨⟨j / 128, by omega⟩, ⟨j % 128, by omega⟩, Fin.ext (by show j.val = j.val / 128 * 128 + j.val % 128; omega)⟩
  rw [weighed_at, output_at _ _ _ _ _ _ h q l rfl rfl, outAt, out_eq _ (hs h q)]
  exact Finset.sum_congr rfl fun k _ => by rw [probs_at]

end Cert.Reference9Ideal.Forward

end
-- ==== Proof.AttnClaims.lean ====
/-
  The claims about the attention's forward call: what the reference leaves is what the kernel leaves, and the frames.
-/
module

public import proofs.«01_k».proof.Defs
public import proofs.«01_k».proof.Proof.AttnReference
public import proofs.«01_k».proof.Proof.Finite
public import proofs.«01_k».proof.Proof.Gen.Pre_finite9
public import Idealize.ShloMosaic.Lib.Quiescent
public import Idealize.ShloMosaic.Adequacy

@[expose] public section

set_option maxRecDepth 16384

noncomputable section

namespace Cert.AttentionForward

open Idealize.ShloMosaic Idealize.ShloMosaic.TcCoe Idealize.SL.Sem Cert.Reference9Ideal Cert.Reference9Ideal.Gen Cert.Reference9Ideal.Value
open Cert.KernelIdeal.Block (sAt)
open Cert.Kernel9Ideal.Forward (output)

/-- Under the precondition every score is a real number: it asks of the queries and the keys what the backward call's does. -/
theorem scores_real {a0 : FVec Ideal S4096x16x128 .bf16} {a1 : FVec Ideal S4096x16x64 .bf16} {a2 : FVec Ideal S4096x16x128 .bf16}
    {a3 : FVec Ideal S4096x64 .bf16} {a4 : FVec Ideal S4096x16x128 .bf16}
    (h : Cert.Pre_finite9.fn (F := Ideal) a0 a1 a2 a3 a4 = fun _ => 1#1) (n : Fin 16) (q k : Fin 4096) :
    ∃ x : ℝ, sAt a0 a1 a2 a3 n q k = x :=
  Cert.Pre_finite.Reals.scores_real (a4 := a4) (a5 := fun _ => 0) h n q k

/-- The reference's result. -/
theorem result (m : (ℓ : Loc nD τ sig) → Buf (Elt Ideal) ℓ) (c : Dev nD)
    (hs : ∀ h q k, ∃ x : ℝ, sAt (m (c.tc.loc main_arg0)) (m (c.tc.loc main_arg1)) (m (c.tc.loc main_arg2)) (m (c.tc.loc main_arg3)) h q k = x) :
    res_main_v27 m c = output (m (c.tc.loc main_arg0)) (m (c.tc.loc main_arg1)) (m (c.tc.loc main_arg2))
      (m (c.tc.loc main_arg3)) (m (c.tc.loc main_arg4)) :=
  Eq.trans rfl (Cert.Reference9Ideal.Forward.weighed_eq hs)

/-- The reference's frame: it changes no argument and leaves no semaphore raised. -/
theorem reference_frame : Cert.quiescent_Reference9Ideal :=
  fun m ρ _ => (θ_run Cert.Reference9Ideal.defs _ _).mono (fun r h => ⟨fun c => (h c).2, sem_eq_zero_of_no_sems (by decide) r.2⟩)
    (Value.run (F := Ideal) m ρ)

/-- The kernel's rewrite keeps what the program's number stands for. -/
theorem preserves : Cert.preserves_Kernel9_Kernel9Ideal :=
  IdealRules.named_const.statement Cert.Kernel9Ideal.κ "scale_log2e" .f32 0x3DD53B95#32 (((Real.sqrt 192)⁻¹ * (Real.log 2)⁻¹ : ℝ) : EReal) rfl

/-- From finite queries and keys the kernel and the reference leave the same output. -/
theorem algebraic : Cert.algebraic_Kernel9Ideal_Reference9Ideal_pre_finite9 := by
  intro m ρ m' ρ' hpre hagree
  refine ⟨_, Cert.Kernel9Ideal.Value.run_blocks (F := Ideal) m ρ,
    (θ_run Cert.Reference9Ideal.defs _ _).mono (fun r h c => ?_) (Value.run (F := Ideal) m' ρ')⟩
  obtain ⟨h₀, h⟩ := h c
  obtain ⟨e0, e1, e2, e3, e4⟩ := hagree c
  have hs : ∀ n q k, ∃ x : ℝ, sAt (m' (c.tc.loc main_arg0)) (m' (c.tc.loc main_arg1)) (m' (c.tc.loc main_arg2)) (m' (c.tc.loc main_arg3)) n q k = x := by
    rw [e0, e1, e2, e3]
    exact scores_real (hpre c)
  have ho := h₀.trans (result m' c hs)
  rw [e0, e1, e2, e3, e4] at ho
  exact ⟨ho.trans (Cert.Kernel9Ideal.Forward.final m c).symm, h⟩

end Cert.AttentionForward

end
-- ==== Proof.MergeArrays.lean ====
/-
  The arrays that the merge step's products and its forward gate leave, as functions of what their operands hold.
-/
module

public import Idealize.ShloMosaic.Lib.Pipeline.ValueKit
public import proofs.«01_k».proof.Proof.Gen.Kernel8Ideal.Frame.Region0

@[expose] public section

set_option maxRecDepth 16384

noncomputable section

namespace Cert.Kernel8Ideal.Merge

open Idealize.ShloMosaic Idealize.ShloMosaic.TcCoe Cert.Kernel8Ideal Cert.Kernel8Ideal.Gen

/-! ## The arrays the calls leave -/

/-- The logistic function as the kernel forms it. -/
def sg (x : EReal) : EReal := Ideal.div 1 (1 + Ideal.exp (0 - x))

/-- A column of the first branch's gates. -/
def lo (j : Fin 4096) : Fin 8192 := ⟨j, by omega⟩

/-- A column of the second branch's gates. -/
def hi (j : Fin 4096) : Fin 8192 := ⟨4096 + j, by omega⟩

/-- One gate. -/
def gate (z : FVec Ideal S4096x8192 .bf16) (b : FVec Ideal S1x8192 .f32) (R : Fin 4096) (C : Fin 8192) : EReal :=
  sg (z (ix2 R C) + b (ix2 0 C))

/-- A branch's output before its gate. -/
def branch (y : FVec Ideal S4096x2048 .bf16) (w : FVec Ideal S2048x4096 .bf16) : FVec Ideal S4096x4096 .bf16 :=
  fun i => ∑ l : Fin 2048, y (ix2 (i 0) l) * w (ix2 l (i 1))

/-- The gated branches, added. -/
def merged (z : FVec Ideal S4096x8192 .bf16) (b : FVec Ideal S1x8192 .f32) (p q : FVec Ideal S4096x4096 .bf16) :
    FVec Ideal S4096x4096 .bf16 :=
  fun i => gate z b (i 0) (lo (i 1)) * p i + gate z b (i 0) (hi (i 1)) * q i

/-- The output projection, added to the residual. -/
def projected (a b : FVec Ideal S4096x4096 .bf16) (x : FVec Ideal S4096x4096 .f32) : FVec Ideal S4096x4096 .f32 :=
  fun i => x i + ∑ l : Fin 4096, a (ix2 (i 0) l) * b (ix2 l (i 1))

/-- The product over the rows of two arrays. -/
def overRows (a b : FVec Ideal S4096x4096 .bf16) : FVec Ideal S4096x4096 .bf16 :=
  fun i => ∑ l : Fin 4096, a (ix2 l (i 0)) * b (ix2 l (i 1))

/-- The product over the columns of two arrays. -/
def overCols (a b : FVec Ideal S4096x4096 .bf16) : FVec Ideal S4096x4096 .bf16 :=
  fun i => ∑ l : Fin 4096, a (ix2 (i 0) l) * b (ix2 (i 1) l)

/-- A branch's weights' gradient. -/
def weightGrad (y : FVec Ideal S4096x2048 .bf16) (d : FVec Ideal S4096x4096 .bf16) : FVec Ideal S2048x4096 .bf16 :=
  fun i => ∑ l : Fin 4096, y (ix2 l (i 0)) * d (ix2 l (i 1))

/-- A branch's input's gradient. -/
def inputGrad (d : FVec Ideal S4096x4096 .bf16) (w : FVec Ideal S2048x4096 .bf16) : FVec Ideal S4096x2048 .bf16 :=
  fun i => ∑ l : Fin 4096, d (ix2 (i 0) l) * w (ix2 (i 1) l)

end Cert.Kernel8Ideal.Merge

end
-- ==== Proof.MergeForward.lean ====
/-
  What the forward gate leaves in its result array, from whatever its operands hold.
-/
module

public import proofs.«01_k».proof.Proof.MergeArrays
public import proofs.«01_k».proof.Proof.Gen.Kernel8Ideal.Frame.Region2

@[expose] public section

set_option maxRecDepth 16384

noncomputable section

namespace Cert.Kernel8Ideal.Merge

open Idealize.ShloMosaic Idealize.ShloMosaic.TcCoe Cert.Kernel8Ideal Cert.Kernel8Ideal.Gen

/-! ## One block of each -/

theorem pay2 (z : FVec Ideal S128x4096 .bf16) (b : FVec Ideal S1x4096 .f32) (z' : FVec Ideal S128x4096 .bf16) (b' : FVec Ideal S1x4096 .f32)
    (p q : FVec Ideal S128x4096 .bf16) (r : Fin 128) (s : Fin 4096) :
    k2_pay1 (F := Ideal) z b z' b' p q (ix2 r s)
      = sg (z (ix2 r s) + b (ix2 0 s)) * p (ix2 r s) + sg (z' (ix2 r s) + b' (ix2 0 s)) * q (ix2 r s) := by
  pointwise [k2_pay1, sg]

/-! ## The result arrays -/

variable (V : (c : Dev nD) → (b : Ref sig .tc) → Buf (Elt Ideal) ((c : Thread nD τ).loc b)) (c : Dev nD)

theorem idx2 : ∀ t : Fin cfg2.N, win2_0.index t = ![t.val, 0] ∧ win2_1.index t = ![t.val, 1] ∧ win2_2.index t = ![0, 0]
    ∧ win2_3.index t = ![0, 1] ∧ win2_4.index t = ![t.val, 0] ∧ win2_5.index t = ![t.val, 0] ∧ win2_6.index t = ![t.val, 0] :=
  (by decide +kernel : ∀ t : Fin grid2.N, _)

set_option maxHeartbeats 1000000 in
/-- The merged branches. -/
theorem final2 : (dat2 V c).arrAt 6 cfg2.N = merged (V c main_v0) (V c main_arg1) (V c main_v11) (V c main_v12) := by
  refine (dat2 V c).arrAt_eq_of_covers 6 _ (by decide +kernel) fun t hf y => ?_
  blk_simp
  rw [after2_6]
  have e : out2_6 (iblk2 V c 0 t) (iblk2 V c 1 t) (iblk2 V c 2 t) (iblk2 V c 3 t) (iblk2 V c 4 t) (iblk2 V c 5 t) y
      = k2_pay1 (F := Ideal) (iblk2 V c 0 t) (iblk2 V c 2 t) (iblk2 V c 1 t) (iblk2 V c 3 t) (iblk2 V c 4 t) (iblk2 V c 5 t) y := by
    unfold out2_6; frame_out
  refine e.trans ?_
  obtain ⟨r, s, rfl⟩ : ∃ (r : Fin 128) (s : Fin 4096), y = ix2 r s := ⟨y 0, y 1, eq_ix2 y⟩
  refine (pay2 _ _ _ _ _ _ r s).trans ?_
  have h : ∀ z b p z' b' q z₁ b₁ p₁ z₁' b₁' q₁ : EReal, z = z₁ → b = b₁ → p = p₁ → z' = z₁' → b' = b₁' → q = q₁ →
      sg (z + b) * p + sg (z' + b') * q = sg (z₁ + b₁) * p₁ + sg (z₁' + b₁') * q₁ := by
    rintro _ _ _ _ _ _ _ _ _ _ _ _ rfl rfl rfl rfl rfl rfl; rfl
  refine h _ _ _ _ _ _ _ _ _ _ _ _ ?_ ?_ ?_ ?_ ?_ ?_
  · blk_ext [iblk2, idx2 t, lo]
  · blk_ext [iblk2, idx2 t, lo]
  · blk_ext [iblk2, idx2 t]
  · blk_ext [iblk2, idx2 t, hi]
  · blk_ext [iblk2, idx2 t, hi]
  · blk_ext [iblk2, idx2 t]

end Cert.Kernel8Ideal.Merge

end
-- ==== Proof.MergeBranches.lean ====
/-
  What the two branches' products and the output projection leave in their result arrays, from whatever their operands
  hold.
-/
module

public import proofs.«01_k».proof.Proof.MergeArrays
public import proofs.«01_k».proof.Proof.Gen.Kernel8Ideal.Frame.Region0
public import proofs.«01_k».proof.Proof.Gen.Kernel8Ideal.Frame.Region1
public import proofs.«01_k».proof.Proof.Gen.Kernel8Ideal.Frame.Region3

@[expose] public section

set_option maxRecDepth 16384

noncomputable section

namespace Cert.Kernel8Ideal.Merge

open Idealize.ShloMosaic Idealize.ShloMosaic.TcCoe Cert.Kernel8Ideal Cert.Kernel8Ideal.Gen

/-! ## One block of each -/

theorem pay0 (a : FVec Ideal S1024x2048 .bf16) (b : FVec Ideal S2048x1024 .bf16) (r s : Fin 1024) :
    k0_pay1 (F := Ideal) a b (ix2 r s) = ∑ l : Fin 2048, a (ix2 r l) * b (ix2 l s) := by
  pointwise [k0_pay1]

theorem pay1 (a : FVec Ideal S1024x2048 .bf16) (b : FVec Ideal S2048x1024 .bf16) (r s : Fin 1024) :
    k1_pay1 (F := Ideal) a b (ix2 r s) = ∑ l : Fin 2048, a (ix2 r l) * b (ix2 l s) := by
  pointwise [k1_pay1]

theorem pay3 (a : FVec Ideal S1024x4096 .bf16) (b : FVec Ideal S4096x1024 .bf16) (x : FVec Ideal S1024x1024 .f32) (r s : Fin 1024) :
    k3_pay1 (F := Ideal) a b x (ix2 r s) = x (ix2 r s) + ∑ l : Fin 4096, a (ix2 r l) * b (ix2 l s) := by
  pointwise [k3_pay1]

/-! ## The result arrays -/

variable (V : (c : Dev nD) → (b : Ref sig .tc) → Buf (Elt Ideal) ((c : Thread nD τ).loc b)) (c : Dev nD)

theorem idx0 : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The first branch. -/
theorem final0 : (dat0 V c).arrAt 2 cfg0.N = branch (V c main_v1) (V c main_v5) := by
  refine (dat0 V c).arrAt_eq_of_covers 2 _ (by decide +kernel) fun t hf y => ?_
  blk_simp
  rw [after0_2]
  have e : out0_2 (iblk0 V c 0 t) (iblk0 V c 1 t) y = k0_pay1 (F := Ideal) (iblk0 V c 0 t) (iblk0 V c 1 t) y := by
    unfold out0_2; frame_out
  refine e.trans ?_
  obtain ⟨r, s, rfl⟩ : ∃ (r s : Fin 1024), y = ix2 r s := ⟨y 0, y 1, eq_ix2 y⟩
  refine (pay0 _ _ r s).trans (Finset.sum_congr rfl fun l _ => congrArg₂ (fun u v : EReal => u * v) ?_ ?_)
  · blk_ext [iblk0, idx0 t]
  · blk_ext [iblk0, idx0 t]

theorem idx1 : ∀ t : Fin cfg1.N, win1_0.index t = ![t.val / 4, 0] ∧ win1_1.index t = ![0, t.val % 4]
    ∧ win1_2.index t = ![t.val / 4, t.val % 4] :=
  (by decide +kernel : ∀ t : Fin grid1.N, _)

/-- The second branch. -/
theorem final1 : (dat1 V c).arrAt 2 cfg1.N = branch (V c main_v2) (V c main_v8) := by
  refine (dat1 V c).arrAt_eq_of_covers 2 _ (by decide +kernel) fun t hf y => ?_
  blk_simp
  rw [after1_2]
  have e : out1_2 (iblk1 V c 0 t) (iblk1 V c 1 t) y = k1_pay1 (F := Ideal) (iblk1 V c 0 t) (iblk1 V c 1 t) y := by
    unfold out1_2; frame_out
  refine e.trans ?_
  obtain ⟨r, s, rfl⟩ : ∃ (r s : Fin 1024), y = ix2 r s := ⟨y 0, y 1, eq_ix2 y⟩
  refine (pay1 _ _ r s).trans (Finset.sum_congr rfl fun l _ => congrArg₂ (fun u v : EReal => u * v) ?_ ?_)
  · blk_ext [iblk1, idx1 t]
  · blk_ext [iblk1, idx1 t]

theorem idx3 : ∀ t : Fin cfg3.N, win3_0.index t = ![t.val / 4, 0] ∧ win3_1.index t = ![0, t.val % 4]
    ∧ win3_2.index t = ![t.val / 4, t.val % 4] ∧ win3_3.index t = ![t.val / 4, t.val % 4] :=
  (by decide +kernel : ∀ t : Fin grid3.N, _)

/-- The output projection with the residual added. -/
theorem final3 : (dat3 V c).arrAt 3 cfg3.N = projected (V c main_v13) (V c main_v9) (V c main_arg6) := by
  refine (dat3 V c).arrAt_eq_of_covers 3 _ (by decide +kernel) fun t hf y => ?_
  blk_simp
  rw [after3_3]
  have e : out3_3 (iblk3 V c 0 t) (iblk3 V c 1 t) (iblk3 V c 2 t) y
      = k3_pay1 (F := Ideal) (iblk3 V c 0 t) (iblk3 V c 1 t) (iblk3 V c 2 t) y := by
    unfold out3_3; frame_out
  refine e.trans ?_
  obtain ⟨r, s, rfl⟩ : ∃ (r s : Fin 1024), y = ix2 r s := ⟨y 0, y 1, eq_ix2 y⟩
  refine (pay3 _ _ _ r s).trans (congrArg₂ (fun u v : EReal => u + v) ?_
    (Finset.sum_congr rfl fun l _ => congrArg₂ (fun u v : EReal => u * v) ?_ ?_))
  · blk_ext [iblk3, idx3 t]
  · blk_ext [iblk3, idx3 t]
  · blk_ext [iblk3, idx3 t]

end Cert.Kernel8Ideal.Merge

end
-- ==== Proof.MergeOut.lean ====
/-
  What the output projection's two gradients leave in their result arrays, from whatever their operands hold.
-/
module

public import proofs.«01_k».proof.Proof.MergeArrays
public import proofs.«01_k».proof.Proof.Gen.Kernel8Ideal.Frame.Region4
public import proofs.«01_k».proof.Proof.Gen.Kernel8Ideal.Frame.Region5

@[expose] public section

set_option maxRecDepth 16384

noncomputable section

namespace Cert.Kernel8Ideal.Merge

open Idealize.ShloMosaic Idealize.ShloMosaic.TcCoe Cert.Kernel8Ideal Cert.Kernel8Ideal.Gen

/-! ## One block of each -/

theorem pay4 (a : FVec Ideal S4096x1024 .bf16) (b : FVec Ideal S4096x1024 .bf16) (r s : Fin 1024) :
    k4_pay1 (F := Ideal) a b (ix2 r s) = ∑ l : Fin 4096, a (ix2 l r) * b (ix2 l s) := by
  pointwise [k4_pay1]

theorem pay5 (a : FVec Ideal S1024x4096 .bf16) (b : FVec Ideal S1024x4096 .bf16) (r s : Fin 1024) :
    k5_pay1 (F := Ideal) a b (ix2 r s) = ∑ l : Fin 4096, a (ix2 r l) * b (ix2 s l) := by
  pointwise [k5_pay1]

/-! ## The result arrays -/

variable (V : (c : Dev nD) → (b : Ref sig .tc) → Buf (Elt Ideal) ((c : Thread nD τ).loc b)) (c : Dev nD)

theorem idx4 : ∀ t : Fin cfg4.N, win4_0.index t = ![0, t.val / 4] ∧ win4_1.index t = ![0, t.val % 4]
    ∧ win4_2.index t = ![t.val / 4, t.val % 4] :=
  (by decide +kernel : ∀ t : Fin grid4.N, _)

/-- The output weights' gradient. -/
theorem final4 : (dat4 V c).arrAt 2 cfg4.N = overRows (V c main_v13) (V c main_v10) := by
  refine (dat4 V c).arrAt_eq_of_covers 2 _ (by decide +kernel) fun t hf y => ?_
  blk_simp
  rw [after4_2]
  have e : out4_2 (iblk4 V c 0 t) (iblk4 V c 1 t) y = k4_pay1 (F := Ideal) (iblk4 V c 0 t) (iblk4 V c 1 t) y := by
    unfold out4_2; frame_out
  refine e.trans ?_
  obtain ⟨r, s, rfl⟩ : ∃ (r s : Fin 1024), y = ix2 r s := ⟨y 0, y 1, eq_ix2 y⟩
  refine (pay4 _ _ r s).trans (Finset.sum_congr rfl fun l _ => congrArg₂ (fun u v : EReal => u * v) ?_ ?_)
  · blk_ext [iblk4, idx4 t]
  · blk_ext [iblk4, idx4 t]

theorem idx5 : ∀ t : Fin cfg5.N, win5_0.index t = ![t.val / 4, 0] ∧ win5_1.index t = ![t.val % 4, 0]
    ∧ win5_2.index t = ![t.val / 4, t.val % 4] :=
  (by decide +kernel : ∀ t : Fin grid5.N, _)

/-- The merged branches' gradient. -/
theorem final5 : (dat5 V c).arrAt 2 cfg5.N = overCols (V c main_v10) (V c main_v9) := by
  refine (dat5 V c).arrAt_eq_of_covers 2 _ (by decide +kernel) fun t hf y => ?_
  blk_simp
  rw [after5_2]
  have e : out5_2 (iblk5 V c 0 t) (iblk5 V c 1 t) y = k5_pay1 (F := Ideal) (iblk5 V c 0 t) (iblk5 V c 1 t) y := by
    unfold out5_2; frame_out
  refine e.trans ?_
  obtain ⟨r, s, rfl⟩ : ∃ (r s : Fin 1024), y = ix2 r s := ⟨y 0, y 1, eq_ix2 y⟩
  refine (pay5 _ _ r s).trans (Finset.sum_congr rfl fun l _ => congrArg₂ (fun u v : EReal => u * v) ?_ ?_)
  · blk_ext [iblk5, idx5 t]
  · blk_ext [iblk5, idx5 t]

end Cert.Kernel8Ideal.Merge

end
-- ==== Proof.MergeGrads.lean ====
/-
  What the branches' gradients leave in their result arrays, from whatever their operands hold.
-/
module

public import proofs.«01_k».proof.Proof.MergeArrays
public import proofs.«01_k».proof.Proof.Gen.Kernel8Ideal.Frame.Region7
public import proofs.«01_k».proof.Proof.Gen.Kernel8Ideal.Frame.Region8
public import proofs.«01_k».proof.Proof.Gen.Kernel8Ideal.Frame.Region9
public import proofs.«01_k».proof.Proof.Gen.Kernel8Ideal.Frame.Region10

@[expose] public section

set_option maxRecDepth 16384

noncomputable section

namespace Cert.Kernel8Ideal.Merge

open Idealize.ShloMosaic Idealize.ShloMosaic.TcCoe Cert.Kernel8Ideal Cert.Kernel8Ideal.Gen

/-! ## One block of each -/

theorem pay7 (a : FVec Ideal S4096x1024 .bf16) (b : FVec Ideal S4096x1024 .bf16) (r s : Fin 1024) :
    k7_pay1 (F := Ideal) a b (ix2 r s) = ∑ l : Fin 4096, a (ix2 l r) * b (ix2 l s) := by
  pointwise [k7_pay1]

theorem pay8 (a : FVec Ideal S4096x1024 .bf16) (b : FVec Ideal S4096x1024 .bf16) (r s : Fin 1024) :
    k8_pay1 (F := Ideal) a b (ix2 r s) = ∑ l : Fin 4096, a (ix2 l r) * b (ix2 l s) := by
  pointwise [k8_pay1]

theorem pay9 (a : FVec Ideal S1024x4096 .bf16) (b : FVec Ideal S1024x4096 .bf16) (r s : Fin 1024) :
    k9_pay1 (F := Ideal) a b (ix2 r s) = ∑ l : Fin 4096, a (ix2 r l) * b (ix2 s l) := by
  pointwise [k9_pay1]

theorem pay10 (a : FVec Ideal S1024x4096 .bf16) (b : FVec Ideal S1024x4096 .bf16) (r s : Fin 1024) :
    k10_pay1 (F := Ideal) a b (ix2 r s) = ∑ l : Fin 4096, a (ix2 r l) * b (ix2 s l) := by
  pointwise [k10_pay1]

/-! ## The result arrays -/

variable (V : (c : Dev nD) → (b : Ref sig .tc) → Buf (Elt Ideal) ((c : Thread nD τ).loc b)) (c : Dev nD)

theorem idx7 : ∀ t : Fin cfg7.N, win7_0.index t = ![0, t.val / 4] ∧ win7_1.index t = ![0, t.val % 4]
    ∧ win7_2.index t = ![t.val / 4, t.val % 4] :=
  (by decide +kernel : ∀ t : Fin grid7.N, _)

/-- The first branch's weights' gradient. -/
theorem final7 : (dat7 V c).arrAt 2 cfg7.N = weightGrad (V c main_v1) (V c main_v17_0) := by
  refine (dat7 V c).arrAt_eq_of_covers 2 _ (by decide +kernel) fun t hf y => ?_
  blk_simp
  rw [after7_2]
  have e : out7_2 (iblk7 V c 0 t) (iblk7 V c 1 t) y = k7_pay1 (F := Ideal) (iblk7 V c 0 t) (iblk7 V c 1 t) y := by
    unfold out7_2; frame_out
  refine e.trans ?_
  obtain ⟨r, s, rfl⟩ : ∃ (r s : Fin 1024), y = ix2 r s := ⟨y 0, y 1, eq_ix2 y⟩
  refine (pay7 _ _ r s).trans (Finset.sum_congr rfl fun l _ => congrArg₂ (fun u v : EReal => u * v) ?_ ?_)
  · blk_ext [iblk7, idx7 t]
  · blk_ext [iblk7, idx7 t]

theorem idx8 : ∀ t : Fin cfg8.N, win8_0.index t = ![0, t.val / 4] ∧ win8_1.index t = ![0, t.val % 4]
    ∧ win8_2.index t = ![t.val / 4, t.val % 4] :=
  (by decide +kernel : ∀ t : Fin grid8.N, _)

/-- The second branch's weights' gradient. -/
theorem final8 : (dat8 V c).arrAt 2 cfg8.N = weightGrad (V c main_v2) (V c main_v17_1) := by
  refine (dat8 V c).arrAt_eq_of_covers 2 _ (by decide +kernel) fun t hf y => ?_
  blk_simp
  rw [after8_2]
  have e : out8_2 (iblk8 V c 0 t) (iblk8 V c 1 t) y = k8_pay1 (F := Ideal) (iblk8 V c 0 t) (iblk8 V c 1 t) y := by
    unfold out8_2; frame_out
  refine e.trans ?_
  obtain ⟨r, s, rfl⟩ : ∃ (r s : Fin 1024), y = ix2 r s := ⟨y 0, y 1, eq_ix2 y⟩
  refine (pay8 _ _ r s).trans (Finset.sum_congr rfl fun l _ => congrArg₂ (fun u v : EReal => u * v) ?_ ?_)
  · blk_ext [iblk8, idx8 t]
  · blk_ext [iblk8, idx8 t]

theorem idx9 : ∀ t : Fin cfg9.N, win9_0.index t = ![t.val / 2, 0] ∧ win9_1.index t = ![t.val % 2, 0]
    ∧ win9_2.index t = ![t.val / 2, t.val % 2] :=
  (by decide +kernel : ∀ t : Fin grid9.N, _)

/-- The first branch's input's gradient. -/
theorem final9 : (dat9 V c).arrAt 2 cfg9.N = inputGrad (V c main_v17_0) (V c main_v5) := by
  refine (dat9 V c).arrAt_eq_of_covers 2 _ (by decide +kernel) fun t hf y => ?_
  blk_simp
  rw [after9_2]
  have e : out9_2 (iblk9 V c 0 t) (iblk9 V c 1 t) y = k9_pay1 (F := Ideal) (iblk9 V c 0 t) (iblk9 V c 1 t) y := by
    unfold out9_2; frame_out
  refine e.trans ?_
  obtain ⟨r, s, rfl⟩ : ∃ (r s : Fin 1024), y = ix2 r s := ⟨y 0, y 1, eq_ix2 y⟩
  refine (pay9 _ _ r s).trans (Finset.sum_congr rfl fun l _ => congrArg₂ (fun u v : EReal => u * v) ?_ ?_)
  · blk_ext [iblk9, idx9 t]
  · blk_ext [iblk9, idx9 t]

theorem idx10 : ∀ t : Fin cfg10.N, win10_0.index t = ![t.val / 2, 0] ∧ win10_1.index t = ![t.val % 2, 0]
    ∧ win10_2.index t = ![t.val / 2, t.val % 2] :=
  (by decide +kernel : ∀ t : Fin grid10.N, _)

/-- The second branch's input's gradient. -/
theorem final10 : (dat10 V c).arrAt 2 cfg10.N = inputGrad (V c main_v17_1) (V c main_v8) := by
  refine (dat10 V c).arrAt_eq_of_covers 2 _ (by decide +kernel) fun t hf y => ?_
  blk_simp
  rw [after10_2]
  have e : out10_2 (iblk10 V c 0 t) (iblk10 V c 1 t) y = k10_pay1 (F := Ideal) (iblk10 V c 0 t) (iblk10 V c 1 t) y := by
    unfold out10_2; frame_out
  refine e.trans ?_
  obtain ⟨r, s, rfl⟩ : ∃ (r s : Fin 1024), y = ix2 r s := ⟨y 0, y 1, eq_ix2 y⟩
  refine (pay10 _ _ r s).trans (Finset.sum_congr rfl fun l _ => congrArg₂ (fun u v : EReal => u * v) ?_ ?_)
  · blk_ext [iblk10, idx10 t]
  · blk_ext [iblk10, idx10 t]

end Cert.Kernel8Ideal.Merge

end
-- ==== Proof.MergeGates.lean ====
/-
  What the backward gate leaves in its four result arrays, from whatever its operands hold: the two branches' gradients,
  the gates' inputs' gradient written in two halves of columns, and the bias gradient summed over the row blocks.
-/
module

public import proofs.«01_k».proof.Proof.MergeArrays
public import proofs.«01_k».proof.Proof.Gen.Kernel8Ideal.Frame.Region6
public import Idealize.ShloMosaic.Lib.Pipeline.ValueKit
public import Idealize.ShloMosaic.Lib.Pipeline.ReadBack

@[expose] public section

set_option maxRecDepth 16384

noncomputable section

namespace Cert.Kernel8Ideal.Merge

open Idealize.ShloMosaic Idealize.ShloMosaic.TcCoe Cert.Kernel8Ideal Cert.Kernel8Ideal.Gen

/-! ## The arrays -/

/-- The first branch's gradient. -/
def firstGrad (d : FVec Ideal S4096x4096 .bf16) (z : FVec Ideal S4096x8192 .bf16) (b : FVec Ideal S1x8192 .f32) :
    FVec Ideal S4096x4096 .bf16 := fun i => d i * gate z b (i 0) (lo (i 1))

/-- The second branch's gradient. -/
def secondGrad (d : FVec Ideal S4096x4096 .bf16) (z : FVec Ideal S4096x8192 .bf16) (b : FVec Ideal S1x8192 .f32) :
    FVec Ideal S4096x4096 .bf16 := fun i => d i * gate z b (i 0) (hi (i 1))

/-- One entry of a gate's input's gradient. -/
def dGate (d y g : EReal) : EReal := d * y * (g * (1 - g))

/-- The column of a branch that a column of the gates belongs to. -/
def within (C : Fin 8192) : Fin 4096 := ⟨C.val % 4096, Nat.mod_lt _ (by decide)⟩

/-- The entry of the branch that a gate multiplies. -/
def gatedBy (p q : FVec Ideal S4096x4096 .bf16) (R : Fin 4096) (C : Fin 8192) : EReal :=
  if C.val < 4096 then p (ix2 R (within C)) else q (ix2 R (within C))

/-- The gates' inputs' gradient at one entry. -/
def dz (d : FVec Ideal S4096x4096 .bf16) (z : FVec Ideal S4096x8192 .bf16) (b : FVec Ideal S1x8192 .f32)
    (p q : FVec Ideal S4096x4096 .bf16) (R : Fin 4096) (C : Fin 8192) : EReal :=
  dGate (d (ix2 R (within C))) (gatedBy p q R C) (gate z b R C)

/-- The gates' inputs' gradient. -/
def gateGrad (d : FVec Ideal S4096x4096 .bf16) (z : FVec Ideal S4096x8192 .bf16) (b : FVec Ideal S1x8192 .f32)
    (p q : FVec Ideal S4096x4096 .bf16) : FVec Ideal S4096x8192 .bf16 := fun i => dz d z b p q (i 0) (i 1)

/-- The bias gradient. -/
def biasGrad (d : FVec Ideal S4096x4096 .bf16) (z : FVec Ideal S4096x8192 .bf16) (b : FVec Ideal S1x8192 .f32)
    (p q : FVec Ideal S4096x4096 .bf16) : FVec Ideal S1x8192 .f32 := fun i => ∑ R : Fin 4096, dz d z b p q R (i 1)

theorem dz_lo (d : FVec Ideal S4096x4096 .bf16) (z : FVec Ideal S4096x8192 .bf16) (b : FVec Ideal S1x8192 .f32)
    (p q : FVec Ideal S4096x4096 .bf16) (R : Fin 4096) (j : Fin 4096) :
    dz d z b p q R (lo j) = dGate (d (ix2 R j)) (p (ix2 R j)) (gate z b R (lo j)) := by
  have h : within (lo j) = j := Fin.ext (Nat.mod_eq_of_lt j.isLt)
  have h' : (lo j).val < 4096 := j.isLt
  rw [dz, gatedBy, if_pos h', h]

theorem dz_hi (d : FVec Ideal S4096x4096 .bf16) (z : FVec Ideal S4096x8192 .bf16) (b : FVec Ideal S1x8192 .f32)
    (p q : FVec Ideal S4096x4096 .bf16) (R : Fin 4096) (j : Fin 4096) :
    dz d z b p q R (hi j) = dGate (d (ix2 R j)) (q (ix2 R j)) (gate z b R (hi j)) := by
  have h : within (hi j) = j := Fin.ext (by show (4096 + j.val) % 4096 = j.val; omega)
  have h' : ¬ (hi j).val < 4096 := by show ¬ 4096 + j.val < 4096; omega
  rw [dz, gatedBy, if_neg h', h]

/-! ## One block -/

/-- One entry of a block of the gates' inputs' gradient. -/
def dzBlk (d p z : FVec Ideal S128x4096 .bf16) (b : FVec Ideal S1x4096 .f32) (r : Fin 128) (s : Fin 4096) : EReal :=
  dGate (d (ix2 r s)) (p (ix2 r s)) (sg (z (ix2 r s) + b (ix2 0 s)))

theorem scaled {d z b d' z' b' : EReal} (hd : d = d') (hz : z = z') (hb : b = b') : d * sg (z + b) = d' * sg (z' + b') := by
  rw [hd, hz, hb]

theorem dGate_congr {d y z b d' y' z' b' : EReal} (hd : d = d') (hy : y = y') (hz : z = z') (hb : b = b') :
    dGate d y (sg (z + b)) = dGate d' y' (sg (z' + b')) := by
  rw [hd, hy, hz, hb]

theorem pay6_first (d z : FVec Ideal S128x4096 .bf16) (b : FVec Ideal S1x4096 .f32) (r : Fin 128) (s : Fin 4096) :
    k6_pay4 (F := Ideal) d z b (ix2 r s) = d (ix2 r s) * sg (z (ix2 r s) + b (ix2 0 s)) := by
  pointwise [k6_pay1, k6_pay2, k6_pay4, sg]

theorem pay6_second (d z : FVec Ideal S128x4096 .bf16) (b : FVec Ideal S1x4096 .f32) (r : Fin 128) (s : Fin 4096) :
    k6_pay5 (F := Ideal) d z b (ix2 r s) = d (ix2 r s) * sg (z (ix2 r s) + b (ix2 0 s)) := by
  pointwise [k6_pay1, k6_pay3, k6_pay5, sg]

theorem pay6_lo (d z p : FVec Ideal S128x4096 .bf16) (b : FVec Ideal S1x4096 .f32) (r : Fin 128) (s : Fin 4096) :
    k6_pay8 (F := Ideal) (k6_pay1 d) (k6_pay2 z b) p (ix2 r s)
      = dzBlk d p z b r s := by
  pointwise [k6_pay1, k6_pay2, k6_pay6, k6_pay8, sg, dGate, dzBlk]

theorem pay6_hi (d z q : FVec Ideal S128x4096 .bf16) (b : FVec Ideal S1x4096 .f32) (r : Fin 128) (s : Fin 4096) :
    k6_pay9 (F := Ideal) (k6_pay1 d) (k6_pay3 z b) q (ix2 r s)
      = dzBlk d q z b r s := by
  pointwise [k6_pay1, k6_pay3, k6_pay7, k6_pay9, sg, dGate, dzBlk]

theorem pay6_zero (y : S1x8192.Idx) : k6_pay10 (F := Ideal) y = 0 := by
  pointwise [k6_pay10]

theorem pay6_bias_lo (d z p : FVec Ideal S128x4096 .bf16) (b a : FVec Ideal S1x4096 .f32) (s : Fin 4096) :
    k6_pay11 (F := Ideal) (k6_pay1 d) (k6_pay2 z b) p a (ix2 0 s)
      = a (ix2 0 s) + ∑ r : Fin 128, dzBlk d p z b r s := by
  pointwise [k6_pay1, k6_pay2, k6_pay6, k6_pay11, sg, dGate, dzBlk]

theorem pay6_bias_hi (d z q : FVec Ideal S128x4096 .bf16) (b a : FVec Ideal S1x4096 .f32) (s : Fin 4096) :
    k6_pay12 (F := Ideal) (k6_pay1 d) (k6_pay3 z b) q a (ix2 0 s)
      = a (ix2 0 s) + ∑ r : Fin 128, dzBlk d q z b r s := by
  pointwise [k6_pay1, k6_pay3, k6_pay7, k6_pay12, sg, dGate, dzBlk]

/-! ## The result arrays -/

variable (V : (c : Dev nD) → (b : Ref sig .tc) → Buf (Elt Ideal) ((c : Thread nD τ).loc b)) (c : Dev nD)

theorem idx6 : ∀ t : Fin cfg6.N, win6_0.index t = ![t.val, 0] ∧ win6_1.index t = ![t.val, 0] ∧ win6_2.index t = ![t.val, 1]
    ∧ win6_3.index t = ![0, 0] ∧ win6_4.index t = ![0, 1] ∧ win6_5.index t = ![t.val, 0] ∧ win6_6.index t = ![t.val, 0]
    ∧ win6_7.index t = ![t.val, 0] ∧ win6_8.index t = ![t.val, 0] ∧ win6_9.index t = ![t.val, 0] ∧ win6_10.index t = ![0, 0] :=
  (by decide +kernel : ∀ t : Fin grid6.N, _)

/-- What a point leaves of the first branch's gradient. -/
theorem first_at (t : Fin cfg6.N) (y : S128x4096.Idx) : (outsAt6 V c t.val t.isLt).1 y
    = k6_pay4 (F := Ideal) (iblk6 V c 0 t) (iblk6 V c 1 t) (iblk6 V c 3 t) y := by
  by_cases h : t.val % 32 = 0
  · rw [outsAt6_A V c t h]; frame_out
  · rw [outsAt6_B V c t h]; frame_out

/-- What a point leaves of the second branch's gradient. -/
theorem second_at (t : Fin cfg6.N) (y : S128x4096.Idx) : (outsAt6 V c t.val t.isLt).2.1 y
    = k6_pay5 (F := Ideal) (iblk6 V c 0 t) (iblk6 V c 2 t) (iblk6 V c 4 t) y := by
  by_cases h : t.val % 32 = 0
  · rw [outsAt6_A V c t h]; frame_out
  · rw [outsAt6_B V c t h]; frame_out

/-- The first branch's gradient. -/
theorem final6_first : (dat6 V c).arrAt 7 cfg6.N = firstGrad (V c main_v16) (V c main_v0) (V c main_arg1) := by
  refine (dat6 V c).arrAt_eq_of_covers 7 _ (by decide +kernel) fun t hf y => ?_
  blk_simp
  rw [after6_7]
  refine (first_at V c t y).trans ?_
  obtain ⟨r, s, rfl⟩ : ∃ (r : Fin 128) (s : Fin 4096), y = ix2 r s := ⟨y 0, y 1, eq_ix2 y⟩
  refine (pay6_first _ _ _ r s).trans (scaled ?_ ?_ ?_)
  · blk_ext [iblk6, idx6 t]
  · blk_ext [iblk6, idx6 t, lo]
  · blk_ext [iblk6, idx6 t, lo]

/-- The second branch's gradient. -/
theorem final6_second : (dat6 V c).arrAt 8 cfg6.N = secondGrad (V c main_v16) (V c main_v0) (V c main_arg1) := by
  refine (dat6 V c).arrAt_eq_of_covers 8 _ (by decide +kernel) fun t hf y => ?_
  blk_simp
  rw [after6_8]
  refine (second_at V c t y).trans ?_
  obtain ⟨r, s, rfl⟩ : ∃ (r : Fin 128) (s : Fin 4096), y = ix2 r s := ⟨y 0, y 1, eq_ix2 y⟩
  refine (pay6_second _ _ _ r s).trans (scaled ?_ ?_ ?_)
  · blk_ext [iblk6, idx6 t]
  · blk_ext [iblk6, idx6 t, hi]
  · blk_ext [iblk6, idx6 t, hi]

/-- A point's block of the gates' inputs' gradient, in the first half of the columns. -/
theorem block_lo (t : Fin cfg6.N) (r : Fin 128) (s : Fin 4096) (R : Fin 4096) (hR : (R : ℕ) = t.val * 128 + r) (C : Fin 8192)
    (hC : (C : ℕ) = s) : dzBlk (iblk6 V c 0 t) (iblk6 V c 5 t) (iblk6 V c 1 t) (iblk6 V c 3 t) r s
      = dz (V c main_v16) (V c main_v0) (V c main_arg1) (V c main_v11) (V c main_v12) R C := by
  obtain rfl : C = lo s := Fin.ext hC
  rw [dz_lo, gate]
  refine dGate_congr ?_ ?_ ?_ ?_
  · blk_ext [iblk6, idx6 t]
  · blk_ext [iblk6, idx6 t]
  · blk_ext [iblk6, idx6 t, lo]
  · blk_ext [iblk6, idx6 t, lo]

/-- The same in the second half of the columns. -/
theorem block_hi (t : Fin cfg6.N) (r : Fin 128) (s : Fin 4096) (R : Fin 4096) (hR : (R : ℕ) = t.val * 128 + r) (C : Fin 8192)
    (hC : (C : ℕ) = 4096 + s) : dzBlk (iblk6 V c 0 t) (iblk6 V c 6 t) (iblk6 V c 2 t) (iblk6 V c 4 t) r s
      = dz (V c main_v16) (V c main_v0) (V c main_arg1) (V c main_v11) (V c main_v12) R C := by
  obtain rfl : C = hi s := Fin.ext hC
  rw [dz_hi, gate]
  refine dGate_congr ?_ ?_ ?_ ?_
  · blk_ext [iblk6, idx6 t]
  · blk_ext [iblk6, idx6 t]
  · blk_ext [iblk6, idx6 t, hi]
  · blk_ext [iblk6, idx6 t, hi]

/-- What a point leaves of the gates' inputs' gradient: two halves of columns. -/
theorem gates_at (t : Fin cfg6.N) (y : S128x8192.Idx) (R : Fin 4096) (hR : (R : ℕ) = t.val * 128 + (y 0).val) :
    (outsAt6 V c t.val t.isLt).2.2.1 y
      = dz (V c main_v16) (V c main_v0) (V c main_arg1) (V c main_v11) (V c main_v12) R (y 1) := by
  by_cases hA : t.val % 32 = 0
  · rw [outsAt6_A V c t hA]; frame_out
    canon_tiles x h
    · obtain ⟨r, s, rfl⟩ : ∃ (r : Fin 128) (s : Fin 4096), x = ix2 r s := ⟨x 0, x 1, eq_ix2 x⟩
      exact (pay6_hi _ _ _ _ r s).trans (block_hi V c t r s R (hR.trans (congrArg _ h0)) _ h1)
    · obtain ⟨r, s, rfl⟩ : ∃ (r : Fin 128) (s : Fin 4096), x = ix2 r s := ⟨x 0, x 1, eq_ix2 x⟩
      exact (pay6_lo _ _ _ _ r s).trans (block_lo V c t r s R (hR.trans (congrArg _ h0)) _ h1)
  · rw [outsAt6_B V c t hA]; frame_out
    canon_tiles x h
    · obtain ⟨r, s, rfl⟩ : ∃ (r : Fin 128) (s : Fin 4096), x = ix2 r s := ⟨x 0, x 1, eq_ix2 x⟩
      exact (pay6_hi _ _ _ _ r s).trans (block_hi V c t r s R (hR.trans (congrArg _ h0)) _ h1)
    · obtain ⟨r, s, rfl⟩ : ∃ (r : Fin 128) (s : Fin 4096), x = ix2 r s := ⟨x 0, x 1, eq_ix2 x⟩
      exact (pay6_lo _ _ _ _ r s).trans (block_lo V c t r s R (hR.trans (congrArg _ h0)) _ h1)

/-- The gates' inputs' gradient. -/
theorem final6_gates : (dat6 V c).arrAt 9 cfg6.N
    = gateGrad (V c main_v16) (V c main_v0) (V c main_arg1) (V c main_v11) (V c main_v12) := by
  refine (dat6 V c).arrAt_eq_of_covers 9 _ (by decide +kernel) fun t hf y => ?_
  blk_simp
  rw [after6_9]
  have ht := lt_of_lt_of_eq t.isLt N_6
  obtain ⟨r, s, rfl⟩ : ∃ (r : Fin 128) (s : Fin 8192), y = ix2 r s := ⟨y 0, y 1, eq_ix2 y⟩
  refine (gates_at V c t (ix2 r s) ⟨t.val * 128 + r, by omega⟩ rfl).trans ?_
  rw [gateGrad]
  refine congrArg₂ (dz _ _ _ _ _) (Fin.ext ?_) (Fin.ext ?_) <;> blk_simp [idx6 t]

/-! ## The bias gradient: the points' row blocks, added -/

/-- What a point adds to a column of the bias gradient. -/
def rowsPart (t : Fin cfg6.N) (C : Fin 8192) : EReal :=
  ∑ r : Fin 128, dz (V c main_v16) (V c main_v0) (V c main_arg1) (V c main_v11) (V c main_v12)
    ⟨t.val * 128 + r, by have := lt_of_lt_of_eq t.isLt N_6; omega⟩ C

/-- The sum a point leaves in the second half of the columns. -/
theorem piece_hi (t : Fin cfg6.N) (a : FVec Ideal S1x4096 .f32) (x : S1x4096.Idx) (A : EReal) (C : Fin 8192)
    (ha : a x = A) (hC : (C : ℕ) = 4096 + (x 1).val) :
    k6_pay12 (F := Ideal) (k6_pay1 (iblk6 V c 0 t)) (k6_pay3 (iblk6 V c 2 t) (iblk6 V c 4 t)) (iblk6 V c 6 t) a x
      = A + rowsPart V c t C := by
  obtain ⟨u, s, rfl⟩ : ∃ (u : Fin 1) (s : Fin 4096), x = ix2 u s := ⟨x 0, x 1, eq_ix2 x⟩
  obtain rfl : u = 0 := Subsingleton.elim _ _
  rw [← ha, rowsPart]
  exact (pay6_bias_hi _ _ _ _ _ s).trans (congrArg (fun v : EReal => a (ix2 0 s) + v)
    (Finset.sum_congr rfl fun r _ => block_hi V c t r s _ rfl _ hC))

/-- The sum a point leaves in the first half of the columns. -/
theorem piece_lo (t : Fin cfg6.N) (a : FVec Ideal S1x4096 .f32) (x : S1x4096.Idx) (A : EReal) (C : Fin 8192)
    (ha : a x = A) (hC : (C : ℕ) = (x 1).val) :
    k6_pay11 (F := Ideal) (k6_pay1 (iblk6 V c 0 t)) (k6_pay2 (iblk6 V c 1 t) (iblk6 V c 3 t)) (iblk6 V c 5 t) a x
      = A + rowsPart V c t C := by
  obtain ⟨u, s, rfl⟩ : ∃ (u : Fin 1) (s : Fin 4096), x = ix2 u s := ⟨x 0, x 1, eq_ix2 x⟩
  obtain rfl : u = 0 := Subsingleton.elim _ _
  rw [← ha, rowsPart]
  exact (pay6_bias_lo _ _ _ _ _ s).trans (congrArg (fun v : EReal => a (ix2 0 s) + v)
    (Finset.sum_congr rfl fun r _ => block_lo V c t r s _ rfl _ hC))

/-- What the first point leaves of the bias gradient. -/
theorem bias_first (t : Fin cfg6.N) (hA : t.val % 32 = 0) (y : S1x8192.Idx) :
    (outsAt6 V c t.val t.isLt).2.2.2 y = 0 + rowsPart V c t (y 1) := by
  rw [outsAt6_A V c t hA]; frame_out
  simp (disch := decide) only [↓ View.readCov_skip, ↓ View.readCov_cons_toLoadRect, ↓ View.readCov_fill]
  refine View.canon_append_of_piecesOf (Val := Elt Ideal) (s := S1x8192) (e := .f32)
    (fun y => (show EReal from 0 + rowsPart V c t (y 1))) [_] [_, _] ?_ y ?_
  · refine ⟨fun x => piece_hi V c t _ x 0 _ (pay6_zero _) ?_, fun x => piece_lo V c t _ x 0 _ (pay6_zero _) ?_, trivial⟩
    · exact Rect.idx_unit_val _ _ inb_S1x8192_S1x4096_0_4096 x 1
    · exact (Rect.idx_unit_val _ _ inb_S1x8192_S1x4096_0_0 x 1).trans (Nat.zero_add _)
  · exact View.cover_of_tiled_head _ _ _ rfl y

/-- What every later point leaves of the bias gradient. -/
theorem bias_next (t : Fin cfg6.N) (hB : ¬ t.val % 32 = 0) (y : S1x8192.Idx) :
    (outsAt6 V c t.val t.isLt).2.2.2 y
      = (outsAt6 V c (t.val - 1) (lt_of_le_of_lt (Nat.sub_le _ _) t.isLt)).2.2.2 y + rowsPart V c t (y 1) := by
  rw [outsAt6_B V c t hB]; frame_out
  canon_tiles x h
  · refine piece_hi V c t _ x _ _ ?_ h1
    obtain ⟨u, s, rfl⟩ : ∃ (u : Fin 1) (s : Fin 4096), x = ix2 u s := ⟨x 0, x 1, eq_ix2 x⟩
    obtain ⟨w, C, rfl⟩ : ∃ (w : Fin 1) (C : Fin 8192), y = ix2 w C := ⟨y 0, y 1, eq_ix2 y⟩
    generalize (outsAt6 V c (t.val - 1) _).2.2.2 = X
    pointwise
    blk_ext [h0, h1]
  · refine piece_lo V c t _ x _ _ ?_ h1
    obtain ⟨u, s, rfl⟩ : ∃ (u : Fin 1) (s : Fin 4096), x = ix2 u s := ⟨x 0, x 1, eq_ix2 x⟩
    obtain ⟨w, C, rfl⟩ : ∃ (w : Fin 1) (C : Fin 8192), y = ix2 w C := ⟨y 0, y 1, eq_ix2 y⟩
    generalize (outsAt6 V c (t.val - 1) _).2.2.2 = X
    pointwise
    blk_ext [h0, h1]

/-- The bias gradient. -/
theorem final6_bias : (dat6 V c).arrAt 10 cfg6.N
    = biasGrad (V c main_v16) (V c main_v0) (V c main_arg1) (V c main_v11) (V c main_v12) := by
  refine (dat6 V c).arrAt_eq_of_covers 10 _ (by decide +kernel) fun t hf y => ?_
  blk_simp
  rw [after6_10]
  have ht : t.val % 32 = 31 := (flush6_10 t).mp hf
  have hN := lt_of_lt_of_eq t.isLt N_6
  rw [Pipeline.eq_sum_fin_of_reset_step_apply_of_flush (fun n h => (outsAt6 V c n h).2.2.2) 32 (fun _ => 0)
    (fun t j => rowsPart V c t (j 1)) (fun t h j => bias_first V c t h j) (fun t h j => bias_next V c t h j)
    t ht y, zero_add]
  rw [biasGrad]
  refine Fin.sum_mul_add_congr fun k l => ?_
  intro _
  refine congrArg₂ (dz _ _ _ _ _) (Fin.ext ?_) (Fin.ext ?_)
  · show (32 * (t.val / 32) + k.val) * 128 + l.val = k.val * 128 + l.val; omega
  · blk_simp [idx6 t]

end Cert.Kernel8Ideal.Merge

end
-- ==== Proof.MergeRun.lean ====
/-
  The run of the merge step: every run ends with the seven results and the arguments at what the host's last
  operations leave.
-/
module

public import proofs.«01_k».proof.Proof.Gen.Kernel8Ideal.Frame
public import Idealize.ShloMosaic.Lib.Pipeline.ValueKit

@[expose] public section

set_option maxRecDepth 16384

noncomputable section

namespace Cert.Kernel8Ideal.Merge

open Idealize.ShloMosaic Idealize.ShloMosaic.TcCoe Idealize.ShloMosaic.Tactic Cert.Kernel8Ideal Cert.Kernel8Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, each unscoped buffer of each core at what the last host operations leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun c => ?_⟩
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h _ => h)

/-- Every run ends, the results at the last host operations' and the arguments as launched. -/
theorem run : θ_run defs (onTc (τ := τ) (main (F := Ideal))) ⟨m, fun _ => 0, ρ⟩ (fun r => ∀ c : Dev nD,
      r.2.mem ((c.tc : Thread nD τ).loc main_v14) = W13 m ρ c (Proc.devRef .tc main_v14)
      ∧ r.2.mem ((c.tc : Thread nD τ).loc main_v22) = W13 m ρ c (Proc.devRef .tc main_v22)
      ∧ r.2.mem ((c.tc : Thread nD τ).loc main_v17_3) = W13 m ρ c (Proc.devRef .tc main_v17_3)
      ∧ r.2.mem ((c.tc : Thread nD τ).loc main_v23) = W13 m ρ c (Proc.devRef .tc main_v23)
      ∧ r.2.mem ((c.tc : Thread nD τ).loc main_v24) = W13 m ρ c (Proc.devRef .tc main_v24)
      ∧ r.2.mem ((c.tc : Thread nD τ).loc main_v29) = W13 m ρ c (Proc.devRef .tc main_v29)
      ∧ r.2.mem ((c.tc : Thread nD τ).loc main_v30) = W13 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v14 (by decide)),
      h c _ (mem_uc main_v22 (by decide)),
      h c _ (mem_uc main_v17_3 (by decide)),
      h c _ (mem_uc main_v23 (by decide)),
      h c _ (mem_uc main_v24 (by decide)),
      h c _ (mem_uc main_v29 (by decide)),
      h c _ (mem_uc main_v30 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c)⟩) (run_all m ρ)

end Cert.Kernel8Ideal.Merge

end
-- ==== Proof.MergeChain.lean ====
/-
  The merge step's eleven calls put together: what each result holds at the end of the run, as the arrays the calls leave
  one from another.
-/
module

public import proofs.«01_k».proof.Proof.MergeForward
public import proofs.«01_k».proof.Proof.MergeBranches
public import proofs.«01_k».proof.Proof.MergeOut
public import proofs.«01_k».proof.Proof.MergeGrads
public import proofs.«01_k».proof.Proof.MergeGates
public import proofs.«01_k».proof.Proof.MergeRun

@[expose] public section

set_option maxRecDepth 16384

noncomputable section

namespace Cert.Kernel8Ideal.Merge

open Idealize.ShloMosaic Idealize.ShloMosaic.TcCoe Idealize.ShloMosaic.Tactic Cert.Kernel8Ideal Cert.Kernel8Ideal.Gen

variable (m : (ℓ : Loc nD τ sig) → Buf (Elt Ideal) ℓ) (ρ : Dev nD → PrngReg) (c : Dev nD)

/-! ## What the host hands the calls -/

/-- The gates' inputs before their bias. -/
abbrev gatesIn : FVec Ideal S4096x8192 .bf16 := truncf (F := Ideal) .bf16 (m (c.tc.loc main_arg0) : FVec Ideal S4096x8192 .f32) bitsLt_bf16_f32

/-- The gates' bias. -/
abbrev biasIn : FVec Ideal S1x8192 .f32 := (m (c.tc.loc main_arg1) : FVec Ideal S1x8192 .f32)

/-- The first branch's input. -/
abbrev firstIn : FVec Ideal S4096x2048 .bf16 := truncf (F := Ideal) .bf16 (m (c.tc.loc main_arg2) : FVec Ideal S4096x2048 .f32) bitsLt_bf16_f32

/-- The second branch's input. -/
abbrev secondIn : FVec Ideal S4096x2048 .bf16 := truncf (F := Ideal) .bf16 (m (c.tc.loc main_arg3) : FVec Ideal S4096x2048 .f32) bitsLt_bf16_f32

/-- The first branch's weights. -/
abbrev firstW : FVec Ideal S2048x4096 .bf16 := truncf (F := Ideal) .bf16 (shapeCast S2048x4096
  (extractStridedSlice S1x2048x4096 ![0, 0, 0] (m (c.tc.loc main_arg4) : FVec Ideal S2x2048x4096 .f32) slices_S2x2048x4096_S1x2048x4096_0_0_0)
  shapeCasts_S1x2048x4096_S2048x4096) bitsLt_bf16_f32

/-- The second branch's weights. -/
abbrev secondW : FVec Ideal S2048x4096 .bf16 := truncf (F := Ideal) .bf16 (shapeCast S2048x4096
  (extractStridedSlice S1x2048x4096 ![1, 0, 0] (m (c.tc.loc main_arg4) : FVec Ideal S2x2048x4096 .f32) slices_S2x2048x4096_S1x2048x4096_1_0_0)
  shapeCasts_S1x2048x4096_S2048x4096) bitsLt_bf16_f32

/-- The output weights. -/
abbrev outW : FVec Ideal S4096x4096 .bf16 := truncf (F := Ideal) .bf16 (m (c.tc.loc main_arg5) : FVec Ideal S4096x4096 .f32) bitsLt_bf16_f32

/-- The residual. -/
abbrev restIn : FVec Ideal S4096x4096 .f32 := (m (c.tc.loc main_arg6) : FVec Ideal S4096x4096 .f32)

/-- The incoming gradient. -/
abbrev gradIn : FVec Ideal S4096x4096 .bf16 := truncf (F := Ideal) .bf16 (m (c.tc.loc main_arg7) : FVec Ideal S4096x4096 .f32) bitsLt_bf16_f32

theorem host_v0 : W1 m ρ c (Proc.devRef .tc main_v0) = gatesIn m c := by
  after_results_simp

theorem host_v1 : W1 m ρ c (Proc.devRef .tc main_v1) = firstIn m c := by
  after_results_simp

theorem host_v2 : W1 m ρ c (Proc.devRef .tc main_v2) = secondIn m c := by
  after_results_simp

theorem host_v5 : W1 m ρ c (Proc.devRef .tc main_v5) = firstW m c := by
  after_results_simp
  rfl

theorem host_v8 : W1 m ρ c (Proc.devRef .tc main_v8) = secondW m c := by
  after_results_simp
  rfl

theorem host_v9 : W1 m ρ c (Proc.devRef .tc main_v9) = outW m c := by
  after_results_simp

theorem host_v10 : W1 m ρ c (Proc.devRef .tc main_v10) = gradIn m c := by
  after_results_simp

theorem host_arg1 : W1 m ρ c (Proc.devRef .tc main_arg1) = biasIn m c := by
  after_results_simp

theorem host_arg6 : W1 m ρ c (Proc.devRef .tc main_arg6) = restIn m c := by
  after_results_simp

/-! ## The arrays the calls leave -/

abbrev firstOut : FVec Ideal S4096x4096 .bf16 := branch (firstIn m c) (firstW m c)
abbrev secondOut : FVec Ideal S4096x4096 .bf16 := branch (secondIn m c) (secondW m c)
abbrev mergedOut : FVec Ideal S4096x4096 .bf16 := merged (gatesIn m c) (biasIn m c) (firstOut m c) (secondOut m c)
abbrev projectedOut : FVec Ideal S4096x4096 .f32 := projected (mergedOut m c) (outW m c) (restIn m c)
abbrev outGrad : FVec Ideal S4096x4096 .bf16 := overRows (mergedOut m c) (gradIn m c)
abbrev mergedGrad : FVec Ideal S4096x4096 .bf16 := overCols (gradIn m c) (outW m c)
abbrev firstGradOut : FVec Ideal S4096x4096 .bf16 := firstGrad (mergedGrad m c) (gatesIn m c) (biasIn m c)
abbrev secondGradOut : FVec Ideal S4096x4096 .bf16 := secondGrad (mergedGrad m c) (gatesIn m c) (biasIn m c)
abbrev gateGradOut : FVec Ideal S4096x8192 .bf16 := gateGrad (mergedGrad m c) (gatesIn m c) (biasIn m c) (firstOut m c) (secondOut m c)
abbrev biasGradOut : FVec Ideal S1x8192 .f32 := biasGrad (mergedGrad m c) (gatesIn m c) (biasIn m c) (firstOut m c) (secondOut m c)
abbrev firstWGrad : FVec Ideal S2048x4096 .bf16 := weightGrad (firstIn m c) (firstGradOut m c)
abbrev secondWGrad : FVec Ideal S2048x4096 .bf16 := weightGrad (secondIn m c) (secondGradOut m c)
abbrev firstInGrad : FVec Ideal S4096x2048 .bf16 := inputGrad (firstGradOut m c) (firstW m c)
abbrev secondInGrad : FVec Ideal S4096x2048 .bf16 := inputGrad (secondGradOut m c) (secondW m c)

/-! ## One call after another -/

theorem at2_v11 : W2 m ρ c (Proc.devRef .tc main_v11) = firstOut m c := by
  refine (W2_arr m ρ c 2).trans ((final0 (V1 m ρ) c).trans ?_)
  rw [show V1 m ρ c main_v1 = firstIn m c from host_v1 m ρ c, show V1 m ρ c main_v5 = firstW m c from host_v5 m ρ c]

theorem at2_v2 : W2 m ρ c (Proc.devRef .tc main_v2) = secondIn m c :=
  (W2_of m ρ c main_v2 (by decide +kernel)).trans (host_v2 m ρ c)

theorem at2_v8 : W2 m ρ c (Proc.devRef .tc main_v8) = secondW m c :=
  (W2_of m ρ c main_v8 (by decide +kernel)).trans (host_v8 m ρ c)

theorem at3_v12 : W3 m ρ c (Proc.devRef .tc main_v12) = secondOut m c := by
  refine (W3_arr m ρ c 2).trans ((final1 (V2 m ρ) c).trans ?_)
  rw [show V2 m ρ c main_v2 = secondIn m c from at2_v2 m ρ c, show V2 m ρ c main_v8 = secondW m c from at2_v8 m ρ c]

theorem at2_v0 : W2 m ρ c (Proc.devRef .tc main_v0) = gatesIn m c :=
  (W2_of m ρ c main_v0 (by decide +kernel)).trans (host_v0 m ρ c)

theorem at3_v0 : W3 m ρ c (Proc.devRef .tc main_v0) = gatesIn m c :=
  (W3_of m ρ c main_v0 (by decide +kernel)).trans (at2_v0 m ρ c)

theorem at2_arg1 : W2 m ρ c (Proc.devRef .tc main_arg1) = biasIn m c :=
  (W2_of m ρ c main_arg1 (by decide +kernel)).trans (host_arg1 m ρ c)

theorem at3_arg1 : W3 m ρ c (Proc.devRef .tc main_arg1) = biasIn m c :=
  (W3_of m ρ c main_arg1 (by decide +kernel)).trans (at2_arg1 m ρ c)

theorem at3_v11 : W3 m ρ c (Proc.devRef .tc main_v11) = firstOut m c :=
  (W3_of m ρ c main_v11 (by decide +kernel)).trans (at2_v11 m ρ c)

theorem at4_v13 : W4 m ρ c (Proc.devRef .tc main_v13) = mergedOut m c := by
  refine (W4_arr m ρ c 6).trans ((final2 (V3 m ρ) c).trans ?_)
  rw [show V3 m ρ c main_v0 = gatesIn m c from at3_v0 m ρ c, show V3 m ρ c main_arg1 = biasIn m c from at3_arg1 m ρ c, show V3 m ρ c main_v11 = firstOut m c from at3_v11 m ρ c, show V3 m ρ c main_v12 = secondOut m c from at3_v12 m ρ c]

theorem at2_v9 : W2 m ρ c (Proc.devRef .tc main_v9) = outW m c :=
  (W2_of m ρ c main_v9 (by decide +kernel)).trans (host_v9 m ρ c)

theorem at3_v9 : W3 m ρ c (Proc.devRef .tc main_v9) = outW m c :=
  (W3_of m ρ c main_v9 (by decide +kernel)).trans (at2_v9 m ρ c)

theorem at4_v9 : W4 m ρ c (Proc.devRef .tc main_v9) = outW m c :=
  (W4_of m ρ c main_v9 (by decide +kernel)).trans (at3_v9 m ρ c)

theorem at2_arg6 : W2 m ρ c (Proc.devRef .tc main_arg6) = restIn m c :=
  (W2_of m ρ c main_arg6 (by decide +kernel)).trans (host_arg6 m ρ c)

theorem at3_arg6 : W3 m ρ c (Proc.devRef .tc main_arg6) = restIn m c :=
  (W3_of m ρ c main_arg6 (by decide +kernel)).trans (at2_arg6 m ρ c)

theorem at4_arg6 : W4 m ρ c (Proc.devRef .tc main_arg6) = restIn m c :=
  (W4_of m ρ c main_arg6 (by decide +kernel)).trans (at3_arg6 m ρ c)

theorem at5_v14 : W5 m ρ c (Proc.devRef .tc main_v14) = projectedOut m c := by
  refine (W5_arr m ρ c 3).trans ((final3 (V4 m ρ) c).trans ?_)
  rw [show V4 m ρ c main_v13 = mergedOut m c from at4_v13 m ρ c, show V4 m ρ c main_v9 = outW m c from at4_v9 m ρ c, show V4 m ρ c main_arg6 = restIn m c from at4_arg6 m ρ c]

theorem at5_v13 : W5 m ρ c (Proc.devRef .tc main_v13) = mergedOut m c :=
  (W5_of m ρ c main_v13 (by decide +kernel)).trans (at4_v13 m ρ c)

theorem at2_v10 : W2 m ρ c (Proc.devRef .tc main_v10) = gradIn m c :=
  (W2_of m ρ c main_v10 (by decide +kernel)).trans (host_v10 m ρ c)

theorem at3_v10 : W3 m ρ c (Proc.devRef .tc main_v10) = gradIn m c :=
  (W3_of m ρ c main_v10 (by decide +kernel)).trans (at2_v10 m ρ c)

theorem at4_v10 : W4 m ρ c (Proc.devRef .tc main_v10) = gradIn m c :=
  (W4_of m ρ c main_v10 (by decide +kernel)).trans (at3_v10 m ρ c)

theorem at5_v10 : W5 m ρ c (Proc.devRef .tc main_v10) = gradIn m c :=
  (W5_of m ρ c main_v10 (by decide +kernel)).trans (at4_v10 m ρ c)

theorem at6_v15 : W6 m ρ c (Proc.devRef .tc main_v15) = outGrad m c := by
  refine (W6_arr m ρ c 2).trans ((final4 (V5 m ρ) c).trans ?_)
  rw [show V5 m ρ c main_v13 = mergedOut m c from at5_v13 m ρ c, show V5 m ρ c main_v10 = gradIn m c from at5_v10 m ρ c]

theorem at6_v10 : W6 m ρ c (Proc.devRef .tc main_v10) = gradIn m c :=
  (W6_of m ρ c main_v10 (by decide +kernel)).trans (at5_v10 m ρ c)

theorem at5_v9 : W5 m ρ c (Proc.devRef .tc main_v9) = outW m c :=
  (W5_of m ρ c main_v9 (by decide +kernel)).trans (at4_v9 m ρ c)

theorem at6_v9 : W6 m ρ c (Proc.devRef .tc main_v9) = outW m c :=
  (W6_of m ρ c main_v9 (by decide +kernel)).trans (at5_v9 m ρ c)

theorem at7_v16 : W7 m ρ c (Proc.devRef .tc main_v16) = mergedGrad m c := by
  refine (W7_arr m ρ c 2).trans ((final5 (V6 m ρ) c).trans ?_)
  rw [show V6 m ρ c main_v10 = gradIn m c from at6_v10 m ρ c, show V6 m ρ c main_v9 = outW m c from at6_v9 m ρ c]

theorem at4_v0 : W4 m ρ c (Proc.devRef .tc main_v0) = gatesIn m c :=
  (W4_of m ρ c main_v0 (by decide +kernel)).trans (at3_v0 m ρ c)

theorem at5_v0 : W5 m ρ c (Proc.devRef .tc main_v0) = gatesIn m c :=
  (W5_of m ρ c main_v0 (by decide +kernel)).trans (at4_v0 m ρ c)

theorem at6_v0 : W6 m ρ c (Proc.devRef .tc main_v0) = gatesIn m c :=
  (W6_of m ρ c main_v0 (by decide +kernel)).trans (at5_v0 m ρ c)

theorem at7_v0 : W7 m ρ c (Proc.devRef .tc main_v0) = gatesIn m c :=
  (W7_of m ρ c main_v0 (by decide +kernel)).trans (at6_v0 m ρ c)

theorem at4_arg1 : W4 m ρ c (Proc.devRef .tc main_arg1) = biasIn m c :=
  (W4_of m ρ c main_arg1 (by decide +kernel)).trans (at3_arg1 m ρ c)

theorem at5_arg1 : W5 m ρ c (Proc.devRef .tc main_arg1) = biasIn m c :=
  (W5_of m ρ c main_arg1 (by decide +kernel)).trans (at4_arg1 m ρ c)

theorem at6_arg1 : W6 m ρ c (Proc.devRef .tc main_arg1) = biasIn m c :=
  (W6_of m ρ c main_arg1 (by decide +kernel)).trans (at5_arg1 m ρ c)

theorem at7_arg1 : W7 m ρ c (Proc.devRef .tc main_arg1) = biasIn m c :=
  (W7_of m ρ c main_arg1 (by decide +kernel)).trans (at6_arg1 m ρ c)

theorem at4_v11 : W4 m ρ c (Proc.devRef .tc main_v11) = firstOut m c :=
  (W4_of m ρ c main_v11 (by decide +kernel)).trans (at3_v11 m ρ c)

theorem at5_v11 : W5 m ρ c (Proc.devRef .tc main_v11) = firstOut m c :=
  (W5_of m ρ c main_v11 (by decide +kernel)).trans (at4_v11 m ρ c)

theorem at6_v11 : W6 m ρ c (Proc.devRef .tc main_v11) = firstOut m c :=
  (W6_of m ρ c main_v11 (by decide +kernel)).trans (at5_v11 m ρ c)

theorem at7_v11 : W7 m ρ c (Proc.devRef .tc main_v11) = firstOut m c :=
  (W7_of m ρ c main_v11 (by decide +kernel)).trans (at6_v11 m ρ c)

theorem at4_v12 : W4 m ρ c (Proc.devRef .tc main_v12) = secondOut m c :=
  (W4_of m ρ c main_v12 (by decide +kernel)).trans (at3_v12 m ρ c)

theorem at5_v12 : W5 m ρ c (Proc.devRef .tc main_v12) = secondOut m c :=
  (W5_of m ρ c main_v12 (by decide +kernel)).trans (at4_v12 m ρ c)

theorem at6_v12 : W6 m ρ c (Proc.devRef .tc main_v12) = secondOut m c :=
  (W6_of m ρ c main_v12 (by decide +kernel)).trans (at5_v12 m ρ c)

theorem at7_v12 : W7 m ρ c (Proc.devRef .tc main_v12) = secondOut m c :=
  (W7_of m ρ c main_v12 (by decide +kernel)).trans (at6_v12 m ρ c)

theorem at8_v17_0 : W8 m ρ c (Proc.devRef .tc main_v17_0) = firstGradOut m c := by
  refine (W8_arr m ρ c 7).trans ((final6_first (V7 m ρ) c).trans ?_)
  rw [show V7 m ρ c main_v16 = mergedGrad m c from at7_v16 m ρ c, show V7 m ρ c main_v0 = gatesIn m c from at7_v0 m ρ c, show V7 m ρ c main_arg1 = biasIn m c from at7_arg1 m ρ c]

theorem at8_v17_1 : W8 m ρ c (Proc.devRef .tc main_v17_1) = secondGradOut m c := by
  refine (W8_arr m ρ c 8).trans ((final6_second (V7 m ρ) c).trans ?_)
  rw [show V7 m ρ c main_v16 = mergedGrad m c from at7_v16 m ρ c, show V7 m ρ c main_v0 = gatesIn m c from at7_v0 m ρ c, show V7 m ρ c main_arg1 = biasIn m c from at7_arg1 m ρ c]

theorem at8_v17_2 : W8 m ρ c (Proc.devRef .tc main_v17_2) = gateGradOut m c := by
  refine (W8_arr m ρ c 9).trans ((final6_gates (V7 m ρ) c).trans ?_)
  rw [show V7 m ρ c main_v16 = mergedGrad m c from at7_v16 m ρ c, show V7 m ρ c main_v0 = gatesIn m c from at7_v0 m ρ c, show V7 m ρ c main_arg1 = biasIn m c from at7_arg1 m ρ c, show V7 m ρ c main_v11 = firstOut m c from at7_v11 m ρ c, show V7 m ρ c main_v12 = secondOut m c from at7_v12 m ρ c]

theorem at8_v17_3 : W8 m ρ c (Proc.devRef .tc main_v17_3) = biasGradOut m c := by
  refine (W8_arr m ρ c 10).trans ((final6_bias (V7 m ρ) c).trans ?_)
  rw [show V7 m ρ c main_v16 = mergedGrad m c from at7_v16 m ρ c, show V7 m ρ c main_v0 = gatesIn m c from at7_v0 m ρ c, show V7 m ρ c main_arg1 = biasIn m c from at7_arg1 m ρ c, show V7 m ρ c main_v11 = firstOut m c from at7_v11 m ρ c, show V7 m ρ c main_v12 = secondOut m c from at7_v12 m ρ c]

theorem at2_v1 : W2 m ρ c (Proc.devRef .tc main_v1) = firstIn m c :=
  (W2_of m ρ c main_v1 (by decide +kernel)).trans (host_v1 m ρ c)

theorem at3_v1 : W3 m ρ c (Proc.devRef .tc main_v1) = firstIn m c :=
  (W3_of m ρ c main_v1 (by decide +kernel)).trans (at2_v1 m ρ c)

theorem at4_v1 : W4 m ρ c (Proc.devRef .tc main_v1) = firstIn m c :=
  (W4_of m ρ c main_v1 (by decide +kernel)).trans (at3_v1 m ρ c)

theorem at5_v1 : W5 m ρ c (Proc.devRef .tc main_v1) = firstIn m c :=
  (W5_of m ρ c main_v1 (by decide +kernel)).trans (at4_v1 m ρ c)

theorem at6_v1 : W6 m ρ c (Proc.devRef .tc main_v1) = firstIn m c :=
  (W6_of m ρ c main_v1 (by decide +kernel)).trans (at5_v1 m ρ c)

theorem at7_v1 : W7 m ρ c (Proc.devRef .tc main_v1) = firstIn m c :=
  (W7_of m ρ c main_v1 (by decide +kernel)).trans (at6_v1 m ρ c)

theorem at8_v1 : W8 m ρ c (Proc.devRef .tc main_v1) = firstIn m c :=
  (W8_of m ρ c main_v1 (by decide +kernel)).trans (at7_v1 m ρ c)

theorem at9_v18 : W9 m ρ c (Proc.devRef .tc main_v18) = firstWGrad m c := by
  refine (W9_arr m ρ c 2).trans ((final7 (V8 m ρ) c).trans ?_)
  rw [show V8 m ρ c main_v1 = firstIn m c from at8_v1 m ρ c, show V8 m ρ c main_v17_0 = firstGradOut m c from at8_v17_0 m ρ c]

theorem at3_v2 : W3 m ρ c (Proc.devRef .tc main_v2) = secondIn m c :=
  (W3_of m ρ c main_v2 (by decide +kernel)).trans (at2_v2 m ρ c)

theorem at4_v2 : W4 m ρ c (Proc.devRef .tc main_v2) = secondIn m c :=
  (W4_of m ρ c main_v2 (by decide +kernel)).trans (at3_v2 m ρ c)

theorem at5_v2 : W5 m ρ c (Proc.devRef .tc main_v2) = secondIn m c :=
  (W5_of m ρ c main_v2 (by decide +kernel)).trans (at4_v2 m ρ c)

theorem at6_v2 : W6 m ρ c (Proc.devRef .tc main_v2) = secondIn m c :=
  (W6_of m ρ c main_v2 (by decide +kernel)).trans (at5_v2 m ρ c)

theorem at7_v2 : W7 m ρ c (Proc.devRef .tc main_v2) = secondIn m c :=
  (W7_of m ρ c main_v2 (by decide +kernel)).trans (at6_v2 m ρ c)

theorem at8_v2 : W8 m ρ c (Proc.devRef .tc main_v2) = secondIn m c :=
  (W8_of m ρ c main_v2 (by decide +kernel)).trans (at7_v2 m ρ c)

theorem at9_v2 : W9 m ρ c (Proc.devRef .tc main_v2) = secondIn m c :=
  (W9_of m ρ c main_v2 (by decide +kernel)).trans (at8_v2 m ρ c)

theorem at9_v17_1 : W9 m ρ c (Proc.devRef .tc main_v17_1) = secondGradOut m c :=
  (W9_of m ρ c main_v17_1 (by decide +kernel)).trans (at8_v17_1 m ρ c)

theorem at10_v19 : W10 m ρ c (Proc.devRef .tc main_v19) = secondWGrad m c := by
  refine (W10_arr m ρ c 2).trans ((final8 (V9 m ρ) c).trans ?_)
  rw [show V9 m ρ c main_v2 = secondIn m c from at9_v2 m ρ c, show V9 m ρ c main_v17_1 = secondGradOut m c from at9_v17_1 m ρ c]

theorem at9_v17_0 : W9 m ρ c (Proc.devRef .tc main_v17_0) = firstGradOut m c :=
  (W9_of m ρ c main_v17_0 (by decide +kernel)).trans (at8_v17_0 m ρ c)

theorem at10_v17_0 : W10 m ρ c (Proc.devRef .tc main_v17_0) = firstGradOut m c :=
  (W10_of m ρ c main_v17_0 (by decide +kernel)).trans (at9_v17_0 m ρ c)

theorem at2_v5 : W2 m ρ c (Proc.devRef .tc main_v5) = firstW m c :=
  (W2_of m ρ c main_v5 (by decide +kernel)).trans (host_v5 m ρ c)

theorem at3_v5 : W3 m ρ c (Proc.devRef .tc main_v5) = firstW m c :=
  (W3_of m ρ c main_v5 (by decide +kernel)).trans (at2_v5 m ρ c)

theorem at4_v5 : W4 m ρ c (Proc.devRef .tc main_v5) = firstW m c :=
  (W4_of m ρ c main_v5 (by decide +kernel)).trans (at3_v5 m ρ c)

theorem at5_v5 : W5 m ρ c (Proc.devRef .tc main_v5) = firstW m c :=
  (W5_of m ρ c main_v5 (by decide +kernel)).trans (at4_v5 m ρ c)

theorem at6_v5 : W6 m ρ c (Proc.devRef .tc main_v5) = firstW m c :=
  (W6_of m ρ c main_v5 (by decide +kernel)).trans (at5_v5 m ρ c)

theorem at7_v5 : W7 m ρ c (Proc.devRef .tc main_v5) = firstW m c :=
  (W7_of m ρ c main_v5 (by decide +kernel)).trans (at6_v5 m ρ c)

theorem at8_v5 : W8 m ρ c (Proc.devRef .tc main_v5) = firstW m c :=
  (W8_of m ρ c main_v5 (by decide +kernel)).trans (at7_v5 m ρ c)

theorem at9_v5 : W9 m ρ c (Proc.devRef .tc main_v5) = firstW m c :=
  (W9_of m ρ c main_v5 (by decide +kernel)).trans (at8_v5 m ρ c)

theorem at10_v5 : W10 m ρ c (Proc.devRef .tc main_v5) = firstW m c :=
  (W10_of m ρ c main_v5 (by decide +kernel)).trans (at9_v5 m ρ c)

theorem at11_v20 : W11 m ρ c (Proc.devRef .tc main_v20) = firstInGrad m c := by
  refine (W11_arr m ρ c 2).trans ((final9 (V10 m ρ) c).trans ?_)
  rw [show V10 m ρ c main_v17_0 = firstGradOut m c from at10_v17_0 m ρ c, show V10 m ρ c main_v5 = firstW m c from at10_v5 m ρ c]

theorem at10_v17_1 : W10 m ρ c (Proc.devRef .tc main_v17_1) = secondGradOut m c :=
  (W10_of m ρ c main_v17_1 (by decide +kernel)).trans (at9_v17_1 m ρ c)

theorem at11_v17_1 : W11 m ρ c (Proc.devRef .tc main_v17_1) = secondGradOut m c :=
  (W11_of m ρ c main_v17_1 (by decide +kernel)).trans (at10_v17_1 m ρ c)

theorem at3_v8 : W3 m ρ c (Proc.devRef .tc main_v8) = secondW m c :=
  (W3_of m ρ c main_v8 (by decide +kernel)).trans (at2_v8 m ρ c)

theorem at4_v8 : W4 m ρ c (Proc.devRef .tc main_v8) = secondW m c :=
  (W4_of m ρ c main_v8 (by decide +kernel)).trans (at3_v8 m ρ c)

theorem at5_v8 : W5 m ρ c (Proc.devRef .tc main_v8) = secondW m c :=
  (W5_of m ρ c main_v8 (by decide +kernel)).trans (at4_v8 m ρ c)

theorem at6_v8 : W6 m ρ c (Proc.devRef .tc main_v8) = secondW m c :=
  (W6_of m ρ c main_v8 (by decide +kernel)).trans (at5_v8 m ρ c)

theorem at7_v8 : W7 m ρ c (Proc.devRef .tc main_v8) = secondW m c :=
  (W7_of m ρ c main_v8 (by decide +kernel)).trans (at6_v8 m ρ c)

theorem at8_v8 : W8 m ρ c (Proc.devRef .tc main_v8) = secondW m c :=
  (W8_of m ρ c main_v8 (by decide +kernel)).trans (at7_v8 m ρ c)

theorem at9_v8 : W9 m ρ c (Proc.devRef .tc main_v8) = secondW m c :=
  (W9_of m ρ c main_v8 (by decide +kernel)).trans (at8_v8 m ρ c)

theorem at10_v8 : W10 m ρ c (Proc.devRef .tc main_v8) = secondW m c :=
  (W10_of m ρ c main_v8 (by decide +kernel)).trans (at9_v8 m ρ c)

theorem at11_v8 : W11 m ρ c (Proc.devRef .tc main_v8) = secondW m c :=
  (W11_of m ρ c main_v8 (by decide +kernel)).trans (at10_v8 m ρ c)

theorem at12_v21 : W12 m ρ c (Proc.devRef .tc main_v21) = secondInGrad m c := by
  refine (W12_arr m ρ c 2).trans ((final10 (V11 m ρ) c).trans ?_)
  rw [show V11 m ρ c main_v17_1 = secondGradOut m c from at11_v17_1 m ρ c, show V11 m ρ c main_v8 = secondW m c from at11_v8 m ρ c]

theorem at6_v14 : W6 m ρ c (Proc.devRef .tc main_v14) = projectedOut m c :=
  (W6_of m ρ c main_v14 (by decide +kernel)).trans (at5_v14 m ρ c)

theorem at7_v14 : W7 m ρ c (Proc.devRef .tc main_v14) = projectedOut m c :=
  (W7_of m ρ c main_v14 (by decide +kernel)).trans (at6_v14 m ρ c)

theorem at8_v14 : W8 m ρ c (Proc.devRef .tc main_v14) = projectedOut m c :=
  (W8_of m ρ c main_v14 (by decide +kernel)).trans (at7_v14 m ρ c)

theorem at9_v14 : W9 m ρ c (Proc.devRef .tc main_v14) = projectedOut m c :=
  (W9_of m ρ c main_v14 (by decide +kernel)).trans (at8_v14 m ρ c)

theorem at10_v14 : W10 m ρ c (Proc.devRef .tc main_v14) = projectedOut m c :=
  (W10_of m ρ c main_v14 (by decide +kernel)).trans (at9_v14 m ρ c)

theorem at11_v14 : W11 m ρ c (Proc.devRef .tc main_v14) = projectedOut m c :=
  (W11_of m ρ c main_v14 (by decide +kernel)).trans (at10_v14 m ρ c)

theorem at12_v14 : W12 m ρ c (Proc.devRef .tc main_v14) = projectedOut m c :=
  (W12_of m ρ c main_v14 (by decide +kernel)).trans (at11_v14 m ρ c)

theorem at9_v17_2 : W9 m ρ c (Proc.devRef .tc main_v17_2) = gateGradOut m c :=
  (W9_of m ρ c main_v17_2 (by decide +kernel)).trans (at8_v17_2 m ρ c)

theorem at10_v17_2 : W10 m ρ c (Proc.devRef .tc main_v17_2) = gateGradOut m c :=
  (W10_of m ρ c main_v17_2 (by decide +kernel)).trans (at9_v17_2 m ρ c)

theorem at11_v17_2 : W11 m ρ c (Proc.devRef .tc main_v17_2) = gateGradOut m c :=
  (W11_of m ρ c main_v17_2 (by decide +kernel)).trans (at10_v17_2 m ρ c)

theorem at12_v17_2 : W12 m ρ c (Proc.devRef .tc main_v17_2) = gateGradOut m c :=
  (W12_of m ρ c main_v17_2 (by decide +kernel)).trans (at11_v17_2 m ρ c)

theorem at9_v17_3 : W9 m ρ c (Proc.devRef .tc main_v17_3) = biasGradOut m c :=
  (W9_of m ρ c main_v17_3 (by decide +kernel)).trans (at8_v17_3 m ρ c)

theorem at10_v17_3 : W10 m ρ c (Proc.devRef .tc main_v17_3) = biasGradOut m c :=
  (W10_of m ρ c main_v17_3 (by decide +kernel)).trans (at9_v17_3 m ρ c)

theorem at11_v17_3 : W11 m ρ c (Proc.devRef .tc main_v17_3) = biasGradOut m c :=
  (W11_of m ρ c main_v17_3 (by decide +kernel)).trans (at10_v17_3 m ρ c)

theorem at12_v17_3 : W12 m ρ c (Proc.devRef .tc main_v17_3) = biasGradOut m c :=
  (W12_of m ρ c main_v17_3 (by decide +kernel)).trans (at11_v17_3 m ρ c)

theorem at12_v20 : W12 m ρ c (Proc.devRef .tc main_v20) = firstInGrad m c :=
  (W12_of m ρ c main_v20 (by decide +kernel)).trans (at11_v20 m ρ c)

theorem at10_v18 : W10 m ρ c (Proc.devRef .tc main_v18) = firstWGrad m c :=
  (W10_of m ρ c main_v18 (by decide +kernel)).trans (at9_v18 m ρ c)

theorem at11_v18 : W11 m ρ c (Proc.devRef .tc main_v18) = firstWGrad m c :=
  (W11_of m ρ c main_v18 (by decide +kernel)).trans (at10_v18 m ρ c)

theorem at12_v18 : W12 m ρ c (Proc.devRef .tc main_v18) = firstWGrad m c :=
  (W12_of m ρ c main_v18 (by decide +kernel)).trans (at11_v18 m ρ c)

theorem at11_v19 : W11 m ρ c (Proc.devRef .tc main_v19) = secondWGrad m c :=
  (W11_of m ρ c main_v19 (by decide +kernel)).trans (at10_v19 m ρ c)

theorem at12_v19 : W12 m ρ c (Proc.devRef .tc main_v19) = secondWGrad m c :=
  (W12_of m ρ c main_v19 (by decide +kernel)).trans (at11_v19 m ρ c)

theorem at7_v15 : W7 m ρ c (Proc.devRef .tc main_v15) = outGrad m c :=
  (W7_of m ρ c main_v15 (by decide +kernel)).trans (at6_v15 m ρ c)

theorem at8_v15 : W8 m ρ c (Proc.devRef .tc main_v15) = outGrad m c :=
  (W8_of m ρ c main_v15 (by decide +kernel)).trans (at7_v15 m ρ c)

theorem at9_v15 : W9 m ρ c (Proc.devRef .tc main_v15) = outGrad m c :=
  (W9_of m ρ c main_v15 (by decide +kernel)).trans (at8_v15 m ρ c)

theorem at10_v15 : W10 m ρ c (Proc.devRef .tc main_v15) = outGrad m c :=
  (W10_of m ρ c main_v15 (by decide +kernel)).trans (at9_v15 m ρ c)

theorem at11_v15 : W11 m ρ c (Proc.devRef .tc main_v15) = outGrad m c :=
  (W11_of m ρ c main_v15 (by decide +kernel)).trans (at10_v15 m ρ c)

theorem at12_v15 : W12 m ρ c (Proc.devRef .tc main_v15) = outGrad m c :=
  (W12_of m ρ c main_v15 (by decide +kernel)).trans (at11_v15 m ρ c)

/-! ## The results -/

theorem result_rest : W13 m ρ c (Proc.devRef .tc main_v14) = projectedOut m c := by
  rw [← at12_v14 m ρ c]
  after_results_simp

theorem result_gates : W13 m ρ c (Proc.devRef .tc main_v22) = extf (F := Ideal) .f32 (gateGradOut m c) bitsLt_bf16_f32 := by
  rw [← at12_v17_2 m ρ c]
  after_results_simp

theorem result_bias : W13 m ρ c (Proc.devRef .tc main_v17_3) = biasGradOut m c := by
  rw [← at12_v17_3 m ρ c]
  after_results_simp

theorem result_first : W13 m ρ c (Proc.devRef .tc main_v23) = extf (F := Ideal) .f32 (firstInGrad m c) bitsLt_bf16_f32 := by
  rw [← at12_v20 m ρ c]
  after_results_simp

theorem result_second : W13 m ρ c (Proc.devRef .tc main_v24) = extf (F := Ideal) .f32 (secondInGrad m c) bitsLt_bf16_f32 := by
  rw [← at12_v21 m ρ c]
  after_results_simp

theorem result_weights : W13 m ρ c (Proc.devRef .tc main_v29) = concatenate S2x2048x4096 0
    [⟨S1x2048x4096, broadcastInDim S1x2048x4096 ![1, 2] bcast_S2048x4096_S1x2048x4096_1_2 (extf (F := Ideal) .f32 (firstWGrad m c) bitsLt_bf16_f32)⟩,
     ⟨S1x2048x4096, broadcastInDim S1x2048x4096 ![1, 2] bcast_S2048x4096_S1x2048x4096_1_2 (extf (F := Ideal) .f32 (secondWGrad m c) bitsLt_bf16_f32)⟩]
    concatenates_S1x2048x4096_S1x2048x4096_S2x2048x4096_d0 := by
  rw [← at12_v18 m ρ c, ← at12_v19 m ρ c]
  after_results_simp
  rfl

theorem result_out : W13 m ρ c (Proc.devRef .tc main_v30) = extf (F := Ideal) .f32 (outGrad m c) bitsLt_bf16_f32 := by
  rw [← at12_v15 m ρ c]
  after_results_simp

end Cert.Kernel8Ideal.Merge

end
-- ==== Proof.MergeHosts.lean ====
/-
  What the host code around the merge step's calls does to an array: the casts, the two halves of the branches' weights, and
  the stack of their gradients.
-/
module

public import proofs.«01_k».proof.Proof.MergeArrays

@[expose] public section

set_option maxRecDepth 16384

noncomputable section

namespace Cert.Kernel8Ideal.Merge

open Idealize.ShloMosaic Idealize.ShloMosaic.TcCoe Cert.Kernel8Ideal Cert.Kernel8Ideal.Gen

/-- An array in the kernel's format. -/
abbrev low {S : Shape} (a : FVec Ideal S .f32) : FVec Ideal S .bf16 := truncf (F := Ideal) .bf16 a bitsLt_bf16_f32

/-- The first branch's weights, as the kernel takes them. -/
abbrev half0 (w : FVec Ideal S2x2048x4096 .f32) : FVec Ideal S2048x4096 .bf16 := low (shapeCast S2048x4096
  (extractStridedSlice S1x2048x4096 ![0, 0, 0] w slices_S2x2048x4096_S1x2048x4096_0_0_0)
  shapeCasts_S1x2048x4096_S2048x4096)

/-- The second branch's weights, as the kernel takes them. -/
abbrev half1 (w : FVec Ideal S2x2048x4096 .f32) : FVec Ideal S2048x4096 .bf16 := low (shapeCast S2048x4096
  (extractStridedSlice S1x2048x4096 ![1, 0, 0] w slices_S2x2048x4096_S1x2048x4096_1_0_0)
  shapeCasts_S1x2048x4096_S2048x4096)

theorem half0_at (w : FVec Ideal S2x2048x4096 .f32) (k : Fin 2048) (d : Fin 4096) : half0 w (ix2 k d) = w (ix3 0 k d) := by
  pointwise

theorem half1_at (w : FVec Ideal S2x2048x4096 .f32) (k : Fin 2048) (d : Fin 4096) : half1 w (ix2 k d) = w (ix3 1 k d) := by
  pointwise

/-- The kernel's two weights' gradients, stacked. -/
abbrev kWeights (p q : FVec Ideal S2048x4096 .bf16) : FVec Ideal S2x2048x4096 .f32 :=
  concatenate S2x2048x4096 0
    [⟨S1x2048x4096, broadcastInDim S1x2048x4096 ![1, 2] bcast_S2048x4096_S1x2048x4096_1_2
      (extf (F := Ideal) .f32 p bitsLt_bf16_f32)⟩,
     ⟨S1x2048x4096, broadcastInDim S1x2048x4096 ![1, 2] bcast_S2048x4096_S1x2048x4096_1_2
      (extf (F := Ideal) .f32 q bitsLt_bf16_f32)⟩]
    concatenates_S1x2048x4096_S1x2048x4096_S2x2048x4096_d0

theorem kWeights_first (p q : FVec Ideal S2048x4096 .bf16) (k : Fin 2048) (j : Fin 4096) :
    kWeights p q (ix3 0 k j) = p (ix2 k j) := by
  pointwise

theorem kWeights_second (p q : FVec Ideal S2048x4096 .bf16) (k : Fin 2048) (j : Fin 4096) :
    kWeights p q (ix3 1 k j) = q (ix2 k j) := by
  pointwise

/-- The kernel's stored array, read back in the arguments' format. -/
abbrev high {S : Shape} (a : FVec Ideal S .bf16) : FVec Ideal S .f32 := extf (F := Ideal) .f32 a bitsLt_bf16_f32

end Cert.Kernel8Ideal.Merge

end
-- ==== Proof.MergeReference.lean ====
/-
  The merge reference's arrays, entry by entry, and the equation of its seven results with the arrays the kernel's calls
  leave: the products' factors come in the other order, and the two branches lie along an axis of their own.
-/
module

public import proofs.«01_k».proof.Proof.MergeGates
public import proofs.«01_k».proof.Proof.MergeHosts
public import proofs.«01_k».proof.Proof.Gen.Reference8Ideal.Run

@[expose] public section

set_option maxRecDepth 16384

noncomputable section

namespace Cert.Reference8Ideal.Merge

open Idealize.ShloMosaic Idealize.ShloMosaic.TcCoe Cert.Reference8Ideal Cert.Reference8Ideal.Gen
open Cert.Kernel8Ideal.Merge (sg lo hi gate branch merged projected overRows overCols weightGrad inputGrad firstGrad secondGrad dGate
  within gatedBy dz gateGrad biasGrad dz_lo dz_hi low high half0 half1 half0_at half1_at kWeights kWeights_first kWeights_second)

variable (z : FVec Ideal S4096x8192 .f32) (b : FVec Ideal S1x8192 .f32) (ya yb : FVec Ideal S4096x2048 .f32)
  (w : FVec Ideal S2x2048x4096 .f32) (wo x dx : FVec Ideal S4096x4096 .f32)

/-! ## The reference's arrays -/

/-- The ones. -/
def ones : FVec Ideal S4096x8192 .f32 := broadcastInDim S4096x8192 ![] bcast_S_S4096x8192 (constant S_ .f32 0x3F800000#32)

/-- The gates. -/
def gates : FVec Ideal S4096x8192 .f32 := Host.divf ones (addf ones (Host.exp (Host.negf (addf z (broadcastInDim S4096x8192 ![0, 1]
  bcast_S1x8192_S4096x8192_0_1 (broadcastInDim S1x8192 ![1] bcast_S8192_S1x8192_1 (shapeCast S8192 b shapeCasts_S1x8192_S8192)))))))

/-- The gates, a branch along an axis of its own. -/
def split (g : FVec Ideal S4096x8192 .f32) : FVec Ideal S4096x2x4096 .f32 := shapeCast S4096x2x4096 g shapeCasts_S4096x8192_S4096x2x4096

/-- The gates' derivative. -/
def slope (g : FVec Ideal S4096x8192 .f32) : FVec Ideal S4096x8192 .f32 := mulf g (subf ones g)

/-- The branches' inputs, stacked. -/
def inputs : FVec Ideal S2x4096x2048 .f32 := concatenate S2x4096x2048 0
  [⟨S1x4096x2048, broadcastInDim S1x4096x2048 ![1, 2] bcast_S4096x2048_S1x4096x2048_1_2 ya⟩,
   ⟨S1x4096x2048, broadcastInDim S1x4096x2048 ![1, 2] bcast_S4096x2048_S1x4096x2048_1_2 yb⟩]
  concatenates_S1x4096x2048_S1x4096x2048_S2x4096x2048_d0

/-- The branches from their stacked inputs. -/
def branches (y : FVec Ideal S2x4096x2048 .f32) : FVec Ideal S4096x2x4096 .f32 := transpose S4096x2x4096 [2, 0, 1]
  (Host.dotGeneral (F := Ideal) (φ₁ := .f32) (φ₂ := .f32) dot_S2x2048x4096_S2x4096x2048_S2x4096x4096_1_2_2_1_0_0 none w y)
  transposes_S2x4096x4096_S4096x2x4096_2_0_1

/-- The branches under their gates, added. -/
def mix (g p : FVec Ideal S4096x2x4096 .f32) : FVec Ideal S4096x4096 .f32 :=
  Host.reduceAdd (mulf g p) (constant S_ .f32 0x00000000#32) reducesTo_S4096x2x4096_S4096x4096_d1 h_S_

/-- The merged branches' gradient. -/
def dmix : FVec Ideal S4096x4096 .f32 :=
  Host.dotGeneral (F := Ideal) (φ₁ := .f32) (φ₂ := .f32) dot_S4096x4096_S4096x4096_S4096x4096_1_1_0_0_n_n none dx wo

/-- The same for each branch. -/
def spread (d : FVec Ideal S4096x4096 .f32) : FVec Ideal S4096x2x4096 .f32 := broadcastInDim S4096x2x4096 ![0, 2] bcast_S4096x4096_S4096x2x4096_0_2 d

/-- The gates' inputs' gradient. -/
def dgates (d p : FVec Ideal S4096x2x4096 .f32) (s : FVec Ideal S4096x8192 .f32) : FVec Ideal S4096x8192 .f32 :=
  mulf (shapeCast S4096x8192 (mulf d p) shapeCasts_S4096x2x4096_S4096x8192) s

/-- The bias gradient. -/
def dbias (d : FVec Ideal S4096x8192 .f32) : FVec Ideal S1x8192 .f32 :=
  broadcastInDim S1x8192 ![1] bcast_S8192_S1x8192_1 (Host.reduceAdd (shapeCast S1x8192 (Host.reduceAdd d
    (constant S_ .f32 0x00000000#32) reducesTo_S4096x8192_S8192_d0 h_S_) shapeCasts_S8192_S1x8192) (constant S_ .f32 0x00000000#32)
    reducesTo_S1x8192_S8192_d0 h_S_)

/-- The branches' gradients, stacked. -/
def stacked (d : FVec Ideal S4096x2x4096 .f32) : FVec Ideal S2x4096x4096 .f32 :=
  transpose S2x4096x4096 [1, 2, 0] d transposes_S4096x2x4096_S2x4096x4096_1_2_0

/-- The branches' inputs' gradients, stacked. -/
def dinputs (d : FVec Ideal S2x4096x4096 .f32) : FVec Ideal S2x4096x2048 .f32 :=
  Host.dotGeneral (F := Ideal) (φ₁ := .f32) (φ₂ := .f32) dot_S2x4096x4096_S2x2048x4096_S2x4096x2048_1_2_2_1_0_0 none d w

/-- The branches' weights' gradient. -/
def dweights (d : FVec Ideal S2x4096x4096 .f32) (y : FVec Ideal S2x4096x2048 .f32) : FVec Ideal S2x2048x4096 .f32 :=
  transpose S2x2048x4096 [0, 2, 1] (Host.dotGeneral (F := Ideal) (φ₁ := .f32) (φ₂ := .f32)
    dot_S2x4096x4096_S2x4096x2048_S2x4096x2048_2_1_1_2_0_0 none d y) transposes_S2x4096x2048_S2x2048x4096_0_2_1

/-- The output weights' gradient. -/
def dout (p : FVec Ideal S4096x4096 .f32) : FVec Ideal S4096x4096 .f32 :=
  transpose S4096x4096 [1, 0] (Host.dotGeneral (F := Ideal) (φ₁ := .f32) (φ₂ := .f32)
    dot_S4096x4096_S4096x4096_S4096x4096_0_0_1_1_n_n none dx p) transposes_S4096x4096_S4096x4096_1_0

/-- The output projection with the residual added. -/
def rest (p : FVec Ideal S4096x4096 .f32) : FVec Ideal S4096x4096 .f32 :=
  addf x (Host.dotGeneral (F := Ideal) (φ₁ := .f32) (φ₂ := .f32) dot_S4096x4096_S4096x4096_S4096x4096_1_0_0_1_n_n none p wo)

/-- The first branch's slice of a stack. -/
def firstOf (d : FVec Ideal S2x4096x2048 .f32) : FVec Ideal S4096x2048 .f32 :=
  shapeCast S4096x2048 (extractStridedSlice S1x4096x2048 ![0, 0, 0] d slices_S2x4096x2048_S1x4096x2048_0_0_0) shapeCasts_S1x4096x2048_S4096x2048

/-- The second branch's slice of a stack. -/
def secondOf (d : FVec Ideal S2x4096x2048 .f32) : FVec Ideal S4096x2048 .f32 :=
  shapeCast S4096x2048 (extractStridedSlice S1x4096x2048 ![1, 0, 0] d slices_S2x4096x2048_S1x4096x2048_1_0_0) shapeCasts_S1x4096x2048_S4096x2048

/-! ## The same, entry by entry -/

theorem ones_at (i : S4096x8192.Idx) : ones i = 1 := by
  show Ideal.ofBits .f32 0x3F800000#32 = 1
  exact Ideal.ofBits_one_f32

theorem bias_at (R : Fin 4096) (C : Fin 8192) : broadcastInDim S4096x8192 ![0, 1] bcast_S1x8192_S4096x8192_0_1
    (broadcastInDim S1x8192 ![1] bcast_S8192_S1x8192_1 (shapeCast S8192 b shapeCasts_S1x8192_S8192)) (ix2 R C) = b (ix2 0 C) := by
  pointwise

theorem gates_at (R : Fin 4096) (C : Fin 8192) : gates z b (ix2 R C) = sg (z (ix2 R C) + b (ix2 0 C)) := by
  rw [← bias_at b R C]
  show Ideal.div (ones (ix2 R C)) (ones (ix2 R C) + Ideal.exp (-(z (ix2 R C) + _))) = _
  rw [ones_at, sg, zero_sub]

theorem split_at (g : FVec Ideal S4096x8192 .f32) (s : Fin 4096) (n : Fin 2) (d : Fin 4096) :
    split g (ix3 s n d) = g (ix2 s ⟨n * 4096 + d, by omega⟩) := by
  pointwise [split]

theorem split_first (g : FVec Ideal S4096x8192 .f32) (s d : Fin 4096) : split g (ix3 s 0 d) = g (ix2 s (lo d)) := by
  rw [split_at]
  exact congrArg g (congrArg (ix2 s) (Fin.ext (by show 0 * 4096 + d.val = d.val; omega)))

theorem split_second (g : FVec Ideal S4096x8192 .f32) (s d : Fin 4096) : split g (ix3 s 1 d) = g (ix2 s (hi d)) := by
  rw [split_at]
  exact congrArg g (congrArg (ix2 s) (Fin.ext (by show 1 * 4096 + d.val = 4096 + d.val; omega)))

theorem slope_at (g : FVec Ideal S4096x8192 .f32) (i : S4096x8192.Idx) : slope g i = g i * (1 - g i) := by
  show g i * (ones i - g i) = _
  rw [ones_at]

theorem inputs_first (s : Fin 4096) (k : Fin 2048) : inputs ya yb (ix3 0 s k) = ya (ix2 s k) := by
  pointwise [inputs]

theorem inputs_second (s : Fin 4096) (k : Fin 2048) : inputs ya yb (ix3 1 s k) = yb (ix2 s k) := by
  pointwise [inputs]

theorem branches_at (y : FVec Ideal S2x4096x2048 .f32) (s : Fin 4096) (n : Fin 2) (d : Fin 4096) :
    branches w y (ix3 s n d) = ∑ k : Fin 2048, w (ix3 n k d) * y (ix3 n s k) := by
  pointwise [branches]

theorem mix_at (g p : FVec Ideal S4096x2x4096 .f32) (s d : Fin 4096) :
    mix g p (ix2 s d) = g (ix3 s 0 d) * p (ix3 s 0 d) + g (ix3 s 1 d) * p (ix3 s 1 d) := by
  pointwise [mix]
  rw [Fin.sum_univ_two]

theorem dmix_at (s d : Fin 4096) : dmix wo dx (ix2 s d) = ∑ l : Fin 4096, dx (ix2 s l) * wo (ix2 d l) := by
  pointwise [dmix]

theorem spread_at (d : FVec Ideal S4096x4096 .f32) (s : Fin 4096) (n : Fin 2) (j : Fin 4096) : spread d (ix3 s n j) = d (ix2 s j) := by
  pointwise [spread]

theorem dgates_at (d p : FVec Ideal S4096x2x4096 .f32) (s : FVec Ideal S4096x8192 .f32) (R : Fin 4096) (C : Fin 8192) :
    dgates d p s (ix2 R C) = d (ix3 R ⟨C / 4096, by omega⟩ ⟨C % 4096, by omega⟩) * p (ix3 R ⟨C / 4096, by omega⟩ ⟨C % 4096, by omega⟩)
      * s (ix2 R C) := by
  pointwise [dgates]

theorem dbias_at (d : FVec Ideal S4096x8192 .f32) (C : Fin 8192) : dbias d (ix2 0 C) = ∑ R : Fin 4096, d (ix2 R C) := by
  pointwise [dbias]
  rw [Fin.sum_univ_one]

theorem stacked_at (d : FVec Ideal S4096x2x4096 .f32) (n : Fin 2) (j s : Fin 4096) : stacked d (ix3 n j s) = d (ix3 s n j) := by
  pointwise [stacked]

theorem dinputs_at (d : FVec Ideal S2x4096x4096 .f32) (n : Fin 2) (s : Fin 4096) (k : Fin 2048) :
    dinputs w d (ix3 n s k) = ∑ j : Fin 4096, d (ix3 n j s) * w (ix3 n k j) := by
  pointwise [dinputs]

theorem dweights_at (d : FVec Ideal S2x4096x4096 .f32) (y : FVec Ideal S2x4096x2048 .f32) (n : Fin 2) (k : Fin 2048) (j : Fin 4096) :
    dweights d y (ix3 n k j) = ∑ s : Fin 4096, d (ix3 n j s) * y (ix3 n s k) := by
  pointwise [dweights]

theorem dout_at (p : FVec Ideal S4096x4096 .f32) (r j : Fin 4096) : dout dx p (ix2 r j) = ∑ s : Fin 4096, dx (ix2 s j) * p (ix2 s r) := by
  pointwise [dout]

theorem rest_at (p : FVec Ideal S4096x4096 .f32) (s j : Fin 4096) :
    rest wo x p (ix2 s j) = x (ix2 s j) + ∑ l : Fin 4096, p (ix2 s l) * wo (ix2 l j) := by
  pointwise [rest]

theorem firstOf_at (d : FVec Ideal S2x4096x2048 .f32) (s : Fin 4096) (k : Fin 2048) : firstOf d (ix2 s k) = d (ix3 0 s k) := by
  pointwise [firstOf]

theorem secondOf_at (d : FVec Ideal S2x4096x2048 .f32) (s : Fin 4096) (k : Fin 2048) : secondOf d (ix2 s k) = d (ix3 1 s k) := by
  pointwise [secondOf]

/-! ## The equation with the kernel's arrays -/

/-- The kernel's first branch. -/
abbrev kFirst : FVec Ideal S4096x4096 .bf16 := branch (low ya) (half0 w)

/-- The kernel's second branch. -/
abbrev kSecond : FVec Ideal S4096x4096 .bf16 := branch (low yb) (half1 w)

/-- The kernel's merged branches. -/
abbrev kMerged : FVec Ideal S4096x4096 .bf16 := merged (low z) b (kFirst ya w) (kSecond yb w)

/-- The kernel's gradient of the merged branches. -/
abbrev kGrad : FVec Ideal S4096x4096 .bf16 := overCols (low dx) (low wo)

/-- The reference's branches. -/
abbrev rBranches : FVec Ideal S4096x2x4096 .f32 := branches w (inputs ya yb)

/-- The reference's merged branches. -/
abbrev rMerged : FVec Ideal S4096x4096 .f32 := mix (split (gates z b)) (rBranches ya yb w)

/-- The reference's branches' gradients. -/
abbrev rGrad : FVec Ideal S4096x2x4096 .f32 := mulf (split (gates z b)) (spread (dmix wo dx))

/-- The reference's gates' inputs' gradient. -/
abbrev rGates : FVec Ideal S4096x8192 .f32 := dgates (spread (dmix wo dx)) (rBranches ya yb w) (slope (gates z b))

theorem gate_at (R : Fin 4096) (C : Fin 8192) : gates z b (ix2 R C) = gate (low z) b R C := gates_at z b R C

theorem branch_first (s d : Fin 4096) : rBranches ya yb w (ix3 s 0 d) = kFirst ya w (ix2 s d) := by
  refine (branches_at w _ s 0 d).trans (Finset.sum_congr rfl fun k _ => ?_)
  rw [inputs_first]
  exact (mul_comm (G := EReal) _ _).trans (congrArg (fun v : EReal => _ * v) (half0_at w k d).symm)

theorem branch_second (s d : Fin 4096) : rBranches ya yb w (ix3 s 1 d) = kSecond yb w (ix2 s d) := by
  refine (branches_at w _ s 1 d).trans (Finset.sum_congr rfl fun k _ => ?_)
  rw [inputs_second]
  exact (mul_comm (G := EReal) _ _).trans (congrArg (fun v : EReal => _ * v) (half1_at w k d).symm)

theorem merged_at (s d : Fin 4096) : rMerged z b ya yb w (ix2 s d) = kMerged z b ya yb w (ix2 s d) := by
  refine (mix_at _ _ s d).trans ?_
  rw [split_first, split_second, branch_first, branch_second, gate_at, gate_at]
  rfl

theorem dmix_eq (s d : Fin 4096) : dmix wo dx (ix2 s d) = kGrad wo dx (ix2 s d) := dmix_at wo dx s d

theorem grad_first (s d : Fin 4096) : rGrad z b wo dx (ix3 s 0 d) = firstGrad (kGrad wo dx) (low z) b (ix2 s d) := by
  show split (gates z b) (ix3 s 0 d) * spread (dmix wo dx) (ix3 s 0 d) = _
  rw [split_first, spread_at, dmix_eq, gate_at]
  exact mul_comm (G := EReal) _ _

theorem grad_second (s d : Fin 4096) : rGrad z b wo dx (ix3 s 1 d) = secondGrad (kGrad wo dx) (low z) b (ix2 s d) := by
  show split (gates z b) (ix3 s 1 d) * spread (dmix wo dx) (ix3 s 1 d) = _
  rw [split_second, spread_at, dmix_eq, gate_at]
  exact mul_comm (G := EReal) _ _

/-- A column of the gates is one of the first branch's or one of the second's. -/
theorem lo_or_hi (C : Fin 8192) : (∃ j, C = lo j) ∨ ∃ j, C = hi j := by
  by_cases h : C.val < 4096
  · exact Or.inl ⟨⟨C, h⟩, rfl⟩
  · exact Or.inr ⟨⟨C - 4096, by omega⟩, Fin.ext (by show C.val = 4096 + (C.val - 4096); omega)⟩

theorem gates_grad_at (R : Fin 4096) (C : Fin 8192) : rGates z b ya yb w wo dx (ix2 R C)
    = dz (kGrad wo dx) (low z) b (kFirst ya w) (kSecond yb w) R C := by
  refine (dgates_at _ _ _ R C).trans ?_
  rw [spread_at, slope_at, gate_at, dmix_eq]
  rcases lo_or_hi C with ⟨j, rfl⟩ | ⟨j, rfl⟩
  · rw [dz_lo, show (⟨(lo j).val / 4096, by omega⟩ : Fin 2) = 0 from Fin.ext (Nat.div_eq_of_lt j.isLt),
      show (⟨(lo j).val % 4096, by omega⟩ : Fin 4096) = j from Fin.ext (Nat.mod_eq_of_lt j.isLt), branch_first]
    rfl
  · rw [dz_hi, show (⟨(hi j).val / 4096, by omega⟩ : Fin 2) = 1 from Fin.ext (by show (4096 + j.val) / 4096 = 1; omega),
      show (⟨(hi j).val % 4096, by omega⟩ : Fin 4096) = j from Fin.ext (by show (4096 + j.val) % 4096 = j.val; omega), branch_second]
    rfl

/-! ## The seven results -/

/-- The output projection with the residual added. -/
theorem rest_eq : rest wo x (rMerged z b ya yb w) = projected (kMerged z b ya yb w) (low wo) x := by
  funext i
  obtain ⟨s, j, rfl⟩ : ∃ (s j : Fin 4096), i = ix2 s j := ⟨i 0, i 1, eq_ix2 i⟩
  refine (rest_at wo x _ s j).trans ?_
  simp only [merged_at]
  rfl

/-- The gates' inputs' gradient. -/
theorem gates_eq : rGates z b ya yb w wo dx = gateGrad (kGrad wo dx) (low z) b (kFirst ya w) (kSecond yb w) := by
  funext i
  obtain ⟨R, C, rfl⟩ : ∃ (R : Fin 4096) (C : Fin 8192), i = ix2 R C := ⟨i 0, i 1, eq_ix2 i⟩
  exact gates_grad_at z b ya yb w wo dx R C

/-- The bias gradient. -/
theorem bias_eq : dbias (rGates z b ya yb w wo dx) = biasGrad (kGrad wo dx) (low z) b (kFirst ya w) (kSecond yb w) := by
  funext i
  obtain ⟨u, C, rfl⟩ : ∃ (u : Fin 1) (C : Fin 8192), i = ix2 u C := ⟨i 0, i 1, eq_ix2 i⟩
  obtain rfl : u = 0 := Subsingleton.elim _ _
  refine (dbias_at _ C).trans ?_
  simp only [gates_grad_at]
  rfl

/-- The first branch's input's gradient. -/
theorem first_eq : firstOf (dinputs w (stacked (rGrad z b wo dx))) = inputGrad (firstGrad (kGrad wo dx) (low z) b) (half0 w) := by
  funext i
  obtain ⟨s, k, rfl⟩ : ∃ (s : Fin 4096) (k : Fin 2048), i = ix2 s k := ⟨i 0, i 1, eq_ix2 i⟩
  refine (firstOf_at _ s k).trans ((dinputs_at w _ 0 s k).trans ?_)
  refine Finset.sum_congr rfl fun j _ => ?_
  rw [stacked_at, grad_first]
  exact congrArg (fun v : EReal => _ * v) (half0_at w k j).symm

/-- The second branch's input's gradient. -/
theorem second_eq : secondOf (dinputs w (stacked (rGrad z b wo dx))) = inputGrad (secondGrad (kGrad wo dx) (low z) b) (half1 w) := by
  funext i
  obtain ⟨s, k, rfl⟩ : ∃ (s : Fin 4096) (k : Fin 2048), i = ix2 s k := ⟨i 0, i 1, eq_ix2 i⟩
  refine (secondOf_at _ s k).trans ((dinputs_at w _ 1 s k).trans ?_)
  refine Finset.sum_congr rfl fun j _ => ?_
  rw [stacked_at, grad_second]
  exact congrArg (fun v : EReal => _ * v) (half1_at w k j).symm

/-- The branches' weights' gradient. -/
theorem weights_eq : dweights (stacked (rGrad z b wo dx)) (inputs ya yb) = kWeights
    (weightGrad (low ya) (firstGrad (kGrad wo dx) (low z) b)) (weightGrad (low yb) (secondGrad (kGrad wo dx) (low z) b)) := by
  funext i
  obtain ⟨n, k, j, rfl⟩ : ∃ (n : Fin 2) (k : Fin 2048) (j : Fin 4096), i = ix3 n k j := ⟨i 0, i 1, i 2, eq_ix3 i⟩
  refine (dweights_at _ _ n k j).trans ?_
  obtain rfl | rfl : n = 0 ∨ n = 1 := by omega
  · refine Eq.trans ?_ (kWeights_first _ _ k j).symm
    refine Finset.sum_congr rfl fun s _ => ?_
    rw [stacked_at, grad_first, inputs_first]
    exact mul_comm (G := EReal) _ _
  · refine Eq.trans ?_ (kWeights_second _ _ k j).symm
    refine Finset.sum_congr rfl fun s _ => ?_
    rw [stacked_at, grad_second, inputs_second]
    exact mul_comm (G := EReal) _ _

/-- The output weights' gradient. -/
theorem out_eq : dout dx (rMerged z b ya yb w) = high (overRows (kMerged z b ya yb w) (low dx)) := by
  funext i
  obtain ⟨r, j, rfl⟩ : ∃ (r j : Fin 4096), i = ix2 r j := ⟨i 0, i 1, eq_ix2 i⟩
  refine (dout_at dx _ r j).trans ?_
  show _ = ∑ s : Fin 4096, HMul.hMul (α := EReal) (β := EReal) (γ := EReal) (kMerged z b ya yb w (ix2 s r)) (dx (ix2 s j))
  refine Finset.sum_congr rfl fun s _ => ?_
  rw [merged_at]
  exact mul_comm (G := EReal) _ _

end Cert.Reference8Ideal.Merge

end
-- ==== Proof.MergeClaims.lean ====
/-
  The claims about the merge step: its seven results, forward and backward, are the reference's.
-/
module

public import proofs.«01_k».proof.Defs
public import proofs.«01_k».proof.Proof.MergeChain
public import proofs.«01_k».proof.Proof.MergeReference
public import Idealize.ShloMosaic.Lib.Quiescent
public import Idealize.ShloMosaic.Adequacy

@[expose] public section

set_option maxRecDepth 16384

noncomputable section

namespace Cert.Merge

open Idealize.ShloMosaic Idealize.ShloMosaic.TcCoe Idealize.SL.Sem Cert.Reference8Ideal Cert.Reference8Ideal.Gen Cert.Reference8Ideal.Value

/-- Every run of the reference ends, with every counter at zero and the arguments as launched. -/
theorem reference_frame : Cert.quiescent_Reference8Ideal :=
  fun m ρ _ => (θ_run Cert.Reference8Ideal.defs _ _).mono
    (fun r h => ⟨fun c => (h c).2.2.2.2.2.2.2, sem_eq_zero_of_no_sems (by decide) r.2⟩) (Value.run (F := Ideal) m ρ)

/-- The kernel and the reference leave the same seven results. -/
theorem algebraic : Cert.algebraic_Kernel8Ideal_Reference8Ideal := by
  intro m ρ m' ρ' _ hagree
  refine ⟨_, _, _, _, _, _, _, Cert.Kernel8Ideal.Merge.run m ρ,
    (θ_run Cert.Reference8Ideal.defs _ _).mono (fun r h c => ?_) (Value.run (F := Ideal) m' ρ')⟩
  obtain ⟨h₀, h₁, h₂, h₃, h₄, h₅, h₆, h⟩ := h c
  obtain ⟨e0, e1, e2, e3, e4, e5, e6, e7⟩ := hagree c
  have r0 := h₀.trans (Reference8Ideal.Merge.rest_eq _ _ _ _ _ _ _)
  have r1 := h₁.trans (Reference8Ideal.Merge.gates_eq _ _ _ _ _ _ _)
  have r2 := h₂.trans (Reference8Ideal.Merge.bias_eq _ _ _ _ _ _ _)
  have r3 := h₃.trans (Reference8Ideal.Merge.first_eq _ _ _ _ _)
  have r4 := h₄.trans (Reference8Ideal.Merge.second_eq _ _ _ _ _)
  have r5 := h₅.trans (Reference8Ideal.Merge.weights_eq _ _ _ _ _ _)
  have r6 := h₆.trans (Reference8Ideal.Merge.out_eq _ _ _ _ _ _)
  rw [e0, e1, e2, e3, e4, e5, e6] at r0
  rw [e0, e1, e2, e3, e4, e5, e7] at r1
  rw [e0, e1, e2, e3, e4, e5, e7] at r2
  rw [e0, e1, e4, e5, e7] at r3
  rw [e0, e1, e4, e5, e7] at r4
  rw [e0, e1, e2, e3, e5, e7] at r5
  rw [e0, e1, e2, e3, e4, e7] at r6
  exact ⟨r0.trans (Cert.Kernel8Ideal.Merge.result_rest m ρ c).symm, r1.trans (Cert.Kernel8Ideal.Merge.result_gates m ρ c).symm, r2.trans (Cert.Kernel8Ideal.Merge.result_bias m ρ c).symm, r3.trans (Cert.Kernel8Ideal.Merge.result_first m ρ c).symm, r4.trans (Cert.Kernel8Ideal.Merge.result_second m ρ c).symm, r5.trans (Cert.Kernel8Ideal.Merge.result_weights m ρ c).symm, r6.trans (Cert.Kernel8Ideal.Merge.result_out m ρ c).symm, h⟩

end Cert.Merge

end
-- ==== Proof.Shards.lean ====
/-
  The columns of an array in eight equal shards, as the host forms them, read entry by entry.
-/
module

public import Idealize.ShloMosaic.Lib.Pipeline.ValueKit

@[expose] public section

set_option maxRecDepth 16384

noncomputable section

namespace Cert.Shards

open Idealize.ShloMosaic

/-- Column `j` of shard `s`, among all the columns. -/
def col (s : Fin 8) (j : Fin 1992) : Fin 15936 := ⟨s * 1992 + j, by omega⟩

/-- A 4096-row array cast to bfloat16 and put in shards: shard `s` holds columns `1992 * s` on. -/
theorem shard_apply (a : FVec Ideal ⟨2, ![4096, 15936]⟩ .f32) (hb : FTy.bits .bf16 < FTy.bits .f32)
    (h₁ : (⟨2, ![4096, 15936]⟩ : Shape).ShapeCasts ⟨3, ![4096, 8, 1992]⟩)
    (h₂ : (⟨3, ![4096, 8, 1992]⟩ : Shape).Transposes [1, 0, 2] ⟨3, ![8, 4096, 1992]⟩) (s : Fin 8) (r : Fin 4096) (j : Fin 1992) :
    transpose ⟨3, ![8, 4096, 1992]⟩ [1, 0, 2] (shapeCast ⟨3, ![4096, 8, 1992]⟩ (truncf (F := Ideal) .bf16 a hb) h₁) h₂ (ix3 s r j)
      = a (ix2 r (col s j)) := by
  pointwise [col]

end Cert.Shards

end
-- ==== Proof.DwShards.lean ====
/-
  The product that forms the input weights' gradient, one shard of columns after another: the operands, one block's partial
  product, the two partial products of a block added up over the rows, and the result array.
-/
module

public import proofs.«01_k».proof.Proof.Shards
public import proofs.«01_k».proof.Proof.Gen.Kernel6Ideal.Value

@[expose] public section

set_option maxRecDepth 16384

noncomputable section

namespace Cert.Kernel6Ideal.DwShards

open Idealize.ShloMosaic Idealize.ShloMosaic.TcCoe Cert.Kernel6Ideal Cert.Kernel6Ideal.Gen Cert.Shards

/-! ## A block's partial product -/

/-- The products of one half of the rows. -/
def part (a : FVec Ideal S2048x1024 .bf16) (b : FVec Ideal S1x2048x1992 .bf16) (j : S1024x1992.Idx) : EReal :=
  ∑ l : Fin 2048, a (ix2 l (j 0)) * b (ix3 0 l (j 1))

theorem pay1_apply (a : FVec Ideal S2048x1024 .bf16) (b : FVec Ideal S1x2048x1992 .bf16) (r : Fin 1024) (s : Fin 1992) :
    k0_pay1 (F := Ideal) a b (ix2 r s) = part a b (ix2 r s) := by
  pointwise [k0_pay1, part]

theorem first (a : FVec Ideal S2048x1024 .bf16) (b : FVec Ideal S1x2048x1992 .bf16) (j : S1024x1992.Idx) :
    k0_pay2 (F := Ideal) a b j = 0 + part a b j := by
  obtain ⟨r, s, rfl⟩ : ∃ (r : Fin 1024) (s : Fin 1992), j = ix2 r s := ⟨j 0, j 1, eq_ix2 j⟩
  rw [zero_add, ← pay1_apply]
  pointwise [k0_pay2]

theorem next (a : FVec Ideal S2048x1024 .bf16) (b : FVec Ideal S1x2048x1992 .bf16) (acc : FVec Ideal S1024x1992 .f32) (j : S1024x1992.Idx) :
    k0_pay3 (F := Ideal) a b acc j = acc j + part a b j := by
  obtain ⟨r, s, rfl⟩ : ∃ (r : Fin 1024) (s : Fin 1992), j = ix2 r s := ⟨j 0, j 1, eq_ix2 j⟩
  rw [← pay1_apply]
  pointwise [k0_pay3]

theorem last (acc : FVec Ideal S1024x1992 .f32) (u : Fin 1) (r : Fin 1024) (s : Fin 1992) :
    k0_pay4 (F := Ideal) acc (ix3 u r s) = acc (ix2 r s) := by
  pointwise [k0_pay4]

/-! ## The operands -/

variable (m : (ℓ : Loc nD τ sig) → Buf (Elt Ideal) ℓ) (c : Dev nD)

theorem idx : ∀ t : Fin cfg0.N, win0_0.index t = ![t.val % 2, t.val / 2 % 4] ∧ win0_1.index t = ![t.val / 8, t.val % 2, 0]
    ∧ win0_2.index t = ![t.val / 8, t.val / 2 % 4, 0] :=
  (by decide +kernel : ∀ t : Fin grid0.N, _)

/-- What the host leaves as the rows. -/
theorem host_h : V m c main_v0 = truncf (F := Ideal) .bf16 (m (c.tc.loc main_arg0) : FVec Ideal S4096x4096 .f32) bitsLt_bf16_f32 := by
  unfold V
  after_results_simp

/-- What the host leaves as the gradient in shards. -/
theorem host_dz : V m c main_v3 = transpose S8x4096x1992 [1, 0, 2] (shapeCast S4096x8x1992
    (truncf (F := Ideal) .bf16 (m (c.tc.loc main_arg2) : FVec Ideal S4096x15936 .f32) bitsLt_bf16_f32) shapeCasts_S4096x15936_S4096x8x1992)
    transposes_S4096x8x1992_S8x4096x1992_1_0_2 := by
  unfold V
  after_results_simp
  rfl

/-- The rows, entry by entry. -/
theorem entry_h (r s : Fin 4096) : (V m c main_v0 : FVec Ideal S4096x4096 .bf16) (ix2 r s)
    = (m (c.tc.loc main_arg0) : FVec Ideal S4096x4096 .f32) (ix2 r s) := by
  rw [host_h]
  rfl

/-- The gradient in shards, entry by entry. -/
theorem entry_dz (s : Fin 8) (r : Fin 4096) (j : Fin 1992) : (V m c main_v3 : FVec Ideal S8x4096x1992 .bf16) (ix3 s r j)
    = (m (c.tc.loc main_arg2) : FVec Ideal S4096x15936 .f32) (ix2 r (col s j)) := by
  rw [host_dz]
  exact shard_apply _ _ _ _ s r j

/-! ## The blocks at a point: shard `t / 8`, block `t / 2 % 4` of the weights' rows, rows `2048 * (t % 2) + l` -/

theorem blk_a (t : Fin cfg0.N) (l : Fin 2048) (r : Fin 1024) (L R : Fin 4096)
    (hL : (L : ℕ) = t.val % 2 * 2048 + l) (hR : (R : ℕ) = t.val / 2 % 4 * 1024 + r) :
    (iblk m c 0 t : FVec Ideal S2048x1024 .bf16) (ix2 l r) = (m (c.tc.loc main_arg0) : FVec Ideal S4096x4096 .f32) (ix2 L R) := by
  refine Eq.trans ?_ (entry_h m c L R)
  blk_ext [iblk, idx t, hR, hL]

theorem blk_b (t : Fin cfg0.N) (l : Fin 2048) (j : Fin 1992) (s : Fin 8) (L : Fin 4096)
    (hs : (s : ℕ) = t.val / 8) (hL : (L : ℕ) = t.val % 2 * 2048 + l) :
    (iblk m c 1 t : FVec Ideal S1x2048x1992 .bf16) (ix3 0 l j)
      = (m (c.tc.loc main_arg2) : FVec Ideal S4096x15936 .f32) (ix2 L (col s j)) := by
  refine Eq.trans ?_ (entry_dz m c s L j)
  blk_ext [iblk, idx t, hL, hs]

/-! ## The result array -/

/-- One entry of the product over the rows. -/
def dot (h : FVec Ideal S4096x4096 .f32) (d : FVec Ideal S4096x15936 .f32) (R : Fin 4096) (C : Fin 15936) : EReal :=
  ∑ l : Fin 4096, h (ix2 l R) * d (ix2 l C)

/-- The weights' gradient, in shards of columns. -/
def prod (h : FVec Ideal S4096x4096 .f32) (d : FVec Ideal S4096x15936 .f32) : FVec Ideal S8x4096x1992 .bf16 :=
  fun i => dot h d (i 1) (col (i 0) (i 2))

/-- The two steps of a block add up to the whole product's entry. -/
theorem sum_parts (t : Fin cfg0.N) (h : ∀ s : Fin 2, 2 * (t.val / 2) + s.val < cfg0.N) (y : S1024x1992.Idx) (s : Fin 8) (R : Fin 4096)
    (hs : (s : ℕ) = t.val / 8) (hR : (R : ℕ) = t.val / 2 % 4 * 1024 + (y 0).val) :
    ∑ k : Fin 2, part (iblk m c 0 ⟨2 * (t.val / 2) + k.val, h k⟩) (iblk m c 1 ⟨2 * (t.val / 2) + k.val, h k⟩) y
      = dot (m (c.tc.loc main_arg0)) (m (c.tc.loc main_arg2)) R (col s (y 1)) := by
  rw [dot]
  refine Fin.sum_mul_add_congr fun k l => ?_
  rw [blk_a m c _ l (y 0) ⟨k * 2048 + l, by omega⟩ R (by show (k : ℕ) * 2048 + l = (2 * (t.val / 2) + k) % 2 * 2048 + l; omega)
      (by show (R : ℕ) = (2 * (t.val / 2) + k) / 2 % 4 * 1024 + _; omega),
    blk_b m c _ l (y 1) s ⟨k * 2048 + l, by omega⟩ (by show (s : ℕ) = (2 * (t.val / 2) + k) / 8; omega)
      (by show (k : ℕ) * 2048 + l = (2 * (t.val / 2) + k) % 2 * 2048 + l; omega)]
  intro _
  rfl

/-- What the scratch holds at a block's last step. -/
theorem scratch (t : Fin cfg0.N) (ht : t.val % 2 = 1) (r : Fin 1024) (j : Fin 1992) (s : Fin 8) (R : Fin 4096)
    (hs : (s : ℕ) = t.val / 8) (hR : (R : ℕ) = t.val / 2 % 4 * 1024 + r) :
    (outsAt0 m c t.val t.isLt).2 (ix2 r j) = dot (m (c.tc.loc main_arg0)) (m (c.tc.loc main_arg2)) R (col s j) := by
  rw [Pipeline.eq_sum_fin_of_reset_step_apply_of_flush (fun n h => (outsAt0 m c n h).2) 2 (fun _ => 0)
    (fun t j => part (iblk m c 0 t) (iblk m c 1 t) j)
    (fun t h j => by rw [outsAt0_A m c t h (by omega) (by omega)]; frame_out; exact first _ _ j)
    (fun t h j => by
      rw [outsAt0_B m c t h (by omega) (by omega)]; frame_out
      exact (next _ _ _ j).trans (congrArg (· + _) (congrFun ((Memref.isWhole_whole cc0_scratch0).read_unread _) j)))
    t ht (ix2 r j), zero_add]
  exact sum_parts m c t _ (ix2 r j) s R hs hR

/-- The result: the weights' gradient, in shards of columns. -/
theorem final : (dats m 0 c).arrAt 2 cfg0.N = prod (m (c.tc.loc main_arg0)) (m (c.tc.loc main_arg2)) := by
  refine (dats m 0 c).arrAt_eq_of_covers 2 _ (by decide +kernel) fun t hf y => ?_
  blk_simp
  rw [after0_2]
  have ht : t.val % 2 = 1 := (flush0_2 t).mp hf
  obtain ⟨u, r, j, rfl⟩ : ∃ (u : Fin 1) (r : Fin 1024) (j : Fin 1992), y = ix3 u r j := ⟨y 0, y 1, y 2, eq_ix3 y⟩
  have e : (outsAt0 m c t.val t.isLt).1 (ix3 u r j) = (outsAt0 m c t.val t.isLt).2 (ix2 r j) := by
    rw [outsAt0_B m c t (by omega) ht ht]; frame_out; exact last _ u r j
  refine e.trans ((scratch m c t ht r j ⟨t.val / 8, by have := lt_of_lt_of_eq t.isLt N_0; omega⟩
    ⟨t.val / 2 % 4 * 1024 + r, by omega⟩ rfl rfl).trans ?_)
  refine congrArg₂ (dot _ _) (Fin.ext ?_) (congrArg₂ col (Fin.ext ?_) (Fin.ext ?_)) <;> blk_simp [idx t]

end Cert.Kernel6Ideal.DwShards

end
-- ==== Proof.DhShards.lean ====
/-
  The product that forms the gradient with respect to the rows of the input product, added up over the shards of columns: the
  operands, one block's product over one shard, the eight products of a block added up, and the result array.
-/
module

public import proofs.«01_k».proof.Proof.Shards
public import proofs.«01_k».proof.Proof.Gen.Kernel7Ideal.Value

@[expose] public section

set_option maxRecDepth 16384

noncomputable section

namespace Cert.Kernel7Ideal.DhShards

open Idealize.ShloMosaic Idealize.ShloMosaic.TcCoe Cert.Kernel7Ideal Cert.Kernel7Ideal.Gen Cert.Shards

/-! ## A block's product over one shard -/

/-- The products of one shard of the columns. -/
def part (a b : FVec Ideal S1x1024x1992 .bf16) (j : S1024x1024.Idx) : EReal :=
  ∑ l : Fin 1992, a (ix3 0 (j 0) l) * b (ix3 0 (j 1) l)

theorem pay1_apply (a b : FVec Ideal S1x1024x1992 .bf16) (r s : Fin 1024) :
    k0_pay1 (F := Ideal) a b (ix2 r s) = part a b (ix2 r s) := by
  pointwise [k0_pay1, part]

theorem first (a b : FVec Ideal S1x1024x1992 .bf16) (j : S1024x1024.Idx) : k0_pay2 (F := Ideal) a b j = 0 + part a b j := by
  obtain ⟨r, s, rfl⟩ : ∃ r s : Fin 1024, j = ix2 r s := ⟨j 0, j 1, eq_ix2 j⟩
  rw [zero_add, ← pay1_apply]
  pointwise [k0_pay2]

theorem next (a b : FVec Ideal S1x1024x1992 .bf16) (acc : FVec Ideal S1024x1024 .f32) (j : S1024x1024.Idx) :
    k0_pay3 (F := Ideal) a b acc j = acc j + part a b j := by
  obtain ⟨r, s, rfl⟩ : ∃ r s : Fin 1024, j = ix2 r s := ⟨j 0, j 1, eq_ix2 j⟩
  rw [← pay1_apply]
  pointwise [k0_pay3]

/-! ## The operands -/

variable (m : (ℓ : Loc nD τ sig) → Buf (Elt Ideal) ℓ) (c : Dev nD)

theorem idx : ∀ t : Fin cfg0.N, win0_0.index t = ![t.val % 8, t.val / 32, 0] ∧ win0_1.index t = ![t.val % 8, t.val / 8 % 4, 0]
    ∧ win0_2.index t = ![t.val / 32, t.val / 8 % 4] :=
  (by decide +kernel : ∀ t : Fin grid0.N, _)

/-- What the host leaves as the gradient in shards. -/
theorem host_dz : V m c main_v2 = transpose S8x4096x1992 [1, 0, 2] (shapeCast S4096x8x1992
    (truncf (F := Ideal) .bf16 (m (c.tc.loc main_arg2) : FVec Ideal S4096x15936 .f32) bitsLt_bf16_f32) shapeCasts_S4096x15936_S4096x8x1992)
    transposes_S4096x8x1992_S8x4096x1992_1_0_2 := by
  unfold V
  after_results_simp
  rfl

/-- What the host leaves as the weights in shards. -/
theorem host_w : V m c main_v5 = transpose S8x4096x1992 [1, 0, 2] (shapeCast S4096x8x1992
    (truncf (F := Ideal) .bf16 (m (c.tc.loc main_arg1) : FVec Ideal S4096x15936 .f32) bitsLt_bf16_f32) shapeCasts_S4096x15936_S4096x8x1992)
    transposes_S4096x8x1992_S8x4096x1992_1_0_2 := by
  unfold V
  after_results_simp
  rfl

/-- The gradient in shards, entry by entry. -/
theorem entry_dz (s : Fin 8) (r : Fin 4096) (j : Fin 1992) : (V m c main_v2 : FVec Ideal S8x4096x1992 .bf16) (ix3 s r j)
    = (m (c.tc.loc main_arg2) : FVec Ideal S4096x15936 .f32) (ix2 r (col s j)) := by
  rw [host_dz]
  exact shard_apply _ _ _ _ s r j

/-- The weights in shards, entry by entry. -/
theorem entry_w (s : Fin 8) (r : Fin 4096) (j : Fin 1992) : (V m c main_v5 : FVec Ideal S8x4096x1992 .bf16) (ix3 s r j)
    = (m (c.tc.loc main_arg1) : FVec Ideal S4096x15936 .f32) (ix2 r (col s j)) := by
  rw [host_w]
  exact shard_apply _ _ _ _ s r j

/-! ## The blocks at a point: row block `t / 32`, column block `t / 8 % 4`, shard `t % 8` -/

theorem blk_a (t : Fin cfg0.N) (r : Fin 1024) (l : Fin 1992) (s : Fin 8) (R : Fin 4096)
    (hs : (s : ℕ) = t.val % 8) (hR : (R : ℕ) = t.val / 32 * 1024 + r) :
    (iblk m c 0 t : FVec Ideal S1x1024x1992 .bf16) (ix3 0 r l)
      = (m (c.tc.loc main_arg2) : FVec Ideal S4096x15936 .f32) (ix2 R (col s l)) := by
  refine Eq.trans ?_ (entry_dz m c s R l)
  blk_ext [iblk, idx t, hs, hR]

theorem blk_b (t : Fin cfg0.N) (r : Fin 1024) (l : Fin 1992) (s : Fin 8) (C : Fin 4096)
    (hs : (s : ℕ) = t.val % 8) (hC : (C : ℕ) = t.val / 8 % 4 * 1024 + r) :
    (iblk m c 1 t : FVec Ideal S1x1024x1992 .bf16) (ix3 0 r l)
      = (m (c.tc.loc main_arg1) : FVec Ideal S4096x15936 .f32) (ix2 C (col s l)) := by
  refine Eq.trans ?_ (entry_w m c s C l)
  blk_ext [iblk, idx t, hs, hC]

/-! ## The result array -/

/-- One entry of the product over all the columns. -/
def dot (d w : FVec Ideal S4096x15936 .f32) (R C : Fin 4096) : EReal :=
  ∑ l : Fin 15936, d (ix2 R l) * w (ix2 C l)

/-- The gradient with respect to the rows. -/
def prod (d w : FVec Ideal S4096x15936 .f32) : FVec Ideal S4096x4096 .f32 := fun i => dot d w (i 0) (i 1)

/-- The eight steps of a block add up to the whole product's entry. -/
theorem sum_parts (t : Fin cfg0.N) (h : ∀ s : Fin 8, 8 * (t.val / 8) + s.val < cfg0.N) (y : S1024x1024.Idx) (R C : Fin 4096)
    (hR : (R : ℕ) = t.val / 32 * 1024 + (y 0).val) (hC : (C : ℕ) = t.val / 8 % 4 * 1024 + (y 1).val) :
    ∑ s : Fin 8, part (iblk m c 0 ⟨8 * (t.val / 8) + s.val, h s⟩) (iblk m c 1 ⟨8 * (t.val / 8) + s.val, h s⟩) y
      = dot (m (c.tc.loc main_arg2)) (m (c.tc.loc main_arg1)) R C := by
  rw [dot]
  refine Fin.sum_mul_add_congr fun s l => ?_
  rw [blk_a m c _ (y 0) l s R (by show (s : ℕ) = (8 * (t.val / 8) + s) % 8; omega)
      (by show (R : ℕ) = (8 * (t.val / 8) + s) / 32 * 1024 + _; omega),
    blk_b m c _ (y 1) l s C (by show (s : ℕ) = (8 * (t.val / 8) + s) % 8; omega)
      (by show (C : ℕ) = (8 * (t.val / 8) + s) / 8 % 4 * 1024 + _; omega)]
  intro _
  rfl

/-- What the scratch holds at a block's last step. -/
theorem scratch (t : Fin cfg0.N) (ht : t.val % 8 = 7) (y : S1024x1024.Idx) (R C : Fin 4096)
    (hR : (R : ℕ) = t.val / 32 * 1024 + (y 0).val) (hC : (C : ℕ) = t.val / 8 % 4 * 1024 + (y 1).val) :
    (outsAt0 m c t.val t.isLt).2 y = dot (m (c.tc.loc main_arg2)) (m (c.tc.loc main_arg1)) R C := by
  rw [Pipeline.eq_sum_fin_of_reset_step_apply_of_flush (fun n h => (outsAt0 m c n h).2) 8 (fun _ => 0)
    (fun t j => part (iblk m c 0 t) (iblk m c 1 t) j)
    (fun t h j => by rw [outsAt0_A m c t h (by omega) (by omega)]; frame_out; exact first _ _ j)
    (fun t h j => by
      by_cases h₂ : t.val % 8 = 7
      · rw [outsAt0_C m c t h (by omega) h₂]; frame_out; exact (next _ _ _ j).trans (congrArg (· + _) (congrFun ((Memref.isWhole_whole cc0_scratch0).read_unread _) j))
      · rw [outsAt0_B m c t h (by omega) h₂]; frame_out; exact (next _ _ _ j).trans (congrArg (· + _) (congrFun ((Memref.isWhole_whole cc0_scratch0).read_unread _) j)))
    t ht y, zero_add]
  exact sum_parts m c t _ y R C hR hC

/-- The result: the gradient with respect to the rows. -/
theorem final : (dats m 0 c).arrAt 2 cfg0.N = prod (m (c.tc.loc main_arg2)) (m (c.tc.loc main_arg1)) := by
  refine (dats m 0 c).arrAt_eq_of_covers 2 _ (by decide +kernel) fun t hf y => ?_
  blk_simp
  rw [after0_2]
  have ht : t.val % 8 = 7 := (flush0_2 t).mp hf
  have e : (outsAt0 m c t.val t.isLt).1 y = (outsAt0 m c t.val t.isLt).2 y := by
    rw [outsAt0_C m c t (by omega) (by omega) ht]; frame_out
  exact e.trans (scratch m c t ht y _ _ (by blk_simp [idx t]) (by blk_simp [idx t]))

end Cert.Kernel7Ideal.DhShards

end
-- ==== Proof.ShardClaims.lean ====
/-
  The claims about the two products of the input projection's backward pass: each reference's result is the kernel's.
-/
module

public import proofs.«01_k».proof.Defs
public import proofs.«01_k».proof.Proof.DwShards
public import proofs.«01_k».proof.Proof.DhShards
public import proofs.«01_k».proof.Proof.Gen.Kernel6Ideal.Frame
public import proofs.«01_k».proof.Proof.Gen.Reference6Ideal.Run
public import proofs.«01_k».proof.Proof.Gen.Kernel7Ideal.Frame
public import proofs.«01_k».proof.Proof.Gen.Reference7Ideal.Run
public import Idealize.ShloMosaic.Lib.Quiescent
public import Idealize.ShloMosaic.Adequacy

@[expose] public section

set_option maxRecDepth 16384

noncomputable section

open Idealize.ShloMosaic Idealize.ShloMosaic.TcCoe Idealize.SL.Sem

namespace Cert.DwShards

open Cert.Reference6Ideal Cert.Reference6Ideal.Gen Cert.Reference6Ideal.Value

/-- The reference multiplies the gradient's columns by the rows' columns, transposes and shards: the kernel's sums, factors swapped. -/
theorem host (h : FVec Ideal S4096x4096 .f32) (d : FVec Ideal S4096x15936 .f32) :
    truncf (F := Ideal) .bf16 (transpose S8x4096x1992 [1, 0, 2] (shapeCast S4096x8x1992 (transpose S4096x15936 [1, 0]
      (Host.dotGeneral (F := Ideal) (φ₁ := .f32) (φ₂ := .f32) dot_S4096x15936_S4096x4096_S15936x4096_0_0_1_1_n_n none d h)
      transposes_S15936x4096_S4096x15936_1_0) shapeCasts_S4096x15936_S4096x8x1992) transposes_S4096x8x1992_S8x4096x1992_1_0_2) bitsLt_bf16_f32
      = Kernel6Ideal.DwShards.prod h d := by
  funext i
  obtain ⟨s, r, j, rfl⟩ : ∃ (s : Fin 8) (r : Fin 4096) (j : Fin 1992), i = ix3 s r j := ⟨i 0, i 1, i 2, eq_ix3 i⟩
  have e : Kernel6Ideal.DwShards.prod h d (ix3 s r j)
      = ∑ l : Fin 4096, HMul.hMul (α := EReal) (β := EReal) (γ := EReal) (d (ix2 l (Shards.col s j))) (h (ix2 l r)) := by
    show (∑ l : Fin 4096, HMul.hMul (α := EReal) (β := EReal) (γ := EReal) (h (ix2 l r)) (d (ix2 l (Shards.col s j)))) = _
    exact Finset.sum_congr rfl fun l _ => mul_comm (G := EReal) _ _
  rw [e]
  pointwise [Shards.col]

/-- Every run of the reference ends, with every counter at zero and the arguments as launched. -/
theorem reference_frame : Cert.quiescent_Reference6Ideal :=
  fun m ρ _ => (θ_run Cert.Reference6Ideal.defs _ _).mono (fun r h => ⟨fun c => (h c).2, sem_eq_zero_of_no_sems (by decide) r.2⟩)
    (Value.run (F := Ideal) m ρ)

/-- The input weights' gradient is the reference's. -/
theorem algebraic : Cert.algebraic_Kernel6Ideal_Reference6Ideal := by
  intro m ρ m' ρ' _ hagree
  refine ⟨_, Cert.Kernel6Ideal.Value.run_blocks (F := Ideal) m ρ,
    (θ_run Cert.Reference6Ideal.defs _ _).mono (fun r h c => ?_) (Value.run (F := Ideal) m' ρ')⟩
  obtain ⟨h₀, h⟩ := h c
  obtain ⟨e0, e1, e2⟩ := hagree c
  refine ⟨h₀.trans ?_, h⟩
  rw [e0, e2, host]
  exact (Kernel6Ideal.DwShards.final m c).symm

end Cert.DwShards

namespace Cert.DhShards

open Cert.Reference7Ideal Cert.Reference7Ideal.Gen Cert.Reference7Ideal.Value

/-- The reference's product over all the columns, entry by entry. -/
theorem host (d w : FVec Ideal S4096x15936 .f32) :
    Host.dotGeneral (F := Ideal) (φ₁ := .f32) (φ₂ := .f32) dot_S4096x15936_S4096x15936_S4096x4096_1_1_0_0_n_n none d w
      = Kernel7Ideal.DhShards.prod d w := by
  funext i
  obtain ⟨r, s, rfl⟩ : ∃ r s : Fin 4096, i = ix2 r s := ⟨i 0, i 1, eq_ix2 i⟩
  pointwise [Kernel7Ideal.DhShards.prod, Kernel7Ideal.DhShards.dot]

/-- Every run of the reference ends, with every counter at zero and the arguments as launched. -/
theorem reference_frame : Cert.quiescent_Reference7Ideal :=
  fun m ρ _ => (θ_run Cert.Reference7Ideal.defs _ _).mono (fun r h => ⟨fun c => (h c).2, sem_eq_zero_of_no_sems (by decide) r.2⟩)
    (Value.run (F := Ideal) m ρ)

/-- The gradient with respect to the rows is the reference's. -/
theorem algebraic : Cert.algebraic_Kernel7Ideal_Reference7Ideal := by
  intro m ρ m' ρ' _ hagree
  refine ⟨_, Cert.Kernel7Ideal.Value.run_blocks (F := Ideal) m ρ,
    (θ_run Cert.Reference7Ideal.defs _ _).mono (fun r h c => ?_) (Value.run (F := Ideal) m' ρ')⟩
  obtain ⟨h₀, h⟩ := h c
  obtain ⟨e0, e1, e2⟩ := hagree c
  refine ⟨h₀.trans ?_, h⟩
  rw [e1, e2, host]
  exact (Kernel7Ideal.DhShards.final m c).symm

end Cert.DhShards

end
-- ==== Proof.Padded.lean ====
/-
  The padding of the hidden columns: 11008 columns in eight shards of 1376, each shard widened to 1408 with zeros. A sum
  over the 11264 padded columns, the padding's terms being zero, is the sum over the 11008.
-/
module

public import Idealize.ShloMosaic.Lib.Pipeline.ValueKit

@[expose] public section

noncomputable section

namespace Cert.Padded

open Idealize.ShloMosaic

/-- The value at padded column `l`: the shard's own column's where it has one, zero past its end. -/
def padAt (f : Fin 11008 → EReal) (l : Fin 11264) : EReal :=
  if h : (l : ℕ) % 1408 < 1376 then f ⟨l / 1408 * 1376 + l % 1408, by omega⟩ else 0

/-- The padded column that holds column `j`. -/
def col (j : Fin 11008) : Fin 11264 := ⟨j / 1376 * 1408 + j % 1376, by omega⟩

theorem padAt_col (f : Fin 11008 → EReal) (j : Fin 11008) : padAt f (col j) = f j := by
  have h : ((col j : Fin 11264) : ℕ) % 1408 < 1376 := by show (j.val / 1376 * 1408 + j % 1376) % 1408 < 1376; omega
  rw [padAt, dif_pos h]
  congr 1
  refine Fin.ext ?_
  show (j.val / 1376 * 1408 + j % 1376) / 1408 * 1376 + (j.val / 1376 * 1408 + j % 1376) % 1408 = j
  omega

/-- Padding two factors is padding their product. -/
theorem padAt_mul (f g : Fin 11008 → EReal) (l : Fin 11264) : padAt f l * padAt g l = padAt (fun j => f j * g j) l := by
  unfold padAt
  split
  · rfl
  · exact zero_mul 0

/-- A padded sum is the sum of what was padded. -/
theorem sum_padAt (f : Fin 11008 → EReal) : ∑ l : Fin 11264, padAt f l = ∑ j : Fin 11008, f j := by
  symm
  have inj : Function.Injective col := by
    intro a b h
    have h' : a.val / 1376 * 1408 + a % 1376 = b.val / 1376 * 1408 + b % 1376 := congrArg Fin.val h
    exact Fin.ext (by omega)
  calc ∑ j : Fin 11008, f j = ∑ j : Fin 11008, padAt f (col j) := Finset.sum_congr rfl fun j _ => (padAt_col f j).symm
    _ = ∑ l ∈ Finset.univ.image col, padAt f l := (Finset.sum_image fun a _ b _ h => inj h).symm
    _ = ∑ l : Fin 11264, padAt f l := Finset.sum_subset (Finset.subset_univ _) fun l _ hl => by
      refine dif_neg fun h => hl (Finset.mem_image.mpr ⟨⟨l / 1408 * 1376 + l % 1408, by omega⟩, Finset.mem_univ _, Fin.ext ?_⟩)
      show (l.val / 1408 * 1376 + l % 1408) / 1376 * 1408 + (l.val / 1408 * 1376 + l % 1408) % 1376 = l
      omega

/-- A sum of products over the padded columns is the sum over the columns. -/
theorem sum_mul (f g : Fin 11008 → EReal) : ∑ l : Fin 11264, padAt f l * padAt g l = ∑ j : Fin 11008, f j * g j :=
  (Finset.sum_congr rfl fun l _ => padAt_mul f g l).trans (sum_padAt _)

theorem sitofp_zero (i : (⟨0, ![]⟩ : Shape).Idx) : sitofp (F := Ideal) (φ := .bf16) (constantI ⟨0, ![]⟩ 32 0#32) i = 0 := by
  show ((((0#32 : BitVec 32).toInt : ℤ) : ℝ) : EReal) = 0
  simp

/-- A 4096-row array with its columns padded, as the host forms it, entry by entry. -/
theorem cols_apply (a : FVec Ideal ⟨2, ![4096, 11008]⟩ .f32) (hb : FTy.bits .bf16 < FTy.bits .f32)
    (h₁ : (⟨2, ![4096, 11008]⟩ : Shape).ShapeCasts ⟨3, ![4096, 8, 1376]⟩)
    (hp : (⟨3, ![4096, 8, 1376]⟩ : Shape).Pads (![0, 0, 0] : Fin 3 → Nat) ![0, 0, 32] ![0, 0, 0] ⟨3, ![4096, 8, 1408]⟩)
    (hu : 0 < (⟨0, ![]⟩ : Shape).numel)
    (h₂ : (⟨3, ![4096, 8, 1408]⟩ : Shape).ShapeCasts ⟨2, ![4096, 11264]⟩) (r : Fin 4096) (l : Fin 11264) :
    shapeCast ⟨2, ![4096, 11264]⟩ (pad ⟨3, ![4096, 8, 1408]⟩ ![0, 0, 0] ![0, 0, 32] ![0, 0, 0]
      (shapeCast ⟨3, ![4096, 8, 1376]⟩ (truncf (F := Ideal) .bf16 a hb) h₁) (sitofp (F := Ideal) .bf16 (constantI ⟨0, ![]⟩ 32 0#32)) hp hu) h₂ (ix2 r l)
      = padAt (fun j => a (ix2 r j)) l := by
  pointwise [padAt, sitofp_zero]
  by_cases h : (l : ℕ) % 1408 < 1376
  · rw [dif_pos ⟨by omega, h⟩, dif_pos h]
  · rw [dif_neg fun h' => h h'.2, dif_neg h]

/-- The same of an array of 11008 rows. -/
theorem rows_apply (a : FVec Ideal ⟨2, ![11008, 4096]⟩ .f32) (hb : FTy.bits .bf16 < FTy.bits .f32)
    (h₁ : (⟨2, ![11008, 4096]⟩ : Shape).ShapeCasts ⟨3, ![8, 1376, 4096]⟩)
    (hp : (⟨3, ![8, 1376, 4096]⟩ : Shape).Pads (![0, 0, 0] : Fin 3 → Nat) ![0, 32, 0] ![0, 0, 0] ⟨3, ![8, 1408, 4096]⟩)
    (hu : 0 < (⟨0, ![]⟩ : Shape).numel)
    (h₂ : (⟨3, ![8, 1408, 4096]⟩ : Shape).ShapeCasts ⟨2, ![11264, 4096]⟩) (l : Fin 11264) (s : Fin 4096) :
    shapeCast ⟨2, ![11264, 4096]⟩ (pad ⟨3, ![8, 1408, 4096]⟩ ![0, 0, 0] ![0, 32, 0] ![0, 0, 0]
      (shapeCast ⟨3, ![8, 1376, 4096]⟩ (truncf (F := Ideal) .bf16 a hb) h₁) (sitofp (F := Ideal) .bf16 (constantI ⟨0, ![]⟩ 32 0#32)) hp hu) h₂ (ix2 l s)
      = padAt (fun j => a (ix2 j s)) l := by
  pointwise [padAt, sitofp_zero]
  by_cases h : (l : ℕ) % 1408 < 1376
  · rw [dif_pos ⟨by omega, h⟩, dif_pos h]
  · rw [dif_neg fun h' => h h'.2, dif_neg h]

/-- A padded array's own columns, as the host takes them out again. -/
theorem own_cols_apply (x : FVec Ideal ⟨2, ![4096, 11264]⟩ .bf16) (hb : FTy.bits .bf16 < FTy.bits .f32)
    (h₁ : (⟨2, ![4096, 11264]⟩ : Shape).ShapeCasts ⟨3, ![4096, 8, 1408]⟩)
    (hs : (⟨3, ![4096, 8, 1408]⟩ : Shape).Slices ![0, 0, 0] ⟨3, ![4096, 8, 1376]⟩)
    (h₂ : (⟨3, ![4096, 8, 1376]⟩ : Shape).ShapeCasts ⟨2, ![4096, 11008]⟩) (r : Fin 4096) (j : Fin 11008) :
    extf (F := Ideal) .f32 (shapeCast ⟨2, ![4096, 11008]⟩ (extractStridedSlice ⟨3, ![4096, 8, 1376]⟩ ![0, 0, 0]
      (shapeCast ⟨3, ![4096, 8, 1408]⟩ x h₁) hs) h₂) hb (ix2 r j) = x (ix2 r (col j)) := by
  pointwise [col]

/-- A padded array's own rows. -/
theorem own_rows_apply (x : FVec Ideal ⟨2, ![11264, 4096]⟩ .bf16) (hb : FTy.bits .bf16 < FTy.bits .f32)
    (h₁ : (⟨2, ![11264, 4096]⟩ : Shape).ShapeCasts ⟨3, ![8, 1408, 4096]⟩)
    (hs : (⟨3, ![8, 1408, 4096]⟩ : Shape).Slices ![0, 0, 0] ⟨3, ![8, 1376, 4096]⟩)
    (h₂ : (⟨3, ![8, 1376, 4096]⟩ : Shape).ShapeCasts ⟨2, ![11008, 4096]⟩) (j : Fin 11008) (s : Fin 4096) :
    extf (F := Ideal) .f32 (shapeCast ⟨2, ![11008, 4096]⟩ (extractStridedSlice ⟨3, ![8, 1376, 4096]⟩ ![0, 0, 0]
      (shapeCast ⟨3, ![8, 1408, 4096]⟩ x h₁) hs) h₂) hb (ix2 j s) = x (ix2 (col j) s) := by
  pointwise [col]

end Cert.Padded

end
-- ==== Proof.FfnRegions.lean ====
/-
  What each of the feed-forward step's eight calls leaves in its result arrays, from whatever its operands hold: the six
  products whole, and the gated activations and their gradients entry by entry.
-/
module

public import proofs.«01_k».proof.Proof.Padded
public import proofs.«01_k».proof.Proof.Gen.Kernel2Ideal.Frame

@[expose] public section

set_option maxRecDepth 16384

noncomputable section

namespace Cert.Kernel2Ideal.Ffn

open Idealize.ShloMosaic Idealize.ShloMosaic.TcCoe Cert.Kernel2Ideal Cert.Kernel2Ideal.Gen

/-! ## The arrays the calls leave -/

/-- The logistic function as the kernel forms it. -/
def sg (x : EReal) : EReal := Ideal.div 1 (1 + Ideal.exp (0 - x))

/-- Rows times padded weight columns. -/
def rowsW (a : FVec Ideal S4096x4096 .bf16) (b : FVec Ideal S4096x11264 .bf16) : FVec Ideal S4096x11264 .bf16 :=
  fun i => ∑ l : Fin 4096, a (ix2 (i 0) l) * b (ix2 l (i 1))

/-- Rows times the transposed padded weight rows. -/
def rowsWt (a : FVec Ideal S4096x4096 .bf16) (b : FVec Ideal S11264x4096 .bf16) : FVec Ideal S4096x11264 .bf16 :=
  fun i => ∑ l : Fin 4096, a (ix2 (i 0) l) * b (ix2 (i 1) l)

/-- The product over the rows of hidden columns and rows. -/
def hiddenT (a : FVec Ideal S4096x11264 .bf16) (b : FVec Ideal S4096x4096 .bf16) : FVec Ideal S11264x4096 .bf16 :=
  fun i => ∑ l : Fin 4096, a (ix2 l (i 0)) * b (ix2 l (i 1))

/-- The product over the rows of rows and hidden columns. -/
def rowsT (a : FVec Ideal S4096x4096 .bf16) (b : FVec Ideal S4096x11264 .bf16) : FVec Ideal S4096x11264 .bf16 :=
  fun i => ∑ l : Fin 4096, a (ix2 l (i 0)) * b (ix2 l (i 1))

/-- The gated activations. -/
def gated (g u : FVec Ideal S4096x11264 .bf16) : FVec Ideal S4096x11264 .bf16 := fun i => g i * sg (g i) * u i

/-- The gate's gradient at one entry. -/
def dGate (d g u : EReal) : EReal := d * u * (sg g * (1 + g * (1 - sg g)))

/-- The gate's gradient. -/
def gradGate (d g u : FVec Ideal S4096x11264 .bf16) : FVec Ideal S4096x11264 .bf16 := fun i => dGate (d i) (g i) (u i)

/-- The up projection's gradient. -/
def gradUp (d g : FVec Ideal S4096x11264 .bf16) : FVec Ideal S4096x11264 .bf16 := fun i => d i * (g i * sg (g i))

/-! ## One block of each -/

theorem pay0 (a : FVec Ideal S1024x4096 .bf16) (b : FVec Ideal S4096x1024 .bf16) (r s : Fin 1024) :
    k0_pay1 (F := Ideal) a b (ix2 r s) = ∑ l : Fin 4096, a (ix2 r l) * b (ix2 l s) := by
  pointwise [k0_pay1]

theorem pay1 (a : FVec Ideal S1024x4096 .bf16) (b : FVec Ideal S4096x1024 .bf16) (r s : Fin 1024) :
    k1_pay1 (F := Ideal) a b (ix2 r s) = ∑ l : Fin 4096, a (ix2 r l) * b (ix2 l s) := by
  pointwise [k1_pay1]

theorem pay2 (g u : FVec Ideal S128x11264 .bf16) (r : Fin 128) (s : Fin 11264) :
    k2_pay1 (F := Ideal) g u (ix2 r s) = g (ix2 r s) * sg (g (ix2 r s)) * u (ix2 r s) := by
  pointwise [k2_pay1, sg]

theorem pay3 (a : FVec Ideal S1024x4096 .bf16) (b : FVec Ideal S1024x4096 .bf16) (r s : Fin 1024) :
    k3_pay1 (F := Ideal) a b (ix2 r s) = ∑ l : Fin 4096, a (ix2 r l) * b (ix2 s l) := by
  pointwise [k3_pay1]

theorem pay4 (a : FVec Ideal S4096x1024 .bf16) (b : FVec Ideal S4096x1024 .bf16) (r s : Fin 1024) :
    k4_pay1 (F := Ideal) a b (ix2 r s) = ∑ l : Fin 4096, a (ix2 l r) * b (ix2 l s) := by
  pointwise [k4_pay1]

theorem pay5_gate (g d u : FVec Ideal S128x11264 .bf16) (r : Fin 128) (s : Fin 11264) :
    k5_pay4 (F := Ideal) g d u (ix2 r s) = dGate (d (ix2 r s)) (g (ix2 r s)) (u (ix2 r s)) := by
  pointwise [k5_pay1, k5_pay2, k5_pay3, k5_pay4, dGate, sg]

theorem pay5_up (g d : FVec Ideal S128x11264 .bf16) (r : Fin 128) (s : Fin 11264) :
    k5_pay5 (F := Ideal) g d (ix2 r s) = d (ix2 r s) * (g (ix2 r s) * sg (g (ix2 r s))) := by
  pointwise [k5_pay1, k5_pay2, k5_pay3, k5_pay5, sg]

theorem pay6 (a : FVec Ideal S4096x1024 .bf16) (b : FVec Ideal S4096x1024 .bf16) (r s : Fin 1024) :
    k6_pay1 (F := Ideal) a b (ix2 r s) = ∑ l : Fin 4096, a (ix2 l r) * b (ix2 l s) := by
  pointwise [k6_pay1]

theorem pay7 (a : FVec Ideal S4096x1024 .bf16) (b : FVec Ideal S4096x1024 .bf16) (r s : Fin 1024) :
    k7_pay1 (F := Ideal) a b (ix2 r s) = ∑ l : Fin 4096, a (ix2 l r) * b (ix2 l s) := by
  pointwise [k7_pay1]

/-! ## The result arrays -/

variable (V : (c : Dev nD) → (b : Ref sig .tc) → Buf (Elt Ideal) ((c : Thread nD τ).loc b)) (c : Dev nD)

theorem idx0 : ∀ t : Fin cfg0.N, win0_0.index t = ![t.val / 11, 0] ∧ win0_1.index t = ![0, t.val % 11]
    ∧ win0_2.index t = ![t.val / 11, t.val % 11] :=
  (by decide +kernel : ∀ t : Fin grid0.N, _)

/-- The gate. -/
theorem final0 : (dat0 V c).arrAt 2 cfg0.N = rowsW (V c main_v12) (V c main_v3) := by
  refine (dat0 V c).arrAt_eq_of_covers 2 _ (by decide +kernel) fun t hf y => ?_
  blk_simp
  rw [after0_2]
  have e : out0_2 (iblk0 V c 0 t) (iblk0 V c 1 t) y = k0_pay1 (F := Ideal) (iblk0 V c 0 t) (iblk0 V c 1 t) y := by
    unfold out0_2; frame_out
  refine e.trans ?_
  obtain ⟨r, s, rfl⟩ : ∃ (r s : Fin 1024), y = ix2 r s := ⟨y 0, y 1, eq_ix2 y⟩
  refine (pay0 _ _ r s).trans (Finset.sum_congr rfl fun l _ => congrArg₂ (fun u v : EReal => u * v) ?_ ?_)
  · blk_ext [iblk0, idx0 t]
  · blk_ext [iblk0, idx0 t]

theorem idx1 : ∀ t : Fin cfg1.N, win1_0.index t = ![t.val / 11, 0] ∧ win1_1.index t = ![0, t.val % 11]
    ∧ win1_2.index t = ![t.val / 11, t.val % 11] :=
  (by decide +kernel : ∀ t : Fin grid1.N, _)

/-- The up projection. -/
theorem final1 : (dat1 V c).arrAt 2 cfg1.N = rowsW (V c main_v12) (V c main_v7) := by
  refine (dat1 V c).arrAt_eq_of_covers 2 _ (by decide +kernel) fun t hf y => ?_
  blk_simp
  rw [after1_2]
  have e : out1_2 (iblk1 V c 0 t) (iblk1 V c 1 t) y = k1_pay1 (F := Ideal) (iblk1 V c 0 t) (iblk1 V c 1 t) y := by
    unfold out1_2; frame_out
  refine e.trans ?_
  obtain ⟨r, s, rfl⟩ : ∃ (r s : Fin 1024), y = ix2 r s := ⟨y 0, y 1, eq_ix2 y⟩
  refine (pay1 _ _ r s).trans (Finset.sum_congr rfl fun l _ => congrArg₂ (fun u v : EReal => u * v) ?_ ?_)
  · blk_ext [iblk1, idx1 t]
  · blk_ext [iblk1, idx1 t]

theorem idx2 : ∀ t : Fin cfg2.N, win2_0.index t = ![t.val, 0] ∧ win2_1.index t = ![t.val, 0] ∧ win2_2.index t = ![t.val, 0] :=
  (by decide +kernel : ∀ t : Fin grid2.N, _)

/-- The activations. -/
theorem final2 : (dat2 V c).arrAt 2 cfg2.N = gated (V c main_v14) (V c main_v15) := by
  refine (dat2 V c).arrAt_eq_of_covers 2 _ (by decide +kernel) fun t hf y => ?_
  blk_simp
  rw [after2_2]
  have e : outsAt2 V c t y = k2_pay1 (F := Ideal) (iblk2 V c 0 t) (iblk2 V c 1 t) y := by
    unfold outsAt2; frame_out
  refine e.trans ?_
  obtain ⟨r, s, rfl⟩ : ∃ (r : Fin 128) (s : Fin 11264), y = ix2 r s := ⟨y 0, y 1, eq_ix2 y⟩
  refine (pay2 _ _ r s).trans (congrArg₂ (fun u v : EReal => u * sg u * v) ?_ ?_)
  · blk_ext [iblk2, idx2 t]
  · blk_ext [iblk2, idx2 t]

theorem idx3 : ∀ t : Fin cfg3.N, win3_0.index t = ![t.val / 11, 0] ∧ win3_1.index t = ![t.val % 11, 0]
    ∧ win3_2.index t = ![t.val / 11, t.val % 11] :=
  (by decide +kernel : ∀ t : Fin grid3.N, _)

/-- The activations' gradient. -/
theorem final3 : (dat3 V c).arrAt 2 cfg3.N = rowsWt (V c main_v13) (V c main_v11) := by
  refine (dat3 V c).arrAt_eq_of_covers 2 _ (by decide +kernel) fun t hf y => ?_
  blk_simp
  rw [after3_2]
  have e : out3_2 (iblk3 V c 0 t) (iblk3 V c 1 t) y = k3_pay1 (F := Ideal) (iblk3 V c 0 t) (iblk3 V c 1 t) y := by
    unfold out3_2; frame_out
  refine e.trans ?_
  obtain ⟨r, s, rfl⟩ : ∃ (r s : Fin 1024), y = ix2 r s := ⟨y 0, y 1, eq_ix2 y⟩
  refine (pay3 _ _ r s).trans (Finset.sum_congr rfl fun l _ => congrArg₂ (fun u v : EReal => u * v) ?_ ?_)
  · blk_ext [iblk3, idx3 t]
  · blk_ext [iblk3, idx3 t]

theorem idx4 : ∀ t : Fin cfg4.N, win4_0.index t = ![0, t.val / 4] ∧ win4_1.index t = ![0, t.val % 4]
    ∧ win4_2.index t = ![t.val / 4, t.val % 4] :=
  (by decide +kernel : ∀ t : Fin grid4.N, _)

/-- The down weights' gradient. -/
theorem final4 : (dat4 V c).arrAt 2 cfg4.N = hiddenT (V c main_v17) (V c main_v13) := by
  refine (dat4 V c).arrAt_eq_of_covers 2 _ (by decide +kernel) fun t hf y => ?_
  blk_simp
  rw [after4_2]
  have e : out4_2 (iblk4 V c 0 t) (iblk4 V c 1 t) y = k4_pay1 (F := Ideal) (iblk4 V c 0 t) (iblk4 V c 1 t) y := by
    unfold out4_2; frame_out
  refine e.trans ?_
  obtain ⟨r, s, rfl⟩ : ∃ (r s : Fin 1024), y = ix2 r s := ⟨y 0, y 1, eq_ix2 y⟩
  refine (pay4 _ _ r s).trans (Finset.sum_congr rfl fun l _ => congrArg₂ (fun u v : EReal => u * v) ?_ ?_)
  · blk_ext [iblk4, idx4 t]
  · blk_ext [iblk4, idx4 t]

theorem idx5 : ∀ t : Fin cfg5.N, win5_0.index t = ![t.val, 0] ∧ win5_1.index t = ![t.val, 0] ∧ win5_2.index t = ![t.val, 0]
    ∧ win5_3.index t = ![t.val, 0] ∧ win5_4.index t = ![t.val, 0] :=
  (by decide +kernel : ∀ t : Fin grid5.N, _)

/-- The gate's gradient. -/
theorem final5_gate : (dat5 V c).arrAt 3 cfg5.N = gradGate (V c main_v18) (V c main_v14) (V c main_v15) := by
  refine (dat5 V c).arrAt_eq_of_covers 3 _ (by decide +kernel) fun t hf y => ?_
  blk_simp
  rw [after5_3]
  have e : out5_3 (iblk5 V c 0 t) (iblk5 V c 1 t) (iblk5 V c 2 t) y
      = k5_pay4 (F := Ideal) (iblk5 V c 1 t) (iblk5 V c 0 t) (iblk5 V c 2 t) y := by
    unfold out5_3; frame_out
  refine e.trans ?_
  obtain ⟨r, s, rfl⟩ : ∃ (r : Fin 128) (s : Fin 11264), y = ix2 r s := ⟨y 0, y 1, eq_ix2 y⟩
  refine (pay5_gate _ _ _ r s).trans ?_
  have h : ∀ d d' g g' u u' : EReal, d = d' → g = g' → u = u' → dGate d g u = dGate d' g' u' := by
    rintro d _ g _ u _ rfl rfl rfl; rfl
  refine h _ _ _ _ _ _ ?_ ?_ ?_
  · blk_ext [iblk5, idx5 t]
  · blk_ext [iblk5, idx5 t]
  · blk_ext [iblk5, idx5 t]

/-- The up projection's gradient. -/
theorem final5_up : (dat5 V c).arrAt 4 cfg5.N = gradUp (V c main_v18) (V c main_v14) := by
  refine (dat5 V c).arrAt_eq_of_covers 4 _ (by decide +kernel) fun t hf y => ?_
  blk_simp
  rw [after5_4]
  have e : out5_4 (iblk5 V c 0 t) (iblk5 V c 1 t) (iblk5 V c 2 t) y = k5_pay5 (F := Ideal) (iblk5 V c 1 t) (iblk5 V c 0 t) y := by
    unfold out5_4; frame_out
  refine e.trans ?_
  obtain ⟨r, s, rfl⟩ : ∃ (r : Fin 128) (s : Fin 11264), y = ix2 r s := ⟨y 0, y 1, eq_ix2 y⟩
  refine (pay5_up _ _ r s).trans (congrArg₂ (fun u v : EReal => u * (v * sg v)) ?_ ?_)
  · blk_ext [iblk5, idx5 t]
  · blk_ext [iblk5, idx5 t]

theorem idx6 : ∀ t : Fin cfg6.N, win6_0.index t = ![0, t.val / 11] ∧ win6_1.index t = ![0, t.val % 11]
    ∧ win6_2.index t = ![t.val / 11, t.val % 11] :=
  (by decide +kernel : ∀ t : Fin grid6.N, _)

/-- The gate weights' gradient. -/
theorem final6 : (dat6 V c).arrAt 2 cfg6.N = rowsT (V c main_v12) (V c main_v20_0) := by
  refine (dat6 V c).arrAt_eq_of_covers 2 _ (by decide +kernel) fun t hf y => ?_
  blk_simp
  rw [after6_2]
  have e : out6_2 (iblk6 V c 0 t) (iblk6 V c 1 t) y = k6_pay1 (F := Ideal) (iblk6 V c 0 t) (iblk6 V c 1 t) y := by
    unfold out6_2; frame_out
  refine e.trans ?_
  obtain ⟨r, s, rfl⟩ : ∃ (r s : Fin 1024), y = ix2 r s := ⟨y 0, y 1, eq_ix2 y⟩
  refine (pay6 _ _ r s).trans (Finset.sum_congr rfl fun l _ => congrArg₂ (fun u v : EReal => u * v) ?_ ?_)
  · blk_ext [iblk6, idx6 t]
  · blk_ext [iblk6, idx6 t]

theorem idx7 : ∀ t : Fin cfg7.N, win7_0.index t = ![0, t.val / 11] ∧ win7_1.index t = ![0, t.val % 11]
    ∧ win7_2.index t = ![t.val / 11, t.val % 11] :=
  (by decide +kernel : ∀ t : Fin grid7.N, _)

/-- The up weights' gradient. -/
theorem final7 : (dat7 V c).arrAt 2 cfg7.N = rowsT (V c main_v12) (V c main_v20_1) := by
  refine (dat7 V c).arrAt_eq_of_covers 2 _ (by decide +kernel) fun t hf y => ?_
  blk_simp
  rw [after7_2]
  have e : out7_2 (iblk7 V c 0 t) (iblk7 V c 1 t) y = k7_pay1 (F := Ideal) (iblk7 V c 0 t) (iblk7 V c 1 t) y := by
    unfold out7_2; frame_out
  refine e.trans ?_
  obtain ⟨r, s, rfl⟩ : ∃ (r s : Fin 1024), y = ix2 r s := ⟨y 0, y 1, eq_ix2 y⟩
  refine (pay7 _ _ r s).trans (Finset.sum_congr rfl fun l _ => congrArg₂ (fun u v : EReal => u * v) ?_ ?_)
  · blk_ext [iblk7, idx7 t]
  · blk_ext [iblk7, idx7 t]

end Cert.Kernel2Ideal.Ffn

end
-- ==== Proof.FfnRun.lean ====
/-
  The run of the feed-forward step: every run ends with the three results and the arguments at what the host's last
  operations leave.
-/
module

public import proofs.«01_k».proof.Proof.Gen.Kernel2Ideal.Frame
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, each unscoped buffer of each core at what the last host operations leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl,
        fun _ => .rfl, fun c => ?_⟩
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun _ h _ => h)

/-- Every run ends, the results at the last host operations' and the arguments as launched. -/
theorem run : θ_run defs (onTc (τ := τ) (main (F := Ideal))) ⟨m, fun _ => 0, ρ⟩ (fun r => ∀ c : Dev nD,
      r.2.mem ((c.tc : Thread nD τ).loc main_v26) = W17 m ρ c (Proc.devRef .tc main_v26)
      ∧ r.2.mem ((c.tc : Thread nD τ).loc main_v30) = W17 m ρ c (Proc.devRef .tc main_v30)
      ∧ r.2.mem ((c.tc : Thread nD τ).loc main_v34) = W17 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v26 (by decide)), h c _ (mem_uc main_v30 (by decide)), h c _ (mem_uc main_v34 (by decide)),
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c)⟩) (run_all m ρ)

end Cert.Kernel2Ideal.Ffn

end
-- ==== Proof.FfnChain.lean ====
/-
  The feed-forward step's eight calls put together: what each result holds at the end of the run, as the arrays the calls
  leave one from another.
-/
module

public import proofs.«01_k».proof.Proof.FfnRegions
public import proofs.«01_k».proof.Proof.FfnRun

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen Cert.Padded

variable (m : (ℓ : Loc nD τ sig) → Buf (Elt Ideal) ℓ) (ρ : Dev nD → PrngReg) (c : Dev nD)

/-! ## What the host hands the calls -/

/-- The rows of activations. -/
abbrev rowsIn : FVec Ideal S4096x4096 .bf16 := truncf (F := Ideal) .bf16 (m (c.tc.loc main_arg0) : FVec Ideal S4096x4096 .f32) bitsLt_bf16_f32

/-- The rows of the incoming gradient. -/
abbrev gradIn : FVec Ideal S4096x4096 .bf16 := truncf (F := Ideal) .bf16 (m (c.tc.loc main_arg4) : FVec Ideal S4096x4096 .f32) bitsLt_bf16_f32

/-- Padded weight columns. -/
abbrev colsIn (a : FVec Ideal S4096x11008 .f32) : FVec Ideal S4096x11264 .bf16 :=
  shapeCast S4096x11264 (pad S4096x8x1408 ![0, 0, 0] ![0, 0, 32] ![0, 0, 0]
    (shapeCast S4096x8x1376 (truncf (F := Ideal) .bf16 a bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264

/-- Padded weight rows. -/
abbrev weightRowsIn (a : FVec Ideal S11008x4096 .f32) : FVec Ideal S11264x4096 .bf16 :=
  shapeCast S11264x4096 (pad S8x1408x4096 ![0, 0, 0] ![0, 32, 0] ![0, 0, 0]
    (shapeCast S8x1376x4096 (truncf (F := Ideal) .bf16 a bitsLt_bf16_f32) shapeCasts_S11008x4096_S8x1376x4096)
    (sitofp (F := Ideal) .bf16 (constantI S_ 32 0#32)) pads_S8x1376x4096_S8x1408x4096_000_0320_000 h_S_) shapeCasts_S8x1408x4096_S11264x4096

abbrev gateIn : FVec Ideal S4096x11264 .bf16 := colsIn (m (c.tc.loc main_arg1) : FVec Ideal S4096x11008 .f32)
abbrev upIn : FVec Ideal S4096x11264 .bf16 := colsIn (m (c.tc.loc main_arg2) : FVec Ideal S4096x11008 .f32)
abbrev downIn : FVec Ideal S11264x4096 .bf16 := weightRowsIn (m (c.tc.loc main_arg3) : FVec Ideal S11008x4096 .f32)

theorem host_gate : W7 m ρ c (Proc.devRef .tc main_v3) = gateIn m c := by
  refine (W7_of m ρ c main_v3 (by decide)).trans <| (W6_of m ρ c main_v3 (by decide)).trans <| (W5_of m ρ c main_v3 (by decide)).trans <|
    (W4_of m ρ c main_v3 (by decide)).trans ?_
  after_results_simp
  rfl

theorem host_up : W7 m ρ c (Proc.devRef .tc main_v7) = upIn m c := by
  refine (W7_of m ρ c main_v7 (by decide)).trans <| (W6_of m ρ c main_v7 (by decide)).trans ?_
  after_results_simp
  rfl

theorem host_down : W7 m ρ c (Proc.devRef .tc main_v11) = downIn m c := by
  after_results_simp
  rfl

theorem host_rows : W7 m ρ c (Proc.devRef .tc main_v12) = rowsIn m c := by
  after_results_simp

theorem host_grad : W7 m ρ c (Proc.devRef .tc main_v13) = gradIn m c := by
  after_results_simp

/-! ## One call after another -/

abbrev gateOut : FVec Ideal S4096x11264 .bf16 := rowsW (rowsIn m c) (gateIn m c)
abbrev upOut : FVec Ideal S4096x11264 .bf16 := rowsW (rowsIn m c) (upIn m c)
abbrev actOut : FVec Ideal S4096x11264 .bf16 := gated (gateOut m c) (upOut m c)
abbrev dactOut : FVec Ideal S4096x11264 .bf16 := rowsWt (gradIn m c) (downIn m c)
abbrev dgateOut : FVec Ideal S4096x11264 .bf16 := gradGate (dactOut m c) (gateOut m c) (upOut m c)
abbrev dupOut : FVec Ideal S4096x11264 .bf16 := gradUp (dactOut m c) (gateOut m c)

theorem gate8 : W8 m ρ c (Proc.devRef .tc main_v14) = gateOut m c :=
  (W8_arr m ρ c 2).trans ((final0 (V7 m ρ) c).trans (congrArg₂ rowsW (host_rows m ρ c) (host_gate m ρ c)))

theorem up9 : W9 m ρ c (Proc.devRef .tc main_v15) = upOut m c :=
  (W9_arr m ρ c 2).trans ((final1 (V8 m ρ) c).trans (congrArg₂ rowsW
    ((W8_of m ρ c main_v12 (by decide +kernel)).trans (host_rows m ρ c)) ((W8_of m ρ c main_v7 (by decide +kernel)).trans (host_up m ρ c))))

theorem gate10 : W10 m ρ c (Proc.devRef .tc main_v14) = gateOut m c :=
  (W10_of m ρ c main_v14 (by decide)).trans ((W9_of m ρ c main_v14 (by decide +kernel)).trans (gate8 m ρ c))

theorem up10 : W10 m ρ c (Proc.devRef .tc main_v15) = upOut m c := (W10_of m ρ c main_v15 (by decide)).trans (up9 m ρ c)

theorem grad10 : W10 m ρ c (Proc.devRef .tc main_v13) = gradIn m c :=
  (W10_of m ρ c main_v13 (by decide)).trans <| (W9_of m ρ c main_v13 (by decide +kernel)).trans <|
    (W8_of m ρ c main_v13 (by decide +kernel)).trans (host_grad m ρ c)

theorem rows10 : W10 m ρ c (Proc.devRef .tc main_v12) = rowsIn m c :=
  (W10_of m ρ c main_v12 (by decide)).trans <| (W9_of m ρ c main_v12 (by decide +kernel)).trans <|
    (W8_of m ρ c main_v12 (by decide +kernel)).trans (host_rows m ρ c)

theorem down10 : W10 m ρ c (Proc.devRef .tc main_v11) = downIn m c :=
  (W10_of m ρ c main_v11 (by decide)).trans <| (W9_of m ρ c main_v11 (by decide +kernel)).trans <|
    (W8_of m ρ c main_v11 (by decide +kernel)).trans (host_down m ρ c)

theorem act11 : W11 m ρ c (Proc.devRef .tc main_v17) = actOut m c := by
  refine (W11_arr m ρ c 2).trans ((final2 (V10 m ρ) c).trans ?_)
  rw [show V10 m ρ c main_v14 = gateOut m c from gate10 m ρ c, show V10 m ρ c main_v15 = upOut m c from up10 m ρ c]

theorem dact12 : W12 m ρ c (Proc.devRef .tc main_v18) = dactOut m c :=
  (W12_arr m ρ c 2).trans ((final3 (V11 m ρ) c).trans (congrArg₂ rowsWt
    ((W11_of m ρ c main_v13 (by decide +kernel)).trans (grad10 m ρ c)) ((W11_of m ρ c main_v11 (by decide +kernel)).trans (down10 m ρ c))))

/-- The down weights' gradient, padded. -/
theorem down13 : W13 m ρ c (Proc.devRef .tc main_v19) = hiddenT (actOut m c) (gradIn m c) :=
  (W13_arr m ρ c 2).trans ((final4 (V12 m ρ) c).trans (congrArg₂ hiddenT
    ((W12_of m ρ c main_v17 (by decide +kernel)).trans (act11 m ρ c))
    ((W12_of m ρ c main_v13 (by decide +kernel)).trans <| (W11_of m ρ c main_v13 (by decide +kernel)).trans (grad10 m ρ c))))

theorem dact13 : W13 m ρ c (Proc.devRef .tc main_v18) = dactOut m c := (W13_of m ρ c main_v18 (by decide +kernel)).trans (dact12 m ρ c)

theorem gate13 : W13 m ρ c (Proc.devRef .tc main_v14) = gateOut m c :=
  (W13_of m ρ c main_v14 (by decide +kernel)).trans <| (W12_of m ρ c main_v14 (by decide +kernel)).trans <|
    (W11_of m ρ c main_v14 (by decide +kernel)).trans (gate10 m ρ c)

theorem up13 : W13 m ρ c (Proc.devRef .tc main_v15) = upOut m c :=
  (W13_of m ρ c main_v15 (by decide +kernel)).trans <| (W12_of m ρ c main_v15 (by decide +kernel)).trans <|
    (W11_of m ρ c main_v15 (by decide +kernel)).trans (up10 m ρ c)

theorem rows14 : W14 m ρ c (Proc.devRef .tc main_v12) = rowsIn m c :=
  (W14_of m ρ c main_v12 (by decide +kernel)).trans <| (W13_of m ρ c main_v12 (by decide +kernel)).trans <|
    (W12_of m ρ c main_v12 (by decide +kernel)).trans <| (W11_of m ρ c main_v12 (by decide +kernel)).trans (rows10 m ρ c)

theorem dgate14 : W14 m ρ c (Proc.devRef .tc main_v20_0) = dgateOut m c := by
  refine (W14_arr m ρ c 3).trans ((final5_gate (V13 m ρ) c).trans ?_)
  rw [show V13 m ρ c main_v18 = dactOut m c from dact13 m ρ c, show V13 m ρ c main_v14 = gateOut m c from gate13 m ρ c,
    show V13 m ρ c main_v15 = upOut m c from up13 m ρ c]

theorem dup14 : W14 m ρ c (Proc.devRef .tc main_v20_1) = dupOut m c :=
  (W14_arr m ρ c 4).trans ((final5_up (V13 m ρ) c).trans (congrArg₂ gradUp (dact13 m ρ c) (gate13 m ρ c)))

/-- The gate weights' gradient, padded. -/
theorem gate15 : W15 m ρ c (Proc.devRef .tc main_v21) = rowsT (rowsIn m c) (dgateOut m c) :=
  (W15_arr m ρ c 2).trans ((final6 (V14 m ρ) c).trans (congrArg₂ rowsT (rows14 m ρ c) (dgate14 m ρ c)))

/-- The up weights' gradient, padded. -/
theorem up16 : W16 m ρ c (Proc.devRef .tc main_v22) = rowsT (rowsIn m c) (dupOut m c) :=
  (W16_arr m ρ c 2).trans ((final7 (V15 m ρ) c).trans (congrArg₂ rowsT
    ((W15_of m ρ c main_v12 (by decide +kernel)).trans (rows14 m ρ c)) ((W15_of m ρ c main_v20_1 (by decide +kernel)).trans (dup14 m ρ c))))

theorem gate16 : W16 m ρ c (Proc.devRef .tc main_v21) = rowsT (rowsIn m c) (dgateOut m c) :=
  (W16_of m ρ c main_v21 (by decide +kernel)).trans (gate15 m ρ c)

theorem down16 : W16 m ρ c (Proc.devRef .tc main_v19) = hiddenT (actOut m c) (gradIn m c) :=
  (W16_of m ρ c main_v19 (by decide +kernel)).trans <| (W15_of m ρ c main_v19 (by decide +kernel)).trans <|
    (W14_of m ρ c main_v19 (by decide +kernel)).trans (down13 m ρ c)

/-! ## The results -/

/-- A padded array's own columns. -/
abbrev ownCols (x : FVec Ideal S4096x11264 .bf16) : FVec Ideal S4096x11008 .f32 :=
  extf (F := Ideal) .f32 (shapeCast S4096x11008 (extractStridedSlice S4096x8x1376 ![0, 0, 0]
    (shapeCast S4096x8x1408 x shapeCasts_S4096x11264_S4096x8x1408) slices_S4096x8x1408_S4096x8x1376_0_0_0) shapeCasts_S4096x8x1376_S4096x11008)
    bitsLt_bf16_f32

/-- A padded array's own rows. -/
abbrev ownRows (x : FVec Ideal S11264x4096 .bf16) : FVec Ideal S11008x4096 .f32 :=
  extf (F := Ideal) .f32 (shapeCast S11008x4096 (extractStridedSlice S8x1376x4096 ![0, 0, 0]
    (shapeCast S8x1408x4096 x shapeCasts_S11264x4096_S8x1408x4096) slices_S8x1408x4096_S8x1376x4096_0_0_0) shapeCasts_S8x1376x4096_S11008x4096)
    bitsLt_bf16_f32

theorem result_gate : W17 m ρ c (Proc.devRef .tc main_v26) = ownCols (rowsT (rowsIn m c) (dgateOut m c)) := by
  rw [← gate16 m ρ c]
  after_results_simp
  rfl

theorem result_up : W17 m ρ c (Proc.devRef .tc main_v30) = ownCols (rowsT (rowsIn m c) (dupOut m c)) := by
  rw [← up16 m ρ c]
  after_results_simp
  rfl

theorem result_down : W17 m ρ c (Proc.devRef .tc main_v34) = ownRows (hiddenT (actOut m c) (gradIn m c)) := by
  rw [← down16 m ρ c]
  after_results_simp
  rfl

end Cert.Kernel2Ideal.Ffn

end
-- ==== Proof.FfnEntries.lean ====
/-
  The feed-forward step's three results, entry by entry of the arguments: the padding's columns fall away.
-/
module

public import proofs.«01_k».proof.Proof.FfnChain

@[expose] public section

set_option maxRecDepth 16384

noncomputable section

namespace Cert.Kernel2Ideal.Ffn

open Idealize.ShloMosaic Idealize.ShloMosaic.TcCoe Cert.Kernel2Ideal Cert.Kernel2Ideal.Gen Cert.Padded

variable (m : (ℓ : Loc nD τ sig) → Buf (Elt Ideal) ℓ) (ρ : Dev nD → PrngReg) (c : Dev nD)

section Entries

variable (h dx : FVec Ideal S4096x4096 .f32) (wg wu : FVec Ideal S4096x11008 .f32) (wd : FVec Ideal S11008x4096 .f32)

/-- A row of activations times a weight column. -/
def projAt (w : FVec Ideal S4096x11008 .f32) (l : Fin 4096) (j : Fin 11008) : EReal := ∑ k : Fin 4096, h (ix2 l k) * w (ix2 k j)

/-- A row of the incoming gradient times a down weight row. -/
def dactAt (l : Fin 4096) (j : Fin 11008) : EReal := ∑ k : Fin 4096, dx (ix2 l k) * wd (ix2 j k)

/-- The gate weights' gradient. -/
def resGate : FVec Ideal S4096x11008 .f32 :=
  fun i => ∑ l : Fin 4096, h (ix2 l (i 0)) * dGate (dactAt dx wd l (i 1)) (projAt h wg l (i 1)) (projAt h wu l (i 1))

/-- The up weights' gradient. -/
def resUp : FVec Ideal S4096x11008 .f32 :=
  fun i => ∑ l : Fin 4096, h (ix2 l (i 0)) * (dactAt dx wd l (i 1) * (projAt h wg l (i 1) * sg (projAt h wg l (i 1))))

/-- The down weights' gradient. -/
def resDown : FVec Ideal S11008x4096 .f32 :=
  fun i => ∑ l : Fin 4096, projAt h wg l (i 0) * sg (projAt h wg l (i 0)) * projAt h wu l (i 0) * dx (ix2 l (i 1))

theorem proj_col (w : FVec Ideal S4096x11008 .f32) (l : Fin 4096) (j : Fin 11008) :
    rowsW (truncf (F := Ideal) .bf16 h bitsLt_bf16_f32) (colsIn w) (ix2 l (col j)) = projAt h w l j := by
  refine Finset.sum_congr rfl fun k _ => congrArg (fun v : EReal => h (ix2 l k) * v) ?_
  exact (cols_apply w _ _ _ _ _ k (col j)).trans (padAt_col _ j)

theorem dact_col (l : Fin 4096) (j : Fin 11008) :
    rowsWt (truncf (F := Ideal) .bf16 dx bitsLt_bf16_f32) (weightRowsIn wd) (ix2 l (col j)) = dactAt dx wd l j := by
  refine Finset.sum_congr rfl fun k _ => congrArg (fun v : EReal => dx (ix2 l k) * v) ?_
  exact (rows_apply wd _ _ _ _ _ (col j) k).trans (padAt_col _ j)

end Entries

/-- The first result. -/
theorem value_gate : W17 m ρ c (Proc.devRef .tc main_v26) = resGate (m (c.tc.loc main_arg0)) (m (c.tc.loc main_arg4))
    (m (c.tc.loc main_arg1)) (m (c.tc.loc main_arg2)) (m (c.tc.loc main_arg3)) := by
  rw [result_gate]
  funext i
  obtain ⟨r, j, rfl⟩ : ∃ (r : Fin 4096) (j : Fin 11008), i = ix2 r j := ⟨i 0, i 1, eq_ix2 i⟩
  refine (own_cols_apply _ _ _ _ _ r j).trans (Finset.sum_congr rfl fun l _ => congrArg (HMul.hMul (α := EReal) (β := EReal) (γ := EReal) _) ?_)
  exact congr (congrArg₂ dGate (dact_col _ _ l j) (proj_col _ _ l j)) (proj_col _ _ l j)

/-- The second result. -/
theorem value_up : W17 m ρ c (Proc.devRef .tc main_v30) = resUp (m (c.tc.loc main_arg0)) (m (c.tc.loc main_arg4))
    (m (c.tc.loc main_arg1)) (m (c.tc.loc main_arg3)) := by
  rw [result_up]
  funext i
  obtain ⟨r, j, rfl⟩ : ∃ (r : Fin 4096) (j : Fin 11008), i = ix2 r j := ⟨i 0, i 1, eq_ix2 i⟩
  refine (own_cols_apply _ _ _ _ _ r j).trans (Finset.sum_congr rfl fun l _ => congrArg (HMul.hMul (α := EReal) (β := EReal) (γ := EReal) _) ?_)
  exact congrArg₂ (fun d g : EReal => d * (g * sg g)) (dact_col _ _ l j) (proj_col _ _ l j)

/-- The third result. -/
theorem value_down : W17 m ρ c (Proc.devRef .tc main_v34) = resDown (m (c.tc.loc main_arg0)) (m (c.tc.loc main_arg4))
    (m (c.tc.loc main_arg1)) (m (c.tc.loc main_arg2)) := by
  rw [result_down]
  funext i
  obtain ⟨j, s, rfl⟩ : ∃ (j : Fin 11008) (s : Fin 4096), i = ix2 j s := ⟨i 0, i 1, eq_ix2 i⟩
  refine (own_rows_apply _ _ _ _ _ j s).trans (Finset.sum_congr rfl fun l _ => congrArg (fun v : EReal => HMul.hMul (α := EReal) (β := EReal) (γ := EReal) v _) ?_)
  exact congrArg₂ (fun g u : EReal => g * sg g * u) (proj_col _ _ l j) (proj_col _ _ l j)

end Cert.Kernel2Ideal.Ffn

end
-- ==== Proof.FfnFinite.lean ====
/-
  What the feed-forward step's precondition gives: every entry of the rows, of the up and down weights and of the incoming
  gradient is a real number.
-/
module

public import proofs.«01_k».proof.Proof.Finite
public import proofs.«01_k».proof.Proof.Gen.Pre_finite2

@[expose] public section

set_option maxRecDepth 16384

noncomputable section

namespace Cert.Pre_finite2.Reals

open Idealize.ShloMosaic Idealize.ShloMosaic.TcCoe Cert.Pre_finite2 Cert.Pre_finite2.Gen
open Cert.Pre_finite.Reals (real_of_lt and_one)

variable {a0 : FVec Ideal S4096x4096 .f32} {a1 : FVec Ideal S4096x11008 .f32} {a2 : FVec Ideal S4096x11008 .f32}
  {a3 : FVec Ideal S11008x4096 .f32} {a4 : FVec Ideal S4096x4096 .f32}

/-- The precondition, entry by entry. -/
theorem entries (h : fn (F := Ideal) a0 a1 a2 a3 a4 = fun _ => 1#1) :
    (∀ i, ∃ r : ℝ, a0 i = r) ∧ (∀ i, ∃ r : ℝ, a2 i = r) ∧ (∀ i, ∃ r : ℝ, a3 i = r) ∧ (∀ i, ∃ r : ℝ, a4 i = r) := by
  have e := congrFun h (fun d => d.elim0)
  obtain ⟨e, h3⟩ := and_one e
  obtain ⟨e, h2⟩ := and_one e
  obtain ⟨h0, h1⟩ := and_one e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Pre_finite2.Reals
-- ==== Proof.FfnReference.lean ====
/-
  The feed-forward reference's three results, entry by entry, and their equation with the kernel's: the two write the gate's
  derivative in different forms, which agree where the gradient that meets it is a real number.
-/
module

public import proofs.«01_k».proof.Proof.FfnEntries
public import proofs.«01_k».proof.Proof.FfnFinite
public import proofs.«01_k».proof.Proof.Gen.Reference2Ideal.Run

@[expose] public section

set_option maxRecDepth 16384

noncomputable section

namespace Cert.Reference2Ideal.Ffn

open Idealize.ShloMosaic Idealize.ShloMosaic.TcCoe Cert.Reference2Ideal Cert.Reference2Ideal.Gen
open Cert.Kernel2Ideal.Ffn (sg dGate dactAt projAt resGate resUp resDown)

/-! ## The derivative's two forms -/

/-- The gate's derivative as the reference forms it. -/
def dGateRef (d g u : EReal) : EReal := d * u * sg g + g * (d * u) * (sg g * (1 - sg g))

/-- The logistic function of a real number. -/
theorem sg_coe (r : ℝ) : sg (r : EReal) = ((1 / (1 + Real.exp (-r)) : ℝ) : EReal) := by
  have hp : (0 : ℝ) < 1 + Real.exp (-r) := by positivity
  unfold sg
  rw [zero_sub, ← EReal.coe_neg, Ideal.exp_coe, ← EReal.coe_one, ← EReal.coe_add, Ideal.div_coe hp.ne', ← EReal.coe_mul, one_mul]

theorem sg_top : sg ⊤ = 1 := by
  unfold sg
  rw [zero_sub, EReal.neg_top, Ideal.exp_bot, add_zero, ← EReal.coe_one, Ideal.div_coe one_ne_zero]
  simp

theorem sg_bot : sg ⊥ = 0 := by
  unfold sg
  rw [zero_sub, EReal.neg_bot, Ideal.exp_top, EReal.add_top_of_ne_bot (by rw [← EReal.coe_one]; exact EReal.coe_ne_bot 1)]
  simp [Ideal.div]

/-- The two forms agree where the incoming gradient times the up projection is a real number, whatever the gate is. -/
theorem dGate_eq {d u : EReal} (h : ∃ r : ℝ, d * u = r) (g : EReal) : dGateRef d g u = dGate d g u := by
  obtain ⟨x, hx⟩ := h
  unfold dGateRef dGate
  rw [hx]
  induction g using EReal.rec with
  | bot => rw [sg_bot]; simp
  | top => rw [sg_top, show (1 : EReal) - 1 = 0 by rw [← EReal.coe_one, ← EReal.coe_sub, sub_self, EReal.coe_zero]]; simp
  | coe r =>
    rw [sg_coe]
    norm_cast
    ring

/-! ## The reference's results -/

variable (h dx : FVec Ideal S4096x4096 .f32) (wg wu : FVec Ideal S4096x11008 .f32) (wd : FVec Ideal S11008x4096 .f32)

/-- Rows times a weight's columns. -/
def proj (w : FVec Ideal S4096x11008 .f32) : FVec Ideal S4096x11008 .f32 :=
  Host.dotGeneral (F := Ideal) (φ₁ := .f32) (φ₂ := .f32) dot_S4096x4096_S4096x11008_S4096x11008_1_0_0_1_n_n none h w

/-- The activations' gradient. -/
def dact : FVec Ideal S4096x11008 .f32 := Host.dotGeneral (F := Ideal) (φ₁ := .f32) (φ₂ := .f32) dot_S4096x4096_S11008x4096_S4096x11008_1_1_0_0_n_n none dx wd

/-- The ones. -/
def ones : FVec Ideal S4096x11008 .f32 := broadcastInDim S4096x11008 ![] bcast_S_S4096x11008 (constant S_ .f32 0x3F800000#32)

/-- The logistic function of an array. -/
def logistic (g : FVec Ideal S4096x11008 .f32) : FVec Ideal S4096x11008 .f32 := Host.divf ones (addf ones (Host.exp (Host.negf g)))

/-- The gate's gradient. -/
def dgate (d g u : FVec Ideal S4096x11008 .f32) : FVec Ideal S4096x11008 .f32 :=
  addf (mulf (mulf d u) (logistic g)) (mulf (mulf g (mulf d u)) (mulf (logistic g) (subf ones (logistic g))))

/-- The up projection's gradient. -/
def dup (d g : FVec Ideal S4096x11008 .f32) : FVec Ideal S4096x11008 .f32 := mulf (mulf g (logistic g)) d

/-- The gated activations. -/
def act (g u : FVec Ideal S4096x11008 .f32) : FVec Ideal S4096x11008 .f32 := mulf (mulf g (logistic g)) u

theorem ones_at (i : S4096x11008.Idx) : ones i = 1 := by
  show Ideal.ofBits .f32 0x3F800000#32 = 1
  exact Ideal.ofBits_one_f32

theorem logistic_at (g : FVec Ideal S4096x11008 .f32) (i : S4096x11008.Idx) : logistic g i = sg (g i) := by
  show Ideal.div (ones i) (ones i + Ideal.exp (-(g i))) = sg (g i)
  rw [ones_at, sg, zero_sub]

theorem dgate_at (d g u : FVec Ideal S4096x11008 .f32) (i : S4096x11008.Idx) : dgate d g u i = dGateRef (d i) (g i) (u i) := by
  show d i * u i * logistic g i + g i * (d i * u i) * (logistic g i * (ones i - logistic g i)) = _
  rw [logistic_at, ones_at]
  rfl

theorem dup_at (d g : FVec Ideal S4096x11008 .f32) (i : S4096x11008.Idx) : dup d g i = g i * sg (g i) * d i := by
  show g i * logistic g i * d i = _
  rw [logistic_at]

theorem act_at (g u : FVec Ideal S4096x11008 .f32) (i : S4096x11008.Idx) : act g u i = g i * sg (g i) * u i := by
  show g i * logistic g i * u i = _
  rw [logistic_at]

theorem proj_at (w : FVec Ideal S4096x11008 .f32) (l : Fin 4096) (j : Fin 11008) : proj h w (ix2 l j) = projAt h w l j := by
  pointwise [proj, projAt]

theorem dact_at (l : Fin 4096) (j : Fin 11008) : dact dx wd (ix2 l j) = dactAt dx wd l j := by
  pointwise [dact, dactAt]

/-- A weight's gradient: the rows' product with an array of hidden columns. -/
theorem grad_cols_at (x : FVec Ideal S4096x11008 .f32) (r : Fin 4096) (j : Fin 11008) :
    transpose S4096x11008 [1, 0] (Host.dotGeneral (F := Ideal) (φ₁ := .f32) (φ₂ := .f32) dot_S4096x11008_S4096x4096_S11008x4096_0_0_1_1_n_n none x h)
      transposes_S11008x4096_S4096x11008_1_0 (ix2 r j) = ∑ l : Fin 4096, x (ix2 l j) * h (ix2 l r) := by
  pointwise

/-- The down weights' gradient, the same of columns by rows. -/
theorem grad_rows_at (x : FVec Ideal S4096x11008 .f32) (j : Fin 11008) (s : Fin 4096) :
    transpose S11008x4096 [1, 0] (Host.dotGeneral (F := Ideal) (φ₁ := .f32) (φ₂ := .f32) dot_S4096x4096_S4096x11008_S4096x11008_0_0_1_1_n_n none dx x)
      transposes_S4096x11008_S11008x4096_1_0 (ix2 j s) = ∑ l : Fin 4096, dx (ix2 l s) * x (ix2 l j) := by
  pointwise

/-- The gate weights' gradient is the kernel's. -/
theorem gate_eq (hr : ∀ l j, ∃ x : ℝ, dactAt dx wd l j * projAt h wu l j = x) :
    transpose S4096x11008 [1, 0] (Host.dotGeneral (F := Ideal) (φ₁ := .f32) (φ₂ := .f32) dot_S4096x11008_S4096x4096_S11008x4096_0_0_1_1_n_n none
      (dgate (dact dx wd) (proj h wg) (proj h wu)) h) transposes_S11008x4096_S4096x11008_1_0 = resGate h dx wg wu wd := by
  funext i
  obtain ⟨r, j, rfl⟩ : ∃ (r : Fin 4096) (j : Fin 11008), i = ix2 r j := ⟨i 0, i 1, eq_ix2 i⟩
  refine (grad_cols_at _ _ r j).trans (Finset.sum_congr rfl fun l _ => (mul_comm (G := EReal) _ _).trans
    (congrArg (HMul.hMul (α := EReal) (β := EReal) (γ := EReal) _) ?_))
  rw [dgate_at, dact_at, proj_at, proj_at]
  exact dGate_eq (hr l j) _

/-- The up weights' gradient is the kernel's. -/
theorem up_eq : transpose S4096x11008 [1, 0] (Host.dotGeneral (F := Ideal) (φ₁ := .f32) (φ₂ := .f32) dot_S4096x11008_S4096x4096_S11008x4096_0_0_1_1_n_n none
      (dup (dact dx wd) (proj h wg)) h) transposes_S11008x4096_S4096x11008_1_0 = resUp h dx wg wd := by
  funext i
  obtain ⟨r, j, rfl⟩ : ∃ (r : Fin 4096) (j : Fin 11008), i = ix2 r j := ⟨i 0, i 1, eq_ix2 i⟩
  refine (grad_cols_at _ _ r j).trans (Finset.sum_congr rfl fun l _ => (mul_comm (G := EReal) _ _).trans
    (congrArg (HMul.hMul (α := EReal) (β := EReal) (γ := EReal) _) ?_))
  rw [dup_at, dact_at, proj_at]
  exact mul_comm (G := EReal) _ _

/-- The down weights' gradient is the kernel's. -/
theorem down_eq : transpose S11008x4096 [1, 0] (Host.dotGeneral (F := Ideal) (φ₁ := .f32) (φ₂ := .f32) dot_S4096x4096_S4096x11008_S4096x11008_0_0_1_1_n_n none dx
      (act (proj h wg) (proj h wu))) transposes_S4096x11008_S11008x4096_1_0 = resDown h dx wg wu := by
  funext i
  obtain ⟨j, s, rfl⟩ : ∃ (j : Fin 11008) (s : Fin 4096), i = ix2 j s := ⟨i 0, i 1, eq_ix2 i⟩
  refine (grad_rows_at _ _ j s).trans (Finset.sum_congr rfl fun l _ => (mul_comm (G := EReal) _ _).trans
    (congrArg (fun v : EReal => HMul.hMul (α := EReal) (β := EReal) (γ := EReal) v _) ?_))
  rw [act_at, proj_at, proj_at]
  rfl

end Cert.Reference2Ideal.Ffn
-- ==== Proof.FfnClaims.lean ====
/-
  The claims about the feed-forward step: the three weights' gradients the kernel's calls leave are the reference's.
-/
module

public import proofs.«01_k».proof.Defs
public import proofs.«01_k».proof.Proof.FfnReference
public import Idealize.ShloMosaic.Lib.Quiescent
public import Idealize.ShloMosaic.Adequacy

@[expose] public section

set_option maxRecDepth 16384

noncomputable section

namespace Cert.Ffn

open Idealize.ShloMosaic Idealize.ShloMosaic.TcCoe Idealize.SL.Sem Cert.Reference2Ideal Cert.Reference2Ideal.Gen Cert.Reference2Ideal.Value
open Cert.Kernel2Ideal.Ffn (dactAt projAt resGate resUp resDown)

/-- Every run of the reference ends, with every counter at zero and the arguments as launched. -/
theorem reference_frame : Cert.quiescent_Reference2Ideal :=
  fun m ρ _ => (θ_run Cert.Reference2Ideal.defs _ _).mono (fun r h => ⟨fun c => (h c).2.2.2, sem_eq_zero_of_no_sems (by decide) r.2⟩)
    (Value.run (F := Ideal) m ρ)

/-- From finite rows, up and down weights and incoming gradient, the activations' gradient times the up projection is real. -/
theorem grads_real {a0 a4 : FVec Ideal S4096x4096 .f32} {a1 a2 : FVec Ideal S4096x11008 .f32} {a3 : FVec Ideal S11008x4096 .f32}
    (h : Cert.Pre_finite2.fn (F := Ideal) a0 a1 a2 a3 a4 = fun _ => 1#1) (l : Fin 4096) (j : Fin 11008) :
    ∃ x : ℝ, dactAt a4 a3 l j * projAt a0 a2 l j = x := by
  obtain ⟨h0, h2, h3, h4⟩ := Cert.Pre_finite2.Reals.entries h
  exact Cert.Pre_finite.Reals.mul_real
    (Cert.Softmax.sum_real _ fun k : Fin 4096 => Cert.Pre_finite.Reals.mul_real (h4 (ix2 l k)) (h3 (ix2 j k)))
    (Cert.Softmax.sum_real _ fun k : Fin 4096 => Cert.Pre_finite.Reals.mul_real (h0 (ix2 l k)) (h2 (ix2 k j)))

/-- From finite rows, up and down weights and incoming gradient, the kernel and the reference leave the same three gradients. -/
theorem algebraic : Cert.algebraic_Kernel2Ideal_Reference2Ideal_pre_finite2 := by
  intro m ρ m' ρ' hpre hagree
  refine ⟨_, _, _, Cert.Kernel2Ideal.Ffn.run m ρ,
    (θ_run Cert.Reference2Ideal.defs _ _).mono (fun r h c => ?_) (Value.run (F := Ideal) m' ρ')⟩
  obtain ⟨h₀, h₁, h₂, h⟩ := h c
  obtain ⟨e0, e1, e2, e3, e4⟩ := hagree c
  have hr := fun l j => grads_real (hpre c) l j
  rw [← e0, ← e2, ← e3, ← e4] at hr
  have hg := h₀.trans (Reference2Ideal.Ffn.gate_eq _ _ _ _ _ hr)
  have hu := h₁.trans (Reference2Ideal.Ffn.up_eq _ _ _ _)
  have hd := h₂.trans (Reference2Ideal.Ffn.down_eq _ _ _ _)
  rw [e0, e1, e2, e3, e4] at hg
  rw [e0, e1, e3, e4] at hu
  rw [e0, e1, e2, e4] at hd
  exact ⟨hg.trans (Cert.Kernel2Ideal.Ffn.value_gate m ρ c).symm, hu.trans (Cert.Kernel2Ideal.Ffn.value_up m ρ c).symm,
    hd.trans (Cert.Kernel2Ideal.Ffn.value_down m ρ c).symm, h⟩

end Cert.Ffn

end
-- ==== Proof.Down.lean ====
/-
  The feed-forward output product: the padded operands as the host leaves them, one block's partial product, the four
  partial products of a block added up over the hidden columns, and the result array.
-/
module

public import proofs.«01_k».proof.Proof.Padded
public import proofs.«01_k».proof.Proof.Gen.Kernel3Ideal.Value

@[expose] public section

set_option maxRecDepth 16384

noncomputable section

namespace Cert.Kernel3Ideal.Down

open Idealize.ShloMosaic Idealize.ShloMosaic.TcCoe Cert.Kernel3Ideal Cert.Kernel3Ideal.Gen Cert.Padded

/-! ## A block's partial product -/

/-- The products of one step of the hidden columns. -/
def part (a : FVec Ideal S1024x2816 .bf16) (b : FVec Ideal S2816x1024 .bf16) (j : S1024x1024.Idx) : EReal :=
  ∑ l : Fin 2816, a (ix2 (j 0) l) * b (ix2 l (j 1))

theorem pay1_apply (a : FVec Ideal S1024x2816 .bf16) (b : FVec Ideal S2816x1024 .bf16) (r s : Fin 1024) :
    k0_pay1 (F := Ideal) a b (ix2 r s) = part a b (ix2 r s) := by
  pointwise [k0_pay1, part]

theorem first (a : FVec Ideal S1024x2816 .bf16) (b : FVec Ideal S2816x1024 .bf16) (j : S1024x1024.Idx) :
    k0_pay2 (F := Ideal) a b j = 0 + part a b j := by
  obtain ⟨r, s, rfl⟩ : ∃ (r s : Fin 1024), j = ix2 r s := ⟨j 0, j 1, eq_ix2 j⟩
  rw [zero_add, ← pay1_apply]
  pointwise [k0_pay2]

theorem next (a : FVec Ideal S1024x2816 .bf16) (b : FVec Ideal S2816x1024 .bf16) (acc : FVec Ideal S1024x1024 .f32) (j : S1024x1024.Idx) :
    k0_pay3 (F := Ideal) a b acc j = acc j + part a b j := by
  obtain ⟨r, s, rfl⟩ : ∃ (r s : Fin 1024), j = ix2 r s := ⟨j 0, j 1, eq_ix2 j⟩
  rw [← pay1_apply]
  pointwise [k0_pay3]

theorem last (acc res : FVec Ideal S1024x1024 .f32) (j : S1024x1024.Idx) : k0_pay4 (F := Ideal) acc res j = res j + acc j := by
  obtain ⟨r, s, rfl⟩ : ∃ (r s : Fin 1024), j = ix2 r s := ⟨j 0, j 1, eq_ix2 j⟩
  pointwise [k0_pay4]

/-! ## The operands -/

variable (m : (ℓ : Loc nD τ sig) → Buf (Elt Ideal) ℓ) (c : Dev nD)

theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- What the host leaves as the padded activations. -/
theorem host_act : V m c main_v3 = shapeCast S4096x11264 (pad S4096x8x1408 ![0, 0, 0] ![0, 0, 32] ![0, 0, 0]
    (shapeCast S4096x8x1376 (truncf (F := Ideal) .bf16 (m (c.tc.loc main_arg0) : FVec Ideal S4096x11008 .f32) bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264 := by
  unfold V
  simp only [List.flatten_cons, List.flatten_nil, List.append_nil, List.cons_append, List.nil_append]
  after_results_simp
  rfl

/-- What the host leaves as the padded weights. -/
theorem host_w : V m c main_v7 = shapeCast S11264x4096 (pad S8x1408x4096 ![0, 0, 0] ![0, 32, 0] ![0, 0, 0]
    (shapeCast S8x1376x4096 (truncf (F := Ideal) .bf16 (m (c.tc.loc main_arg1) : FVec Ideal S11008x4096 .f32) bitsLt_bf16_f32) shapeCasts_S11008x4096_S8x1376x4096)
    (sitofp (F := Ideal) .bf16 (constantI S_ 32 0#32)) pads_S8x1376x4096_S8x1408x4096_000_0320_000 h_S_) shapeCasts_S8x1408x4096_S11264x4096 := by
  unfold V
  simp only [List.flatten_cons, List.flatten_nil, List.append_nil, List.cons_append, List.nil_append]
  after_results_simp
  rfl

/-- The padded activations, entry by entry. -/
theorem entry_act (r : Fin 4096) (l : Fin 11264) : (V m c main_v3 : FVec Ideal S4096x11264 .bf16) (ix2 r l)
    = padAt (fun j => (m (c.tc.loc main_arg0) : FVec Ideal S4096x11008 .f32) (ix2 r j)) l := by
  rw [host_act]
  exact cols_apply _ _ _ _ _ _ r l

/-- The padded weights, entry by entry. -/
theorem entry_w (l : Fin 11264) (s : Fin 4096) : (V m c main_v7 : FVec Ideal S11264x4096 .bf16) (ix2 l s)
    = padAt (fun j => (m (c.tc.loc main_arg1) : FVec Ideal S11008x4096 .f32) (ix2 j s)) l := by
  rw [host_w]
  exact rows_apply _ _ _ _ _ _ l s

/-! ## The blocks at a point: row block `t / 16`, column block `t / 4 % 4`, hidden columns `2816 * (t % 4) + l` -/

theorem blk_a (t : Fin cfg0.N) (r : Fin 1024) (l : Fin 2816) (R : Fin 4096) (L : Fin 11264)
    (hR : (R : ℕ) = t.val / 16 * 1024 + r) (hL : (L : ℕ) = t.val % 4 * 2816 + l) :
    (iblk m c 0 t : FVec Ideal S1024x2816 .bf16) (ix2 r l)
      = padAt (fun j => (m (c.tc.loc main_arg0) : FVec Ideal S4096x11008 .f32) (ix2 R j)) L := by
  rw [← entry_act]
  blk_ext [iblk, idx t, hR, hL]

theorem blk_b (t : Fin cfg0.N) (l : Fin 2816) (s : Fin 1024) (L : Fin 11264) (C : Fin 4096)
    (hL : (L : ℕ) = t.val % 4 * 2816 + l) (hC : (C : ℕ) = t.val / 4 % 4 * 1024 + s) :
    (iblk m c 1 t : FVec Ideal S2816x1024 .bf16) (ix2 l s)
      = padAt (fun j => (m (c.tc.loc main_arg1) : FVec Ideal S11008x4096 .f32) (ix2 j C)) L := by
  rw [← entry_w]
  blk_ext [iblk, idx t, hL, hC]

theorem blk_x (t : Fin cfg0.N) (y : S1024x1024.Idx) (R C : Fin 4096)
    (hR : (R : ℕ) = t.val / 16 * 1024 + (y 0).val) (hC : (C : ℕ) = t.val / 4 % 4 * 1024 + (y 1).val) :
    (iblk m c 2 t : FVec Ideal S1024x1024 .f32) y = (m (c.tc.loc main_arg2) : FVec Ideal S4096x4096 .f32) (ix2 R C) := by
  refine Eq.trans ?_ (congrFun (V_main_arg2 m c) (ix2 R C))
  blk_ext [iblk, idx t, hR, hC]

/-! ## The result array -/

/-- One entry of the product over the hidden columns. -/
def dot (a : FVec Ideal S4096x11008 .f32) (w : FVec Ideal S11008x4096 .f32) (R C : Fin 4096) : EReal :=
  ∑ j : Fin 11008, a (ix2 R j) * w (ix2 j C)

/-- The product over the hidden columns with the rows added. -/
def prod (a : FVec Ideal S4096x11008 .f32) (w : FVec Ideal S11008x4096 .f32) (x : FVec Ideal S4096x4096 .f32) : FVec Ideal S4096x4096 .f32 :=
  fun i => x i + dot a w (i 0) (i 1)

/-- The four steps of a block add up to the whole product's entry. -/
theorem sum_parts (t : Fin cfg0.N) (h : ∀ s : Fin 4, 4 * (t.val / 4) + s.val < cfg0.N) (y : S1024x1024.Idx) (R C : Fin 4096)
    (hR : (R : ℕ) = t.val / 16 * 1024 + (y 0).val) (hC : (C : ℕ) = t.val / 4 % 4 * 1024 + (y 1).val) :
    ∑ s : Fin 4, part (iblk m c 0 ⟨4 * (t.val / 4) + s.val, h s⟩) (iblk m c 1 ⟨4 * (t.val / 4) + s.val, h s⟩) y
      = dot (m (c.tc.loc main_arg0)) (m (c.tc.loc main_arg1)) R C := by
  rw [dot, ← sum_mul]
  refine Fin.sum_mul_add_congr fun s l => ?_
  rw [blk_a m c _ (y 0) l R ⟨s * 2816 + l, by omega⟩ (by show (R : ℕ) = (4 * (t.val / 4) + s) / 16 * 1024 + _; omega)
      (by show (s : ℕ) * 2816 + l = (4 * (t.val / 4) + s) % 4 * 2816 + l; omega),
    blk_b m c _ l (y 1) ⟨s * 2816 + l, by omega⟩ C (by show (s : ℕ) * 2816 + l = (4 * (t.val / 4) + s) % 4 * 2816 + l; omega)
      (by show (C : ℕ) = (4 * (t.val / 4) + s) / 4 % 4 * 1024 + _; omega)]
  intro _
  rfl

/-- What the scratch holds at a block's last step. -/
theorem scratch (t : Fin cfg0.N) (ht : t.val % 4 = 3) (y : S1024x1024.Idx) (R C : Fin 4096)
    (hR : (R : ℕ) = t.val / 16 * 1024 + (y 0).val) (hC : (C : ℕ) = t.val / 4 % 4 * 1024 + (y 1).val) :
    (outsAt0 m c t.val t.isLt).2 y
      = dot (m (c.tc.loc main_arg0)) (m (c.tc.loc main_arg1)) R C := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact first _ _ j)
    (fun t h j => by
      by_cases h₂ : t.val % 4 = 3
      · rw [outsAt0_C m c t h (by omega) h₂]; frame_out; exact (next _ _ _ j).trans (congrArg (· + _) (congrFun ((Memref.isWhole_whole cc0_scratch0).read_unread _) j))
      · rw [outsAt0_B m c t h (by omega) h₂]; frame_out; exact (next _ _ _ j).trans (congrArg (· + _) (congrFun ((Memref.isWhole_whole cc0_scratch0).read_unread _) j)))
    t ht y, zero_add]
  exact sum_parts m c t _ y R C hR hC

/-- The result: the rows with the product added. -/
theorem final : (dats m 0 c).arrAt 3 cfg0.N
    = prod (m (c.tc.loc main_arg0)) (m (c.tc.loc main_arg1)) (m (c.tc.loc main_arg2)) := by
  refine (dats m 0 c).arrAt_eq_of_covers 3 _ (by decide +kernel) fun t hf y => ?_
  blk_simp
  rw [after0_3]
  have ht : t.val % 4 = 3 := (flush0_3 t).mp hf
  have e : (outsAt0 m c t.val t.isLt).1 y
      = HAdd.hAdd (α := EReal) (β := EReal) (γ := EReal) ((iblk m c 2 t : FVec Ideal S1024x1024 .f32) y) ((outsAt0 m c t.val t.isLt).2 y) := by
    rw [outsAt0_C m c t (by omega) (by omega) ht]; frame_out; exact last _ _ y
  refine e.trans (congrArg₂ (fun u v : EReal => u + v) ?_ ?_)
  · exact (blk_x m c t y _ _ (by blk_simp [idx t]) (by blk_simp [idx t])).trans (congrArg _ (eq_ix2 _).symm)
  · exact scratch m c t ht y _ _ (by blk_simp [idx t]) (by blk_simp [idx t])

end Cert.Kernel3Ideal.Down

end
-- ==== Proof.RowsGate.lean ====
/-
  The gate's product of the rows' gradient: the padded operands as the host leaves them, one block's partial product, the
  four partial products of a block added up over the hidden columns, and the result array.
-/
module

public import proofs.«01_k».proof.Proof.Padded
public import proofs.«01_k».proof.Proof.Gen.Kernel4Ideal.Value

@[expose] public section

set_option maxRecDepth 16384

noncomputable section

namespace Cert.Kernel4Ideal.RowsGate

open Idealize.ShloMosaic Idealize.ShloMosaic.TcCoe Cert.Kernel4Ideal Cert.Kernel4Ideal.Gen Cert.Padded

/-! ## A block's partial product -/

/-- The products of one step of the hidden columns. -/
def part (a : FVec Ideal S1024x2816 .bf16) (b : FVec Ideal S1024x2816 .bf16) (j : S1024x1024.Idx) : EReal :=
  ∑ l : Fin 2816, a (ix2 (j 0) l) * b (ix2 (j 1) l)

theorem pay1_apply (a : FVec Ideal S1024x2816 .bf16) (b : FVec Ideal S1024x2816 .bf16) (r s : Fin 1024) :
    k0_pay1 (F := Ideal) a b (ix2 r s) = part a b (ix2 r s) := by
  pointwise [k0_pay1, part]

theorem first (a : FVec Ideal S1024x2816 .bf16) (b : FVec Ideal S1024x2816 .bf16) (j : S1024x1024.Idx) :
    k0_pay2 (F := Ideal) a b j = 0 + part a b j := by
  obtain ⟨r, s, rfl⟩ : ∃ (r s : Fin 1024), j = ix2 r s := ⟨j 0, j 1, eq_ix2 j⟩
  rw [zero_add, ← pay1_apply]
  pointwise [k0_pay2]

theorem next (a : FVec Ideal S1024x2816 .bf16) (b : FVec Ideal S1024x2816 .bf16) (acc : FVec Ideal S1024x1024 .f32) (j : S1024x1024.Idx) :
    k0_pay3 (F := Ideal) a b acc j = acc j + part a b j := by
  obtain ⟨r, s, rfl⟩ : ∃ (r s : Fin 1024), j = ix2 r s := ⟨j 0, j 1, eq_ix2 j⟩
  rw [← pay1_apply]
  pointwise [k0_pay3]

/-! ## The operands -/

variable (m : (ℓ : Loc nD τ sig) → Buf (Elt Ideal) ℓ) (c : Dev nD)

theorem idx : ∀ t : Fin cfg0.N, win0_0.index t = ![t.val / 16, t.val % 4] ∧ win0_1.index t = ![t.val / 4 % 4, t.val % 4]
    ∧ win0_2.index t = ![t.val / 16, t.val / 4 % 4] :=
  (by decide +kernel : ∀ t : Fin grid0.N, _)

/-- What the host leaves as the padded gradient. -/
theorem host_d : V m c main_v3 = shapeCast S4096x11264 (pad S4096x8x1408 ![0, 0, 0] ![0, 0, 32] ![0, 0, 0]
    (shapeCast S4096x8x1376 (truncf (F := Ideal) .bf16 (m (c.tc.loc main_arg2) : FVec Ideal S4096x11008 .f32) bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264 := by
  unfold V
  simp only [List.flatten_cons, List.flatten_nil, List.append_nil, List.cons_append, List.nil_append]
  after_results_simp
  rfl

/-- What the host leaves as the padded weights. -/
theorem host_w : V m c main_v7 = shapeCast S4096x11264 (pad S4096x8x1408 ![0, 0, 0] ![0, 0, 32] ![0, 0, 0]
    (shapeCast S4096x8x1376 (truncf (F := Ideal) .bf16 (m (c.tc.loc main_arg1) : FVec Ideal S4096x11008 .f32) bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264 := by
  unfold V
  simp only [List.flatten_cons, List.flatten_nil, List.append_nil, List.cons_append, List.nil_append]
  after_results_simp
  rfl

/-- The padded gradient, entry by entry. -/
theorem entry_d (r : Fin 4096) (l : Fin 11264) : (V m c main_v3 : FVec Ideal S4096x11264 .bf16) (ix2 r l)
    = padAt (fun j => (m (c.tc.loc main_arg2) : FVec Ideal S4096x11008 .f32) (ix2 r j)) l := by
  rw [host_d]
  exact cols_apply _ _ _ _ _ _ r l

/-- The padded weights, entry by entry. -/
theorem entry_w (s : Fin 4096) (l : Fin 11264) : (V m c main_v7 : FVec Ideal S4096x11264 .bf16) (ix2 s l)
    = padAt (fun j => (m (c.tc.loc main_arg1) : FVec Ideal S4096x11008 .f32) (ix2 s j)) l := by
  rw [host_w]
  exact cols_apply _ _ _ _ _ _ s l

/-! ## The blocks at a point: row block `t / 16`, column block `t / 4 % 4`, hidden columns `2816 * (t % 4) + l` -/

theorem blk_a (t : Fin cfg0.N) (r : Fin 1024) (l : Fin 2816) (R : Fin 4096) (L : Fin 11264)
    (hR : (R : ℕ) = t.val / 16 * 1024 + r) (hL : (L : ℕ) = t.val % 4 * 2816 + l) :
    (iblk m c 0 t : FVec Ideal S1024x2816 .bf16) (ix2 r l)
      = padAt (fun j => (m (c.tc.loc main_arg2) : FVec Ideal S4096x11008 .f32) (ix2 R j)) L := by
  rw [← entry_d]
  blk_ext [iblk, idx t, hR, hL]

theorem blk_b (t : Fin cfg0.N) (s : Fin 1024) (l : Fin 2816) (C : Fin 4096) (L : Fin 11264)
    (hC : (C : ℕ) = t.val / 4 % 4 * 1024 + s) (hL : (L : ℕ) = t.val % 4 * 2816 + l) :
    (iblk m c 1 t : FVec Ideal S1024x2816 .bf16) (ix2 s l)
      = padAt (fun j => (m (c.tc.loc main_arg1) : FVec Ideal S4096x11008 .f32) (ix2 C j)) L := by
  rw [← entry_w]
  blk_ext [iblk, idx t, hL, hC]

/-! ## The result array -/

/-- One entry of the product over the hidden columns. -/
def dot (a : FVec Ideal S4096x11008 .f32) (w : FVec Ideal S4096x11008 .f32) (R C : Fin 4096) : EReal :=
  ∑ j : Fin 11008, a (ix2 R j) * w (ix2 C j)

/-- The product over the hidden columns. -/
def prod (a : FVec Ideal S4096x11008 .f32) (w : FVec Ideal S4096x11008 .f32) : FVec Ideal S4096x4096 .f32 :=
  fun i => dot a w (i 0) (i 1)

/-- The four steps of a block add up to the whole product's entry. -/
theorem sum_parts (t : Fin cfg0.N) (h : ∀ s : Fin 4, 4 * (t.val / 4) + s.val < cfg0.N) (y : S1024x1024.Idx) (R C : Fin 4096)
    (hR : (R : ℕ) = t.val / 16 * 1024 + (y 0).val) (hC : (C : ℕ) = t.val / 4 % 4 * 1024 + (y 1).val) :
    ∑ s : Fin 4, part (iblk m c 0 ⟨4 * (t.val / 4) + s.val, h s⟩) (iblk m c 1 ⟨4 * (t.val / 4) + s.val, h s⟩) y
      = dot (m (c.tc.loc main_arg2)) (m (c.tc.loc main_arg1)) R C := by
  rw [dot, ← sum_mul]
  refine Fin.sum_mul_add_congr fun s l => ?_
  rw [blk_a m c _ (y 0) l R ⟨s * 2816 + l, by omega⟩ (by show (R : ℕ) = (4 * (t.val / 4) + s) / 16 * 1024 + _; omega)
      (by show (s : ℕ) * 2816 + l = (4 * (t.val / 4) + s) % 4 * 2816 + l; omega),
    blk_b m c _ (y 1) l C ⟨s * 2816 + l, by omega⟩ (by show (C : ℕ) = (4 * (t.val / 4) + s) / 4 % 4 * 1024 + _; omega)
      (by show (s : ℕ) * 2816 + l = (4 * (t.val / 4) + s) % 4 * 2816 + l; omega)]
  intro _
  rfl

/-- What the scratch holds at a block's last step. -/
theorem scratch (t : Fin cfg0.N) (ht : t.val % 4 = 3) (y : S1024x1024.Idx) (R C : Fin 4096)
    (hR : (R : ℕ) = t.val / 16 * 1024 + (y 0).val) (hC : (C : ℕ) = t.val / 4 % 4 * 1024 + (y 1).val) :
    (outsAt0 m c t.val t.isLt).2 y
      = dot (m (c.tc.loc main_arg2)) (m (c.tc.loc main_arg1)) R C := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact first _ _ j)
    (fun t h j => by
      by_cases h₂ : t.val % 4 = 3
      · rw [outsAt0_C m c t h (by omega) h₂]; frame_out; exact (next _ _ _ j).trans (congrArg (· + _) (congrFun ((Memref.isWhole_whole cc0_scratch0).read_unread _) j))
      · rw [outsAt0_B m c t h (by omega) h₂]; frame_out; exact (next _ _ _ j).trans (congrArg (· + _) (congrFun ((Memref.isWhole_whole cc0_scratch0).read_unread _) j)))
    t ht y, zero_add]
  exact sum_parts m c t _ y R C hR hC

/-- The result: the product. -/
theorem final : (dats m 0 c).arrAt 2 cfg0.N = prod (m (c.tc.loc main_arg2)) (m (c.tc.loc main_arg1)) := by
  refine (dats m 0 c).arrAt_eq_of_covers 2 _ (by decide +kernel) fun t hf y => ?_
  blk_simp
  rw [after0_2]
  have ht : t.val % 4 = 3 := (flush0_2 t).mp hf
  have e : (outsAt0 m c t.val t.isLt).1 y = (outsAt0 m c t.val t.isLt).2 y := by
    rw [outsAt0_C m c t (by omega) (by omega) ht]; frame_out
  exact e.trans (scratch m c t ht y _ _ (by blk_simp [idx t]) (by blk_simp [idx t]))

end Cert.Kernel4Ideal.RowsGate

end
-- ==== Proof.RowsUp.lean ====
/-
  The up projection's product of the rows' gradient, added to what the gate's left: the padded operands, one block's partial
  product, the four partial products of a block added up over the hidden columns, and the result array.
-/
module

public import proofs.«01_k».proof.Proof.Padded
public import proofs.«01_k».proof.Proof.Gen.Kernel5Ideal.Value

@[expose] public section

set_option maxRecDepth 16384

noncomputable section

namespace Cert.Kernel5Ideal.RowsUp

open Idealize.ShloMosaic Idealize.ShloMosaic.TcCoe Cert.Kernel5Ideal Cert.Kernel5Ideal.Gen Cert.Padded

/-! ## A block's partial product -/

/-- The products of one step of the hidden columns. -/
def part (a : FVec Ideal S1024x2816 .bf16) (b : FVec Ideal S1024x2816 .bf16) (j : S1024x1024.Idx) : EReal :=
  ∑ l : Fin 2816, a (ix2 (j 0) l) * b (ix2 (j 1) l)

theorem pay1_apply (a : FVec Ideal S1024x2816 .bf16) (b : FVec Ideal S1024x2816 .bf16) (r s : Fin 1024) :
    k0_pay1 (F := Ideal) a b (ix2 r s) = part a b (ix2 r s) := by
  pointwise [k0_pay1, part]

theorem first (a : FVec Ideal S1024x2816 .bf16) (b : FVec Ideal S1024x2816 .bf16) (j : S1024x1024.Idx) :
    k0_pay2 (F := Ideal) a b j = 0 + part a b j := by
  obtain ⟨r, s, rfl⟩ : ∃ (r s : Fin 1024), j = ix2 r s := ⟨j 0, j 1, eq_ix2 j⟩
  rw [zero_add, ← pay1_apply]
  pointwise [k0_pay2]

theorem next (a : FVec Ideal S1024x2816 .bf16) (b : FVec Ideal S1024x2816 .bf16) (acc : FVec Ideal S1024x1024 .f32) (j : S1024x1024.Idx) :
    k0_pay3 (F := Ideal) a b acc j = acc j + part a b j := by
  obtain ⟨r, s, rfl⟩ : ∃ (r s : Fin 1024), j = ix2 r s := ⟨j 0, j 1, eq_ix2 j⟩
  rw [← pay1_apply]
  pointwise [k0_pay3]

theorem last (acc res : FVec Ideal S1024x1024 .f32) (j : S1024x1024.Idx) : k0_pay4 (F := Ideal) acc res j = res j + acc j := by
  obtain ⟨r, s, rfl⟩ : ∃ (r s : Fin 1024), j = ix2 r s := ⟨j 0, j 1, eq_ix2 j⟩
  pointwise [k0_pay4]

/-! ## The operands -/

variable (m : (ℓ : Loc nD τ sig) → Buf (Elt Ideal) ℓ) (c : Dev nD)

theorem idx : ∀ t : Fin cfg0.N, win0_0.index t = ![t.val / 16, t.val % 4] ∧ win0_1.index t = ![t.val / 4 % 4, t.val % 4]
    ∧ win0_2.index t = ![t.val / 16, t.val / 4 % 4] ∧ win0_3.index t = ![t.val / 16, t.val / 4 % 4] :=
  (by decide +kernel : ∀ t : Fin grid0.N, _)

/-- What the host leaves as the padded gradient. -/
theorem host_d : V m c main_v3 = shapeCast S4096x11264 (pad S4096x8x1408 ![0, 0, 0] ![0, 0, 32] ![0, 0, 0]
    (shapeCast S4096x8x1376 (truncf (F := Ideal) .bf16 (m (c.tc.loc main_arg2) : FVec Ideal S4096x11008 .f32) bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264 := by
  unfold V
  simp only [List.flatten_cons, List.flatten_nil, List.append_nil, List.cons_append, List.nil_append]
  after_results_simp
  rfl

/-- What the host leaves as the padded weights. -/
theorem host_w : V m c main_v7 = shapeCast S4096x11264 (pad S4096x8x1408 ![0, 0, 0] ![0, 0, 32] ![0, 0, 0]
    (shapeCast S4096x8x1376 (truncf (F := Ideal) .bf16 (m (c.tc.loc main_arg1) : FVec Ideal S4096x11008 .f32) bitsLt_bf16_f32) shapeCasts_S4096x11008_S4096x8x1376)
    (sitofp (F := Ideal) .bf16 (constantI S_ 32 0#32)) pads_S4096x8x1376_S4096x8x1408_000_000_0320 h_S_) shapeCasts_S4096x8x1408_S4096x11264 := by
  unfold V
  simp only [List.flatten_cons, List.flatten_nil, List.append_nil, List.cons_append, List.nil_append]
  after_results_simp
  rfl

/-- The padded gradient, entry by entry. -/
theorem entry_d (r : Fin 4096) (l : Fin 11264) : (V m c main_v3 : FVec Ideal S4096x11264 .bf16) (ix2 r l)
    = padAt (fun j => (m (c.tc.loc main_arg2) : FVec Ideal S4096x11008 .f32) (ix2 r j)) l := by
  rw [host_d]
  exact cols_apply _ _ _ _ _ _ r l

/-- The padded weights, entry by entry. -/
theorem entry_w (s : Fin 4096) (l : Fin 11264) : (V m c main_v7 : FVec Ideal S4096x11264 .bf16) (ix2 s l)
    = padAt (fun j => (m (c.tc.loc main_arg1) : FVec Ideal S4096x11008 .f32) (ix2 s j)) l := by
  rw [host_w]
  exact cols_apply _ _ _ _ _ _ s l

/-! ## The blocks at a point: row block `t / 16`, column block `t / 4 % 4`, hidden columns `2816 * (t % 4) + l` -/

theorem blk_a (t : Fin cfg0.N) (r : Fin 1024) (l : Fin 2816) (R : Fin 4096) (L : Fin 11264)
    (hR : (R : ℕ) = t.val / 16 * 1024 + r) (hL : (L : ℕ) = t.val % 4 * 2816 + l) :
    (iblk m c 0 t : FVec Ideal S1024x2816 .bf16) (ix2 r l)
      = padAt (fun j => (m (c.tc.loc main_arg2) : FVec Ideal S4096x11008 .f32) (ix2 R j)) L := by
  rw [← entry_d]
  blk_ext [iblk, idx t, hR, hL]

theorem blk_b (t : Fin cfg0.N) (s : Fin 1024) (l : Fin 2816) (C : Fin 4096) (L : Fin 11264)
    (hC : (C : ℕ) = t.val / 4 % 4 * 1024 + s) (hL : (L : ℕ) = t.val % 4 * 2816 + l) :
    (iblk m c 1 t : FVec Ideal S1024x2816 .bf16) (ix2 s l)
      = padAt (fun j => (m (c.tc.loc main_arg1) : FVec Ideal S4096x11008 .f32) (ix2 C j)) L := by
  rw [← entry_w]
  blk_ext [iblk, idx t, hL, hC]

theorem blk_x (t : Fin cfg0.N) (y : S1024x1024.Idx) (R C : Fin 4096)
    (hR : (R : ℕ) = t.val / 16 * 1024 + (y 0).val) (hC : (C : ℕ) = t.val / 4 % 4 * 1024 + (y 1).val) :
    (iblk m c 2 t : FVec Ideal S1024x1024 .f32) y = (m (c.tc.loc main_arg3) : FVec Ideal S4096x4096 .f32) (ix2 R C) := by
  refine Eq.trans ?_ (congrFun (V_main_arg3 m c) (ix2 R C))
  blk_ext [iblk, idx t, hR, hC]

/-! ## The result array -/

/-- One entry of the product over the hidden columns. -/
def dot (a : FVec Ideal S4096x11008 .f32) (w : FVec Ideal S4096x11008 .f32) (R C : Fin 4096) : EReal :=
  ∑ j : Fin 11008, a (ix2 R j) * w (ix2 C j)

/-- The rows' gradient so far with the product over the hidden columns added. -/
def prod (a : FVec Ideal S4096x11008 .f32) (w : FVec Ideal S4096x11008 .f32) (x : FVec Ideal S4096x4096 .f32) : FVec Ideal S4096x4096 .f32 :=
  fun i => x i + dot a w (i 0) (i 1)

/-- The four steps of a block add up to the whole product's entry. -/
theorem sum_parts (t : Fin cfg0.N) (h : ∀ s : Fin 4, 4 * (t.val / 4) + s.val < cfg0.N) (y : S1024x1024.Idx) (R C : Fin 4096)
    (hR : (R : ℕ) = t.val / 16 * 1024 + (y 0).val) (hC : (C : ℕ) = t.val / 4 % 4 * 1024 + (y 1).val) :
    ∑ s : Fin 4, part (iblk m c 0 ⟨4 * (t.val / 4) + s.val, h s⟩) (iblk m c 1 ⟨4 * (t.val / 4) + s.val, h s⟩) y
      = dot (m (c.tc.loc main_arg2)) (m (c.tc.loc main_arg1)) R C := by
  rw [dot, ← sum_mul]
  refine Fin.sum_mul_add_congr fun s l => ?_
  rw [blk_a m c _ (y 0) l R ⟨s * 2816 + l, by omega⟩ (by show (R : ℕ) = (4 * (t.val / 4) + s) / 16 * 1024 + _; omega)
      (by show (s : ℕ) * 2816 + l = (4 * (t.val / 4) + s) % 4 * 2816 + l; omega),
    blk_b m c _ (y 1) l C ⟨s * 2816 + l, by omega⟩ (by show (C : ℕ) = (4 * (t.val / 4) + s) / 4 % 4 * 1024 + _; omega)
      (by show (s : ℕ) * 2816 + l = (4 * (t.val / 4) + s) % 4 * 2816 + l; omega)]
  intro _
  rfl

/-- What the scratch holds at a block's last step. -/
theorem scratch (t : Fin cfg0.N) (ht : t.val % 4 = 3) (y : S1024x1024.Idx) (R C : Fin 4096)
    (hR : (R : ℕ) = t.val / 16 * 1024 + (y 0).val) (hC : (C : ℕ) = t.val / 4 % 4 * 1024 + (y 1).val) :
    (outsAt0 m c t.val t.isLt).2 y
      = dot (m (c.tc.loc main_arg2)) (m (c.tc.loc main_arg1)) R C := by
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega) (by omega)]; frame_out; exact first _ _ j)
    (fun t h j => by
      by_cases h₂ : t.val % 4 = 3
      · rw [outsAt0_C m c t h (by omega) h₂]; frame_out; exact (next _ _ _ j).trans (congrArg (· + _) (congrFun ((Memref.isWhole_whole cc0_scratch0).read_unread _) j))
      · rw [outsAt0_B m c t h (by omega) h₂]; frame_out; exact (next _ _ _ j).trans (congrArg (· + _) (congrFun ((Memref.isWhole_whole cc0_scratch0).read_unread _) j)))
    t ht y, zero_add]
  exact sum_parts m c t _ y R C hR hC

/-- The result: the gradient so far with the product added. -/
theorem final : (dats m 0 c).arrAt 3 cfg0.N
    = prod (m (c.tc.loc main_arg2)) (m (c.tc.loc main_arg1)) (m (c.tc.loc main_arg3)) := by
  refine (dats m 0 c).arrAt_eq_of_covers 3 _ (by decide +kernel) fun t hf y => ?_
  blk_simp
  rw [after0_3]
  have ht : t.val % 4 = 3 := (flush0_3 t).mp hf
  have e : (outsAt0 m c t.val t.isLt).1 y
      = HAdd.hAdd (α := EReal) (β := EReal) (γ := EReal) ((iblk m c 2 t : FVec Ideal S1024x1024 .f32) y) ((outsAt0 m c t.val t.isLt).2 y) := by
    rw [outsAt0_C m c t (by omega) (by omega) ht]; frame_out; exact last _ _ y
  refine e.trans (congrArg₂ (fun u v : EReal => u + v) ?_ ?_)
  · exact (blk_x m c t y _ _ (by blk_simp [idx t]) (by blk_simp [idx t])).trans (congrArg _ (eq_ix2 _).symm)
  · exact scratch m c t ht y _ _ (by blk_simp [idx t]) (by blk_simp [idx t])

end Cert.Kernel5Ideal.RowsUp

end
-- ==== Proof.ProductClaims.lean ====
/-
  The claims about the feed-forward products that add up over the hidden columns: each reference's result is the kernel's.
-/
module

public import proofs.«01_k».proof.Defs
public import proofs.«01_k».proof.Proof.Down
public import proofs.«01_k».proof.Proof.RowsGate
public import proofs.«01_k».proof.Proof.RowsUp
public import proofs.«01_k».proof.Proof.Gen.Kernel3Ideal.Frame
public import proofs.«01_k».proof.Proof.Gen.Reference3Ideal.Run
public import proofs.«01_k».proof.Proof.Gen.Kernel4Ideal.Frame
public import proofs.«01_k».proof.Proof.Gen.Reference4Ideal.Run
public import proofs.«01_k».proof.Proof.Gen.Kernel5Ideal.Frame
public import proofs.«01_k».proof.Proof.Gen.Reference5Ideal.Run
public import Idealize.ShloMosaic.Lib.Quiescent
public import Idealize.ShloMosaic.Adequacy

@[expose] public section

set_option maxRecDepth 16384

noncomputable section

open Idealize.ShloMosaic Idealize.ShloMosaic.TcCoe Idealize.SL.Sem

namespace Cert.Down

open Cert.Reference3Ideal Cert.Reference3Ideal.Gen Cert.Reference3Ideal.Value

theorem host (a : FVec Ideal S4096x11008 .f32) (w : FVec Ideal S11008x4096 .f32) (x : FVec Ideal S4096x4096 .f32) :
    addf x (Host.dotGeneral dot_S4096x11008_S11008x4096_S4096x4096_1_0_0_1_n_n none a w) = Kernel3Ideal.Down.prod a w x := by
  funext i
  obtain ⟨r, s, rfl⟩ : ∃ (r s : Fin 4096), i = ix2 r s := ⟨i 0, i 1, eq_ix2 i⟩
  pointwise [Kernel3Ideal.Down.prod, Kernel3Ideal.Down.dot]

/-- Every run of the reference ends, with every counter at zero and the arguments as launched. -/
theorem reference_frame : Cert.quiescent_Reference3Ideal :=
  fun m ρ _ => (θ_run Cert.Reference3Ideal.defs _ _).mono (fun r h => ⟨fun c => (h c).2, sem_eq_zero_of_no_sems (by decide) r.2⟩)
    (Value.run (F := Ideal) m ρ)

/-- The output product of the kernel is the reference's. -/
theorem algebraic : Cert.algebraic_Kernel3Ideal_Reference3Ideal := by
  intro m ρ m' ρ' _ hagree
  refine ⟨_, Cert.Kernel3Ideal.Value.run_blocks (F := Ideal) m ρ,
    (θ_run Cert.Reference3Ideal.defs _ _).mono (fun r h c => ?_) (Value.run (F := Ideal) m' ρ')⟩
  obtain ⟨h₀, h⟩ := h c
  obtain ⟨e0, e1, e2⟩ := hagree c
  refine ⟨h₀.trans ?_, h⟩
  rw [e0, e1, e2, host]
  exact (Kernel3Ideal.Down.final m c).symm

end Cert.Down

namespace Cert.RowsGate

open Cert.Reference4Ideal Cert.Reference4Ideal.Gen Cert.Reference4Ideal.Value

theorem host (d w : FVec Ideal S4096x11008 .f32) :
    Host.dotGeneral dot_S4096x11008_S4096x11008_S4096x4096_1_1_0_0_n_n none d w = Kernel4Ideal.RowsGate.prod d w := by
  funext i
  obtain ⟨r, s, rfl⟩ : ∃ (r s : Fin 4096), i = ix2 r s := ⟨i 0, i 1, eq_ix2 i⟩
  pointwise [Kernel4Ideal.RowsGate.prod, Kernel4Ideal.RowsGate.dot]

/-- Every run of the reference ends, with every counter at zero and the arguments as launched. -/
theorem reference_frame : Cert.quiescent_Reference4Ideal :=
  fun m ρ _ => (θ_run Cert.Reference4Ideal.defs _ _).mono (fun r h => ⟨fun c => (h c).2, sem_eq_zero_of_no_sems (by decide) r.2⟩)
    (Value.run (F := Ideal) m ρ)

/-- The gate's product of the rows' gradient is the reference's. -/
theorem algebraic : Cert.algebraic_Kernel4Ideal_Reference4Ideal := by
  intro m ρ m' ρ' _ hagree
  refine ⟨_, Cert.Kernel4Ideal.Value.run_blocks (F := Ideal) m ρ,
    (θ_run Cert.Reference4Ideal.defs _ _).mono (fun r h c => ?_) (Value.run (F := Ideal) m' ρ')⟩
  obtain ⟨h₀, h⟩ := h c
  obtain ⟨e0, e1, e2⟩ := hagree c
  refine ⟨h₀.trans ?_, h⟩
  rw [e1, e2, host]
  exact (Kernel4Ideal.RowsGate.final m c).symm

end Cert.RowsGate

namespace Cert.RowsUp

open Cert.Reference5Ideal Cert.Reference5Ideal.Gen Cert.Reference5Ideal.Value

theorem host (d w : FVec Ideal S4096x11008 .f32) (x : FVec Ideal S4096x4096 .f32) :
    addf x (Host.dotGeneral dot_S4096x11008_S4096x11008_S4096x4096_1_1_0_0_n_n none d w) = Kernel5Ideal.RowsUp.prod d w x := by
  funext i
  obtain ⟨r, s, rfl⟩ : ∃ (r s : Fin 4096), i = ix2 r s := ⟨i 0, i 1, eq_ix2 i⟩
  pointwise [Kernel5Ideal.RowsUp.prod, Kernel5Ideal.RowsUp.dot]

/-- Every run of the reference ends, with every counter at zero and the arguments as launched. -/
theorem reference_frame : Cert.quiescent_Reference5Ideal :=
  fun m ρ _ => (θ_run Cert.Reference5Ideal.defs _ _).mono (fun r h => ⟨fun c => (h c).2, sem_eq_zero_of_no_sems (by decide) r.2⟩)
    (Value.run (F := Ideal) m ρ)

/-- The up projection's product, added to the gradient so far, is the reference's. -/
theorem algebraic : Cert.algebraic_Kernel5Ideal_Reference5Ideal := by
  intro m ρ m' ρ' _ hagree
  refine ⟨_, Cert.Kernel5Ideal.Value.run_blocks (F := Ideal) m ρ,
    (θ_run Cert.Reference5Ideal.defs _ _).mono (fun r h c => ?_) (Value.run (F := Ideal) m' ρ')⟩
  obtain ⟨h₀, h⟩ := h c
  obtain ⟨e0, e1, e2, e3⟩ := hagree c
  refine ⟨h₀.trans ?_, h⟩
  rw [e1, e2, e3, host]
  exact (Kernel5Ideal.RowsUp.final m c).symm

end Cert.RowsUp

end
-- ==== Proof.lean ====
/-
  The claims of the certificate, put together: for each program the frames, what its idealisation keeps, and the equation of
  its results with its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Claims
public import proofs.«01_k».proof.Proof.KeyProducts
public import proofs.«01_k».proof.Proof.QueryProducts
public import proofs.«01_k».proof.Proof.LossHead
public import proofs.«01_k».proof.Proof.ConvGrad
public import proofs.«01_k».proof.Proof.NormGrad
public import proofs.«01_k».proof.Proof.OptGKva
public import proofs.«01_k».proof.Proof.OptGQa
public import proofs.«01_k».proof.Proof.OptConvW
public import proofs.«01_k».proof.Proof.OptBGate
public import proofs.«01_k».proof.Proof.OptGRow
public import proofs.«01_k».proof.Proof.OptWDown
public import proofs.«01_k».proof.Proof.OptWGate
public import proofs.«01_k».proof.Proof.OptWOut
public import proofs.«01_k».proof.Proof.OptWBranch
public import proofs.«01_k».proof.Proof.OptWKvb
public import proofs.«01_k».proof.Proof.OptWQb
public import proofs.«01_k».proof.Proof.OptWIn
public import proofs.«01_k».proof.Proof.AttnClaims
public import proofs.«01_k».proof.Proof.MergeClaims
public import proofs.«01_k».proof.Proof.ShardClaims
public import proofs.«01_k».proof.Proof.FfnClaims
public import proofs.«01_k».proof.Proof.ProductClaims
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.Gen.Pre_finite2
public import Idealize.ShloMosaic.Adequacy
public import Idealize.ShloMosaic.Init

@[expose] public section

noncomputable section

namespace Cert.Proof

open Idealize.ShloMosaic Idealize.SL.Sem Cert.Kernel

/-- The claims of the certificate. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Pre_finite.Gen.facts, Pre_finite2.Gen.facts, Pre_finite9.Gen.facts,
    fun m ρ _ => Kernel.Gen.frame m ρ, fun m ρ _ => KernelIdeal.Gen.frame m ρ, fun m ρ _ => KernelIdeal.Gen.frame m ρ,
    Attention.reference_frame, fun m ρ _ => Attention.reference_frame m ρ trivial,
    fun m ρ _ => Kernel2.Gen.frame m ρ, fun m ρ _ => Kernel2Ideal.Gen.frame m ρ, fun m ρ _ => Kernel2Ideal.Gen.frame m ρ,
    Ffn.reference_frame, fun m ρ _ => Ffn.reference_frame m ρ trivial,
    fun m ρ _ => Kernel3.Gen.frame m ρ, fun m ρ _ => Kernel3Ideal.Gen.frame m ρ, Down.reference_frame,
    fun m ρ _ => Kernel4.Gen.frame m ρ, fun m ρ _ => Kernel4Ideal.Gen.frame m ρ, RowsGate.reference_frame,
    fun m ρ _ => Kernel5.Gen.frame m ρ, fun m ρ _ => Kernel5Ideal.Gen.frame m ρ, RowsUp.reference_frame,
    fun m ρ _ => Kernel6.Gen.frame m ρ, fun m ρ _ => Kernel6Ideal.Gen.frame m ρ, DwShards.reference_frame,
    fun m ρ _ => Kernel7.Gen.frame m ρ, fun m ρ _ => Kernel7Ideal.Gen.frame m ρ, DhShards.reference_frame,
    fun m ρ _ => Kernel8.Gen.frame m ρ, fun m ρ _ => Kernel8Ideal.Gen.frame m ρ, Merge.reference_frame,
    fun m ρ _ => Kernel9.Gen.frame m ρ, fun m ρ _ => Kernel9Ideal.Gen.frame m ρ, fun m ρ _ => Kernel9Ideal.Gen.frame m ρ,
    AttentionForward.reference_frame, fun m ρ _ => AttentionForward.reference_frame m ρ trivial,
    fun m ρ _ => Kernel10.Gen.frame m ρ, fun m ρ _ => Kernel10Ideal.Gen.frame m ρ, OptimiserWIn.reference_frame,
    fun m ρ _ => Kernel11.Gen.frame m ρ, fun m ρ _ => Kernel11Ideal.Gen.frame m ρ, OptimiserWQb.reference_frame,
    fun m ρ _ => Kernel12.Gen.frame m ρ, fun m ρ _ => Kernel12Ideal.Gen.frame m ρ, OptimiserWKvb.reference_frame,
    fun m ρ _ => Kernel13.Gen.frame m ρ, fun m ρ _ => Kernel13Ideal.Gen.frame m ρ, OptimiserWBranch.reference_frame,
    fun m ρ _ => Kernel14.Gen.frame m ρ, fun m ρ _ => Kernel14Ideal.Gen.frame m ρ, OptimiserWOut.reference_frame,
    fun m ρ _ => Kernel15.Gen.frame m ρ, fun m ρ _ => Kernel15Ideal.Gen.frame m ρ, OptimiserWGate.reference_frame,
    fun m ρ _ => Kernel16.Gen.frame m ρ, fun m ρ _ => Kernel16Ideal.Gen.frame m ρ, OptimiserWDown.reference_frame,
    fun m ρ _ => Kernel17.Gen.frame m ρ, fun m ρ _ => Kernel17Ideal.Gen.frame m ρ, OptimiserGRow.reference_frame,
    fun m ρ _ => Kernel18.Gen.frame m ρ, fun m ρ _ => Kernel18Ideal.Gen.frame m ρ, OptimiserBGate.reference_frame,
    fun m ρ _ => Kernel19.Gen.frame m ρ, fun m ρ _ => Kernel19Ideal.Gen.frame m ρ, OptimiserConvW.reference_frame,
    fun m ρ _ => Kernel20.Gen.frame m ρ, fun m ρ _ => Kernel20Ideal.Gen.frame m ρ, OptimiserGQa.reference_frame,
    fun m ρ _ => Kernel21.Gen.frame m ρ, fun m ρ _ => Kernel21Ideal.Gen.frame m ρ, OptimiserGKva.reference_frame,
    fun m ρ _ => Kernel22.Gen.frame m ρ, fun m ρ _ => Kernel22Ideal.Gen.frame m ρ, NormGrad.reference_frame,
    fun m ρ _ => Kernel23.Gen.frame m ρ, fun m ρ _ => Kernel23Ideal.Gen.frame m ρ, ConvGrad.reference_frame,
    fun m ρ _ => Kernel24.Gen.frame m ρ, fun m ρ _ => Kernel24Ideal.Gen.frame m ρ, LossHead.reference_frame,
    fun m ρ _ => Kernel25.Gen.frame m ρ, fun m ρ _ => Kernel25Ideal.Gen.frame m ρ, QueryForward.reference_frame,
    fun m ρ _ => Kernel26.Gen.frame m ρ, fun m ρ _ => Kernel26Ideal.Gen.frame m ρ, KeyForward.reference_frame,
    fun m ρ _ => Kernel27.Gen.frame m ρ, fun m ρ _ => Kernel27Ideal.Gen.frame m ρ, QueryWeights.reference_frame,
    fun m ρ _ => Kernel28.Gen.frame m ρ, fun m ρ _ => Kernel28Ideal.Gen.frame m ρ, KeyWeights.reference_frame,
    fun m ρ _ => Kernel29.Gen.frame m ρ, fun m ρ _ => Kernel29Ideal.Gen.frame m ρ, QueryRows.reference_frame,
    fun m ρ _ => Kernel30.Gen.frame m ρ, fun m ρ _ => Kernel30Ideal.Gen.frame m ρ, KeyRows.reference_frame,
    Attention.preserves, Attention.algebraic, trivial, Ffn.algebraic, trivial, Down.algebraic, trivial, RowsGate.algebraic, trivial, RowsUp.algebraic, trivial, DwShards.algebraic, trivial, DhShards.algebraic, trivial, Merge.algebraic, AttentionForward.preserves, AttentionForward.algebraic, trivial, OptimiserWIn.algebraic, trivial, OptimiserWQb.algebraic, trivial, OptimiserWKvb.algebraic, trivial, OptimiserWBranch.algebraic, trivial, OptimiserWOut.algebraic, trivial, OptimiserWGate.algebraic, trivial, OptimiserWDown.algebraic, trivial, OptimiserGRow.algebraic, trivial, OptimiserBGate.algebraic, trivial, OptimiserConvW.algebraic, trivial, OptimiserGQa.algebraic, trivial, OptimiserGKva.algebraic, trivial, NormGrad.algebraic, trivial, ConvGrad.algebraic, trivial, LossHead.algebraic, trivial, QueryForward.algebraic, trivial, KeyForward.algebraic, trivial, QueryWeights.algebraic, trivial, KeyWeights.algebraic, trivial, QueryRows.algebraic, trivial, KeyRows.algebraic⟩

end Cert.Proof

end
